-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cotangents [hPre_finite_cotangents : Cert.Pre_finite_cotangents.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cotangents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cotangents [hPre_finite_cotangents : Cert.Pre_finite_cotangents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cotangents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_gate [hPre_finite_gate : Cert.Pre_finite_gate.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_gate.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_gate [hPre_finite_gate : Cert.Pre_finite_gate.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_gate.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_regular_params [hPre_regular_params : Cert.Pre_regular_params.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_regular_params.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_regular_params [hPre_regular_params : Cert.Pre_regular_params.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_regular_params.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_params [hPre_finite_params : Cert.Pre_finite_params.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_params.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_params [hPre_finite_params : Cert.Pre_finite_params.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_params.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_cotangents [hKernelIdeal : Cert.KernelIdeal.Facts] [hPre_finite_cotangents : Cert.Pre_finite_cotangents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cotangents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_cotangents [hReferenceIdeal : Cert.ReferenceIdeal.Facts] [hPre_finite_cotangents : Cert.Pre_finite_cotangents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cotangents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_gate [hKernel7Ideal : Cert.Kernel7Ideal.Facts] [hPre_finite_gate : Cert.Pre_finite_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_gate m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_gate [hReference7Ideal : Cert.Reference7Ideal.Facts] [hPre_finite_gate : Cert.Pre_finite_gate.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_gate m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_regular_params [hKernel5Ideal : Cert.Kernel5Ideal.Facts] [hPre_regular_params : Cert.Pre_regular_params.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_regular_params m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_regular_params [hReference5Ideal : Cert.Reference5Ideal.Facts] [hPre_regular_params : Cert.Pre_regular_params.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_regular_params m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite_params [hKernel18Ideal : Cert.Kernel18Ideal.Facts] [hPre_finite_params : Cert.Pre_finite_params.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_params m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite_params [hReference18Ideal : Cert.Reference18Ideal.Facts] [hPre_finite_params : Cert.Pre_finite_params.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_params m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite_cotangents [hKernelIdeal : Cert.KernelIdeal.Facts] [hReferenceIdeal : Cert.ReferenceIdeal.Facts] [hPre_finite_cotangents : Cert.Pre_finite_cotangents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cotangents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v580) = v0 c
          ∧ r.2.mem ((c.tc : Thread Cert.Reference4Ideal.nD Cert.Reference4Ideal.τ).loc Cert.Reference4Ideal.main_v581) = v1 c
          ∧ r.2.mem ((c.tc : Thread Cert.Reference4Ideal.nD Cert.Reference4Ideal.τ).loc Cert.Reference4Ideal.main_v582) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel3_Kernel3Ideal : Prop :=
  True

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v66) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v92) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v39) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)) (v2 : (c : Dev Cert.Kernel10Ideal.nD) → Buf (Elt Ideal) ((c.tc : Thread Cert.Kernel10Ideal.nD Cert.Kernel10Ideal.τ).loc Cert.Kernel10Ideal.main_v10_2)) (v3 : (c : Dev Cert.Kernel10Ideal.nD) → Buf (Elt Ideal) ((c.tc : Thread Cert.Kernel10Ideal.nD Cert.Kernel10Ideal.τ).loc Cert.Kernel10Ideal.main_v10_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_v10_2) = v2 c
          ∧ r.2.mem ((c.tc : Thread Cert.Kernel10Ideal.nD Cert.Kernel10Ideal.τ).loc Cert.Kernel10Ideal.main_v10_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v57) = v1 c
          ∧ r.2.mem ((c.tc : Thread Cert.Reference10Ideal.nD Cert.Reference10Ideal.τ).loc Cert.Reference10Ideal.main_v58) = v2 c
          ∧ r.2.mem ((c.tc : Thread Cert.Reference10Ideal.nD Cert.Reference10Ideal.τ).loc Cert.Reference10Ideal.main_v59) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v20_0)) (v1 : (c : Dev Cert.Kernel8Ideal.nD) → Buf (Elt Ideal) ((c.tc : Thread Cert.Kernel8Ideal.nD Cert.Kernel8Ideal.τ).loc Cert.Kernel8Ideal.main_v20_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20_0) = v0 c
          ∧ r.2.mem ((c.tc : Thread Cert.Kernel8Ideal.nD Cert.Kernel8Ideal.τ).loc Cert.Kernel8Ideal.main_v20_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel7_Kernel7Ideal : Prop :=
  True

def algebraic_Kernel7Ideal_Reference7Ideal_pre_finite_gate [hKernel7Ideal : Cert.Kernel7Ideal.Facts] [hReference7Ideal : Cert.Reference7Ideal.Facts] [hPre_finite_gate : Cert.Pre_finite_gate.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_gate m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel5_Kernel5Ideal : Prop :=
  True

def algebraic_Kernel5Ideal_Reference5Ideal_pre_regular_params [hKernel5Ideal : Cert.Kernel5Ideal.Facts] [hReference5Ideal : Cert.Reference5Ideal.Facts] [hPre_regular_params : Cert.Pre_regular_params.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_regular_params m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)) (v4 : (c : Dev Cert.Kernel5Ideal.nD) → Buf (Elt Ideal) ((c.tc : Thread Cert.Kernel5Ideal.nD Cert.Kernel5Ideal.τ).loc Cert.Kernel5Ideal.main_v12_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_v12_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v135) = v0 c
          ∧ r.2.mem ((c.tc : Thread Cert.Reference5Ideal.nD Cert.Reference5Ideal.τ).loc Cert.Reference5Ideal.main_v136) = v1 c
          ∧ r.2.mem ((c.tc : Thread Cert.Reference5Ideal.nD Cert.Reference5Ideal.τ).loc Cert.Reference5Ideal.main_v137) = v2 c
          ∧ r.2.mem ((c.tc : Thread Cert.Reference5Ideal.nD Cert.Reference5Ideal.τ).loc Cert.Reference5Ideal.main_v139) = v3 c
          ∧ r.2.mem ((c.tc : Thread Cert.Reference5Ideal.nD Cert.Reference5Ideal.τ).loc Cert.Reference5Ideal.main_v141) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v13_0)) (v1 : (c : Dev Cert.Kernel11Ideal.nD) → Buf (Elt Ideal) ((c.tc : Thread Cert.Kernel11Ideal.nD Cert.Kernel11Ideal.τ).loc Cert.Kernel11Ideal.main_v13_1)) (v2 : (c : Dev Cert.Kernel11Ideal.nD) → Buf (Elt Ideal) ((c.tc : Thread Cert.Kernel11Ideal.nD Cert.Kernel11Ideal.τ).loc Cert.Kernel11Ideal.main_v13_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13_0) = v0 c
          ∧ r.2.mem ((c.tc : Thread Cert.Kernel11Ideal.nD Cert.Kernel11Ideal.τ).loc Cert.Kernel11Ideal.main_v13_1) = v1 c
          ∧ r.2.mem ((c.tc : Thread Cert.Kernel11Ideal.nD Cert.Kernel11Ideal.τ).loc Cert.Kernel11Ideal.main_v13_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v15) = v1 c
          ∧ r.2.mem ((c.tc : Thread Cert.Reference14Ideal.nD Cert.Reference14Ideal.τ).loc Cert.Reference14Ideal.main_v16) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v9_0)) (v1 : (c : Dev Cert.Kernel15Ideal.nD) → Buf (Elt Ideal) ((c.tc : Thread Cert.Kernel15Ideal.nD Cert.Kernel15Ideal.τ).loc Cert.Kernel15Ideal.main_v9_1)) (v2 : (c : Dev Cert.Kernel15Ideal.nD) → Buf (Elt Ideal) ((c.tc : Thread Cert.Kernel15Ideal.nD Cert.Kernel15Ideal.τ).loc Cert.Kernel15Ideal.main_v9_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v9_0) = v0 c
          ∧ r.2.mem ((c.tc : Thread Cert.Kernel15Ideal.nD Cert.Kernel15Ideal.τ).loc Cert.Kernel15Ideal.main_v9_1) = v1 c
          ∧ r.2.mem ((c.tc : Thread Cert.Kernel15Ideal.nD Cert.Kernel15Ideal.τ).loc Cert.Kernel15Ideal.main_v9_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_v18) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v232) = v0 c
          ∧ r.2.mem ((c.tc : Thread Cert.Reference16Ideal.nD Cert.Reference16Ideal.τ).loc Cert.Reference16Ideal.main_v266) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel18_Kernel18Ideal : Prop :=
  True

def algebraic_Kernel18Ideal_Reference18Ideal_pre_finite_params [hKernel18Ideal : Cert.Kernel18Ideal.Facts] [hReference18Ideal : Cert.Reference18Ideal.Facts] [hPre_finite_params : Cert.Pre_finite_params.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_params m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v12_0)) (v1 : (c : Dev Cert.Kernel18Ideal.nD) → Buf (Elt Ideal) ((c.tc : Thread Cert.Kernel18Ideal.nD Cert.Kernel18Ideal.τ).loc Cert.Kernel18Ideal.main_v12_1)) (v2 : (c : Dev Cert.Kernel18Ideal.nD) → Buf (Elt Ideal) ((c.tc : Thread Cert.Kernel18Ideal.nD Cert.Kernel18Ideal.τ).loc Cert.Kernel18Ideal.main_v12_2)) (v3 : (c : Dev Cert.Kernel18Ideal.nD) → Buf (Elt Ideal) ((c.tc : Thread Cert.Kernel18Ideal.nD Cert.Kernel18Ideal.τ).loc Cert.Kernel18Ideal.main_v12_3)) (v4 : (c : Dev Cert.Kernel18Ideal.nD) → Buf (Elt Ideal) ((c.tc : Thread Cert.Kernel18Ideal.nD Cert.Kernel18Ideal.τ).loc Cert.Kernel18Ideal.main_v12_4)) (v5 : (c : Dev Cert.Kernel18Ideal.nD) → Buf (Elt Ideal) ((c.tc : Thread Cert.Kernel18Ideal.nD Cert.Kernel18Ideal.τ).loc Cert.Kernel18Ideal.main_v12_5)) (v6 : (c : Dev Cert.Kernel18Ideal.nD) → Buf (Elt Ideal) ((c.tc : Thread Cert.Kernel18Ideal.nD Cert.Kernel18Ideal.τ).loc Cert.Kernel18Ideal.main_v12_6)) (v7 : (c : Dev Cert.Kernel18Ideal.nD) → Buf (Elt Ideal) ((c.tc : Thread Cert.Kernel18Ideal.nD Cert.Kernel18Ideal.τ).loc Cert.Kernel18Ideal.main_v12_7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v12_0) = v0 c
          ∧ r.2.mem ((c.tc : Thread Cert.Kernel18Ideal.nD Cert.Kernel18Ideal.τ).loc Cert.Kernel18Ideal.main_v12_1) = v1 c
          ∧ r.2.mem ((c.tc : Thread Cert.Kernel18Ideal.nD Cert.Kernel18Ideal.τ).loc Cert.Kernel18Ideal.main_v12_2) = v2 c
          ∧ r.2.mem ((c.tc : Thread Cert.Kernel18Ideal.nD Cert.Kernel18Ideal.τ).loc Cert.Kernel18Ideal.main_v12_3) = v3 c
          ∧ r.2.mem ((c.tc : Thread Cert.Kernel18Ideal.nD Cert.Kernel18Ideal.τ).loc Cert.Kernel18Ideal.main_v12_4) = v4 c
          ∧ r.2.mem ((c.tc : Thread Cert.Kernel18Ideal.nD Cert.Kernel18Ideal.τ).loc Cert.Kernel18Ideal.main_v12_5) = v5 c
          ∧ r.2.mem ((c.tc : Thread Cert.Kernel18Ideal.nD Cert.Kernel18Ideal.τ).loc Cert.Kernel18Ideal.main_v12_6) = v6 c
          ∧ r.2.mem ((c.tc : Thread Cert.Kernel18Ideal.nD Cert.Kernel18Ideal.τ).loc Cert.Kernel18Ideal.main_v12_7) = v7 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v45) = v0 c
          ∧ r.2.mem ((c.tc : Thread Cert.Reference18Ideal.nD Cert.Reference18Ideal.τ).loc Cert.Reference18Ideal.main_v46) = v1 c
          ∧ r.2.mem ((c.tc : Thread Cert.Reference18Ideal.nD Cert.Reference18Ideal.τ).loc Cert.Reference18Ideal.main_v48) = v2 c
          ∧ r.2.mem ((c.tc : Thread Cert.Reference18Ideal.nD Cert.Reference18Ideal.τ).loc Cert.Reference18Ideal.main_v50) = v3 c
          ∧ r.2.mem ((c.tc : Thread Cert.Reference18Ideal.nD Cert.Reference18Ideal.τ).loc Cert.Reference18Ideal.main_v68) = v4 c
          ∧ r.2.mem ((c.tc : Thread Cert.Reference18Ideal.nD Cert.Reference18Ideal.τ).loc Cert.Reference18Ideal.main_v86) = v5 c
          ∧ r.2.mem ((c.tc : Thread Cert.Reference18Ideal.nD Cert.Reference18Ideal.τ).loc Cert.Reference18Ideal.main_v106) = v6 c
          ∧ r.2.mem ((c.tc : Thread Cert.Reference18Ideal.nD Cert.Reference18Ideal.τ).loc Cert.Reference18Ideal.main_v126) = v7 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v6_0)) (v1 : (c : Dev Cert.Kernel21Ideal.nD) → Buf (Elt Ideal) ((c.tc : Thread Cert.Kernel21Ideal.nD Cert.Kernel21Ideal.τ).loc Cert.Kernel21Ideal.main_v6_1)) (v2 : (c : Dev Cert.Kernel21Ideal.nD) → Buf (Elt Ideal) ((c.tc : Thread Cert.Kernel21Ideal.nD Cert.Kernel21Ideal.τ).loc Cert.Kernel21Ideal.main_v6_2)) (v3 : (c : Dev Cert.Kernel21Ideal.nD) → Buf (Elt Ideal) ((c.tc : Thread Cert.Kernel21Ideal.nD Cert.Kernel21Ideal.τ).loc Cert.Kernel21Ideal.main_v6_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v6_0) = v0 c
          ∧ r.2.mem ((c.tc : Thread Cert.Kernel21Ideal.nD Cert.Kernel21Ideal.τ).loc Cert.Kernel21Ideal.main_v6_1) = v1 c
          ∧ r.2.mem ((c.tc : Thread Cert.Kernel21Ideal.nD Cert.Kernel21Ideal.τ).loc Cert.Kernel21Ideal.main_v6_2) = v2 c
          ∧ r.2.mem ((c.tc : Thread Cert.Kernel21Ideal.nD Cert.Kernel21Ideal.τ).loc Cert.Kernel21Ideal.main_v6_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v13) = v2 c
          ∧ r.2.mem ((c.tc : Thread Cert.Reference21Ideal.nD Cert.Reference21Ideal.τ).loc Cert.Reference21Ideal.main_v19) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel6_Kernel6Ideal : Prop :=
  True

def preserves_Kernel17_Kernel17Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel8 : Cert.Kernel8.Facts) (hKernel8Ideal : Cert.Kernel8Ideal.Facts) (hReference8Ideal : Cert.Reference8Ideal.Facts) (hKernel7 : Cert.Kernel7.Facts) (hKernel7Ideal : Cert.Kernel7Ideal.Facts) (hReference7Ideal : Cert.Reference7Ideal.Facts) (hKernel5 : Cert.Kernel5.Facts) (hKernel5Ideal : Cert.Kernel5Ideal.Facts) (hReference5Ideal : Cert.Reference5Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel6 : Cert.Kernel6.Facts) (hKernel6Ideal : Cert.Kernel6Ideal.Facts) (hKernel17 : Cert.Kernel17.Facts) (hKernel17Ideal : Cert.Kernel17Ideal.Facts) (hPre_finite_cotangents : Cert.Pre_finite_cotangents.Facts) (hPre_finite_rows : Cert.Pre_finite_rows.Facts) (hPre_finite_gate : Cert.Pre_finite_gate.Facts) (hPre_regular_params : Cert.Pre_regular_params.Facts) (hPre_finite_params : Cert.Pre_finite_params.Facts),
    quiescent_Kernel (hKernel := hKernel)
    ∧ quiescent_KernelIdeal (hKernelIdeal := hKernelIdeal)
    ∧ quiescent_KernelIdeal_pre_finite_cotangents (hKernelIdeal := hKernelIdeal) (hPre_finite_cotangents := hPre_finite_cotangents)
    ∧ quiescent_ReferenceIdeal (hReferenceIdeal := hReferenceIdeal)
    ∧ quiescent_ReferenceIdeal_pre_finite_cotangents (hReferenceIdeal := hReferenceIdeal) (hPre_finite_cotangents := hPre_finite_cotangents)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel7 (hKernel7 := hKernel7)
    ∧ quiescent_Kernel7Ideal (hKernel7Ideal := hKernel7Ideal)
    ∧ quiescent_Kernel7Ideal_pre_finite_gate (hKernel7Ideal := hKernel7Ideal) (hPre_finite_gate := hPre_finite_gate)
    ∧ quiescent_Reference7Ideal (hReference7Ideal := hReference7Ideal)
    ∧ quiescent_Reference7Ideal_pre_finite_gate (hReference7Ideal := hReference7Ideal) (hPre_finite_gate := hPre_finite_gate)
    ∧ quiescent_Kernel5 (hKernel5 := hKernel5)
    ∧ quiescent_Kernel5Ideal (hKernel5Ideal := hKernel5Ideal)
    ∧ quiescent_Kernel5Ideal_pre_regular_params (hKernel5Ideal := hKernel5Ideal) (hPre_regular_params := hPre_regular_params)
    ∧ quiescent_Reference5Ideal (hReference5Ideal := hReference5Ideal)
    ∧ quiescent_Reference5Ideal_pre_regular_params (hReference5Ideal := hReference5Ideal) (hPre_regular_params := hPre_regular_params)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel18 (hKernel18 := hKernel18)
    ∧ quiescent_Kernel18Ideal (hKernel18Ideal := hKernel18Ideal)
    ∧ quiescent_Kernel18Ideal_pre_finite_params (hKernel18Ideal := hKernel18Ideal) (hPre_finite_params := hPre_finite_params)
    ∧ quiescent_Reference18Ideal (hReference18Ideal := hReference18Ideal)
    ∧ quiescent_Reference18Ideal_pre_finite_params (hReference18Ideal := hReference18Ideal) (hPre_finite_params := hPre_finite_params)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel6 (hKernel6 := hKernel6)
    ∧ quiescent_Kernel6Ideal (hKernel6Ideal := hKernel6Ideal)
    ∧ quiescent_Kernel17 (hKernel17 := hKernel17)
    ∧ quiescent_Kernel17Ideal (hKernel17Ideal := hKernel17Ideal)
    ∧ preserves_Kernel_KernelIdeal
    ∧ algebraic_KernelIdeal_ReferenceIdeal_pre_finite_cotangents (hKernelIdeal := hKernelIdeal) (hReferenceIdeal := hReferenceIdeal) (hPre_finite_cotangents := hPre_finite_cotangents)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel8_Kernel8Ideal
    ∧ algebraic_Kernel8Ideal_Reference8Ideal (hKernel8Ideal := hKernel8Ideal) (hReference8Ideal := hReference8Ideal)
    ∧ preserves_Kernel7_Kernel7Ideal
    ∧ algebraic_Kernel7Ideal_Reference7Ideal_pre_finite_gate (hKernel7Ideal := hKernel7Ideal) (hReference7Ideal := hReference7Ideal) (hPre_finite_gate := hPre_finite_gate)
    ∧ preserves_Kernel5_Kernel5Ideal
    ∧ algebraic_Kernel5Ideal_Reference5Ideal_pre_regular_params (hKernel5Ideal := hKernel5Ideal) (hReference5Ideal := hReference5Ideal) (hPre_regular_params := hPre_regular_params)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel18_Kernel18Ideal
    ∧ algebraic_Kernel18Ideal_Reference18Ideal_pre_finite_params (hKernel18Ideal := hKernel18Ideal) (hReference18Ideal := hReference18Ideal) (hPre_finite_params := hPre_finite_params)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel6_Kernel6Ideal
    ∧ preserves_Kernel17_Kernel17Ideal
-- ==== Pre_finite_cotangents.lean ====
abbrev S8192x512 : Shape := ⟨2, ![8192, 512]⟩
abbrev S8192x1536 : Shape := ⟨2, ![8192, 1536]⟩
abbrev S1x512 : Shape := ⟨2, ![1, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x1536 .f32) (main_arg2 : FVec F S1x512 .f32) (main_arg3 : FVec F S8192x512 .f32) (main_arg4 : FVec F S8192x512 .f32) : IVec S_ 1 :=
  let main_v0 : FVec F S8192x512 .f32 := Host.absf main_arg3
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg4
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Pre_finite_gate.lean ====
abbrev S8192x1024 : Shape := ⟨2, ![8192, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1x1024x2816 .f32) (main_arg2 : FVec F S1x1024x2816 .f32) (main_arg3 : FVec F S1x2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024x2816 .f32 := Host.absf main_arg2
  let main_cst_0 : FVec F S_ .f32 := constant S_ .f32 0x7F800000#32
  let main_v5 : FVec F S1x1024x2816 .f32 := broadcastInDim S1x1024x2816 ![] bcast_S_S1x1024x2816 main_cst_0
  let main_v6 : IVec S1x1024x2816 1 := cmpf .olt main_v4 main_v5
  let main_c_1 : IVec S_ 1 := constantI S_ 1 1#1
  let main_v7 : IVec S_ 1 := (fun x v => Host.reduce IntOp.andi x v reducesTo_S1x1024x2816_S_d0_1_2 h_S_) main_v6 main_c_1
  let main_v8 : IVec S_ 1 := andi main_v3 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_params.lean ====
abbrev S1x32x64 : Shape := ⟨3, ![1, 32, 64]⟩
abbrev S1x32 : Shape := ⟨2, ![1, 32]⟩
abbrev S1x32x64x16 : Shape := ⟨4, ![1, 32, 64, 16]⟩
abbrev S_ : Shape := ⟨0, ![]⟩

class Facts : Prop where
  bcast_S_S1x32x64 : S_.BroadcastsInDim S1x32x64 (![] : Fin 0 → Fin S1x32x64.rank)
  reducesTo_S1x32x64_S_d0_1_2 : S1x32x64.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S1x32x64 .f32) (main_arg1 : FVec F S1x32x64 .f32) (main_arg2 : FVec F S1x32 .f32) (main_arg3 : FVec F S1x32x64x16 .f32) (main_arg4 : FVec F S1x32x64x16 .f32) : IVec S_ 1 :=
  let main_v0 : FVec F S1x32x64 .f32 := Host.absf main_arg0
  let main_cst : FVec F S_ .f32 := constant S_ .f32 0x7F800000#32
  let main_v1 : FVec F S1x32x64 .f32 := broadcastInDim S1x32x64 ![] bcast_S_S1x32x64 main_cst
  let main_v2 : IVec S1x32x64 1 := cmpf .olt main_v0 main_v1
  let main_c : IVec S_ 1 := constantI S_ 1 1#1
  let main_v3 : IVec S_ 1 := (fun x v => Host.reduce IntOp.andi x v reducesTo_S1x32x64_S_d0_1_2 h_S_) main_v2 main_c
  let main_v4 : FVec F S1x32x64 .f32 := Host.absf main_arg1
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_c_1 : IVec S_ 1 := constantI S_ 1 1#1
  let main_v7 : IVec S_ 1 := (fun x v => Host.reduce IntOp.andi x v reducesTo_S1x32x64_S_d0_1_2 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  main_v13
-- ==== Pre_finite_rows.lean ====
abbrev S8192x512 : Shape := ⟨2, ![8192, 512]⟩
abbrev S1x512 : Shape := ⟨2, ![1, 512]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S8192x512 .f32) (main_arg1 : FVec F S1x512 .f32) (main_arg2 : FVec F S1x512 .f32) (main_arg3 : FVec F S1x512 .f32) (main_arg4 : FVec F S1x512 .f32) (main_arg5 : FVec F S8192x1024 .f32) : IVec S_ 1 :=
  let main_v0 : FVec F S8192x1024 .f32 := Host.absf main_arg5
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg4
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  main_v13
-- ==== Pre_regular_params.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S16x2048 : Shape := ⟨2, ![16, 2048]⟩
abbrev S_ : Shape := ⟨0, ![]⟩

class Facts : Prop where
  bcast_S_S1x32x64 : S_.BroadcastsInDim S1x32x64 (![] : Fin 0 → Fin S1x32x64.rank)
  reducesTo_S1x32x64_S_d0_1_2 : S1x32x64.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S1x32x64x16 : S_.BroadcastsInDim S1x32x64x16 (![] : Fin 0 → Fin S1x32x64x16.rank)
  reducesTo_S1x32x64x16_S_d0_1_2_3 : S1x32x64x16.ReducesTo [0, 1, 2, 3] S_
  bcast_S_S16x2048 : S_.BroadcastsInDim S16x2048 (![] : Fin 0 → Fin S16x2048.rank)
  reducesTo_S16x2048_S_d0_1 : S16x2048.ReducesTo [0, 1] S_

variable [Facts]

def fn_part2 {F : FTy → Type} [FloatOps F] (main_arg0 : FVec F S1x32x64 .f32) (main_arg1 : FVec F S1x32x64 .f32) (main_v33 : IVec S_ 1) : IVec S_ 1 :=
  let main_v34 : FVec F S1x32x64 .f32 := mulf main_arg0 main_arg0
  let main_v35 : FVec F S1x32x64 .f32 := mulf main_arg1 main_arg1
  let main_v36 : FVec F S1x32x64 .f32 := addf main_v34 main_v35
  let main_cst_12 : FVec F S_ .f32 := constant S_ .f32 0x00000000#32
  let main_v37 : FVec F S1x32x64 .f32 := broadcastInDim S1x32x64 ![] bcast_S_S1x32x64 main_cst_12
  let main_v38 : IVec S1x32x64 1 := cmpf .ogt main_v36 main_v37
  let main_c_13 : IVec S_ 1 := constantI S_ 1 1#1
  let main_v39 : IVec S_ 1 := (fun x v => Host.reduce IntOp.andi x v reducesTo_S1x32x64_S_d0_1_2 h_S_) main_v38 main_c_13
  let main_v40 : IVec S_ 1 := andi main_v33 main_v39
  main_v40

def fn_part1 {F : FTy → Type} [FloatOps F] (main_arg0 : FVec F S1x32x64 .f32) (main_arg1 : FVec F S1x32x64 .f32) (main_arg4 : FVec F S1x32x64x16 .f32) (main_arg7 : FVec F S16x2048 .f32) (main_arg8 : FVec F S16x2048 .f32) (main_v13 : IVec S_ 1) (main_v16 : IVec S1x32x64x16 1) : IVec S_ 1 :=
  let main_c_5 : IVec S_ 1 := constantI S_ 1 1#1
  let main_v17 : IVec S_ 1 := (fun x v => Host.reduce IntOp.andi x v reducesTo_S1x32x64x16_S_d0_1_2_3 h_S_) main_v16 main_c_5
  let main_v18 : IVec S_ 1 := andi main_v13 main_v17
  let main_v19 : FVec F S1x32x64x16 .f32 := Host.absf main_arg4
  let main_cst_6 : FVec F S_ .f32 := constant S_ .f32 0x7F800000#32
  let main_v20 : FVec F S1x32x64x16 .f32 := broadcastInDim S1x32x64x16 ![] bcast_S_S1x32x64x16 main_cst_6
  let main_v21 : IVec S1x32x64x16 1 := cmpf .olt main_v19 main_v20
  let main_c_7 : IVec S_ 1 := constantI S_ 1 1#1
  let main_v22 : IVec S_ 1 := (fun x v => Host.reduce IntOp.andi x v reducesTo_S1x32x64x16_S_d0_1_2_3 h_S_) main_v21 main_c_7
  let main_v23 : IVec S_ 1 := andi main_v18 main_v22
  let main_v24 : FVec F S16x2048 .f32 := Host.absf main_arg7
  let main_cst_8 : FVec F S_ .f32 := constant S_ .f32 0x7F800000#32
  let main_v25 : FVec F S16x2048 .f32 := broadcastInDim S16x2048 ![] bcast_S_S16x2048 main_cst_8
  let main_v26 : IVec S16x2048 1 := cmpf .olt main_v24 main_v25
  let main_c_9 : IVec S_ 1 := constantI S_ 1 1#1
  let main_v27 : IVec S_ 1 := (fun x v => Host.reduce IntOp.andi x v reducesTo_S16x2048_S_d0_1 h_S_) main_v26 main_c_9
  let main_v28 : IVec S_ 1 := andi main_v23 main_v27
  let main_v29 : FVec F S16x2048 .f32 := Host.absf main_arg8
  let main_cst_10 : FVec F S_ .f32 := constant S_ .f32 0x7F800000#32
  let main_v30 : FVec F S16x2048 .f32 := broadcastInDim S16x2048 ![] bcast_S_S16x2048 main_cst_10
  let main_v31 : IVec S16x2048 1 := cmpf .olt main_v29 main_v30
  let main_c_11 : IVec S_ 1 := constantI S_ 1 1#1
  let main_v32 : IVec S_ 1 := (fun x v => Host.reduce IntOp.andi x v reducesTo_S16x2048_S_d0_1 h_S_) main_v31 main_c_11
  let main_v33 : IVec S_ 1 := andi main_v28 main_v32
  fn_part2 (F := F) main_arg0 main_arg1 main_v33

def fn {F : FTy → Type} [FloatOps F] (main_arg0 : FVec F S1x32x64 .f32) (main_arg1 : FVec F S1x32x64 .f32) (main_arg2 : FVec F S1x32 .f32) (main_arg3 : FVec F S1x32x64x16 .f32) (main_arg4 : FVec F S1x32x64x16 .f32) (main_arg5 : FVec F S1x2048 .f32) (main_arg6 : FVec F S1x2048 .f32) (main_arg7 : FVec F S16x2048 .f32) (main_arg8 : FVec F S16x2048 .f32) : IVec S_ 1 :=
  let main_v0 : FVec F S1x32x64 .f32 := Host.absf main_arg0
  let main_cst : FVec F S_ .f32 := constant S_ .f32 0x7F800000#32
  let main_v1 : FVec F S1x32x64 .f32 := broadcastInDim S1x32x64 ![] bcast_S_S1x32x64 main_cst
  let main_v2 : IVec S1x32x64 1 := cmpf .olt main_v0 main_v1
  let main_c : IVec S_ 1 := constantI S_ 1 1#1
  let main_v3 : IVec S_ 1 := (fun x v => Host.reduce IntOp.andi x v reducesTo_S1x32x64_S_d0_1_2 h_S_) main_v2 main_c
  let main_v4 : FVec F S1x32x64 .f32 := Host.absf main_arg1
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_c_1 : IVec S_ 1 := constantI S_ 1 1#1
  let main_v7 : IVec S_ 1 := (fun x v => Host.reduce IntOp.andi x v reducesTo_S1x32x64_S_d0_1_2 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1x32x64x16 .f32 := Host.absf main_arg3
  let main_cst_4 : FVec F S_ .f32 := constant S_ .f32 0x7F800000#32
  let main_v15 : FVec F S1x32x64x16 .f32 := broadcastInDim S1x32x64x16 ![] bcast_S_S1x32x64x16 main_cst_4
  let main_v16 : IVec S1x32x64x16 1 := cmpf .olt main_v14 main_v15
  fn_part1 (F := F) main_arg0 main_arg1 main_arg4 main_arg7 main_arg8 main_v13 main_v16
-- ==== Kernel.lean ====
abbrev S8192x512 : Shape := ⟨2, ![8192, 512]⟩
abbrev S8192x1536 : Shape := ⟨2, ![8192, 1536]⟩
abbrev S1x512 : Shape := ⟨2, ![1, 512]⟩
abbrev S1024x512 : Shape := ⟨2, ![1024, 512]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S8192x512 : Shape := ⟨2, ![8192, 512]⟩
abbrev S8192x1536 : Shape := ⟨2, ![8192, 1536]⟩
abbrev S1x512 : Shape := ⟨2, ![1, 512]⟩
abbrev S512 : Shape := ⟨1, ![512]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S1x512, .f32⟩
  | .local _ .vmem, ⟨0, _⟩ => ⟨S8192x512, .f32⟩
  | .local _ .vmem, ⟨1, _⟩ => ⟨S8192x1536, .f32⟩
  | .local _ .vmem, ⟨2, _⟩ => ⟨S1x512, .f32⟩
  | .local _ .vmem, ⟨3, _⟩ => ⟨S8192x512, .f32⟩
  | .local _ .vmem, ⟨4, _⟩ => ⟨S8192x512, .f32⟩
  | .local _ .vmem, ⟨5, _⟩ => ⟨S8192x512, .f32⟩
  | .local _ .vmem, ⟨6, _⟩ => ⟨S8192x512, .f32⟩
  | .local _ .vmem, ⟨7, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "gelu_c" => some ((8943 / 200000 : ℝ) : EReal)
  | _ => none

abbrev grid0 : Pipeline.Grid := .none

abbrev stage0_0 : Fin 1 → Memref sig .tc .vmem S8192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Kernel2.lean ====
abbrev S8192x512 : Shape := ⟨2, ![8192, 512]⟩
abbrev S512x512 : Shape := ⟨2, ![512, 512]⟩
abbrev S1x512 : Shape := ⟨2, ![1, 512]⟩
abbrev S8192x1024 : Shape := ⟨2, ![8192, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 12
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S8192x512, .bf16⟩
  | .hbm, ⟨6, _⟩ => ⟨S512x512, .bf16⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S1x512, .f32⟩
  | .hbm, ⟨11, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x512 : Shape := ⟨2, ![8192, 512]⟩
abbrev S512x512 : Shape := ⟨2, ![512, 512]⟩
abbrev S1x512 : Shape := ⟨2, ![1, 512]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S1x512, .f32⟩
  | .hbm, ⟨3, _⟩ => ⟨S1x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x512, .f32⟩
  | .hbm, ⟨52, _⟩ => ⟨S8192x512, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel4.lean ====
abbrev S8192x1536 : Shape := ⟨2, ![8192, 1536]⟩
abbrev S1x31x512 : Shape := ⟨3, ![1, 31, 512]⟩
abbrev S8192x512 : Shape := ⟨2, ![8192, 512]⟩
abbrev S31x512 : Shape := ⟨2, ![31, 512]⟩
abbrev S_ : Shape := ⟨0, ![]⟩
abbrev S32x512 : Shape := ⟨2, ![32, 512]⟩
abbrev S256x512 : Shape := ⟨2, ![256, 512]⟩
abbrev S288x512 : Shape := ⟨2, ![288, 512]⟩
abbrev S8x288x512 : Shape := ⟨3, ![8, 288, 512]⟩
abbrev S280x512 : Shape := ⟨2, ![280, 512]⟩
abbrev S1x280x512 : Shape := ⟨3, ![1, 280, 512]⟩
abbrev S8x512 : Shape := ⟨2, ![8, 512]⟩
abbrev S1x8x512 : Shape := ⟨3, ![1, 8, 512]⟩
abbrev S1x512 : Shape := ⟨2, ![1, 512]⟩
abbrev S512 : Shape := ⟨1, ![512]⟩
abbrev S1x32x512 : Shape := ⟨3, ![1, 32, 512]⟩

abbrev nBuf : Space → Nat
  | .hbm => 10
  | .vmem => 22
  | .smem => 0
  | _ => 0

abbrev bufTy : (tb : Table) → Fin (tcTables nBuf tb) → BufTy
  | .hbm, ⟨0, _⟩ => ⟨S8192x1536, .f32⟩
  | .hbm, ⟨1, _⟩ => ⟨S1x31x512, .f32⟩
  | .hbm, ⟨2, _⟩ => ⟨S8192x512, .f32⟩
  | .hbm, ⟨3, _⟩ => ⟨S31x512, .f32⟩
  | .hbm, ⟨4, _⟩ => ⟨S_, .i32⟩
  | .hbm, ⟨5, _⟩ => ⟨S_, .f32⟩
  | .hbm, ⟨6, _⟩ => ⟨S32x512, .f32⟩
  | .hbm, ⟨7, _⟩ => ⟨S8192x512, .f32⟩
  | .hbm, ⟨8, _⟩ => ⟨S8192x512, .f32⟩
  | .hbm, ⟨9, _⟩ => ⟨S32x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S256x512, .f32⟩
  | .local _ .vmem, ⟨9, _⟩ => ⟨S256x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S32x512, .f32⟩
  | .local _ .vmem, ⟨18, _⟩ => ⟨S288x512, .f32⟩
  | .local _ .vmem, ⟨19, _⟩ => ⟨S288x512, .f32⟩
  | .local _ .vmem, ⟨20, _⟩ => ⟨S8x288x512, .f32⟩
  | .local _ .vmem, ⟨21, _⟩ => ⟨S8x288x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x1536 : Shape := ⟨2, ![8192, 1536]⟩
abbrev S1x31x512 : Shape := ⟨3, ![1, 31, 512]⟩
abbrev S8192x512 : Shape := ⟨2, ![8192, 512]⟩
abbrev S31x512 : Shape := ⟨2, ![31, 512]⟩
abbrev S_ : Shape := ⟨0, ![]⟩
abbrev S2x4096x512 : Shape := ⟨3, ![2, 4096, 512]⟩
abbrev S2x30x512 : Shape := ⟨3, ![2, 30, 512]⟩
abbrev S2x4126x512 : Shape := ⟨3, ![2, 4126, 512]⟩
abbrev S1x512 : Shape := ⟨2, ![1, 512]⟩
abbrev S512 : Shape := ⟨1, ![512]⟩
abbrev S1x1x512 : Shape := ⟨3, ![1, 1, 512]⟩
abbrev S32x512 : Shape := ⟨2, ![32, 512]⟩

abbrev nBuf : Space → Nat
  | .hbm => 718
  | .vmem => 0
  | .smem => 0
  | _ => 0

abbrev hbmTy0_0 (i : Nat) : BufTy := match i % 128 with
  | 0 => ⟨S8192x1536, .f32⟩
  | 1 => ⟨S1x31x512, .f32⟩
  | 2 => ⟨S8192x512, .f32⟩
  | 3 => ⟨S8192x512, .f32⟩
  | 4 => ⟨S8192x512, .f32⟩
  | 5 => ⟨S31x512, .f32⟩
  | 6 => ⟨S8192x512, .f32⟩
  | 7 => ⟨S8192x512, .f32⟩
  | 8 => ⟨S_, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S8192x512, .f32⟩
  | 19 => ⟨S2x4096x512, .f32⟩
  | 20 => ⟨S_, .f32⟩
  | 21 => ⟨S2x30x512, .f32⟩
  | 22 => ⟨S2x4126x512, .f32⟩
  | 23 => ⟨S_, .f32⟩
  | 24 => ⟨S2x30x512, .f32⟩
  | 25 => ⟨S2x4096x512, .f32⟩
  | 26 => ⟨S1x512, .f32⟩
  | 27 => ⟨S512, .f32⟩
  | 28 => ⟨S1x1x512, .f32⟩
  | 29 => ⟨S2x4096x512, .f32⟩
  | 30 => ⟨S2x4096x512, .f32⟩
  | 31 => ⟨S_, .f32⟩
  | 32 => ⟨S2x4096x512, .f32⟩
  | 33 => ⟨S2x4096x512, .f32⟩
  | 34 => ⟨S2x4096x512, .f32⟩
  | 35 => ⟨S1x512, .f32⟩
  | 36 => ⟨S512, .f32⟩
  | 37 => ⟨S1x1x512, .f32⟩
  | 38 => ⟨S2x4096x512, .f32⟩
  | 39 => ⟨S2x4096x512, .f32⟩
  | 40 => ⟨S2x4096x512, .f32⟩
  | 41 => ⟨S2x4096x512, .f32⟩
  | 42 => ⟨S1x512, .f32⟩
  | 43 => ⟨S512, .f32⟩
  | 44 => ⟨S1x1x512, .f32⟩
  | 45 => ⟨S2x4096x512, .f32⟩
  | 46 => ⟨S2x4096x512, .f32⟩
  | 47 => ⟨S2x4096x512, .f32⟩
  | 48 => ⟨S2x4096x512, .f32⟩
  | 49 => ⟨S1x512, .f32⟩
  | 50 => ⟨S512, .f32⟩
  | 51 => ⟨S1x1x512, .f32⟩
  | 52 => ⟨S2x4096x512, .f32⟩
  | 53 => ⟨S2x4096x512, .f32⟩
  | 54 => ⟨S2x4096x512, .f32⟩
  | 55 => ⟨S2x4096x512, .f32⟩
  | 56 => ⟨S1x512, .f32⟩
  | 57 => ⟨S512, .f32⟩
  | 58 => ⟨S1x1x512, .f32⟩
  | 59 => ⟨S2x4096x512, .f32⟩
  | 60 => ⟨S2x4096x512, .f32⟩
  | 61 => ⟨S2x4096x512, .f32⟩
  | 62 => ⟨S2x4096x512, .f32⟩
  | 63 => ⟨S1x512, .f32⟩
  | 64 => ⟨S512, .f32⟩
  | 65 => ⟨S1x1x512, .f32⟩
  | 66 => ⟨S2x4096x512, .f32⟩
  | 67 => ⟨S2x4096x512, .f32⟩
  | 68 => ⟨S2x4096x512, .f32⟩
  | 69 => ⟨S2x4096x512, .f32⟩
  | 70 => ⟨S1x512, .f32⟩
  | 71 => ⟨S512, .f32⟩
  | 72 => ⟨S1x1x512, .f32⟩
  | 73 => ⟨S2x4096x512, .f32⟩
  | 74 => ⟨S2x4096x512, .f32⟩
  | 75 => ⟨S2x4096x512, .f32⟩
  | 76 => ⟨S2x4096x512, .f32⟩
  | 77 => ⟨S1x512, .f32⟩
  | 78 => ⟨S512, .f32⟩
  | 79 => ⟨S1x1x512, .f32⟩
  | 80 => ⟨S2x4096x512, .f32⟩
  | 81 => ⟨S2x4096x512, .f32⟩
  | 82 => ⟨S2x4096x512, .f32⟩
  | 83 => ⟨S2x4096x512, .f32⟩
  | 84 => ⟨S1x512, .f32⟩
  | 85 => ⟨S512, .f32⟩
  | 86 => ⟨S1x1x512, .f32⟩
  | 87 => ⟨S2x4096x512, .f32⟩
  | 88 => ⟨S2x4096x512, .f32⟩
  | 89 => ⟨S2x4096x512, .f32⟩
  | 90 => ⟨S2x4096x512, .f32⟩
  | 91 => ⟨S1x512, .f32⟩
  | 92 => ⟨S512, .f32⟩
  | 93 => ⟨S1x1x512, .f32⟩
  | 94 => ⟨S2x4096x512, .f32⟩
  | 95 => ⟨S2x4096x512, .f32⟩
  | 96 => ⟨S2x4096x512, .f32⟩
  | 97 => ⟨S2x4096x512, .f32⟩
  | 98 => ⟨S1x512, .f32⟩
  | 99 => ⟨S512, .f32⟩
  | 100 => ⟨S1x1x512, .f32⟩
  | 101 => ⟨S2x4096x512, .f32⟩
  | 102 => ⟨S2x4096x512, .f32⟩
  | 103 => ⟨S2x4096x512, .f32⟩
  | 104 => ⟨S2x4096x512, .f32⟩
  | 105 => ⟨S1x512, .f32⟩
  | 106 => ⟨S512, .f32⟩
  | 107 => ⟨S1x1x512, .f32⟩
  | 108 => ⟨S2x4096x512, .f32⟩
  | 109 => ⟨S2x4096x512, .f32⟩
  | 110 => ⟨S2x4096x512, .f32⟩
  | 111 => ⟨S2x4096x512, .f32⟩
  | 112 => ⟨S1x512, .f32⟩
  | 113 => ⟨S512, .f32⟩
  | 114 => ⟨S1x1x512, .f32⟩
  | 115 => ⟨S2x4096x512, .f32⟩
  | 116 => ⟨S2x4096x512, .f32⟩
  | 117 => ⟨S2x4096x512, .f32⟩
  | 118 => ⟨S2x4096x512, .f32⟩
  | 119 => ⟨S1x512, .f32⟩
  | 120 => ⟨S512, .f32⟩
  | 121 => ⟨S1x1x512, .f32⟩
  | 122 => ⟨S2x4096x512, .f32⟩
  | 123 => ⟨S2x4096x512, .f32⟩
  | 124 => ⟨S2x4096x512, .f32⟩
  | 125 => ⟨S2x4096x512, .f32⟩
  | 126 => ⟨S1x512, .f32⟩
  | 127 => ⟨S512, .f32⟩
  | _ => ⟨S8192x1536, .f32⟩

abbrev hbmTy0_1 (i : Nat) : BufTy := match i % 128 with
  | 0 => ⟨S1x1x512, .f32⟩
  | 1 => ⟨S2x4096x512, .f32⟩
  | 2 => ⟨S2x4096x512, .f32⟩
  | 3 => ⟨S2x4096x512, .f32⟩
  | 4 => ⟨S2x4096x512, .f32⟩
  | 5 => ⟨S1x512, .f32⟩
  | 6 => ⟨S512, .f32⟩
  | 7 => ⟨S1x1x512, .f32⟩
  | 8 => ⟨S2x4096x512, .f32⟩
  | 9 => ⟨S2x4096x512, .f32⟩
  | 10 => ⟨S2x4096x512, .f32⟩
  | 11 => ⟨S2x4096x512, .f32⟩
  | 12 => ⟨S1x512, .f32⟩
  | 13 => ⟨S512, .f32⟩
  | 14 => ⟨S1x1x512, .f32⟩
  | 15 => ⟨S2x4096x512, .f32⟩
  | 16 => ⟨S2x4096x512, .f32⟩
  | 17 => ⟨S2x4096x512, .f32⟩
  | 18 => ⟨S2x4096x512, .f32⟩
  | 19 => ⟨S1x512, .f32⟩
  | 20 => ⟨S512, .f32⟩
  | 21 => ⟨S1x1x512, .f32⟩
  | 22 => ⟨S2x4096x512, .f32⟩
  | 23 => ⟨S2x4096x512, .f32⟩
  | 24 => ⟨S2x4096x512, .f32⟩
  | 25 => ⟨S2x4096x512, .f32⟩
  | 26 => ⟨S1x512, .f32⟩
  | 27 => ⟨S512, .f32⟩
  | 28 => ⟨S1x1x512, .f32⟩
  | 29 => ⟨S2x4096x512, .f32⟩
  | 30 => ⟨S2x4096x512, .f32⟩
  | 31 => ⟨S2x4096x512, .f32⟩
  | 32 => ⟨S2x4096x512, .f32⟩
  | 33 => ⟨S1x512, .f32⟩
  | 34 => ⟨S512, .f32⟩
  | 35 => ⟨S1x1x512, .f32⟩
  | 36 => ⟨S2x4096x512, .f32⟩
  | 37 => ⟨S2x4096x512, .f32⟩
  | 38 => ⟨S2x4096x512, .f32⟩
  | 39 => ⟨S2x4096x512, .f32⟩
  | 40 => ⟨S1x512, .f32⟩
  | 41 => ⟨S512, .f32⟩
  | 42 => ⟨S1x1x512, .f32⟩
  | 43 => ⟨S2x4096x512, .f32⟩
  | 44 => ⟨S2x4096x512, .f32⟩
  | 45 => ⟨S2x4096x512, .f32⟩
  | 46 => ⟨S2x4096x512, .f32⟩
  | 47 => ⟨S1x512, .f32⟩
  | 48 => ⟨S512, .f32⟩
  | 49 => ⟨S1x1x512, .f32⟩
  | 50 => ⟨S2x4096x512, .f32⟩
  | 51 => ⟨S2x4096x512, .f32⟩
  | 52 => ⟨S2x4096x512, .f32⟩
  | 53 => ⟨S2x4096x512, .f32⟩
  | 54 => ⟨S1x512, .f32⟩
  | 55 => ⟨S512, .f32⟩
  | 56 => ⟨S1x1x512, .f32⟩
  | 57 => ⟨S2x4096x512, .f32⟩
  | 58 => ⟨S2x4096x512, .f32⟩
  | 59 => ⟨S2x4096x512, .f32⟩
  | 60 => ⟨S2x4096x512, .f32⟩
  | 61 => ⟨S1x512, .f32⟩
  | 62 => ⟨S512, .f32⟩
  | 63 => ⟨S1x1x512, .f32⟩
  | 64 => ⟨S2x4096x512, .f32⟩
  | 65 => ⟨S2x4096x512, .f32⟩
  | 66 => ⟨S2x4096x512, .f32⟩
  | 67 => ⟨S2x4096x512, .f32⟩
  | 68 => ⟨S1x512, .f32⟩
  | 69 => ⟨S512, .f32⟩
  | 70 => ⟨S1x1x512, .f32⟩
  | 71 => ⟨S2x4096x512, .f32⟩
  | 72 => ⟨S2x4096x512, .f32⟩
  | 73 => ⟨S2x4096x512, .f32⟩
  | 74 => ⟨S2x4096x512, .f32⟩
  | 75 => ⟨S1x512, .f32⟩
  | 76 => ⟨S512, .f32⟩
  | 77 => ⟨S1x1x512, .f32⟩
  | 78 => ⟨S2x4096x512, .f32⟩
  | 79 => ⟨S2x4096x512, .f32⟩
  | 80 => ⟨S2x4096x512, .f32⟩
  | 81 => ⟨S2x4096x512, .f32⟩
  | 82 => ⟨S1x512, .f32⟩
  | 83 => ⟨S512, .f32⟩
  | 84 => ⟨S1x1x512, .f32⟩
  | 85 => ⟨S2x4096x512, .f32⟩
  | 86 => ⟨S2x4096x512, .f32⟩
  | 87 => ⟨S2x4096x512, .f32⟩
  | 88 => ⟨S2x4096x512, .f32⟩
  | 89 => ⟨S1x512, .f32⟩
  | 90 => ⟨S512, .f32⟩
  | 91 => ⟨S1x1x512, .f32⟩
  | 92 => ⟨S2x4096x512, .f32⟩
  | 93 => ⟨S2x4096x512, .f32⟩
  | 94 => ⟨S2x4096x512, .f32⟩
  | 95 => ⟨S2x4096x512, .f32⟩
  | 96 => ⟨S1x512, .f32⟩
  | 97 => ⟨S512, .f32⟩
  | 98 => ⟨S1x1x512, .f32⟩
  | 99 => ⟨S2x4096x512, .f32⟩
  | 100 => ⟨S2x4096x512, .f32⟩
  | 101 => ⟨S2x4096x512, .f32⟩
  | 102 => ⟨S2x4096x512, .f32⟩
  | 103 => ⟨S1x512, .f32⟩
  | 104 => ⟨S512, .f32⟩
  | 105 => ⟨S1x1x512, .f32⟩
  | 106 => ⟨S2x4096x512, .f32⟩
  | 107 => ⟨S2x4096x512, .f32⟩
  | 108 => ⟨S2x4096x512, .f32⟩
  | 109 => ⟨S2x4096x512, .f32⟩
  | 110 => ⟨S1x512, .f32⟩
  | 111 => ⟨S512, .f32⟩
  | 112 => ⟨S1x1x512, .f32⟩
  | 113 => ⟨S2x4096x512, .f32⟩
  | 114 => ⟨S2x4096x512, .f32⟩
  | 115 => ⟨S2x4096x512, .f32⟩
  | 116 => ⟨S8192x512, .f32⟩
  | 117 => ⟨S2x4096x512, .f32⟩
  | 118 => ⟨S2x4096x512, .f32⟩
  | 119 => ⟨S_, .f32⟩
  | 120 => ⟨S512, .f32⟩
  | 121 => ⟨S1x1x512, .f32⟩
  | 122 => ⟨S2x4096x512, .f32⟩
  | 123 => ⟨S2x4096x512, .f32⟩
  | 124 => ⟨S_, .f32⟩
  | 125 => ⟨S512, .f32⟩
  | 126 => ⟨S1x512, .f32⟩
  | 127 => ⟨S_, .f32⟩
  | _ => ⟨S8192x1536, .f32⟩

abbrev hbmTy0_2 (i : Nat) : BufTy := match i % 128 with
  | 0 => ⟨S31x512, .f32⟩
  | 1 => ⟨S_, .f32⟩
  | 2 => ⟨S2x4126x512, .f32⟩
  | 3 => ⟨S2x4096x512, .f32⟩
  | 4 => ⟨S_, .f32⟩
  | 5 => ⟨S512, .f32⟩
  | 6 => ⟨S1x1x512, .f32⟩
  | 7 => ⟨S2x4096x512, .f32⟩
  | 8 => ⟨S2x4096x512, .f32⟩
  | 9 => ⟨S_, .f32⟩
  | 10 => ⟨S512, .f32⟩
  | 11 => ⟨S1x512, .f32⟩
  | 12 => ⟨S_, .f32⟩
  | 13 => ⟨S31x512, .f32⟩
  | 14 => ⟨S31x512, .f32⟩
  | 15 => ⟨S_, .f32⟩
  | 16 => ⟨S2x4126x512, .f32⟩
  | 17 => ⟨S2x4126x512, .f32⟩
  | 18 => ⟨S2x4096x512, .f32⟩
  | 19 => ⟨S_, .f32⟩
  | 20 => ⟨S512, .f32⟩
  | 21 => ⟨S1x1x512, .f32⟩
  | 22 => ⟨S2x4096x512, .f32⟩
  | 23 => ⟨S2x4096x512, .f32⟩
  | 24 => ⟨S_, .f32⟩
  | 25 => ⟨S512, .f32⟩
  | 26 => ⟨S1x512, .f32⟩
  | 27 => ⟨S_, .f32⟩
  | 28 => ⟨S31x512, .f32⟩
  | 29 => ⟨S31x512, .f32⟩
  | 30 => ⟨S_, .f32⟩
  | 31 => ⟨S2x4126x512, .f32⟩
  | 32 => ⟨S2x4126x512, .f32⟩
  | 33 => ⟨S2x4096x512, .f32⟩
  | 34 => ⟨S_, .f32⟩
  | 35 => ⟨S512, .f32⟩
  | 36 => ⟨S1x1x512, .f32⟩
  | 37 => ⟨S2x4096x512, .f32⟩
  | 38 => ⟨S2x4096x512, .f32⟩
  | 39 => ⟨S_, .f32⟩
  | 40 => ⟨S512, .f32⟩
  | 41 => ⟨S1x512, .f32⟩
  | 42 => ⟨S_, .f32⟩
  | 43 => ⟨S31x512, .f32⟩
  | 44 => ⟨S31x512, .f32⟩
  | 45 => ⟨S_, .f32⟩
  | 46 => ⟨S2x4126x512, .f32⟩
  | 47 => ⟨S2x4126x512, .f32⟩
  | 48 => ⟨S2x4096x512, .f32⟩
  | 49 => ⟨S_, .f32⟩
  | 50 => ⟨S512, .f32⟩
  | 51 => ⟨S1x1x512, .f32⟩
  | 52 => ⟨S2x4096x512, .f32⟩
  | 53 => ⟨S2x4096x512, .f32⟩
  | 54 => ⟨S_, .f32⟩
  | 55 => ⟨S512, .f32⟩
  | 56 => ⟨S1x512, .f32⟩
  | 57 => ⟨S_, .f32⟩
  | 58 => ⟨S31x512, .f32⟩
  | 59 => ⟨S31x512, .f32⟩
  | 60 => ⟨S_, .f32⟩
  | 61 => ⟨S2x4126x512, .f32⟩
  | 62 => ⟨S2x4126x512, .f32⟩
  | 63 => ⟨S2x4096x512, .f32⟩
  | 64 => ⟨S_, .f32⟩
  | 65 => ⟨S512, .f32⟩
  | 66 => ⟨S1x1x512, .f32⟩
  | 67 => ⟨S2x4096x512, .f32⟩
  | 68 => ⟨S2x4096x512, .f32⟩
  | 69 => ⟨S_, .f32⟩
  | 70 => ⟨S512, .f32⟩
  | 71 => ⟨S1x512, .f32⟩
  | 72 => ⟨S_, .f32⟩
  | 73 => ⟨S31x512, .f32⟩
  | 74 => ⟨S31x512, .f32⟩
  | 75 => ⟨S_, .f32⟩
  | 76 => ⟨S2x4126x512, .f32⟩
  | 77 => ⟨S2x4126x512, .f32⟩
  | 78 => ⟨S2x4096x512, .f32⟩
  | 79 => ⟨S_, .f32⟩
  | 80 => ⟨S512, .f32⟩
  | 81 => ⟨S1x1x512, .f32⟩
  | 82 => ⟨S2x4096x512, .f32⟩
  | 83 => ⟨S2x4096x512, .f32⟩
  | 84 => ⟨S_, .f32⟩
  | 85 => ⟨S512, .f32⟩
  | 86 => ⟨S1x512, .f32⟩
  | 87 => ⟨S_, .f32⟩
  | 88 => ⟨S31x512, .f32⟩
  | 89 => ⟨S31x512, .f32⟩
  | 90 => ⟨S_, .f32⟩
  | 91 => ⟨S2x4126x512, .f32⟩
  | 92 => ⟨S2x4126x512, .f32⟩
  | 93 => ⟨S2x4096x512, .f32⟩
  | 94 => ⟨S_, .f32⟩
  | 95 => ⟨S512, .f32⟩
  | 96 => ⟨S1x1x512, .f32⟩
  | 97 => ⟨S2x4096x512, .f32⟩
  | 98 => ⟨S2x4096x512, .f32⟩
  | 99 => ⟨S_, .f32⟩
  | 100 => ⟨S512, .f32⟩
  | 101 => ⟨S1x512, .f32⟩
  | 102 => ⟨S_, .f32⟩
  | 103 => ⟨S31x512, .f32⟩
  | 104 => ⟨S31x512, .f32⟩
  | 105 => ⟨S_, .f32⟩
  | 106 => ⟨S2x4126x512, .f32⟩
  | 107 => ⟨S2x4126x512, .f32⟩
  | 108 => ⟨S2x4096x512, .f32⟩
  | 109 => ⟨S_, .f32⟩
  | 110 => ⟨S512, .f32⟩
  | 111 => ⟨S1x1x512, .f32⟩
  | 112 => ⟨S2x4096x512, .f32⟩
  | 113 => ⟨S2x4096x512, .f32⟩
  | 114 => ⟨S_, .f32⟩
  | 115 => ⟨S512, .f32⟩
  | 116 => ⟨S1x512, .f32⟩
  | 117 => ⟨S_, .f32⟩
  | 118 => ⟨S31x512, .f32⟩
  | 119 => ⟨S31x512, .f32⟩
  | 120 => ⟨S_, .f32⟩
  | 121 => ⟨S2x4126x512, .f32⟩
  | 122 => ⟨S2x4126x512, .f32⟩
  | 123 => ⟨S2x4096x512, .f32⟩
  | 124 => ⟨S_, .f32⟩
  | 125 => ⟨S512, .f32⟩
  | 126 => ⟨S1x1x512, .f32⟩
  | 127 => ⟨S2x4096x512, .f32⟩
  | _ => ⟨S8192x1536, .f32⟩

abbrev hbmTy0_3 (i : Nat) : BufTy := match i % 128 with
  | 0 => ⟨S2x4096x512, .f32⟩
  | 1 => ⟨S_, .f32⟩
  | 2 => ⟨S512, .f32⟩
  | 3 => ⟨S1x512, .f32⟩
  | 4 => ⟨S_, .f32⟩
  | 5 => ⟨S31x512, .f32⟩
  | 6 => ⟨S31x512, .f32⟩
  | 7 => ⟨S_, .f32⟩
  | 8 => ⟨S2x4126x512, .f32⟩
  | 9 => ⟨S2x4126x512, .f32⟩
  | 10 => ⟨S2x4096x512, .f32⟩
  | 11 => ⟨S_, .f32⟩
  | 12 => ⟨S512, .f32⟩
  | 13 => ⟨S1x1x512, .f32⟩
  | 14 => ⟨S2x4096x512, .f32⟩
  | 15 => ⟨S2x4096x512, .f32⟩
  | 16 => ⟨S_, .f32⟩
  | 17 => ⟨S512, .f32⟩
  | 18 => ⟨S1x512, .f32⟩
  | 19 => ⟨S_, .f32⟩
  | 20 => ⟨S31x512, .f32⟩
  | 21 => ⟨S31x512, .f32⟩
  | 22 => ⟨S_, .f32⟩
  | 23 => ⟨S2x4126x512, .f32⟩
  | 24 => ⟨S2x4126x512, .f32⟩
  | 25 => ⟨S2x4096x512, .f32⟩
  | 26 => ⟨S_, .f32⟩
  | 27 => ⟨S512, .f32⟩
  | 28 => ⟨S1x1x512, .f32⟩
  | 29 => ⟨S2x4096x512, .f32⟩
  | 30 => ⟨S2x4096x512, .f32⟩
  | 31 => ⟨S_, .f32⟩
  | 32 => ⟨S512, .f32⟩
  | 33 => ⟨S1x512, .f32⟩
  | 34 => ⟨S_, .f32⟩
  | 35 => ⟨S31x512, .f32⟩
  | 36 => ⟨S31x512, .f32⟩
  | 37 => ⟨S_, .f32⟩
  | 38 => ⟨S2x4126x512, .f32⟩
  | 39 => ⟨S2x4126x512, .f32⟩
  | 40 => ⟨S2x4096x512, .f32⟩
  | 41 => ⟨S_, .f32⟩
  | 42 => ⟨S512, .f32⟩
  | 43 => ⟨S1x1x512, .f32⟩
  | 44 => ⟨S2x4096x512, .f32⟩
  | 45 => ⟨S2x4096x512, .f32⟩
  | 46 => ⟨S_, .f32⟩
  | 47 => ⟨S512, .f32⟩
  | 48 => ⟨S1x512, .f32⟩
  | 49 => ⟨S_, .f32⟩
  | 50 => ⟨S31x512, .f32⟩
  | 51 => ⟨S31x512, .f32⟩
  | 52 => ⟨S_, .f32⟩
  | 53 => ⟨S2x4126x512, .f32⟩
  | 54 => ⟨S2x4126x512, .f32⟩
  | 55 => ⟨S2x4096x512, .f32⟩
  | 56 => ⟨S_, .f32⟩
  | 57 => ⟨S512, .f32⟩
  | 58 => ⟨S1x1x512, .f32⟩
  | 59 => ⟨S2x4096x512, .f32⟩
  | 60 => ⟨S2x4096x512, .f32⟩
  | 61 => ⟨S_, .f32⟩
  | 62 => ⟨S512, .f32⟩
  | 63 => ⟨S1x512, .f32⟩
  | 64 => ⟨S_, .f32⟩
  | 65 => ⟨S31x512, .f32⟩
  | 66 => ⟨S31x512, .f32⟩
  | 67 => ⟨S_, .f32⟩
  | 68 => ⟨S2x4126x512, .f32⟩
  | 69 => ⟨S2x4126x512, .f32⟩
  | 70 => ⟨S2x4096x512, .f32⟩
  | 71 => ⟨S_, .f32⟩
  | 72 => ⟨S512, .f32⟩
  | 73 => ⟨S1x1x512, .f32⟩
  | 74 => ⟨S2x4096x512, .f32⟩
  | 75 => ⟨S2x4096x512, .f32⟩
  | 76 => ⟨S_, .f32⟩
  | 77 => ⟨S512, .f32⟩
  | 78 => ⟨S1x512, .f32⟩
  | 79 => ⟨S_, .f32⟩
  | 80 => ⟨S31x512, .f32⟩
  | 81 => ⟨S31x512, .f32⟩
  | 82 => ⟨S_, .f32⟩
  | 83 => ⟨S2x4126x512, .f32⟩
  | 84 => ⟨S2x4126x512, .f32⟩
  | 85 => ⟨S2x4096x512, .f32⟩
  | 86 => ⟨S_, .f32⟩
  | 87 => ⟨S512, .f32⟩
  | 88 => ⟨S1x1x512, .f32⟩
  | 89 => ⟨S2x4096x512, .f32⟩
  | 90 => ⟨S2x4096x512, .f32⟩
  | 91 => ⟨S_, .f32⟩
  | 92 => ⟨S512, .f32⟩
  | 93 => ⟨S1x512, .f32⟩
  | 94 => ⟨S_, .f32⟩
  | 95 => ⟨S31x512, .f32⟩
  | 96 => ⟨S31x512, .f32⟩
  | 97 => ⟨S_, .f32⟩
  | 98 => ⟨S2x4126x512, .f32⟩
  | 99 => ⟨S2x4126x512, .f32⟩
  | 100 => ⟨S2x4096x512, .f32⟩
  | 101 => ⟨S_, .f32⟩
  | 102 => ⟨S512, .f32⟩
  | 103 => ⟨S1x1x512, .f32⟩
  | 104 => ⟨S2x4096x512, .f32⟩
  | 105 => ⟨S2x4096x512, .f32⟩
  | 106 => ⟨S_, .f32⟩
  | 107 => ⟨S512, .f32⟩
  | 108 => ⟨S1x512, .f32⟩
  | 109 => ⟨S_, .f32⟩
  | 110 => ⟨S31x512, .f32⟩
  | 111 => ⟨S31x512, .f32⟩
  | 112 => ⟨S_, .f32⟩
  | 113 => ⟨S2x4126x512, .f32⟩
  | 114 => ⟨S2x4126x512, .f32⟩
  | 115 => ⟨S2x4096x512, .f32⟩
  | 116 => ⟨S_, .f32⟩
  | 117 => ⟨S512, .f32⟩
  | 118 => ⟨S1x1x512, .f32⟩
  | 119 => ⟨S2x4096x512, .f32⟩
  | 120 => ⟨S2x4096x512, .f32⟩
  | 121 => ⟨S_, .f32⟩
  | 122 => ⟨S512, .f32⟩
  | 123 => ⟨S1x512, .f32⟩
  | 124 => ⟨S_, .f32⟩
  | 125 => ⟨S31x512, .f32⟩
  | 126 => ⟨S31x512, .f32⟩
  | 127 => ⟨S_, .f32⟩
  | _ => ⟨S8192x1536, .f32⟩

abbrev hbmTy0_4 (i : Nat) : BufTy := match i % 128 with
  | 0 => ⟨S2x4126x512, .f32⟩
  | 1 => ⟨S2x4126x512, .f32⟩
  | 2 => ⟨S2x4096x512, .f32⟩
  | 3 => ⟨S_, .f32⟩
  | 4 => ⟨S512, .f32⟩
  | 5 => ⟨S1x1x512, .f32⟩
  | 6 => ⟨S2x4096x512, .f32⟩
  | 7 => ⟨S2x4096x512, .f32⟩
  | 8 => ⟨S_, .f32⟩
  | 9 => ⟨S512, .f32⟩
  | 10 => ⟨S1x512, .f32⟩
  | 11 => ⟨S_, .f32⟩
  | 12 => ⟨S31x512, .f32⟩
  | 13 => ⟨S31x512, .f32⟩
  | 14 => ⟨S_, .f32⟩
  | 15 => ⟨S2x4126x512, .f32⟩
  | 16 => ⟨S2x4126x512, .f32⟩
  | 17 => ⟨S2x4096x512, .f32⟩
  | 18 => ⟨S_, .f32⟩
  | 19 => ⟨S512, .f32⟩
  | 20 => ⟨S1x1x512, .f32⟩
  | 21 => ⟨S2x4096x512, .f32⟩
  | 22 => ⟨S2x4096x512, .f32⟩
  | 23 => ⟨S_, .f32⟩
  | 24 => ⟨S512, .f32⟩
  | 25 => ⟨S1x512, .f32⟩
  | 26 => ⟨S_, .f32⟩
  | 27 => ⟨S31x512, .f32⟩
  | 28 => ⟨S31x512, .f32⟩
  | 29 => ⟨S_, .f32⟩
  | 30 => ⟨S2x4126x512, .f32⟩
  | 31 => ⟨S2x4126x512, .f32⟩
  | 32 => ⟨S2x4096x512, .f32⟩
  | 33 => ⟨S_, .f32⟩
  | 34 => ⟨S512, .f32⟩
  | 35 => ⟨S1x1x512, .f32⟩
  | 36 => ⟨S2x4096x512, .f32⟩
  | 37 => ⟨S2x4096x512, .f32⟩
  | 38 => ⟨S_, .f32⟩
  | 39 => ⟨S512, .f32⟩
  | 40 => ⟨S1x512, .f32⟩
  | 41 => ⟨S_, .f32⟩
  | 42 => ⟨S31x512, .f32⟩
  | 43 => ⟨S31x512, .f32⟩
  | 44 => ⟨S_, .f32⟩
  | 45 => ⟨S2x4126x512, .f32⟩
  | 46 => ⟨S2x4126x512, .f32⟩
  | 47 => ⟨S2x4096x512, .f32⟩
  | 48 => ⟨S_, .f32⟩
  | 49 => ⟨S512, .f32⟩
  | 50 => ⟨S1x1x512, .f32⟩
  | 51 => ⟨S2x4096x512, .f32⟩
  | 52 => ⟨S2x4096x512, .f32⟩
  | 53 => ⟨S_, .f32⟩
  | 54 => ⟨S512, .f32⟩
  | 55 => ⟨S1x512, .f32⟩
  | 56 => ⟨S_, .f32⟩
  | 57 => ⟨S31x512, .f32⟩
  | 58 => ⟨S31x512, .f32⟩
  | 59 => ⟨S_, .f32⟩
  | 60 => ⟨S2x4126x512, .f32⟩
  | 61 => ⟨S2x4126x512, .f32⟩
  | 62 => ⟨S2x4096x512, .f32⟩
  | 63 => ⟨S_, .f32⟩
  | 64 => ⟨S512, .f32⟩
  | 65 => ⟨S1x1x512, .f32⟩
  | 66 => ⟨S2x4096x512, .f32⟩
  | 67 => ⟨S2x4096x512, .f32⟩
  | 68 => ⟨S_, .f32⟩
  | 69 => ⟨S512, .f32⟩
  | 70 => ⟨S1x512, .f32⟩
  | 71 => ⟨S_, .f32⟩
  | 72 => ⟨S31x512, .f32⟩
  | 73 => ⟨S31x512, .f32⟩
  | 74 => ⟨S_, .f32⟩
  | 75 => ⟨S2x4126x512, .f32⟩
  | 76 => ⟨S2x4126x512, .f32⟩
  | 77 => ⟨S2x4096x512, .f32⟩
  | 78 => ⟨S_, .f32⟩
  | 79 => ⟨S512, .f32⟩
  | 80 => ⟨S1x1x512, .f32⟩
  | 81 => ⟨S2x4096x512, .f32⟩
  | 82 => ⟨S2x4096x512, .f32⟩
  | 83 => ⟨S_, .f32⟩
  | 84 => ⟨S512, .f32⟩
  | 85 => ⟨S1x512, .f32⟩
  | 86 => ⟨S_, .f32⟩
  | 87 => ⟨S31x512, .f32⟩
  | 88 => ⟨S31x512, .f32⟩
  | 89 => ⟨S_, .f32⟩
  | 90 => ⟨S2x4126x512, .f32⟩
  | 91 => ⟨S2x4126x512, .f32⟩
  | 92 => ⟨S2x4096x512, .f32⟩
  | 93 => ⟨S_, .f32⟩
  | 94 => ⟨S512, .f32⟩
  | 95 => ⟨S1x1x512, .f32⟩
  | 96 => ⟨S2x4096x512, .f32⟩
  | 97 => ⟨S2x4096x512, .f32⟩
  | 98 => ⟨S_, .f32⟩
  | 99 => ⟨S512, .f32⟩
  | 100 => ⟨S1x512, .f32⟩
  | 101 => ⟨S_, .f32⟩
  | 102 => ⟨S31x512, .f32⟩
  | 103 => ⟨S31x512, .f32⟩
  | 104 => ⟨S_, .f32⟩
  | 105 => ⟨S2x4126x512, .f32⟩
  | 106 => ⟨S2x4126x512, .f32⟩
  | 107 => ⟨S2x4096x512, .f32⟩
  | 108 => ⟨S_, .f32⟩
  | 109 => ⟨S512, .f32⟩
  | 110 => ⟨S1x1x512, .f32⟩
  | 111 => ⟨S2x4096x512, .f32⟩
  | 112 => ⟨S2x4096x512, .f32⟩
  | 113 => ⟨S_, .f32⟩
  | 114 => ⟨S512, .f32⟩
  | 115 => ⟨S1x512, .f32⟩
  | 116 => ⟨S_, .f32⟩
  | 117 => ⟨S31x512, .f32⟩
  | 118 => ⟨S31x512, .f32⟩
  | 119 => ⟨S_, .f32⟩
  | 120 => ⟨S2x4126x512, .f32⟩
  | 121 => ⟨S2x4126x512, .f32⟩
  | 122 => ⟨S2x4096x512, .f32⟩
  | 123 => ⟨S_, .f32⟩
  | 124 => ⟨S512, .f32⟩
  | 125 => ⟨S1x1x512, .f32⟩
  | 126 => ⟨S2x4096x512, .f32⟩
  | 127 => ⟨S2x4096x512, .f32⟩
  | _ => ⟨S8192x1536, .f32⟩

abbrev hbmTy0_5 (i : Nat) : BufTy := match i % 128 with
  | 0 => ⟨S_, .f32⟩
  | 1 => ⟨S512, .f32⟩
  | 2 => ⟨S1x512, .f32⟩
  | 3 => ⟨S_, .f32⟩
  | 4 => ⟨S31x512, .f32⟩
  | 5 => ⟨S31x512, .f32⟩
  | 6 => ⟨S_, .f32⟩
  | 7 => ⟨S2x4126x512, .f32⟩
  | 8 => ⟨S2x4126x512, .f32⟩
  | 9 => ⟨S2x4096x512, .f32⟩
  | 10 => ⟨S_, .f32⟩
  | 11 => ⟨S512, .f32⟩
  | 12 => ⟨S1x1x512, .f32⟩
  | 13 => ⟨S2x4096x512, .f32⟩
  | 14 => ⟨S2x4096x512, .f32⟩
  | 15 => ⟨S_, .f32⟩
  | 16 => ⟨S512, .f32⟩
  | 17 => ⟨S1x512, .f32⟩
  | 18 => ⟨S_, .f32⟩
  | 19 => ⟨S31x512, .f32⟩
  | 20 => ⟨S31x512, .f32⟩
  | 21 => ⟨S_, .f32⟩
  | 22 => ⟨S2x4126x512, .f32⟩
  | 23 => ⟨S2x4126x512, .f32⟩
  | 24 => ⟨S2x4096x512, .f32⟩
  | 25 => ⟨S_, .f32⟩
  | 26 => ⟨S512, .f32⟩
  | 27 => ⟨S1x1x512, .f32⟩
  | 28 => ⟨S2x4096x512, .f32⟩
  | 29 => ⟨S2x4096x512, .f32⟩
  | 30 => ⟨S_, .f32⟩
  | 31 => ⟨S512, .f32⟩
  | 32 => ⟨S1x512, .f32⟩
  | 33 => ⟨S_, .f32⟩
  | 34 => ⟨S31x512, .f32⟩
  | 35 => ⟨S31x512, .f32⟩
  | 36 => ⟨S_, .f32⟩
  | 37 => ⟨S2x4126x512, .f32⟩
  | 38 => ⟨S2x4126x512, .f32⟩
  | 39 => ⟨S2x4096x512, .f32⟩
  | 40 => ⟨S_, .f32⟩
  | 41 => ⟨S512, .f32⟩
  | 42 => ⟨S1x1x512, .f32⟩
  | 43 => ⟨S2x4096x512, .f32⟩
  | 44 => ⟨S2x4096x512, .f32⟩
  | 45 => ⟨S_, .f32⟩
  | 46 => ⟨S512, .f32⟩
  | 47 => ⟨S1x512, .f32⟩
  | 48 => ⟨S_, .f32⟩
  | 49 => ⟨S31x512, .f32⟩
  | 50 => ⟨S31x512, .f32⟩
  | 51 => ⟨S_, .f32⟩
  | 52 => ⟨S2x4126x512, .f32⟩
  | 53 => ⟨S2x4126x512, .f32⟩
  | 54 => ⟨S2x4096x512, .f32⟩
  | 55 => ⟨S_, .f32⟩
  | 56 => ⟨S512, .f32⟩
  | 57 => ⟨S1x1x512, .f32⟩
  | 58 => ⟨S2x4096x512, .f32⟩
  | 59 => ⟨S2x4096x512, .f32⟩
  | 60 => ⟨S_, .f32⟩
  | 61 => ⟨S512, .f32⟩
  | 62 => ⟨S1x512, .f32⟩
  | 63 => ⟨S_, .f32⟩
  | 64 => ⟨S31x512, .f32⟩
  | 65 => ⟨S31x512, .f32⟩
  | 66 => ⟨S_, .f32⟩
  | 67 => ⟨S2x4126x512, .f32⟩
  | 68 => ⟨S2x4126x512, .f32⟩
  | 69 => ⟨S2x30x512, .f32⟩
  | 70 => ⟨S2x4096x512, .f32⟩
  | 71 => ⟨S8192x512, .f32⟩
  | 72 => ⟨S8192x512, .f32⟩
  | 73 => ⟨S8192x512, .f32⟩
  | 74 => ⟨S8192x512, .f32⟩
  | 75 => ⟨S_, .i32⟩
  | 76 => ⟨S_, .f32⟩
  | 77 => ⟨S32x512, .f32⟩
  | _ => ⟨S8192x1536, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_cst_5 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_cst_6 : Ref sig .tc := ⟨.hbm, 252, rfl⟩
abbrev main_v242 : Ref sig .tc := ⟨.hbm, 253, rfl⟩
abbrev main_v243 : Ref sig .tc := ⟨.hbm, 254, rfl⟩
abbrev main_cst_7 : Ref sig .tc := ⟨.hbm, 255, rfl⟩
abbrev main_v244 : Ref sig .tc := ⟨.hbm, 256, rfl⟩
abbrev main_cst_8 : Ref sig .tc := ⟨.hbm, 257, rfl⟩
abbrev main_v245 : Ref sig .tc := ⟨.hbm, 258, rfl⟩
abbrev main_v246 : Ref sig .tc := ⟨.hbm, 259, rfl⟩
abbrev main_cst_9 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_cst_10 : Ref sig .tc := ⟨.hbm, 265, rfl⟩
abbrev main_v251 : Ref sig .tc := ⟨.hbm, 266, rfl⟩
abbrev main_v252 : Ref sig .tc := ⟨.hbm, 267, rfl⟩
abbrev main_cst_11 : Ref sig .tc := ⟨.hbm, 268, rfl⟩
abbrev main_v253 : Ref sig .tc := ⟨.hbm, 269, rfl⟩
abbrev main_v254 : Ref sig .tc := ⟨.hbm, 270, rfl⟩
abbrev main_cst_12 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_cst_13 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_cst_14 : Ref sig .tc := ⟨.hbm, 280, rfl⟩
abbrev main_v262 : Ref sig .tc := ⟨.hbm, 281, rfl⟩
abbrev main_v263 : Ref sig .tc := ⟨.hbm, 282, rfl⟩
abbrev main_cst_15 : Ref sig .tc := ⟨.hbm, 283, rfl⟩
abbrev main_v264 : Ref sig .tc := ⟨.hbm, 284, rfl⟩
abbrev main_v265 : Ref sig .tc := ⟨.hbm, 285, rfl⟩
abbrev main_cst_16 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_cst_17 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_cst_18 : Ref sig .tc := ⟨.hbm, 295, rfl⟩
abbrev main_v273 : Ref sig .tc := ⟨.hbm, 296, rfl⟩
abbrev main_v274 : Ref sig .tc := ⟨.hbm, 297, rfl⟩
abbrev main_cst_19 : Ref sig .tc := ⟨.hbm, 298, rfl⟩
abbrev main_v275 : Ref sig .tc := ⟨.hbm, 299, rfl⟩
abbrev main_v276 : Ref sig .tc := ⟨.hbm, 300, rfl⟩
abbrev main_cst_20 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_cst_21 : Ref sig .tc := ⟨.hbm, 305, rfl⟩
abbrev main_v280 : Ref sig .tc := ⟨.hbm, 306, rfl⟩
abbrev main_v281 : Ref sig .tc := ⟨.hbm, 307, rfl⟩
abbrev main_v282 : Ref sig .tc := ⟨.hbm, 308, rfl⟩
abbrev main_v283 : Ref sig .tc := ⟨.hbm, 309, rfl⟩
abbrev main_cst_22 : Ref sig .tc := ⟨.hbm, 310, rfl⟩
abbrev main_v284 : Ref sig .tc := ⟨.hbm, 311, rfl⟩
abbrev main_v285 : Ref sig .tc := ⟨.hbm, 312, rfl⟩
abbrev main_cst_23 : Ref sig .tc := ⟨.hbm, 313, rfl⟩
abbrev main_v286 : Ref sig .tc := ⟨.hbm, 314, rfl⟩
abbrev main_v287 : Ref sig .tc := ⟨.hbm, 315, rfl⟩
abbrev main_cst_24 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_cst_25 : Ref sig .tc := ⟨.hbm, 320, rfl⟩
abbrev main_v291 : Ref sig .tc := ⟨.hbm, 321, rfl⟩
abbrev main_v292 : Ref sig .tc := ⟨.hbm, 322, rfl⟩
abbrev main_v293 : Ref sig .tc := ⟨.hbm, 323, rfl⟩
abbrev main_v294 : Ref sig .tc := ⟨.hbm, 324, rfl⟩
abbrev main_cst_26 : Ref sig .tc := ⟨.hbm, 325, rfl⟩
abbrev main_v295 : Ref sig .tc := ⟨.hbm, 326, rfl⟩
abbrev main_v296 : Ref sig .tc := ⟨.hbm, 327, rfl⟩
abbrev main_cst_27 : Ref sig .tc := ⟨.hbm, 328, rfl⟩
abbrev main_v297 : Ref sig .tc := ⟨.hbm, 329, rfl⟩
abbrev main_v298 : Ref sig .tc := ⟨.hbm, 330, rfl⟩
abbrev main_cst_28 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_29 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_cst_30 : Ref sig .tc := ⟨.hbm, 340, rfl⟩
abbrev main_v306 : Ref sig .tc := ⟨.hbm, 341, rfl⟩
abbrev main_v307 : Ref sig .tc := ⟨.hbm, 342, rfl⟩
abbrev main_cst_31 : Ref sig .tc := ⟨.hbm, 343, rfl⟩
abbrev main_v308 : Ref sig .tc := ⟨.hbm, 344, rfl⟩
abbrev main_v309 : Ref sig .tc := ⟨.hbm, 345, rfl⟩
abbrev main_cst_32 : Ref sig .tc := ⟨.hbm, 346, rfl⟩
abbrev main_v310 : Ref sig .tc := ⟨.hbm, 347, rfl⟩
abbrev main_v311 : Ref sig .tc := ⟨.hbm, 348, rfl⟩
abbrev main_v312 : Ref sig .tc := ⟨.hbm, 349, rfl⟩
abbrev main_cst_33 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_cst_34 : Ref sig .tc := ⟨.hbm, 355, rfl⟩
abbrev main_v317 : Ref sig .tc := ⟨.hbm, 356, rfl⟩
abbrev main_v318 : Ref sig .tc := ⟨.hbm, 357, rfl⟩
abbrev main_cst_35 : Ref sig .tc := ⟨.hbm, 358, rfl⟩
abbrev main_v319 : Ref sig .tc := ⟨.hbm, 359, rfl⟩
abbrev main_v320 : Ref sig .tc := ⟨.hbm, 360, rfl⟩
abbrev main_cst_36 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_cst_37 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_cst_38 : Ref sig .tc := ⟨.hbm, 370, rfl⟩
abbrev main_v328 : Ref sig .tc := ⟨.hbm, 371, rfl⟩
abbrev main_v329 : Ref sig .tc := ⟨.hbm, 372, rfl⟩
abbrev main_cst_39 : Ref sig .tc := ⟨.hbm, 373, rfl⟩
abbrev main_v330 : Ref sig .tc := ⟨.hbm, 374, rfl⟩
abbrev main_v331 : Ref sig .tc := ⟨.hbm, 375, rfl⟩
abbrev main_cst_40 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_cst_41 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_cst_42 : Ref sig .tc := ⟨.hbm, 385, rfl⟩
abbrev main_v339 : Ref sig .tc := ⟨.hbm, 386, rfl⟩
abbrev main_v340 : Ref sig .tc := ⟨.hbm, 387, rfl⟩
abbrev main_cst_43 : Ref sig .tc := ⟨.hbm, 388, rfl⟩
abbrev main_v341 : Ref sig .tc := ⟨.hbm, 389, rfl⟩
abbrev main_v342 : Ref sig .tc := ⟨.hbm, 390, rfl⟩
abbrev main_cst_44 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_cst_45 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_cst_46 : Ref sig .tc := ⟨.hbm, 400, rfl⟩
abbrev main_v350 : Ref sig .tc := ⟨.hbm, 401, rfl⟩
abbrev main_v351 : Ref sig .tc := ⟨.hbm, 402, rfl⟩
abbrev main_cst_47 : Ref sig .tc := ⟨.hbm, 403, rfl⟩
abbrev main_v352 : Ref sig .tc := ⟨.hbm, 404, rfl⟩
abbrev main_v353 : Ref sig .tc := ⟨.hbm, 405, rfl⟩
abbrev main_cst_48 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_cst_49 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_cst_50 : Ref sig .tc := ⟨.hbm, 415, rfl⟩
abbrev main_v361 : Ref sig .tc := ⟨.hbm, 416, rfl⟩
abbrev main_v362 : Ref sig .tc := ⟨.hbm, 417, rfl⟩
abbrev main_cst_51 : Ref sig .tc := ⟨.hbm, 418, rfl⟩
abbrev main_v363 : Ref sig .tc := ⟨.hbm, 419, rfl⟩
abbrev main_v364 : Ref sig .tc := ⟨.hbm, 420, rfl⟩
abbrev main_cst_52 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_cst_53 : Ref sig .tc := ⟨.hbm, 425, rfl⟩
abbrev main_v368 : Ref sig .tc := ⟨.hbm, 426, rfl⟩
abbrev main_v369 : Ref sig .tc := ⟨.hbm, 427, rfl⟩
abbrev main_v370 : Ref sig .tc := ⟨.hbm, 428, rfl⟩
abbrev main_v371 : Ref sig .tc := ⟨.hbm, 429, rfl⟩
abbrev main_cst_54 : Ref sig .tc := ⟨.hbm, 430, rfl⟩
abbrev main_v372 : Ref sig .tc := ⟨.hbm, 431, rfl⟩
abbrev main_v373 : Ref sig .tc := ⟨.hbm, 432, rfl⟩
abbrev main_cst_55 : Ref sig .tc := ⟨.hbm, 433, rfl⟩
abbrev main_v374 : Ref sig .tc := ⟨.hbm, 434, rfl⟩
abbrev main_v375 : Ref sig .tc := ⟨.hbm, 435, rfl⟩
abbrev main_cst_56 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_cst_57 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_cst_58 : Ref sig .tc := ⟨.hbm, 445, rfl⟩
abbrev main_v383 : Ref sig .tc := ⟨.hbm, 446, rfl⟩
abbrev main_v384 : Ref sig .tc := ⟨.hbm, 447, rfl⟩
abbrev main_cst_59 : Ref sig .tc := ⟨.hbm, 448, rfl⟩
abbrev main_v385 : Ref sig .tc := ⟨.hbm, 449, rfl⟩
abbrev main_v386 : Ref sig .tc := ⟨.hbm, 450, rfl⟩
abbrev main_cst_60 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_cst_61 : Ref sig .tc := ⟨.hbm, 455, rfl⟩
abbrev main_v390 : Ref sig .tc := ⟨.hbm, 456, rfl⟩
abbrev main_v391 : Ref sig .tc := ⟨.hbm, 457, rfl⟩
abbrev main_v392 : Ref sig .tc := ⟨.hbm, 458, rfl⟩
abbrev main_v393 : Ref sig .tc := ⟨.hbm, 459, rfl⟩
abbrev main_cst_62 : Ref sig .tc := ⟨.hbm, 460, rfl⟩
abbrev main_v394 : Ref sig .tc := ⟨.hbm, 461, rfl⟩
abbrev main_v395 : Ref sig .tc := ⟨.hbm, 462, rfl⟩
abbrev main_cst_63 : Ref sig .tc := ⟨.hbm, 463, rfl⟩
abbrev main_v396 : Ref sig .tc := ⟨.hbm, 464, rfl⟩
abbrev main_v397 : Ref sig .tc := ⟨.hbm, 465, rfl⟩
abbrev main_cst_64 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_cst_65 : Ref sig .tc := ⟨.hbm, 470, rfl⟩
abbrev main_v401 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_cst_66 : Ref sig .tc := ⟨.hbm, 475, rfl⟩
abbrev main_v405 : Ref sig .tc := ⟨.hbm, 476, rfl⟩
abbrev main_v406 : Ref sig .tc := ⟨.hbm, 477, rfl⟩
abbrev main_cst_67 : Ref sig .tc := ⟨.hbm, 478, rfl⟩
abbrev main_v407 : Ref sig .tc := ⟨.hbm, 479, rfl⟩
abbrev main_v408 : Ref sig .tc := ⟨.hbm, 480, rfl⟩
abbrev main_cst_68 : Ref sig .tc := ⟨.hbm, 481, rfl⟩
abbrev main_v409 : Ref sig .tc := ⟨.hbm, 482, rfl⟩
abbrev main_v410 : Ref sig .tc := ⟨.hbm, 483, rfl⟩
abbrev main_v411 : Ref sig .tc := ⟨.hbm, 484, rfl⟩
abbrev main_cst_69 : Ref sig .tc := ⟨.hbm, 485, rfl⟩
abbrev main_v412 : Ref sig .tc := ⟨.hbm, 486, rfl⟩
abbrev main_v413 : Ref sig .tc := ⟨.hbm, 487, rfl⟩
abbrev main_v414 : Ref sig .tc := ⟨.hbm, 488, rfl⟩
abbrev main_v415 : Ref sig .tc := ⟨.hbm, 489, rfl⟩
abbrev main_cst_70 : Ref sig .tc := ⟨.hbm, 490, rfl⟩
abbrev main_v416 : Ref sig .tc := ⟨.hbm, 491, rfl⟩
abbrev main_v417 : Ref sig .tc := ⟨.hbm, 492, rfl⟩
abbrev main_cst_71 : Ref sig .tc := ⟨.hbm, 493, rfl⟩
abbrev main_v418 : Ref sig .tc := ⟨.hbm, 494, rfl⟩
abbrev main_v419 : Ref sig .tc := ⟨.hbm, 495, rfl⟩
abbrev main_cst_72 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_cst_73 : Ref sig .tc := ⟨.hbm, 500, rfl⟩
abbrev main_v423 : Ref sig .tc := ⟨.hbm, 501, rfl⟩
abbrev main_v424 : Ref sig .tc := ⟨.hbm, 502, rfl⟩
abbrev main_v425 : Ref sig .tc := ⟨.hbm, 503, rfl⟩
abbrev main_v426 : Ref sig .tc := ⟨.hbm, 504, rfl⟩
abbrev main_cst_74 : Ref sig .tc := ⟨.hbm, 505, rfl⟩
abbrev main_v427 : Ref sig .tc := ⟨.hbm, 506, rfl⟩
abbrev main_v428 : Ref sig .tc := ⟨.hbm, 507, rfl⟩
abbrev main_cst_75 : Ref sig .tc := ⟨.hbm, 508, rfl⟩
abbrev main_v429 : Ref sig .tc := ⟨.hbm, 509, rfl⟩
abbrev main_v430 : Ref sig .tc := ⟨.hbm, 510, rfl⟩
abbrev main_cst_76 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_cst_77 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_cst_78 : Ref sig .tc := ⟨.hbm, 520, rfl⟩
abbrev main_v438 : Ref sig .tc := ⟨.hbm, 521, rfl⟩
abbrev main_v439 : Ref sig .tc := ⟨.hbm, 522, rfl⟩
abbrev main_cst_79 : Ref sig .tc := ⟨.hbm, 523, rfl⟩
abbrev main_v440 : Ref sig .tc := ⟨.hbm, 524, rfl⟩
abbrev main_v441 : Ref sig .tc := ⟨.hbm, 525, rfl⟩
abbrev main_cst_80 : Ref sig .tc := ⟨.hbm, 526, rfl⟩
abbrev main_v442 : Ref sig .tc := ⟨.hbm, 527, rfl⟩
abbrev main_v443 : Ref sig .tc := ⟨.hbm, 528, rfl⟩
abbrev main_v444 : Ref sig .tc := ⟨.hbm, 529, rfl⟩
abbrev main_cst_81 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_v448 : Ref sig .tc := ⟨.hbm, 534, rfl⟩
abbrev main_cst_82 : Ref sig .tc := ⟨.hbm, 535, rfl⟩
abbrev main_v449 : Ref sig .tc := ⟨.hbm, 536, rfl⟩
abbrev main_v450 : Ref sig .tc := ⟨.hbm, 537, rfl⟩
abbrev main_cst_83 : Ref sig .tc := ⟨.hbm, 538, rfl⟩
abbrev main_v451 : Ref sig .tc := ⟨.hbm, 539, rfl⟩
abbrev main_v452 : Ref sig .tc := ⟨.hbm, 540, rfl⟩
abbrev main_cst_84 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_cst_85 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_cst_86 : Ref sig .tc := ⟨.hbm, 550, rfl⟩
abbrev main_v460 : Ref sig .tc := ⟨.hbm, 551, rfl⟩
abbrev main_v461 : Ref sig .tc := ⟨.hbm, 552, rfl⟩
abbrev main_cst_87 : Ref sig .tc := ⟨.hbm, 553, rfl⟩
abbrev main_v462 : Ref sig .tc := ⟨.hbm, 554, rfl⟩
abbrev main_v463 : Ref sig .tc := ⟨.hbm, 555, rfl⟩
abbrev main_cst_88 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_cst_89 : Ref sig .tc := ⟨.hbm, 560, rfl⟩
abbrev main_v467 : Ref sig .tc := ⟨.hbm, 561, rfl⟩
abbrev main_v468 : Ref sig .tc := ⟨.hbm, 562, rfl⟩
abbrev main_v469 : Ref sig .tc := ⟨.hbm, 563, rfl⟩
abbrev main_v470 : Ref sig .tc := ⟨.hbm, 564, rfl⟩
abbrev main_cst_90 : Ref sig .tc := ⟨.hbm, 565, rfl⟩
abbrev main_v471 : Ref sig .tc := ⟨.hbm, 566, rfl⟩
abbrev main_v472 : Ref sig .tc := ⟨.hbm, 567, rfl⟩
abbrev main_cst_91 : Ref sig .tc := ⟨.hbm, 568, rfl⟩
abbrev main_v473 : Ref sig .tc := ⟨.hbm, 569, rfl⟩
abbrev main_v474 : Ref sig .tc := ⟨.hbm, 570, rfl⟩
abbrev main_cst_92 : Ref sig .tc := ⟨.hbm, 571, rfl⟩
abbrev main_v475 : Ref sig .tc := ⟨.hbm, 572, rfl⟩
abbrev main_v476 : Ref sig .tc := ⟨.hbm, 573, rfl⟩
abbrev main_v477 : Ref sig .tc := ⟨.hbm, 574, rfl⟩
abbrev main_cst_93 : Ref sig .tc := ⟨.hbm, 575, rfl⟩
abbrev main_v478 : Ref sig .tc := ⟨.hbm, 576, rfl⟩
abbrev main_v479 : Ref sig .tc := ⟨.hbm, 577, rfl⟩
abbrev main_v480 : Ref sig .tc := ⟨.hbm, 578, rfl⟩
abbrev main_v481 : Ref sig .tc := ⟨.hbm, 579, rfl⟩
abbrev main_cst_94 : Ref sig .tc := ⟨.hbm, 580, rfl⟩
abbrev main_v482 : Ref sig .tc := ⟨.hbm, 581, rfl⟩
abbrev main_v483 : Ref sig .tc := ⟨.hbm, 582, rfl⟩
abbrev main_cst_95 : Ref sig .tc := ⟨.hbm, 583, rfl⟩
abbrev main_v484 : Ref sig .tc := ⟨.hbm, 584, rfl⟩
abbrev main_v485 : Ref sig .tc := ⟨.hbm, 585, rfl⟩
abbrev main_cst_96 : Ref sig .tc := ⟨.hbm, 586, rfl⟩
abbrev main_v486 : Ref sig .tc := ⟨.hbm, 587, rfl⟩
abbrev main_v487 : Ref sig .tc := ⟨.hbm, 588, rfl⟩
abbrev main_v488 : Ref sig .tc := ⟨.hbm, 589, rfl⟩
abbrev main_cst_97 : Ref sig .tc := ⟨.hbm, 590, rfl⟩
abbrev main_v489 : Ref sig .tc := ⟨.hbm, 591, rfl⟩
abbrev main_v490 : Ref sig .tc := ⟨.hbm, 592, rfl⟩
abbrev main_v491 : Ref sig .tc := ⟨.hbm, 593, rfl⟩
abbrev main_v492 : Ref sig .tc := ⟨.hbm, 594, rfl⟩
abbrev main_cst_98 : Ref sig .tc := ⟨.hbm, 595, rfl⟩
abbrev main_v493 : Ref sig .tc := ⟨.hbm, 596, rfl⟩
abbrev main_v494 : Ref sig .tc := ⟨.hbm, 597, rfl⟩
abbrev main_cst_99 : Ref sig .tc := ⟨.hbm, 598, rfl⟩
abbrev main_v495 : Ref sig .tc := ⟨.hbm, 599, rfl⟩
abbrev main_v496 : Ref sig .tc := ⟨.hbm, 600, rfl⟩
abbrev main_cst_100 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_cst_101 : Ref sig .tc := ⟨.hbm, 605, rfl⟩
abbrev main_v500 : Ref sig .tc := ⟨.hbm, 606, rfl⟩
abbrev main_v501 : Ref sig .tc := ⟨.hbm, 607, rfl⟩
abbrev main_v502 : Ref sig .tc := ⟨.hbm, 608, rfl⟩
abbrev main_v503 : Ref sig .tc := ⟨.hbm, 609, rfl⟩
abbrev main_cst_102 : Ref sig .tc := ⟨.hbm, 610, rfl⟩
abbrev main_v504 : Ref sig .tc := ⟨.hbm, 611, rfl⟩
abbrev main_v505 : Ref sig .tc := ⟨.hbm, 612, rfl⟩
abbrev main_cst_103 : Ref sig .tc := ⟨.hbm, 613, rfl⟩
abbrev main_v506 : Ref sig .tc := ⟨.hbm, 614, rfl⟩
abbrev main_v507 : Ref sig .tc := ⟨.hbm, 615, rfl⟩
abbrev main_cst_104 : Ref sig .tc := ⟨.hbm, 616, rfl⟩
abbrev main_v508 : Ref sig .tc := ⟨.hbm, 617, rfl⟩
abbrev main_v509 : Ref sig .tc := ⟨.hbm, 618, rfl⟩
abbrev main_v510 : Ref sig .tc := ⟨.hbm, 619, rfl⟩
abbrev main_cst_105 : Ref sig .tc := ⟨.hbm, 620, rfl⟩
abbrev main_v511 : Ref sig .tc := ⟨.hbm, 621, rfl⟩
abbrev main_v512 : Ref sig .tc := ⟨.hbm, 622, rfl⟩
abbrev main_v513 : Ref sig .tc := ⟨.hbm, 623, rfl⟩
abbrev main_v514 : Ref sig .tc := ⟨.hbm, 624, rfl⟩
abbrev main_cst_106 : Ref sig .tc := ⟨.hbm, 625, rfl⟩
abbrev main_v515 : Ref sig .tc := ⟨.hbm, 626, rfl⟩
abbrev main_v516 : Ref sig .tc := ⟨.hbm, 627, rfl⟩
abbrev main_cst_107 : Ref sig .tc := ⟨.hbm, 628, rfl⟩
abbrev main_v517 : Ref sig .tc := ⟨.hbm, 629, rfl⟩
abbrev main_v518 : Ref sig .tc := ⟨.hbm, 630, rfl⟩
abbrev main_cst_108 : Ref sig .tc := ⟨.hbm, 631, rfl⟩
abbrev main_v519 : Ref sig .tc := ⟨.hbm, 632, rfl⟩
abbrev main_v520 : Ref sig .tc := ⟨.hbm, 633, rfl⟩
abbrev main_v521 : Ref sig .tc := ⟨.hbm, 634, rfl⟩
abbrev main_cst_109 : Ref sig .tc := ⟨.hbm, 635, rfl⟩
abbrev main_v522 : Ref sig .tc := ⟨.hbm, 636, rfl⟩
abbrev main_v523 : Ref sig .tc := ⟨.hbm, 637, rfl⟩
abbrev main_v524 : Ref sig .tc := ⟨.hbm, 638, rfl⟩
abbrev main_v525 : Ref sig .tc := ⟨.hbm, 639, rfl⟩
abbrev main_cst_110 : Ref sig .tc := ⟨.hbm, 640, rfl⟩
abbrev main_v526 : Ref sig .tc := ⟨.hbm, 641, rfl⟩
abbrev main_v527 : Ref sig .tc := ⟨.hbm, 642, rfl⟩
abbrev main_cst_111 : Ref sig .tc := ⟨.hbm, 643, rfl⟩
abbrev main_v528 : Ref sig .tc := ⟨.hbm, 644, rfl⟩
abbrev main_v529 : Ref sig .tc := ⟨.hbm, 645, rfl⟩
abbrev main_cst_112 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_cst_113 : Ref sig .tc := ⟨.hbm, 650, rfl⟩
abbrev main_v533 : Ref sig .tc := ⟨.hbm, 651, rfl⟩
abbrev main_v534 : Ref sig .tc := ⟨.hbm, 652, rfl⟩
abbrev main_v535 : Ref sig .tc := ⟨.hbm, 653, rfl⟩
abbrev main_v536 : Ref sig .tc := ⟨.hbm, 654, rfl⟩
abbrev main_cst_114 : Ref sig .tc := ⟨.hbm, 655, rfl⟩
abbrev main_v537 : Ref sig .tc := ⟨.hbm, 656, rfl⟩
abbrev main_v538 : Ref sig .tc := ⟨.hbm, 657, rfl⟩
abbrev main_cst_115 : Ref sig .tc := ⟨.hbm, 658, rfl⟩
abbrev main_v539 : Ref sig .tc := ⟨.hbm, 659, rfl⟩
abbrev main_v540 : Ref sig .tc := ⟨.hbm, 660, rfl⟩
abbrev main_cst_116 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_cst_117 : Ref sig .tc := ⟨.hbm, 665, rfl⟩
abbrev main_v544 : Ref sig .tc := ⟨.hbm, 666, rfl⟩
abbrev main_v545 : Ref sig .tc := ⟨.hbm, 667, rfl⟩
abbrev main_v546 : Ref sig .tc := ⟨.hbm, 668, rfl⟩
abbrev main_v547 : Ref sig .tc := ⟨.hbm, 669, rfl⟩
abbrev main_cst_118 : Ref sig .tc := ⟨.hbm, 670, rfl⟩
abbrev main_v548 : Ref sig .tc := ⟨.hbm, 671, rfl⟩
abbrev main_v549 : Ref sig .tc := ⟨.hbm, 672, rfl⟩
abbrev main_cst_119 : Ref sig .tc := ⟨.hbm, 673, rfl⟩
abbrev main_v550 : Ref sig .tc := ⟨.hbm, 674, rfl⟩
abbrev main_v551 : Ref sig .tc := ⟨.hbm, 675, rfl⟩
abbrev main_cst_120 : Ref sig .tc := ⟨.hbm, 676, rfl⟩
abbrev main_v552 : Ref sig .tc := ⟨.hbm, 677, rfl⟩
abbrev main_v553 : Ref sig .tc := ⟨.hbm, 678, rfl⟩
abbrev main_v554 : Ref sig .tc := ⟨.hbm, 679, rfl⟩
abbrev main_cst_121 : Ref sig .tc := ⟨.hbm, 680, rfl⟩
abbrev main_v555 : Ref sig .tc := ⟨.hbm, 681, rfl⟩
abbrev main_v556 : Ref sig .tc := ⟨.hbm, 682, rfl⟩
abbrev main_v557 : Ref sig .tc := ⟨.hbm, 683, rfl⟩
abbrev main_v558 : Ref sig .tc := ⟨.hbm, 684, rfl⟩
abbrev main_cst_122 : Ref sig .tc := ⟨.hbm, 685, rfl⟩
abbrev main_v559 : Ref sig .tc := ⟨.hbm, 686, rfl⟩
abbrev main_v560 : Ref sig .tc := ⟨.hbm, 687, rfl⟩
abbrev main_cst_123 : Ref sig .tc := ⟨.hbm, 688, rfl⟩
abbrev main_v561 : Ref sig .tc := ⟨.hbm, 689, rfl⟩
abbrev main_v562 : Ref sig .tc := ⟨.hbm, 690, rfl⟩
abbrev main_cst_124 : Ref sig .tc := ⟨.hbm, 691, rfl⟩
abbrev main_v563 : Ref sig .tc := ⟨.hbm, 692, rfl⟩
abbrev main_v564 : Ref sig .tc := ⟨.hbm, 693, rfl⟩
abbrev main_v565 : Ref sig .tc := ⟨.hbm, 694, rfl⟩
abbrev main_cst_125 : Ref sig .tc := ⟨.hbm, 695, rfl⟩
abbrev main_v566 : Ref sig .tc := ⟨.hbm, 696, rfl⟩
abbrev main_v567 : Ref sig .tc := ⟨.hbm, 697, rfl⟩
abbrev main_v568 : Ref sig .tc := ⟨.hbm, 698, rfl⟩
abbrev main_v569 : Ref sig .tc := ⟨.hbm, 699, rfl⟩
abbrev main_cst_126 : Ref sig .tc := ⟨.hbm, 700, rfl⟩
abbrev main_v570 : Ref sig .tc := ⟨.hbm, 701, rfl⟩
abbrev main_v571 : Ref sig .tc := ⟨.hbm, 702, rfl⟩
abbrev main_cst_127 : Ref sig .tc := ⟨.hbm, 703, rfl⟩
abbrev main_v572 : Ref sig .tc := ⟨.hbm, 704, rfl⟩
abbrev main_v573 : Ref sig .tc := ⟨.hbm, 705, rfl⟩
abbrev main_cst_128 : Ref sig .tc := ⟨.hbm, 706, rfl⟩
abbrev main_v574 : Ref sig .tc := ⟨.hbm, 707, rfl⟩
abbrev main_v575 : Ref sig .tc := ⟨.hbm, 708, rfl⟩
abbrev main_v576 : Ref sig .tc := ⟨.hbm, 709, rfl⟩
abbrev main_v577 : Ref sig .tc := ⟨.hbm, 710, rfl⟩
abbrev main_v578 : Ref sig .tc := ⟨.hbm, 711, rfl⟩
abbrev main_v579 : Ref sig .tc := ⟨.hbm, 712, rfl⟩
abbrev main_v580 : Ref sig .tc := ⟨.hbm, 713, rfl⟩
abbrev main_v581 : Ref sig .tc := ⟨.hbm, 714, rfl⟩
abbrev main_c : Ref sig .tc := ⟨.hbm, 715, rfl⟩
abbrev main_call0_v0 : Ref sig .tc := ⟨.hbm, 716, rfl⟩
abbrev main_v582 : Ref sig .tc := ⟨.hbm, 717, rfl⟩

abbrev nD : Nat := 1
abbrev τ : Topo := Topo.v7x

variable {F : FTy → Type} [FloatOps F]
-- ==== Kernel3.lean ====
abbrev S8192x512 : Shape := ⟨2, ![8192, 512]⟩
abbrev S1x512 : Shape := ⟨2, ![1, 512]⟩
abbrev S8192x1024 : Shape := ⟨2, ![8192, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 13
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x512 : Shape := ⟨2, ![8192, 512]⟩
abbrev S1x512 : Shape := ⟨2, ![1, 512]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 137
  | .vmem => 0
  | .smem => 0
  | _ => 0

abbrev hbmTy0_0 (i : Nat) : BufTy := match i % 128 with
  | 0 => ⟨S8192x512, .f32⟩
  | 1 => ⟨S1x512, .f32⟩
  | 2 => ⟨S1x512, .f32⟩
  | 3 => ⟨S1x512, .f32⟩
  | 4 => ⟨S1x512, .f32⟩
  | 5 => ⟨S8192x1024, .f32⟩
  | 6 => ⟨S8192x512, .f32⟩
  | 7 => ⟨S8192x512, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S8192x512, .f32⟩
  | 15 => ⟨S8192x512, .f32⟩
  | 16 => ⟨S8192x512, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x512, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S_, .f32⟩
  | 72 => ⟨S512, .f32⟩
  | 73 => ⟨S1x512, .f32⟩
  | 74 => ⟨S8192x512, .f32⟩
  | 75 => ⟨S8192x512, .f32⟩
  | 76 => ⟨S8192x512, .f32⟩
  | 77 => ⟨S_, .f32⟩
  | 78 => ⟨S8192, .f32⟩
  | 79 => ⟨S8192x1, .f32⟩
  | 80 => ⟨S8192x512, .f32⟩
  | 81 => ⟨S8192x512, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S_, .f32⟩
  | 98 => ⟨S512, .f32⟩
  | 99 => ⟨S1x512, .f32⟩
  | 100 => ⟨S8192x512, .f32⟩
  | 101 => ⟨S_, .f32⟩
  | 102 => ⟨S512, .f32⟩
  | 103 => ⟨S1x512, .f32⟩
  | 104 => ⟨S8192x512, .f32⟩
  | 105 => ⟨S8192x512, .f32⟩
  | 106 => ⟨S8192x512, .f32⟩
  | 107 => ⟨S_, .f32⟩
  | 108 => ⟨S8192, .f32⟩
  | 109 => ⟨S8192x1, .f32⟩
  | 110 => ⟨S8192x512, .f32⟩
  | 111 => ⟨S8192x512, .f32⟩
  | 112 => ⟨S8192x1, .f32⟩
  | 113 => ⟨S_, .f32⟩
  | 114 => ⟨S8192x1, .f32⟩
  | 115 => ⟨S8192x1, .f32⟩
  | 116 => ⟨S_, .f32⟩
  | 117 => ⟨S8192, .f32⟩
  | 118 => ⟨S8192x512, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S_, .f32⟩
  | 125 => ⟨S8192, .f32⟩
  | 126 => ⟨S8192x1, .f32⟩
  | 127 => ⟨S_, .f32⟩
  | _ => ⟨S8192x512, .f32⟩

abbrev hbmTy0_1 (i : Nat) : BufTy := match i % 128 with
  | 0 => ⟨S8192x1, .f32⟩
  | 1 => ⟨S8192x1, .f32⟩
  | 2 => ⟨S_, .f32⟩
  | 3 => ⟨S8192, .f32⟩
  | 4 => ⟨S8192x512, .f32⟩
  | 5 => ⟨S8192x512, .f32⟩
  | 6 => ⟨S_, .f32⟩
  | 7 => ⟨S512, .f32⟩
  | 8 => ⟨S1x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v25_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v25_1 : Ref sig .tc := ⟨.hbm, 48, rfl⟩
abbrev main_v25_0 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_18 : Ref sig .tc := ⟨.hbm, 124, rfl⟩
abbrev main_v84 : Ref sig .tc := ⟨.hbm, 125, rfl⟩
abbrev main_v85 : Ref sig .tc := ⟨.hbm, 126, rfl⟩
abbrev main_cst_19 : Ref sig .tc := ⟨.hbm, 127, rfl⟩
abbrev main_v86 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_21 : Ref sig .tc := ⟨.hbm, 134, rfl⟩
abbrev main_v91 : Ref sig .tc := ⟨.hbm, 135, rfl⟩
abbrev main_v92 : Ref sig .tc := ⟨.hbm, 136, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024x1536 : Shape := ⟨2, ![1024, 1536]⟩
abbrev S1024x8192 : Shape := ⟨2, ![1024, 8192]⟩
abbrev S512x1536 : Shape := ⟨2, ![512, 1536]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1536, .f32⟩
  | .hbm, ⟨4, _⟩ => ⟨S8192x1024, .f32⟩
  | .hbm, ⟨5, _⟩ => ⟨S1024x1536, .f32⟩
  | .hbm, ⟨6, _⟩ => ⟨S1024x1536, .bf16⟩
  | .hbm, ⟨7, _⟩ => ⟨S8192x1024, .f32⟩
  | .hbm, ⟨8, _⟩ => ⟨S1024x8192, .bf16⟩
  | .hbm, ⟨9, _⟩ => ⟨S1x1024, .f32⟩
  | .local _ .vmem, ⟨0, _⟩ => ⟨S512x1536, .f32⟩
  | .local _ .vmem, ⟨1, _⟩ => ⟨S512x1536, .f32⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference9Ideal.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S1024 : Shape := ⟨1, ![1024]⟩
abbrev S1024x8192 : Shape := ⟨2, ![1024, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1536, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x1536, .f32⟩
  | .hbm, ⟨25, _⟩ => ⟨S8192x1536, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1024x8192, .f32⟩
  | .hbm, ⟨52, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel10.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S2816x1024 : Shape := ⟨2, ![2816, 1024]⟩
abbrev S4x704x1024 : Shape := ⟨3, ![4, 704, 1024]⟩
abbrev S4x768x1024 : Shape := ⟨3, ![4, 768, 1024]⟩
abbrev S3072x1024 : Shape := ⟨2, ![3072, 1024]⟩
abbrev S1x1024 : Shape := ⟨2, ![1, 1024]⟩
abbrev S1024x8192 : Shape := ⟨2, ![1024, 8192]⟩
abbrev S1x128 : Shape := ⟨2, ![1, 128]⟩
abbrev S512x3072 : Shape := ⟨2, ![512, 3072]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 23
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4x704, .f32⟩
  | .hbm, ⟨6, _⟩ => ⟨S_, .i32⟩
  | .hbm, ⟨7, _⟩ => ⟨S_, .f32⟩
  | .hbm, ⟨8, _⟩ => ⟨S8192x4x768, .f32⟩
  | .hbm, ⟨9, _⟩ => ⟨S8192x3072, .f32⟩
  | .hbm, ⟨10, _⟩ => ⟨S8192x3072, .bf16⟩
  | .hbm, ⟨11, _⟩ => ⟨S2816x1024, .f32⟩
  | .hbm, ⟨12, _⟩ => ⟨S4x704x1024, .f32⟩
  | .hbm, ⟨13, _⟩ => ⟨S_, .i32⟩
  | .hbm, ⟨14, _⟩ => ⟨S_, .f32⟩
  | .hbm, ⟨15, _⟩ => ⟨S4x768x1024, .f32⟩
  | .hbm, ⟨16, _⟩ => ⟨S3072x1024, .f32⟩
  | .hbm, ⟨17, _⟩ => ⟨S3072x1024, .bf16⟩
  | .hbm, ⟨18, _⟩ => ⟨S1x1024, .f32⟩
  | .hbm, ⟨19, _⟩ => ⟨S8192x1024, .f32⟩
  | .hbm, ⟨20, _⟩ => ⟨S1024x8192, .bf16⟩
  | .hbm, ⟨21, _⟩ => ⟨S1x128, .f32⟩
  | .hbm, ⟨22, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S1x128, .f32⟩
  | .local _ .vmem, ⟨13, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference10Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S1024 : Shape := ⟨1, ![1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1024x8192, .f32⟩
  | .hbm, ⟨80, _⟩ => ⟨S1024x8192, .bf16⟩
  | .hbm, ⟨81, _⟩ => ⟨S1x128, .f32⟩
  | .hbm, ⟨82, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1x1024x2816 : Shape := ⟨3, ![1, 1024, 2816]⟩
abbrev S8192x2816 : Shape := ⟨2, ![8192, 2816]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S1024x2816 : Shape := ⟨2, ![1024, 2816]⟩
abbrev S2816x1024 : Shape := ⟨2, ![2816, 1024]⟩
abbrev S4x704x1024 : Shape := ⟨3, ![4, 704, 1024]⟩
abbrev S4x768x1024 : Shape := ⟨3, ![4, 768, 1024]⟩
abbrev S3072x1024 : Shape := ⟨2, ![3072, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 37
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S8192x4x704, .f32⟩
  | .hbm, ⟨8, _⟩ => ⟨S_, .i32⟩
  | .hbm, ⟨9, _⟩ => ⟨S_, .f32⟩
  | .hbm, ⟨10, _⟩ => ⟨S8192x4x768, .f32⟩
  | .hbm, ⟨11, _⟩ => ⟨S8192x3072, .f32⟩
  | .hbm, ⟨12, _⟩ => ⟨S8192x3072, .bf16⟩
  | .hbm, ⟨13, _⟩ => ⟨S8192x4x704, .f32⟩
  | .hbm, ⟨14, _⟩ => ⟨S_, .i32⟩
  | .hbm, ⟨15, _⟩ => ⟨S_, .f32⟩
  | .hbm, ⟨16, _⟩ => ⟨S8192x4x768, .f32⟩
  | .hbm, ⟨17, _⟩ => ⟨S8192x3072, .f32⟩
  | .hbm, ⟨18, _⟩ => ⟨S8192x3072, .bf16⟩
  | .hbm, ⟨19, _⟩ => ⟨S1024x2816, .f32⟩
  | .hbm, ⟨20, _⟩ => ⟨S2816x1024, .f32⟩
  | .hbm, ⟨21, _⟩ => ⟨S4x704x1024, .f32⟩
  | .hbm, ⟨22, _⟩ => ⟨S_, .i32⟩
  | .hbm, ⟨23, _⟩ => ⟨S_, .f32⟩
  | .hbm, ⟨24, _⟩ => ⟨S4x768x1024, .f32⟩
  | .hbm, ⟨25, _⟩ => ⟨S3072x1024, .f32⟩
  | .hbm, ⟨26, _⟩ => ⟨S3072x1024, .bf16⟩
  | .hbm, ⟨27, _⟩ => ⟨S1024x2816, .f32⟩
  | .hbm, ⟨28, _⟩ => ⟨S2816x1024, .f32⟩
  | .hbm, ⟨29, _⟩ => ⟨S4x704x1024, .f32⟩
  | .hbm, ⟨30, _⟩ => ⟨S_, .i32⟩
  | .hbm, ⟨31, _⟩ => ⟨S_, .f32⟩
  | .hbm, ⟨32, _⟩ => ⟨S4x768x1024, .f32⟩
  | .hbm, ⟨33, _⟩ => ⟨S3072x1024, .f32⟩
  | .hbm, ⟨34, _⟩ => ⟨S3072x1024, .bf16⟩
  | .hbm, ⟨35, _⟩ => ⟨S8192x1024, .f32⟩
  | .hbm, ⟨36, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S3072x1024, .bf16⟩
  | .local _ .vmem, ⟨5, _⟩ => ⟨S3072x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_call3_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S8192x1024 : Shape := ⟨2, ![8192, 1024]⟩
abbrev S1x1024 : Shape := ⟨2, ![1, 1024]⟩
abbrev S1x1024x2816 : Shape := ⟨3, ![1, 1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S8192x2816, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x2816, .f32⟩
  | .hbm, ⟨27, _⟩ => ⟨S8192x2816, .f32⟩
  | .hbm, ⟨28, _⟩ => ⟨S1024x2816, .f32⟩
  | .hbm, ⟨29, _⟩ => ⟨S8192x2816, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel7.lean ====
abbrev S8192x1024 : Shape := ⟨2, ![8192, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S8192x3072 : Shape := ⟨2, ![8192, 3072]⟩
abbrev S512x1024 : Shape := ⟨2, ![512, 1024]⟩
abbrev S512x3072 : Shape := ⟨2, ![512, 3072]⟩

abbrev nBuf : Space → Nat
  | .hbm => 35
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S8192x1024, .f32⟩
  | .hbm, ⟨5, _⟩ => ⟨S8192x1024, .bf16⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S_, .i32⟩
  | .hbm, ⟨10, _⟩ => ⟨S_, .f32⟩
  | .hbm, ⟨11, _⟩ => ⟨S4x768x1024, .f32⟩
  | .hbm, ⟨12, _⟩ => ⟨S3072x1024, .f32⟩
  | .hbm, ⟨13, _⟩ => ⟨S3072x1024, .bf16⟩
  | .hbm, ⟨14, _⟩ => ⟨S8192x3072, .f32⟩
  | .hbm, ⟨15, _⟩ => ⟨S8192x3072, .bf16⟩
  | .hbm, ⟨16, _⟩ => ⟨S1024x2816, .f32⟩
  | .hbm, ⟨17, _⟩ => ⟨S2816x1024, .f32⟩
  | .hbm, ⟨18, _⟩ => ⟨S4x704x1024, .f32⟩
  | .hbm, ⟨19, _⟩ => ⟨S_, .i32⟩
  | .hbm, ⟨20, _⟩ => ⟨S_, .f32⟩
  | .hbm, ⟨21, _⟩ => ⟨S4x768x1024, .f32⟩
  | .hbm, ⟨22, _⟩ => ⟨S3072x1024, .f32⟩
  | .hbm, ⟨23, _⟩ => ⟨S3072x1024, .bf16⟩
  | .hbm, ⟨24, _⟩ => ⟨S8192x3072, .f32⟩
  | .hbm, ⟨25, _⟩ => ⟨S8192x3072, .bf16⟩
  | .hbm, ⟨26, _⟩ => ⟨S2816x1024, .f32⟩
  | .hbm, ⟨27, _⟩ => ⟨S4x704x1024, .f32⟩
  | .hbm, ⟨28, _⟩ => ⟨S_, .i32⟩
  | .hbm, ⟨29, _⟩ => ⟨S_, .f32⟩
  | .hbm, ⟨30, _⟩ => ⟨S4x768x1024, .f32⟩
  | .hbm, ⟨31, _⟩ => ⟨S3072x1024, .f32⟩
  | .hbm, ⟨32, _⟩ => ⟨S3072x1024, .bf16⟩
  | .hbm, ⟨33, _⟩ => ⟨S8192x3072, .bf16⟩
  | .hbm, ⟨34, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x3072, .bf16⟩
  | .local _ .vmem, ⟨9, _⟩ => ⟨S512x3072, .bf16⟩
  | .local _ .vmem, ⟨10, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_call2_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8192x1024 : Shape := ⟨2, ![8192, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S8192x2816 : Shape := ⟨2, ![8192, 2816]⟩
abbrev S_ : Shape := ⟨0, ![]⟩
abbrev S2816x1024 : Shape := ⟨2, ![2816, 1024]⟩
abbrev S8192x4x704 : Shape := ⟨3, ![8192, 4, 704]⟩
abbrev S8192x4x768 : Shape := ⟨3, ![8192, 4, 768]⟩
abbrev S8192x3072 : Shape := ⟨2, ![8192, 3072]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S2816x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x4x704, .f32⟩
  | .hbm, ⟨39, _⟩ => ⟨S_, .i32⟩
  | .hbm, ⟨40, _⟩ => ⟨S_, .f32⟩
  | .hbm, ⟨41, _⟩ => ⟨S8192x4x768, .f32⟩
  | .hbm, ⟨42, _⟩ => ⟨S8192x3072, .f32⟩
  | .hbm, ⟨43, _⟩ => ⟨S8192x3072, .bf16⟩
  | .hbm, ⟨44, _⟩ => ⟨S8192x4x704, .f32⟩
  | .hbm, ⟨45, _⟩ => ⟨S_, .i32⟩
  | .hbm, ⟨46, _⟩ => ⟨S_, .f32⟩
  | .hbm, ⟨47, _⟩ => ⟨S8192x4x768, .f32⟩
  | .hbm, ⟨48, _⟩ => ⟨S8192x3072, .f32⟩
  | .hbm, ⟨49, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_1 : Ref sig .tc := ⟨.hbm, 45, rfl⟩
abbrev main_call3_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩

abbrev nD : Nat := 1
abbrev τ : Topo := Topo.v7x

variable {F : FTy → Type} [FloatOps F]
-- ==== Kernel5.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S16x2048 : Shape := ⟨2, ![16, 2048]⟩
abbrev S32 : Shape := ⟨1, ![32]⟩
abbrev S32x64 : Shape := ⟨2, ![32, 64]⟩
abbrev S2048 : Shape := ⟨1, ![2048]⟩
abbrev S32x64x16 : Shape := ⟨3, ![32, 64, 16]⟩
abbrev S16x32x64 : Shape := ⟨3, ![16, 32, 64]⟩

abbrev nBuf : Space → Nat
  | .hbm => 26
  | .vmem => 14
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x2048, .f32⟩
  | .hbm, ⟨6, _⟩ => ⟨S1x2048, .f32⟩
  | .hbm, ⟨7, _⟩ => ⟨S16x2048, .f32⟩
  | .hbm, ⟨8, _⟩ => ⟨S16x2048, .f32⟩
  | .hbm, ⟨9, _⟩ => ⟨S1x2048, .f32⟩
  | .hbm, ⟨10, _⟩ => ⟨S1x2048, .f32⟩
  | .hbm, ⟨11, _⟩ => ⟨S32, .f32⟩
  | .hbm, ⟨12, _⟩ => ⟨S32x64, .f32⟩
  | .hbm, ⟨13, _⟩ => ⟨S2048, .f32⟩
  | .hbm, ⟨14, _⟩ => ⟨S1x2048, .f32⟩
  | .hbm, ⟨15, _⟩ => ⟨S32x64x16, .f32⟩
  | .hbm, ⟨16, _⟩ => ⟨S16x32x64, .f32⟩
  | .hbm, ⟨17, _⟩ => ⟨S16x2048, .f32⟩
  | .hbm, ⟨18, _⟩ => ⟨S32x64x16, .f32⟩
  | .hbm, ⟨19, _⟩ => ⟨S16x32x64, .f32⟩
  | .hbm, ⟨20, _⟩ => ⟨S16x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S16x2048, .f32⟩
  | .hbm, ⟨25, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S16x2048, .f32⟩
  | .local _ .vmem, ⟨13, _⟩ => ⟨S16x2048, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference5Ideal.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S16x2048 : Shape := ⟨2, ![16, 2048]⟩
abbrev S32 : Shape := ⟨1, ![32]⟩
abbrev S32x1 : Shape := ⟨2, ![32, 1]⟩
abbrev S32x64 : Shape := ⟨2, ![32, 64]⟩
abbrev S16x32x64 : Shape := ⟨3, ![16, 32, 64]⟩
abbrev S32x64x16 : Shape := ⟨3, ![32, 64, 16]⟩
abbrev S_ : Shape := ⟨0, ![]⟩
abbrev S32x64x1 : Shape := ⟨3, ![32, 64, 1]⟩

abbrev nBuf : Space → Nat
  | .hbm => 162
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S1x2048, .f32⟩
  | 6 => ⟨S1x2048, .f32⟩
  | 7 => ⟨S16x2048, .f32⟩
  | 8 => ⟨S16x2048, .f32⟩
  | 9 => ⟨S32, .f32⟩
  | 10 => ⟨S32x1, .f32⟩
  | 11 => ⟨S32x64, .f32⟩
  | 12 => ⟨S32x64, .f32⟩
  | 13 => ⟨S32x64, .f32⟩
  | 14 => ⟨S16x32x64, .f32⟩
  | 15 => ⟨S32x64x16, .f32⟩
  | 16 => ⟨S16x32x64, .f32⟩
  | 17 => ⟨S32x64x16, .f32⟩
  | 18 => ⟨S32x64, .f32⟩
  | 19 => ⟨S32x64, .f32⟩
  | 20 => ⟨S32x64x16, .f32⟩
  | 21 => ⟨S32x64x16, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S_, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S_, .f32⟩
  | 52 => ⟨S32x64, .f32⟩
  | 53 => ⟨S32x64, .f32⟩
  | 54 => ⟨S32x64x1, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x16, .f32⟩
  | 61 => ⟨S32x64x1, .f32⟩
  | 62 => ⟨S32x64x16, .f32⟩
  | 63 => ⟨S32x64x16, .f32⟩
  | 64 => ⟨S32x64x1, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S32x64x16, .f32⟩
  | 71 => ⟨S_, .f32⟩
  | 72 => ⟨S32x64, .f32⟩
  | 73 => ⟨S32x64x1, .f32⟩
  | 74 => ⟨S_, .f32⟩
  | 75 => ⟨S32x64, .f32⟩
  | 76 => ⟨S32x64x16, .f32⟩
  | 77 => ⟨S32x64x16, .f32⟩
  | 78 => ⟨S32x64x16, .f32⟩
  | 79 => ⟨S_, .f32⟩
  | 80 => ⟨S32x64, .f32⟩
  | 81 => ⟨S32x64x1, .f32⟩
  | 82 => ⟨S_, .f32⟩
  | 83 => ⟨S32x64, .f32⟩
  | 84 => ⟨S32x64x16, .f32⟩
  | 85 => ⟨S32x64x16, .f32⟩
  | 86 => ⟨S32x64x16, .f32⟩
  | 87 => ⟨S32x64x16, .f32⟩
  | 88 => ⟨S32x64x16, .f32⟩
  | 89 => ⟨S_, .f32⟩
  | 90 => ⟨S32x64, .f32⟩
  | 91 => ⟨S32x64x1, .f32⟩
  | 92 => ⟨S_, .f32⟩
  | 93 => ⟨S32x64, .f32⟩
  | 94 => ⟨S32x64, .f32⟩
  | 95 => ⟨S32x64x16, .f32⟩
  | 96 => ⟨S32x64x16, .f32⟩
  | 97 => ⟨S32x64x16, .f32⟩
  | 98 => ⟨S32x64x16, .f32⟩
  | 99 => ⟨S_, .f32⟩
  | 100 => ⟨S32x64, .f32⟩
  | 101 => ⟨S32x64x1, .f32⟩
  | 102 => ⟨S_, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S1x2048, .f32⟩
  | 28 => ⟨S1x2048, .f32⟩
  | 29 => ⟨S1x2048, .f32⟩
  | 30 => ⟨S16x32x64, .f32⟩
  | 31 => ⟨S16x2048, .f32⟩
  | 32 => ⟨S16x32x64, .f32⟩
  | 33 => ⟨S16x2048, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_2 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_4 : Ref sig .tc := ⟨.hbm, 79, rfl⟩
abbrev main_v65 : Ref sig .tc := ⟨.hbm, 80, rfl⟩
abbrev main_v66 : Ref sig .tc := ⟨.hbm, 81, rfl⟩
abbrev main_cst_5 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_cst_7 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_8 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩

abbrev nD : Nat := 1
abbrev τ : Topo := Topo.v7x

variable {F : FTy → Type} [FloatOps F]
-- ==== Kernel11.lean ====
abbrev S8192x1024 : Shape := ⟨2, ![8192, 1024]⟩
abbrev S1x1024x2816 : Shape := ⟨3, ![1, 1024, 2816]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4x768x1024 : Shape := ⟨3, ![4, 768, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 23
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024x2816, .f32⟩
  | .hbm, ⟨2, _⟩ => ⟨S1x1024x2816, .f32⟩
  | .hbm, ⟨3, _⟩ => ⟨S8192x1024, .bf16⟩
  | .hbm, ⟨4, _⟩ => ⟨S1024x2816, .f32⟩
  | .hbm, ⟨5, _⟩ => ⟨S2816x1024, .f32⟩
  | .hbm, ⟨6, _⟩ => ⟨S4x704x1024, .f32⟩
  | .hbm, ⟨7, _⟩ => ⟨S_, .i32⟩
  | .hbm, ⟨8, _⟩ => ⟨S_, .f32⟩
  | .hbm, ⟨9, _⟩ => ⟨S4x768x1024, .f32⟩
  | .hbm, ⟨10, _⟩ => ⟨S3072x1024, .f32⟩
  | .hbm, ⟨11, _⟩ => ⟨S3072x1024, .bf16⟩
  | .hbm, ⟨12, _⟩ => ⟨S1024x2816, .f32⟩
  | .hbm, ⟨13, _⟩ => ⟨S2816x1024, .f32⟩
  | .hbm, ⟨14, _⟩ => ⟨S4x704x1024, .f32⟩
  | .hbm, ⟨15, _⟩ => ⟨S_, .i32⟩
  | .hbm, ⟨16, _⟩ => ⟨S_, .f32⟩
  | .hbm, ⟨17, _⟩ => ⟨S4x768x1024, .f32⟩
  | .hbm, ⟨18, _⟩ => ⟨S3072x1024, .f32⟩
  | .hbm, ⟨19, _⟩ => ⟨S3072x1024, .bf16⟩
  | .hbm, ⟨20, _⟩ => ⟨S8192x3072, .bf16⟩
  | .hbm, ⟨21, _⟩ => ⟨S8192x3072, .bf16⟩
  | .hbm, ⟨22, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S8192x1024 : Shape := ⟨2, ![8192, 1024]⟩
abbrev S1x1024x2816 : Shape := ⟨3, ![1, 1024, 2816]⟩
abbrev S1024x2816 : Shape := ⟨2, ![1024, 2816]⟩
abbrev S8192x2816 : Shape := ⟨2, ![8192, 2816]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S8192x2816, .f32⟩
  | .hbm, ⟨5, _⟩ => ⟨S1024x2816, .f32⟩
  | .hbm, ⟨6, _⟩ => ⟨S8192x2816, .f32⟩
  | .hbm, ⟨7, _⟩ => ⟨S8192x4x704, .f32⟩
  | .hbm, ⟨8, _⟩ => ⟨S_, .i32⟩
  | .hbm, ⟨9, _⟩ => ⟨S_, .f32⟩
  | .hbm, ⟨10, _⟩ => ⟨S8192x4x768, .f32⟩
  | .hbm, ⟨11, _⟩ => ⟨S8192x3072, .f32⟩
  | .hbm, ⟨12, _⟩ => ⟨S8192x3072, .bf16⟩
  | .hbm, ⟨13, _⟩ => ⟨S8192x4x704, .f32⟩
  | .hbm, ⟨14, _⟩ => ⟨S_, .i32⟩
  | .hbm, ⟨15, _⟩ => ⟨S_, .f32⟩
  | .hbm, ⟨16, _⟩ => ⟨S8192x4x768, .f32⟩
  | .hbm, ⟨17, _⟩ => ⟨S8192x3072, .f32⟩
  | .hbm, ⟨18, _⟩ => ⟨S8192x3072, .bf16⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x4x704, .f32⟩
  | .hbm, ⟨30, _⟩ => ⟨S_, .i32⟩
  | .hbm, ⟨31, _⟩ => ⟨S_, .f32⟩
  | .hbm, ⟨32, _⟩ => ⟨S8192x4x768, .f32⟩
  | .hbm, ⟨33, _⟩ => ⟨S8192x3072, .f32⟩
  | .hbm, ⟨34, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call2_v0 : Ref sig .tc := ⟨.hbm, 19, rfl⟩
abbrev main_call2_v1 : Ref sig .tc := ⟨.hbm, 20, rfl⟩
abbrev main_call2_cst : Ref sig .tc := ⟨.hbm, 21, rfl⟩
abbrev main_call2_v2 : Ref sig .tc := ⟨.hbm, 22, rfl⟩
abbrev main_call2_v3 : Ref sig .tc := ⟨.hbm, 23, rfl⟩
abbrev main_call2_cst_0 : Ref sig .tc := ⟨.hbm, 24, rfl⟩
abbrev main_call2_v4 : Ref sig .tc := ⟨.hbm, 25, rfl⟩
abbrev main_call2_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_call3_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S1024x8192 : Shape := ⟨2, ![1024, 8192]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S1024x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S1024x256, .bf16⟩
  | .local _ .vmem, ⟨6, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel13.lean ====
abbrev S8192x512 : Shape := ⟨2, ![8192, 512]⟩
abbrev S512x512 : Shape := ⟨2, ![512, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S1x512, .f32⟩
  | .hbm, ⟨3, _⟩ => ⟨S1x512, .f32⟩
  | .hbm, ⟨4, _⟩ => ⟨S8192x512, .bf16⟩
  | .hbm, ⟨5, _⟩ => ⟨S512x512, .bf16⟩
  | .hbm, ⟨6, _⟩ => ⟨S8192x512, .f32⟩
  | .hbm, ⟨7, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x512 : Shape := ⟨2, ![8192, 512]⟩
abbrev S512x512 : Shape := ⟨2, ![512, 512]⟩
abbrev S1x512 : Shape := ⟨2, ![1, 512]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel14.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S1024x8192, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference14Ideal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S2816x1024 : Shape := ⟨2, ![2816, 1024]⟩
abbrev S4x704x1024 : Shape := ⟨3, ![4, 704, 1024]⟩
abbrev S4x768x1024 : Shape := ⟨3, ![4, 768, 1024]⟩
abbrev S3072x1024 : Shape := ⟨2, ![3072, 1024]⟩
abbrev S1024x8192 : Shape := ⟨2, ![1024, 8192]⟩
abbrev S512x3072 : Shape := ⟨2, ![512, 3072]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 20
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x1024, .f32⟩
  | .hbm, ⟨3, _⟩ => ⟨S1x1024, .f32⟩
  | .hbm, ⟨4, _⟩ => ⟨S8192x4x704, .f32⟩
  | .hbm, ⟨5, _⟩ => ⟨S_, .i32⟩
  | .hbm, ⟨6, _⟩ => ⟨S_, .f32⟩
  | .hbm, ⟨7, _⟩ => ⟨S8192x4x768, .f32⟩
  | .hbm, ⟨8, _⟩ => ⟨S8192x3072, .f32⟩
  | .hbm, ⟨9, _⟩ => ⟨S8192x3072, .bf16⟩
  | .hbm, ⟨10, _⟩ => ⟨S2816x1024, .f32⟩
  | .hbm, ⟨11, _⟩ => ⟨S4x704x1024, .f32⟩
  | .hbm, ⟨12, _⟩ => ⟨S_, .i32⟩
  | .hbm, ⟨13, _⟩ => ⟨S_, .f32⟩
  | .hbm, ⟨14, _⟩ => ⟨S4x768x1024, .f32⟩
  | .hbm, ⟨15, _⟩ => ⟨S3072x1024, .f32⟩
  | .hbm, ⟨16, _⟩ => ⟨S3072x1024, .bf16⟩
  | .hbm, ⟨17, _⟩ => ⟨S8192x1024, .f32⟩
  | .hbm, ⟨18, _⟩ => ⟨S8192x1024, .bf16⟩
  | .hbm, ⟨19, _⟩ => ⟨S1024x8192, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference15Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x1024, .f32⟩
  | .hbm, ⟨3, _⟩ => ⟨S1x1024, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S1024x8192, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel16.lean ====
abbrev S8192x1536 : Shape := ⟨2, ![8192, 1536]⟩
abbrev S1x31x512 : Shape := ⟨3, ![1, 31, 512]⟩
abbrev S1x512 : Shape := ⟨2, ![1, 512]⟩
abbrev S31x512 : Shape := ⟨2, ![31, 512]⟩
abbrev S_ : Shape := ⟨0, ![]⟩
abbrev S32x512 : Shape := ⟨2, ![32, 512]⟩
abbrev S8192x512 : Shape := ⟨2, ![8192, 512]⟩
abbrev S256x512 : Shape := ⟨2, ![256, 512]⟩
abbrev S288x512 : Shape := ⟨2, ![288, 512]⟩
abbrev S8x288x512 : Shape := ⟨3, ![8, 288, 512]⟩
abbrev S280x512 : Shape := ⟨2, ![280, 512]⟩
abbrev S1x280x512 : Shape := ⟨3, ![1, 280, 512]⟩
abbrev S1x32x512 : Shape := ⟨3, ![1, 32, 512]⟩
abbrev S256 : Shape := ⟨1, ![256]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x1536, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S31x512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S8192x512, .f32⟩
  | .hbm, ⟨11, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S288x512, .f32⟩
  | .local _ .vmem, ⟨18, _⟩ => ⟨S8x288x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference16Ideal.lean ====
abbrev S8192x1536 : Shape := ⟨2, ![8192, 1536]⟩
abbrev S1x31x512 : Shape := ⟨3, ![1, 31, 512]⟩
abbrev S1x512 : Shape := ⟨2, ![1, 512]⟩
abbrev S8192x512 : Shape := ⟨2, ![8192, 512]⟩
abbrev S_ : Shape := ⟨0, ![]⟩
abbrev S2x4096x512 : Shape := ⟨3, ![2, 4096, 512]⟩
abbrev S2x30x512 : Shape := ⟨3, ![2, 30, 512]⟩
abbrev S2x4126x512 : Shape := ⟨3, ![2, 4126, 512]⟩
abbrev S1x1x512 : Shape := ⟨3, ![1, 1, 512]⟩
abbrev S512 : Shape := ⟨1, ![512]⟩
abbrev S8192 : Shape := ⟨1, ![8192]⟩
abbrev S8192x1 : Shape := ⟨2, ![8192, 1]⟩

abbrev nBuf : Space → Nat
  | .hbm => 293
  | .vmem => 0
  | .smem => 0
  | _ => 0

abbrev hbmTy0_0 (i : Nat) : BufTy := match i % 128 with
  | 0 => ⟨S8192x1536, .f32⟩
  | 1 => ⟨S1x31x512, .f32⟩
  | 2 => ⟨S1x512, .f32⟩
  | 3 => ⟨S1x512, .f32⟩
  | 4 => ⟨S1x512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S2x4096x512, .f32⟩
  | 18 => ⟨S_, .f32⟩
  | 19 => ⟨S2x30x512, .f32⟩
  | 20 => ⟨S2x4126x512, .f32⟩
  | 21 => ⟨S2x4096x512, .f32⟩
  | 22 => ⟨S1x1x512, .f32⟩
  | 23 => ⟨S512, .f32⟩
  | 24 => ⟨S1x1x512, .f32⟩
  | 25 => ⟨S2x4096x512, .f32⟩
  | 26 => ⟨S2x4096x512, .f32⟩
  | 27 => ⟨S_, .f32⟩
  | 28 => ⟨S2x4096x512, .f32⟩
  | 29 => ⟨S2x4096x512, .f32⟩
  | 30 => ⟨S2x4096x512, .f32⟩
  | 31 => ⟨S1x1x512, .f32⟩
  | 32 => ⟨S512, .f32⟩
  | 33 => ⟨S1x1x512, .f32⟩
  | 34 => ⟨S2x4096x512, .f32⟩
  | 35 => ⟨S2x4096x512, .f32⟩
  | 36 => ⟨S2x4096x512, .f32⟩
  | 37 => ⟨S2x4096x512, .f32⟩
  | 38 => ⟨S1x1x512, .f32⟩
  | 39 => ⟨S512, .f32⟩
  | 40 => ⟨S1x1x512, .f32⟩
  | 41 => ⟨S2x4096x512, .f32⟩
  | 42 => ⟨S2x4096x512, .f32⟩
  | 43 => ⟨S2x4096x512, .f32⟩
  | 44 => ⟨S2x4096x512, .f32⟩
  | 45 => ⟨S1x1x512, .f32⟩
  | 46 => ⟨S512, .f32⟩
  | 47 => ⟨S1x1x512, .f32⟩
  | 48 => ⟨S2x4096x512, .f32⟩
  | 49 => ⟨S2x4096x512, .f32⟩
  | 50 => ⟨S2x4096x512, .f32⟩
  | 51 => ⟨S2x4096x512, .f32⟩
  | 52 => ⟨S1x1x512, .f32⟩
  | 53 => ⟨S512, .f32⟩
  | 54 => ⟨S1x1x512, .f32⟩
  | 55 => ⟨S2x4096x512, .f32⟩
  | 56 => ⟨S2x4096x512, .f32⟩
  | 57 => ⟨S2x4096x512, .f32⟩
  | 58 => ⟨S2x4096x512, .f32⟩
  | 59 => ⟨S1x1x512, .f32⟩
  | 60 => ⟨S512, .f32⟩
  | 61 => ⟨S1x1x512, .f32⟩
  | 62 => ⟨S2x4096x512, .f32⟩
  | 63 => ⟨S2x4096x512, .f32⟩
  | 64 => ⟨S2x4096x512, .f32⟩
  | 65 => ⟨S2x4096x512, .f32⟩
  | 66 => ⟨S1x1x512, .f32⟩
  | 67 => ⟨S512, .f32⟩
  | 68 => ⟨S1x1x512, .f32⟩
  | 69 => ⟨S2x4096x512, .f32⟩
  | 70 => ⟨S2x4096x512, .f32⟩
  | 71 => ⟨S2x4096x512, .f32⟩
  | 72 => ⟨S2x4096x512, .f32⟩
  | 73 => ⟨S1x1x512, .f32⟩
  | 74 => ⟨S512, .f32⟩
  | 75 => ⟨S1x1x512, .f32⟩
  | 76 => ⟨S2x4096x512, .f32⟩
  | 77 => ⟨S2x4096x512, .f32⟩
  | 78 => ⟨S2x4096x512, .f32⟩
  | 79 => ⟨S2x4096x512, .f32⟩
  | 80 => ⟨S1x1x512, .f32⟩
  | 81 => ⟨S512, .f32⟩
  | 82 => ⟨S1x1x512, .f32⟩
  | 83 => ⟨S2x4096x512, .f32⟩
  | 84 => ⟨S2x4096x512, .f32⟩
  | 85 => ⟨S2x4096x512, .f32⟩
  | 86 => ⟨S2x4096x512, .f32⟩
  | 87 => ⟨S1x1x512, .f32⟩
  | 88 => ⟨S512, .f32⟩
  | 89 => ⟨S1x1x512, .f32⟩
  | 90 => ⟨S2x4096x512, .f32⟩
  | 91 => ⟨S2x4096x512, .f32⟩
  | 92 => ⟨S2x4096x512, .f32⟩
  | 93 => ⟨S2x4096x512, .f32⟩
  | 94 => ⟨S1x1x512, .f32⟩
  | 95 => ⟨S512, .f32⟩
  | 96 => ⟨S1x1x512, .f32⟩
  | 97 => ⟨S2x4096x512, .f32⟩
  | 98 => ⟨S2x4096x512, .f32⟩
  | 99 => ⟨S2x4096x512, .f32⟩
  | 100 => ⟨S2x4096x512, .f32⟩
  | 101 => ⟨S1x1x512, .f32⟩
  | 102 => ⟨S512, .f32⟩
  | 103 => ⟨S1x1x512, .f32⟩
  | 104 => ⟨S2x4096x512, .f32⟩
  | 105 => ⟨S2x4096x512, .f32⟩
  | 106 => ⟨S2x4096x512, .f32⟩
  | 107 => ⟨S2x4096x512, .f32⟩
  | 108 => ⟨S1x1x512, .f32⟩
  | 109 => ⟨S512, .f32⟩
  | 110 => ⟨S1x1x512, .f32⟩
  | 111 => ⟨S2x4096x512, .f32⟩
  | 112 => ⟨S2x4096x512, .f32⟩
  | 113 => ⟨S2x4096x512, .f32⟩
  | 114 => ⟨S2x4096x512, .f32⟩
  | 115 => ⟨S1x1x512, .f32⟩
  | 116 => ⟨S512, .f32⟩
  | 117 => ⟨S1x1x512, .f32⟩
  | 118 => ⟨S2x4096x512, .f32⟩
  | 119 => ⟨S2x4096x512, .f32⟩
  | 120 => ⟨S2x4096x512, .f32⟩
  | 121 => ⟨S2x4096x512, .f32⟩
  | 122 => ⟨S1x1x512, .f32⟩
  | 123 => ⟨S512, .f32⟩
  | 124 => ⟨S1x1x512, .f32⟩
  | 125 => ⟨S2x4096x512, .f32⟩
  | 126 => ⟨S2x4096x512, .f32⟩
  | 127 => ⟨S2x4096x512, .f32⟩
  | _ => ⟨S8192x1536, .f32⟩

abbrev hbmTy0_1 (i : Nat) : BufTy := match i % 128 with
  | 0 => ⟨S2x4096x512, .f32⟩
  | 1 => ⟨S1x1x512, .f32⟩
  | 2 => ⟨S512, .f32⟩
  | 3 => ⟨S1x1x512, .f32⟩
  | 4 => ⟨S2x4096x512, .f32⟩
  | 5 => ⟨S2x4096x512, .f32⟩
  | 6 => ⟨S2x4096x512, .f32⟩
  | 7 => ⟨S2x4096x512, .f32⟩
  | 8 => ⟨S1x1x512, .f32⟩
  | 9 => ⟨S512, .f32⟩
  | 10 => ⟨S1x1x512, .f32⟩
  | 11 => ⟨S2x4096x512, .f32⟩
  | 12 => ⟨S2x4096x512, .f32⟩
  | 13 => ⟨S2x4096x512, .f32⟩
  | 14 => ⟨S2x4096x512, .f32⟩
  | 15 => ⟨S1x1x512, .f32⟩
  | 16 => ⟨S512, .f32⟩
  | 17 => ⟨S1x1x512, .f32⟩
  | 18 => ⟨S2x4096x512, .f32⟩
  | 19 => ⟨S2x4096x512, .f32⟩
  | 20 => ⟨S2x4096x512, .f32⟩
  | 21 => ⟨S2x4096x512, .f32⟩
  | 22 => ⟨S1x1x512, .f32⟩
  | 23 => ⟨S512, .f32⟩
  | 24 => ⟨S1x1x512, .f32⟩
  | 25 => ⟨S2x4096x512, .f32⟩
  | 26 => ⟨S2x4096x512, .f32⟩
  | 27 => ⟨S2x4096x512, .f32⟩
  | 28 => ⟨S2x4096x512, .f32⟩
  | 29 => ⟨S1x1x512, .f32⟩
  | 30 => ⟨S512, .f32⟩
  | 31 => ⟨S1x1x512, .f32⟩
  | 32 => ⟨S2x4096x512, .f32⟩
  | 33 => ⟨S2x4096x512, .f32⟩
  | 34 => ⟨S2x4096x512, .f32⟩
  | 35 => ⟨S2x4096x512, .f32⟩
  | 36 => ⟨S1x1x512, .f32⟩
  | 37 => ⟨S512, .f32⟩
  | 38 => ⟨S1x1x512, .f32⟩
  | 39 => ⟨S2x4096x512, .f32⟩
  | 40 => ⟨S2x4096x512, .f32⟩
  | 41 => ⟨S2x4096x512, .f32⟩
  | 42 => ⟨S2x4096x512, .f32⟩
  | 43 => ⟨S1x1x512, .f32⟩
  | 44 => ⟨S512, .f32⟩
  | 45 => ⟨S1x1x512, .f32⟩
  | 46 => ⟨S2x4096x512, .f32⟩
  | 47 => ⟨S2x4096x512, .f32⟩
  | 48 => ⟨S2x4096x512, .f32⟩
  | 49 => ⟨S2x4096x512, .f32⟩
  | 50 => ⟨S1x1x512, .f32⟩
  | 51 => ⟨S512, .f32⟩
  | 52 => ⟨S1x1x512, .f32⟩
  | 53 => ⟨S2x4096x512, .f32⟩
  | 54 => ⟨S2x4096x512, .f32⟩
  | 55 => ⟨S2x4096x512, .f32⟩
  | 56 => ⟨S2x4096x512, .f32⟩
  | 57 => ⟨S1x1x512, .f32⟩
  | 58 => ⟨S512, .f32⟩
  | 59 => ⟨S1x1x512, .f32⟩
  | 60 => ⟨S2x4096x512, .f32⟩
  | 61 => ⟨S2x4096x512, .f32⟩
  | 62 => ⟨S2x4096x512, .f32⟩
  | 63 => ⟨S2x4096x512, .f32⟩
  | 64 => ⟨S1x1x512, .f32⟩
  | 65 => ⟨S512, .f32⟩
  | 66 => ⟨S1x1x512, .f32⟩
  | 67 => ⟨S2x4096x512, .f32⟩
  | 68 => ⟨S2x4096x512, .f32⟩
  | 69 => ⟨S2x4096x512, .f32⟩
  | 70 => ⟨S2x4096x512, .f32⟩
  | 71 => ⟨S1x1x512, .f32⟩
  | 72 => ⟨S512, .f32⟩
  | 73 => ⟨S1x1x512, .f32⟩
  | 74 => ⟨S2x4096x512, .f32⟩
  | 75 => ⟨S2x4096x512, .f32⟩
  | 76 => ⟨S2x4096x512, .f32⟩
  | 77 => ⟨S2x4096x512, .f32⟩
  | 78 => ⟨S1x1x512, .f32⟩
  | 79 => ⟨S512, .f32⟩
  | 80 => ⟨S1x1x512, .f32⟩
  | 81 => ⟨S2x4096x512, .f32⟩
  | 82 => ⟨S2x4096x512, .f32⟩
  | 83 => ⟨S2x4096x512, .f32⟩
  | 84 => ⟨S2x4096x512, .f32⟩
  | 85 => ⟨S1x1x512, .f32⟩
  | 86 => ⟨S512, .f32⟩
  | 87 => ⟨S1x1x512, .f32⟩
  | 88 => ⟨S2x4096x512, .f32⟩
  | 89 => ⟨S2x4096x512, .f32⟩
  | 90 => ⟨S2x4096x512, .f32⟩
  | 91 => ⟨S2x4096x512, .f32⟩
  | 92 => ⟨S1x1x512, .f32⟩
  | 93 => ⟨S512, .f32⟩
  | 94 => ⟨S1x1x512, .f32⟩
  | 95 => ⟨S2x4096x512, .f32⟩
  | 96 => ⟨S2x4096x512, .f32⟩
  | 97 => ⟨S2x4096x512, .f32⟩
  | 98 => ⟨S2x4096x512, .f32⟩
  | 99 => ⟨S1x1x512, .f32⟩
  | 100 => ⟨S512, .f32⟩
  | 101 => ⟨S1x1x512, .f32⟩
  | 102 => ⟨S2x4096x512, .f32⟩
  | 103 => ⟨S2x4096x512, .f32⟩
  | 104 => ⟨S2x4096x512, .f32⟩
  | 105 => ⟨S2x4096x512, .f32⟩
  | 106 => ⟨S1x1x512, .f32⟩
  | 107 => ⟨S512, .f32⟩
  | 108 => ⟨S1x1x512, .f32⟩
  | 109 => ⟨S2x4096x512, .f32⟩
  | 110 => ⟨S2x4096x512, .f32⟩
  | 111 => ⟨S2x4096x512, .f32⟩
  | 112 => ⟨S8192x512, .f32⟩
  | 113 => ⟨S8192x512, .f32⟩
  | 114 => ⟨S8192x512, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S8192x512, .f32⟩
  | 122 => ⟨S8192x512, .f32⟩
  | 123 => ⟨S8192x512, .f32⟩
  | 124 => ⟨S_, .f32⟩
  | 125 => ⟨S8192, .f32⟩
  | 126 => ⟨S8192x1, .f32⟩
  | 127 => ⟨S_, .f32⟩
  | _ => ⟨S8192x1536, .f32⟩

abbrev hbmTy0_2 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x512, .f32⟩
  | 33 => ⟨S8192x512, .f32⟩
  | 34 => ⟨S8192x512, .f32⟩
  | 35 => ⟨S8192x512, .f32⟩
  | 36 => ⟨S8192x512, .bf16⟩
  | _ => ⟨S8192x1536, .f32⟩

abbrev hbmTy (i : Nat) : BufTy := match i / 128 with
  | 0 => hbmTy0_0 i
  | 1 => hbmTy0_1 i
  | 2 => hbmTy0_2 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_3 : Ref sig .tc := ⟨.hbm, 243, rfl⟩
abbrev main_v233 : Ref sig .tc := ⟨.hbm, 244, rfl⟩
abbrev main_v234 : Ref sig .tc := ⟨.hbm, 245, rfl⟩
abbrev main_cst_4 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_5 : Ref sig .tc := ⟨.hbm, 252, rfl⟩
abbrev main_v240 : Ref sig .tc := ⟨.hbm, 253, rfl⟩
abbrev main_v241 : Ref sig .tc := ⟨.hbm, 254, rfl⟩
abbrev main_cst_6 : Ref sig .tc := ⟨.hbm, 255, rfl⟩
abbrev main_v242 : Ref sig .tc := ⟨.hbm, 256, rfl⟩
abbrev main_v243 : Ref sig .tc := ⟨.hbm, 257, rfl⟩
abbrev main_cst_7 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v253 : Ref sig .tc := ⟨.hbm, 276, rfl⟩
abbrev main_v254 : Ref sig .tc := ⟨.hbm, 277, rfl⟩
abbrev main_cst_8 : Ref sig .tc := ⟨.hbm, 278, rfl⟩
abbrev main_v255 : Ref sig .tc := ⟨.hbm, 279, rfl⟩
abbrev main_v256 : Ref sig .tc := ⟨.hbm, 280, rfl⟩
abbrev main_cst_9 : Ref sig .tc := ⟨.hbm, 281, rfl⟩
abbrev main_v257 : Ref sig .tc := ⟨.hbm, 282, rfl⟩
abbrev main_v258 : Ref sig .tc := ⟨.hbm, 283, rfl⟩
abbrev main_cst_10 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩

abbrev nD : Nat := 1
abbrev τ : Topo := Topo.v7x

variable {F : FTy → Type} [FloatOps F]
-- ==== Kernel18.lean ====
abbrev S1x32x64 : Shape := ⟨3, ![1, 32, 64]⟩
abbrev S1x32 : Shape := ⟨2, ![1, 32]⟩
abbrev S1x32x64x16 : Shape := ⟨4, ![1, 32, 64, 16]⟩
abbrev S1x2048 : Shape := ⟨2, ![1, 2048]⟩
abbrev S32 : Shape := ⟨1, ![32]⟩
abbrev S32x64 : Shape := ⟨2, ![32, 64]⟩
abbrev S2048 : Shape := ⟨1, ![2048]⟩
abbrev S32x64x16 : Shape := ⟨3, ![32, 64, 16]⟩
abbrev S16x32x64 : Shape := ⟨3, ![16, 32, 64]⟩
abbrev S16x2048 : Shape := ⟨2, ![16, 2048]⟩
abbrev S32x4096 : Shape := ⟨2, ![32, 4096]⟩
abbrev S8x4096 : Shape := ⟨2, ![8, 4096]⟩

abbrev nBuf : Space → Nat
  | .hbm => 25
  | .vmem => 13
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x2048, .f32⟩
  | .hbm, ⟨6, _⟩ => ⟨S1x2048, .f32⟩
  | .hbm, ⟨7, _⟩ => ⟨S32, .f32⟩
  | .hbm, ⟨8, _⟩ => ⟨S32x64, .f32⟩
  | .hbm, ⟨9, _⟩ => ⟨S2048, .f32⟩
  | .hbm, ⟨10, _⟩ => ⟨S1x2048, .f32⟩
  | .hbm, ⟨11, _⟩ => ⟨S32x64x16, .f32⟩
  | .hbm, ⟨12, _⟩ => ⟨S16x32x64, .f32⟩
  | .hbm, ⟨13, _⟩ => ⟨S16x2048, .f32⟩
  | .hbm, ⟨14, _⟩ => ⟨S32x64x16, .f32⟩
  | .hbm, ⟨15, _⟩ => ⟨S16x32x64, .f32⟩
  | .hbm, ⟨16, _⟩ => ⟨S16x2048, .f32⟩
  | .hbm, ⟨17, _⟩ => ⟨S1x2048, .f32⟩
  | .hbm, ⟨18, _⟩ => ⟨S1x2048, .f32⟩
  | .hbm, ⟨19, _⟩ => ⟨S16x2048, .f32⟩
  | .hbm, ⟨20, _⟩ => ⟨S16x2048, .f32⟩
  | .hbm, ⟨21, _⟩ => ⟨S32x4096, .f32⟩
  | .hbm, ⟨22, _⟩ => ⟨S32x4096, .f32⟩
  | .hbm, ⟨23, _⟩ => ⟨S8x4096, .f32⟩
  | .hbm, ⟨24, _⟩ => ⟨S8x4096, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S1x2048, .f32⟩
  | .local _ .vmem, ⟨6, _⟩ => ⟨S1x2048, .f32⟩
  | .local _ .vmem, ⟨7, _⟩ => ⟨S16x2048, .f32⟩
  | .local _ .vmem, ⟨8, _⟩ => ⟨S16x2048, .f32⟩
  | .local _ .vmem, ⟨9, _⟩ => ⟨S32x4096, .f32⟩
  | .local _ .vmem, ⟨10, _⟩ => ⟨S32x4096, .f32⟩
  | .local _ .vmem, ⟨11, _⟩ => ⟨S8x4096, .f32⟩
  | .local _ .vmem, ⟨12, _⟩ => ⟨S8x4096, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference18Ideal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S8 : Shape := ⟨1, ![8]⟩
abbrev S1x2048 : Shape := ⟨2, ![1, 2048]⟩
abbrev S16x32x64 : Shape := ⟨3, ![16, 32, 64]⟩
abbrev S16x2048 : Shape := ⟨2, ![16, 2048]⟩
abbrev S32x2048 : Shape := ⟨2, ![32, 2048]⟩
abbrev S32x4096 : Shape := ⟨2, ![32, 4096]⟩
abbrev S8x1 : Shape := ⟨2, ![8, 1]⟩
abbrev S8x2048 : Shape := ⟨2, ![8, 2048]⟩
abbrev S8x4096 : Shape := ⟨2, ![8, 4096]⟩

abbrev nBuf : Space → Nat
  | .hbm => 139
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S32x64, .f32⟩
  | 6 => ⟨S32x64, .f32⟩
  | 7 => ⟨S32x64x16, .f32⟩
  | 8 => ⟨S32x64x16, .f32⟩
  | 9 => ⟨S32, .f32⟩
  | 10 => ⟨S32, .f32⟩
  | 11 => ⟨S32x1, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S_, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64x1, .f32⟩
  | 36 => ⟨S32x64x16, .f32⟩
  | 37 => ⟨S32x64x16, .f32⟩
  | 38 => ⟨S32x64x1, .f32⟩
  | 39 => ⟨S32x64x16, .f32⟩
  | 40 => ⟨S32x64x16, .f32⟩
  | 41 => ⟨S32x64x16, .f32⟩
  | 42 => ⟨S32x64x1, .f32⟩
  | 43 => ⟨S32x64x16, .f32⟩
  | 44 => ⟨S32x64x16, .f32⟩
  | 45 => ⟨S32x64x1, .f32⟩
  | 46 => ⟨S32x64x16, .f32⟩
  | 47 => ⟨S32x64x16, .f32⟩
  | 48 => ⟨S32x64x16, .f32⟩
  | 49 => ⟨S32, .f32⟩
  | 50 => ⟨S8, .f32⟩
  | 51 => ⟨S1x2048, .f32⟩
  | 52 => ⟨S1x2048, .f32⟩
  | 53 => ⟨S16x32x64, .f32⟩
  | 54 => ⟨S16x2048, .f32⟩
  | 55 => ⟨S16x32x64, .f32⟩
  | 56 => ⟨S16x2048, .f32⟩
  | 57 => ⟨S_, .f32⟩
  | 58 => ⟨S32, .f32⟩
  | 59 => ⟨S32, .f32⟩
  | 60 => ⟨S32x1, .f32⟩
  | 61 => ⟨S1x2048, .f32⟩
  | 62 => ⟨S32x2048, .f32⟩
  | 63 => ⟨S32x2048, .f32⟩
  | 64 => ⟨S32x2048, .f32⟩
  | 65 => ⟨S32x2048, .f32⟩
  | 66 => ⟨S32x1, .f32⟩
  | 67 => ⟨S1x2048, .f32⟩
  | 68 => ⟨S32x2048, .f32⟩
  | 69 => ⟨S32x2048, .f32⟩
  | 70 => ⟨S32x2048, .f32⟩
  | 71 => ⟨S32x2048, .f32⟩
  | 72 => ⟨S32x2048, .f32⟩
  | 73 => ⟨S32x2048, .f32⟩
  | 74 => ⟨S32x2048, .f32⟩
  | 75 => ⟨S32x4096, .f32⟩
  | 76 => ⟨S_, .f32⟩
  | 77 => ⟨S32, .f32⟩
  | 78 => ⟨S32, .f32⟩
  | 79 => ⟨S32x1, .f32⟩
  | 80 => ⟨S1x2048, .f32⟩
  | 81 => ⟨S32x2048, .f32⟩
  | 82 => ⟨S32x2048, .f32⟩
  | 83 => ⟨S32x2048, .f32⟩
  | 84 => ⟨S32x2048, .f32⟩
  | 85 => ⟨S32x1, .f32⟩
  | 86 => ⟨S1x2048, .f32⟩
  | 87 => ⟨S32x2048, .f32⟩
  | 88 => ⟨S32x2048, .f32⟩
  | 89 => ⟨S32x2048, .f32⟩
  | 90 => ⟨S32x2048, .f32⟩
  | 91 => ⟨S32x2048, .f32⟩
  | 92 => ⟨S32x2048, .f32⟩
  | 93 => ⟨S32x2048, .f32⟩
  | 94 => ⟨S32x4096, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S8x1, .f32⟩
  | 102 => ⟨S1x2048, .f32⟩
  | 103 => ⟨S8x2048, .f32⟩
  | 104 => ⟨S8x2048, .f32⟩
  | 105 => ⟨S8x2048, .f32⟩
  | 106 => ⟨S8x2048, .f32⟩
  | 107 => ⟨S8x1, .f32⟩
  | 108 => ⟨S1x2048, .f32⟩
  | 109 => ⟨S8x2048, .f32⟩
  | 110 => ⟨S8x2048, .f32⟩
  | 111 => ⟨S8x2048, .f32⟩
  | 112 => ⟨S8x2048, .f32⟩
  | 113 => ⟨S8x2048, .f32⟩
  | 114 => ⟨S8x2048, .f32⟩
  | 115 => ⟨S8x2048, .f32⟩
  | 116 => ⟨S8x4096, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S8x1, .f32⟩
  | 124 => ⟨S1x2048, .f32⟩
  | 125 => ⟨S8x2048, .f32⟩
  | 126 => ⟨S8x2048, .f32⟩
  | 127 => ⟨S8x2048, .f32⟩
  | _ => ⟨S1x32x64, .f32⟩

abbrev hbmTy0_1 (i : Nat) : BufTy := match i % 128 with
  | 0 => ⟨S8x2048, .f32⟩
  | 1 => ⟨S8x1, .f32⟩
  | 2 => ⟨S1x2048, .f32⟩
  | 3 => ⟨S8x2048, .f32⟩
  | 4 => ⟨S8x2048, .f32⟩
  | 5 => ⟨S8x2048, .f32⟩
  | 6 => ⟨S8x2048, .f32⟩
  | 7 => ⟨S8x2048, .f32⟩
  | 8 => ⟨S8x2048, .f32⟩
  | 9 => ⟨S8x2048, .f32⟩
  | 10 => ⟨S8x4096, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_0 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_1 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_cst_2 : Ref sig .tc := ⟨.hbm, 95, rfl⟩
abbrev main_v87 : Ref sig .tc := ⟨.hbm, 96, rfl⟩
abbrev main_v88 : Ref sig .tc := ⟨.hbm, 97, rfl⟩
abbrev main_cst_3 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_cst_4 : Ref sig .tc := ⟨.hbm, 117, rfl⟩
abbrev main_v107 : Ref sig .tc := ⟨.hbm, 118, rfl⟩
abbrev main_v108 : Ref sig .tc := ⟨.hbm, 119, rfl⟩
abbrev main_cst_5 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩

abbrev nD : Nat := 1
abbrev τ : Topo := Topo.v7x

variable {F : FTy → Type} [FloatOps F]
-- ==== Kernel19.lean ====
abbrev S8192x1024 : Shape := ⟨2, ![8192, 1024]⟩
abbrev S8192x2816 : Shape := ⟨2, ![8192, 2816]⟩
abbrev S1024x8192 : Shape := ⟨2, ![1024, 8192]⟩
abbrev S8192x4x704 : Shape := ⟨3, ![8192, 4, 704]⟩
abbrev S_ : Shape := ⟨0, ![]⟩
abbrev S8192x4x768 : Shape := ⟨3, ![8192, 4, 768]⟩
abbrev S8192x3072 : Shape := ⟨2, ![8192, 3072]⟩
abbrev S3072x1024 : Shape := ⟨2, ![3072, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S1024x8192, .f32⟩
  | .hbm, ⟨3, _⟩ => ⟨S1024x8192, .bf16⟩
  | .hbm, ⟨4, _⟩ => ⟨S8192x4x704, .f32⟩
  | .hbm, ⟨5, _⟩ => ⟨S_, .i32⟩
  | .hbm, ⟨6, _⟩ => ⟨S_, .f32⟩
  | .hbm, ⟨7, _⟩ => ⟨S8192x4x768, .f32⟩
  | .hbm, ⟨8, _⟩ => ⟨S8192x3072, .f32⟩
  | .hbm, ⟨9, _⟩ => ⟨S8192x3072, .bf16⟩
  | .hbm, ⟨10, _⟩ => ⟨S3072x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩
abbrev S4x768x1024 : Shape := ⟨3, ![4, 768, 1024]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S_, .i32⟩
  | .hbm, ⟨10, _⟩ => ⟨S_, .f32⟩
  | .hbm, ⟨11, _⟩ => ⟨S4x768x1024, .f32⟩
  | .hbm, ⟨12, _⟩ => ⟨S3072x1024, .f32⟩
  | .hbm, ⟨13, _⟩ => ⟨S3072x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel20.lean ====
abbrev S4x768x1024 : Shape := ⟨3, ![4, 768, 1024]⟩
abbrev S768x1024 : Shape := ⟨2, ![768, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x768x1024, .f32⟩
  | .hbm, ⟨1, _⟩ => ⟨S4x768x1024, .bf16⟩
  | .hbm, ⟨2, _⟩ => ⟨S768x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference20Ideal.lean ====
abbrev S4x768x1024 : Shape := ⟨3, ![4, 768, 1024]⟩
abbrev S_ : Shape := ⟨0, ![]⟩
abbrev S768x1024 : Shape := ⟨2, ![768, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x768x1024, .f32⟩
  | .hbm, ⟨1, _⟩ => ⟨S_, .f32⟩
  | .hbm, ⟨2, _⟩ => ⟨S768x1024, .f32⟩
  | _, _ => ⟨S4x768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S768x1024 : Shape := ⟨2, ![768, 1024]⟩
abbrev S1x1024x704 : Shape := ⟨3, ![1, 1024, 704]⟩
abbrev S1024x704 : Shape := ⟨2, ![1024, 704]⟩
abbrev S704x1024 : Shape := ⟨2, ![704, 1024]⟩
abbrev S352x1024 : Shape := ⟨2, ![352, 1024]⟩

abbrev nBuf : Space → Nat
  | .hbm => 15
  | .vmem => 18
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S768x1024 : Shape := ⟨2, ![768, 1024]⟩
abbrev S1x1024x704 : Shape := ⟨3, ![1, 1024, 704]⟩
abbrev S704x1024 : Shape := ⟨2, ![704, 1024]⟩
abbrev S1024x704 : Shape := ⟨2, ![1024, 704]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S1024x704, .f32⟩
  | .hbm, ⟨11, _⟩ => ⟨S704x1024, .f32⟩
  | .hbm, ⟨12, _⟩ => ⟨S1024x704, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S704x1024, .f32⟩
  | .hbm, ⟨40, _⟩ => ⟨S_, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S_, .f32⟩
  | .hbm, ⟨45, _⟩ => ⟨S704x1024, .f32⟩
  | .hbm, ⟨46, _⟩ => ⟨S704x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel22.lean ====
abbrev S8x1288x128 : Shape := ⟨3, ![8, 1288, 128]⟩
abbrev S1288x128 : Shape := ⟨2, ![1288, 128]⟩
abbrev S1x1288x128 : Shape := ⟨3, ![1, 1288, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1288x128, .f32⟩
  | .hbm, ⟨1, _⟩ => ⟨S1288x128, .f32⟩
  | .local _ .vmem, ⟨0, _⟩ => ⟨S8x1288x128, .f32⟩
  | .local _ .vmem, ⟨1, _⟩ => ⟨S1288x128, .f32⟩
  | _, _ => ⟨S8x1288x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference22Ideal.lean ====
abbrev S8x1288x128 : Shape := ⟨3, ![8, 1288, 128]⟩
abbrev S_ : Shape := ⟨0, ![]⟩
abbrev S1288x128 : Shape := ⟨2, ![1288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1288x128, .f32⟩
  | .hbm, ⟨1, _⟩ => ⟨S_, .f32⟩
  | .hbm, ⟨2, _⟩ => ⟨S1288x128, .f32⟩
  | _, _ => ⟨S8x1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S8192x1536 : Shape := ⟨2, ![8192, 1536]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S8192x512 : Shape := ⟨2, ![8192, 512]⟩
abbrev S80 : Shape := ⟨1, ![80]⟩
abbrev S80x1 : Shape := ⟨2, ![80, 1]⟩
abbrev S8x1 : Shape := ⟨2, ![8, 1]⟩
abbrev S1x2048 : Shape := ⟨2, ![1, 2048]⟩
abbrev S32 : Shape := ⟨1, ![32]⟩
abbrev S32x64 : Shape := ⟨2, ![32, 64]⟩
abbrev S2048 : Shape := ⟨1, ![2048]⟩
abbrev S80x2048 : Shape := ⟨2, ![80, 2048]⟩
abbrev S_ : Shape := ⟨0, ![]⟩
abbrev S32x64x16 : Shape := ⟨3, ![32, 64, 16]⟩
abbrev S16x32x64 : Shape := ⟨3, ![16, 32, 64]⟩
abbrev S16x2048 : Shape := ⟨2, ![16, 2048]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S32x16x64 : Shape := ⟨3, ![32, 16, 64]⟩
abbrev S16x4x512 : Shape := ⟨3, ![16, 4, 512]⟩
abbrev S4x16x512 : Shape := ⟨3, ![4, 16, 512]⟩
abbrev S1x4x1x16x1x512 : Shape := ⟨6, ![1, 4, 1, 16, 1, 512]⟩
abbrev S1x4x8x16x1x512 : Shape := ⟨6, ![1, 4, 8, 16, 1, 512]⟩
abbrev S4x128x512 : Shape := ⟨3, ![4, 128, 512]⟩
abbrev S4x128x1024 : Shape := ⟨3, ![4, 128, 1024]⟩
abbrev S4x512x128 : Shape := ⟨3, ![4, 512, 128]⟩
abbrev S4x1024x128 : Shape := ⟨3, ![4, 1024, 128]⟩
abbrev S80x4x512 : Shape := ⟨3, ![80, 4, 512]⟩
abbrev S80x4x1x512 : Shape := ⟨4, ![80, 4, 1, 512]⟩
abbrev S80x4x2x512 : Shape := ⟨4, ![80, 4, 2, 512]⟩
abbrev S80x4096 : Shape := ⟨2, ![80, 4096]⟩
abbrev S8x4096 : Shape := ⟨2, ![8, 4096]⟩
abbrev S1x4096 : Shape := ⟨2, ![1, 4096]⟩
abbrev S4096 : Shape := ⟨1, ![4096]⟩
abbrev S32x4096 : Shape := ⟨2, ![32, 4096]⟩
abbrev S32x8x4096 : Shape := ⟨3, ![32, 8, 4096]⟩
abbrev S256x4096 : Shape := ⟨2, ![256, 4096]⟩
abbrev S2x4096x32x16 : Shape := ⟨4, ![2, 4096, 32, 16]⟩
abbrev S32x64x2x4096 : Shape := ⟨4, ![32, 64, 2, 4096]⟩
abbrev S2x4096x32x64 : Shape := ⟨4, ![2, 4096, 32, 64]⟩
abbrev S2x4096x2048 : Shape := ⟨3, ![2, 4096, 2048]⟩
abbrev S4096x1x1 : Shape := ⟨3, ![4096, 1, 1]⟩
abbrev S1x4096x1 : Shape := ⟨3, ![1, 4096, 1]⟩
abbrev S4096x4096x1 : Shape := ⟨3, ![4096, 4096, 1]⟩
abbrev S1x1x2048 : Shape := ⟨3, ![1, 1, 2048]⟩
abbrev S4096x4096x2048 : Shape := ⟨3, ![4096, 4096, 2048]⟩
abbrev S2048x2x4096 : Shape := ⟨3, ![2048, 2, 4096]⟩
abbrev S8192x2048 : Shape := ⟨2, ![8192, 2048]⟩
abbrev S8192x4x512 : Shape := ⟨3, ![8192, 4, 512]⟩
abbrev S8192x4x1x512 : Shape := ⟨4, ![8192, 4, 1, 512]⟩
abbrev S8192x4x2x512 : Shape := ⟨4, ![8192, 4, 2, 512]⟩
abbrev S8192x4096 : Shape := ⟨2, ![8192, 4096]⟩
abbrev S32x8x32x4096 : Shape := ⟨4, ![32, 8, 32, 4096]⟩
abbrev S32x32x8x4096 : Shape := ⟨4, ![32, 32, 8, 4096]⟩
abbrev S256x512 : Shape := ⟨2, ![256, 512]⟩
abbrev S8x512 : Shape := ⟨2, ![8, 512]⟩
abbrev S256x128 : Shape := ⟨2, ![256, 128]⟩
abbrev S1x1024x128 : Shape := ⟨3, ![1, 1024, 128]⟩
abbrev S1024x128 : Shape := ⟨2, ![1024, 128]⟩
abbrev S256x1024 : Shape := ⟨2, ![256, 1024]⟩
abbrev S1x128x1024 : Shape := ⟨3, ![1, 128, 1024]⟩
abbrev S128x1024 : Shape := ⟨2, ![128, 1024]⟩
abbrev S4x2x512 : Shape := ⟨3, ![4, 2, 512]⟩
abbrev S1x128x512 : Shape := ⟨3, ![1, 128, 512]⟩
abbrev S4x8x16x512 : Shape := ⟨4, ![4, 8, 16, 512]⟩
abbrev S4x1x512 : Shape := ⟨3, ![4, 1, 512]⟩
abbrev S4x512 : Shape := ⟨2, ![4, 512]⟩

abbrev nBuf : Space → Nat
  | .hbm => 327
  | .vmem => 27
  | .smem => 0
  | _ => 0

abbrev hbmTy0_0 (i : Nat) : BufTy := match i % 128 with
  | 0 => ⟨S8192x1536, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S8192x512, .f32⟩
  | 9 => ⟨S8192x512, .f32⟩
  | 10 => ⟨S80, .f32⟩
  | 11 => ⟨S80x1, .f32⟩
  | 12 => ⟨S8x1, .i1⟩
  | 13 => ⟨S8x1, .i1⟩
  | 14 => ⟨S8x1, .i1⟩
  | 15 => ⟨S1x2048, .f32⟩
  | 16 => ⟨S1x2048, .f32⟩
  | 17 => ⟨S32, .f32⟩
  | 18 => ⟨S32x64, .f32⟩
  | 19 => ⟨S2048, .f32⟩
  | 20 => ⟨S1x2048, .f32⟩
  | 21 => ⟨S1x2048, .f32⟩
  | 22 => ⟨S1x2048, .f32⟩
  | 23 => ⟨S1x2048, .f32⟩
  | 24 => ⟨S80x2048, .f32⟩
  | 25 => ⟨S80x2048, .f32⟩
  | 26 => ⟨S80x2048, .f32⟩
  | 27 => ⟨S80x2048, .f32⟩
  | 28 => ⟨S80x2048, .f32⟩
  | 29 => ⟨S80x2048, .f32⟩
  | 30 => ⟨S80x2048, .f32⟩
  | 31 => ⟨S80x2048, .f32⟩
  | 32 => ⟨S80x2048, .f32⟩
  | 33 => ⟨S80x2048, .f32⟩
  | 34 => ⟨S80x2048, .f32⟩
  | 35 => ⟨S1x2048, .f32⟩
  | 36 => ⟨S_, .f32⟩
  | 37 => ⟨S1x2048, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S1x2048, .f32⟩
  | 51 => ⟨S32x64x16, .f32⟩
  | 52 => ⟨S16x32x64, .f32⟩
  | 53 => ⟨S16x2048, .f32⟩
  | 54 => ⟨S32x64x16, .f32⟩
  | 55 => ⟨S16x32x64, .f32⟩
  | 56 => ⟨S16x2048, .f32⟩
  | 57 => ⟨S16x2048, .f32⟩
  | 58 => ⟨S16x2048, .f32⟩
  | 59 => ⟨S16x2048, .f32⟩
  | 60 => ⟨S16x2048, .f32⟩
  | 61 => ⟨S16x2048, .f32⟩
  | 62 => ⟨S16x2048, .f32⟩
  | 63 => ⟨S16x2048, .f32⟩
  | 64 => ⟨S16x2048, .f32⟩
  | 65 => ⟨S16x2048, .f32⟩
  | 66 => ⟨S16x2048, .f32⟩
  | 67 => ⟨S128, .i32⟩
  | 68 => ⟨S128x1, .i32⟩
  | 69 => ⟨S_, .i32⟩
  | 70 => ⟨S_, .i32⟩
  | 71 => ⟨S128x1, .i32⟩
  | 72 => ⟨S128x1, .i32⟩
  | 73 => ⟨S128x1, .i32⟩
  | 74 => ⟨S_, .i32⟩
  | 75 => ⟨S128x1, .i32⟩
  | 76 => ⟨S128x1, .i1⟩
  | 77 => ⟨S128x1, .i32⟩
  | 78 => ⟨S128x1, .i32⟩
  | 79 => ⟨S_, .i32⟩
  | 80 => ⟨S128x1, .i32⟩
  | 81 => ⟨S128x1, .i1⟩
  | 82 => ⟨S128x1, .i1⟩
  | 83 => ⟨S_, .i32⟩
  | 84 => ⟨S128x1, .i32⟩
  | 85 => ⟨S128x1, .i32⟩
  | 86 => ⟨S128x1, .i32⟩
  | 87 => ⟨S512, .i32⟩
  | 88 => ⟨S1x512, .i32⟩
  | 89 => ⟨S_, .i32⟩
  | 90 => ⟨S_, .i32⟩
  | 91 => ⟨S1x512, .i32⟩
  | 92 => ⟨S1x512, .i32⟩
  | 93 => ⟨S1x512, .i32⟩
  | 94 => ⟨S_, .i32⟩
  | 95 => ⟨S1x512, .i32⟩
  | 96 => ⟨S1x512, .i1⟩
  | 97 => ⟨S1x512, .i32⟩
  | 98 => ⟨S1x512, .i32⟩
  | 99 => ⟨S_, .i32⟩
  | 100 => ⟨S1x512, .i32⟩
  | 101 => ⟨S1x512, .i1⟩
  | 102 => ⟨S1x512, .i1⟩
  | 103 => ⟨S_, .i32⟩
  | 104 => ⟨S1x512, .i32⟩
  | 105 => ⟨S1x512, .i32⟩
  | 106 => ⟨S1x512, .i32⟩
  | 107 => ⟨S128x512, .i32⟩
  | 108 => ⟨S128x512, .i32⟩
  | 109 => ⟨S128x512, .i1⟩
  | 110 => ⟨S32x16x64, .f32⟩
  | 111 => ⟨S16x32x64, .f32⟩
  | 112 => ⟨S16x2048, .f32⟩
  | 113 => ⟨S32x16x64, .f32⟩
  | 114 => ⟨S16x32x64, .f32⟩
  | 115 => ⟨S16x2048, .f32⟩
  | 116 => ⟨S16x4x512, .f32⟩
  | 117 => ⟨S4x16x512, .f32⟩
  | 118 => ⟨S1x4x1x16x1x512, .f32⟩
  | 119 => ⟨S1x4x8x16x1x512, .f32⟩
  | 120 => ⟨S4x128x512, .f32⟩
  | 121 => ⟨S_, .f32⟩
  | 122 => ⟨S_, .f32⟩
  | 123 => ⟨S4x128x512, .i1⟩
  | 124 => ⟨S4x128x512, .f32⟩
  | 125 => ⟨S4x128x512, .f32⟩
  | 126 => ⟨S16x4x512, .f32⟩
  | 127 => ⟨S4x16x512, .f32⟩
  | _ => ⟨S8192x1536, .f32⟩

abbrev hbmTy0_1 (i : Nat) : BufTy := match i % 128 with
  | 0 => ⟨S1x4x1x16x1x512, .f32⟩
  | 1 => ⟨S1x4x8x16x1x512, .f32⟩
  | 2 => ⟨S4x128x512, .f32⟩
  | 3 => ⟨S_, .f32⟩
  | 4 => ⟨S_, .f32⟩
  | 5 => ⟨S4x128x512, .i1⟩
  | 6 => ⟨S4x128x512, .f32⟩
  | 7 => ⟨S4x128x512, .f32⟩
  | 8 => ⟨S4x128x1024, .f32⟩
  | 9 => ⟨S4x128x1024, .bf16⟩
  | 10 => ⟨S16x4x512, .f32⟩
  | 11 => ⟨S4x16x512, .f32⟩
  | 12 => ⟨S1x4x1x16x1x512, .f32⟩
  | 13 => ⟨S1x4x8x16x1x512, .f32⟩
  | 14 => ⟨S4x128x512, .f32⟩
  | 15 => ⟨S_, .f32⟩
  | 16 => ⟨S_, .f32⟩
  | 17 => ⟨S4x128x512, .i1⟩
  | 18 => ⟨S4x128x512, .f32⟩
  | 19 => ⟨S4x128x512, .f32⟩
  | 20 => ⟨S4x512x128, .f32⟩
  | 21 => ⟨S16x4x512, .f32⟩
  | 22 => ⟨S4x16x512, .f32⟩
  | 23 => ⟨S1x4x1x16x1x512, .f32⟩
  | 24 => ⟨S1x4x8x16x1x512, .f32⟩
  | 25 => ⟨S4x128x512, .f32⟩
  | 26 => ⟨S_, .f32⟩
  | 27 => ⟨S_, .f32⟩
  | 28 => ⟨S4x128x512, .i1⟩
  | 29 => ⟨S4x128x512, .f32⟩
  | 30 => ⟨S4x128x512, .f32⟩
  | 31 => ⟨S4x512x128, .f32⟩
  | 32 => ⟨S4x512x128, .f32⟩
  | 33 => ⟨S4x1024x128, .f32⟩
  | 34 => ⟨S4x1024x128, .bf16⟩
  | 35 => ⟨S80x2048, .f32⟩
  | 36 => ⟨S80x4x512, .f32⟩
  | 37 => ⟨S80x4x512, .f32⟩
  | 38 => ⟨S80x4x1x512, .f32⟩
  | 39 => ⟨S80x4x1x512, .f32⟩
  | 40 => ⟨S80x4x2x512, .f32⟩
  | 41 => ⟨S80x4096, .f32⟩
  | 42 => ⟨S8x4096, .f32⟩
  | 43 => ⟨S1x4096, .f32⟩
  | 44 => ⟨S4096, .f32⟩
  | 45 => ⟨S1x4096, .f32⟩
  | 46 => ⟨S_, .f32⟩
  | 47 => ⟨S_, .f32⟩
  | 48 => ⟨S8x4096, .i1⟩
  | 49 => ⟨S8x4096, .f32⟩
  | 50 => ⟨S8x4096, .f32⟩
  | 51 => ⟨S8x4096, .f32⟩
  | 52 => ⟨S1x4096, .f32⟩
  | 53 => ⟨S4096, .f32⟩
  | 54 => ⟨S1x4096, .f32⟩
  | 55 => ⟨S_, .f32⟩
  | 56 => ⟨S_, .f32⟩
  | 57 => ⟨S8x4096, .i1⟩
  | 58 => ⟨S8x4096, .f32⟩
  | 59 => ⟨S8x4096, .f32⟩
  | 60 => ⟨S8x4096, .f32⟩
  | 61 => ⟨S1x4096, .f32⟩
  | 62 => ⟨S4096, .f32⟩
  | 63 => ⟨S1x4096, .f32⟩
  | 64 => ⟨S_, .f32⟩
  | 65 => ⟨S_, .f32⟩
  | 66 => ⟨S8x4096, .i1⟩
  | 67 => ⟨S8x4096, .f32⟩
  | 68 => ⟨S8x4096, .f32⟩
  | 69 => ⟨S8x4096, .f32⟩
  | 70 => ⟨S8x4096, .f32⟩
  | 71 => ⟨S32x4096, .f32⟩
  | 72 => ⟨S32x8x4096, .f32⟩
  | 73 => ⟨S256x4096, .f32⟩
  | 74 => ⟨S8192x512, .f32⟩
  | 75 => ⟨S2x4096x32x16, .f32⟩
  | 76 => ⟨S16x32x64, .f32⟩
  | 77 => ⟨S32x64x2x4096, .f32⟩
  | 78 => ⟨S2x4096x32x64, .f32⟩
  | 79 => ⟨S2x4096x2048, .f32⟩
  | 80 => ⟨S16x32x64, .f32⟩
  | 81 => ⟨S32x64x2x4096, .f32⟩
  | 82 => ⟨S2x4096x32x64, .f32⟩
  | 83 => ⟨S2x4096x2048, .f32⟩
  | 84 => ⟨S4096, .i32⟩
  | 85 => ⟨S4096x1x1, .i32⟩
  | 86 => ⟨S1x4096x1, .i32⟩
  | 87 => ⟨S4096x4096x1, .i32⟩
  | 88 => ⟨S4096x4096x1, .i32⟩
  | 89 => ⟨S4096x4096x1, .i32⟩
  | 90 => ⟨S4096x4096x1, .f32⟩
  | 91 => ⟨S1x1x2048, .f32⟩
  | 92 => ⟨S4096x4096x2048, .f32⟩
  | 93 => ⟨S4096x4096x2048, .f32⟩
  | 94 => ⟨S4096x4096x2048, .f32⟩
  | 95 => ⟨S4096x4096x2048, .f32⟩
  | 96 => ⟨S1x1x2048, .f32⟩
  | 97 => ⟨S4096x4096x2048, .f32⟩
  | 98 => ⟨S4096x4096x2048, .f32⟩
  | 99 => ⟨S4096x4096x2048, .f32⟩
  | 100 => ⟨S4096x4096x2048, .f32⟩
  | 101 => ⟨S4096x4096x2048, .f32⟩
  | 102 => ⟨S4096x4096x2048, .f32⟩
  | 103 => ⟨S4096x4096x2048, .f32⟩
  | 104 => ⟨S_, .i32⟩
  | 105 => ⟨S4096x4096x1, .i32⟩
  | 106 => ⟨S4096x4096x1, .i1⟩
  | 107 => ⟨S_, .f32⟩
  | 108 => ⟨S_, .f32⟩
  | 109 => ⟨S4096x4096x2048, .i1⟩
  | 110 => ⟨S4096x4096x2048, .f32⟩
  | 111 => ⟨S4096x4096x2048, .f32⟩
  | 112 => ⟨S_, .i32⟩
  | 113 => ⟨S4096x4096x1, .i32⟩
  | 114 => ⟨S4096x4096x1, .i1⟩
  | 115 => ⟨S_, .f32⟩
  | 116 => ⟨S_, .f32⟩
  | 117 => ⟨S4096x4096x2048, .i1⟩
  | 118 => ⟨S4096x4096x2048, .f32⟩
  | 119 => ⟨S4096x4096x2048, .f32⟩
  | 120 => ⟨S2048x2x4096, .f32⟩
  | 121 => ⟨S2x4096x2048, .f32⟩
  | 122 => ⟨S2048x2x4096, .f32⟩
  | 123 => ⟨S2x4096x2048, .f32⟩
  | 124 => ⟨S2x4096x2048, .f32⟩
  | 125 => ⟨S2048x2x4096, .f32⟩
  | 126 => ⟨S2x4096x2048, .f32⟩
  | 127 => ⟨S2048x2x4096, .f32⟩
  | _ => ⟨S8192x1536, .f32⟩

abbrev hbmTy0_2 (i : Nat) : BufTy := match i % 128 with
  | 0 => ⟨S2x4096x2048, .f32⟩
  | 1 => ⟨S2x4096x2048, .f32⟩
  | 2 => ⟨S8192x2048, .f32⟩
  | 3 => ⟨S8192x2048, .f32⟩
  | 4 => ⟨S8192x4x512, .f32⟩
  | 5 => ⟨S8192x4x512, .f32⟩
  | 6 => ⟨S8192x4x1x512, .f32⟩
  | 7 => ⟨S8192x4x1x512, .f32⟩
  | 8 => ⟨S8192x4x2x512, .f32⟩
  | 9 => ⟨S8192x4096, .f32⟩
  | 10 => ⟨S32x8x32x4096, .f32⟩
  | 11 => ⟨S32x32x8x4096, .f32⟩
  | 12 => ⟨S8192x4096, .f32⟩
  | 13 => ⟨S8192x512, .f32⟩
  | 14 => ⟨S1x4096, .f32⟩
  | 15 => ⟨S4x128x1024, .f32⟩
  | 16 => ⟨S4x1024x128, .f32⟩
  | 17 => ⟨S4x2x512, .f32⟩
  | 18 => ⟨S4x128x512, .f32⟩
  | 19 => ⟨S4x128x512, .f32⟩
  | 20 => ⟨S128x512, .f32⟩
  | 21 => ⟨S1x128x512, .f32⟩
  | 22 => ⟨S4x128x512, .f32⟩
  | 23 => ⟨S4x128x512, .f32⟩
  | 24 => ⟨S4x8x16x512, .f32⟩
  | 25 => ⟨S_, .f32⟩
  | 26 => ⟨S4x16x512, .f32⟩
  | 27 => ⟨S16x4x512, .f32⟩
  | 28 => ⟨S16x32x64, .f32⟩
  | 29 => ⟨S32x64x16, .f32⟩
  | 30 => ⟨S128x512, .f32⟩
  | 31 => ⟨S1x128x512, .f32⟩
  | 32 => ⟨S4x128x512, .f32⟩
  | 33 => ⟨S4x128x512, .f32⟩
  | 34 => ⟨S4x8x16x512, .f32⟩
  | 35 => ⟨S_, .f32⟩
  | 36 => ⟨S4x16x512, .f32⟩
  | 37 => ⟨S16x4x512, .f32⟩
  | 38 => ⟨S16x32x64, .f32⟩
  | 39 => ⟨S32x64x16, .f32⟩
  | 40 => ⟨S4x512x128, .f32⟩
  | 41 => ⟨S4x512x128, .f32⟩
  | 42 => ⟨S4x512x128, .f32⟩
  | 43 => ⟨S4x128x512, .f32⟩
  | 44 => ⟨S128x512, .f32⟩
  | 45 => ⟨S1x128x512, .f32⟩
  | 46 => ⟨S4x128x512, .f32⟩
  | 47 => ⟨S4x128x512, .f32⟩
  | 48 => ⟨S4x8x16x512, .f32⟩
  | 49 => ⟨S_, .f32⟩
  | 50 => ⟨S4x16x512, .f32⟩
  | 51 => ⟨S16x4x512, .f32⟩
  | 52 => ⟨S16x32x64, .f32⟩
  | 53 => ⟨S32x16x64, .f32⟩
  | 54 => ⟨S4x128x512, .f32⟩
  | 55 => ⟨S128x512, .f32⟩
  | 56 => ⟨S1x128x512, .f32⟩
  | 57 => ⟨S4x128x512, .f32⟩
  | 58 => ⟨S4x128x512, .f32⟩
  | 59 => ⟨S4x8x16x512, .f32⟩
  | 60 => ⟨S_, .f32⟩
  | 61 => ⟨S4x16x512, .f32⟩
  | 62 => ⟨S16x4x512, .f32⟩
  | 63 => ⟨S16x32x64, .f32⟩
  | 64 => ⟨S32x16x64, .f32⟩
  | 65 => ⟨S4x1x512, .f32⟩
  | 66 => ⟨S4x512, .f32⟩
  | 67 => ⟨S32x64, .f32⟩
  | 68 => ⟨S4x1x512, .f32⟩
  | 69 => ⟨S4x512, .f32⟩
  | 70 => ⟨S32x64, .f32⟩
  | _ => ⟨S8192x1536, .f32⟩

abbrev hbmTy (i : Nat) : BufTy := match i / 128 with
  | 0 => hbmTy0_0 i
  | 1 => hbmTy0_1 i
  | 2 => hbmTy0_2 i
  | _ => ⟨S8192x1536, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x4096, .f32⟩
  | .local _ .vmem, ⟨5, _⟩ => ⟨S256x4096, .f32⟩
  | .local _ .vmem, ⟨6, _⟩ => ⟨S256x512, .f32⟩
  | .local _ .vmem, ⟨7, _⟩ => ⟨S256x512, .f32⟩
  | .local _ .vmem, ⟨8, _⟩ => ⟨S4x128x1024, .bf16⟩
  | .local _ .vmem, ⟨9, _⟩ => ⟨S4x1024x128, .bf16⟩
  | .local _ .vmem, ⟨10, _⟩ => ⟨S256x4096, .f32⟩
  | .local _ .vmem, ⟨11, _⟩ => ⟨S8x4096, .f32⟩
  | .local _ .vmem, ⟨12, _⟩ => ⟨S8x4096, .f32⟩
  | .local _ .vmem, ⟨13, _⟩ => ⟨S8x4096, .f32⟩
  | .local _ .vmem, ⟨14, _⟩ => ⟨S8x4096, .f32⟩
  | .local _ .vmem, ⟨15, _⟩ => ⟨S256x512, .f32⟩
  | .local _ .vmem, ⟨16, _⟩ => ⟨S256x512, .f32⟩
  | .local _ .vmem, ⟨17, _⟩ => ⟨S1x4096, .f32⟩
  | .local _ .vmem, ⟨18, _⟩ => ⟨S4x128x1024, .f32⟩
  | .local _ .vmem, ⟨19, _⟩ => ⟨S4x1024x128, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x4096, .f32⟩
  | .local _ .vmem, ⟨24, _⟩ => ⟨S256x4096, .f32⟩
  | .local _ .vmem, ⟨25, _⟩ => ⟨S8x4096, .f32⟩
  | .local _ .vmem, ⟨26, _⟩ => ⟨S8x4096, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_3 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_4 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_c : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_0 : Ref sig .tc := ⟨.hbm, 103, rfl⟩
abbrev main_call1_v12 : Ref sig .tc := ⟨.hbm, 104, rfl⟩
abbrev main_call1_v13 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_5 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_6 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_7 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_8 : Ref sig .tc := ⟨.hbm, 154, rfl⟩
abbrev main_call5_v0 : Ref sig .tc := ⟨.hbm, 155, rfl⟩
abbrev main_call5_v1 : Ref sig .tc := ⟨.hbm, 156, rfl⟩
abbrev main_call5_v2 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_9 : Ref sig .tc := ⟨.hbm, 174, rfl⟩
abbrev main_call6_v0 : Ref sig .tc := ⟨.hbm, 175, rfl⟩
abbrev main_call6_v1 : Ref sig .tc := ⟨.hbm, 176, rfl⟩
abbrev main_call6_v2 : Ref sig .tc := ⟨.hbm, 177, rfl⟩
abbrev main_call6_v3 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_10 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_call7_v3 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_cst_11 : Ref sig .tc := ⟨.hbm, 192, rfl⟩
abbrev main_call8_v0 : Ref sig .tc := ⟨.hbm, 193, rfl⟩
abbrev main_call8_v1 : Ref sig .tc := ⟨.hbm, 194, rfl⟩
abbrev main_call8_v2 : Ref sig .tc := ⟨.hbm, 195, rfl⟩
abbrev main_call8_v3 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_c_12 : Ref sig .tc := ⟨.hbm, 232, rfl⟩
abbrev main_v152 : Ref sig .tc := ⟨.hbm, 233, rfl⟩
abbrev main_v153 : Ref sig .tc := ⟨.hbm, 234, rfl⟩
abbrev main_cst_13 : Ref sig .tc := ⟨.hbm, 235, rfl⟩
abbrev main_call9_v0 : Ref sig .tc := ⟨.hbm, 236, rfl⟩
abbrev main_call9_v1 : Ref sig .tc := ⟨.hbm, 237, rfl⟩
abbrev main_call9_v2 : Ref sig .tc := ⟨.hbm, 238, rfl⟩
abbrev main_v154 : Ref sig .tc := ⟨.hbm, 239, rfl⟩
abbrev main_c_14 : Ref sig .tc := ⟨.hbm, 240, rfl⟩
abbrev main_v155 : Ref sig .tc := ⟨.hbm, 241, rfl⟩
abbrev main_v156 : Ref sig .tc := ⟨.hbm, 242, rfl⟩
abbrev main_cst_15 : Ref sig .tc := ⟨.hbm, 243, rfl⟩
abbrev main_call10_v0 : Ref sig .tc := ⟨.hbm, 244, rfl⟩
abbrev main_call10_v1 : Ref sig .tc := ⟨.hbm, 245, rfl⟩
abbrev main_call10_v2 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179_0 : Ref sig .tc := ⟨.hbm, 269, rfl⟩
abbrev main_v179_1 : Ref sig .tc := ⟨.hbm, 270, rfl⟩
abbrev main_v179_2 : Ref sig .tc := ⟨.hbm, 271, rfl⟩
abbrev main_v179_3 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_cst_16 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_cst_17 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_cst_18 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_cst_19 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1375 : BitVec 32 := 0#32
  let c32_i32_1376 : BitVec 32 := 32#32
  let v3130 : BitVec 32 := Scalar.addi c0_i32_1375 c32_i32_1376
  let c1_i32_1377 : BitVec 32 := 1#32
  ⟨c0_i32_1375, v3130, c1_i32_1377⟩
def k0_mult1 (k0_t1 : Fin k0_t1_loop.trips) : BitVec 32 :=
  let c31_i32_2503 : BitVec 32 := 31#32
  let c0_i32_1375 : BitVec 32 := 0#32
  let c1_i32_1377 : BitVec 32 := 1#32
  let arg23 : BitVec 32 := Scf.iv c0_i32_1375 c1_i32_1377 k0_t1
  let v5107 : BitVec 32 := Scalar.subi c31_i32_2503 arg23
  let c8_i32 : BitVec 32 := 8#32
  let v5108 : BitVec 32 := Scalar.muli v5107 c8_i32
  v5108
def k0_off1 (k0_t1 : Fin k0_t1_loop.trips) : Fin 2 → Nat :=
  let c31_i32_2503 : BitVec 32 := 31#32
  let c0_i32_1375 : BitVec 32 := 0#32
  let c1_i32_1377 : BitVec 32 := 1#32
  let arg23 : BitVec 32 := Scf.iv c0_i32_1375 c1_i32_1377 k0_t1
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c0_2504 : Index := 0#32
  ![v5113.toNat, 0]
def k0_off2 (k0_t1 : Fin k0_t1_loop.trips) : Fin 2 → Nat :=
  let c31_i32_2503 : BitVec 32 := 31#32
  let c0_i32_1375 : BitVec 32 := 0#32
  let c1_i32_1377 : BitVec 32 := 1#32
  let arg23 : BitVec 32 := Scf.iv c0_i32_1375 c1_i32_1377 k0_t1
  let v5107 : BitVec 32 := Scalar.subi c31_i32_2503 arg23
  let c8_i32 : BitVec 32 := 8#32
  let v5108 : BitVec 32 := Scalar.muli v5107 c8_i32
  let v5109 : BitVec 32 := v5108
  let v5119 : Index := Scalar.indexCast v5109
  let c512_2505 : Index := 512#32
  ![v5119.toNat, 512]
@[reducible] def k0_t2_loop : Scf.Loop 32 :=
  let c0_i32_1413 : BitVec 32 := 0#32
  let c32_i32_1414 : BitVec 32 := 32#32
  let v3210 : BitVec 32 := Scalar.addi c0_i32_1413 c32_i32_1414
  let c1_i32_1415 : BitVec 32 := 1#32
  ⟨c0_i32_1413, v3210, c1_i32_1415⟩
def k0_mult2 (k0_t2 : Fin k0_t2_loop.trips) : BitVec 32 :=
  let c31_i32_2503 : BitVec 32 := 31#32
  let c0_i32_1413 : BitVec 32 := 0#32
  let c1_i32_1415 : BitVec 32 := 1#32
  let arg23 : BitVec 32 := Scf.iv c0_i32_1413 c1_i32_1415 k0_t2
  let v5107 : BitVec 32 := Scalar.subi c31_i32_2503 arg23
  let c8_i32 : BitVec 32 := 8#32
  let v5108 : BitVec 32 := Scalar.muli v5107 c8_i32
  v5108
def k0_off3 (k0_t2 : Fin k0_t2_loop.trips) : Fin 2 → Nat :=
  let c31_i32_2503 : BitVec 32 := 31#32
  let c0_i32_1413 : BitVec 32 := 0#32
  let c1_i32_1415 : BitVec 32 := 1#32
  let arg23 : BitVec 32 := Scf.iv c0_i32_1413 c1_i32_1415 k0_t2
  let v5107 : BitVec 32 := Scalar.subi c31_i32_2503 arg23
  let c8_i32 : BitVec 32 := 8#32
  let v5108 : BitVec 32 := Scalar.muli v5107 c8_i32
  let v5109 : BitVec 32 := v5108
  let v5110 : Index := Scalar.indexCast v5109
  let c0_2504 : Index := 0#32
  ![v5110.toNat, 0]
def k0_off4 (k0_t2 : Fin k0_t2_loop.trips) : Fin 2 → Nat :=
  let c31_i32_2503 : BitVec 32 := 31#32
  let c0_i32_1413 : BitVec 32 := 0#32
  let c1_i32_1415 : BitVec 32 := 1#32
  let arg23 : BitVec 32 := Scf.iv c0_i32_1413 c1_i32_1415 k0_t2
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c512_2505 : Index := 512#32
  ![v5113.toNat, 512]
@[reducible] def k0_t3_loop : Scf.Loop 32 :=
  let c0_i32_1428 : BitVec 32 := 0#32
  let c32_i32_1429 : BitVec 32 := 32#32
  let v3226 : BitVec 32 := Scalar.addi c0_i32_1428 c32_i32_1429
  let c1_i32_1430 : BitVec 32 := 1#32
  ⟨c0_i32_1428, v3226, c1_i32_1430⟩
def k0_mult3 (k0_t3 : Fin k0_t3_loop.trips) : BitVec 32 :=
  let c31_i32_2503 : BitVec 32 := 31#32
  let c0_i32_1428 : BitVec 32 := 0#32
  let c1_i32_1430 : BitVec 32 := 1#32
  let arg23 : BitVec 32 := Scf.iv c0_i32_1428 c1_i32_1430 k0_t3
  let v5107 : BitVec 32 := Scalar.subi c31_i32_2503 arg23
  let c8_i32 : BitVec 32 := 8#32
  let v5108 : BitVec 32 := Scalar.muli v5107 c8_i32
  v5108
def k0_off5 (k0_t3 : Fin k0_t3_loop.trips) : Fin 2 → Nat :=
  let c31_i32_2503 : BitVec 32 := 31#32
  let c0_i32_1428 : BitVec 32 := 0#32
  let c1_i32_1430 : BitVec 32 := 1#32
  let arg23 : BitVec 32 := Scf.iv c0_i32_1428 c1_i32_1430 k0_t3
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c1024_2504 : Index := 1024#32
  ![v5113.toNat, 1024]
def k0_off6 (k0_t3 : Fin k0_t3_loop.trips) : Fin 2 → Nat :=
  let c31_i32_2503 : BitVec 32 := 31#32
  let c0_i32_1428 : BitVec 32 := 0#32
  let c1_i32_1430 : BitVec 32 := 1#32
  let arg23 : BitVec 32 := Scf.iv c0_i32_1428 c1_i32_1430 k0_t3
  let v5107 : BitVec 32 := Scalar.subi c31_i32_2503 arg23
  let c8_i32 : BitVec 32 := 8#32
  let v5108 : BitVec 32 := Scalar.muli v5107 c8_i32
  let v5109 : BitVec 32 := v5108
  let v5119 : Index := Scalar.indexCast v5109
  let c1536_2505 : Index := 1536#32
  ![v5119.toNat, 1536]
@[reducible] def k0_t4_loop : Scf.Loop 32 :=
  let c0_i32_1466 : BitVec 32 := 0#32
  let c32_i32_1467 : BitVec 32 := 32#32
  let v3306 : BitVec 32 := Scalar.addi c0_i32_1466 c32_i32_1467
  let c1_i32_1468 : BitVec 32 := 1#32
  ⟨c0_i32_1466, v3306, c1_i32_1468⟩
def k0_mult4 (k0_t4 : Fin k0_t4_loop.trips) : BitVec 32 :=
  let c31_i32_2503 : BitVec 32 := 31#32
  let c0_i32_1466 : BitVec 32 := 0#32
  let c1_i32_1468 : BitVec 32 := 1#32
  let arg23 : BitVec 32 := Scf.iv c0_i32_1466 c1_i32_1468 k0_t4
  let v5107 : BitVec 32 := Scalar.subi c31_i32_2503 arg23
  let c8_i32 : BitVec 32 := 8#32
  let v5108 : BitVec 32 := Scalar.muli v5107 c8_i32
  v5108
def k0_off7 (k0_t4 : Fin k0_t4_loop.trips) : Fin 2 → Nat :=
  let c31_i32_2503 : BitVec 32 := 31#32
  let c0_i32_1466 : BitVec 32 := 0#32
  let c1_i32_1468 : BitVec 32 := 1#32
  let arg23 : BitVec 32 := Scf.iv c0_i32_1466 c1_i32_1468 k0_t4
  let v5107 : BitVec 32 := Scalar.subi c31_i32_2503 arg23
  let c8_i32 : BitVec 32 := 8#32
  let v5108 : BitVec 32 := Scalar.muli v5107 c8_i32
  let v5109 : BitVec 32 := v5108
  let v5110 : Index := Scalar.indexCast v5109
  let c1024_2504 : Index := 1024#32
  ![v5110.toNat, 1024]
def k0_off8 (k0_t4 : Fin k0_t4_loop.trips) : Fin 2 → Nat :=
  let c31_i32_2503 : BitVec 32 := 31#32
  let c0_i32_1466 : BitVec 32 := 0#32
  let c1_i32_1468 : BitVec 32 := 1#32
  let arg23 : BitVec 32 := Scf.iv c0_i32_1466 c1_i32_1468 k0_t4
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c1536_2505 : Index := 1536#32
  ![v5113.toNat, 1536]
@[reducible] def k0_t5_loop : Scf.Loop 32 :=
  let c0_i32_1481 : BitVec 32 := 0#32
  let c32_i32_1482 : BitVec 32 := 32#32
  let v3322 : BitVec 32 := Scalar.addi c0_i32_1481 c32_i32_1482
  let c1_i32_1483 : BitVec 32 := 1#32
  ⟨c0_i32_1481, v3322, c1_i32_1483⟩
def k0_mult5 (k0_t5 : Fin k0_t5_loop.trips) : BitVec 32 :=
  let c31_i32_2503 : BitVec 32 := 31#32
  let c0_i32_1481 : BitVec 32 := 0#32
  let c1_i32_1483 : BitVec 32 := 1#32
  let arg23 : BitVec 32 := Scf.iv c0_i32_1481 c1_i32_1483 k0_t5
  let v5107 : BitVec 32 := Scalar.subi c31_i32_2503 arg23
  let c8_i32 : BitVec 32 := 8#32
  let v5108 : BitVec 32 := Scalar.muli v5107 c8_i32
  v5108
def k0_off9 (k0_t5 : Fin k0_t5_loop.trips) : Fin 2 → Nat :=
  let c31_i32_2503 : BitVec 32 := 31#32
  let c0_i32_1481 : BitVec 32 := 0#32
  let c1_i32_1483 : BitVec 32 := 1#32
  let arg23 : BitVec 32 := Scf.iv c0_i32_1481 c1_i32_1483 k0_t5
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c2048_2504 : Index := 2048#32
  ![v5113.toNat, 2048]
def k0_off10 (k0_t5 : Fin k0_t5_loop.trips) : Fin 2 → Nat :=
  let c31_i32_2503 : BitVec 32 := 31#32
  let c0_i32_1481 : BitVec 32 := 0#32
  let c1_i32_1483 : BitVec 32 := 1#32
  let arg23 : BitVec 32 := Scf.iv c0_i32_1481 c1_i32_1483 k0_t5
  let v5107 : BitVec 32 := Scalar.subi c31_i32_2503 arg23
  let c8_i32 : BitVec 32 := 8#32
  let v5108 : BitVec 32 := Scalar.muli v5107 c8_i32
  let v5109 : BitVec 32 := v5108
  let v5119 : Index := Scalar.indexCast v5109
  let c2560_2505 : Index := 2560#32
  ![v5119.toNat, 2560]
@[reducible] def k0_t6_loop : Scf.Loop 32 :=
  let c0_i32_1519 : BitVec 32 := 0#32
  let c32_i32_1520 : BitVec 32 := 32#32
  let v3402 : BitVec 32 := Scalar.addi c0_i32_1519 c32_i32_1520
  let c1_i32_1521 : BitVec 32 := 1#32
  ⟨c0_i32_1519, v3402, c1_i32_1521⟩
def k0_mult6 (k0_t6 : Fin k0_t6_loop.trips) : BitVec 32 :=
  let c31_i32_2503 : BitVec 32 := 31#32
  let c0_i32_1519 : BitVec 32 := 0#32
  let c1_i32_1521 : BitVec 32 := 1#32
  let arg23 : BitVec 32 := Scf.iv c0_i32_1519 c1_i32_1521 k0_t6
  let v5107 : BitVec 32 := Scalar.subi c31_i32_2503 arg23
  let c8_i32 : BitVec 32 := 8#32
  let v5108 : BitVec 32 := Scalar.muli v5107 c8_i32
  v5108
def k0_off11 (k0_t6 : Fin k0_t6_loop.trips) : Fin 2 → Nat :=
  let c31_i32_2503 : BitVec 32 := 31#32
  let c0_i32_1519 : BitVec 32 := 0#32
  let c1_i32_1521 : BitVec 32 := 1#32
  let arg23 : BitVec 32 := Scf.iv c0_i32_1519 c1_i32_1521 k0_t6
  let v5107 : BitVec 32 := Scalar.subi c31_i32_2503 arg23
  let c8_i32 : BitVec 32 := 8#32
  let v5108 : BitVec 32 := Scalar.muli v5107 c8_i32
  let v5109 : BitVec 32 := v5108
  let v5110 : Index := Scalar.indexCast v5109
  let c2048_2504 : Index := 2048#32
  ![v5110.toNat, 2048]
def k0_off12 (k0_t6 : Fin k0_t6_loop.trips) : Fin 2 → Nat :=
  let c31_i32_2503 : BitVec 32 := 31#32
  let c0_i32_1519 : BitVec 32 := 0#32
  let c1_i32_1521 : BitVec 32 := 1#32
  let arg23 : BitVec 32 := Scf.iv c0_i32_1519 c1_i32_1521 k0_t6
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c2560_2505 : Index := 2560#32
  ![v5113.toNat, 2560]
@[reducible] def k0_t7_loop : Scf.Loop 32 :=
  let c0_i32_1534 : BitVec 32 := 0#32
  let c32_i32_1535 : BitVec 32 := 32#32
  let v3418 : BitVec 32 := Scalar.addi c0_i32_1534 c32_i32_1535
  let c1_i32_1536 : BitVec 32 := 1#32
  ⟨c0_i32_1534, v3418, c1_i32_1536⟩
def k0_mult7 (k0_t7 : Fin k0_t7_loop.trips) : BitVec 32 :=
  let c31_i32_2503 : BitVec 32 := 31#32
  let c0_i32_1534 : BitVec 32 := 0#32
  let c1_i32_1536 : BitVec 32 := 1#32
  let arg23 : BitVec 32 := Scf.iv c0_i32_1534 c1_i32_1536 k0_t7
  let v5107 : BitVec 32 := Scalar.subi c31_i32_2503 arg23
  let c8_i32 : BitVec 32 := 8#32
  let v5108 : BitVec 32 := Scalar.muli v5107 c8_i32
  v5108
def k0_off13 (k0_t7 : Fin k0_t7_loop.trips) : Fin 2 → Nat :=
  let c31_i32_2503 : BitVec 32 := 31#32
  let c0_i32_1534 : BitVec 32 := 0#32
  let c1_i32_1536 : BitVec 32 := 1#32
  let arg23 : BitVec 32 := Scf.iv c0_i32_1534 c1_i32_1536 k0_t7
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c3072_2504 : Index := 3072#32
  ![v5113.toNat, 3072]
def k0_off14 (k0_t7 : Fin k0_t7_loop.trips) : Fin 2 → Nat :=
  let c31_i32_2503 : BitVec 32 := 31#32
  let c0_i32_1534 : BitVec 32 := 0#32
  let c1_i32_1536 : BitVec 32 := 1#32
  let arg23 : BitVec 32 := Scf.iv c0_i32_1534 c1_i32_1536 k0_t7
  let v5107 : BitVec 32 := Scalar.subi c31_i32_2503 arg23
  let c8_i32 : BitVec 32 := 8#32
  let v5108 : BitVec 32 := Scalar.muli v5107 c8_i32
  let v5109 : BitVec 32 := v5108
  let v5119 : Index := Scalar.indexCast v5109
  let c3584_2505 : Index := 3584#32
  ![v5119.toNat, 3584]
@[reducible] def k0_t8_loop : Scf.Loop 32 :=
  let c0_i32_1572 : BitVec 32 := 0#32
  let c32_i32_1573 : BitVec 32 := 32#32
  let v3498 : BitVec 32 := Scalar.addi c0_i32_1572 c32_i32_1573
  let c1_i32_1574 : BitVec 32 := 1#32
  ⟨c0_i32_1572, v3498, c1_i32_1574⟩
def k0_mult8 (k0_t8 : Fin k0_t8_loop.trips) : BitVec 32 :=
  let c31_i32_2503 : BitVec 32 := 31#32
  let c0_i32_1572 : BitVec 32 := 0#32
  let c1_i32_1574 : BitVec 32 := 1#32
  let arg23 : BitVec 32 := Scf.iv c0_i32_1572 c1_i32_1574 k0_t8
  let v5107 : BitVec 32 := Scalar.subi c31_i32_2503 arg23
  let c8_i32 : BitVec 32 := 8#32
  let v5108 : BitVec 32 := Scalar.muli v5107 c8_i32
  v5108
def k0_off15 (k0_t8 : Fin k0_t8_loop.trips) : Fin 2 → Nat :=
  let c31_i32_2503 : BitVec 32 := 31#32
  let c0_i32_1572 : BitVec 32 := 0#32
  let c1_i32_1574 : BitVec 32 := 1#32
  let arg23 : BitVec 32 := Scf.iv c0_i32_1572 c1_i32_1574 k0_t8
  let v5107 : BitVec 32 := Scalar.subi c31_i32_2503 arg23
  let c8_i32 : BitVec 32 := 8#32
  let v5108 : BitVec 32 := Scalar.muli v5107 c8_i32
  let v5109 : BitVec 32 := v5108
  let v5110 : Index := Scalar.indexCast v5109
  let c3072_2504 : Index := 3072#32
  ![v5110.toNat, 3072]
def k0_off16 (k0_t8 : Fin k0_t8_loop.trips) : Fin 2 → Nat :=
  let c31_i32_2503 : BitVec 32 := 31#32
  let c0_i32_1572 : BitVec 32 := 0#32
  let c1_i32_1574 : BitVec 32 := 1#32
  let arg23 : BitVec 32 := Scf.iv c0_i32_1572 c1_i32_1574 k0_t8
  let v5107 : BitVec 32 := Scalar.subi c31_i32_2503 arg23
  let c8_i32 : BitVec 32 := 8#32
  let v5108 : BitVec 32 := Scalar.muli v5107 c8_i32
  let v5109 : BitVec 32 := v5108
  let v5113 : Index := Scalar.indexCast v5109
  let c3584_2505 : Index := 3584#32
  ![v5113.toNat, 3584]
def k0_cond3 (i : grid0.Coords) : BitVec 1 :=
  let arg0 : BitVec 32 := BitVec.ofNat 32 (i 0).val
  let c31_i32 : BitVec 32 := 31#32
  let v5104 : BitVec 1 := Scalar.cmpi .eq arg0 c31_i32
  let v5105 : BitVec 32 := Scalar.extui v5104
  let c0_i32_2502 : BitVec 32 := 0#32
  let v5106 : BitVec 1 := Scalar.cmpi .ne v5105 c0_i32_2502
  v5106

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Kernel17.lean ====
abbrev S8192x1536 : Shape := ⟨2, ![8192, 1536]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S80 : Shape := ⟨1, ![80]⟩
abbrev S80x1 : Shape := ⟨2, ![80, 1]⟩
abbrev S8x1 : Shape := ⟨2, ![8, 1]⟩
abbrev S1x2048 : Shape := ⟨2, ![1, 2048]⟩
abbrev S32 : Shape := ⟨1, ![32]⟩
abbrev S32x64 : Shape := ⟨2, ![32, 64]⟩
abbrev S2048 : Shape := ⟨1, ![2048]⟩
abbrev S80x2048 : Shape := ⟨2, ![80, 2048]⟩
abbrev S_ : Shape := ⟨0, ![]⟩
abbrev S32x64x16 : Shape := ⟨3, ![32, 64, 16]⟩
abbrev S16x32x64 : Shape := ⟨3, ![16, 32, 64]⟩
abbrev S16x2048 : Shape := ⟨2, ![16, 2048]⟩
abbrev S128 : Shape := ⟨1, ![128]⟩
abbrev S128x1 : Shape := ⟨2, ![128, 1]⟩
abbrev S512 : Shape := ⟨1, ![512]⟩
abbrev S128x512 : Shape := ⟨2, ![128, 512]⟩
abbrev S32x16x64 : Shape := ⟨3, ![32, 16, 64]⟩
abbrev S16x4x512 : Shape := ⟨3, ![16, 4, 512]⟩
abbrev S4x16x512 : Shape := ⟨3, ![4, 16, 512]⟩
abbrev S1x4x1x16x1x512 : Shape := ⟨6, ![1, 4, 1, 16, 1, 512]⟩
abbrev S1x4x8x16x1x512 : Shape := ⟨6, ![1, 4, 8, 16, 1, 512]⟩
abbrev S4x128x512 : Shape := ⟨3, ![4, 128, 512]⟩
abbrev S4x128x1024 : Shape := ⟨3, ![4, 128, 1024]⟩
abbrev S4x512x128 : Shape := ⟨3, ![4, 512, 128]⟩
abbrev S4x1024x128 : Shape := ⟨3, ![4, 1024, 128]⟩
abbrev S80x4x512 : Shape := ⟨3, ![80, 4, 512]⟩
abbrev S80x4x1x512 : Shape := ⟨4, ![80, 4, 1, 512]⟩
abbrev S80x4x2x512 : Shape := ⟨4, ![80, 4, 2, 512]⟩
abbrev S80x4096 : Shape := ⟨2, ![80, 4096]⟩
abbrev S8x4096 : Shape := ⟨2, ![8, 4096]⟩
abbrev S1x4096 : Shape := ⟨2, ![1, 4096]⟩
abbrev S4096 : Shape := ⟨1, ![4096]⟩
abbrev S32x4096 : Shape := ⟨2, ![32, 4096]⟩
abbrev S32x8x4096 : Shape := ⟨3, ![32, 8, 4096]⟩
abbrev S256x4096 : Shape := ⟨2, ![256, 4096]⟩
abbrev S8192x4096 : Shape := ⟨2, ![8192, 4096]⟩
abbrev S8192x512 : Shape := ⟨2, ![8192, 512]⟩
abbrev S256x512 : Shape := ⟨2, ![256, 512]⟩
abbrev S8x512 : Shape := ⟨2, ![8, 512]⟩
abbrev S256x128 : Shape := ⟨2, ![256, 128]⟩
abbrev S1x128x1024 : Shape := ⟨3, ![1, 128, 1024]⟩
abbrev S128x1024 : Shape := ⟨2, ![128, 1024]⟩
abbrev S256x1024 : Shape := ⟨2, ![256, 1024]⟩
abbrev S1x1024x128 : Shape := ⟨3, ![1, 1024, 128]⟩
abbrev S1024x128 : Shape := ⟨2, ![1024, 128]⟩
abbrev S1x128 : Shape := ⟨2, ![1, 128]⟩

abbrev nBuf : Space → Nat
  | .hbm => 202
  | .vmem => 19
  | .smem => 0
  | _ => 0

abbrev hbmTy0_0 (i : Nat) : BufTy := match i % 128 with
  | 0 => ⟨S8192x1536, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x512, .f32⟩
  | 9 => ⟨S80, .f32⟩
  | 10 => ⟨S80x1, .f32⟩
  | 11 => ⟨S8x1, .i1⟩
  | 12 => ⟨S8x1, .i1⟩
  | 13 => ⟨S8x1, .i1⟩
  | 14 => ⟨S1x2048, .f32⟩
  | 15 => ⟨S1x2048, .f32⟩
  | 16 => ⟨S32, .f32⟩
  | 17 => ⟨S32x64, .f32⟩
  | 18 => ⟨S2048, .f32⟩
  | 19 => ⟨S1x2048, .f32⟩
  | 20 => ⟨S1x2048, .f32⟩
  | 21 => ⟨S1x2048, .f32⟩
  | 22 => ⟨S1x2048, .f32⟩
  | 23 => ⟨S80x2048, .f32⟩
  | 24 => ⟨S80x2048, .f32⟩
  | 25 => ⟨S80x2048, .f32⟩
  | 26 => ⟨S80x2048, .f32⟩
  | 27 => ⟨S80x2048, .f32⟩
  | 28 => ⟨S80x2048, .f32⟩
  | 29 => ⟨S80x2048, .f32⟩
  | 30 => ⟨S80x2048, .f32⟩
  | 31 => ⟨S80x2048, .f32⟩
  | 32 => ⟨S80x2048, .f32⟩
  | 33 => ⟨S80x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S1x2048, .f32⟩
  | 40 => ⟨S1x2048, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S1x2048, .f32⟩
  | 50 => ⟨S32x64x16, .f32⟩
  | 51 => ⟨S16x32x64, .f32⟩
  | 52 => ⟨S16x2048, .f32⟩
  | 53 => ⟨S32x64x16, .f32⟩
  | 54 => ⟨S16x32x64, .f32⟩
  | 55 => ⟨S16x2048, .f32⟩
  | 56 => ⟨S16x2048, .f32⟩
  | 57 => ⟨S16x2048, .f32⟩
  | 58 => ⟨S16x2048, .f32⟩
  | 59 => ⟨S16x2048, .f32⟩
  | 60 => ⟨S16x2048, .f32⟩
  | 61 => ⟨S16x2048, .f32⟩
  | 62 => ⟨S16x2048, .f32⟩
  | 63 => ⟨S16x2048, .f32⟩
  | 64 => ⟨S16x2048, .f32⟩
  | 65 => ⟨S16x2048, .f32⟩
  | 66 => ⟨S128, .i32⟩
  | 67 => ⟨S128x1, .i32⟩
  | 68 => ⟨S_, .i32⟩
  | 69 => ⟨S_, .i32⟩
  | 70 => ⟨S128x1, .i32⟩
  | 71 => ⟨S128x1, .i32⟩
  | 72 => ⟨S128x1, .i32⟩
  | 73 => ⟨S_, .i32⟩
  | 74 => ⟨S128x1, .i32⟩
  | 75 => ⟨S128x1, .i1⟩
  | 76 => ⟨S128x1, .i32⟩
  | 77 => ⟨S128x1, .i32⟩
  | 78 => ⟨S_, .i32⟩
  | 79 => ⟨S128x1, .i32⟩
  | 80 => ⟨S128x1, .i1⟩
  | 81 => ⟨S128x1, .i1⟩
  | 82 => ⟨S_, .i32⟩
  | 83 => ⟨S128x1, .i32⟩
  | 84 => ⟨S128x1, .i32⟩
  | 85 => ⟨S128x1, .i32⟩
  | 86 => ⟨S512, .i32⟩
  | 87 => ⟨S1x512, .i32⟩
  | 88 => ⟨S_, .i32⟩
  | 89 => ⟨S_, .i32⟩
  | 90 => ⟨S1x512, .i32⟩
  | 91 => ⟨S1x512, .i32⟩
  | 92 => ⟨S1x512, .i32⟩
  | 93 => ⟨S_, .i32⟩
  | 94 => ⟨S1x512, .i32⟩
  | 95 => ⟨S1x512, .i1⟩
  | 96 => ⟨S1x512, .i32⟩
  | 97 => ⟨S1x512, .i32⟩
  | 98 => ⟨S_, .i32⟩
  | 99 => ⟨S1x512, .i32⟩
  | 100 => ⟨S1x512, .i1⟩
  | 101 => ⟨S1x512, .i1⟩
  | 102 => ⟨S_, .i32⟩
  | 103 => ⟨S1x512, .i32⟩
  | 104 => ⟨S1x512, .i32⟩
  | 105 => ⟨S1x512, .i32⟩
  | 106 => ⟨S128x512, .i32⟩
  | 107 => ⟨S128x512, .i32⟩
  | 108 => ⟨S128x512, .i1⟩
  | 109 => ⟨S32x16x64, .f32⟩
  | 110 => ⟨S16x32x64, .f32⟩
  | 111 => ⟨S16x2048, .f32⟩
  | 112 => ⟨S32x16x64, .f32⟩
  | 113 => ⟨S16x32x64, .f32⟩
  | 114 => ⟨S16x2048, .f32⟩
  | 115 => ⟨S16x4x512, .f32⟩
  | 116 => ⟨S4x16x512, .f32⟩
  | 117 => ⟨S1x4x1x16x1x512, .f32⟩
  | 118 => ⟨S1x4x8x16x1x512, .f32⟩
  | 119 => ⟨S4x128x512, .f32⟩
  | 120 => ⟨S_, .f32⟩
  | 121 => ⟨S_, .f32⟩
  | 122 => ⟨S4x128x512, .i1⟩
  | 123 => ⟨S4x128x512, .f32⟩
  | 124 => ⟨S4x128x512, .f32⟩
  | 125 => ⟨S16x4x512, .f32⟩
  | 126 => ⟨S4x16x512, .f32⟩
  | 127 => ⟨S1x4x1x16x1x512, .f32⟩
  | _ => ⟨S8192x1536, .f32⟩

abbrev hbmTy0_1 (i : Nat) : BufTy := match i % 128 with
  | 0 => ⟨S1x4x8x16x1x512, .f32⟩
  | 1 => ⟨S4x128x512, .f32⟩
  | 2 => ⟨S_, .f32⟩
  | 3 => ⟨S_, .f32⟩
  | 4 => ⟨S4x128x512, .i1⟩
  | 5 => ⟨S4x128x512, .f32⟩
  | 6 => ⟨S4x128x512, .f32⟩
  | 7 => ⟨S4x128x1024, .f32⟩
  | 8 => ⟨S4x128x1024, .bf16⟩
  | 9 => ⟨S16x4x512, .f32⟩
  | 10 => ⟨S4x16x512, .f32⟩
  | 11 => ⟨S1x4x1x16x1x512, .f32⟩
  | 12 => ⟨S1x4x8x16x1x512, .f32⟩
  | 13 => ⟨S4x128x512, .f32⟩
  | 14 => ⟨S_, .f32⟩
  | 15 => ⟨S_, .f32⟩
  | 16 => ⟨S4x128x512, .i1⟩
  | 17 => ⟨S4x128x512, .f32⟩
  | 18 => ⟨S4x128x512, .f32⟩
  | 19 => ⟨S4x512x128, .f32⟩
  | 20 => ⟨S16x4x512, .f32⟩
  | 21 => ⟨S4x16x512, .f32⟩
  | 22 => ⟨S1x4x1x16x1x512, .f32⟩
  | 23 => ⟨S1x4x8x16x1x512, .f32⟩
  | 24 => ⟨S4x128x512, .f32⟩
  | 25 => ⟨S_, .f32⟩
  | 26 => ⟨S_, .f32⟩
  | 27 => ⟨S4x128x512, .i1⟩
  | 28 => ⟨S4x128x512, .f32⟩
  | 29 => ⟨S4x128x512, .f32⟩
  | 30 => ⟨S4x512x128, .f32⟩
  | 31 => ⟨S4x512x128, .f32⟩
  | 32 => ⟨S4x1024x128, .f32⟩
  | 33 => ⟨S4x1024x128, .bf16⟩
  | 34 => ⟨S80x4x512, .f32⟩
  | 35 => ⟨S80x4x512, .f32⟩
  | 36 => ⟨S80x4x1x512, .f32⟩
  | 37 => ⟨S80x4x1x512, .f32⟩
  | 38 => ⟨S80x4x2x512, .f32⟩
  | 39 => ⟨S80x4096, .f32⟩
  | 40 => ⟨S8x4096, .f32⟩
  | 41 => ⟨S1x4096, .f32⟩
  | 42 => ⟨S4096, .f32⟩
  | 43 => ⟨S1x4096, .f32⟩
  | 44 => ⟨S_, .f32⟩
  | 45 => ⟨S_, .f32⟩
  | 46 => ⟨S8x4096, .i1⟩
  | 47 => ⟨S8x4096, .f32⟩
  | 48 => ⟨S8x4096, .f32⟩
  | 49 => ⟨S8x4096, .f32⟩
  | 50 => ⟨S1x4096, .f32⟩
  | 51 => ⟨S4096, .f32⟩
  | 52 => ⟨S1x4096, .f32⟩
  | 53 => ⟨S_, .f32⟩
  | 54 => ⟨S_, .f32⟩
  | 55 => ⟨S8x4096, .i1⟩
  | 56 => ⟨S8x4096, .f32⟩
  | 57 => ⟨S8x4096, .f32⟩
  | 58 => ⟨S8x4096, .f32⟩
  | 59 => ⟨S1x4096, .f32⟩
  | 60 => ⟨S4096, .f32⟩
  | 61 => ⟨S1x4096, .f32⟩
  | 62 => ⟨S_, .f32⟩
  | 63 => ⟨S_, .f32⟩
  | 64 => ⟨S8x4096, .i1⟩
  | 65 => ⟨S8x4096, .f32⟩
  | 66 => ⟨S8x4096, .f32⟩
  | 67 => ⟨S8x4096, .f32⟩
  | 68 => ⟨S32x4096, .f32⟩
  | 69 => ⟨S32x8x4096, .f32⟩
  | 70 => ⟨S256x4096, .f32⟩
  | 71 => ⟨S8192x4096, .f32⟩
  | 72 => ⟨S8192x512, .f32⟩
  | 73 => ⟨S8192x512, .bf16⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S4x128x1024, .bf16⟩
  | .local _ .vmem, ⟨3, _⟩ => ⟨S4x1024x128, .bf16⟩
  | .local _ .vmem, ⟨4, _⟩ => ⟨S256x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S8x4096, .f32⟩
  | .local _ .vmem, ⟨9, _⟩ => ⟨S1x512, .f32⟩
  | .local _ .vmem, ⟨10, _⟩ => ⟨S256x4096, .f32⟩
  | .local _ .vmem, ⟨11, _⟩ => ⟨S256x4096, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x4096, .f32⟩
  | .local _ .vmem, ⟨18, _⟩ => ⟨S8x4096, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_3 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_c : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_0 : Ref sig .tc := ⟨.hbm, 82, rfl⟩
abbrev main_call0_v12 : Ref sig .tc := ⟨.hbm, 83, rfl⟩
abbrev main_call0_v13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_4 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_c : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_0 : Ref sig .tc := ⟨.hbm, 102, rfl⟩
abbrev main_call1_v12 : Ref sig .tc := ⟨.hbm, 103, rfl⟩
abbrev main_call1_v13 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_5 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_6 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_7 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_8 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_9 : Ref sig .tc := ⟨.hbm, 172, rfl⟩
abbrev main_call6_v0 : Ref sig .tc := ⟨.hbm, 173, rfl⟩
abbrev main_call6_v1 : Ref sig .tc := ⟨.hbm, 174, rfl⟩
abbrev main_call6_v2 : Ref sig .tc := ⟨.hbm, 175, rfl⟩
abbrev main_call6_v3 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_cst_10 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_call7_v3 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_cst_11 : Ref sig .tc := ⟨.hbm, 190, rfl⟩
abbrev main_call8_v0 : Ref sig .tc := ⟨.hbm, 191, rfl⟩
abbrev main_call8_v1 : Ref sig .tc := ⟨.hbm, 192, rfl⟩
abbrev main_call8_v2 : Ref sig .tc := ⟨.hbm, 193, rfl⟩
abbrev main_call8_v3 : Ref sig .tc := ⟨.hbm, 194, rfl⟩
abbrev main_v116 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120_0 : Ref sig .tc := ⟨.hbm, 199, rfl⟩
abbrev main_v120_1 : Ref sig .tc := ⟨.hbm, 200, rfl⟩
abbrev main_v120_2 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_573 : BitVec 32 := 0#32
  let c32_i32 : BitVec 32 := 32#32
  let v1589 : BitVec 32 := Scalar.addi c0_i32_573 c32_i32
  let c1_i32_574 : BitVec 32 := 1#32
  ⟨c0_i32_573, v1589, c1_i32_574⟩
def k0_mult1 (k0_t1 : Fin k0_t1_loop.trips) : BitVec 32 :=
  let c0_i32_573 : BitVec 32 := 0#32
  let c1_i32_574 : BitVec 32 := 1#32
  let arg16 : BitVec 32 := Scf.iv c0_i32_573 c1_i32_574 k0_t1
  let c8_i32 : BitVec 32 := 8#32
  let v3471 : BitVec 32 := Scalar.muli arg16 c8_i32
  v3471
def k0_off1 (k0_t1 : Fin k0_t1_loop.trips) : Fin 2 → Nat :=
  let c0_i32_573 : BitVec 32 := 0#32
  let c1_i32_574 : BitVec 32 := 1#32
  let arg16 : BitVec 32 := Scf.iv c0_i32_573 c1_i32_574 k0_t1
  let c8_i32 : BitVec 32 := 8#32
  let v3471 : BitVec 32 := Scalar.muli arg16 c8_i32
  let v3472 : BitVec 32 := v3471
  let v3476 : Index := Scalar.indexCast v3472
  let c0_1605 : Index := 0#32
  ![v3476.toNat, 0]
def k0_off2 (k0_t1 : Fin k0_t1_loop.trips) : Fin 2 → Nat :=
  let c0_i32_573 : BitVec 32 := 0#32
  let c1_i32_574 : BitVec 32 := 1#32
  let arg16 : BitVec 32 := Scf.iv c0_i32_573 c1_i32_574 k0_t1
  let c8_i32 : BitVec 32 := 8#32
  let v3471 : BitVec 32 := Scalar.muli arg16 c8_i32
  let v3472 : BitVec 32 := v3471
  let v3482 : Index := Scalar.indexCast v3472
  let c512_1606 : Index := 512#32
  ![v3482.toNat, 512]
@[reducible] def k0_t2_loop : Scf.Loop 32 :=
  let c0_i32_610 : BitVec 32 := 0#32
  let c32_i32_611 : BitVec 32 := 32#32
  let v1669 : BitVec 32 := Scalar.addi c0_i32_610 c32_i32_611
  let c1_i32_612 : BitVec 32 := 1#32
  ⟨c0_i32_610, v1669, c1_i32_612⟩
def k0_mult2 (k0_t2 : Fin k0_t2_loop.trips) : BitVec 32 :=
  let c0_i32_610 : BitVec 32 := 0#32
  let c1_i32_612 : BitVec 32 := 1#32
  let arg16 : BitVec 32 := Scf.iv c0_i32_610 c1_i32_612 k0_t2
  let c8_i32 : BitVec 32 := 8#32
  let v3471 : BitVec 32 := Scalar.muli arg16 c8_i32
  v3471
def k0_off3 (k0_t2 : Fin k0_t2_loop.trips) : Fin 2 → Nat :=
  let c0_i32_610 : BitVec 32 := 0#32
  let c1_i32_612 : BitVec 32 := 1#32
  let arg16 : BitVec 32 := Scf.iv c0_i32_610 c1_i32_612 k0_t2
  let c8_i32 : BitVec 32 := 8#32
  let v3471 : BitVec 32 := Scalar.muli arg16 c8_i32
  let v3472 : BitVec 32 := v3471
  let v3473 : Index := Scalar.indexCast v3472
  let c0_1605 : Index := 0#32
  ![v3473.toNat, 0]
def k0_off4 (k0_t2 : Fin k0_t2_loop.trips) : Fin 2 → Nat :=
  let c0_i32_610 : BitVec 32 := 0#32
  let c1_i32_612 : BitVec 32 := 1#32
  let arg16 : BitVec 32 := Scf.iv c0_i32_610 c1_i32_612 k0_t2
  let c8_i32 : BitVec 32 := 8#32
  let v3471 : BitVec 32 := Scalar.muli arg16 c8_i32
  let v3472 : BitVec 32 := v3471
  let v3476 : Index := Scalar.indexCast v3472
  let c512_1606 : Index := 512#32
  ![v3476.toNat, 512]
@[reducible] def k0_t3_loop : Scf.Loop 32 :=
  let c0_i32_617 : BitVec 32 := 0#32
  let c32_i32_618 : BitVec 32 := 32#32
  let v1674 : BitVec 32 := Scalar.addi c0_i32_617 c32_i32_618
  let c1_i32_619 : BitVec 32 := 1#32
  ⟨c0_i32_617, v1674, c1_i32_619⟩
def k0_mult3 (k0_t3 : Fin k0_t3_loop.trips) : BitVec 32 :=
  let c0_i32_617 : BitVec 32 := 0#32
  let c1_i32_619 : BitVec 32 := 1#32
  let arg16 : BitVec 32 := Scf.iv c0_i32_617 c1_i32_619 k0_t3
  let c8_i32 : BitVec 32 := 8#32
  let v3471 : BitVec 32 := Scalar.muli arg16 c8_i32
  v3471
def k0_off5 (k0_t3 : Fin k0_t3_loop.trips) : Fin 2 → Nat :=
  let c0_i32_617 : BitVec 32 := 0#32
  let c1_i32_619 : BitVec 32 := 1#32
  let arg16 : BitVec 32 := Scf.iv c0_i32_617 c1_i32_619 k0_t3
  let c8_i32 : BitVec 32 := 8#32
  let v3471 : BitVec 32 := Scalar.muli arg16 c8_i32
  let v3472 : BitVec 32 := v3471
  let v3476 : Index := Scalar.indexCast v3472
  let c1024_1605 : Index := 1024#32
  ![v3476.toNat, 1024]
def k0_off6 (k0_t3 : Fin k0_t3_loop.trips) : Fin 2 → Nat :=
  let c0_i32_617 : BitVec 32 := 0#32
  let c1_i32_619 : BitVec 32 := 1#32
  let arg16 : BitVec 32 := Scf.iv c0_i32_617 c1_i32_619 k0_t3
  let c8_i32 : BitVec 32 := 8#32
  let v3471 : BitVec 32 := Scalar.muli arg16 c8_i32
  let v3472 : BitVec 32 := v3471
  let v3482 : Index := Scalar.indexCast v3472
  let c1536_1606 : Index := 1536#32
  ![v3482.toNat, 1536]
@[reducible] def k0_t4_loop : Scf.Loop 32 :=
  let c0_i32_655 : BitVec 32 := 0#32
  let c32_i32_656 : BitVec 32 := 32#32
  let v1754 : BitVec 32 := Scalar.addi c0_i32_655 c32_i32_656
  let c1_i32_657 : BitVec 32 := 1#32
  ⟨c0_i32_655, v1754, c1_i32_657⟩
def k0_mult4 (k0_t4 : Fin k0_t4_loop.trips) : BitVec 32 :=
  let c0_i32_655 : BitVec 32 := 0#32
  let c1_i32_657 : BitVec 32 := 1#32
  let arg16 : BitVec 32 := Scf.iv c0_i32_655 c1_i32_657 k0_t4
  let c8_i32 : BitVec 32 := 8#32
  let v3471 : BitVec 32 := Scalar.muli arg16 c8_i32
  v3471
def k0_off7 (k0_t4 : Fin k0_t4_loop.trips) : Fin 2 → Nat :=
  let c0_i32_655 : BitVec 32 := 0#32
  let c1_i32_657 : BitVec 32 := 1#32
  let arg16 : BitVec 32 := Scf.iv c0_i32_655 c1_i32_657 k0_t4
  let c8_i32 : BitVec 32 := 8#32
  let v3471 : BitVec 32 := Scalar.muli arg16 c8_i32
  let v3472 : BitVec 32 := v3471
  let v3473 : Index := Scalar.indexCast v3472
  let c1024_1605 : Index := 1024#32
  ![v3473.toNat, 1024]
def k0_off8 (k0_t4 : Fin k0_t4_loop.trips) : Fin 2 → Nat :=
  let c0_i32_655 : BitVec 32 := 0#32
  let c1_i32_657 : BitVec 32 := 1#32
  let arg16 : BitVec 32 := Scf.iv c0_i32_655 c1_i32_657 k0_t4
  let c8_i32 : BitVec 32 := 8#32
  let v3471 : BitVec 32 := Scalar.muli arg16 c8_i32
  let v3472 : BitVec 32 := v3471
  let v3476 : Index := Scalar.indexCast v3472
  let c1536_1606 : Index := 1536#32
  ![v3476.toNat, 1536]
@[reducible] def k0_t5_loop : Scf.Loop 32 :=
  let c0_i32_662 : BitVec 32 := 0#32
  let c32_i32_663 : BitVec 32 := 32#32
  let v1759 : BitVec 32 := Scalar.addi c0_i32_662 c32_i32_663
  let c1_i32_664 : BitVec 32 := 1#32
  ⟨c0_i32_662, v1759, c1_i32_664⟩
def k0_mult5 (k0_t5 : Fin k0_t5_loop.trips) : BitVec 32 :=
  let c0_i32_662 : BitVec 32 := 0#32
  let c1_i32_664 : BitVec 32 := 1#32
  let arg16 : BitVec 32 := Scf.iv c0_i32_662 c1_i32_664 k0_t5
  let c8_i32 : BitVec 32 := 8#32
  let v3471 : BitVec 32 := Scalar.muli arg16 c8_i32
  v3471
def k0_off9 (k0_t5 : Fin k0_t5_loop.trips) : Fin 2 → Nat :=
  let c0_i32_662 : BitVec 32 := 0#32
  let c1_i32_664 : BitVec 32 := 1#32
  let arg16 : BitVec 32 := Scf.iv c0_i32_662 c1_i32_664 k0_t5
  let c8_i32 : BitVec 32 := 8#32
  let v3471 : BitVec 32 := Scalar.muli arg16 c8_i32
  let v3472 : BitVec 32 := v3471
  let v3476 : Index := Scalar.indexCast v3472
  let c2048_1605 : Index := 2048#32
  ![v3476.toNat, 2048]
def k0_off10 (k0_t5 : Fin k0_t5_loop.trips) : Fin 2 → Nat :=
  let c0_i32_662 : BitVec 32 := 0#32
  let c1_i32_664 : BitVec 32 := 1#32
  let arg16 : BitVec 32 := Scf.iv c0_i32_662 c1_i32_664 k0_t5
  let c8_i32 : BitVec 32 := 8#32
  let v3471 : BitVec 32 := Scalar.muli arg16 c8_i32
  let v3472 : BitVec 32 := v3471
  let v3482 : Index := Scalar.indexCast v3472
  let c2560_1606 : Index := 2560#32
  ![v3482.toNat, 2560]
@[reducible] def k0_t6_loop : Scf.Loop 32 :=
  let c0_i32_700 : BitVec 32 := 0#32
  let c32_i32_701 : BitVec 32 := 32#32
  let v1839 : BitVec 32 := Scalar.addi c0_i32_700 c32_i32_701
  let c1_i32_702 : BitVec 32 := 1#32
  ⟨c0_i32_700, v1839, c1_i32_702⟩
def k0_mult6 (k0_t6 : Fin k0_t6_loop.trips) : BitVec 32 :=
  let c0_i32_700 : BitVec 32 := 0#32
  let c1_i32_702 : BitVec 32 := 1#32
  let arg16 : BitVec 32 := Scf.iv c0_i32_700 c1_i32_702 k0_t6
  let c8_i32 : BitVec 32 := 8#32
  let v3471 : BitVec 32 := Scalar.muli arg16 c8_i32
  v3471
def k0_off11 (k0_t6 : Fin k0_t6_loop.trips) : Fin 2 → Nat :=
  let c0_i32_700 : BitVec 32 := 0#32
  let c1_i32_702 : BitVec 32 := 1#32
  let arg16 : BitVec 32 := Scf.iv c0_i32_700 c1_i32_702 k0_t6
  let c8_i32 : BitVec 32 := 8#32
  let v3471 : BitVec 32 := Scalar.muli arg16 c8_i32
  let v3472 : BitVec 32 := v3471
  let v3473 : Index := Scalar.indexCast v3472
  let c2048_1605 : Index := 2048#32
  ![v3473.toNat, 2048]
def k0_off12 (k0_t6 : Fin k0_t6_loop.trips) : Fin 2 → Nat :=
  let c0_i32_700 : BitVec 32 := 0#32
  let c1_i32_702 : BitVec 32 := 1#32
  let arg16 : BitVec 32 := Scf.iv c0_i32_700 c1_i32_702 k0_t6
  let c8_i32 : BitVec 32 := 8#32
  let v3471 : BitVec 32 := Scalar.muli arg16 c8_i32
  let v3472 : BitVec 32 := v3471
  let v3476 : Index := Scalar.indexCast v3472
  let c2560_1606 : Index := 2560#32
  ![v3476.toNat, 2560]
@[reducible] def k0_t7_loop : Scf.Loop 32 :=
  let c0_i32_707 : BitVec 32 := 0#32
  let c32_i32_708 : BitVec 32 := 32#32
  let v1844 : BitVec 32 := Scalar.addi c0_i32_707 c32_i32_708
  let c1_i32_709 : BitVec 32 := 1#32
  ⟨c0_i32_707, v1844, c1_i32_709⟩
def k0_mult7 (k0_t7 : Fin k0_t7_loop.trips) : BitVec 32 :=
  let c0_i32_707 : BitVec 32 := 0#32
  let c1_i32_709 : BitVec 32 := 1#32
  let arg16 : BitVec 32 := Scf.iv c0_i32_707 c1_i32_709 k0_t7
  let c8_i32 : BitVec 32 := 8#32
  let v3471 : BitVec 32 := Scalar.muli arg16 c8_i32
  v3471
def k0_off13 (k0_t7 : Fin k0_t7_loop.trips) : Fin 2 → Nat :=
  let c0_i32_707 : BitVec 32 := 0#32
  let c1_i32_709 : BitVec 32 := 1#32
  let arg16 : BitVec 32 := Scf.iv c0_i32_707 c1_i32_709 k0_t7
  let c8_i32 : BitVec 32 := 8#32
  let v3471 : BitVec 32 := Scalar.muli arg16 c8_i32
  let v3472 : BitVec 32 := v3471
  let v3476 : Index := Scalar.indexCast v3472
  let c3072_1605 : Index := 3072#32
  ![v3476.toNat, 3072]
def k0_off14 (k0_t7 : Fin k0_t7_loop.trips) : Fin 2 → Nat :=
  let c0_i32_707 : BitVec 32 := 0#32
  let c1_i32_709 : BitVec 32 := 1#32
  let arg16 : BitVec 32 := Scf.iv c0_i32_707 c1_i32_709 k0_t7
  let c8_i32 : BitVec 32 := 8#32
  let v3471 : BitVec 32 := Scalar.muli arg16 c8_i32
  let v3472 : BitVec 32 := v3471
  let v3482 : Index := Scalar.indexCast v3472
  let c3584_1606 : Index := 3584#32
  ![v3482.toNat, 3584]
@[reducible] def k0_t8_loop : Scf.Loop 32 :=
  let c0_i32_745 : BitVec 32 := 0#32
  let c32_i32_746 : BitVec 32 := 32#32
  let v1924 : BitVec 32 := Scalar.addi c0_i32_745 c32_i32_746
  let c1_i32_747 : BitVec 32 := 1#32
  ⟨c0_i32_745, v1924, c1_i32_747⟩
def k0_mult8 (k0_t8 : Fin k0_t8_loop.trips) : BitVec 32 :=
  let c0_i32_745 : BitVec 32 := 0#32
  let c1_i32_747 : BitVec 32 := 1#32
  let arg16 : BitVec 32 := Scf.iv c0_i32_745 c1_i32_747 k0_t8
  let c8_i32 : BitVec 32 := 8#32
  let v3471 : BitVec 32 := Scalar.muli arg16 c8_i32
  v3471
def k0_off15 (k0_t8 : Fin k0_t8_loop.trips) : Fin 2 → Nat :=
  let c0_i32_745 : BitVec 32 := 0#32
  let c1_i32_747 : BitVec 32 := 1#32
  let arg16 : BitVec 32 := Scf.iv c0_i32_745 c1_i32_747 k0_t8
  let c8_i32 : BitVec 32 := 8#32
  let v3471 : BitVec 32 := Scalar.muli arg16 c8_i32
  let v3472 : BitVec 32 := v3471
  let v3473 : Index := Scalar.indexCast v3472
  let c3072_1605 : Index := 3072#32
  ![v3473.toNat, 3072]
def k0_off16 (k0_t8 : Fin k0_t8_loop.trips) : Fin 2 → Nat :=
  let c0_i32_745 : BitVec 32 := 0#32
  let c1_i32_747 : BitVec 32 := 1#32
  let arg16 : BitVec 32 := Scf.iv c0_i32_745 c1_i32_747 k0_t8
  let c8_i32 : BitVec 32 := 8#32
  let v3471 : BitVec 32 := Scalar.muli arg16 c8_i32
  let v3472 : BitVec 32 := v3471
  let v3476 : Index := Scalar.indexCast v3472
  let c3584_1606 : Index := 3584#32
  ![v3476.toNat, 3584]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proof.Scalar.lean ====
module

public import Idealize.ShloMosaic.PureOps.Ideal
public import Idealize.ShloMosaic.Lib.Pipeline.ValueKit
public import Idealize.ShloMosaic.Lib.ReduceAll

/-! Numbers the programs write as bit patterns, and the passage from finite extended reals to reals. -/

@[expose] public section

noncomputable section

namespace Cert.Scalar

open Idealize.ShloMosaic

/-- One half, as written. -/
theorem zero_bits : Ideal.ofBits .f32 0x00000000#32 = (0 : EReal) := by
  simp [Ideal.ofBits, Ideal.ieee]

theorem half_bits : Ideal.ofBits .f32 0x3F000000#32 = ((1 / 2 : ℝ) : EReal) := by
  simp [Ideal.ofBits, Ideal.ieee, -EReal.coe_mul]; norm_num

/-- Three, as written. -/
theorem three_bits : Ideal.ofBits .f32 0x40400000#32 = ((3 : ℝ) : EReal) := by
  simp [Ideal.ofBits, Ideal.ieee, -EReal.coe_mul]; norm_num

/-- The float nearest to the root of 2/π, as written: a positive real. -/
theorem root_bits : Ideal.ofBits .f32 0x3F4C422A#32 = ((13386282 / 16777216 : ℝ) : EReal) := by
  simp [Ideal.ofBits, Ideal.ieee, -EReal.coe_mul]; norm_num

/-- Infinity, as written. -/
theorem inf_bits : Ideal.ofBits .f32 0x7F800000#32 = (⊤ : EReal) := by
  simp [Ideal.ofBits, Ideal.ieee]

/-- An extended real that is neither infinity is a real number. -/
theorem finite_cases {x : EReal} (h : x ≠ ⊥ ∧ x ≠ ⊤) : ∃ r : ℝ, x = (r : EReal) :=
  ⟨x.toReal, (EReal.coe_toReal h.2 h.1).symm⟩

/-- A number whose absolute value lies below infinity is finite. -/
theorem finite_of_abs {x : EReal} (h : max x (-x) < ⊤) : x ≠ ⊥ ∧ x ≠ ⊤ := by
  constructor <;> rintro rfl <;> simp at h

/-- A conjunction of two truth values holds only where both do. -/
theorem and_one {a b : BitVec 1} (h : IntOp.andi a b = 1#1) : a = 1#1 ∧ b = 1#1 := by
  revert h; revert a b; decide

/-- `all (|x| < ∞)`, as it prints, says that every element of `x` is finite. -/
theorem finite_of_all {S : Shape} (x : FVec Ideal S .f32) {d : List (Fin S.rank)} (hb : (⟨0, ![]⟩ : Shape).BroadcastsInDim S (![] : Fin 0 → Fin S.rank))
    (hr : S.ReducesTo d ⟨0, ![]⟩) (h0 : 0 < (⟨0, ![]⟩ : Shape).numel) (j : (⟨0, ![]⟩ : Shape).Idx)
    (h : Host.reduce IntOp.andi (cmpf .olt (Host.absf x) (broadcastInDim S ![] hb (constant ⟨0, ![]⟩ .f32 0x7F800000#32)))
      (constantI ⟨0, ![]⟩ 1 1#1) hr h0 j = 1#1) (i : S.Idx) : x i ≠ ⊥ ∧ x i ≠ ⊤ := by
  have e := Host.reduce_andi_all _ _ _ _ j h i
  pointwise at e
  rw [inf_bits] at e
  by_cases hlt : (max (x i) (-(x i)) : EReal) < ⊤
  · exact finite_of_abs hlt
  · exact absurd (e.symm.trans (congrArg BitVec.ofBool (decide_eq_false hlt))) (by decide)

end Cert.Scalar

end
-- ==== Proof.Params.lean ====
module

public import proofs.«01_k».proof.Proof.Gen.Kernel5Ideal.Value
public import Idealize.ShloMosaic.Lib.Pipeline.ValueKit
public import Idealize.ShloMosaic.Lib.Tactic.CleanTypes
public import proofs.«01_k».proof.Proof.Scalar

/-! The gradient of the state-space layer's parameters, as the kernel computes it: every state by itself. -/

@[expose] public section

noncomputable section

namespace Cert.Params

open Idealize.ShloMosaic

/-! The kernel's arithmetic at one state. `a`, `b` are the two parts of the layer's rate, `l` the logarithm of its
step; `S`, `T` the two parts of the cotangent of the input's factor; `p`, `q` those of the state's factor. -/

section Kernel

variable (a b l S T p q : EReal)

/-- The state's factor. -/
def ar : EReal := Ideal.exp (a * Ideal.exp l) * Ideal.cos (b * Ideal.exp l)
def ai : EReal := Ideal.exp (a * Ideal.exp l) * Ideal.sin (b * Ideal.exp l)

/-- The square of the rate's absolute value. -/
def den : EReal := a * a + b * b

/-- The input's factor. -/
def cr : EReal := Ideal.div ((ar a b l - 1) * a + ai a b l * b) (den a b)
def ci : EReal := Ideal.div (ai a b l * a - (ar a b l - 1) * b) (den a b)

/-- One over the rate. -/
def ir : EReal := Ideal.div a (den a b)
def ii : EReal := Ideal.div (0 - b) (den a b)

/-- The input's factor over the rate. -/
def wr : EReal := cr a b l * ir a b - ci a b l * ii a b
def wi : EReal := cr a b l * ii a b + ci a b l * ir a b

/-- The cotangent of the state's factor, with the part the input's factor passes on. -/
def tr : EReal := p + (ir a b * S + ii a b * T)
def ti : EReal := q + (ir a b * T - ii a b * S)

/-- The cotangent of the exponent. -/
def zr : EReal := ar a b l * tr a b S T p + ai a b l * ti a b S T q
def zi : EReal := ar a b l * ti a b S T q - ai a b l * tr a b S T p

/-- The three results of a state. -/
def dlr : EReal := (0 - (wr a b l * S + wi a b l * T)) + Ideal.exp l * zr a b l S T p q
def dli : EReal := (0 - (wr a b l * T - wi a b l * S)) + Ideal.exp l * zi a b l S T p q
def dld : EReal := (zr a b l S T p q * a + zi a b l S T p q * b) * Ideal.exp l

end Kernel

end Cert.Params

namespace Cert.Kernel5Ideal.Value

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

abbrev A0 (c : Dev nD) : Vec Ideal S1x32x64 .f32 := m ((c : Thread nD τ).loc main_arg0)
abbrev A1 (c : Dev nD) : Vec Ideal S1x32x64 .f32 := m ((c : Thread nD τ).loc main_arg1)
abbrev A2 (c : Dev nD) : Vec Ideal S1x32 .f32 := m ((c : Thread nD τ).loc main_arg2)
abbrev A3 (c : Dev nD) : Vec Ideal S1x32x64x16 .f32 := m ((c : Thread nD τ).loc main_arg3)
abbrev A4 (c : Dev nD) : Vec Ideal S1x32x64x16 .f32 := m ((c : Thread nD τ).loc main_arg4)
abbrev A5 (c : Dev nD) : Vec Ideal S1x2048 .f32 := m ((c : Thread nD τ).loc main_arg5)
abbrev A6 (c : Dev nD) : Vec Ideal S1x2048 .f32 := m ((c : Thread nD τ).loc main_arg6)
abbrev A7 (c : Dev nD) : Vec Ideal S16x2048 .f32 := m ((c : Thread nD τ).loc main_arg7)
abbrev A8 (c : Dev nD) : Vec Ideal S16x2048 .f32 := m ((c : Thread nD τ).loc main_arg8)

/-- A state's group, and its place there. -/
abbrev grp (s : Fin 2048) : Fin 32 := ⟨s.val / 64, by omega⟩
abbrev plc (s : Fin 2048) : Fin 64 := ⟨s.val % 64, by omega⟩

theorem idx_val : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] := (by decide +kernel : ∀ t : Fin grid0.N, _)

theorem emb0 (t : Fin cfg0.N) (s : Fin 2048) : ((View.whole main_v0).slice (win0_0.rect t)).emb (ix2 0 s) = ix2 0 s := by blk_ext [idx_val t]
theorem emb1 (t : Fin cfg0.N) (s : Fin 2048) : ((View.whole main_v1).slice (win0_1.rect t)).emb (ix2 0 s) = ix2 0 s := by blk_ext [idx_val t]
theorem emb2 (t : Fin cfg0.N) (s : Fin 2048) : ((View.whole main_v5).slice (win0_2.rect t)).emb (ix2 0 s) = ix2 0 s := by blk_ext [idx_val t]
theorem emb3 (t : Fin cfg0.N) (j : Fin 16) (s : Fin 2048) : ((View.whole main_v8).slice (win0_3.rect t)).emb (ix2 j s) = ix2 j s := by blk_ext [idx_val t]
theorem emb4 (t : Fin cfg0.N) (j : Fin 16) (s : Fin 2048) : ((View.whole main_v11).slice (win0_4.rect t)).emb (ix2 j s) = ix2 j s := by blk_ext [idx_val t]
theorem emb9 (t : Fin cfg0.N) (s : Fin 2048) : ((View.whole main_v12_0).slice (win0_9.rect t)).emb (ix2 0 s) = ix2 0 s := by blk_ext [idx_val t]
theorem emb10 (t : Fin cfg0.N) (s : Fin 2048) : ((View.whole main_v12_1).slice (win0_10.rect t)).emb (ix2 0 s) = ix2 0 s := by blk_ext [idx_val t]
theorem emb11 (t : Fin cfg0.N) (s : Fin 2048) : ((View.whole main_v12_2).slice (win0_11.rect t)).emb (ix2 0 s) = ix2 0 s := by blk_ext [idx_val t]
theorem emb12 (t : Fin cfg0.N) (j : Fin 16) (s : Fin 2048) : ((View.whole main_v12_3).slice (win0_12.rect t)).emb (ix2 j s) = ix2 j s := by blk_ext [idx_val t]
theorem emb13 (t : Fin cfg0.N) (j : Fin 16) (s : Fin 2048) : ((View.whole main_v12_4).slice (win0_13.rect t)).emb (ix2 j s) = ix2 j s := by blk_ext [idx_val t]

/-- The input blocks, at an entry. -/
theorem blk0 (c : Dev nD) (t : Fin cfg0.N) (s : Fin 2048) : iblk m c 0 t (ix2 0 s) = A0 m c (ix3 0 (grp s) (plc s)) := by
  blk_simp [iblk, idx_val t]
  rw [emb0]
  change StableHlo.after (List.flatten [hostOps0]) _ _ _ = _
  simp only [hostOps0, List.flatten_cons, List.flatten_nil, List.cons_append, List.nil_append, List.append_nil]
  entry_read
  clean_types
  pointwise

theorem blk1 (c : Dev nD) (t : Fin cfg0.N) (s : Fin 2048) : iblk m c 1 t (ix2 0 s) = A1 m c (ix3 0 (grp s) (plc s)) := by
  blk_simp [iblk, idx_val t]
  rw [emb1]
  change StableHlo.after (List.flatten [hostOps0]) _ _ _ = _
  simp only [hostOps0, List.flatten_cons, List.flatten_nil, List.cons_append, List.nil_append, List.append_nil]
  entry_read
  clean_types
  pointwise

theorem blk2 (c : Dev nD) (t : Fin cfg0.N) (s : Fin 2048) : iblk m c 2 t (ix2 0 s) = A2 m c (ix2 0 (grp s)) := by
  blk_simp [iblk, idx_val t]
  rw [emb2]
  change StableHlo.after (List.flatten [hostOps0]) _ _ _ = _
  simp only [hostOps0, List.flatten_cons, List.flatten_nil, List.cons_append, List.nil_append, List.append_nil]
  entry_read
  clean_types
  pointwise

theorem blk3 (c : Dev nD) (t : Fin cfg0.N) (j : Fin 16) (s : Fin 2048) : iblk m c 3 t (ix2 j s) = A3 m c (ix4 0 (grp s) (plc s) j) := by
  blk_simp [iblk, idx_val t]
  rw [emb3]
  change StableHlo.after (List.flatten [hostOps0]) _ _ _ = _
  simp only [hostOps0, List.flatten_cons, List.flatten_nil, List.cons_append, List.nil_append, List.append_nil]
  entry_read
  clean_types
  pointwise

theorem blk4 (c : Dev nD) (t : Fin cfg0.N) (j : Fin 16) (s : Fin 2048) : iblk m c 4 t (ix2 j s) = A4 m c (ix4 0 (grp s) (plc s) j) := by
  blk_simp [iblk, idx_val t]
  rw [emb4]
  change StableHlo.after (List.flatten [hostOps0]) _ _ _ = _
  simp only [hostOps0, List.flatten_cons, List.flatten_nil, List.cons_append, List.nil_append, List.append_nil]
  entry_read
  clean_types
  pointwise

theorem blk5 (c : Dev nD) (t : Fin cfg0.N) (s : Fin 2048) : iblk m c 5 t (ix2 0 s) = A5 m c (ix2 0 s) := by
  blk_point [iblk, V, idx_val t]

theorem blk6 (c : Dev nD) (t : Fin cfg0.N) (s : Fin 2048) : iblk m c 6 t (ix2 0 s) = A6 m c (ix2 0 s) := by
  blk_point [iblk, V, idx_val t]

theorem blk7 (c : Dev nD) (t : Fin cfg0.N) (j : Fin 16) (s : Fin 2048) : iblk m c 7 t (ix2 j s) = A7 m c (ix2 j s) := by
  blk_point [iblk, V, idx_val t]

theorem blk8 (c : Dev nD) (t : Fin cfg0.N) (j : Fin 16) (s : Fin 2048) : iblk m c 8 t (ix2 j s) = A8 m c (ix2 j s) := by
  blk_point [iblk, V, idx_val t]

/-! The results of a block, at an entry. -/

section Pay

variable (x0 x1 x2 x5 x6 : FVec Ideal S1x2048 .f32) (x3 x4 x7 x8 : FVec Ideal S16x2048 .f32) (s : Fin 2048) (j : Fin 16)

/-- The two parts of the cotangent of the input's factor: sums over a state's inputs. -/
def sumS : EReal := ∑ i, (x3 (ix2 i s) * x7 (ix2 i s) + x4 (ix2 i s) * x8 (ix2 i s))
def sumT : EReal := ∑ i, (x3 (ix2 i s) * x8 (ix2 i s) - x4 (ix2 i s) * x7 (ix2 i s))

theorem pay22 : k0_pay22 (F := Ideal) x7 x8 (k0_pay16 x3) (k0_pay17 x4) (ix2 0 s) = sumS x3 x4 x7 x8 s := by
  pointwise [k0_pay22, k0_pay16, k0_pay17]; rfl

theorem pay23 : k0_pay23 (F := Ideal) x7 x8 (k0_pay16 x3) (k0_pay17 x4) (ix2 0 s) = sumT x3 x4 x7 x8 s := by
  pointwise [k0_pay23, k0_pay16, k0_pay17]; rfl

theorem pay10 : k0_pay10 (F := Ideal) x0 x1 x2 (ix2 0 s) = Params.ar (x0 (ix2 0 s)) (x1 (ix2 0 s)) (x2 (ix2 0 s)) := by
  pointwise [k0_pay10, k0_pay9, k0_pay8, k0_pay7, k0_pay6, k0_pay5]; rfl

theorem pay11 : k0_pay11 (F := Ideal) x0 x1 x2 (ix2 0 s) = Params.ai (x0 (ix2 0 s)) (x1 (ix2 0 s)) (x2 (ix2 0 s)) := by
  pointwise [k0_pay11, k0_pay9, k0_pay8, k0_pay7, k0_pay6, k0_pay5]; rfl

theorem pay12 : k0_pay12 (F := Ideal) x0 x1 (ix2 0 s) = Params.den (x0 (ix2 0 s)) (x1 (ix2 0 s)) := by
  pointwise [k0_pay12, k0_pay6, k0_pay5]; rfl

theorem pay14 : k0_pay14 (F := Ideal) x0 x1 x2 (ix2 0 s) = Params.cr (x0 (ix2 0 s)) (x1 (ix2 0 s)) (x2 (ix2 0 s)) := by
  pointwise [k0_pay14, k0_pay13, k0_pay6, k0_pay5]; simp only [pay10, pay11, pay12]; rfl

theorem pay15 : k0_pay15 (F := Ideal) x0 x1 x2 (ix2 0 s) = Params.ci (x0 (ix2 0 s)) (x1 (ix2 0 s)) (x2 (ix2 0 s)) := by
  pointwise [k0_pay15, k0_pay13, k0_pay6, k0_pay5]; simp only [pay10, pay11, pay12]; rfl

/-- The cotangents of the exponent's two parts. -/
theorem pay32 : k0_pay32 (F := Ideal) (k0_pay5 x0) (k0_pay6 x1) (k0_pay10 x0 x1 x2) (k0_pay11 x0 x1 x2) (k0_pay12 x0 x1) x7 x8 (k0_pay16 x3) (k0_pay17 x4) x5 x6 (ix2 0 s)
    = Params.zr (x0 (ix2 0 s)) (x1 (ix2 0 s)) (x2 (ix2 0 s)) (sumS x3 x4 x7 x8 s) (sumT x3 x4 x7 x8 s) (x5 (ix2 0 s)) (x6 (ix2 0 s)) := by
  pointwise [k0_pay32, k0_pay31, k0_pay30, k0_pay25, k0_pay24, k0_pay6, k0_pay5]
  simp only [pay10, pay11, pay12, pay22, pay23, Scalar.zero_bits]
  rfl

theorem pay3334 : k0_pay1 (F := Ideal) (k0_pay33 (k0_pay5 x0) (k0_pay6 x1) (k0_pay10 x0 x1 x2) (k0_pay12 x0 x1) x7 x8 (k0_pay16 x3) (k0_pay17 x4) x6)
    (k0_pay34 (k0_pay5 x0) (k0_pay6 x1) (k0_pay11 x0 x1 x2) (k0_pay12 x0 x1) x7 x8 (k0_pay16 x3) (k0_pay17 x4) x5) (ix2 0 s)
    = Params.zi (x0 (ix2 0 s)) (x1 (ix2 0 s)) (x2 (ix2 0 s)) (sumS x3 x4 x7 x8 s) (sumT x3 x4 x7 x8 s) (x5 (ix2 0 s)) (x6 (ix2 0 s)) := by
  pointwise [k0_pay1, k0_pay34, k0_pay33, k0_pay31, k0_pay30, k0_pay25, k0_pay24, k0_pay6, k0_pay5]
  simp only [pay10, pay11, pay12, pay22, pay23, Scalar.zero_bits]
  rfl

theorem pay2 (r : FVec Ideal S1x2048 .f32) : k0_pay2 (F := Ideal) (k0_pay7 x2) (k0_pay28 (k0_pay5 x0) (k0_pay6 x1) (k0_pay12 x0 x1) (k0_pay14 x0 x1 x2) (k0_pay15 x0 x1 x2) x7 x8
    (k0_pay16 x3) (k0_pay17 x4)) r (ix2 0 s)
    = (0 - (Params.wr (x0 (ix2 0 s)) (x1 (ix2 0 s)) (x2 (ix2 0 s)) * sumS x3 x4 x7 x8 s + Params.wi (x0 (ix2 0 s)) (x1 (ix2 0 s)) (x2 (ix2 0 s)) * sumT x3 x4 x7 x8 s))
      + Ideal.exp (x2 (ix2 0 s)) * r (ix2 0 s) := by
  pointwise [k0_pay2, k0_pay28, k0_pay27, k0_pay26, k0_pay25, k0_pay24, k0_pay7, k0_pay6, k0_pay5]
  simp only [pay12, pay14, pay15, pay22, pay23, Scalar.zero_bits]
  rfl

theorem pay3 (r r' : FVec Ideal S1x2048 .f32) : k0_pay3 (F := Ideal) (k0_pay7 x2) (k0_pay29 (k0_pay5 x0) (k0_pay6 x1) (k0_pay12 x0 x1) (k0_pay14 x0 x1 x2) (k0_pay15 x0 x1 x2) x7 x8
    (k0_pay16 x3) (k0_pay17 x4)) r r' (ix2 0 s)
    = (0 - (Params.wr (x0 (ix2 0 s)) (x1 (ix2 0 s)) (x2 (ix2 0 s)) * sumT x3 x4 x7 x8 s - Params.wi (x0 (ix2 0 s)) (x1 (ix2 0 s)) (x2 (ix2 0 s)) * sumS x3 x4 x7 x8 s))
      + Ideal.exp (x2 (ix2 0 s)) * k0_pay1 r r' (ix2 0 s) := by
  pointwise [k0_pay3, k0_pay29, k0_pay27, k0_pay26, k0_pay25, k0_pay24, k0_pay7, k0_pay6, k0_pay5, k0_pay1]
  simp only [pay12, pay14, pay15, pay22, pay23, Scalar.zero_bits]
  rfl

theorem pay4 (z r r' : FVec Ideal S1x2048 .f32) : k0_pay4 (k0_pay5 x0) (k0_pay6 x1) (k0_pay7 x2) z r r' (ix2 0 s)
    = (z (ix2 0 s) * x0 (ix2 0 s) + k0_pay1 r r' (ix2 0 s) * x1 (ix2 0 s)) * Ideal.exp (x2 (ix2 0 s)) := by
  pointwise [k0_pay4, k0_pay7, k0_pay6, k0_pay5, k0_pay1]

theorem pay18 : k0_pay18 (F := Ideal) x0 x1 x2 x7 x8 (ix2 j s) = Params.cr (x0 (ix2 0 s)) (x1 (ix2 0 s)) (x2 (ix2 0 s)) * x7 (ix2 j s)
    + Params.ci (x0 (ix2 0 s)) (x1 (ix2 0 s)) (x2 (ix2 0 s)) * x8 (ix2 j s) := by
  pointwise [k0_pay18]
  simp only [pay14, pay15]

theorem pay21 : k0_pay21 (F := Ideal) x7 (k0_pay19 x0 x1 x2 x8) (k0_pay20 x0 x1 x2) (ix2 j s) = Params.cr (x0 (ix2 0 s)) (x1 (ix2 0 s)) (x2 (ix2 0 s)) * x8 (ix2 j s)
    - Params.ci (x0 (ix2 0 s)) (x1 (ix2 0 s)) (x2 (ix2 0 s)) * x7 (ix2 j s) := by
  pointwise [k0_pay21, k0_pay20, k0_pay19]
  simp only [pay14, pay15]

end Pay

/-! The five results, of the arguments. -/

section Spec

variable (a b : Vec Ideal S1x32x64 .f32) (l : Vec Ideal S1x32 .f32) (br bi : Vec Ideal S1x32x64x16 .f32)
  (p q : Vec Ideal S1x2048 .f32) (dr di : Vec Ideal S16x2048 .f32)

/-- The two parts of the cotangent of the input's factor. -/
def S (s : Fin 2048) : EReal := ∑ i, (br (ix4 0 (grp s) (plc s) i) * dr (ix2 i s) + bi (ix4 0 (grp s) (plc s) i) * di (ix2 i s))
def T (s : Fin 2048) : EReal := ∑ i, (br (ix4 0 (grp s) (plc s) i) * di (ix2 i s) - bi (ix4 0 (grp s) (plc s) i) * dr (ix2 i s))

/-- A function of a state's numbers, at every state. -/
def each (f : EReal → EReal → EReal → EReal → EReal → EReal → EReal → EReal) : Vec Ideal S1x2048 .f32 := fun j =>
  f (a (ix3 0 (grp (j 1)) (plc (j 1)))) (b (ix3 0 (grp (j 1)) (plc (j 1)))) (l (ix2 0 (grp (j 1)))) (S br bi dr di (j 1)) (T br bi dr di (j 1))
    (p (ix2 0 (j 1))) (q (ix2 0 (j 1)))

/-- A function of a state's numbers and of one input's cotangent, at every input of every state. -/
def every (f : EReal → EReal → EReal → EReal → EReal → EReal) : Vec Ideal S16x2048 .f32 := fun j =>
  f (a (ix3 0 (grp (j 1)) (plc (j 1)))) (b (ix3 0 (grp (j 1)) (plc (j 1)))) (l (ix2 0 (grp (j 1)))) (dr j) (di j)

end Spec

theorem final9 (c : Dev nD) : (dats m 0 c).arrAt 9 cfg0.N = each (A0 m c) (A1 m c) (A2 m c) (A3 m c) (A4 m c) (A5 m c) (A6 m c) (A7 m c) (A8 m c) Params.dlr := by
  refine (dats m 0 c).arrAt_eq_of_covers 9 _ (by decide +kernel) fun t hf y => ?_
  blk_simp
  rw [after0_9]
  unfold_out out0_9
  frame_out; idx_vars y
  obtain rfl : y0 = 0 := Subsingleton.elim _ _
  rw [emb9]
  simp only [pay2, pay32, sumS, sumT, blk0, blk1, blk2, blk3, blk4, blk5, blk6, blk7, blk8]
  rfl

theorem final10 (c : Dev nD) : (dats m 0 c).arrAt 10 cfg0.N = each (A0 m c) (A1 m c) (A2 m c) (A3 m c) (A4 m c) (A5 m c) (A6 m c) (A7 m c) (A8 m c) Params.dli := by
  refine (dats m 0 c).arrAt_eq_of_covers 10 _ (by decide +kernel) fun t hf y => ?_
  blk_simp
  rw [after0_10]
  unfold_out out0_10
  frame_out; idx_vars y
  obtain rfl : y0 = 0 := Subsingleton.elim _ _
  rw [emb10]
  simp only [pay3, pay3334, sumS, sumT, blk0, blk1, blk2, blk3, blk4, blk5, blk6, blk7, blk8]
  rfl

theorem final11 (c : Dev nD) : (dats m 0 c).arrAt 11 cfg0.N = each (A0 m c) (A1 m c) (A2 m c) (A3 m c) (A4 m c) (A5 m c) (A6 m c) (A7 m c) (A8 m c) Params.dld := by
  refine (dats m 0 c).arrAt_eq_of_covers 11 _ (by decide +kernel) fun t hf y => ?_
  blk_simp
  rw [after0_11]
  unfold_out out0_11
  frame_out; idx_vars y
  obtain rfl : y0 = 0 := Subsingleton.elim _ _
  rw [emb11]
  simp only [pay4, pay32, pay3334, sumS, sumT, blk0, blk1, blk2, blk3, blk4, blk5, blk6, blk7, blk8]
  rfl

theorem final12 (c : Dev nD) : (dats m 0 c).arrAt 12 cfg0.N = every (A0 m c) (A1 m c) (A2 m c) (A7 m c) (A8 m c) (fun a b l x y => Params.cr a b l * x + Params.ci a b l * y) := by
  refine (dats m 0 c).arrAt_eq_of_covers 12 _ (by decide +kernel) fun t hf y => ?_
  blk_simp
  rw [after0_12]
  unfold_out out0_12
  frame_out; idx_vars y; rw [emb12]
  simp only [pay18, blk0, blk1, blk2, blk7, blk8]
  rfl

theorem final13 (c : Dev nD) : (dats m 0 c).arrAt 13 cfg0.N = every (A0 m c) (A1 m c) (A2 m c) (A7 m c) (A8 m c) (fun a b l x y => Params.cr a b l * y - Params.ci a b l * x) := by
  refine (dats m 0 c).arrAt_eq_of_covers 13 _ (by decide +kernel) fun t hf y => ?_
  blk_simp
  rw [after0_13]
  unfold_out out0_13
  frame_out; idx_vars y; rw [emb13]
  simp only [pay21, blk0, blk1, blk2, blk7, blk8]
  rfl

end Cert.Kernel5Ideal.Value

end
-- ==== Proof.Rms.lean ====
module

public import proofs.«01_k».proof.Proof.Scalar

/-! The gradient of the RMS norm of one row, in the two forms the programs write it: by hand, and by the chain rule. They agree at
every extended real: a row with an infinite element has the inverse root zero, and then every term is zero. -/

@[expose] public section

noncomputable section

namespace Cert.Rms

open Idealize.ShloMosaic Cert.Scalar

variable {n : ℕ}

/-- The addend 1e-6, as written. -/
abbrev eps : EReal := Ideal.ofBits .f32 897988541#32
/-- Minus one half, as written. -/
abbrev mhalf : EReal := Ideal.ofBits .f32 3204448256#32

/-- The mean square of a row, plus the addend. -/
def msq (N : EReal) (x : Fin n → EReal) : EReal := Ideal.div (∑ k, x k * x k) N + eps

/-- The row's inverse root. -/
def inv (N : EReal) (x : Fin n → EReal) : EReal := Ideal.rsqrt (msq N x)

/-- The gradient at element `l`, `w` being the cotangent times the norm's factor: the hand-written form. -/
def gradK (N : EReal) (x w : Fin n → EReal) (l : Fin n) : EReal :=
  inv N x * w l - x l * (inv N x * inv N x * inv N x) * Ideal.div (∑ k, x k * w k) N

/-- The cotangent of the mean square, by the chain rule. -/
def dmsq (N : EReal) (x w : Fin n → EReal) : EReal :=
  Ideal.div ((∑ k, x k * w k) * (mhalf * Ideal.div (inv N x) (msq N x))) N

/-- The gradient by the chain rule: the square is the product of two equal factors, and the mean a column of width one. -/
def gradR (N : EReal) (x w : Fin n → EReal) (l : Fin n) : EReal :=
  w l * inv N x + x l * (∑ _k : Fin 1, dmsq N x w) + (∑ _k : Fin 1, dmsq N x w) * x l

theorem mhalf_bits : mhalf = ((-(1 / 2) : ℝ) : EReal) := by
  simp [mhalf, Ideal.ofBits, Ideal.ieee, -EReal.coe_mul]; norm_num

theorem eps_bits : ∃ e : ℝ, 0 < e ∧ eps = (e : EReal) := by
  exact ⟨8796093 * (2 ^ 43)⁻¹, by positivity, by simp [eps, Ideal.ofBits, Ideal.ieee, -EReal.coe_mul]⟩

theorem coe_sum (y : Fin n → ℝ) : ((∑ k, y k : ℝ) : EReal) = ∑ k, (y k : EReal) :=
  map_sum (⟨⟨Real.toEReal, EReal.coe_zero⟩, EReal.coe_add⟩ : ℝ →+ EReal) y Finset.univ

/-- A multiple of anything, taken away, is half of it added twice with the other sign. -/
theorem neg_halves (S : EReal) (a : ℝ) : -(S * (a : EReal)) = S * ((-(1 / 2) * a : ℝ) : EReal) + S * ((-(1 / 2) * a : ℝ) : EReal) := by
  induction S using EReal.rec with
  | bot =>
    rcases lt_trichotomy a 0 with h | h | h
    · rw [EReal.bot_mul_coe_of_neg h, EReal.bot_mul_coe_of_pos (by linarith)]; rfl
    · simp [h]
    · rw [EReal.bot_mul_coe_of_pos h, EReal.bot_mul_coe_of_neg (by linarith)]; rfl
  | coe s => norm_cast; ring
  | top =>
    rcases lt_trichotomy a 0 with h | h | h
    · rw [EReal.top_mul_coe_of_neg h, EReal.top_mul_coe_of_pos (by linarith)]; rfl
    · simp [h]
    · rw [EReal.top_mul_coe_of_pos h, EReal.top_mul_coe_of_neg (by linarith)]; rfl

theorem sq_nonneg (x : EReal) : 0 ≤ x * x := by
  induction x using EReal.rec with
  | bot => simp
  | coe r => exact_mod_cast mul_self_nonneg r
  | top => simp

/-- A row is real throughout, or its sum of squares is infinite. -/
theorem real_or_top (x : Fin n → EReal) : (∃ y : Fin n → ℝ, ∀ k, x k = y k) ∨ ∑ k, x k * x k = ⊤ := by
  by_cases h : ∀ k, x k ≠ ⊥ ∧ x k ≠ ⊤
  · exact .inl ⟨fun k => (finite_cases (h k)).choose, fun k => (finite_cases (h k)).choose_spec⟩
  · obtain ⟨k, hk⟩ := not_forall.mp h
    have e : x k * x k = ⊤ := by
      by_cases hb : x k = ⊥
      · rw [hb]; rfl
      · rw [not_not.mp fun ht => hk ⟨hb, ht⟩]; rfl
    exact .inr (top_le_iff.mp (e ▸ Finset.single_le_sum (f := fun k => x k * x k) (fun i _ => sq_nonneg (x i)) (Finset.mem_univ k)))

/-- The mean square plus the addend is a positive real, or infinite. -/
theorem msq_cases (N : ℝ) (hN : 0 < N) (x : Fin n → EReal) :
    (∃ (y : Fin n → ℝ) (s : ℝ), (∀ k, x k = y k) ∧ 0 < s ∧ msq (N : EReal) x = s) ∨ msq (N : EReal) x = ⊤ := by
  obtain ⟨e, he, hb⟩ := eps_bits
  rcases real_or_top x with ⟨y, hy⟩ | ht
  · refine .inl ⟨y, (∑ k, y k * y k) * (1 / N) + e, hy, ?_, ?_⟩
    · have : 0 ≤ ∑ k, y k * y k := Finset.sum_nonneg fun k _ => mul_self_nonneg (y k)
      positivity
    · rw [msq, Ideal.div_coe hN.ne', hb]
      simp only [hy, ← EReal.coe_mul, ← coe_sum, ← EReal.coe_add]
  · right
    rw [msq, ht, Ideal.div_coe hN.ne', hb, EReal.top_mul_coe_of_pos (by positivity)]
    rfl

theorem half_k_bits : Ideal.ofBits .f32 1140850688#32 = ((512 : ℝ) : EReal) := by
  simp [Ideal.ofBits, Ideal.ieee, -EReal.coe_mul]; norm_num

theorem one_k_bits : Ideal.ofBits .f32 1149239296#32 = ((1024 : ℝ) : EReal) := by
  simp [Ideal.ofBits, Ideal.ieee, -EReal.coe_mul]; norm_num

/-- The two forms of the gradient agree. -/
theorem gradK_eq (N : ℝ) (hN : 0 < N) (x w : Fin n → EReal) (l : Fin n) : gradK N x w l = gradR N x w l := by
  unfold gradK gradR dmsq
  simp only [Fin.sum_univ_one]
  rcases msq_cases N hN x with ⟨y, s, hy, hs, e⟩ | e
  · have hr : inv (N : EReal) x = (((Real.sqrt s)⁻¹ : ℝ) : EReal) := by
      rw [inv, e, Ideal.rsqrt_coe, if_neg hs.not_gt, if_neg hs.ne']
    rw [hr, e, mhalf_bits, Ideal.div_coe hs.ne', Ideal.div_coe hN.ne', Ideal.div_coe hN.ne', hy l, mul_comm (w l), add_assoc,
      sub_eq_add_neg]
    congr 1
    have hq : (Real.sqrt s)⁻¹ * (Real.sqrt s)⁻¹ = 1 / s := by rw [← mul_inv, Real.mul_self_sqrt hs.le, one_div]
    generalize ∑ k, x k * w k = S
    generalize (Real.sqrt s)⁻¹ = q at hq
    have hc : ((q * q * q : ℝ) : EReal) = ((q * (1 / s) : ℝ) : EReal) := by rw [mul_assoc, hq]
    have eR : (y l : EReal) * (S * (((-(1 / 2) : ℝ) : EReal) * ((q : EReal) * ((1 / s : ℝ) : EReal))) * ((1 / N : ℝ) : EReal))
        = S * ((-(1 / 2) * (y l * (q * (1 / s)) * (1 / N)) : ℝ) : EReal) := by
      push_cast; ac_rfl
    have eL : (y l : EReal) * ((q : EReal) * q * q) * (S * ((1 / N : ℝ) : EReal)) = S * ((y l * (q * (1 / s)) * (1 / N) : ℝ) : EReal) := by
      rw [← EReal.coe_mul, ← EReal.coe_mul, hc]; push_cast; ac_rfl
    rw [mul_comm _ (y l : EReal), eR, eL]
    exact neg_halves S _
  · have hr : inv (N : EReal) x = 0 := by rw [inv, e]; rfl
    rw [hr, e]
    have hz : Ideal.div 0 ⊤ = 0 := by simp [Ideal.div]
    rw [hz]
    simp only [zero_mul, mul_zero, Ideal.div_coe hN.ne', sub_zero, add_zero]

end Cert.Rms

end
-- ==== Proof.ParamsScalar.lean ====
module

public import proofs.«01_k».proof.Proof.Params
public import proofs.«01_k».proof.Proof.Rms

/-! The gradient of the state-space layer's parameters at one state: the kernel's formulas and those of the reference
are equal where the rate, the step and the input matrices are finite and the rate is not zero. -/

@[expose] public section

noncomputable section

namespace Cert.Params

open Idealize.ShloMosaic

/-! The reference's arithmetic at one state, under the names of the kernel's. -/

section Reference

variable (a b l S T p q : EReal)

/-- The cotangent of the input's factor over the rate's square. -/
def over (x : EReal) : EReal := Ideal.div x (den a b)
def inv : EReal := Ideal.div 1 (den a b * den a b)

/-- The cotangent of the rate's square. -/
def dden : EReal :=
  -(T * inv a b * (ai a b l * a - (ar a b l - 1) * b)) + -(S * inv a b * ((ar a b l - 1) * a + ai a b l * b))

def tr' : EReal := p + -over a b T * b + over a b S * a
def ti' : EReal := q + over a b T * a + over a b S * b

def zr' : EReal :=
  (ti' a b S T q * Ideal.sin (b * Ideal.exp l) + tr' a b S T p * Ideal.cos (b * Ideal.exp l)) * Ideal.exp (a * Ideal.exp l)
def zi' : EReal :=
  Ideal.exp (a * Ideal.exp l) * ti' a b S T q * Ideal.cos (b * Ideal.exp l)
    + -(Ideal.exp (a * Ideal.exp l) * tr' a b S T p) * Ideal.sin (b * Ideal.exp l)

def dlr' : EReal :=
  ai a b l * over a b T + (ar a b l - 1) * over a b S + a * dden a b l S T + dden a b l S T * a + zr' a b l S T p q * Ideal.exp l
def dli' : EReal :=
  (ar a b l - 1) * -over a b T + ai a b l * over a b S + b * dden a b l S T + dden a b l S T * b + zi' a b l S T p q * Ideal.exp l
def dld' : EReal := (b * zi' a b l S T p q + a * zr' a b l S T p q) * Ideal.exp l

end Reference

/-- A quotient of reals, where the divisor is not zero. -/
theorem div_real (x y : ℝ) (h : y ≠ 0) : Ideal.div (x : EReal) (y : EReal) = ((x / y : ℝ) : EReal) := by
  rw [Ideal.div_coe h, ← EReal.coe_mul, mul_one_div]

section Real

variable (a b l S T : ℝ)

/-- The same numbers, as reals. -/
def R.ar : ℝ := Real.exp (a * Real.exp l) * Real.cos (b * Real.exp l)
def R.ai : ℝ := Real.exp (a * Real.exp l) * Real.sin (b * Real.exp l)

theorem ar_real : ar (a : EReal) b l = (R.ar a b l : EReal) := by
  simp only [ar, R.ar, Ideal.exp_coe, Ideal.cos_coe, ← EReal.coe_mul]
theorem ai_real : ai (a : EReal) b l = (R.ai a b l : EReal) := by
  simp only [ai, R.ai, Ideal.exp_coe, Ideal.sin_coe, ← EReal.coe_mul]
theorem den_real : den (a : EReal) b = ((a * a + b * b : ℝ) : EReal) := by
  simp only [den, ← EReal.coe_mul, ← EReal.coe_add]

variable (h : a * a + b * b ≠ 0)
include h

theorem over_real (x : ℝ) : over (a : EReal) b x = ((x / (a * a + b * b) : ℝ) : EReal) := by
  rw [over, den_real, div_real _ _ h]
theorem inv_real : inv (a : EReal) b = ((1 / ((a * a + b * b) * (a * a + b * b)) : ℝ) : EReal) := by
  rw [inv, den_real, ← EReal.coe_mul, ← EReal.coe_one, div_real _ _ (mul_ne_zero h h)]
theorem ir_real : ir (a : EReal) b = ((a / (a * a + b * b) : ℝ) : EReal) := by
  rw [ir, den_real, div_real _ _ h]
theorem ii_real : ii (a : EReal) b = ((-b / (a * a + b * b) : ℝ) : EReal) := by
  rw [ii, den_real, ← EReal.coe_zero, ← EReal.coe_sub, div_real _ _ h, zero_sub]
theorem cr_real : cr (a : EReal) b l = ((((R.ar a b l - 1) * a + R.ai a b l * b) / (a * a + b * b) : ℝ) : EReal) := by
  rw [cr, den_real, ar_real, ai_real, ← EReal.coe_one]
  simp only [← EReal.coe_mul, ← EReal.coe_add, ← EReal.coe_sub]
  rw [div_real _ _ h]
theorem ci_real : ci (a : EReal) b l = (((R.ai a b l * a - (R.ar a b l - 1) * b) / (a * a + b * b) : ℝ) : EReal) := by
  rw [ci, den_real, ar_real, ai_real, ← EReal.coe_one]
  simp only [← EReal.coe_mul, ← EReal.coe_add, ← EReal.coe_sub]
  rw [div_real _ _ h]

/-- The cotangent of the state's factor. -/
theorem tr_eq (p : EReal) : tr' (a : EReal) b S T p = tr (a : EReal) b S T p := by
  simp only [tr', tr, over_real a b h, ir_real a b h, ii_real a b h, ← EReal.coe_neg, ← EReal.coe_mul, ← EReal.coe_add]
  rw [add_assoc, ← EReal.coe_add]
  exact congrArg (fun x : ℝ => p + (x : EReal)) (by ring)

theorem ti_eq (q : EReal) : ti' (a : EReal) b S T q = ti (a : EReal) b S T q := by
  simp only [ti', ti, over_real a b h, ir_real a b h, ii_real a b h, ← EReal.coe_mul, ← EReal.coe_sub]
  rw [add_assoc, ← EReal.coe_add]
  exact congrArg (fun x : ℝ => q + (x : EReal)) (by ring)

/-- The cotangent of the exponent. -/
theorem zr_eq (p q : EReal) : zr' (a : EReal) b l S T p q = zr (a : EReal) b l S T p q := by
  rw [zr', zr, tr_eq a b S T h, ti_eq a b S T h, ar, ai, Ideal.exp_coe, ← EReal.coe_mul, ← EReal.coe_mul, Ideal.exp_coe, mul_comm (_ + _ : EReal),
    EReal.left_distrib_of_nonneg_of_ne_top (by exact_mod_cast (Real.exp_pos _).le) (EReal.coe_ne_top _), add_comm, mul_assoc, mul_assoc,
    mul_comm (Ideal.cos _), mul_comm (Ideal.sin _)]

theorem zi_eq (p q : EReal) : zi' (a : EReal) b l S T p q = zi (a : EReal) b l S T p q := by
  rw [zi', zi, tr_eq a b S T h, ti_eq a b S T h, ar, ai, sub_eq_add_neg, EReal.neg_mul, mul_right_comm, mul_right_comm (Ideal.exp _) (tr _ _ _ _ _)]

theorem dlr_eq (p q : EReal) : dlr' (a : EReal) b l S T p q = dlr (a : EReal) b l S T p q := by
  rw [dlr', dlr, zr_eq a b l S T h, mul_comm (zr _ _ _ _ _ _ _)]
  refine congrArg (· + _) ?_
  simp only [dden, wr, wi, over_real a b h, inv_real a b h, ir_real a b h, ii_real a b h, cr_real a b l h, ci_real a b l h, ar_real, ai_real,
    ← EReal.coe_one, ← EReal.coe_zero, ← EReal.coe_neg, ← EReal.coe_mul, ← EReal.coe_sub, ← EReal.coe_add]
  refine congrArg _ ?_
  field_simp
  ring

theorem dli_eq (p q : EReal) : dli' (a : EReal) b l S T p q = dli (a : EReal) b l S T p q := by
  rw [dli', dli, zi_eq a b l S T h, mul_comm (zi _ _ _ _ _ _ _)]
  refine congrArg (· + _) ?_
  simp only [dden, wr, wi, over_real a b h, inv_real a b h, ir_real a b h, ii_real a b h, cr_real a b l h, ci_real a b l h, ar_real, ai_real,
    ← EReal.coe_one, ← EReal.coe_zero, ← EReal.coe_neg, ← EReal.coe_mul, ← EReal.coe_sub, ← EReal.coe_add]
  refine congrArg _ ?_
  field_simp
  ring

theorem dld_eq (p q : EReal) : dld' (a : EReal) b l S T p q = dld (a : EReal) b l S T p q := by
  rw [dld', dld, zr_eq a b l S T h, zi_eq a b l S T h, add_comm, mul_comm (a : EReal), mul_comm (b : EReal)]

end Real

end Cert.Params

end
-- ==== Proof.ParamsRef.lean ====
module

public import proofs.«01_k».proof.Proof.ParamsScalar
public import proofs.«01_k».proof.Proof.Gen.Reference5Ideal.Run
public import Idealize.ShloMosaic.Lib.Tactic.CleanTypes

/-! What the reference's gradient of the state-space layer's parameters leaves in its five results. -/

@[expose] public section

set_option maxRecDepth 16384

noncomputable section

namespace Cert.Reference5Ideal.Value

open Cert.Reference5Ideal Cert.Reference5Ideal.Gen Idealize.ShloMosaic Idealize.ShloMosaic.TcCoe Idealize.SL.Sem
open Cert.Kernel5Ideal.Value (grp plc every)

variable (m : (ℓ : Loc nD τ sig) → Buf (Elt Ideal) ℓ)

section Spec

variable (a b : Vec Ideal S1x32x64 .f32) (l : Vec Ideal S1x32 .f32) (br bi : Vec Ideal S1x32x64x16 .f32)
  (p q : Vec Ideal S1x2048 .f32) (dr di : Vec Ideal S16x2048 .f32)

/-- The two parts of the cotangent of the input's factor, each as two sums. -/
def S (s : Fin 2048) : EReal := ∑ i, di (ix2 i s) * bi (ix4 0 (grp s) (plc s) i) + ∑ i, dr (ix2 i s) * br (ix4 0 (grp s) (plc s) i)
def T (s : Fin 2048) : EReal := ∑ i, di (ix2 i s) * br (ix4 0 (grp s) (plc s) i) + ∑ i, -dr (ix2 i s) * bi (ix4 0 (grp s) (plc s) i)

/-- A function of a state's numbers, at every state. -/
def each (f : EReal → EReal → EReal → EReal → EReal → EReal → EReal → EReal) : Vec Ideal S1x2048 .f32 := fun j =>
  f (a (ix3 0 (grp (j 1)) (plc (j 1)))) (b (ix3 0 (grp (j 1)) (plc (j 1)))) (l (ix2 0 (grp (j 1)))) (S br bi dr di (j 1)) (T br bi dr di (j 1))
    (p (ix2 0 (j 1))) (q (ix2 0 (j 1)))

end Spec

/-! The reference's results, entry by entry. -/

abbrev A0 (c : Dev nD) : Vec Ideal S1x32x64 .f32 := m ((c : Thread nD τ).loc main_arg0)
abbrev A1 (c : Dev nD) : Vec Ideal S1x32x64 .f32 := m ((c : Thread nD τ).loc main_arg1)
abbrev A2 (c : Dev nD) : Vec Ideal S1x32 .f32 := m ((c : Thread nD τ).loc main_arg2)
abbrev A3 (c : Dev nD) : Vec Ideal S1x32x64x16 .f32 := m ((c : Thread nD τ).loc main_arg3)
abbrev A4 (c : Dev nD) : Vec Ideal S1x32x64x16 .f32 := m ((c : Thread nD τ).loc main_arg4)
abbrev A5 (c : Dev nD) : Vec Ideal S1x2048 .f32 := m ((c : Thread nD τ).loc main_arg5)
abbrev A6 (c : Dev nD) : Vec Ideal S1x2048 .f32 := m ((c : Thread nD τ).loc main_arg6)
abbrev A7 (c : Dev nD) : Vec Ideal S16x2048 .f32 := m ((c : Thread nD τ).loc main_arg7)
abbrev A8 (c : Dev nD) : Vec Ideal S16x2048 .f32 := m ((c : Thread nD τ).loc main_arg8)

theorem out0 (c : Dev nD) : res_main_v135 m c = each (A0 m c) (A1 m c) (A2 m c) (A3 m c) (A4 m c) (A5 m c) (A6 m c) (A7 m c) (A8 m c) Params.dlr' := by
  unfold res_main_v135
  funext j
  idx_vars j
  obtain rfl : j0 = 0 := Subsingleton.elim _ _
  clean_types
  pointwise
  simp only [Fin.sum_univ_one]
  rfl

theorem out1 (c : Dev nD) : res_main_v136 m c = each (A0 m c) (A1 m c) (A2 m c) (A3 m c) (A4 m c) (A5 m c) (A6 m c) (A7 m c) (A8 m c) Params.dli' := by
  unfold res_main_v136
  funext j
  idx_vars j
  obtain rfl : j0 = 0 := Subsingleton.elim _ _
  clean_types
  pointwise
  simp only [Fin.sum_univ_one]
  rfl

theorem out2 (c : Dev nD) : res_main_v137 m c = each (A0 m c) (A1 m c) (A2 m c) (A3 m c) (A4 m c) (A5 m c) (A6 m c) (A7 m c) (A8 m c) Params.dld' := by
  unfold res_main_v137
  funext j
  idx_vars j
  obtain rfl : j0 = 0 := Subsingleton.elim _ _
  clean_types
  pointwise
  simp only [Fin.sum_univ_one]
  rfl

theorem out3 (c : Dev nD) : res_main_v139 m c
    = every (A0 m c) (A1 m c) (A2 m c) (A7 m c) (A8 m c) fun a b l x y => Params.ci a b l * y + Params.cr a b l * x := by
  unfold res_main_v139
  funext j
  idx_vars j
  clean_types
  pointwise
  rfl

theorem out4 (c : Dev nD) : res_main_v141 m c
    = every (A0 m c) (A1 m c) (A2 m c) (A7 m c) (A8 m c) fun a b l x y => Params.cr a b l * y + Params.ci a b l * -x := by
  unfold res_main_v141
  funext j
  idx_vars j
  clean_types
  pointwise
  rfl

end Cert.Reference5Ideal.Value

end
-- ==== Proof.ParamsClaim.lean ====
module

public import proofs.«01_k».proof.Defs
public import proofs.«01_k».proof.Proof.ParamsRef
public import proofs.«01_k».proof.Proof.Gen.Pre_regular_params

/-! The two programs of the gradient of the state-space layer's parameters leave equal arrays. -/

@[expose] public section

noncomputable section

namespace Cert.Params

open Idealize.ShloMosaic Idealize.ShloMosaic.TcCoe Idealize.SL.Sem Cert.Scalar
open Cert.Kernel5Ideal.Value (grp plc)

/-- The reference's run, as the claim reads it. -/
theorem frame : quiescent_Reference5Ideal := fun m g _ =>
  (θ_run _ _ _).mono (fun r h => ⟨fun c => (h c).2.2.2.2.2, sem_eq_zero_of_no_sems (by decide) r.2⟩) (Reference5Ideal.Value.run m g)

/-- `all (x * x + y * y > 0)`, as it prints, says that `x` and `y` are nowhere both zero. -/
theorem pos_of_all {S : Shape} (x y : FVec Ideal S .f32) {d : List (Fin S.rank)} (hb : (⟨0, ![]⟩ : Shape).BroadcastsInDim S (![] : Fin 0 → Fin S.rank))
    (hr : S.ReducesTo d ⟨0, ![]⟩) (h0 : 0 < (⟨0, ![]⟩ : Shape).numel) (j : (⟨0, ![]⟩ : Shape).Idx)
    (h : Host.reduce IntOp.andi (cmpf .ogt (addf (mulf x x) (mulf y y)) (broadcastInDim S ![] hb (constant ⟨0, ![]⟩ .f32 0x00000000#32)))
      (constantI ⟨0, ![]⟩ 1 1#1) hr h0 j = 1#1) (i : S.Idx) : (0 : EReal) < x i * x i + y i * y i := by
  have e := Host.reduce_andi_all _ _ _ _ j h i
  pointwise at e
  by_contra hlt
  exact absurd (e.symm.trans (congrArg BitVec.ofBool (decide_eq_false hlt))) (by decide)

section Sums

variable (br bi : Vec Ideal Kernel5Ideal.S1x32x64x16 .f32) (dr di : Vec Ideal Kernel5Ideal.S16x2048 .f32)
  (hbr : ∀ i, ∃ x : ℝ, br i = x) (hbi : ∀ i, ∃ x : ℝ, bi i = x) (hdr : ∀ i, ∃ x : ℝ, dr i = x) (hdi : ∀ i, ∃ x : ℝ, di i = x)

include hbr hbi hdr hdi

/-- One sum of sums is two sums, and a real. -/
theorem S_eq (s : Fin 2048) : ∃ x : ℝ, Kernel5Ideal.Value.S br bi dr di s = x ∧ Reference5Ideal.Value.S br bi dr di s = x := by
  choose a ha using hbr
  choose b hb using hbi
  choose c hc using hdr
  choose d hd using hdi
  refine ⟨∑ i, (a (ix4 0 (grp s) (plc s) i) * c (ix2 i s) + b (ix4 0 (grp s) (plc s) i) * d (ix2 i s)), ?_, ?_⟩
  · rw [Kernel5Ideal.Value.S, Rms.coe_sum]
    exact Finset.sum_congr rfl fun i _ => by rw [ha, hb, hc, hd, EReal.coe_add, EReal.coe_mul, EReal.coe_mul]
  · rw [Reference5Ideal.Value.S, Rms.coe_sum, ← Finset.sum_add_distrib]
    exact Finset.sum_congr rfl fun i _ => by
      rw [ha, hb, hc, hd, EReal.coe_add, EReal.coe_mul, EReal.coe_mul, add_comm, mul_comm (d _ : EReal), mul_comm (c _ : EReal)]

theorem T_eq (s : Fin 2048) : ∃ x : ℝ, Kernel5Ideal.Value.T br bi dr di s = x ∧ Reference5Ideal.Value.T br bi dr di s = x := by
  choose a ha using hbr
  choose b hb using hbi
  choose c hc using hdr
  choose d hd using hdi
  refine ⟨∑ i, (a (ix4 0 (grp s) (plc s) i) * d (ix2 i s) - b (ix4 0 (grp s) (plc s) i) * c (ix2 i s)), ?_, ?_⟩
  · rw [Kernel5Ideal.Value.T, Rms.coe_sum]
    exact Finset.sum_congr rfl fun i _ => by rw [ha, hb, hc, hd, EReal.coe_sub, EReal.coe_mul, EReal.coe_mul]
  · rw [Reference5Ideal.Value.T, Rms.coe_sum, ← Finset.sum_add_distrib]
    exact Finset.sum_congr rfl fun i _ => by
      rw [ha, hb, hc, hd, EReal.coe_sub, EReal.coe_mul, EReal.coe_mul, mul_comm (d _ : EReal), EReal.neg_mul, mul_comm (c _ : EReal), sub_eq_add_neg]

/-- Two functions equal at the reals are equal at every state. -/
theorem each_eq (a b : Vec Ideal Kernel5Ideal.S1x32x64 .f32) (l : Vec Ideal Kernel5Ideal.S1x32 .f32) (p q : Vec Ideal Kernel5Ideal.S1x2048 .f32)
    (ha : ∀ i, ∃ x : ℝ, a i = x) (hb : ∀ i, ∃ x : ℝ, b i = x) (hl : ∀ i, ∃ x : ℝ, l i = x) (hp : ∀ i, (0 : EReal) < a i * a i + b i * b i)
    (f g : EReal → EReal → EReal → EReal → EReal → EReal → EReal → EReal)
    (h : ∀ a b l S T : ℝ, a * a + b * b ≠ 0 → ∀ p q : EReal, f a b l S T p q = g a b l S T p q) :
    Reference5Ideal.Value.each a b l br bi p q dr di f = Kernel5Ideal.Value.each a b l br bi p q dr di g := by
  funext j
  unfold Reference5Ideal.Value.each Kernel5Ideal.Value.each
  obtain ⟨S, h1, h2⟩ := S_eq br bi dr di hbr hbi hdr hdi (j 1)
  obtain ⟨T, h3, h4⟩ := T_eq br bi dr di hbr hbi hdr hdi (j 1)
  obtain ⟨x, hx⟩ := ha (ix3 0 (grp (j 1)) (plc (j 1)))
  obtain ⟨y, hy⟩ := hb (ix3 0 (grp (j 1)) (plc (j 1)))
  obtain ⟨z, hz⟩ := hl (ix2 0 (grp (j 1)))
  have hq := hp (ix3 0 (grp (j 1)) (plc (j 1)))
  rw [hx, hy, ← EReal.coe_mul, ← EReal.coe_mul, ← EReal.coe_add, ← EReal.coe_zero, EReal.coe_lt_coe_iff] at hq
  rw [h1, h2, h3, h4, hx, hy, hz]
  exact h x y z S T hq.ne' _ _

end Sums

theorem algebraic : algebraic_Kernel5Ideal_Reference5Ideal_pre_regular_params := by
  intro m g m' g' hp hm
  refine ⟨fun c => (Kernel5Ideal.Gen.dats m 0 c).arrAt 9 _, fun c => (Kernel5Ideal.Gen.dats m 0 c).arrAt 10 _,
    fun c => (Kernel5Ideal.Gen.dats m 0 c).arrAt 11 _, fun c => (Kernel5Ideal.Gen.dats m 0 c).arrAt 12 _,
    fun c => (Kernel5Ideal.Gen.dats m 0 c).arrAt 13 _, Kernel5Ideal.Value.run_blocks m g, ?_⟩
  refine (θ_run _ _ _).mono (fun r h c => ?_) (Reference5Ideal.Value.run m' g')
  obtain ⟨h0, h1, h2, h3, h4, hk⟩ := h c
  obtain ⟨a0, a1, a2, a3, a4, a5, a6, a7, a8⟩ := hm c
  replace a0 : Reference5Ideal.Value.A0 m' c = Kernel5Ideal.Value.A0 m c := a0
  replace a1 : Reference5Ideal.Value.A1 m' c = Kernel5Ideal.Value.A1 m c := a1
  replace a2 : Reference5Ideal.Value.A2 m' c = Kernel5Ideal.Value.A2 m c := a2
  replace a3 : Reference5Ideal.Value.A3 m' c = Kernel5Ideal.Value.A3 m c := a3
  replace a4 : Reference5Ideal.Value.A4 m' c = Kernel5Ideal.Value.A4 m c := a4
  replace a5 : Reference5Ideal.Value.A5 m' c = Kernel5Ideal.Value.A5 m c := a5
  replace a6 : Reference5Ideal.Value.A6 m' c = Kernel5Ideal.Value.A6 m c := a6
  replace a7 : Reference5Ideal.Value.A7 m' c = Kernel5Ideal.Value.A7 m c := a7
  replace a8 : Reference5Ideal.Value.A8 m' c = Kernel5Ideal.Value.A8 m c := a8
  rw [Reference5Ideal.Value.out0] at h0
  rw [Reference5Ideal.Value.out1] at h1
  rw [Reference5Ideal.Value.out2] at h2
  rw [Reference5Ideal.Value.out3] at h3
  rw [Reference5Ideal.Value.out4] at h4
  simp only [a0, a1, a2, a3, a4, a5, a6, a7, a8] at h0 h1 h2 h3 h4
  have e := and_one (congrFun (hp c) (fun a => a.elim0))
  have e8 := and_one e.1
  have e7 := and_one e8.1
  have e4 := and_one e7.1
  have e3 := and_one e4.1
  have e2 := and_one e3.1
  have e1 := and_one e2.1
  have f0 : ∀ i, ∃ a : ℝ, Kernel5Ideal.Value.A0 m c i = a := fun i => finite_cases (finite_of_all _ _ _ _ _ e1.1 i)
  have f1 : ∀ i, ∃ a : ℝ, Kernel5Ideal.Value.A1 m c i = a := fun i => finite_cases (finite_of_all _ _ _ _ _ e1.2 i)
  have f2 : ∀ i, ∃ a : ℝ, Kernel5Ideal.Value.A2 m c i = a := fun i => finite_cases (finite_of_all _ _ _ _ _ e2.2 i)
  have f3 : ∀ i, ∃ a : ℝ, Kernel5Ideal.Value.A3 m c i = a := fun i => finite_cases (finite_of_all _ _ _ _ _ e3.2 i)
  have f4 : ∀ i, ∃ a : ℝ, Kernel5Ideal.Value.A4 m c i = a := fun i => finite_cases (finite_of_all _ _ _ _ _ e4.2 i)
  have f7 : ∀ i, ∃ a : ℝ, Kernel5Ideal.Value.A7 m c i = a := fun i => finite_cases (finite_of_all _ _ _ _ _ e7.2 i)
  have f8 : ∀ i, ∃ a : ℝ, Kernel5Ideal.Value.A8 m c i = a := fun i => finite_cases (finite_of_all _ _ _ _ _ e8.2 i)
  have fp := fun i => pos_of_all _ _ _ _ _ _ e.2 i
  rw [each_eq _ _ _ _ f3 f4 f7 f8 _ _ _ _ _ f0 f1 f2 fp _ dlr dlr_eq] at h0
  rw [each_eq _ _ _ _ f3 f4 f7 f8 _ _ _ _ _ f0 f1 f2 fp _ dli dli_eq] at h1
  rw [each_eq _ _ _ _ f3 f4 f7 f8 _ _ _ _ _ f0 f1 f2 fp _ dld dld_eq] at h2
  refine ⟨h0.trans (Kernel5Ideal.Value.final9 m c).symm, h1.trans (Kernel5Ideal.Value.final10 m c).symm,
    h2.trans (Kernel5Ideal.Value.final11 m c).symm, h3.trans (.trans ?_ (Kernel5Ideal.Value.final12 m c).symm),
    h4.trans (.trans ?_ (Kernel5Ideal.Value.final13 m c).symm), hk⟩
  · exact congrArg (Kernel5Ideal.Value.every _ _ _ _ _) (funext fun a => funext fun b => funext fun l => funext fun x => funext fun y => add_comm _ _)
  · exact congrArg (Kernel5Ideal.Value.every _ _ _ _ _) (funext fun a => funext fun b => funext fun l => funext fun x => funext fun y => by
      rw [sub_eq_add_neg, mul_neg])

end Cert.Params

end
-- ==== Proof.GeluScalar.lean ====
module

public import proofs.«01_k».proof.Proof.Scalar

/-! The derivative of the gelu, in the two forms the programs write it: by hand, and by the chain rule. -/

@[expose] public section

noncomputable section

namespace Cert.Gelu

open Idealize.ShloMosaic Cert.Scalar

/-- The named constant 0.044715. -/
abbrev cub : EReal := ((8943 / 200000 : ℝ) : EReal)
/-- The named constant 3 · 0.044715. -/
abbrev cub3 : EReal := ((26829 / 200000 : ℝ) : EReal)
/-- The root of 2/π, as written. -/
abbrev root : EReal := Ideal.ofBits .f32 1061962282#32
/-- One half, as written. -/
abbrev half : EReal := Ideal.ofBits .f32 1056964608#32

/-- The tangent the hand-written gradient takes. -/
def tanhK (x : EReal) : EReal := Ideal.tanh (root * (x + cub * x * x * x))

/-- The gradient of the gelu at `x` against the cotangent `g`, as the kernel writes it out. -/
def gradK (g x : EReal) : EReal :=
  g * (half * (1 + tanhK x) + half * x * (1 - tanhK x * tanhK x) * root * (1 + cub3 * x * x))

/-- The tangent of the forward gelu. -/
def tanhR (x : EReal) : EReal := Ideal.tanh (root * (x + cub * (x * (x * x))))

/-- The cotangent at the tangent's argument. -/
def innerR (g x : EReal) : EReal := root * (half * (x * g) * ((1 + tanhR x) * (1 - tanhR x)))

/-- The gradient of the gelu at `x` against the cotangent `g`, by the chain rule. -/
def gradR (g x : EReal) : EReal :=
  g * (half * (1 + tanhR x)) + innerR g x + cub * innerR g x * (Ideal.ofBits .f32 1077936128#32 * (x * x))

theorem root_pos : root = ((13386282 / 16777216 : ℝ) : EReal) ∧ (0 : ℝ) < 13386282 / 16777216 := ⟨root_bits, by norm_num⟩

theorem cub_pos : (0 : ℝ) < 8943 / 200000 := by norm_num

theorem one_add_neg : (1 : EReal) + -1 = 0 := by
  rw [← EReal.coe_one, ← EReal.coe_neg, ← EReal.coe_add]; norm_num

theorem one_sub_one : (1 : EReal) - 1 = 0 := by
  rw [← EReal.coe_one, ← EReal.coe_sub]; norm_num

/-- At the infinities the tangent is one in absolute value. -/
theorem tanh_inf : tanhK ⊤ = 1 ∧ tanhR ⊤ = 1 ∧ tanhK ⊥ = -1 ∧ tanhR ⊥ = -1 := by
  unfold tanhK tanhR
  rw [root_pos.1, EReal.coe_mul_top_of_pos cub_pos, EReal.coe_mul_bot_of_pos cub_pos]
  simp only [EReal.top_mul_top, EReal.bot_mul_bot, EReal.top_mul_bot, EReal.bot_mul_top,
    EReal.coe_mul_top_of_pos cub_pos, EReal.coe_mul_bot_of_pos cub_pos, EReal.top_add_top, EReal.bot_add,
    EReal.coe_mul_top_of_pos root_pos.2, EReal.coe_mul_bot_of_pos root_pos.2]
  exact ⟨rfl, rfl, rfl, rfl⟩

/-- The two gradients agree at every point, the cotangent being finite. -/
theorem gradK_eq (g x : EReal) (hg : g ≠ ⊥ ∧ g ≠ ⊤) : gradK g x = gradR g x := by
  obtain ⟨g, rfl⟩ := finite_cases hg
  obtain ⟨kt, rt, kb, rb⟩ := tanh_inf
  induction x using EReal.rec with
  | bot =>
    unfold gradK gradR innerR
    rw [kb, rb, one_add_neg]
    simp only [neg_mul_neg, one_mul, one_sub_one, zero_mul, mul_zero, zero_add, add_zero]
  | coe x =>
    have e : x + 8943 / 200000 * x * x * x = x + 8943 / 200000 * (x * (x * x)) := by ring
    unfold gradK gradR innerR tanhK tanhR root half
    rw [half_bits, root_bits, three_bits]
    simp only [← EReal.coe_mul, ← EReal.coe_add, Ideal.tanh_coe, ← EReal.coe_one, ← EReal.coe_sub, EReal.coe_eq_coe_iff, e]
    ring
  | top =>
    unfold gradK gradR innerR
    rw [kt, rt]
    simp only [one_mul, one_sub_one, zero_mul, mul_zero, zero_add, add_zero]

end Cert.Gelu

end
-- ==== Proof.Gelu.lean ====
module

public import proofs.«01_k».proof.Proof.GeluScalar
public import proofs.«01_k».proof.Proof.Gen.KernelIdeal.Value
public import proofs.«01_k».proof.Proof.Gen.ReferenceIdeal.Value
public import Idealize.ShloMosaic.Lib.Pipeline.ValueKit
public import Idealize.ShloMosaic.Lib.Tactic.CleanTypes

/-! The gradient of the S5 branch's gelu and skip: what the two programs' arrays hold after the run. -/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Gelu

variable (m : (ℓ : Loc nD τ sig) → Buf (Elt Ideal) ℓ)

/-- The gelu's argument: the S5 output plus the skipped input, the last third of the projection. -/
def arg (y0 : Vec Ideal S8192x512 .f32) (proj : Vec Ideal S8192x1536 .f32) (D : Vec Ideal S1x512 .f32)
    (r : Fin 8192) (l : Fin 512) : EReal :=
  y0 (ix2 r l) + D (ix2 0 l) * proj (ix2 r ⟨1024 + l.val, by omega⟩)

/-- The gradient at the gelu's argument, as the kernel computes it. -/
def dyp (y0 : Vec Ideal S8192x512 .f32) (proj : Vec Ideal S8192x1536 .f32) (D : Vec Ideal S1x512 .f32)
    (g g' : Vec Ideal S8192x512 .f32) (r : Fin 8192) (l : Fin 512) : EReal :=
  gradK (g (ix2 r l) + g' (ix2 r l)) (arg y0 proj D r l)

/-- The first result from the gradients `d`. -/
def res5 (d : Fin 8192 → Fin 512 → EReal) : Vec Ideal S8192x512 .f32 := fun j => d (j 0) (j 1)

/-- The second result: times the skip's factor. -/
def res6 (d : Fin 8192 → Fin 512 → EReal) (D : Vec Ideal S1x512 .f32) : Vec Ideal S8192x512 .f32 :=
  fun j => d (j 0) (j 1) * D (ix2 0 (j 1))

/-- The third result: times the skipped input, summed over all rows. -/
def res7 (d : Fin 8192 → Fin 512 → EReal) (proj : Vec Ideal S8192x1536 .f32) : Vec Ideal S1x512 .f32 :=
  fun j => ∑ r : Fin 8192, d r (j 1) * proj (ix2 r ⟨1024 + (j 1).val, by have : (j 1).val < 512 := (j 1).isLt; omega⟩)

abbrev A0 (c : Dev nD) : Vec Ideal S8192x512 .f32 := m ((c : Thread nD τ).loc main_arg0)
abbrev A1 (c : Dev nD) : Vec Ideal S8192x1536 .f32 := m ((c : Thread nD τ).loc main_arg1)
abbrev A2 (c : Dev nD) : Vec Ideal S1x512 .f32 := m ((c : Thread nD τ).loc main_arg2)
abbrev A3 (c : Dev nD) : Vec Ideal S8192x512 .f32 := m ((c : Thread nD τ).loc main_arg3)
abbrev A4 (c : Dev nD) : Vec Ideal S8192x512 .f32 := m ((c : Thread nD τ).loc main_arg4)

/-- Row `r` of tile `t`. -/
abbrev row (t : Fin cfg0.N) (r : Fin 1024) : Fin 8192 := ⟨t.val * 1024 + r.val, by have : t.val < 8 := t.isLt; omega⟩

theorem idx_val : ∀ t : Fin cfg0.N, win0_0.index t = ![t.val, 0] ∧ win0_1.index t = ![t.val, 0] ∧ win0_2.index t = ![t.val, 0]
    ∧ win0_3.index t = ![t.val, 2] ∧ win0_4.index t = ![0, 0] ∧ win0_5.index t = ![t.val, 0] ∧ win0_6.index t = ![t.val, 0]
    ∧ win0_7.index t = ![0, 0] := (by decide +kernel : ∀ t : Fin grid0.N, _)

theorem gelu_c : (Named.named κ "gelu_c" 0x3D372713#32 : Ideal .f32) = cub :=
  IdealRules.named_const.ideal_named_scalar _ _ _ _ rfl

theorem gelu_3c : (Named.named κ "gelu_3c" 0x3E095D4F#32 : Ideal .f32) = cub3 :=
  IdealRules.named_const.ideal_named_scalar _ _ _ _ rfl

theorem pay4 (a b x : Vec Ideal S1024x512 .f32) (r : Fin 1024) (l : Fin 512) :
    k0_pay4 a b x (ix2 r l) = gradK (a (ix2 r l) + b (ix2 r l)) (x (ix2 r l)) := by
  pointwise [k0_pay4]
  rw [gelu_c, gelu_3c]; rfl

theorem pay1 (a : Vec Ideal S1024x512 .f32) (d : Vec Ideal S1x512 .f32) (r : Fin 1024) (l : Fin 512) :
    k0_pay1 a d (ix2 r l) = a (ix2 r l) * d (ix2 0 l) := by
  pointwise [k0_pay1]

theorem pay2 (p : Vec Ideal S1024x512 .f32) (a : Vec Ideal S1x512 .f32) (x : Vec Ideal S1024x512 .f32) (r : Fin 1) (l : Fin 512) :
    k0_pay2 p a x (ix2 r l) = a (ix2 r l) + ∑ k : Fin 1024, p (ix2 k l) * x (ix2 k l) := by
  pointwise [k0_pay2]

theorem emb2 (t : Fin cfg0.N) (r : Fin 1024) (l : Fin 512) :
    ((View.whole main_v3).slice (win0_2.rect t)).emb (ix2 r l) = ix2 (row t r) l := by blk_ext [idx_val t]

theorem emb5 (t : Fin cfg0.N) (r : Fin 1024) (l : Fin 512) :
    ((View.whole main_v4_0).slice (win0_5.rect t)).emb (ix2 r l) = ix2 (row t r) l := by blk_ext [idx_val t]

theorem emb6 (t : Fin cfg0.N) (r : Fin 1024) (l : Fin 512) :
    ((View.whole main_v4_1).slice (win0_6.rect t)).emb (ix2 r l) = ix2 (row t r) l := by blk_ext [idx_val t]

theorem blk0 (c : Dev nD) (t : Fin cfg0.N) (r : Fin 1024) (l : Fin 512) : iblk m c 0 t (ix2 r l) = A3 m c (ix2 (row t r) l) := by
  blk_point [iblk, V, idx_val t]

theorem blk1 (c : Dev nD) (t : Fin cfg0.N) (r : Fin 1024) (l : Fin 512) : iblk m c 1 t (ix2 r l) = A4 m c (ix2 (row t r) l) := by
  blk_point [iblk, V, idx_val t]

theorem blk2 (c : Dev nD) (t : Fin cfg0.N) (r : Fin 1024) (l : Fin 512) :
    iblk m c 2 t (ix2 r l) = arg (A0 m c) (A1 m c) (A2 m c) (row t r) l := by
  blk_simp [iblk, idx_val t]
  entry_read
  rw [emb2]
  pointwise
  rfl

theorem blk3 (c : Dev nD) (t : Fin cfg0.N) (r : Fin 1024) (l : Fin 512) :
    iblk m c 3 t (ix2 r l) = A1 m c (ix2 (row t r) ⟨1024 + l.val, by omega⟩) := by
  blk_point [iblk, V, idx_val t]

theorem blk4 (c : Dev nD) (t : Fin cfg0.N) (r : Fin 1) (l : Fin 512) : iblk m c 4 t (ix2 r l) = A2 m c (ix2 0 l) := by
  blk_point [iblk, V, idx_val t]

theorem pay (c : Dev nD) (t : Fin cfg0.N) (r : Fin 1024) (l : Fin 512) :
    k0_pay4 (iblk m c 0 t) (iblk m c 1 t) (iblk m c 2 t) (ix2 r l) = dyp (A0 m c) (A1 m c) (A2 m c) (A3 m c) (A4 m c) (row t r) l := by
  rw [pay4, blk0, blk1, blk2]; rfl

/-- What the first result holds: the gradient at the gelu's argument. -/
theorem final5 (c : Dev nD) : (dats m 0 c).arrAt 5 cfg0.N
    = res5 (dyp (A0 m c) (A1 m c) (A2 m c) (A3 m c) (A4 m c)) := by
  refine (dats m 0 c).arrAt_eq_of_covers 5 _ (by decide +kernel) fun t hf y => ?_
  blk_simp
  rw [after0_5]
  by_cases h : t.val % 8 = 0
  · rw [outsAt0_A m c t h]; frame_out; idx_vars y; rw [pay, emb5]; rfl
  · rw [outsAt0_B m c t h]; frame_out; idx_vars y; rw [pay, emb5]; rfl

/-- What the second result holds: that gradient times the skip's factor. -/
theorem final6 (c : Dev nD) : (dats m 0 c).arrAt 6 cfg0.N
    = res6 (dyp (A0 m c) (A1 m c) (A2 m c) (A3 m c) (A4 m c)) (A2 m c) := by
  refine (dats m 0 c).arrAt_eq_of_covers 6 _ (by decide +kernel) fun t hf y => ?_
  blk_simp
  rw [after0_6]
  by_cases h : t.val % 8 = 0
  · rw [outsAt0_A m c t h]; frame_out; idx_vars y; rw [pay1, pay, blk4, emb6]; rfl
  · rw [outsAt0_B m c t h]; frame_out; idx_vars y; rw [pay1, pay, blk4, emb6]; rfl

/-- One tile's part of the third result. -/
abbrev part (c : Dev nD) (t : Fin cfg0.N) (l : Fin 512) : EReal :=
  ∑ k : Fin 1024, dyp (A0 m c) (A1 m c) (A2 m c) (A3 m c) (A4 m c) (row t k) l * A1 m c (ix2 (row t k) ⟨1024 + l.val, by omega⟩)

theorem step7 (c : Dev nD) (t : Fin cfg0.N) (a : Vec Ideal S1x512 .f32) (r : Fin 1) (l : Fin 512) :
    k0_pay2 (k0_pay4 (iblk m c 0 t) (iblk m c 1 t) (iblk m c 2 t)) a (iblk m c 3 t) (ix2 r l) = a (ix2 r l) + part m c t l := by
  rw [pay2]
  simp only [pay, blk3]

theorem zero7 (j : S1x512.Idx) : (k0_pay3 (F := Ideal)) j = 0 := by pointwise [k0_pay3]

/-- What the third result holds: the sum over all rows of the gradient times the skipped input. -/
theorem final7 (c : Dev nD) : (dats m 0 c).arrAt 7 cfg0.N
    = res7 (dyp (A0 m c) (A1 m c) (A2 m c) (A3 m c) (A4 m c)) (A1 m c) := by
  refine (dats m 0 c).arrAt_eq_of_after_last 7 t0_7 (by decide +kernel) _ fun j => ?_
  blk_simp
  rw [after0_7]
  idx_vars j
  rw [Pipeline.eq_sum_fin_of_reset_step_apply_last (fun n h => (outsAt0 m c n h).2.2) 8 (fun _ => 0) (fun t j => part m c t (j 1))
      (fun t h j => by rw [outsAt0_A m c t h]; frame_out; idx_vars j; rw [step7, zero7])
      (fun t h j => by rw [outsAt0_B m c t h]; frame_out; idx_vars j; rw [step7]) (le_of_eq N_0) t0_7 rfl _, zero_add]
  refine Fin.sum_mul_add_congr fun s k hl => ?_
  rfl

end Cert.KernelIdeal.Value

namespace Cert.ReferenceIdeal.Value

open Cert.ReferenceIdeal Cert.ReferenceIdeal.Gen Idealize.ShloMosaic Idealize.ShloMosaic.TcCoe Idealize.SL.Sem
open Idealize.ShloMosaic.Pipeline (Dat)
open Cert.Gelu
open Cert.KernelIdeal.Value (arg res5 res6 res7)

variable (m : (ℓ : Loc nD τ sig) → Buf (Elt Ideal) ℓ)

abbrev A0 (c : Dev nD) : Vec Ideal S8192x512 .f32 := m ((c : Thread nD τ).loc main_arg0)
abbrev A1 (c : Dev nD) : Vec Ideal S8192x1536 .f32 := m ((c : Thread nD τ).loc main_arg1)
abbrev A2 (c : Dev nD) : Vec Ideal S1x512 .f32 := m ((c : Thread nD τ).loc main_arg2)
abbrev A3 (c : Dev nD) : Vec Ideal S8192x512 .f32 := m ((c : Thread nD τ).loc main_arg3)
abbrev A4 (c : Dev nD) : Vec Ideal S8192x512 .f32 := m ((c : Thread nD τ).loc main_arg4)

theorem gelu_c : (Named.named κ "gelu_c" 0x3D372713#32 : Ideal .f32) = cub :=
  IdealRules.named_const.ideal_named_scalar _ _ _ _ rfl

/-- The gradient at the gelu's argument by the chain rule. -/
def dyp (y0 : Vec Ideal S8192x512 .f32) (proj : Vec Ideal S8192x1536 .f32) (D : Vec Ideal S1x512 .f32)
    (g g' : Vec Ideal S8192x512 .f32) (r : Fin 8192) (l : Fin 512) : EReal :=
  gradR (g (ix2 r l) + g' (ix2 r l)) (arg y0 proj D r l)

theorem sum_at (a0 : Vec Ideal S8192x512 .f32) (a1 : Vec Ideal S8192x1536 .f32) (a2 : Vec Ideal S1x512 .f32)
    (a3 a4 : Vec Ideal S8192x512 .f32) (r : Fin 8192) (l : Fin 512) :
    k0_pay10 a0 a1 a2 a3 a4 (ix2 r l) + k0_pay11 a0 a1 a2 a3 a4 (ix2 r l) = dyp a0 a1 a2 a3 a4 r l := by
  pointwise [k0_pay10, k0_pay11, k0_pay4, k0_pay5, k0_pay6, k0_pay7, k0_pay8, k0_pay9]
  rw [gelu_c]
  rfl

theorem holds5 (c : Dev nD) : (dats m 0 c).arrAt 5 cfg0.N
    = res5 (dyp (A0 m c) (A1 m c) (A2 m c) (A3 m c) (A4 m c)) := by
  rw [final5]
  funext j
  idx_vars j
  pointwise [G5, k0_pay1, res5]
  exact sum_at ..

theorem holds6 (c : Dev nD) : (dats m 0 c).arrAt 6 cfg0.N
    = res6 (dyp (A0 m c) (A1 m c) (A2 m c) (A3 m c) (A4 m c)) (A2 m c) := by
  rw [final6]
  funext j
  idx_vars j
  pointwise [G6, k0_pay2, k0_pay1, res6]
  rw [sum_at, mul_comm]

theorem holds7 (c : Dev nD) : (dats m 0 c).arrAt 7 cfg0.N
    = res7 (dyp (A0 m c) (A1 m c) (A2 m c) (A3 m c) (A4 m c)) (A1 m c) := by
  rw [final7]
  funext j
  idx_vars j
  pointwise [G7, k0_pay3, k0_pay1, res7]
  simp only [sum_at]

end Cert.ReferenceIdeal.Value

end
-- ==== Proof.GeluClaim.lean ====
module

public import proofs.«01_k».proof.Defs
public import proofs.«01_k».proof.Proof.Gelu
public import proofs.«01_k».proof.Proof.Gen.Pre_finite_cotangents

/-! The two programs of the gelu's gradient leave equal arrays. -/

@[expose] public section

noncomputable section

namespace Cert.Gelu

open Idealize.ShloMosaic Idealize.ShloMosaic.TcCoe Idealize.SL.Sem Cert.Scalar

theorem finite {m} (h : Pre_KernelIdeal_finite_cotangents m) (c : Dev KernelIdeal.nD) (r : Fin 8192) (l : Fin 512) :
    (KernelIdeal.Value.A3 m c (ix2 r l) + KernelIdeal.Value.A4 m c (ix2 r l) : EReal) ≠ ⊥
      ∧ (KernelIdeal.Value.A3 m c (ix2 r l) + KernelIdeal.Value.A4 m c (ix2 r l) : EReal) ≠ ⊤ := by
  have e := and_one (congrFun (h c) (fun a => a.elim0))
  obtain ⟨a, ha⟩ := finite_cases (finite_of_all _ _ _ _ _ e.1 (ix2 r l))
  obtain ⟨b, hb⟩ := finite_cases (finite_of_all _ _ _ _ _ e.2 (ix2 r l))
  have ha' : KernelIdeal.Value.A3 m c (ix2 r l) = (a : EReal) := ha
  have hb' : KernelIdeal.Value.A4 m c (ix2 r l) = (b : EReal) := hb
  rw [ha', hb', ← EReal.coe_add]
  exact ⟨EReal.coe_ne_bot _, EReal.coe_ne_top _⟩

/-- The kernel's gradient is the reference's, the cotangents being finite. -/
theorem dyp_eq {m} (h : Pre_KernelIdeal_finite_cotangents m) (c : Dev KernelIdeal.nD) :
    ReferenceIdeal.Value.dyp (KernelIdeal.Value.A0 m c) (KernelIdeal.Value.A1 m c) (KernelIdeal.Value.A2 m c)
        (KernelIdeal.Value.A3 m c) (KernelIdeal.Value.A4 m c)
      = KernelIdeal.Value.dyp (KernelIdeal.Value.A0 m c) (KernelIdeal.Value.A1 m c) (KernelIdeal.Value.A2 m c)
        (KernelIdeal.Value.A3 m c) (KernelIdeal.Value.A4 m c) :=
  funext fun r => funext fun l => (gradK_eq _ _ (finite h c r l)).symm

theorem algebraic : algebraic_KernelIdeal_ReferenceIdeal_pre_finite_cotangents := by
  intro m g m' g' hp hm
  refine ⟨fun c => (KernelIdeal.Gen.dats m 0 c).arrAt 5 _, fun c => (KernelIdeal.Gen.dats m 0 c).arrAt 6 _,
    fun c => (KernelIdeal.Gen.dats m 0 c).arrAt 7 _, KernelIdeal.Value.run_blocks m g, ?_⟩
  refine (θ_run _ _ _).mono (fun r h c => ?_) (ReferenceIdeal.Value.run_blocks m' g')
  obtain ⟨h5, h6, h7, hk⟩ := h c
  obtain ⟨a0, a1, a2, a3, a4⟩ := hm c
  replace a0 : ReferenceIdeal.Value.A0 m' c = KernelIdeal.Value.A0 m c := a0
  replace a1 : ReferenceIdeal.Value.A1 m' c = KernelIdeal.Value.A1 m c := a1
  replace a2 : ReferenceIdeal.Value.A2 m' c = KernelIdeal.Value.A2 m c := a2
  replace a3 : ReferenceIdeal.Value.A3 m' c = KernelIdeal.Value.A3 m c := a3
  replace a4 : ReferenceIdeal.Value.A4 m' c = KernelIdeal.Value.A4 m c := a4
  have h5' := ReferenceIdeal.Value.holds5 m' c
  have h6' := ReferenceIdeal.Value.holds6 m' c
  have h7' := ReferenceIdeal.Value.holds7 m' c
  simp only [a0, a1, a2, a3, a4, dyp_eq hp] at h5' h6' h7'
  exact ⟨h5.trans (h5'.trans (KernelIdeal.Value.final5 m c).symm), h6.trans (h6'.trans (KernelIdeal.Value.final6 m c).symm),
    h7.trans (h7'.trans (KernelIdeal.Value.final7 m c).symm), hk⟩

end Cert.Gelu

end
-- ==== Proof.Gate.lean ====
module

public import proofs.«01_k».proof.Proof.Rms
public import proofs.«01_k».proof.Proof.Gen.Kernel2Ideal.Value
public import proofs.«01_k».proof.Proof.Gen.Reference2Ideal.Run
public import Idealize.ShloMosaic.Lib.Pipeline.ValueKit
public import Idealize.ShloMosaic.Lib.Tactic.CleanTypes

/-! The gradient of the S5 branch's gate and norm: what the two programs' arrays hold after the run. -/

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1140850688#32

section Spec

variable (y : Vec Ideal S8192x512 .f32) (W : Vec Ideal S512x512 .f32) (b g : Vec Ideal S1x512 .f32) (dm : Vec Ideal S8192x1024 .f32)

/-- The gate: the sigmoid of the linear map plus its bias. -/
def gate (r : Fin 8192) (l : Fin 512) : EReal :=
  Ideal.logistic (∑ k, y (ix2 r k) * W (ix2 k l) + b (ix2 0 l))

/-- The gated row, which the norm takes. -/
def gated (r : Fin 8192) (l : Fin 512) : EReal := y (ix2 r l) * gate y W b r l

/-- The cotangent of the norm's result: the right half of the mixed rows. -/
def ct (r : Fin 8192) (l : Fin 512) : EReal := dm (ix2 r ⟨512 + l.val, by omega⟩)

/-- The cotangent times the norm's factor. -/
def scaled (r : Fin 8192) (l : Fin 512) : EReal := ct dm r l * g (ix2 0 l)

/-- The gradient at the gated row, by hand. -/
def dgated (r : Fin 8192) (l : Fin 512) : EReal := Rms.gradK wide (gated y W b r) (scaled g dm r) l

/-- The gradient at the gate's argument, from the gradient `d` at the gated row. -/
def dgate (d : Fin 8192 → Fin 512 → EReal) (r : Fin 8192) (l : Fin 512) : EReal :=
  d r l * y (ix2 r l) * gate y W b r l * (1 - gate y W b r l)

/-- The first result: the gradient at the gate's argument. -/
def res5 (d : Fin 8192 → Fin 512 → EReal) : Vec Ideal S8192x512 .bf16 := fun j => dgate y W b d (j 0) (j 1)

/-- The second result: the gradient at the rows through the product with the gate. -/
def res6 (d : Fin 8192 → Fin 512 → EReal) : Vec Ideal S8192x512 .f32 := fun j => d (j 0) (j 1) * gate y W b (j 0) (j 1)

/-- The third result: the gradient of the norm's factor. -/
def res7 : Vec Ideal S1x512 .f32 := fun j => ∑ r : Fin 8192, ct dm r (j 1) * gated y W b r (j 1) * Rms.inv wide (gated y W b r)

/-- The fourth result: the gradient of the bias. -/
def res8 (d : Fin 8192 → Fin 512 → EReal) : Vec Ideal S1x512 .f32 := fun j => ∑ r : Fin 8192, dgate y W b d r (j 1)

end Spec

abbrev A0 (c : Dev nD) : Vec Ideal S8192x512 .f32 := m ((c : Thread nD τ).loc main_arg0)
abbrev A1 (c : Dev nD) : Vec Ideal S512x512 .f32 := m ((c : Thread nD τ).loc main_arg1)
abbrev A2 (c : Dev nD) : Vec Ideal S1x512 .f32 := m ((c : Thread nD τ).loc main_arg2)
abbrev A3 (c : Dev nD) : Vec Ideal S1x512 .f32 := m ((c : Thread nD τ).loc main_arg3)
abbrev A4 (c : Dev nD) : Vec Ideal S8192x1024 .f32 := m ((c : Thread nD τ).loc main_arg4)

/-- Row `r` of tile `t`. -/
abbrev row (t : Fin cfg0.N) (r : Fin 1024) : Fin 8192 := ⟨t.val * 1024 + r.val, by have : t.val < 8 := t.isLt; omega⟩

theorem idx_val : ∀ t : Fin cfg0.N, win0_0.index t = ![t.val, 1] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] := (by decide +kernel : ∀ t : Fin grid0.N, _)

theorem emb1 (t : Fin cfg0.N) (r : Fin 1024) (l : Fin 512) :
    ((View.whole main_v0).slice (win0_1.rect t)).emb (ix2 r l) = ix2 (row t r) l := by blk_ext [idx_val t]

theorem emb2 (t : Fin cfg0.N) (r : Fin 1024) (l : Fin 512) :
    ((View.whole main_v2).slice (win0_2.rect t)).emb (ix2 r l) = ix2 (row t r) l := by blk_ext [idx_val t]

theorem emb5 (t : Fin cfg0.N) (r : Fin 1024) (l : Fin 512) :
    ((View.whole main_v3_0).slice (win0_5.rect t)).emb (ix2 r l) = ix2 (row t r) l := by blk_ext [idx_val t]

theorem emb6 (t : Fin cfg0.N) (r : Fin 1024) (l : Fin 512) :
    ((View.whole main_v3_1).slice (win0_6.rect t)).emb (ix2 r l) = ix2 (row t r) l := by blk_ext [idx_val t]

theorem blk0 (c : Dev nD) (t : Fin cfg0.N) (r : Fin 1024) (l : Fin 512) : iblk m c 0 t (ix2 r l) = ct (A4 m c) (row t r) l := by
  unfold ct; blk_point [iblk, V, idx_val t]

theorem blk1 (c : Dev nD) (t : Fin cfg0.N) (r : Fin 1024) (l : Fin 512) : iblk m c 1 t (ix2 r l) = A0 m c (ix2 (row t r) l) := by
  blk_simp [iblk, idx_val t]
  entry_read
  rw [emb1]
  pointwise

theorem blk2 (c : Dev nD) (t : Fin cfg0.N) (r : Fin 1024) (l : Fin 512) :
    iblk m c 2 t (ix2 r l) = ∑ k, A0 m c (ix2 (row t r) k) * A1 m c (ix2 k l) := by
  blk_simp [iblk, idx_val t]
  entry_read
  rw [emb2]
  pointwise

theorem blk3 (c : Dev nD) (t : Fin cfg0.N) (r : Fin 1) (l : Fin 512) : iblk m c 3 t (ix2 r l) = A2 m c (ix2 0 l) := by
  blk_point [iblk, V, idx_val t]

theorem blk4 (c : Dev nD) (t : Fin cfg0.N) (r : Fin 1) (l : Fin 512) : iblk m c 4 t (ix2 r l) = A3 m c (ix2 0 l) := by
  blk_point [iblk, V, idx_val t]

section Tile

variable (c : Dev nD) (t : Fin cfg0.N)

theorem pay9 (r : Fin 1024) (l : Fin 512) :
    k0_pay9 (iblk m c 2 t) (iblk m c 3 t) (ix2 r l) = gate (A0 m c) (A1 m c) (A2 m c) (row t r) l := by
  pointwise [k0_pay9]; rw [blk2, blk3]; rfl

theorem pay10 (r : Fin 1024) (l : Fin 512) :
    k0_pay10 (iblk m c 1 t) (iblk m c 2 t) (iblk m c 3 t) (ix2 r l) = gated (A0 m c) (A1 m c) (A2 m c) (row t r) l := by
  pointwise [k0_pay10, k0_pay8]; rw [pay9, blk1]; rfl

theorem pay11 (r : Fin 1024) (l : Fin 1) :
    k0_pay11 (iblk m c 1 t) (iblk m c 2 t) (iblk m c 3 t) (ix2 r l) = Rms.inv wide (gated (A0 m c) (A1 m c) (A2 m c) (row t r)) := by
  pointwise [k0_pay11]; simp only [pay10]; rfl

theorem pay13 (r : Fin 1024) (l : Fin 512) :
    k0_pay13 (iblk m c 0 t) (iblk m c 4 t) (ix2 r l) = scaled (A3 m c) (A4 m c) (row t r) l := by
  pointwise [k0_pay13]; rw [blk0, blk4]; rfl

/-- The gradient at the gated rows, as both programs' results take it. -/
abbrev D : Fin 8192 → Fin 512 → EReal := dgated (A0 m c) (A1 m c) (A2 m c) (A3 m c) (A4 m c)

theorem pay1 (r : Fin 1024) (l : Fin 512) :
    k0_pay1 (k0_pay10 (iblk m c 1 t) (iblk m c 2 t) (iblk m c 3 t)) (k0_pay11 (iblk m c 1 t) (iblk m c 2 t) (iblk m c 3 t))
    (k0_pay13 (iblk m c 0 t) (iblk m c 4 t)) (k0_pay14 (iblk m c 0 t) (iblk m c 1 t) (iblk m c 2 t) (iblk m c 3 t) (iblk m c 4 t))
    (k0_pay15 (iblk m c 1 t) (iblk m c 2 t) (iblk m c 3 t)) (ix2 r l)
      = D m c (row t r) l := by
  pointwise [k0_pay1, k0_pay14, k0_pay15]
  simp only [pay10, pay11, pay13]
  rfl

theorem pay2 (r : Fin 1024) (l : Fin 512) :
    k0_pay2 (k0_pay8 (iblk m c 1 t)) (k0_pay9 (iblk m c 2 t) (iblk m c 3 t)) (k0_pay10 (iblk m c 1 t) (iblk m c 2 t) (iblk m c 3 t))
      (k0_pay11 (iblk m c 1 t) (iblk m c 2 t) (iblk m c 3 t)) (k0_pay13 (iblk m c 0 t) (iblk m c 4 t))
      (k0_pay14 (iblk m c 0 t) (iblk m c 1 t) (iblk m c 2 t) (iblk m c 3 t) (iblk m c 4 t))
      (k0_pay15 (iblk m c 1 t) (iblk m c 2 t) (iblk m c 3 t)) (ix2 r l)
      = dgate (A0 m c) (A1 m c) (A2 m c) (D m c) (row t r) l := by
  pointwise [k0_pay2, k0_pay8]
  rw [pay1, pay9, blk1]
  rfl

theorem zero7 (j : S1x512.Idx) : (k0_pay6 (F := Ideal)) j = 0 := by pointwise [k0_pay6]

theorem zero8 (j : S1x512.Idx) : (k0_pay7 (F := Ideal)) j = 0 := by pointwise [k0_pay7]

/-- One tile's part of the third result. -/
abbrev part7 (l : Fin 512) : EReal := ∑ k : Fin 1024, ct (A4 m c) (row t k) l * gated (A0 m c) (A1 m c) (A2 m c) (row t k) l
  * Rms.inv wide (gated (A0 m c) (A1 m c) (A2 m c) (row t k))

theorem step7 (a : Vec Ideal S1x512 .f32) (r : Fin 1) (l : Fin 512) :
    k0_pay12 (iblk m c 0 t) (iblk m c 1 t) (iblk m c 2 t) (iblk m c 3 t) a (ix2 r l) = a (ix2 r l) + part7 m c t l := by
  pointwise [k0_pay12]
  simp only [pay10, pay11, blk0]

/-- One tile's part of the fourth result. -/
abbrev part8 (l : Fin 512) : EReal := ∑ k : Fin 1024, dgate (A0 m c) (A1 m c) (A2 m c) (D m c) (row t k) l

theorem step8 (a : Vec Ideal S1x512 .f32) (r : Fin 1) (l : Fin 512) :
    k0_pay5 (k0_pay8 (iblk m c 1 t)) (k0_pay9 (iblk m c 2 t) (iblk m c 3 t)) (k0_pay10 (iblk m c 1 t) (iblk m c 2 t) (iblk m c 3 t))
      (k0_pay11 (iblk m c 1 t) (iblk m c 2 t) (iblk m c 3 t)) (k0_pay13 (iblk m c 0 t) (iblk m c 4 t))
      (k0_pay14 (iblk m c 0 t) (iblk m c 1 t) (iblk m c 2 t) (iblk m c 3 t) (iblk m c 4 t))
      (k0_pay15 (iblk m c 1 t) (iblk m c 2 t) (iblk m c 3 t)) a (ix2 r l) = a (ix2 r l) + part8 m c t l := by
  pointwise [k0_pay5]
  simp only [pay2]

end Tile

theorem final5 (c : Dev nD) : (dats m 0 c).arrAt 5 cfg0.N = res5 (A0 m c) (A1 m c) (A2 m c) (D m c) := by
  refine (dats m 0 c).arrAt_eq_of_covers 5 _ (by decide +kernel) fun t hf y => ?_
  blk_simp
  rw [after0_5]
  by_cases h : t.val % 8 = 0
  · rw [outsAt0_A m c t h]; frame_out; idx_vars y; rw [emb5]; pointwise [k0_pay3]; rw [pay2]; rfl
  · rw [outsAt0_B m c t h]; frame_out; idx_vars y; rw [emb5]; pointwise [k0_pay3]; rw [pay2]; rfl

theorem final6 (c : Dev nD) : (dats m 0 c).arrAt 6 cfg0.N = res6 (A0 m c) (A1 m c) (A2 m c) (D m c) := by
  refine (dats m 0 c).arrAt_eq_of_covers 6 _ (by decide +kernel) fun t hf y => ?_
  blk_simp
  rw [after0_6]
  by_cases h : t.val % 8 = 0
  · rw [outsAt0_A m c t h]; frame_out; idx_vars y; rw [emb6]; pointwise [k0_pay4]; rw [pay1, pay9]; rfl
  · rw [outsAt0_B m c t h]; frame_out; idx_vars y; rw [emb6]; pointwise [k0_pay4]; rw [pay1, pay9]; rfl

theorem final7 (c : Dev nD) : (dats m 0 c).arrAt 7 cfg0.N = res7 (A0 m c) (A1 m c) (A2 m c) (A4 m c) := by
  refine (dats m 0 c).arrAt_eq_of_after_last 7 t0_7 (by decide +kernel) _ fun j => ?_
  blk_simp
  rw [after0_7]
  idx_vars j
  rw [Pipeline.eq_sum_fin_of_reset_step_apply_last (fun n h => (outsAt0 m c n h).2.2.1) 8 (fun _ => 0) (fun t j => part7 m c t (j 1))
      (fun t h j => by rw [outsAt0_A m c t h]; frame_out; idx_vars j; rw [step7, zero7])
      (fun t h j => by rw [outsAt0_B m c t h]; frame_out; idx_vars j; rw [step7]) (le_of_eq N_0) t0_7 rfl _, zero_add]
  refine Fin.sum_mul_add_congr fun s k hl => ?_
  rfl

theorem final8 (c : Dev nD) : (dats m 0 c).arrAt 8 cfg0.N = res8 (A0 m c) (A1 m c) (A2 m c) (D m c) := by
  refine (dats m 0 c).arrAt_eq_of_after_last 8 t0_7 (by decide +kernel) _ fun j => ?_
  blk_simp
  rw [after0_8]
  idx_vars j
  rw [Pipeline.eq_sum_fin_of_reset_step_apply_last (fun n h => (outsAt0 m c n h).2.2.2) 8 (fun _ => 0) (fun t j => part8 m c t (j 1))
      (fun t h j => by rw [outsAt0_A m c t h]; frame_out; idx_vars j; rw [step8, zero8])
      (fun t h j => by rw [outsAt0_B m c t h]; frame_out; idx_vars j; rw [step8]) (le_of_eq N_0) t0_7 rfl _, zero_add]
  refine Fin.sum_mul_add_congr fun s k hl => ?_
  rfl

end Cert.Kernel2Ideal.Value

namespace Cert.Reference2Ideal.Value

open Cert.Reference2Ideal Cert.Reference2Ideal.Gen Idealize.ShloMosaic Idealize.ShloMosaic.TcCoe Idealize.SL.Sem
open Cert.Kernel2Ideal.Value (wide gate gated ct scaled dgated dgate res5 res6 res7 res8)

variable (m : (ℓ : Loc nD τ sig) → Buf (Elt Ideal) ℓ)

abbrev A0 (c : Dev nD) : Vec Ideal S8192x512 .f32 := m ((c : Thread nD τ).loc main_arg0)
abbrev A1 (c : Dev nD) : Vec Ideal S512x512 .f32 := m ((c : Thread nD τ).loc main_arg1)
abbrev A2 (c : Dev nD) : Vec Ideal S1x512 .f32 := m ((c : Thread nD τ).loc main_arg2)
abbrev A3 (c : Dev nD) : Vec Ideal S1x512 .f32 := m ((c : Thread nD τ).loc main_arg3)
abbrev A4 (c : Dev nD) : Vec Ideal S8192x1024 .f32 := m ((c : Thread nD τ).loc main_arg4)

/-- The gradient at the gated rows is the one written by hand. -/
theorem chain (y : Vec Ideal S8192x512 .f32) (W : Vec Ideal S512x512 .f32) (b g : Vec Ideal S1x512 .f32) (dm : Vec Ideal S8192x1024 .f32)
    (r : Fin 8192) (l : Fin 512) : Rms.gradR wide (gated y W b r) (scaled g dm r) l = dgated y W b g dm r l := by
  unfold dgated wide
  rw [Rms.half_k_bits, Rms.gradK_eq _ (by norm_num)]

theorem holds6 (c : Dev nD) : res_main_v49 m c = res6 (A0 m c) (A1 m c) (A2 m c) (dgated (A0 m c) (A1 m c) (A2 m c) (A3 m c) (A4 m c)) := by
  funext j
  idx_vars j
  unfold res_main_v49
  clean_types
  pointwise
  exact congrArg (· * gate (A0 m c) (A1 m c) (A2 m c) j0 j1) (chain (A0 m c) (A1 m c) (A2 m c) (A3 m c) (A4 m c) j0 j1)

/-- The gradient at the gate's argument, as the chain rule groups it. -/
theorem dgate_eq (c : Dev nD) (r : Fin 8192) (l : Fin 512) :
    A0 m c (ix2 r l) * Rms.gradR wide (gated (A0 m c) (A1 m c) (A2 m c) r) (scaled (A3 m c) (A4 m c) r) l
        * (gate (A0 m c) (A1 m c) (A2 m c) r l * (1 - gate (A0 m c) (A1 m c) (A2 m c) r l))
      = dgate (A0 m c) (A1 m c) (A2 m c) (dgated (A0 m c) (A1 m c) (A2 m c) (A3 m c) (A4 m c)) r l := by
  unfold dgate
  rw [chain, mul_comm (A0 m c _), mul_assoc (_ * A0 m c _)]

theorem holds5 (c : Dev nD) : res_main_v53 m c = res5 (A0 m c) (A1 m c) (A2 m c) (dgated (A0 m c) (A1 m c) (A2 m c) (A3 m c) (A4 m c)) := by
  funext j
  idx_vars j
  unfold res_main_v53
  clean_types
  pointwise
  exact dgate_eq m c j0 j1

theorem holds8 (c : Dev nD) : res_main_v52 m c = res8 (A0 m c) (A1 m c) (A2 m c) (dgated (A0 m c) (A1 m c) (A2 m c) (A3 m c) (A4 m c)) := by
  funext j
  idx_vars j
  unfold res_main_v52
  clean_types
  pointwise
  exact Finset.sum_congr rfl fun r _ => dgate_eq m c r j1

/-- What the reference's run leaves in its four results. -/
theorem run_holds (ρ : Dev nD → PrngReg) : θ_run defs (onTc (τ := τ) (main (F := Ideal))) ⟨m, fun _ => 0, ρ⟩ fun r => ∀ c : Dev nD,
    r.2.mem ((c : Thread nD τ).loc main_v53) = res5 (A0 m c) (A1 m c) (A2 m c) (dgated (A0 m c) (A1 m c) (A2 m c) (A3 m c) (A4 m c))
    ∧ r.2.mem ((c : Thread nD τ).loc main_v49) = res6 (A0 m c) (A1 m c) (A2 m c) (dgated (A0 m c) (A1 m c) (A2 m c) (A3 m c) (A4 m c))
    ∧ r.2.mem ((c : Thread nD τ).loc main_v31) = res7 (A0 m c) (A1 m c) (A2 m c) (A4 m c)
    ∧ r.2.mem ((c : Thread nD τ).loc main_v52) = res8 (A0 m c) (A1 m c) (A2 m c) (dgated (A0 m c) (A1 m c) (A2 m c) (A3 m c) (A4 m c))
    ∧ A0 r.2.mem c = A0 m c ∧ A1 r.2.mem c = A1 m c ∧ A2 r.2.mem c = A2 m c ∧ A3 r.2.mem c = A3 m c ∧ A4 r.2.mem c = A4 m c :=
  (θ_run _ _ _).mono (fun r h c => by
    obtain ⟨h5, h6, h7, h8, hk⟩ := h c
    refine ⟨h5.trans (holds5 m c), h6.trans (holds6 m c), h7.trans ?_, h8.trans (holds8 m c), hk⟩
    funext j
    idx_vars j
    clean_types
    pointwise
    exact Finset.sum_congr rfl fun r _ => (mul_comm _ _).trans (mul_assoc _ _ _).symm) (run m ρ)

end Cert.Reference2Ideal.Value

end
-- ==== Proof.GateClaim.lean ====
module

public import proofs.«01_k».proof.Defs
public import proofs.«01_k».proof.Proof.Gate

/-! The two programs of the gate's gradient leave equal arrays. -/

@[expose] public section

noncomputable section

namespace Cert.Gate

open Idealize.ShloMosaic Idealize.ShloMosaic.TcCoe Idealize.SL.Sem

theorem frame : quiescent_Reference2Ideal := fun m g _ =>
  (θ_run _ _ _).mono (fun r h => ⟨fun c => (h c).2.2.2.2, sem_eq_zero_of_no_sems (by decide) r.2⟩) (Reference2Ideal.Value.run_holds m g)

theorem algebraic : algebraic_Kernel2Ideal_Reference2Ideal := by
  intro m g m' g' _ hm
  refine ⟨fun c => (Kernel2Ideal.Gen.dats m 0 c).arrAt 5 _, fun c => (Kernel2Ideal.Gen.dats m 0 c).arrAt 6 _,
    fun c => (Kernel2Ideal.Gen.dats m 0 c).arrAt 7 _, fun c => (Kernel2Ideal.Gen.dats m 0 c).arrAt 8 _,
    Kernel2Ideal.Value.run_blocks m g, ?_⟩
  refine (θ_run _ _ _).mono (fun r h c => ?_) (Reference2Ideal.Value.run_holds m' g')
  obtain ⟨h5, h6, h7, h8, hk⟩ := h c
  obtain ⟨a0, a1, a2, a3, a4⟩ := hm c
  replace a0 : Reference2Ideal.Value.A0 m' c = Kernel2Ideal.Value.A0 m c := a0
  replace a1 : Reference2Ideal.Value.A1 m' c = Kernel2Ideal.Value.A1 m c := a1
  replace a2 : Reference2Ideal.Value.A2 m' c = Kernel2Ideal.Value.A2 m c := a2
  replace a3 : Reference2Ideal.Value.A3 m' c = Kernel2Ideal.Value.A3 m c := a3
  replace a4 : Reference2Ideal.Value.A4 m' c = Kernel2Ideal.Value.A4 m c := a4
  simp only [a0, a1, a2, a3, a4] at h5 h6 h7 h8
  exact ⟨h5.trans (Kernel2Ideal.Value.final5 m c).symm, h6.trans (Kernel2Ideal.Value.final6 m c).symm,
    h7.trans (Kernel2Ideal.Value.final7 m c).symm, h8.trans (Kernel2Ideal.Value.final8 m c).symm, hk⟩

end Cert.Gate

end
-- ==== Proof.Taps.lean ====
module

public import proofs.«01_k».proof.Proof.Gen.Kernel4Ideal.Value
public import Idealize.ShloMosaic.Lib.Pipeline.ValueKit
public import Idealize.ShloMosaic.Lib.Pipeline.ReadBack
public import Idealize.ShloMosaic.Lib.Tactic.CleanTypes

/-! The gradient of the causal convolution's taps: the windows' blocks and the scratch rows. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

section Spec

variable (p : Vec Ideal S8192x1536 .f32) (w : Vec Ideal S1x31x512 .f32) (d : Vec Ideal S8192x512 .f32)

/-- The gate of row `r`. -/
def sg (r : Fin 8192) (l : Fin 512) : EReal := Ideal.logistic (p (ix2 r ⟨512 + l.val, by omega⟩))

/-- The value of row `r` that the gate multiplies. -/
def val (r : Fin 8192) (l : Fin 512) : EReal := p (ix2 r ⟨l.val, by omega⟩)

/-- The cotangent at place `n` of sequence `s`, zero behind the end. -/
def dAt (s n : ℕ) (l : Fin 512) : EReal := if h : s < 2 ∧ n < 4096 then d (ix2 ⟨s * 4096 + n, by omega⟩ l) else 0

/-- The convolution's argument at place `n - 32` of sequence `s`, zero before the start. -/
def aAt (s n : ℕ) (l : Fin 512) : EReal :=
  if h : s < 2 ∧ 32 ≤ n ∧ n < 4128 then val p ⟨s * 4096 + (n - 32), by omega⟩ l * sg p ⟨s * 4096 + (n - 32), by omega⟩ l else 0

/-- The gradient at the convolution's argument. -/
def da (r : Fin 8192) (l : Fin 512) : EReal := ∑ k : Fin 31, w (ix3 0 k l) * dAt d (r.val / 4096) (r.val % 4096 + (30 - k.val)) l

/-- The first result: the gradient at the values. -/
def res7 : Vec Ideal S8192x512 .f32 := fun j => da w d (j 0) (j 1) * sg p (j 0) (j 1)

/-- The second result: the gradient at the gate's argument. -/
def res8 : Vec Ideal S8192x512 .f32 := fun j => da w d (j 0) (j 1) * val p (j 0) (j 1) * sg p (j 0) (j 1) * (1 - sg p (j 0) (j 1))

/-- The third result: the gradient of the taps, with a row of zeros below. -/
def res9 : Vec Ideal S32x512 .f32 := fun j =>
  if (j 0).val < 31 then ∑ r : Fin 8192, aAt p (r.val / 4096) (r.val % 4096 + 2 + (j 0).val) (j 1) * d (ix2 r (j 1)) else 0

end Spec

abbrev A0 (c : Dev nD) : Vec Ideal S8192x1536 .f32 := m ((c : Thread nD τ).loc main_arg0)
abbrev A1 (c : Dev nD) : Vec Ideal S1x31x512 .f32 := m ((c : Thread nD τ).loc main_arg1)
abbrev A2 (c : Dev nD) : Vec Ideal S8192x512 .f32 := m ((c : Thread nD τ).loc main_arg2)

/-- Row `r` of tile `t`. -/
abbrev row (t : Fin cfg0.N) (r : Fin 256) : Fin 8192 := ⟨t.val * 256 + r.val, by have : t.val < 32 := t.isLt; omega⟩

theorem idx_val : ∀ t : Fin cfg0.N, win0_0.index t = ![t.val, 0] ∧ win0_1.index t = ![t.val, 1] ∧ win0_2.index t = ![8 * t.val - 1, 0]
    ∧ win0_3.index t = ![8 * t.val - 1, 1] ∧ win0_4.index t = ![t.val, 0] ∧ win0_5.index t = ![min (8 * (t.val + 1)) 255, 0]
    ∧ win0_6.index t = ![0, 0] ∧ win0_7.index t = ![t.val, 0] ∧ win0_8.index t = ![t.val, 0] ∧ win0_9.index t = ![0, 0] :=
  (by decide +kernel : ∀ t : Fin grid0.N, _)

theorem emb7 (t : Fin cfg0.N) (r : Fin 256) (l : Fin 512) :
    ((View.whole main_v2_0).slice (win0_7.rect t)).emb (ix2 r l) = ix2 (row t r) l := by blk_ext [idx_val t]

theorem emb8 (t : Fin cfg0.N) (r : Fin 256) (l : Fin 512) :
    ((View.whole main_v2_1).slice (win0_8.rect t)).emb (ix2 r l) = ix2 (row t r) l := by blk_ext [idx_val t]

theorem blk0 (c : Dev nD) (t : Fin cfg0.N) (r : Fin 256) (l : Fin 512) : iblk m c 0 t (ix2 r l) = val (A0 m c) (row t r) l := by
  unfold val; blk_point [iblk, V, idx_val t]

theorem blk1 (c : Dev nD) (t : Fin cfg0.N) (r : Fin 256) (l : Fin 512) :
    Ideal.logistic (iblk m c 1 t (ix2 r l)) = sg (A0 m c) (row t r) l := by
  unfold sg; blk_point [iblk, V, idx_val t]

theorem blk2 (c : Dev nD) (t : Fin cfg0.N) (r : Fin 32) (l : Fin 512) :
    iblk m c 2 t (ix2 r l) = val (A0 m c) ⟨(8 * t.val - 1) * 32 + r.val, by have : t.val < 32 := t.isLt; omega⟩ l := by
  unfold val; blk_point [iblk, V, idx_val t]

theorem blk3 (c : Dev nD) (t : Fin cfg0.N) (r : Fin 32) (l : Fin 512) :
    Ideal.logistic (iblk m c 3 t (ix2 r l)) = sg (A0 m c) ⟨(8 * t.val - 1) * 32 + r.val, by have : t.val < 32 := t.isLt; omega⟩ l := by
  unfold sg; blk_point [iblk, V, idx_val t]

theorem blk4 (c : Dev nD) (t : Fin cfg0.N) (r : Fin 256) (l : Fin 512) : iblk m c 4 t (ix2 r l) = A2 m c (ix2 (row t r) l) := by
  blk_point [iblk, V, idx_val t]

theorem blk5 (c : Dev nD) (t : Fin cfg0.N) (r : Fin 32) (l : Fin 512) :
    iblk m c 5 t (ix2 r l) = A2 m c (ix2 ⟨min (8 * (t.val + 1)) 255 * 32 + r.val, by have : t.val < 32 := t.isLt; omega⟩ l) := by
  blk_point [iblk, V, idx_val t]

theorem emb6 (t : Fin cfg0.N) (r : Fin 32) (l : Fin 512) :
    ((View.whole main_v1).slice (win0_6.rect t)).emb (ix2 r l) = ix2 r l := by blk_ext [idx_val t]

theorem blk6 (c : Dev nD) (t : Fin cfg0.N) (r : Fin 31) (l : Fin 512) :
    iblk m c 6 t (ix2 ⟨r.val, by omega⟩ l) = A1 m c (ix3 0 r l) := by
  blk_simp [iblk, idx_val t]
  rw [emb6]
  change StableHlo.after (hostOps0 ++ hostOps0_1) _ _ _ = _
  simp only [hostOps0, hostOps0_1, List.cons_append, List.nil_append]
  entry_read
  change pad S32x512 ![0, 0] ![1, 0] ![0, 0] (shapeCast S31x512 (A1 m c) shapeCasts_S1x31x512_S31x512) _ pads_S31x512_S32x512_010_000 _ _ = _
  pointwise

section Rows

variable (c : Dev nD) (t : Fin cfg0.N)

/-- Whether the rows from `a` on start a sequence, in the launch's words. -/
abbrev startBit (a : BitVec 32) : BitVec 1 :=
  Scalar.cmpi CmpIPredicate.eq
    (Scalar.select
      (Scalar.andi (Scalar.xori (Scalar.cmpi CmpIPredicate.slt (Scalar.remsi (Scalar.muli a 256#32) 4096#32) 0#32) 0#1)
        (Scalar.cmpi CmpIPredicate.ne (Scalar.remsi (Scalar.muli a 256#32) 4096#32) 0#32))
      (Scalar.addi (Scalar.remsi (Scalar.muli a 256#32) 4096#32) 4096#32) (Scalar.remsi (Scalar.muli a 256#32) 4096#32))
    0#32

theorem first_val : ∀ t : Fin cfg0.N, startBit (BitVec.ofNat 32 (grid0.coords t 0)) = if t.val % 16 = 0 then 1#1 else 0#1 :=
  (by decide +kernel : ∀ t : Fin grid0.N, _)

theorem last_val : ∀ t : Fin cfg0.N,
    startBit (Scalar.addi (BitVec.ofNat 32 (grid0.coords t 0)) 1#32) = if t.val % 16 = 15 then 1#1 else 0#1 :=
  (by decide +kernel : ∀ t : Fin grid0.N, _)

/-- The cotangent's rows of tile `t` and the 32 rows behind them. -/
def extD (n : ℕ) (l : Fin 512) : EReal := dAt (A2 m c) (t.val / 16) (t.val % 16 * 256 + n) l

/-- The 32 rows of the convolution's argument before tile `t`, and the tile's. -/
def extA (n : ℕ) (l : Fin 512) : EReal := aAt (A0 m c) (t.val / 16) (t.val % 16 * 256 + n) l

theorem keep (a b : EReal) : Scalar.select (0#1) a b = b := rfl

theorem extD_lo (r : Fin 256) (l : Fin 512) : k0_pay10 (iblk m c 4 t) (ix2 r l) = extD m c t r.val l := by
  have h : t.val < 32 := t.isLt
  pointwise [k0_pay10]
  rw [blk4]
  unfold extD dAt
  rw [dif_pos ⟨by omega, by omega⟩]
  congr 2
  apply Fin.ext
  simp only [row]
  omega

theorem extD_hi (r : Fin 32) (l : Fin 512) :
    k0_pay11 (startBit (Scalar.addi (BitVec.ofNat 32 (grid0.coords t 0)) 1#32)) (iblk m c 5 t) (ix2 r l) = extD m c t (256 + r.val) l := by
  have h : t.val < 32 := t.isLt
  rw [last_val]
  pointwise [k0_pay11]
  rw [blk5]
  unfold extD dAt
  by_cases h1 : t.val % 16 = 15
  · rw [if_pos h1, dif_neg (by omega)]
    rfl
  · rw [if_neg h1, dif_pos ⟨by omega, by omega⟩, keep]
    congr 2
    apply Fin.ext
    simp only
    omega

theorem extA_hi (r : Fin 256) (l : Fin 512) :
    k0_pay8 (k0_pay7 (iblk m c 1 t) (iblk m c 0 t)) (ix2 r l) = extA m c t (32 + r.val) l := by
  have h : t.val < 32 := t.isLt
  pointwise [k0_pay8, k0_pay7, k0_pay6]
  rw [blk0, blk1]
  unfold extA aAt
  rw [dif_pos ⟨by omega, by omega, by omega⟩]
  congr 2 <;> (apply Fin.ext; simp only [row]; omega)

theorem extA_lo (r : Fin 32) (l : Fin 512) :
    k0_pay9 (startBit (BitVec.ofNat 32 (grid0.coords t 0))) (iblk m c 2 t) (iblk m c 3 t) (ix2 r l) = extA m c t r.val l := by
  have h : t.val < 32 := t.isLt
  rw [first_val]
  pointwise [k0_pay9]
  rw [blk2, blk3]
  unfold extA aAt
  by_cases h1 : t.val % 16 = 0
  · rw [if_pos h1, dif_neg (by omega)]
    rfl
  · rw [if_neg h1, dif_pos ⟨by omega, by omega, by omega⟩, keep]
    congr 2 <;> (apply Fin.ext; simp only; omega)

/-- `R` rows from `off` on. -/
def tall (R : ℕ) (E : ℕ → Fin 512 → EReal) (off : ℕ) : Vec Ideal ⟨2, ![R, 512]⟩ .f32 := fun j => E (off + (j 0).val) (j 1)

/-- The same under a leading axis of one. -/
def slab (R : ℕ) (E : ℕ → Fin 512 → EReal) (off : ℕ) : Vec Ideal ⟨3, ![1, R, 512]⟩ .f32 := fun j => E (off + (j 1).val) (j 2)

theorem cover (lo hi : ℕ) (hi0 : lo + hi = 288) (y : S288x512.Idx) (i1 i2) {f g} :
    ∃ q ∈ ([⟨Rect.unit (s := S288x512) ![lo, 0] ![hi, 512] i1, f⟩, ⟨Rect.unit (s := S288x512) ![0, 0] ![lo, 512] i2, g⟩] :
      List (View.Piece (Elt Ideal) S288x512 .f32)), y ∈ q.1.set := by
  idx_vars y
  by_cases h : y0.val < lo
  · refine ⟨_, .tail _ (.head _), (Rect.mem_set_unit (inb := i2)).2 fun a => ?_⟩
    fin_cases a <;> simp <;> omega
  · refine ⟨_, .head _, (Rect.mem_set_unit (inb := i1)).2 fun a => ?_⟩
    fin_cases a <;> simp <;> omega

theorem inPlane (y : S8x288x512.Idx) (h1 : (y 1).val < 280) (q : ℕ) (h0 : q = (y 0).val) (a : Fin 3) :
    ![q, 0, 0] a ≤ (y a).val ∧ (y a).val < ![q, 0, 0] a + ![1, 280, 512] a := by
  have h2 : (y 2).val < 512 := (y 2).isLt
  fin_cases a <;> simp <;> omega

/-- Rows of the cotangent's scratch. -/
theorem readD (v : View sig .tc .vmem S288x512 .f32) (R off : ℕ) (inb) :
    v.readCov (Val := Elt Ideal)
      [⟨Rect.unit (s := S288x512) ![256, 0] ![32, 512] inb_S288x512_S32x512_256_0,
          k0_pay11 (F := Ideal) (startBit (Scalar.addi (BitVec.ofNat 32 (grid0.coords t 0)) 1#32)) (iblk m c 5 t)⟩,
        ⟨Rect.unit (s := S288x512) ![0, 0] ![256, 512] inb_S288x512_S256x512_0_0, k0_pay10 (F := Ideal) (iblk m c 4 t)⟩]
      (Rect.unit (s := S288x512) ![off, 0] ![R, 512] inb).toLoadRect = tall R (extD m c t) off := by
  rw [View.readCov_eq_canon']
  funext j
  refine (View.canon_apply_of_pieces (Val := Elt Ideal) (S := S288x512) (e := .f32) (fun y => extD m c t (y 0).val (y 1)) _ ?_ _
    (cover 256 32 rfl _ _ _)).trans ?_
  · refine List.forall_mem_cons.2 ⟨fun x => ?_, List.forall_mem_cons.2 ⟨fun x => ?_, fun _ h => absurd h List.not_mem_nil⟩⟩
    · idx_vars x; refine (extD_hi m c t _ _).trans (congrArg₂ _ ?_ (Fin.ext ?_)) <;> simp [ValueKit.rect_emb_unit_val]
    · idx_vars x; refine (extD_lo m c t _ _).trans (congrArg₂ _ ?_ (Fin.ext ?_)) <;> simp [ValueKit.rect_emb_unit_val]
  · refine congrArg₂ (extD m c t) ?_ (Fin.ext ?_) <;> simp

/-- Rows of the argument's scratch. -/
theorem readA (v : View sig .tc .vmem S288x512 .f32) (R off : ℕ) (inb) :
    v.readCov (Val := Elt Ideal)
      [⟨Rect.unit (s := S288x512) ![0, 0] ![32, 512] inb_S288x512_S32x512_0_0,
          k0_pay9 (F := Ideal) (startBit (BitVec.ofNat 32 (grid0.coords t 0))) (iblk m c 2 t) (iblk m c 3 t)⟩,
        ⟨Rect.unit (s := S288x512) ![32, 0] ![256, 512] inb_S288x512_S256x512_32_0,
          k0_pay8 (F := Ideal) (k0_pay7 (iblk m c 1 t) (iblk m c 0 t))⟩]
      (Rect.unit (s := S288x512) ![off, 0] ![R, 512] inb).toLoadRect = tall R (extA m c t) off := by
  rw [View.readCov_eq_canon']
  funext j
  refine (View.canon_apply_of_pieces (Val := Elt Ideal) (S := S288x512) (e := .f32) (fun y => extA m c t (y 0).val (y 1)) _ ?_ _ ?_).trans ?_
  · refine List.forall_mem_cons.2 ⟨fun x => ?_, List.forall_mem_cons.2 ⟨fun x => ?_, fun _ h => absurd h List.not_mem_nil⟩⟩
    · idx_vars x; refine (extA_lo m c t _ _).trans (congrArg₂ _ ?_ (Fin.ext ?_)) <;> simp [ValueKit.rect_emb_unit_val]
    · idx_vars x; refine (extA_hi m c t _ _).trans (congrArg₂ _ ?_ (Fin.ext ?_)) <;> simp [ValueKit.rect_emb_unit_val]
  · obtain ⟨q, hq, hm⟩ := cover 32 256 rfl ((Rect.unit (s := S288x512) ![off, 0] ![R, 512] inb).toLoadRect.idx j) inb_S288x512_S256x512_32_0
      inb_S288x512_S32x512_0_0 (f := k0_pay8 (F := Ideal) (k0_pay7 (iblk m c 1 t) (iblk m c 0 t)))
      (g := k0_pay9 (F := Ideal) (startBit (BitVec.ofNat 32 (grid0.coords t 0))) (iblk m c 2 t) (iblk m c 3 t))
    exact ⟨q, (List.Perm.swap _ _ _).mem_iff.1 hq, hm⟩
  · refine congrArg₂ (extA m c t) ?_ (Fin.ext ?_) <;> simp

theorem planes (E : ℕ → Fin 512 → EReal) (v : View sig .tc .vmem S8x288x512 .f32) (p o R : ℕ) (hp : 1 ≤ p ∧ p ≤ 7) (ho : o + R ≤ 280) (h1 h2 h3 h4 h5 h6 h7 b inb) :
    v.readCov (Val := Elt Ideal)
      [⟨Rect.unit (s := S8x288x512) ![7, 0, 0] ![1, 280, 512] h7, shapeCast (s := S280x512) S1x280x512 (tall 280 E 7) b⟩,
        ⟨Rect.unit (s := S8x288x512) ![6, 0, 0] ![1, 280, 512] h6, shapeCast (s := S280x512) S1x280x512 (tall 280 E 6) b⟩,
        ⟨Rect.unit (s := S8x288x512) ![5, 0, 0] ![1, 280, 512] h5, shapeCast (s := S280x512) S1x280x512 (tall 280 E 5) b⟩,
        ⟨Rect.unit (s := S8x288x512) ![4, 0, 0] ![1, 280, 512] h4, shapeCast (s := S280x512) S1x280x512 (tall 280 E 4) b⟩,
        ⟨Rect.unit (s := S8x288x512) ![3, 0, 0] ![1, 280, 512] h3, shapeCast (s := S280x512) S1x280x512 (tall 280 E 3) b⟩,
        ⟨Rect.unit (s := S8x288x512) ![2, 0, 0] ![1, 280, 512] h2, shapeCast (s := S280x512) S1x280x512 (tall 280 E 2) b⟩,
        ⟨Rect.unit (s := S8x288x512) ![1, 0, 0] ![1, 280, 512] h1, shapeCast (s := S280x512) S1x280x512 (tall 280 E 1) b⟩]
      (Rect.unit (s := S8x288x512) ![p, o, 0] ![1, R, 512] inb).toLoadRect = slab R E (p + o) := by
  rw [View.readCov_eq_canon']
  funext j
  have hj : (j 1).val < R := (j 1).isLt
  have hl : (j 2).val < 512 := (j 2).isLt
  have hz : (j 0).val < 1 := (j 0).isLt
  refine (View.canon_apply_of_pieces (Val := Elt Ideal) (S := S8x288x512) (e := .f32) (fun y => E ((y 0).val + (y 1).val) (y 2)) _ ?_ _ ?_).trans ?_
  · simp only [List.forall_mem_cons]
    and_intros
    any_goals
      intro x; idx_vars x
      pointwise
      refine congrArg₂ E ?_ (Fin.ext ?_) <;> simp [ValueKit.rect_emb_unit_val]
    exact fun _ h => absurd h List.not_mem_nil
  · simp only [List.mem_cons, exists_eq_or_imp, Rect.mem_set_unit]
    have e0 : ((Rect.unit (s := S8x288x512) ![p, o, 0] ![1, R, 512] inb).toLoadRect.idx j 0).val = p := by simp
    have e1 : ((Rect.unit (s := S8x288x512) ![p, o, 0] ![1, R, 512] inb).toLoadRect.idx j 1).val < 280 := by simp; omega
    have hd := inPlane _ e1
    rw [e0] at hd
    rcases (by omega : 7 = p ∨ 6 = p ∨ 5 = p ∨ 4 = p ∨ 3 = p ∨ 2 = p ∨ 1 = p) with h | h | h | h | h | h | h <;> repeat (first | exact Or.inl (hd _ h) | apply Or.inr)
  · refine congrArg₂ E ?_ (Fin.ext ?_) <;> simp
    omega

/-- The taps' rows, as a function of the row's number. -/
def tap (k : ℕ) (l : Fin 512) : EReal := if h : k < 31 then A1 m c (ix3 0 ⟨k, h⟩ l) else 0

theorem ldW (k : ℕ) (hk : k < 31) (inb) :
    View.ld (iblk m c 6 t) (Rect.unit (s := S32x512) ![k, 0] ![1, 512] inb) = tall 1 (tap m c) k := by
  funext j
  idx_vars j
  have h0 : j0.val = 0 := by omega
  unfold tall tap
  refine Eq.trans ?_ ((blk6 m c t ⟨k, hk⟩ j1).trans ?_)
  · refine congrArg (iblk m c 6 t) (funext fun a => Fin.ext ?_)
    fin_cases a <;> simp [h0]
  · simp [h0, hk]

theorem ldD (o R : ℕ) (ho : o + R ≤ 256) (inb) :
    View.ld (iblk m c 4 t) (Rect.unit (s := S256x512) ![o, 0] ![R, 512] inb) = tall R (extD m c t) o := by
  funext j
  have h0 : (j 0).val < R := (j 0).isLt
  have h1 : (j 1).val < 512 := (j 1).isLt
  unfold tall
  refine Eq.trans ?_ ((extD_lo m c t ⟨o + (j 0).val, by omega⟩ ⟨(j 1).val, h1⟩))
  pointwise [k0_pay10]

theorem tall_apply (R : ℕ) (E : ℕ → Fin 512 → EReal) (off : ℕ) (i : Fin R) (l : Fin 512) : tall R E off (ix2 i l) = E (off + i.val) l := rfl

theorem slab_apply (R : ℕ) (E : ℕ → Fin 512 → EReal) (off : ℕ) (z : Fin 1) (i : Fin R) (l : Fin 512) :
    slab R E off (ix3 z i l) = E (off + i.val) l := rfl

/-- The taps against the rows from `r0 + i` on, in the order they are added. -/
def conv (W E : ℕ → Fin 512 → EReal) (r0 : ℕ) (i : Fin 32) (l : Fin 512) : EReal :=
  ∑ k ∈ Finset.range 31, W k l * E (r0 + 30 - k + i.val) l

theorem conv_eq (W E : ℕ → Fin 512 → EReal) (r0 : ℕ) (i : Fin 32) (l : Fin 512) (y : S256x512.Idx) (h0 : (y 0).val = r0 + i.val)
    (h1 : (y 1).val = l.val) : conv W E r0 i l = ∑ k ∈ Finset.range 31, W k (y 1) * E ((y 0).val + (30 - k)) (y 1) := by
  have h1 : (y 1 : Fin 512) = l := Fin.ext h1
  unfold conv
  refine Finset.sum_congr rfl fun k hk => ?_
  have hk := Finset.mem_range.1 hk
  rw [h0, h1, show r0 + 30 - k + i.val = r0 + i.val + (30 - k) by omega]

theorem inBand (y : S256x512.Idx) (q : ℕ) (h0 : q ≤ (y 0).val ∧ (y 0).val < q + 32) (a : Fin 2) :
    ![q, 0] a ≤ (y a).val ∧ (y a).val < ![q, 0] a + ![32, 512] a := by
  have h2 : (y 1).val < 512 := (y 1).isLt
  fin_cases a <;> simp <;> omega

theorem pieces8 (W E : ℕ → Fin 512 → EReal) (v : View sig .tc .vmem S256x512 .f32) (f0 f1 f2 f3 f4 f5 f6 f7 : Vec Ideal S32x512 .f32) (g0 : ∀ i l, f0 (ix2 i l) = conv W E 0 i l) (g1 : ∀ i l, f1 (ix2 i l) = conv W E 32 i l) (g2 : ∀ i l, f2 (ix2 i l) = conv W E 64 i l) (g3 : ∀ i l, f3 (ix2 i l) = conv W E 96 i l) (g4 : ∀ i l, f4 (ix2 i l) = conv W E 128 i l) (g5 : ∀ i l, f5 (ix2 i l) = conv W E 160 i l) (g6 : ∀ i l, f6 (ix2 i l) = conv W E 192 i l) (g7 : ∀ i l, f7 (ix2 i l) = conv W E 224 i l) (h0 h1 h2 h3 h4 h5 h6 h7) (inb) (i : Fin 256) (l : Fin 512) :
    v.readCov (Val := Elt Ideal) [⟨Rect.unit (s := S256x512) ![224, 0] ![32, 512] h7, f7⟩, ⟨Rect.unit (s := S256x512) ![192, 0] ![32, 512] h6, f6⟩, ⟨Rect.unit (s := S256x512) ![160, 0] ![32, 512] h5, f5⟩, ⟨Rect.unit (s := S256x512) ![128, 0] ![32, 512] h4, f4⟩, ⟨Rect.unit (s := S256x512) ![96, 0] ![32, 512] h3, f3⟩, ⟨Rect.unit (s := S256x512) ![64, 0] ![32, 512] h2, f2⟩, ⟨Rect.unit (s := S256x512) ![32, 0] ![32, 512] h1, f1⟩, ⟨Rect.unit (s := S256x512) ![0, 0] ![32, 512] h0, f0⟩] (Rect.unit (s := S256x512) ![0, 0] ![256, 512] inb).toLoadRect (ix2 i l)
      = ∑ k ∈ Finset.range 31, W k l * E (i.val + (30 - k)) l := by
  rw [View.readCov_eq_canon']
  refine (View.canon_apply_of_pieces (Val := Elt Ideal) (S := S256x512) (e := .f32)
    (fun y => ∑ k ∈ Finset.range 31, W k (y 1) * E ((y 0).val + (30 - k)) (y 1)) _ ?_ _ ?_).trans ?_
  · simp only [List.forall_mem_cons]
    and_intros
    any_goals
      intro x; idx_vars x
      (first | refine (g0 _ _).trans (conv_eq W E _ _ _ _ ?_ ?_) | refine (g1 _ _).trans (conv_eq W E _ _ _ _ ?_ ?_) | refine (g2 _ _).trans (conv_eq W E _ _ _ _ ?_ ?_) | refine (g3 _ _).trans (conv_eq W E _ _ _ _ ?_ ?_) | refine (g4 _ _).trans (conv_eq W E _ _ _ _ ?_ ?_) | refine (g5 _ _).trans (conv_eq W E _ _ _ _ ?_ ?_) | refine (g6 _ _).trans (conv_eq W E _ _ _ _ ?_ ?_) | refine (g7 _ _).trans (conv_eq W E _ _ _ _ ?_ ?_)) <;> simp [ValueKit.rect_emb_unit_val]
    exact fun _ h => absurd h List.not_mem_nil
  · simp only [List.mem_cons, exists_eq_or_imp, Rect.mem_set_unit]
    have e0 : ((Rect.unit (s := S256x512) ![0, 0] ![256, 512] inb).toLoadRect.idx (ix2 i l) 0).val = i.val := by simp
    have hd := inBand ((Rect.unit (s := S256x512) ![0, 0] ![256, 512] inb).toLoadRect.idx (ix2 i l))
    rw [e0] at hd
    rcases (by omega : (224 ≤ i.val ∧ i.val < 224 + 32) ∨ (192 ≤ i.val ∧ i.val < 192 + 32) ∨ (160 ≤ i.val ∧ i.val < 160 + 32) ∨ (128 ≤ i.val ∧ i.val < 128 + 32) ∨ (96 ≤ i.val ∧ i.val < 96 + 32) ∨ (64 ≤ i.val ∧ i.val < 64 + 32) ∨ (32 ≤ i.val ∧ i.val < 32 + 32) ∨ (0 ≤ i.val ∧ i.val < 0 + 32)) with h | h | h | h | h | h | h | h <;> repeat (first | exact Or.inl (hd _ h) | apply Or.inr)
  · refine Finset.sum_congr rfl fun k _ => congrArg₂ (· * ·) (congrArg (W k) (Fin.ext ?_)) (congrArg₂ E ?_ (Fin.ext ?_)) <;> simp

end Rows

end Cert.Kernel4Ideal.Value

end
-- ==== Proof.TapsStep.lean ====
module

public import Idealize.ShloMosaic.Lib.WritesUnit
public import proofs.«01_k».proof.Proof.Taps
public import Idealize.ShloMosaic.Lib.Pipeline.ValueKit
public import Idealize.ShloMosaic.Lib.Pipeline.ReadBack
public import Idealize.ShloMosaic.Lib.Tactic.CleanTypes

/-! The gradient of the causal convolution's taps: what a tile's windows hold after its step. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

attribute [local pointwise] k0_pay1 k0_pay2 k0_pay3 k0_pay4 k0_pay5 k0_pay6 k0_pay7 k0_pay8 k0_pay9 k0_pay10 k0_pay11 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105 k0_pay106 k0_pay107 k0_pay108 k0_pay109 k0_pay110 k0_pay111 k0_pay112 k0_pay113 k0_pay114 k0_pay115 k0_pay116 k0_pay117 k0_pay118 k0_pay119 k0_pay120 k0_pay121 k0_pay122 k0_pay123 k0_pay124 k0_pay125 k0_pay126 k0_pay127 k0_pay128 k0_pay129 k0_pay130 k0_pay131 k0_pay132 k0_pay133 k0_pay134 k0_pay135 k0_pay136 k0_pay137 k0_pay138 k0_pay139 k0_pay140 k0_pay141 k0_pay142 k0_pay143 k0_pay144 k0_pay145 k0_pay146 k0_pay147 k0_pay148 k0_pay149 k0_pay150 k0_pay151 k0_pay152 k0_pay153 k0_pay154 k0_pay155 k0_pay156 k0_pay157 k0_pay158 k0_pay159 k0_pay160 k0_pay161 k0_pay162 k0_pay163 k0_pay164 k0_pay165 k0_pay166 k0_pay167 k0_pay168 k0_pay169 k0_pay170 k0_pay171 k0_pay172 k0_pay173 k0_pay174 k0_pay175 k0_pay176 k0_pay177 k0_pay178 k0_pay179 k0_pay180 k0_pay181 k0_pay182 k0_pay183 k0_pay184 k0_pay185 k0_pay186 k0_pay187 k0_pay188 k0_pay189 k0_pay190 k0_pay191 k0_pay192 k0_pay193 k0_pay194 k0_pay195 k0_pay196 k0_pay197 k0_pay198 k0_pay199 k0_pay200 k0_pay201 k0_pay202 k0_pay203 k0_pay204 k0_pay205 k0_pay206 k0_pay207 k0_pay208 k0_pay209 k0_pay210 k0_pay211 k0_pay212 k0_pay213 k0_pay214 k0_pay215 k0_pay216 k0_pay217 k0_pay218 k0_pay219 k0_pay220 k0_pay221 k0_pay222 k0_pay223 k0_pay224 k0_pay225 k0_pay226 k0_pay227 k0_pay228 k0_pay229 k0_pay230 k0_pay231 k0_pay232 k0_pay233 k0_pay234 k0_pay235 k0_pay236 k0_pay237 k0_pay238 k0_pay239 k0_pay240 k0_pay241 k0_pay242 k0_pay243 k0_pay244 k0_pay245 k0_pay246 k0_pay247 k0_pay248 k0_pay249 k0_pay250 k0_pay251 k0_pay252 k0_pay253 k0_pay254 k0_pay255 k0_pay256 k0_pay257 k0_pay258 k0_pay259 k0_pay260 k0_pay261 k0_pay262 k0_pay263 k0_pay264 k0_pay265 k0_pay266 k0_pay267 k0_pay268 k0_pay269 k0_pay270 k0_pay271 k0_pay272 k0_pay273 k0_pay274 k0_pay275 k0_pay276 k0_pay277 k0_pay278 k0_pay279 k0_pay280 k0_pay281 k0_pay282 k0_pay283 k0_pay284 k0_pay285 k0_pay286 k0_pay287 k0_pay288 k0_pay289 k0_pay290 k0_pay291 k0_pay292 k0_pay293 k0_pay294 k0_pay295 k0_pay296 k0_pay297 k0_pay298 k0_pay299 k0_pay300 k0_pay301 k0_pay302 k0_pay303 k0_pay304 k0_pay305 k0_pay306 k0_pay307 k0_pay308 k0_pay309 k0_pay310 k0_pay311 k0_pay312 k0_pay313 k0_pay314 k0_pay315 k0_pay316 k0_pay317 k0_pay318 k0_pay319 k0_pay320 k0_pay321 k0_pay322 k0_pay323 k0_pay324 k0_pay325 k0_pay326 k0_pay327 k0_pay328 k0_pay329 k0_pay330 k0_pay331 k0_pay332 k0_pay333 k0_pay334 k0_pay335 k0_pay336 k0_pay337 k0_pay338 k0_pay339 k0_pay340 k0_pay341 k0_pay342 k0_pay343 k0_pay344 k0_pay345 k0_pay346 k0_pay347 k0_pay348 k0_pay349 k0_pay350 k0_pay351 k0_pay352 k0_pay353 k0_pay354 k0_pay355 k0_pay356 k0_pay357 k0_pay358 k0_pay359 k0_pay360 k0_pay361 k0_pay362 k0_pay363 k0_pay364 k0_pay365 k0_pay366 k0_pay367 k0_pay368 k0_pay369 k0_pay370 k0_pay371 k0_pay372 k0_pay373 k0_pay374 k0_pay375 k0_pay376 k0_pay377 k0_pay378 k0_pay379 k0_pay380 k0_pay381 k0_pay382 k0_pay383 k0_pay384 k0_pay385 k0_pay386 k0_pay387 k0_pay388 k0_pay389 k0_pay390 k0_pay391 k0_pay392 k0_pay393 k0_pay394 k0_pay395 k0_pay396 k0_pay397 k0_pay398 k0_pay399 k0_pay400 k0_pay401 k0_pay402 k0_pay403 k0_pay404 k0_pay405 k0_pay406 k0_pay407 k0_pay408 k0_pay409 k0_pay410 k0_pay411 k0_pay412 k0_pay413 k0_pay414 k0_pay415 k0_pay416 k0_pay417 k0_pay418 k0_pay419 k0_pay420 k0_pay421 k0_pay422 k0_pay423 k0_pay424 k0_pay425 k0_pay426 k0_pay427 k0_pay428 k0_pay429 k0_pay430 k0_pay431 k0_pay432 k0_pay433 k0_pay434 k0_pay435 k0_pay436 k0_pay437 k0_pay438 k0_pay439 k0_pay440 k0_pay441 k0_pay442 k0_pay443 k0_pay444 k0_pay445 k0_pay446 k0_pay447 k0_pay448 k0_pay449 k0_pay450 k0_pay451 k0_pay452 k0_pay453 k0_pay454 k0_pay455 k0_pay456 k0_pay457 k0_pay458 k0_pay459 k0_pay460 k0_pay461 k0_pay462 k0_pay463 k0_pay464 k0_pay465 k0_pay466 k0_pay467 k0_pay468 k0_pay469 k0_pay470 k0_pay471 k0_pay472 k0_pay473 k0_pay474 k0_pay475 k0_pay476 k0_pay477 k0_pay478 k0_pay479 k0_pay480 k0_pay481 k0_pay482 k0_pay483 k0_pay484 k0_pay485 k0_pay486 k0_pay487 k0_pay488 k0_pay489 k0_pay490 k0_pay491 k0_pay492 k0_pay493 k0_pay494 k0_pay495 k0_pay496 k0_pay497 k0_pay498 k0_pay499 k0_pay500 k0_pay501 k0_pay502 k0_pay503 k0_pay504 k0_pay505 k0_pay506 k0_pay507 k0_pay508 k0_pay509 k0_pay510 k0_pay511 k0_pay512 k0_pay513 k0_pay514 k0_pay515 k0_pay516 k0_pay517 k0_pay518 k0_pay519 k0_pay520 k0_pay521 k0_pay522 k0_pay523 k0_pay524 k0_pay525 k0_pay526 k0_pay527 k0_pay528 k0_pay529 k0_pay530 k0_pay531 k0_pay532 k0_pay533 k0_pay534 k0_pay535 k0_pay536 k0_pay537 k0_pay538 k0_pay539 k0_pay540 k0_pay541 k0_pay542 k0_pay543 k0_pay544 k0_pay545 k0_pay546 k0_pay547 k0_pay548 k0_pay549 k0_pay550 k0_pay551 k0_pay552 k0_pay553 k0_pay554 k0_pay555 k0_pay556 k0_pay557 k0_pay558 k0_pay559 k0_pay560 k0_pay561 k0_pay562 k0_pay563 k0_pay564 k0_pay565 k0_pay566 k0_pay567 k0_pay568 k0_pay569 k0_pay570 k0_pay571 k0_pay572 k0_pay573 k0_pay574 k0_pay575 k0_pay576 k0_pay577 k0_pay578 k0_pay579 k0_pay580 k0_pay581 k0_pay582 k0_pay583 k0_pay584 k0_pay585 k0_pay586 k0_pay587 k0_pay588 k0_pay589 k0_pay590 k0_pay591 k0_pay592 k0_pay593 k0_pay594 k0_pay595 k0_pay596 k0_pay597 k0_pay598 k0_pay599 k0_pay600 k0_pay601 k0_pay602 k0_pay603 k0_pay604 k0_pay605 k0_pay606 k0_pay607 k0_pay608 k0_pay609 k0_pay610 k0_pay611 k0_pay612 k0_pay613 k0_pay614 k0_pay615 k0_pay616 k0_pay617 k0_pay618 k0_pay619 k0_pay620 k0_pay621 k0_pay622 k0_pay623 k0_pay624 k0_pay625 k0_pay626 k0_pay627 k0_pay628 k0_pay629 k0_pay630 k0_pay631 k0_pay632 k0_pay633 k0_pay634 k0_pay635 k0_pay636 k0_pay637 k0_pay638 k0_pay639 k0_pay640 k0_pay641 k0_pay642 k0_pay643 k0_pay644 k0_pay645 k0_pay646 k0_pay647 k0_pay648 k0_pay649 k0_pay650 k0_pay651 k0_pay652 k0_pay653 k0_pay654 k0_pay655 k0_pay656 k0_pay657 k0_pay658 k0_pay659 k0_pay660 k0_pay661 k0_pay662 k0_pay663 k0_pay664 k0_pay665 k0_pay666 k0_pay667 k0_pay668 k0_pay669 k0_pay670 k0_pay671 k0_pay672 k0_pay673 k0_pay674 k0_pay675 k0_pay676 k0_pay677 k0_pay678 k0_pay679 k0_pay680 k0_pay681 k0_pay682 k0_pay683 k0_pay684 k0_pay685 k0_pay686 k0_pay687 k0_pay688 k0_pay689 k0_pay690 k0_pay691 k0_pay692 k0_pay693 k0_pay694 k0_pay695 k0_pay696 k0_pay697 k0_pay698 k0_pay699 k0_pay700 k0_pay701 k0_pay702 k0_pay703 k0_pay704 k0_pay705 k0_pay706 k0_pay707 k0_pay708 k0_pay709 k0_pay710 k0_pay711 k0_pay712 k0_pay713 k0_pay714 k0_pay715 k0_pay716 k0_pay717 k0_pay718 k0_pay719 k0_pay720 k0_pay721 k0_pay722 k0_pay723 k0_pay724 k0_pay725 k0_pay726 k0_pay727 k0_pay728 k0_pay729 k0_pay730 k0_pay731 k0_pay732 k0_pay733 k0_pay734 k0_pay735 k0_pay736 k0_pay737 k0_pay738 k0_pay739 k0_pay740 k0_pay741 k0_pay742 k0_pay743 k0_pay744 k0_pay745 k0_pay746 k0_pay747 k0_pay748 k0_pay749 k0_pay750 k0_pay751 k0_pay752 k0_pay753 k0_pay754 k0_pay755 k0_pay756 k0_pay757 k0_pay758 k0_pay759 k0_pay760 k0_pay761 k0_pay762 k0_pay763 k0_pay764 k0_pay765 k0_pay766 k0_pay767 k0_pay768 k0_pay769 k0_pay770 k0_pay771 k0_pay772 k0_pay773 k0_pay774 k0_pay775 k0_pay776 k0_pay777 k0_pay778 k0_pay779 k0_pay780 k0_pay781 k0_pay782 k0_pay783 k0_pay784 k0_pay785 k0_pay786 k0_pay787 k0_pay788 k0_pay789 k0_pay790 k0_pay791 k0_pay792 k0_pay793 k0_pay794 k0_pay795 k0_pay796 k0_pay797 k0_pay798 k0_pay799 k0_pay800 k0_pay801 k0_pay802 k0_pay803 k0_pay804 k0_pay805 k0_pay806 k0_pay807 k0_pay808 k0_pay809 k0_pay810 k0_pay811 k0_pay812 k0_pay813 k0_pay814 k0_pay815 k0_pay816 k0_pay817 k0_pay818 k0_pay819 k0_pay820 k0_pay821 k0_pay822 k0_pay823 k0_pay824 k0_pay825 k0_pay826 k0_pay827 k0_pay828 k0_pay829 k0_pay830 k0_pay831 k0_pay832 k0_pay833 k0_pay834 k0_pay835 k0_pay836 k0_pay837 k0_pay838 k0_pay839 k0_pay840 k0_pay841 k0_pay842 k0_pay843 k0_pay844 k0_pay845 k0_pay846 k0_pay847 k0_pay848 k0_pay849 k0_pay850 k0_pay851 k0_pay852 k0_pay853 k0_pay854 k0_pay855 k0_pay856 k0_pay857 k0_pay858 k0_pay859 k0_pay860 k0_pay861 k0_pay862 k0_pay863 k0_pay864 k0_pay865 k0_pay866 k0_pay867 k0_pay868 k0_pay869 k0_pay870 k0_pay871 k0_pay872 k0_pay873 k0_pay874 k0_pay875 k0_pay876 k0_pay877 k0_pay878 k0_pay879 k0_pay880 k0_pay881 k0_pay882 k0_pay883 k0_pay884 k0_pay885 k0_pay886 k0_pay887 k0_pay888 k0_pay889 k0_pay890 k0_pay891 k0_pay892 k0_pay893 k0_pay894 k0_pay895 k0_pay896 k0_pay897 k0_pay898 k0_pay899 k0_pay900 k0_pay901 k0_pay902 k0_pay903 k0_pay904 k0_pay905 k0_pay906 k0_pay907 k0_pay908 k0_pay909 k0_pay910 k0_pay911 k0_pay912 k0_pay913 k0_pay914 k0_pay915 k0_pay916 k0_pay917 k0_pay918 k0_pay919 k0_pay920 k0_pay921 k0_pay922 k0_pay923 k0_pay924 k0_pay925 k0_pay926 k0_pay927 k0_pay928 k0_pay929 k0_pay930 k0_pay931 k0_pay932 k0_pay933 k0_pay934 k0_pay935 k0_pay936 k0_pay937 k0_pay938 k0_pay939 k0_pay940 k0_pay941 k0_pay942 k0_pay943 k0_pay944 k0_pay945 k0_pay946 k0_pay947 k0_pay948 k0_pay949 k0_pay950 k0_pay951 k0_pay952 k0_pay953 k0_pay954 k0_pay955 k0_pay956 k0_pay957 k0_pay958 k0_pay959 k0_pay960 k0_pay961 k0_pay962 k0_pay963 k0_pay964 k0_pay965 k0_pay966 k0_pay967 k0_pay968 k0_pay969 k0_pay970 k0_pay971 k0_pay972 k0_pay973 k0_pay974 k0_pay975 k0_pay976 k0_pay977 k0_pay978 k0_pay979 k0_pay980 k0_pay981 k0_pay982 k0_pay983 k0_pay984 k0_pay985 k0_pay986 k0_pay987 k0_pay988 k0_pay989 k0_pay990 k0_pay991 k0_pay992 k0_pay993 k0_pay994 k0_pay995 k0_pay996 k0_pay997 k0_pay998 k0_pay999 k0_pay1000 k0_pay1001 k0_pay1002 k0_pay1003 k0_pay1004 k0_pay1005 k0_pay1006 k0_pay1007 k0_pay1008 k0_pay1009 k0_pay1010 k0_pay1011 k0_pay1012 k0_pay1013 k0_pay1014 k0_pay1015 k0_pay1016 k0_pay1017 k0_pay1018 k0_pay1019 k0_pay1020 k0_pay1021 k0_pay1022 k0_pay1023 k0_pay1024 k0_pay1025 k0_pay1026 k0_pay1027 k0_pay1028 k0_pay1029 k0_pay1030 k0_pay1031 k0_pay1032 k0_pay1033 k0_pay1034 k0_pay1035 k0_pay1036 k0_pay1037 k0_pay1038 k0_pay1039 k0_pay1040 k0_pay1041 k0_pay1042 k0_pay1043 k0_pay1044 k0_pay1045 k0_pay1046 k0_pay1047 k0_pay1048 k0_pay1049 k0_pay1050 k0_pay1051 k0_pay1052 k0_pay1053 k0_pay1054 k0_pay1055 k0_pay1056 k0_pay1057 k0_pay1058 k0_pay1059 k0_pay1060 k0_pay1061 k0_pay1062 k0_pay1063 k0_pay1064 k0_pay1065 k0_pay1066 k0_pay1067 k0_pay1068 k0_pay1069 k0_pay1070 k0_pay1071 k0_pay1072 k0_pay1073 k0_pay1074 k0_pay1075 k0_pay1076 k0_pay1077 k0_pay1078 k0_pay1079 k0_pay1080 k0_pay1081 k0_pay1082 k0_pay1083 k0_pay1084 k0_pay1085 k0_pay1086 k0_pay1087 k0_pay1088 k0_pay1089 k0_pay1090 k0_pay1091 k0_pay1092 k0_pay1093 k0_pay1094 k0_pay1095 k0_pay1096 k0_pay1097 k0_pay1098 k0_pay1099 k0_pay1100 k0_pay1101 k0_pay1102 k0_pay1103 k0_pay1104 k0_pay1105 k0_pay1106 k0_pay1107 k0_pay1108 k0_pay1109 k0_pay1110 k0_pay1111 k0_pay1112 k0_pay1113 k0_pay1114 k0_pay1115 k0_pay1116 k0_pay1117 k0_pay1118 k0_pay1119 k0_pay1120

section Step

variable (c : Dev nD) (t : Fin cfg0.N)

/-- The gradient at the argument, in tile `t`. -/
def daTile (i : Fin 256) (l : Fin 512) : EReal := ∑ k ∈ Finset.range 31, tap m c k l * extD m c t (i.val + (30 - k)) l

theorem w7A (h0 : t.val % 32 = 0) (i : Fin 256) (l : Fin 512) :
    (outsAt0 m c t.val t.isLt).1 (ix2 i l) = daTile m c t i l * sg (A0 m c) (row t i) l := by
  rw [outsAt0_A m c t h0]
  dsimp only
  frame_out
  simp only [k0_pay25, readD, readA]
  simp (discharger := decide) only [planes (extD m c t), Nat.reduceAdd, ldW, ldD]
  pointwise
  rw [pieces8 (tap m c) (extD m c t)]
  · rw [blk1]; rfl
  all_goals
    intro i l
    pointwise
    simp only [tall_apply, slab_apply, conv, Finset.sum_range_succ, Finset.sum_range_zero, Nat.reduceAdd, Nat.reduceSub, zero_add, Fin.val_zero, add_zero]

theorem w8A (h0 : t.val % 32 = 0) (i : Fin 256) (l : Fin 512) :
    (outsAt0 m c t.val t.isLt).2.1 (ix2 i l) = daTile m c t i l * val (A0 m c) (row t i) l * sg (A0 m c) (row t i) l * (1 - sg (A0 m c) (row t i) l) := by
  rw [outsAt0_A m c t h0]
  dsimp only
  frame_out
  simp only [k0_pay25, readD, readA]
  simp (discharger := decide) only [planes (extD m c t), Nat.reduceAdd, ldW, ldD]
  pointwise
  rw [pieces8 (tap m c) (extD m c t)]
  · rw [blk0, blk1]; rfl
  all_goals
    intro i l
    pointwise
    simp only [tall_apply, slab_apply, conv, Finset.sum_range_succ, Finset.sum_range_zero, Nat.reduceAdd, Nat.reduceSub, zero_add, Fin.val_zero, add_zero]

theorem w7B (h0 : ¬t.val % 32 = 0) (i : Fin 256) (l : Fin 512) :
    (outsAt0 m c t.val t.isLt).1 (ix2 i l) = daTile m c t i l * sg (A0 m c) (row t i) l := by
  rw [outsAt0_B m c t h0]
  dsimp only
  frame_out
  simp only [k0_pay25, readD, readA]
  simp (discharger := decide) only [planes (extD m c t), Nat.reduceAdd, ldW, ldD]
  pointwise
  rw [pieces8 (tap m c) (extD m c t)]
  · rw [blk1]; rfl
  all_goals
    intro i l
    pointwise
    simp only [tall_apply, slab_apply, conv, Finset.sum_range_succ, Finset.sum_range_zero, Nat.reduceAdd, Nat.reduceSub, zero_add, Fin.val_zero, add_zero]

theorem w8B (h0 : ¬t.val % 32 = 0) (i : Fin 256) (l : Fin 512) :
    (outsAt0 m c t.val t.isLt).2.1 (ix2 i l) = daTile m c t i l * val (A0 m c) (row t i) l * sg (A0 m c) (row t i) l * (1 - sg (A0 m c) (row t i) l) := by
  rw [outsAt0_B m c t h0]
  dsimp only
  frame_out
  simp only [k0_pay25, readD, readA]
  simp (discharger := decide) only [planes (extD m c t), Nat.reduceAdd, ldW, ldD]
  pointwise
  rw [pieces8 (tap m c) (extD m c t)]
  · rw [blk0, blk1]; rfl
  all_goals
    intro i l
    pointwise
    simp only [tall_apply, slab_apply, conv, Finset.sum_range_succ, Finset.sum_range_zero, Nat.reduceAdd, Nat.reduceSub, zero_add, Fin.val_zero, add_zero]

/-- An array's rows, as a function of the row's number. -/
def rowsOf (f : Vec Ideal S32x512 .f32) (k : ℕ) (l : Fin 512) : EReal := if h : k < 32 then f (ix2 ⟨k, h⟩ l) else 0

theorem ldRow (f : Vec Ideal S32x512 .f32) (k : ℕ) (inb) :
    View.ld (Val := Elt Ideal) (e' := .f32) f (Rect.unit (s := S32x512) ![k, 0] ![1, 512] inb) = tall 1 (rowsOf f) k := by
  have hk : k + 1 ≤ 32 := inb 0
  funext j
  idx_vars j
  have h0 : j0.val = 0 := by omega
  unfold tall rowsOf
  refine Eq.trans (b := f (ix2 ⟨k, by omega⟩ j1)) (congrArg f (funext fun a => Fin.ext ?_)) ?_
  · fin_cases a <;> simp [h0]
  · simp [h0, show k < 32 by omega]

/-- What tile `t` adds to row `k` of the taps' gradient. -/
def part (k : ℕ) (l : Fin 512) : EReal :=
  ∑ i : Fin 8, ∑ s ∈ Finset.range 32, extA m c t (2 + k + 8 * s + i.val) l * extD m c t (8 * s + i.val) l

def G9 (Z : ℕ → Fin 512 → EReal) (y : S32x512.Idx) : Elt Ideal .f32 := (Z (y 0).val (y 1) + part m c t (y 0).val (y 1) : EReal)

theorem G9_emb (Z : ℕ → Fin 512 → EReal) (k : ℕ) (inb) (x0 : Fin 1) (x1 : Fin 512) :
    G9 m c t Z ((Rect.unit (s := S32x512) ![k, 0] ![1, 512] inb).emb (ix2 x0 x1)) = (Z k x1 + part m c t k x1 : EReal) := by
  have h0 : x0.val = 0 := by omega
  unfold G9
  refine congrArg₂ (fun a b => (Z a b + part m c t a b : EReal)) ?_ (Fin.ext ?_) <;> simp [ValueKit.rect_emb_unit_val, h0]

theorem inRow (y : S32x512.Idx) (q : ℕ) (h0 : q = (y 0).val) (a : Fin 2) : ![q, 0] a ≤ (y a).val ∧ (y a).val < ![q, 0] a + ![1, 512] a := by
  have h2 : (y 1).val < 512 := (y 1).isLt
  fin_cases a <;> simp <;> omega

theorem ldZero (k : ℕ) (inb) : View.ld (Val := Elt Ideal) (e' := .f32) (k0_pay5 (F := Ideal)) (Rect.unit (s := S32x512) ![k, 0] ![1, 512] inb)
    = tall 1 (fun _ _ => 0) k := by
  have hz : ∀ y, k0_pay5 (F := Ideal) y = 0 := fun y => by idx_vars y; pointwise
  funext j
  exact hz _

theorem skipRow (k : ℕ) (hk : k < 31) (inb) (f) (L : List (View.Piece (Elt Ideal) S32x512 .f32)) (z : Fin 32) (hz : z.val = 31) (l : Fin 512) :
    View.canon (⟨Rect.unit (s := S32x512) ![k, 0] ![1, 512] inb, f⟩ :: L) (ix2 z l) = View.canon L (ix2 z l) := by
  refine View.canon_cons_of_not_mem _ L fun h => ?_
  have := ((Rect.mem_set_unit (inb := inb)).1 h 0).2
  simp at this
  omega

theorem skipRead (v : View sig .tc .vmem S32x512 .f32) (b) (k : ℕ) (hk : k < 31) (inb) (f) (L : List (View.Piece (Elt Ideal) S32x512 .f32)) (z : Fin 32) (hz : z.val = 31) (l : Fin 512) :
    v.read (Elt Ideal) (v.writes (Elt Ideal) b (⟨Rect.unit (s := S32x512) ![k, 0] ![1, 512] inb, f⟩ :: L)) (ix2 z l)
      = v.read (Elt Ideal) (v.writes (Elt Ideal) b L) (ix2 z l) :=
  View.read_writes_cons_unit_of_not_mem v b inb f L _ rfl 0 (.inr (by simp; omega))

set_option maxHeartbeats 2000000 in
theorem w9B (h0 : ¬t.val % 32 = 0) (k : Fin 31) (l : Fin 512) :
    (outsAt0 m c t.val t.isLt).2.2 (ix2 ⟨k.val, by omega⟩ l)
      = rowsOf (outsAt0 m c (t.val - 1) (by omega)).2.2 k.val l + part m c t k.val l := by
  rw [outsAt0_B m c t h0]
  dsimp only
  frame_out
  simp only [k0_pay12, k0_pay13, k0_pay14, k0_pay15, k0_pay16, k0_pay17, k0_pay18, readD, readA]
  simp (discharger := decide) only [planes (extA m c t), Nat.reduceAdd, ldD, ldRow]
  refine (View.read_writes_apply_of_pieces _ _ (G9 m c t (rowsOf (outsAt0 m c (t.val - 1) (by omega)).2.2)) _ ?_ _ ?_).trans ?_
  · simp only [List.forall_mem_cons]
    and_intros
    any_goals
      intro x; idx_vars x
      obtain rfl : x0 = 0 := Subsingleton.elim _ _
      rw [G9_emb]
      pointwise
      simp only [tall_apply, slab_apply, part, Finset.sum_range_succ, Finset.sum_range_zero, Nat.reduceAdd, Nat.reduceSub, zero_add, Fin.val_zero, add_zero, Nat.reduceMul]
    exact fun _ h => absurd h List.not_mem_nil
  · simp only [List.mem_cons, exists_eq_or_imp, Rect.mem_set_unit]
    have hd := inRow (ix2 (⟨k.val, by omega⟩ : Fin 32) l)
    rcases (by omega : 30 = k.val ∨ 29 = k.val ∨ 28 = k.val ∨ 27 = k.val ∨ 26 = k.val ∨ 25 = k.val ∨ 24 = k.val ∨ 23 = k.val ∨ 22 = k.val ∨ 21 = k.val ∨ 20 = k.val ∨ 19 = k.val ∨ 18 = k.val ∨ 17 = k.val ∨ 16 = k.val ∨ 15 = k.val ∨ 14 = k.val ∨ 13 = k.val ∨ 12 = k.val ∨ 11 = k.val ∨ 10 = k.val ∨ 9 = k.val ∨ 8 = k.val ∨ 7 = k.val ∨ 6 = k.val ∨ 5 = k.val ∨ 4 = k.val ∨ 3 = k.val ∨ 2 = k.val ∨ 1 = k.val ∨ 0 = k.val) with h | h | h | h | h | h | h | h | h | h | h | h | h | h | h | h | h | h | h | h | h | h | h | h | h | h | h | h | h | h | h <;> repeat (first | exact Or.inl (hd _ h) | apply Or.inr)
  · rfl

set_option maxHeartbeats 2000000 in
theorem w9A (h0 : t.val % 32 = 0) (k : Fin 31) (l : Fin 512) :
    (outsAt0 m c t.val t.isLt).2.2 (ix2 ⟨k.val, by omega⟩ l) = 0 + part m c t k.val l := by
  rw [outsAt0_A m c t h0]
  dsimp only
  frame_out
  simp (discharger := decide) only [k0_pay12, k0_pay13, k0_pay14, k0_pay15, k0_pay16, k0_pay17, k0_pay18, readD, readA]
  simp (discharger := decide) only [planes (extA m c t), Nat.reduceAdd, ldD]
  simp (discharger := decide) only [View.readCov_skip, View.readCov_fill, ldZero]
  rw [show ∀ (L : List (View.Piece (Elt Ideal) S32x512 .f32)) y, View.canon L y = View.canon (L.take 31 ++ L.drop 31) y from
    fun L y => by rw [List.take_append_drop]]
  refine (View.canon_append_of_pieces (G9 m c t fun _ _ => 0) _ _ ?_ _ ?_).trans ?_
  · simp only [List.take_succ_cons, List.take_zero, List.forall_mem_cons]
    and_intros
    any_goals
      intro x; idx_vars x
      obtain rfl : x0 = 0 := Subsingleton.elim _ _
      rw [G9_emb]
      pointwise
      simp only [tall_apply, slab_apply, part, Finset.sum_range_succ, Finset.sum_range_zero, Nat.reduceAdd, Nat.reduceSub, zero_add, Fin.val_zero, add_zero, Nat.reduceMul]
    exact fun _ h => absurd h List.not_mem_nil
  · simp only [List.take_succ_cons, List.take_zero, List.mem_cons, exists_eq_or_imp, Rect.mem_set_unit]
    have hd := inRow (ix2 (⟨k.val, by omega⟩ : Fin 32) l)
    rcases (by omega : 30 = k.val ∨ 29 = k.val ∨ 28 = k.val ∨ 27 = k.val ∨ 26 = k.val ∨ 25 = k.val ∨ 24 = k.val ∨ 23 = k.val ∨ 22 = k.val ∨ 21 = k.val ∨ 20 = k.val ∨ 19 = k.val ∨ 18 = k.val ∨ 17 = k.val ∨ 16 = k.val ∨ 15 = k.val ∨ 14 = k.val ∨ 13 = k.val ∨ 12 = k.val ∨ 11 = k.val ∨ 10 = k.val ∨ 9 = k.val ∨ 8 = k.val ∨ 7 = k.val ∨ 6 = k.val ∨ 5 = k.val ∨ 4 = k.val ∨ 3 = k.val ∨ 2 = k.val ∨ 1 = k.val ∨ 0 = k.val) with h | h | h | h | h | h | h | h | h | h | h | h | h | h | h | h | h | h | h | h | h | h | h | h | h | h | h | h | h | h | h <;> repeat (first | exact Or.inl (hd _ h) | apply Or.inr)
  · rfl

theorem w9B_last (h0 : ¬t.val % 32 = 0) (k : Fin 32) (hk : k.val = 31) (l : Fin 512) :
    (outsAt0 m c t.val t.isLt).2.2 (ix2 k l) = (outsAt0 m c (t.val - 1) (by omega)).2.2 (ix2 k l) := by
  rw [outsAt0_B m c t h0]
  dsimp only
  frame_out
  simp (discharger := first | decide | exact hk) only [skipRead, View.writes_nil, Memref.IsWhole.read_unread]

theorem w9A_last (h0 : t.val % 32 = 0) (k : Fin 32) (hk : k.val = 31) (l : Fin 512) :
    (outsAt0 m c t.val t.isLt).2.2 (ix2 k l) = (0 : EReal) := by
  rw [outsAt0_A m c t h0]
  dsimp only
  frame_out
  simp (discharger := first | decide | exact hk) only [skipRow]
  rw [View.canon_unit_zero (by funext a; fin_cases a <;> rfl)]
  pointwise

end Step

end Cert.Kernel4Ideal.Value

end
-- ==== Proof.TapsFinal.lean ====
module

public import proofs.«01_k».proof.Proof.TapsStep
public import Idealize.ShloMosaic.Lib.Pipeline.ValueKit
public import Idealize.ShloMosaic.Lib.Pipeline.ReadBack
public import Idealize.ShloMosaic.Lib.Tactic.CleanTypes

/-! The gradient of the causal convolution's taps: what the results hold at the end. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The gradient at the argument, of a tile's row. -/
theorem daTile_eq (c : Dev nD) (t : Fin cfg0.N) (i : Fin 256) (l : Fin 512) : daTile m c t i l = da (A1 m c) (A2 m c) (row t i) l := by
  unfold daTile da
  rw [Finset.sum_range]
  refine Finset.sum_congr rfl fun k _ => ?_
  have h : t.val < 32 := t.isLt
  refine congrArg₂ (· * ·) (dif_pos k.isLt) (congrArg₂ (dAt (A2 m c) · · l) ?_ ?_) <;> simp only [row] <;> omega

theorem final7 (c : Dev nD) : (dats m 0 c).arrAt 7 cfg0.N = res7 (A0 m c) (A1 m c) (A2 m c) := by
  refine (dats m 0 c).arrAt_eq_of_covers 7 _ (by decide +kernel) fun t hf y => ?_
  blk_simp
  rw [after0_7]
  idx_vars y
  rw [emb7]
  by_cases h : t.val % 32 = 0
  · exact (w7A m c t h y0 y1).trans (by rw [daTile_eq]; rfl)
  · exact (w7B m c t h y0 y1).trans (by rw [daTile_eq]; rfl)

theorem final8 (c : Dev nD) : (dats m 0 c).arrAt 8 cfg0.N = res8 (A0 m c) (A1 m c) (A2 m c) := by
  refine (dats m 0 c).arrAt_eq_of_covers 8 _ (by decide +kernel) fun t hf y => ?_
  blk_simp
  rw [after0_8]
  idx_vars y
  rw [emb8]
  by_cases h : t.val % 32 = 0
  · exact (w8A m c t h y0 y1).trans (by rw [daTile_eq]; rfl)
  · exact (w8B m c t h y0 y1).trans (by rw [daTile_eq]; rfl)

/-- A tile's part of the taps' gradient. -/
def part9 (c : Dev nD) (t : Fin cfg0.N) (j : S32x512.Idx) : EReal := if (j 0).val < 31 then part m c t (j 0).val (j 1) else 0

theorem step9A (c : Dev nD) (t : Fin cfg0.N) (h : t.val % 32 = 0) (k : Fin 32) (l : Fin 512) :
    (outsAt0 m c t.val t.isLt).2.2 (ix2 k l) = 0 + part9 m c t (ix2 k l) := by
  unfold part9
  split
  · next hk => exact w9A m c t h ⟨k.val, hk⟩ l
  · next hk => exact (w9A_last m c t h k (by have := k.isLt; have : ¬ k.val < 31 := hk; omega) l).trans (zero_add _).symm

theorem step9B (c : Dev nD) (t : Fin cfg0.N) (h : ¬t.val % 32 = 0) (k : Fin 32) (l : Fin 512) :
    (outsAt0 m c t.val t.isLt).2.2 (ix2 k l) = (outsAt0 m c (t.val - 1) (by omega)).2.2 (ix2 k l) + part9 m c t (ix2 k l) := by
  unfold part9
  split
  · next hk =>
    refine (w9B m c t h ⟨k.val, hk⟩ l).trans (congrArg (· + _) ?_)
    exact dif_pos (show k.val < 32 from k.isLt)
  · next hk => exact (w9B_last m c t h k (by have := k.isLt; have : ¬ k.val < 31 := hk; omega) l).trans (add_zero _).symm

/-- The same tile's part as one sum over its rows. -/
theorem part_eq (c : Dev nD) (t : Fin cfg0.N) (k : ℕ) (l : Fin 512) :
    part m c t k l = ∑ n : Fin 256, extA m c t (2 + k + n.val) l * extD m c t n.val l := by
  unfold part
  rw [Finset.sum_comm, Finset.sum_range]
  refine Fin.sum_mul_add_congr fun s i hl => ?_
  have e : 8 * s.val + i.val = s.val * 8 + i.val := by omega
  refine congrArg₂ (· * ·) (congrArg (extA m c t · l) ?_) (congrArg (extD m c t · l) e)
  show 2 + k + 8 * s.val + i.val = 2 + k + (s.val * 8 + i.val)
  omega

/-- The last tile. -/
abbrev last : Fin cfg0.N := ⟨31, by decide⟩

theorem final9 (c : Dev nD) : (dats m 0 c).arrAt 9 cfg0.N = res9 (A0 m c) (A2 m c) := by
  refine (dats m 0 c).arrAt_eq_of_after_last 9 last (by decide +kernel) _ fun j => ?_
  blk_simp
  rw [after0_9]
  idx_vars j
  rw [Pipeline.eq_sum_fin_of_reset_step_apply_last (fun n h => (outsAt0 m c n h).2.2) 32 (fun _ => 0) (fun t j => part9 m c t j)
      (fun t h j => by idx_vars j; exact step9A m c t h _ _)
      (fun t h j => by idx_vars j; exact step9B m c t h _ _) (le_of_eq N_0) last rfl _, zero_add]
  unfold res9 part9
  split
  · next hk =>
    refine (Finset.sum_congr rfl fun t _ => part_eq m c _ _ _).trans ?_
    refine Fin.sum_mul_add_congr fun t n hl => ?_
    have ht : t.val < 32 := t.isLt
    have hn : n.val < 256 := n.isLt
    refine congrArg₂ (· * ·) (congrArg₂ (aAt (A0 m c) · · _) ?_ ?_) ?_
    · show t.val / 16 = (t.val * 256 + n.val) / 4096
      omega
    · show t.val % 16 * 256 + (2 + j0.val + n.val) = (t.val * 256 + n.val) % 4096 + 2 + j0.val
      omega
    · refine (dif_pos ⟨?_, ?_⟩).trans (congrArg₂ (fun r l => A2 m c (ix2 r l)) (Fin.ext ?_) rfl)
      · show t.val / 16 * 4096 + (t.val % 16 * 256 + n.val) = t.val * 256 + n.val
        omega
      · show t.val / 16 < 2
        omega
      · show t.val % 16 * 256 + n.val < 4096
        omega
  · exact (Finset.sum_const_zero : (∑ _ : Fin 32, (0 : EReal)) = 0)

end Cert.Kernel4Ideal.Value

end
-- ==== Proof.TapsRef.lean ====
module

public import proofs.«01_k».proof.Proof.Gen.Reference4Ideal.Run
public import proofs.«01_k».proof.Proof.Taps
public import Idealize.ShloMosaic.Lib.Pipeline.ValueKit
public import Idealize.ShloMosaic.Lib.Pipeline.ReadBack
public import Idealize.ShloMosaic.Lib.Tactic.CleanTypes

/-! The gradient of the causal convolution's taps: what the reference leaves. -/

@[expose] public section

set_option maxRecDepth 16384

noncomputable section

namespace Cert.Reference4Ideal.Value

open Cert.Reference4Ideal Cert.Reference4Ideal.Gen Idealize.ShloMosaic Idealize.ShloMosaic.TcCoe Idealize.SL.Sem
open Cert.Kernel4Ideal.Value (sg val dAt aAt da res7 res8 res9)

abbrev A0 (W : Valuation τ sig (Elt Ideal)) : Vec Ideal S8192x1536 .f32 := W (Proc.devRef .tc main_arg0)
abbrev A1 (W : Valuation τ sig (Elt Ideal)) : Vec Ideal S1x31x512 .f32 := W (Proc.devRef .tc main_arg1)
abbrev A2 (W : Valuation τ sig (Elt Ideal)) : Vec Ideal S8192x512 .f32 := W (Proc.devRef .tc main_arg2)

variable (W : Valuation τ sig (Elt Ideal))

theorem v0 (r : Fin 8192) (l : Fin 512) : res_main_v0 W (ix2 r l) = val (A0 W) r l := by
  unfold res_main_v0; pointwise; rfl

theorem v8 (r : Fin 8192) (l : Fin 512) : res_main_v8 W (ix2 r l) = sg (A0 W) r l := by
  unfold res_main_v8; pointwise; rfl

theorem v236 (s : Fin 2) (n : Fin 4096) (l : Fin 512) : res_main_v236 W (ix3 s n l) = dAt (A2 W) s.val n.val l := by
  unfold res_main_v236; pointwise; exact (dif_pos (c := s.val < 2 ∧ n.val < 4096) ⟨s.isLt, n.isLt⟩ (t := fun _ => A2 W (ix2 ⟨s.val * 4096 + n.val, _⟩ l)) (e := fun _ => 0)).symm

theorem tapRow (k : ℕ) (hk : k < 31) (sl) (sc) (b) (l : Fin 512) (z z' : Fin 1):
    broadcastInDim S1x1x512 ![2] b (shapeCast (s := S1x512) S512 (extractStridedSlice (s := S31x512) S1x512 ![k, 0] (res_main_v2 W) sl) sc) (ix3 z z' l) = A1 W (ix3 0 ⟨k, hk⟩ l) := by
  unfold res_main_v2; pointwise

theorem padRow (o h : ℕ) (ho : o ≤ 30) (pd) (b) (X : Vec Ideal S1x1x512 .f32) (s : Fin 2) (n : ℕ) (hn : n < 4096) (l : Fin 512) :
    pad S2x4126x512 ![0, o, 0] ![0, h, 0] ![0, 0, 0] (mulf (s := S2x4096x512) (res_main_v236 W) (broadcastInDim S2x4096x512 ![0, 1, 2] b X))
      (constant S_ .f32 0x00000000#32) pd h_S_ (ix3 s ⟨30 + n, by omega⟩ l) = X (ix3 0 0 l) * dAt (A2 W) s.val (n + (30 - o)) l := by
  pointwise
  split
  · next hp =>
    rw [v236, mul_comm]
    exact congrArg (fun q => X (ix3 0 0 l) * dAt (A2 W) s.val q l) (by show 30 + n - o = n + (30 - o); omega)
  · next hp =>
    unfold dAt
    rw [dif_neg, mul_zero]
    omega

theorem v15 (s : Fin 2) (n : Fin 4126) (l : Fin 512) : res_main_v15 W (ix3 s n l) = aAt (A0 W) s.val (n.val + 2) l := by
  unfold res_main_v15
  pointwise
  have hn := n.isLt
  have hs := s.isLt
  unfold aAt
  split
  · rw [dif_neg (by omega)]
  · rw [v0, v8, dif_pos ⟨by omega, by omega, by omega⟩]
    rfl

/-- The sum over all rows of a slice of the argument times the cotangent. -/
def corr (k : ℕ) (l : Fin 512) : EReal := ∑ s : Fin 2, ∑ n : Fin 4096, aAt (A0 W) s.val (n.val + k + 2) l * dAt (A2 W) s.val n.val l

theorem slice (k : ℕ) (sl) (s : Fin 2) (n : Fin 4096) (l : Fin 512) :
    extractStridedSlice S2x4096x512 ![0, k, 0] (res_main_v15 W) sl (ix3 s n l) = aAt (A0 W) s.val (n.val + k + 2) l := by
  pointwise
  rw [v15]
  exact congrArg (fun q => aAt (A0 W) s.val q l) (by show k + n.val + 2 = n.val + k + 2; omega)

/-- The host's sum over the two leading axes of three. -/
theorem sum_leading {a b n : ℕ} (h : (⟨3, ![a, b, n]⟩ : Shape).ReducesTo [0, 1] ⟨1, ![n]⟩) (x : (⟨3, ![a, b, n]⟩ : Shape).Idx → EReal) (l : Fin n) :
    Ideal.hostReduceAdd h x 0 (ix1 l) = ∑ s : Fin a, ∑ r : Fin b, x (ix3 s r l) := by
  refine (zero_add _).trans ((Finset.sum_filter_eq_sum_of_fiber _ (fun k : Fin a × Fin b => ix3 k.1 k.2 l)
    (fun _ _ e => Prod.ext (congrFun e 0) (congrFun e 1)) (fun i => ⟨fun e => ⟨(i 0, i 1), ?_⟩, ?_⟩) x).trans ?_)
  · have e2 : i 2 = l := Fin.ext (congrArg Fin.val (congrFun e 0))
    subst e2; funext q; fin_cases q <;> rfl
  · rintro ⟨k, rfl⟩; funext q; fin_cases q; rfl
  · simp only [Fintype.sum_prod_type]

theorem sumAll (k : ℕ) (sl) (r : S2x4096x512.ReducesTo [0, 1] S512) (r' : S1x1x512.ReducesTo [0, 1] S512) (sc) (z : Fin 1) (l : Fin 512) :
    broadcastInDim (s := S512) S1x512 ![1] bcast_S512_S1x512_1 (Host.reduceAdd (shapeCast (s := S512) S1x1x512 (Host.reduceAdd
        (mulf (extractStridedSlice (s := S2x4126x512) S2x4096x512 ![0, k, 0] (res_main_v15 W) sl) (res_main_v236 W)) (constant (F := Ideal) S_ .f32 0x00000000#32) r h_S_) sc)
      (constant (F := Ideal) S_ .f32 0x00000000#32) r' h_S_) (ix2 z l) = corr W k l := by
  pointwise
  refine (sum_leading r' _ l).trans ?_
  rw [Fin.sum_univ_one, Fin.sum_univ_one]
  pointwise
  refine (sum_leading r _ l).trans (Finset.sum_congr rfl fun s _ => Finset.sum_congr rfl fun n _ => ?_)
  exact congrArg₂ (· * ·) (slice W k sl s n l) (v236 W s n l)

theorem oneRow (k h : ℕ) (pd) (X : Vec Ideal S1x512 .f32) (q : Fin 31) (l : Fin 512) :
    pad S31x512 ![k, 0] ![h, 0] ![0, 0] X (constant (F := Ideal) S_ .f32 0x00000000#32) pd h_S_ (ix2 q l) = if q.val = k then X (ix2 0 l) else 0 := by
  pointwise
  by_cases e : q.val = k
  · rw [dif_pos (by omega), if_pos e]
    exact congrArg X (congrArg (ix2 · l) (Subsingleton.elim _ _))
  · rw [dif_neg (by omega), if_neg e]

theorem plus (x y : FVec Ideal S2x4126x512 .f32) (j : S2x4126x512.Idx) {a b : EReal} (hx : x j = a) (hy : y j = b) : addf x y j = a + b := by
  rw [← hx, ← hy]; rfl

theorem plus' (x y : FVec Ideal S31x512 .f32) (j : S31x512.Idx) {a b : EReal} (hx : x j = a) (hy : y j = b) : addf x y j = a + b := by
  rw [← hx, ← hy]; rfl

set_option maxHeartbeats 2000000 in
theorem v575 (s : Fin 2) (n : ℕ) (hn : n < 4096) (l : Fin 512) : res_main_v575 W (ix3 s ⟨30 + n, by omega⟩ l)
    = ∑ k ∈ Finset.range 31, (if h : 30 - k < 31 then A1 W (ix3 0 ⟨30 - k, h⟩ l) else 0) * dAt (A2 W) s.val (n + (30 - (30 - k))) l := by
  simp only [Finset.sum_range_succ, Finset.sum_range_zero, zero_add, Nat.reduceSub, Nat.reduceLT, dite_true]
  unfold res_main_v575 res_main_v410
  repeat refine plus _ _ _ ?_ ((padRow W _ _ (by decide) _ _ _ s n hn l).trans (congrArg (· * dAt (A2 W) s.val _ l) (tapRow W _ (by decide) _ _ _ l 0 0)))
  exact (padRow W _ _ (by decide) _ _ _ s n hn l).trans (congrArg (· * dAt (A2 W) s.val _ l) (tapRow W _ (by decide) _ _ _ l 0 0))

set_option maxHeartbeats 2000000 in
theorem v562 (q : Fin 31) (l : Fin 512) : res_main_v562 W (ix2 q l)
    = ∑ k ∈ Finset.range 30, if q.val = 30 - k then corr W (30 - k) l else 0 := by
  simp only [Finset.sum_range_succ, Finset.sum_range_zero, zero_add, Nat.reduceSub]
  unfold res_main_v562 res_main_v452 res_main_v342
  repeat refine plus' _ _ _ ?_ ((oneRow _ _ _ _ q l).trans (congrArg (fun x : EReal => if q.val = _ then x else 0) (sumAll W _ _ _ _ _ 0 l)))
  exact (oneRow _ _ _ _ q l).trans (congrArg (fun x : EReal => if q.val = _ then x else 0) (sumAll W _ _ _ _ _ 0 l))

theorem v578 (r : Fin 8192) (l : Fin 512) : res_main_v578 W (ix2 r l) = da (A1 W) (A2 W) r l := by
  unfold res_main_v578
  pointwise
  refine (v575 W _ _ (Nat.mod_lt _ (by decide)) l).trans ?_
  unfold da
  refine (Finset.sum_range_reflect (fun k => (if h : k < 31 then A1 W (ix3 0 ⟨k, h⟩ l) else 0) * dAt (A2 W) (r.val / 4096) (r.val % 4096 + (30 - k)) l) 31).trans ?_
  rw [Finset.sum_range]
  exact Finset.sum_congr rfl fun k _ => congrArg (· * _) (dif_pos k.isLt)

/-- One tap's gradient picked out of the 31 rows. -/
theorem pick (q : Fin 31) (l : Fin 512) :
    (∑ k ∈ Finset.range 30, if q.val = 30 - k then corr W (30 - k) l else 0) + (if q.val = 0 then corr W 0 l else 0) = corr W q.val l := by
  have hq := q.isLt
  rw [show (if q.val = 0 then corr W 0 l else 0) = if q.val = 30 - 30 then corr W (30 - 30) l else 0 from rfl, ← Finset.sum_range_succ,
    Finset.sum_eq_single (30 - q.val), if_pos (by omega), show 30 - (30 - q.val) = q.val by omega]
  · intro b hb hne
    rw [Finset.mem_range] at hb
    exact if_neg (by omega)
  · intro h
    exact absurd (Finset.mem_range.2 (by omega)) h

theorem corr_eq (q : ℕ) (l : Fin 512) :
    corr W q l = ∑ r : Fin 8192, aAt (A0 W) (r.val / 4096) (r.val % 4096 + 2 + q) l * A2 W (ix2 r l) := by
  unfold corr
  refine Fin.sum_mul_add_congr fun s n hl => ?_
  have hs := s.isLt
  have hn := n.isLt
  refine congrArg₂ (· * ·) (congrArg₂ (aAt (A0 W) · · l) ?_ ?_) (dif_pos (c := s.val < 2 ∧ n.val < 4096) ⟨hs, hn⟩)
  · show s.val = (s.val * 4096 + n.val) / 4096
    omega
  · show n.val + q + 2 = (s.val * 4096 + n.val) % 4096 + 2 + q
    omega

/-- The taps' gradient with a row of zeros below. -/
theorem bottom (X : FVec Ideal S31x512 .f32) (pd) (q : Fin 32) (l : Fin 512) :
    pad S32x512 ![0, 0] ![1, 0] ![0, 0] X (sitofp .f32 (constantI S_ 32 0#32)) pd h_S_ (ix2 q l)
      = if h : q.val < 31 then X (ix2 ⟨q.val, h⟩ l) else (0 : EReal) := by
  pointwise
  by_cases h : q.val < 31
  · rw [dif_pos (by omega), dif_pos h]
  · rw [dif_neg (by omega), dif_neg h]
    show (((0#32 : BitVec 32).toInt : ℝ) : EReal) = 0
    norm_num

/-- What the reference's run leaves in its three results. -/
theorem run_holds (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v580)
        = res7 (m ((c : Thread nD τ).loc main_arg0)) (m ((c : Thread nD τ).loc main_arg1)) (m ((c : Thread nD τ).loc main_arg2))
      ∧ r.2.mem ((c : Thread nD τ).loc main_v581)
        = res8 (m ((c : Thread nD τ).loc main_arg0)) (m ((c : Thread nD τ).loc main_arg1)) (m ((c : Thread nD τ).loc main_arg2))
      ∧ r.2.mem ((c : Thread nD τ).loc main_v582) = res9 (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun r h c => by
    obtain ⟨h7, h8, h9, hk⟩ := h c
    refine ⟨h7.trans ?_, h8.trans ?_, h9.trans ?_, hk⟩
    · funext j
      idx_vars j
      exact congrArg₂ (· * ·) (v578 _ j0 j1) (v8 _ j0 j1)
    · funext j
      idx_vars j
      clean_types
      pointwise
      rw [v578, v0, v8]
      exact (congrArg (· * _) (mul_comm _ _)).trans (mul_assoc _ _ _).symm
    · funext j
      idx_vars j
      refine (bottom _ _ j0 j1).trans ?_
      unfold res9
      by_cases h : j0.val < 31
      · refine (dif_pos h).trans (Eq.trans ?_ (if_pos h).symm)
        refine (plus' _ _ _ (v562 _ ⟨j0.val, h⟩ j1) ((oneRow _ _ _ _ _ j1).trans
          (congrArg (fun x : EReal => if j0.val = _ then x else 0) (sumAll _ 0 _ _ _ _ 0 j1)))).trans ?_
        exact (pick _ ⟨j0.val, h⟩ j1).trans (corr_eq _ j0.val j1)
      · exact (dif_neg h).trans (if_neg h).symm) (run m ρ)

end Cert.Reference4Ideal.Value

end
-- ==== Proof.TapsClaim.lean ====
module

public import proofs.«01_k».proof.Defs
public import proofs.«01_k».proof.Proof.TapsFinal
public import proofs.«01_k».proof.Proof.TapsRef

/-! The two programs of the convolution's gradient at its argument and its taps leave equal arrays. -/

@[expose] public section

noncomputable section

namespace Cert.Taps

open Idealize.ShloMosaic Idealize.ShloMosaic.TcCoe Idealize.SL.Sem

theorem frame : quiescent_Reference4Ideal := fun m g _ =>
  (θ_run _ _ _).mono (fun r h => ⟨fun c => (h c).2.2.2, sem_eq_zero_of_no_sems (by decide) r.2⟩) (Reference4Ideal.Value.run_holds m g)

theorem algebraic : algebraic_Kernel4Ideal_Reference4Ideal := by
  intro m g m' g' _ hm
  refine ⟨fun c => (Kernel4Ideal.Gen.dats m 0 c).arrAt 7 _, fun c => (Kernel4Ideal.Gen.dats m 0 c).arrAt 8 _,
    fun c => (Kernel4Ideal.Gen.dats m 0 c).arrAt 9 _, Kernel4Ideal.Value.run_blocks m g, ?_⟩
  refine (θ_run _ _ _).mono (fun r h c => ?_) (Reference4Ideal.Value.run_holds m' g')
  obtain ⟨h7, h8, h9, hk⟩ := h c
  obtain ⟨a0, a1, a2⟩ := hm c
  rw [a0, a1, a2] at h7 h8
  rw [a0, a2] at h9
  exact ⟨h7.trans (Kernel4Ideal.Value.final7 m c).symm, h8.trans (Kernel4Ideal.Value.final8 m c).symm,
    h9.trans (Kernel4Ideal.Value.final9 m c).symm, hk⟩

end Cert.Taps

end
-- ==== Proof.Ln.lean ====
module

public import proofs.«01_k».proof.Proof.Rms

/-! The gradients of a layer norm's row and of the silu, in the two forms the programs write them: by hand, and by the chain rule. -/

@[expose] public section

noncomputable section

namespace Cert.Ln

open Idealize.ShloMosaic Cert.Scalar Cert.Rms

variable {n : ℕ}

/-- The silu's slope by hand, and by the chain rule: equal at a real cotangent, whatever the argument. -/
theorem silu_eq (d : ℝ) (x : EReal) :
    (d : EReal) * (Ideal.logistic x * (1 + x * (1 - Ideal.logistic x)))
      = (d : EReal) * Ideal.logistic x + (x * (d : EReal)) * (Ideal.logistic x * (1 - Ideal.logistic x)) := by
  induction x using EReal.rec with
  | bot => simp
  | coe r => rw [Ideal.logistic_coe]; norm_cast; ring
  | top =>
    have e : (1 : EReal) - 1 = 0 := by rw [← EReal.coe_one, ← EReal.coe_sub, sub_self, EReal.coe_zero]
    rw [Ideal.logistic_top, e]; simp

/-- The silu's slope is real. -/
theorem silu_real (x : EReal) : ∃ a : ℝ, Ideal.logistic x * (1 + x * (1 - Ideal.logistic x)) = (a : EReal) := by
  induction x using EReal.rec with
  | bot => exact ⟨0, by simp⟩
  | coe r => rw [Ideal.logistic_coe]; exact ⟨_, by norm_cast⟩
  | top =>
    have e : (1 : EReal) - 1 = 0 := by rw [← EReal.coe_one, ← EReal.coe_sub, sub_self, EReal.coe_zero]
    exact ⟨1, by rw [Ideal.logistic_top, e]; simp⟩

theorem inv_real (N : ℝ) (hN : 0 < N) (x : Fin n → EReal) : (∃ (y : Fin n → ℝ) (q : ℝ), (∀ k, x k = y k) ∧ inv (N : EReal) x = (q : EReal))
    ∨ inv (N : EReal) x = 0 := by
  rcases msq_cases N hN x with ⟨y, s, hy, hs, e⟩ | e
  · exact .inl ⟨y, _, hy, by rw [Rms.inv, e, Ideal.rsqrt_coe, if_neg hs.not_gt, if_neg hs.ne']⟩
  · exact .inr (by rw [Rms.inv, e]; rfl)

/-- The norm's gradient is real at a real cotangent, whatever the row. -/
theorem gradK_real (N : ℝ) (hN : 0 < N) (x : Fin n → EReal) (w : Fin n → ℝ) (l : Fin n) :
    ∃ d : ℝ, gradK (N : EReal) x (fun k => (w k : EReal)) l = (d : EReal) := by
  unfold gradK
  rcases inv_real N hN x with ⟨y, q, hy, e⟩ | e
  · rw [e, Ideal.div_coe hN.ne']
    simp only [hy, ← EReal.coe_mul, ← coe_sum, ← EReal.coe_sub]
    exact ⟨_, rfl⟩
  · exact ⟨0, by rw [e]; simp⟩

/-- A row less its mean. -/
def cen (N : EReal) (x : Fin n → EReal) (l : Fin n) : EReal := x l - Ideal.div (∑ k, x k) N

/-- The normalised row. -/
def unit (N : EReal) (x : Fin n → EReal) (l : Fin n) : EReal := cen N x l * inv N (cen N x)

/-- The gradient at the row, by hand, `w` being the cotangent of the normalised row. -/
def dcK (N : EReal) (x w : Fin n → EReal) (l : Fin n) : EReal :=
  inv N (cen N x) * (w l - Ideal.div (∑ k, w k) N - unit N x l * Ideal.div (∑ k, w k * unit N x k) N)

/-- The gradient at the row by the chain rule: through the centred row, then through the mean. -/
def dcR (N : EReal) (x w : Fin n → EReal) (l : Fin n) : EReal :=
  gradR N (cen N x) w l + ∑ _k : Fin 1, Ideal.div (∑ k, -gradR N (cen N x) w k) N

/-- A row whose centred form is real is real itself, and then the centred row adds up to zero. -/
theorem sum_cen (h : (n : ℝ) ≠ 0) (x : Fin n → EReal) (y : Fin n → ℝ) (hy : ∀ k, cen ((n : ℝ) : EReal) x k = y k) : ∑ k, y k = 0 := by
  unfold cen at hy
  have hM : ∀ k, ∃ z u : ℝ, x k = z ∧ Ideal.div (∑ k, x k) ((n : ℝ) : EReal) = u := fun k => by
    have e := hy k
    generalize Ideal.div (∑ k, x k) ((n : ℝ) : EReal) = M at e
    induction M using EReal.rec with
    | bot => generalize x k = a at e ⊢; induction a using EReal.rec <;> simp [sub_eq_add_neg] at e
    | coe u =>
      generalize x k = a at e ⊢
      induction a using EReal.rec with
      | bot => simp at e
      | coe z => exact ⟨z, u, rfl, rfl⟩
      | top => simp at e
    | top => generalize x k = a at e ⊢; induction a using EReal.rec <;> simp [sub_eq_add_neg] at e
  choose z u hz hu using hM
  have hz' : x = fun k => (z k : EReal) := funext hz
  have hy' : ∀ k, y k = z k - (∑ k, z k) * (1 / n) := fun k => by
    have e := hy k
    rw [hz', Ideal.div_coe h, ← coe_sum, ← EReal.coe_mul, ← EReal.coe_sub] at e
    exact_mod_cast e.symm
  rw [Finset.sum_congr rfl fun k _ => hy' k, Finset.sum_sub_distrib, Finset.sum_const, Finset.card_univ, Fintype.card_fin, nsmul_eq_mul]
  field_simp
  ring

/-- The two forms agree at a real cotangent. -/
theorem dc_eq (hN : 0 < (n : ℝ)) (x : Fin n → EReal) (w : Fin n → ℝ) (l : Fin n) :
    dcK ((n : ℝ) : EReal) x (fun k => (w k : EReal)) l = dcR ((n : ℝ) : EReal) x (fun k => (w k : EReal)) l := by
  unfold dcK dcR unit
  simp only [← gradK_eq _ hN, Fin.sum_univ_one]
  unfold gradK
  rcases inv_real (n : ℝ) hN (cen ((n : ℝ) : EReal) x) with ⟨y, q, hy, e⟩ | e
  · have h0 := sum_cen hN.ne' x y hy
    rw [e]
    simp only [hy, Ideal.div_coe hN.ne', ← EReal.coe_mul, ← coe_sum, ← EReal.coe_sub, ← EReal.coe_neg, ← EReal.coe_add]
    norm_cast
    have h1 : ∀ a : ℝ, ∑ k, y k * a = 0 := fun a => by rw [← Finset.sum_mul, h0, zero_mul]
    have h2 : ∑ k, w k * (y k * q) = q * ∑ k, y k * w k := by rw [Finset.mul_sum]; exact Finset.sum_congr rfl fun k _ => by ring
    have h3 : ∑ k, -(q * w k - y k * (q * q * q) * ((∑ k, y k * w k) * (1 / n))) = -(q * ∑ k, w k) := by
      rw [Finset.sum_neg_distrib, Finset.sum_sub_distrib, ← Finset.mul_sum, ← Finset.sum_mul, h1, zero_mul, sub_zero]
    rw [h2, h3]
    ring
  · rw [e]
    have hz : Ideal.div (0 : EReal) ((n : ℝ) : EReal) = 0 := by rw [Ideal.div_coe hN.ne', zero_mul]
    simp only [zero_mul, mul_zero, sub_zero, neg_zero, Finset.sum_const_zero, hz, add_zero]

end Cert.Ln

end
-- ==== Proof.Rows.lean ====
module

public import proofs.«01_k».proof.Proof.Ln
public import proofs.«01_k».proof.Proof.Gen.Kernel3Ideal.Value
public import Idealize.ShloMosaic.Lib.Pipeline.ValueKit
public import Idealize.ShloMosaic.Lib.Tactic.CleanTypes

/-! The gradient of the convolution branch's norms: what the two programs' arrays hold after the run. -/

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1140850688#32

section Spec

variable (c0 : Vec Ideal S8192x512 .f32) (cb lg lb og : Vec Ideal S1x512 .f32) (dm : Vec Ideal S8192x1024 .f32)

/-- The convolution's rows plus the bias. -/
def pre (r : Fin 8192) (l : Fin 512) : EReal := c0 (ix2 r l) + cb (ix2 0 l)

/-- The layer norm's rows. -/
def normed (r : Fin 8192) (l : Fin 512) : EReal := Ln.unit wide (pre c0 cb r) l * lg (ix2 0 l) + lb (ix2 0 l)

/-- The silu's rows, which the second norm takes. -/
def act (r : Fin 8192) (l : Fin 512) : EReal := normed c0 cb lg lb r l * Ideal.logistic (normed c0 cb lg lb r l)

/-- The cotangent: the left half of the mixed rows. -/
def ct (r : Fin 8192) (l : Fin 512) : EReal := dm (ix2 r ⟨l.val, by omega⟩)

/-- The cotangent times the norm's factor. -/
def scaled (r : Fin 8192) (l : Fin 512) : EReal := ct dm r l * og (ix2 0 l)

/-- The gradient at the layer norm's rows. -/
def dnormed (r : Fin 8192) (l : Fin 512) : EReal :=
  Rms.gradK wide (act c0 cb lg lb r) (scaled og dm r) l * (Ideal.logistic (normed c0 cb lg lb r l)
    * (1 + normed c0 cb lg lb r l * (1 - Ideal.logistic (normed c0 cb lg lb r l))))

/-- The gradient at the rows the layer norm takes. -/
def dpre (r : Fin 8192) (l : Fin 512) : EReal :=
  Ln.dcK wide (pre c0 cb r) (fun k => dnormed c0 cb lg lb og dm r k * lg (ix2 0 k)) l

/-- The five results, from the gradients `d` at the layer norm's rows and `e` at the rows it takes. -/
def res5 (e : Fin 8192 → Fin 512 → EReal) : Vec Ideal S8192x512 .f32 := fun j => e (j 0) (j 1)
def res6 : Vec Ideal S1x512 .f32 := fun j => ∑ r : Fin 8192, ct dm r (j 1) * act c0 cb lg lb r (j 1) * Rms.inv wide (act c0 cb lg lb r)
def res7 (d : Fin 8192 → Fin 512 → EReal) : Vec Ideal S1x512 .f32 := fun j => ∑ r : Fin 8192, d r (j 1) * Ln.unit wide (pre c0 cb r) (j 1)
def res8 (d : Fin 8192 → Fin 512 → EReal) : Vec Ideal S1x512 .f32 := fun j => ∑ r : Fin 8192, d r (j 1)

end Spec

abbrev A0 (c : Dev nD) : Vec Ideal S8192x512 .f32 := m ((c : Thread nD τ).loc main_arg0)
abbrev A1 (c : Dev nD) : Vec Ideal S1x512 .f32 := m ((c : Thread nD τ).loc main_arg1)
abbrev A2 (c : Dev nD) : Vec Ideal S1x512 .f32 := m ((c : Thread nD τ).loc main_arg2)
abbrev A3 (c : Dev nD) : Vec Ideal S1x512 .f32 := m ((c : Thread nD τ).loc main_arg3)
abbrev A4 (c : Dev nD) : Vec Ideal S1x512 .f32 := m ((c : Thread nD τ).loc main_arg4)
abbrev A5 (c : Dev nD) : Vec Ideal S8192x1024 .f32 := m ((c : Thread nD τ).loc main_arg5)

/-- Row `r` of tile `t`. -/
abbrev row (t : Fin cfg0.N) (r : Fin 1024) : Fin 8192 := ⟨t.val * 1024 + r.val, by have : t.val < 8 := t.isLt; omega⟩

theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![0, 0] ∧ win0_9.index t = ![0, 0] := (by decide +kernel : ∀ t : Fin grid0.N, _)

theorem emb1 (t : Fin cfg0.N) (r : Fin 1024) (l : Fin 512) :
    ((View.whole main_v1).slice (win0_1.rect t)).emb (ix2 r l) = ix2 (row t r) l := by blk_ext [idx_val t]

theorem emb5 (t : Fin cfg0.N) (r : Fin 1024) (l : Fin 512) :
    ((View.whole main_v2_0).slice (win0_5.rect t)).emb (ix2 r l) = ix2 (row t r) l := by blk_ext [idx_val t]

theorem blk0 (c : Dev nD) (t : Fin cfg0.N) (r : Fin 1024) (l : Fin 512) : iblk m c 0 t (ix2 r l) = ct (A5 m c) (row t r) l := by
  unfold ct; blk_point [iblk, V, idx_val t]

theorem blk1 (c : Dev nD) (t : Fin cfg0.N) (r : Fin 1024) (l : Fin 512) : iblk m c 1 t (ix2 r l) = pre (A0 m c) (A1 m c) (row t r) l := by
  blk_simp [iblk, idx_val t]
  entry_read
  rw [emb1]
  pointwise
  rfl

theorem blk2 (c : Dev nD) (t : Fin cfg0.N) (r : Fin 1) (l : Fin 512) : iblk m c 2 t (ix2 r l) = A2 m c (ix2 0 l) := by
  blk_point [iblk, V, idx_val t]

theorem blk3 (c : Dev nD) (t : Fin cfg0.N) (r : Fin 1) (l : Fin 512) : iblk m c 3 t (ix2 r l) = A3 m c (ix2 0 l) := by
  blk_point [iblk, V, idx_val t]

theorem blk4 (c : Dev nD) (t : Fin cfg0.N) (r : Fin 1) (l : Fin 512) : iblk m c 4 t (ix2 r l) = A4 m c (ix2 0 l) := by
  blk_point [iblk, V, idx_val t]

section Tile

variable (c : Dev nD) (t : Fin cfg0.N)

theorem pay8 (r : Fin 1024) (l : Fin 512) : k0_pay8 (iblk m c 1 t) (ix2 r l) = Ln.cen wide (pre (A0 m c) (A1 m c) (row t r)) l := by
  pointwise [k0_pay8]; simp only [blk1]; rfl

theorem pay9 (r : Fin 1024) (l : Fin 1) : k0_pay9 (iblk m c 1 t) (ix2 r l) = Rms.inv wide (Ln.cen wide (pre (A0 m c) (A1 m c) (row t r))) := by
  pointwise [k0_pay9]; simp only [pay8]; rfl

theorem pay10 (r : Fin 1024) (l : Fin 512) : k0_pay10 (iblk m c 1 t) (ix2 r l) = Ln.unit wide (pre (A0 m c) (A1 m c) (row t r)) l := by
  pointwise [k0_pay10]; rw [pay8, pay9]; rfl

theorem pay11 (r : Fin 1024) (l : Fin 512) :
    k0_pay11 (iblk m c 1 t) (iblk m c 2 t) (iblk m c 3 t) (ix2 r l) = normed (A0 m c) (A1 m c) (A2 m c) (A3 m c) (row t r) l := by
  pointwise [k0_pay11]; rw [pay10, blk2, blk3]; rfl

theorem pay12 (r : Fin 1024) (l : Fin 512) :
    k0_pay12 (iblk m c 1 t) (iblk m c 2 t) (iblk m c 3 t) (ix2 r l) = Ideal.logistic (normed (A0 m c) (A1 m c) (A2 m c) (A3 m c) (row t r) l) := by
  pointwise [k0_pay12]; rw [pay11]

theorem pay13 (r : Fin 1024) (l : Fin 512) :
    k0_pay13 (iblk m c 1 t) (iblk m c 2 t) (iblk m c 3 t) (ix2 r l) = act (A0 m c) (A1 m c) (A2 m c) (A3 m c) (row t r) l := by
  pointwise [k0_pay13]; rw [pay11, pay12]; rfl

theorem pay15 (r : Fin 1024) (l : Fin 1) :
    k0_pay15 (k0_pay14 (iblk m c 1 t) (iblk m c 2 t) (iblk m c 3 t)) (ix2 r l) = Rms.inv wide (act (A0 m c) (A1 m c) (A2 m c) (A3 m c) (row t r)) := by
  pointwise [k0_pay15, k0_pay14]; simp only [pay13]; rfl

/-- The gradient at the layer norm's rows. -/
abbrev D : Fin 8192 → Fin 512 → EReal := dnormed (A0 m c) (A1 m c) (A2 m c) (A3 m c) (A4 m c) (A5 m c)

/-- The gradient at the rows the layer norm takes. -/
abbrev E : Fin 8192 → Fin 512 → EReal := dpre (A0 m c) (A1 m c) (A2 m c) (A3 m c) (A4 m c) (A5 m c)

theorem pay17 (r : Fin 1024) (l : Fin 512) : (k0_pay17 (iblk m c 0 t) (iblk m c 4 t) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t)) (k0_pay14 (iblk m c 1 t) (iblk m c 2 t) (iblk m c 3 t))) (ix2 r l) = D m c (row t r) l := by
  pointwise [k0_pay17]
  simp only [pay11, pay12, pay13, pay15, blk0, blk4]
  rfl

theorem pay2 (r : Fin 1024) (l : Fin 512) : k0_pay2 (iblk m c 2 t) (k0_pay9 (iblk m c 1 t)) (k0_pay10 (iblk m c 1 t))
      (k0_pay17 (iblk m c 0 t) (iblk m c 4 t) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t)) (k0_pay14 (iblk m c 1 t) (iblk m c 2 t) (iblk m c 3 t))) (ix2 r l) = E m c (row t r) l := by
  pointwise [k0_pay2]
  simp only [pay17, pay9, pay10, blk2]
  rfl

theorem zero6 (j : S1x512.Idx) : (k0_pay4 (F := Ideal)) j = 0 := by pointwise [k0_pay4]
theorem zero7 (j : S1x512.Idx) : (k0_pay5 (F := Ideal)) j = 0 := by pointwise [k0_pay5]
theorem zero8 (j : S1x512.Idx) : (k0_pay6 (F := Ideal)) j = 0 := by pointwise [k0_pay6]
theorem zero9 (j : S1x512.Idx) : (k0_pay7 (F := Ideal)) j = 0 := by pointwise [k0_pay7]

/-- One tile's parts of the four sums. -/
abbrev part6 (l : Fin 512) : EReal := ∑ k : Fin 1024, ct (A5 m c) (row t k) l * act (A0 m c) (A1 m c) (A2 m c) (A3 m c) (row t k) l
  * Rms.inv wide (act (A0 m c) (A1 m c) (A2 m c) (A3 m c) (row t k))
abbrev part7 (l : Fin 512) : EReal := ∑ k : Fin 1024, D m c (row t k) l * Ln.unit wide (pre (A0 m c) (A1 m c) (row t k)) l
abbrev part8 (l : Fin 512) : EReal := ∑ k : Fin 1024, D m c (row t k) l
abbrev part9 (l : Fin 512) : EReal := ∑ k : Fin 1024, E m c (row t k) l

variable (a : Vec Ideal S1x512 .f32) (r : Fin 1) (l : Fin 512)

theorem step6 : k0_pay16 (iblk m c 0 t) (k0_pay13 (iblk m c 1 t) (iblk m c 2 t) (iblk m c 3 t)) (k0_pay14 (iblk m c 1 t) (iblk m c 2 t) (iblk m c 3 t)) a (ix2 r l) = a (ix2 r l) + part6 m c t l := by
  pointwise [k0_pay16]
  simp only [pay13, pay15, blk0]

theorem step7 : k0_pay18 (iblk m c 0 t) (iblk m c 4 t) (k0_pay10 (iblk m c 1 t)) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t)) (k0_pay14 (iblk m c 1 t) (iblk m c 2 t) (iblk m c 3 t)) a (ix2 r l) = a (ix2 r l) + part7 m c t l := by
  pointwise [k0_pay18]
  simp only [pay17, pay10]

theorem step8 : k0_pay1 (k0_pay17 (iblk m c 0 t) (iblk m c 4 t) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t)) (k0_pay14 (iblk m c 1 t) (iblk m c 2 t) (iblk m c 3 t))) (k0_pay19 a) (ix2 r l) = a (ix2 r l) + part8 m c t l := by
  pointwise [k0_pay1, k0_pay19]
  simp only [pay17]

theorem step9 : k0_pay3 (iblk m c 2 t) (k0_pay9 (iblk m c 1 t)) (k0_pay10 (iblk m c 1 t)) (k0_pay17 (iblk m c 0 t) (iblk m c 4 t) (k0_pay11 (iblk m c 1 t) (iblk m c 2 t) (iblk m c 3 t)) (k0_pay12 (iblk m c 1 t) (iblk m c 2 t) (iblk m c 3 t)) (k0_pay13 (iblk m c 1 t) (iblk m c 2 t) (iblk m c 3 t)) (k0_pay14 (iblk m c 1 t) (iblk m c 2 t) (iblk m c 3 t))) a (ix2 r l) = a (ix2 r l) + part9 m c t l := by
  pointwise [k0_pay3]
  simp only [pay2]

end Tile

theorem final5 (c : Dev nD) : (dats m 0 c).arrAt 5 cfg0.N = res5 (E m c) := by
  refine (dats m 0 c).arrAt_eq_of_covers 5 _ (by decide +kernel) fun t hf y => ?_
  blk_simp
  rw [after0_5]
  by_cases h : t.val % 8 = 0
  · rw [outsAt0_A m c t h]; frame_out; idx_vars y; rw [emb5, pay2]; rfl
  · rw [outsAt0_B m c t h]; frame_out; idx_vars y; rw [emb5, pay2]; rfl

theorem final6 (c : Dev nD) : (dats m 0 c).arrAt 6 cfg0.N = res6 (A0 m c) (A1 m c) (A2 m c) (A3 m c) (A5 m c) := by
  refine (dats m 0 c).arrAt_eq_of_after_last 6 t0_7 (by decide +kernel) _ fun j => ?_
  blk_simp
  rw [after0_6]
  idx_vars j
  rw [Pipeline.eq_sum_fin_of_reset_step_apply_last (fun n h => (outsAt0 m c n h).2.1) 8 (fun _ => 0) (fun t j => part6 m c t (j 1))
      (fun t h j => by rw [outsAt0_A m c t h]; frame_out; idx_vars j; rw [step6, zero6])
      (fun t h j => by rw [outsAt0_B m c t h]; frame_out; idx_vars j; rw [step6]) (le_of_eq N_0) t0_7 rfl _, zero_add]
  refine Fin.sum_mul_add_congr fun s k hl => ?_
  rfl

theorem final7 (c : Dev nD) : (dats m 0 c).arrAt 7 cfg0.N = res7 (A0 m c) (A1 m c) (D m c) := by
  refine (dats m 0 c).arrAt_eq_of_after_last 7 t0_7 (by decide +kernel) _ fun j => ?_
  blk_simp
  rw [after0_7]
  idx_vars j
  rw [Pipeline.eq_sum_fin_of_reset_step_apply_last (fun n h => (outsAt0 m c n h).2.2.1) 8 (fun _ => 0) (fun t j => part7 m c t (j 1))
      (fun t h j => by rw [outsAt0_A m c t h]; frame_out; idx_vars j; rw [step7, zero7])
      (fun t h j => by rw [outsAt0_B m c t h]; frame_out; idx_vars j; rw [step7]) (le_of_eq N_0) t0_7 rfl _, zero_add]
  refine Fin.sum_mul_add_congr fun s k hl => ?_
  rfl

theorem final8 (c : Dev nD) : (dats m 0 c).arrAt 8 cfg0.N = res8 (D m c) := by
  refine (dats m 0 c).arrAt_eq_of_after_last 8 t0_7 (by decide +kernel) _ fun j => ?_
  blk_simp
  rw [after0_8]
  idx_vars j
  rw [Pipeline.eq_sum_fin_of_reset_step_apply_last (fun n h => (outsAt0 m c n h).2.2.2.1) 8 (fun _ => 0) (fun t j => part8 m c t (j 1))
      (fun t h j => by rw [outsAt0_A m c t h]; frame_out; idx_vars j; rw [step8, zero8])
      (fun t h j => by rw [outsAt0_B m c t h]; frame_out; idx_vars j; rw [step8]) (le_of_eq N_0) t0_7 rfl _, zero_add]
  refine Fin.sum_mul_add_congr fun s k hl => ?_
  rfl

theorem final9 (c : Dev nD) : (dats m 0 c).arrAt 9 cfg0.N = res8 (E m c) := by
  refine (dats m 0 c).arrAt_eq_of_after_last 9 t0_7 (by decide +kernel) _ fun j => ?_
  blk_simp
  rw [after0_9]
  idx_vars j
  rw [Pipeline.eq_sum_fin_of_reset_step_apply_last (fun n h => (outsAt0 m c n h).2.2.2.2) 8 (fun _ => 0) (fun t j => part9 m c t (j 1))
      (fun t h j => by rw [outsAt0_A m c t h]; frame_out; idx_vars j; rw [step9, zero9])
      (fun t h j => by rw [outsAt0_B m c t h]; frame_out; idx_vars j; rw [step9]) (le_of_eq N_0) t0_7 rfl _, zero_add]
  refine Fin.sum_mul_add_congr fun s k hl => ?_
  rfl

end Cert.Kernel3Ideal.Value

end
-- ==== Proof.RowsRef.lean ====
module

public import proofs.«01_k».proof.Proof.Rows
public import proofs.«01_k».proof.Proof.Gen.Reference3Ideal.Run

/-! The gradient of the convolution branch's norms, as the reference's arrays hold it, element by element. -/

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.Kernel3Ideal.Value (wide pre normed act ct scaled dnormed dpre res5 res6 res7 res8)

section Host

variable (W : Valuation τ sig (Elt Ideal))

abbrev A0 : Vec Ideal S8192x512 .f32 := W (Proc.devRef .tc main_arg0)
abbrev A1 : Vec Ideal S1x512 .f32 := W (Proc.devRef .tc main_arg1)
abbrev A2 : Vec Ideal S1x512 .f32 := W (Proc.devRef .tc main_arg2)
abbrev A3 : Vec Ideal S1x512 .f32 := W (Proc.devRef .tc main_arg3)
abbrev A4 : Vec Ideal S1x512 .f32 := W (Proc.devRef .tc main_arg4)
abbrev A5 : Vec Ideal S8192x1024 .f32 := W (Proc.devRef .tc main_arg5)

variable (r : Fin 8192) (l : Fin 512)

theorem v1 : res_main_v1 W (ix2 r l) = pre (A0 W) (A1 W) r l := by
  unfold res_main_v1; pointwise; rfl

theorem v7 : res_main_v7 W (ix2 r l) = Ln.cen wide (pre (A0 W) (A1 W) r) l := by
  unfold res_main_v7; pointwise; simp only [v1]; rfl

theorem v14 (z : Fin 1) : res_main_v14 W (ix2 r z) = Rms.msq wide (Ln.cen wide (pre (A0 W) (A1 W) r)) := by
  unfold res_main_v14; pointwise; simp only [v7]; rfl

theorem v15 (z : Fin 1) : res_main_v15 W (ix2 r z) = Rms.inv wide (Ln.cen wide (pre (A0 W) (A1 W) r)) := by
  unfold res_main_v15; pointwise; rw [v14]; rfl

theorem v20 : res_main_v20 W (ix2 r l) = Ln.unit wide (pre (A0 W) (A1 W) r) l := by
  unfold res_main_v20; pointwise; rw [v7, v15]; rfl

theorem v24 : res_main_v24 W (ix2 r l) = normed (A0 W) (A1 W) (A2 W) (A3 W) r l := by
  unfold res_main_v24; pointwise; rw [v20]; rfl

theorem v25_2 : res_main_v25_2 W (ix2 r l) = Ideal.logistic (normed (A0 W) (A1 W) (A2 W) (A3 W) r l) := by
  unfold res_main_v25_2; pointwise; rw [v24]; rfl

theorem v25_0 : res_main_v25_0 W (ix2 r l) = act (A0 W) (A1 W) (A2 W) (A3 W) r l := by
  unfold res_main_v25_0; pointwise; rw [v24, v25_2]; rfl

theorem v32 (z : Fin 1) : res_main_v32 W (ix2 r z) = Rms.msq wide (act (A0 W) (A1 W) (A2 W) (A3 W) r) := by
  unfold res_main_v32; pointwise; simp only [v25_0]; rfl

theorem v33 (z : Fin 1) : res_main_v33 W (ix2 r z) = Rms.inv wide (act (A0 W) (A1 W) (A2 W) (A3 W) r) := by
  unfold res_main_v33; pointwise; rw [v32]; rfl

theorem v38 : res_main_v38 W (ix2 r l) = act (A0 W) (A1 W) (A2 W) (A3 W) r l * Rms.inv wide (act (A0 W) (A1 W) (A2 W) (A3 W) r) := by
  unfold res_main_v38; pointwise; rw [v25_0, v33]

theorem v41 : res_main_v41 W (ix2 r l) = ct (A5 W) r l := by
  unfold res_main_v41; pointwise; rfl

theorem v46 : res_main_v46 W (ix2 r l) = scaled (A4 W) (A5 W) r l := by
  unfold res_main_v46; pointwise; rw [v41]; rfl

theorem v56 : res_main_v56 W (ix2 r l) = ∑ _k : Fin 1, Rms.dmsq wide (act (A0 W) (A1 W) (A2 W) (A3 W) r) (scaled (A4 W) (A5 W) r) := by
  unfold res_main_v56; pointwise; simp only [v25_0, v46, v33, v32]; rfl

/-- The gradient at the silu's rows, by the chain rule. -/
theorem v60 : res_main_v60 W (ix2 r l) = Rms.gradR wide (act (A0 W) (A1 W) (A2 W) (A3 W) r) (scaled (A4 W) (A5 W) r) l := by
  unfold res_main_v60; pointwise; rw [v46, v33, v25_0, v56]; rfl

/-- The gradient at the layer norm's rows, by the chain rule. -/
abbrev D : Fin 8192 → Fin 512 → EReal := fun r l =>
  Rms.gradR wide (act (A0 W) (A1 W) (A2 W) (A3 W) r) (scaled (A4 W) (A5 W) r) l * Ideal.logistic (normed (A0 W) (A1 W) (A2 W) (A3 W) r l)
    + normed (A0 W) (A1 W) (A2 W) (A3 W) r l * Rms.gradR wide (act (A0 W) (A1 W) (A2 W) (A3 W) r) (scaled (A4 W) (A5 W) r) l
      * (Ideal.logistic (normed (A0 W) (A1 W) (A2 W) (A3 W) r l) * (1 - Ideal.logistic (normed (A0 W) (A1 W) (A2 W) (A3 W) r l)))

theorem v61 : res_main_v61 W (ix2 r l) = D W r l := by
  unfold res_main_v61; pointwise; rw [v60, v25_2, v24]

theorem v68 : res_main_v68 W (ix2 r l) = D W r l * A2 W (ix2 0 l) := by
  unfold res_main_v68; pointwise; rw [v61]

theorem v78 : res_main_v78 W (ix2 r l) = ∑ _k : Fin 1, Rms.dmsq wide (Ln.cen wide (pre (A0 W) (A1 W) r)) (fun k => D W r k * A2 W (ix2 0 k)) := by
  unfold res_main_v78; pointwise; simp only [v7, v68, v15, v14]; rfl

theorem v82 : res_main_v82 W (ix2 r l) = Rms.gradR wide (Ln.cen wide (pre (A0 W) (A1 W) r)) (fun k => D W r k * A2 W (ix2 0 k)) l := by
  unfold res_main_v82; pointwise; rw [v68, v15, v7, v78]; rfl

/-- The gradient at the rows the layer norm takes, by the chain rule. -/
abbrev E : Fin 8192 → Fin 512 → EReal := fun r => Ln.dcR wide (pre (A0 W) (A1 W) r) (fun k => D W r k * A2 W (ix2 0 k))

end Host

variable (m : (ℓ : Loc nD τ sig) → Buf (Elt Ideal) ℓ)

/-- What the reference's run leaves in its five results. -/
theorem run_holds (ρ : Dev nD → PrngReg) : θ_run defs (onTc (τ := τ) (main (F := Ideal))) ⟨m, fun _ => 0, ρ⟩ fun r => ∀ c : Dev nD,
    r.2.mem ((c : Thread nD τ).loc main_v90) = res5 (E (StableHlo.launchContents m c))
    ∧ r.2.mem ((c : Thread nD τ).loc main_v44) = res6 (m ((c : Thread nD τ).loc main_arg0)) (m ((c : Thread nD τ).loc main_arg1))
        (m ((c : Thread nD τ).loc main_arg2)) (m ((c : Thread nD τ).loc main_arg3)) (m ((c : Thread nD τ).loc main_arg5))
    ∧ r.2.mem ((c : Thread nD τ).loc main_v66) = res7 (m ((c : Thread nD τ).loc main_arg0)) (m ((c : Thread nD τ).loc main_arg1))
        (D (StableHlo.launchContents m c))
    ∧ r.2.mem ((c : Thread nD τ).loc main_v63) = res8 (D (StableHlo.launchContents m c))
    ∧ r.2.mem ((c : Thread nD τ).loc main_v92) = res8 (E (StableHlo.launchContents m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run _ _ _).mono (fun r h c => by
    obtain ⟨h5, h6, h7, h8, h9, hk⟩ := h c
    refine ⟨h5.trans ?_, h6.trans ?_, h7.trans ?_, h8.trans ?_, h9.trans ?_, hk⟩
    · funext j; idx_vars j; clean_types; pointwise; simp only [v82]; rfl
    · funext j; idx_vars j; clean_types; pointwise; simp only [v38, v41]
      exact Finset.sum_congr rfl fun r _ => (mul_comm _ _).trans (mul_assoc _ _ _).symm
    · funext j; idx_vars j; clean_types; pointwise; simp only [v20, v61]
      exact Finset.sum_congr rfl fun r _ => mul_comm _ _
    · funext j; idx_vars j; clean_types; pointwise; simp only [v61]; rfl
    · funext j; idx_vars j; clean_types; pointwise; simp only [v82]; rfl) (run m ρ)

end Cert.Reference3Ideal.Value

end
-- ==== Proof.RowsClaim.lean ====
module

public import proofs.«01_k».proof.Defs
public import proofs.«01_k».proof.Proof.RowsRef
public import proofs.«01_k».proof.Proof.Gen.Pre_finite_rows

/-! The two programs of the convolution branch's norms' gradient leave equal arrays. -/

@[expose] public section

noncomputable section

namespace Cert.Rows

open Idealize.ShloMosaic Idealize.ShloMosaic.TcCoe Idealize.SL.Sem Cert.Scalar
open Cert.Kernel3Ideal.Value (wide pre normed act ct scaled dnormed dpre)

/-- The reference's run, as the claim reads it. -/
theorem frame : quiescent_Reference3Ideal := fun m g _ =>
  (θ_run _ _ _).mono (fun r h => ⟨fun c => (h c).2.2.2.2.2, sem_eq_zero_of_no_sems (by decide) r.2⟩) (Reference3Ideal.Value.run_holds m g)

section Rows

variable (c0 : Vec Ideal Kernel3Ideal.S8192x512 .f32) (cb lg lb og : Vec Ideal Kernel3Ideal.S1x512 .f32)
  (dm : Vec Ideal Kernel3Ideal.S8192x1024 .f32)

theorem dnormed_eq (r : Fin 8192) (w : Fin 512 → ℝ) (hw : ∀ l, scaled og dm r l = w l) (l : Fin 512) :
    Rms.gradR wide (act c0 cb lg lb r) (scaled og dm r) l * Ideal.logistic (normed c0 cb lg lb r l)
      + normed c0 cb lg lb r l * Rms.gradR wide (act c0 cb lg lb r) (scaled og dm r) l
        * (Ideal.logistic (normed c0 cb lg lb r l) * (1 - Ideal.logistic (normed c0 cb lg lb r l)))
      = dnormed c0 cb lg lb og dm r l ∧ ∃ a : ℝ, dnormed c0 cb lg lb og dm r l = a := by
  unfold dnormed wide
  rw [Rms.half_k_bits, ← Rms.gradK_eq _ (by norm_num), (funext hw : scaled og dm r = fun l => (w l : EReal))]
  obtain ⟨d, hd⟩ := Ln.gradK_real 512 (by norm_num) (act c0 cb lg lb r) w l
  obtain ⟨s, hs⟩ := Ln.silu_real (normed c0 cb lg lb r l)
  rw [hd, ← Ln.silu_eq, hs]
  exact ⟨rfl, _, EReal.coe_mul _ _ |>.symm⟩

theorem dpre_eq (r : Fin 8192) (d : Fin 512 → EReal) (w : Fin 512 → ℝ) (hw : ∀ l, d l * lg (ix2 0 l) = w l) (l : Fin 512) :
    Ln.dcR wide (pre c0 cb r) (fun k => d k * lg (ix2 0 k)) l = Ln.dcK wide (pre c0 cb r) (fun k => d k * lg (ix2 0 k)) l := by
  have e : wide = (((512 : ℕ) : ℝ) : EReal) := by unfold wide; rw [Rms.half_k_bits]; norm_num
  rw [e, funext hw]
  exact (Ln.dc_eq (by norm_num) _ _ _).symm

end Rows

/-- The reference's two gradients are the kernel's, the cotangent and the two factors being finite. -/
theorem grads {m} (h : Pre_Kernel3Ideal_finite_rows m) (c : Dev Kernel3Ideal.nD) :
    (fun r l => Rms.gradR wide (act (Kernel3Ideal.Value.A0 m c) (Kernel3Ideal.Value.A1 m c) (Kernel3Ideal.Value.A2 m c) (Kernel3Ideal.Value.A3 m c) r)
            (scaled (Kernel3Ideal.Value.A4 m c) (Kernel3Ideal.Value.A5 m c) r) l
          * Ideal.logistic (normed (Kernel3Ideal.Value.A0 m c) (Kernel3Ideal.Value.A1 m c) (Kernel3Ideal.Value.A2 m c) (Kernel3Ideal.Value.A3 m c) r l)
        + normed (Kernel3Ideal.Value.A0 m c) (Kernel3Ideal.Value.A1 m c) (Kernel3Ideal.Value.A2 m c) (Kernel3Ideal.Value.A3 m c) r l
          * Rms.gradR wide (act (Kernel3Ideal.Value.A0 m c) (Kernel3Ideal.Value.A1 m c) (Kernel3Ideal.Value.A2 m c) (Kernel3Ideal.Value.A3 m c) r)
            (scaled (Kernel3Ideal.Value.A4 m c) (Kernel3Ideal.Value.A5 m c) r) l
          * (Ideal.logistic (normed (Kernel3Ideal.Value.A0 m c) (Kernel3Ideal.Value.A1 m c) (Kernel3Ideal.Value.A2 m c) (Kernel3Ideal.Value.A3 m c) r l)
            * (1 - Ideal.logistic (normed (Kernel3Ideal.Value.A0 m c) (Kernel3Ideal.Value.A1 m c) (Kernel3Ideal.Value.A2 m c)
              (Kernel3Ideal.Value.A3 m c) r l)))) = Kernel3Ideal.Value.D m c
      ∧ (fun r => Ln.dcR wide (pre (Kernel3Ideal.Value.A0 m c) (Kernel3Ideal.Value.A1 m c) r)
          (fun k => Kernel3Ideal.Value.D m c r k * Kernel3Ideal.Value.A2 m c (ix2 0 k))) = Kernel3Ideal.Value.E m c := by
  have e := and_one (congrFun (h c) (fun a => a.elim0))
  have e' := and_one e.1
  have hd : ∀ i, ∃ a : ℝ, Kernel3Ideal.Value.A5 m c i = a := fun i => finite_cases (finite_of_all _ _ _ _ _ e'.1 i)
  have hl : ∀ i, ∃ a : ℝ, Kernel3Ideal.Value.A2 m c i = a := fun i => finite_cases (finite_of_all _ _ _ _ _ e'.2 i)
  have ho : ∀ i, ∃ a : ℝ, Kernel3Ideal.Value.A4 m c i = a := fun i => finite_cases (finite_of_all _ _ _ _ _ e.2 i)
  choose dm hd using hd
  choose lg hl using hl
  choose og ho using ho
  have hs : ∀ r l, scaled (Kernel3Ideal.Value.A4 m c) (Kernel3Ideal.Value.A5 m c) r l
      = ((dm (ix2 r ⟨l.val, by omega⟩) * og (ix2 0 l) : ℝ) : EReal) := fun r l => by
    unfold scaled ct; rw [hd, ho, EReal.coe_mul]
  have hD := fun r l => dnormed_eq (Kernel3Ideal.Value.A0 m c) (Kernel3Ideal.Value.A1 m c) (Kernel3Ideal.Value.A2 m c) (Kernel3Ideal.Value.A3 m c)
    (Kernel3Ideal.Value.A4 m c) (Kernel3Ideal.Value.A5 m c) r _ (hs r) l
  choose hD a ha using hD
  refine ⟨funext fun r => funext fun l => hD r l, funext fun r => funext fun l => ?_⟩
  exact dpre_eq _ _ _ r _ (fun l => a r l * lg (ix2 0 l)) (fun l => (congrArg₂ (· * ·) (ha r l) (hl (ix2 0 l))).trans (EReal.coe_mul _ _).symm) l

theorem algebraic : algebraic_Kernel3Ideal_Reference3Ideal_pre_finite_rows := by
  intro m g m' g' hp hm
  refine ⟨fun c => (Kernel3Ideal.Gen.dats m 0 c).arrAt 5 _, fun c => (Kernel3Ideal.Gen.dats m 0 c).arrAt 6 _,
    fun c => (Kernel3Ideal.Gen.dats m 0 c).arrAt 7 _, fun c => (Kernel3Ideal.Gen.dats m 0 c).arrAt 8 _,
    fun c => (Kernel3Ideal.Gen.dats m 0 c).arrAt 9 _, Kernel3Ideal.Value.run_blocks m g, ?_⟩
  refine (θ_run _ _ _).mono (fun r h c => ?_) (Reference3Ideal.Value.run_holds m' g')
  obtain ⟨h5, h6, h7, h8, h9, hk⟩ := h c
  obtain ⟨a0, a1, a2, a3, a4, a5⟩ := hm c
  replace a0 : Reference3Ideal.Value.A0 (StableHlo.launchContents m' c) = Kernel3Ideal.Value.A0 m c := a0
  replace a1 : Reference3Ideal.Value.A1 (StableHlo.launchContents m' c) = Kernel3Ideal.Value.A1 m c := a1
  replace a2 : Reference3Ideal.Value.A2 (StableHlo.launchContents m' c) = Kernel3Ideal.Value.A2 m c := a2
  replace a3 : Reference3Ideal.Value.A3 (StableHlo.launchContents m' c) = Kernel3Ideal.Value.A3 m c := a3
  replace a4 : Reference3Ideal.Value.A4 (StableHlo.launchContents m' c) = Kernel3Ideal.Value.A4 m c := a4
  replace a5 : Reference3Ideal.Value.A5 (StableHlo.launchContents m' c) = Kernel3Ideal.Value.A5 m c := a5
  obtain ⟨hD, hE⟩ := grads hp c
  have eD : Reference3Ideal.Value.D (StableHlo.launchContents m' c) = Kernel3Ideal.Value.D m c := by
    unfold Reference3Ideal.Value.D; rw [a0, a1, a2, a3, a4, a5]; exact hD
  have eE : Reference3Ideal.Value.E (StableHlo.launchContents m' c) = Kernel3Ideal.Value.E m c := by
    unfold Reference3Ideal.Value.E; rw [eD, a0, a1, a2]; exact hE
  rw [eE] at h5 h9
  rw [eD] at h7 h8
  refine ⟨h5.trans (Kernel3Ideal.Value.final5 m c).symm, h6.trans ?_, h7.trans ?_, h8.trans (Kernel3Ideal.Value.final8 m c).symm,
    h9.trans (Kernel3Ideal.Value.final9 m c).symm, hk⟩
  · refine Eq.trans ?_ (Kernel3Ideal.Value.final6 m c).symm
    show Kernel3Ideal.Value.res6 (Reference3Ideal.Value.A0 (StableHlo.launchContents m' c)) (Reference3Ideal.Value.A1 (StableHlo.launchContents m' c))
      (Reference3Ideal.Value.A2 (StableHlo.launchContents m' c)) (Reference3Ideal.Value.A3 (StableHlo.launchContents m' c))
      (Reference3Ideal.Value.A5 (StableHlo.launchContents m' c)) = _
    rw [a0, a1, a2, a3, a5]
  · refine Eq.trans ?_ (Kernel3Ideal.Value.final7 m c).symm
    show Kernel3Ideal.Value.res7 (Reference3Ideal.Value.A0 (StableHlo.launchContents m' c)) (Reference3Ideal.Value.A1 (StableHlo.launchContents m' c)) _ = _
    rw [a0, a1]

end Cert.Rows

end
-- ==== Proof.Mixdh.lean ====
module

public import proofs.«01_k».proof.Proof.Rms
public import proofs.«01_k».proof.Proof.Gen.Kernel9Ideal.Value
public import proofs.«01_k».proof.Proof.Gen.Reference9Ideal.Run
public import Idealize.ShloMosaic.Lib.Pipeline.ValueKit
public import Idealize.ShloMosaic.Lib.Tactic.CleanTypes

/-! The gradient of the mixer's norm, behind the product with the input projection: what the two programs' arrays hold after the run. -/

@[expose] public section

set_option maxRecDepth 16384

noncomputable section

namespace Cert.Kernel9Ideal.Value

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1149239296#32

section Spec

variable (x : Vec Ideal S8192x1024 .f32) (g : Vec Ideal S1x1024 .f32) (W : Vec Ideal S1x1024x1536 .f32) (dp : Vec Ideal S8192x1536 .f32)
  (dr : Vec Ideal S8192x1024 .f32)

/-- The cotangent of the norm's result: the projection's cotangent times the weights' transpose. -/
def ct (r : Fin 8192) (l : Fin 1024) : EReal := ∑ k, dp (ix2 r k) * W (ix3 0 l k)

/-- The rows the norm takes. -/
def rows (r : Fin 8192) (l : Fin 1024) : EReal := x (ix2 r l)

/-- The cotangent times the norm's factor. -/
def scaled (r : Fin 8192) (l : Fin 1024) : EReal := ct W dp r l * g (ix2 0 l)

/-- The gradient at the rows: what reaches them past the norm, and through it. -/
def dx (r : Fin 8192) (l : Fin 1024) : EReal := dr (ix2 r l) + Rms.gradK wide (rows x r) (scaled g W dp r) l

/-- The three results, from the gradient `d` at the rows. -/
def res5 (d : Fin 8192 → Fin 1024 → EReal) : Vec Ideal S8192x1024 .f32 := fun j => d (j 0) (j 1)
def res6 (d : Fin 8192 → Fin 1024 → EReal) : Vec Ideal S1024x8192 .bf16 := fun j => d (j 1) (j 0)
def res7 : Vec Ideal S1x1024 .f32 := fun j => ∑ r : Fin 8192, ct W dp r (j 1) * rows x r (j 1) * Rms.inv wide (rows x r)

end Spec

abbrev A0 (c : Dev nD) : Vec Ideal S8192x1024 .f32 := m ((c : Thread nD τ).loc main_arg0)
abbrev A1 (c : Dev nD) : Vec Ideal S1x1024 .f32 := m ((c : Thread nD τ).loc main_arg1)
abbrev A2 (c : Dev nD) : Vec Ideal S1x1024x1536 .f32 := m ((c : Thread nD τ).loc main_arg2)
abbrev A3 (c : Dev nD) : Vec Ideal S8192x1536 .f32 := m ((c : Thread nD τ).loc main_arg3)
abbrev A4 (c : Dev nD) : Vec Ideal S8192x1024 .f32 := m ((c : Thread nD τ).loc main_arg4)

/-- Row `r` of tile `t`. -/
abbrev row (t : Fin cfg0.N) (r : Fin 512) : Fin 8192 := ⟨t.val * 512 + r.val, by have : t.val < 16 := t.isLt; omega⟩

theorem idx_val : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, t.val]
    ∧ win0_7.index t = ![0, 0] := (by decide +kernel : ∀ t : Fin grid0.N, _)

theorem emb1 (t : Fin cfg0.N) (r : Fin 1024) (l : Fin 1536) :
    ((View.whole main_v1).slice (win0_1.rect t)).emb (ix2 r l) = ix2 r l := by blk_ext [idx_val t]

theorem emb5 (t : Fin cfg0.N) (r : Fin 512) (l : Fin 1024) :
    ((View.whole main_v2_0).slice (win0_5.rect t)).emb (ix2 r l) = ix2 (row t r) l := by blk_ext [idx_val t]

theorem emb6 (t : Fin cfg0.N) (l : Fin 1024) (r : Fin 512) :
    ((View.whole main_v2_1).slice (win0_6.rect t)).emb (ix2 l r) = ix2 l (row t r) := by blk_ext [idx_val t]

theorem blk0 (c : Dev nD) (t : Fin cfg0.N) (r : Fin 512) (l : Fin 1536) : iblk m c 0 t (ix2 r l) = A3 m c (ix2 (row t r) l) := by
  blk_point [iblk, V, idx_val t]

theorem blk1 (c : Dev nD) (t : Fin cfg0.N) (r : Fin 1024) (l : Fin 1536) : iblk m c 1 t (ix2 r l) = A2 m c (ix3 0 r l) := by
  blk_simp [iblk, idx_val t]
  entry_read
  rw [emb1]
  pointwise

theorem blk2 (c : Dev nD) (t : Fin cfg0.N) (r : Fin 512) (l : Fin 1024) : iblk m c 2 t (ix2 r l) = rows (A0 m c) (row t r) l := by
  unfold rows; blk_point [iblk, V, idx_val t]

theorem blk3 (c : Dev nD) (t : Fin cfg0.N) (r : Fin 512) (l : Fin 1024) : iblk m c 3 t (ix2 r l) = A4 m c (ix2 (row t r) l) := by
  blk_point [iblk, V, idx_val t]

theorem blk4 (c : Dev nD) (t : Fin cfg0.N) (r : Fin 1) (l : Fin 1024) : iblk m c 4 t (ix2 r l) = A1 m c (ix2 0 l) := by
  blk_point [iblk, V, idx_val t]

section Tile

variable (c : Dev nD) (t : Fin cfg0.N)

theorem pay5 (r : Fin 512) (l : Fin 1024) : k0_pay5 (iblk m c 0 t) (iblk m c 1 t) (ix2 r l) = ct (A2 m c) (A3 m c) (row t r) l := by
  pointwise [k0_pay5]; simp only [blk0, blk1]; rfl

theorem pay6 (r : Fin 512) (l : Fin 1) : k0_pay6 (iblk m c 2 t) (ix2 r l) = Rms.inv wide (rows (A0 m c) (row t r)) := by
  pointwise [k0_pay6]; simp only [blk2]; rfl

theorem pay7 (r : Fin 512) (l : Fin 1024) :
    k0_pay7 (iblk m c 0 t) (iblk m c 1 t) (iblk m c 4 t) (ix2 r l) = scaled (A1 m c) (A2 m c) (A3 m c) (row t r) l := by
  pointwise [k0_pay7]; rw [pay5, blk4]; rfl

/-- The gradient at the rows. -/
abbrev D : Fin 8192 → Fin 1024 → EReal := dx (A0 m c) (A1 m c) (A2 m c) (A3 m c) (A4 m c)

theorem pay1 (r : Fin 512) (l : Fin 1024) :
    k0_pay1 (iblk m c 3 t) (k0_pay8 (iblk m c 0 t) (iblk m c 1 t) (iblk m c 2 t) (iblk m c 4 t)) (k0_pay9 (iblk m c 2 t))
      (k0_pay10 (iblk m c 0 t) (iblk m c 1 t) (iblk m c 2 t) (iblk m c 4 t)) (ix2 r l) = D m c (row t r) l := by
  pointwise [k0_pay1, k0_pay8, k0_pay9, k0_pay10]
  simp only [pay6, pay7, blk2, blk3]
  rfl

theorem pay2 (l : Fin 1024) (r : Fin 512) :
    k0_pay2 (iblk m c 3 t) (k0_pay8 (iblk m c 0 t) (iblk m c 1 t) (iblk m c 2 t) (iblk m c 4 t)) (k0_pay9 (iblk m c 2 t))
      (k0_pay10 (iblk m c 0 t) (iblk m c 1 t) (iblk m c 2 t) (iblk m c 4 t)) (ix2 l r) = D m c (row t r) l := by
  pointwise [k0_pay2]
  rw [pay1]

theorem zero7 (j : S1x1024.Idx) : (k0_pay4 (F := Ideal)) j = 0 := by pointwise [k0_pay4]

/-- One tile's part of the third result. -/
abbrev part7 (l : Fin 1024) : EReal :=
  ∑ k : Fin 512, ct (A2 m c) (A3 m c) (row t k) l * rows (A0 m c) (row t k) l * Rms.inv wide (rows (A0 m c) (row t k))

theorem step7 (a : Vec Ideal S1x1024 .f32) (r : Fin 1) (l : Fin 1024) :
    k0_pay3 (k0_pay5 (iblk m c 0 t) (iblk m c 1 t)) (iblk m c 2 t) (k0_pay6 (iblk m c 2 t)) a (ix2 r l)
      = a (ix2 r l) + part7 m c t l := by
  pointwise [k0_pay3]
  simp only [pay5, pay6, blk2]

end Tile

theorem final5 (c : Dev nD) : (dats m 0 c).arrAt 5 cfg0.N = res5 (D m c) := by
  refine (dats m 0 c).arrAt_eq_of_covers 5 _ (by decide +kernel) fun t hf y => ?_
  blk_simp
  rw [after0_5]
  by_cases h : t.val % 16 = 0
  · rw [outsAt0_A m c t h]; frame_out; idx_vars y; rw [emb5, pay1]; rfl
  · rw [outsAt0_B m c t h]; frame_out; idx_vars y; rw [emb5, pay1]; rfl

theorem final6 (c : Dev nD) : (dats m 0 c).arrAt 6 cfg0.N = res6 (D m c) := by
  refine (dats m 0 c).arrAt_eq_of_covers 6 _ (by decide +kernel) fun t hf y => ?_
  blk_simp
  rw [after0_6]
  by_cases h : t.val % 16 = 0
  · rw [outsAt0_A m c t h]; frame_out; idx_vars y; rw [emb6, pay2]; rfl
  · rw [outsAt0_B m c t h]; frame_out; idx_vars y; rw [emb6, pay2]; rfl

theorem final7 (c : Dev nD) : (dats m 0 c).arrAt 7 cfg0.N = res7 (A0 m c) (A2 m c) (A3 m c) := by
  refine (dats m 0 c).arrAt_eq_of_after_last 7 t0_15 (by decide +kernel) _ fun j => ?_
  blk_simp
  rw [after0_7]
  idx_vars j
  rw [Pipeline.eq_sum_fin_of_reset_step_apply_last (fun n h => (outsAt0 m c n h).2.2) 16 (fun _ => 0) (fun t j => part7 m c t (j 1))
      (fun t h j => by rw [outsAt0_A m c t h]; frame_out; idx_vars j; rw [step7, zero7])
      (fun t h j => by rw [outsAt0_B m c t h]; frame_out; idx_vars j; rw [step7]) (le_of_eq N_0) t0_15 rfl _, zero_add]
  refine Fin.sum_mul_add_congr fun s k hl => ?_
  rfl

end Cert.Kernel9Ideal.Value

namespace Cert.Reference9Ideal.Value

open Cert.Reference9Ideal Cert.Reference9Ideal.Gen Idealize.ShloMosaic Idealize.ShloMosaic.TcCoe Idealize.SL.Sem
open Cert.Kernel9Ideal.Value (wide ct rows scaled dx res5 res6 res7)

variable (m : (ℓ : Loc nD τ sig) → Buf (Elt Ideal) ℓ)

abbrev A0 (c : Dev nD) : Vec Ideal S8192x1024 .f32 := m ((c : Thread nD τ).loc main_arg0)
abbrev A1 (c : Dev nD) : Vec Ideal S1x1024 .f32 := m ((c : Thread nD τ).loc main_arg1)
abbrev A2 (c : Dev nD) : Vec Ideal S1x1024x1536 .f32 := m ((c : Thread nD τ).loc main_arg2)
abbrev A3 (c : Dev nD) : Vec Ideal S8192x1536 .f32 := m ((c : Thread nD τ).loc main_arg3)
abbrev A4 (c : Dev nD) : Vec Ideal S8192x1024 .f32 := m ((c : Thread nD τ).loc main_arg4)

/-- The gradient at the rows is the one written by hand. -/
theorem chain (x : Vec Ideal S8192x1024 .f32) (g : Vec Ideal S1x1024 .f32) (W : Vec Ideal S1x1024x1536 .f32) (dp : Vec Ideal S8192x1536 .f32)
    (dr : Vec Ideal S8192x1024 .f32) (r : Fin 8192) (l : Fin 1024) :
    dr (ix2 r l) + scaled g W dp r l * Rms.inv wide (rows x r) + rows x r l * (∑ _k : Fin 1, Rms.dmsq wide (rows x r) (scaled g W dp r))
      + (∑ _k : Fin 1, Rms.dmsq wide (rows x r) (scaled g W dp r)) * rows x r l = dx x g W dp dr r l := by
  unfold dx wide
  rw [Rms.one_k_bits, Rms.gradK_eq _ (by norm_num), add_assoc, add_assoc]
  unfold Rms.gradR
  rw [add_assoc (scaled g W dp r l * _)]

theorem holds5 (c : Dev nD) : res_main_v37 m c = res5 (dx (A0 m c) (A1 m c) (A2 m c) (A3 m c) (A4 m c)) := by
  funext j
  idx_vars j
  unfold res_main_v37
  clean_types
  pointwise
  exact chain (A0 m c) (A1 m c) (A2 m c) (A3 m c) (A4 m c) j0 j1

theorem holds6 (c : Dev nD) : res_main_v39 m c = res6 (dx (A0 m c) (A1 m c) (A2 m c) (A3 m c) (A4 m c)) := by
  funext j
  idx_vars j
  unfold res_main_v39
  clean_types
  pointwise
  exact chain (A0 m c) (A1 m c) (A2 m c) (A3 m c) (A4 m c) j1 j0

/-- What the reference's run leaves in its three results. -/
theorem run_holds (ρ : Dev nD → PrngReg) : θ_run defs (onTc (τ := τ) (main (F := Ideal))) ⟨m, fun _ => 0, ρ⟩ fun r => ∀ c : Dev nD,
    r.2.mem ((c : Thread nD τ).loc main_v37) = res5 (dx (A0 m c) (A1 m c) (A2 m c) (A3 m c) (A4 m c))
    ∧ r.2.mem ((c : Thread nD τ).loc main_v39) = res6 (dx (A0 m c) (A1 m c) (A2 m c) (A3 m c) (A4 m c))
    ∧ r.2.mem ((c : Thread nD τ).loc main_v20) = res7 (A0 m c) (A2 m c) (A3 m c)
    ∧ A0 r.2.mem c = A0 m c ∧ A1 r.2.mem c = A1 m c ∧ A2 r.2.mem c = A2 m c ∧ A3 r.2.mem c = A3 m c ∧ A4 r.2.mem c = A4 m c :=
  (θ_run _ _ _).mono (fun r h c => by
    obtain ⟨h5, h6, h7, hk⟩ := h c
    refine ⟨h5.trans (holds5 m c), h6.trans (holds6 m c), h7.trans ?_, hk⟩
    funext j
    idx_vars j
    clean_types
    pointwise
    exact Finset.sum_congr rfl fun r _ => (mul_comm _ _).trans (mul_assoc _ _ _).symm) (run m ρ)

end Cert.Reference9Ideal.Value

end
-- ==== Proof.MixdhClaim.lean ====
module

public import proofs.«01_k».proof.Defs
public import proofs.«01_k».proof.Proof.Mixdh

/-! The two programs of the mixer's norm's gradient leave equal arrays. -/

@[expose] public section

noncomputable section

namespace Cert.Mixdh

open Idealize.ShloMosaic Idealize.ShloMosaic.TcCoe Idealize.SL.Sem

theorem frame : quiescent_Reference9Ideal := fun m g _ =>
  (θ_run _ _ _).mono (fun r h => ⟨fun c => (h c).2.2.2, sem_eq_zero_of_no_sems (by decide) r.2⟩) (Reference9Ideal.Value.run_holds m g)

theorem algebraic : algebraic_Kernel9Ideal_Reference9Ideal := by
  intro m g m' g' _ hm
  refine ⟨fun c => (Kernel9Ideal.Gen.dats m 0 c).arrAt 5 _, fun c => (Kernel9Ideal.Gen.dats m 0 c).arrAt 6 _,
    fun c => (Kernel9Ideal.Gen.dats m 0 c).arrAt 7 _,
    Kernel9Ideal.Value.run_blocks m g, ?_⟩
  refine (θ_run _ _ _).mono (fun r h c => ?_) (Reference9Ideal.Value.run_holds m' g')
  obtain ⟨h5, h6, h7, hk⟩ := h c
  obtain ⟨a0, a1, a2, a3, a4⟩ := hm c
  replace a0 : Reference9Ideal.Value.A0 m' c = Kernel9Ideal.Value.A0 m c := a0
  replace a1 : Reference9Ideal.Value.A1 m' c = Kernel9Ideal.Value.A1 m c := a1
  replace a2 : Reference9Ideal.Value.A2 m' c = Kernel9Ideal.Value.A2 m c := a2
  replace a3 : Reference9Ideal.Value.A3 m' c = Kernel9Ideal.Value.A3 m c := a3
  replace a4 : Reference9Ideal.Value.A4 m' c = Kernel9Ideal.Value.A4 m c := a4
  simp only [a0, a1, a2, a3, a4] at h5 h6 h7
  exact ⟨h5.trans (Kernel9Ideal.Value.final5 m c).symm, h6.trans (Kernel9Ideal.Value.final6 m c).symm,
    h7.trans (Kernel9Ideal.Value.final7 m c).symm, hk⟩

end Cert.Mixdh

end
-- ==== Proof.Pad.lean ====
module

public import Idealize.ShloMosaic.Lib.Pipeline.ValueKit
public import Idealize.ShloMosaic.Lib.Tactic.CleanTypes

/-! A row of 2816 elements laid out as four shards of 704, each padded with zeros to 768. -/

@[expose] public section

set_option maxRecDepth 16384

noncomputable section

namespace Cert.Pad

open Idealize.ShloMosaic

/-- The padded row. -/
def lay (f : Fin 2816 → EReal) (k : Fin 3072) : EReal :=
  if h : k.val % 768 < 704 then f ⟨k.val / 768 * 704 + k.val % 768, by omega⟩ else 0

/-- A sum over the padded row is the sum over the row. -/
theorem sum_lay (f g : Fin 2816 → EReal) : ∑ k, lay f k * lay g k = ∑ j, f j * g j := by
  have e : ∀ k : Fin 3072, lay f k * lay g k
      = ∑ j : Fin 2816, if k = ⟨j.val / 704 * 768 + j.val % 704, by omega⟩ then f j * g j else 0 := fun k => by
    unfold lay
    by_cases h : k.val % 768 < 704
    · rw [dif_pos h, dif_pos h, Finset.sum_eq_single ⟨k.val / 768 * 704 + k.val % 768, by omega⟩]
      · rw [if_pos (Fin.ext (by show k.val = _ / 704 * 768 + _ % 704; dsimp only; omega))]
      · intro j _ hj
        refine if_neg fun hk => hj (Fin.ext ?_)
        have := congrArg Fin.val hk
        dsimp only at this ⊢
        omega
      · exact fun hn => absurd (Finset.mem_univ _) hn
    · rw [dif_neg h, zero_mul]
      refine (Finset.sum_eq_zero fun j _ => if_neg fun hk => h ?_).symm
      have := congrArg Fin.val hk
      dsimp only at this
      omega
  rw [Finset.sum_congr rfl fun k _ => e k, Finset.sum_comm]
  exact Finset.sum_congr rfl fun j _ => by rw [Finset.sum_ite_eq' Finset.univ, if_pos (Finset.mem_univ _)]

/-- The host's layout of every row of an array. -/
theorem int_zero (j : (⟨0, ![]⟩ : Shape).Idx) : sitofp (F := Ideal) .f32 (constantI ⟨0, ![]⟩ 32 0#32) j = 0 := by
  show (((0#32 : BitVec 32).toInt : ℝ) : EReal) = 0
  norm_num

theorem cols (x : (⟨2, ![8192, 2816]⟩ : Shape).Idx → EReal) (h1 : (⟨2, ![8192, 2816]⟩ : Shape).ShapeCasts ⟨3, ![8192, 4, 704]⟩)
    (h2 : (⟨3, ![8192, 4, 704]⟩ : Shape).Pads ![0, 0, 0] ![0, 0, 64] ![0, 0, 0] ⟨3, ![8192, 4, 768]⟩)
    (h3 : (⟨3, ![8192, 4, 768]⟩ : Shape).ShapeCasts ⟨2, ![8192, 3072]⟩) (h0 : 0 < (⟨0, ![]⟩ : Shape).numel)
    (v : (⟨0, ![]⟩ : Shape).Idx → EReal) (hv : ∀ j, v j = 0)
    (r : Fin 8192) (k : Fin 3072) :
    shapeCast ⟨2, ![8192, 3072]⟩ (pad ⟨3, ![8192, 4, 768]⟩ ![0, 0, 0] ![0, 0, 64] ![0, 0, 0]
      (shapeCast ⟨3, ![8192, 4, 704]⟩ x h1) v h2 h0) h3 (ix2 r k) = lay (fun j => x (ix2 r j)) k := by
  unfold lay
  by_cases h : k.val % 768 < 704
  · rw [dif_pos h]
    pointwise
    rw [dif_pos ⟨by omega, h⟩]
  · rw [dif_neg h]
    pointwise
    rw [dif_neg fun q => h q.2, hv]

/-- A map that fixes zero, entry by entry, keeps the layout. -/
theorem lay_map (F : EReal → EReal) (hF : F 0 = 0) (f : Fin 2816 → EReal) (k : Fin 3072) : F (lay f k) = lay (fun j => F (f j)) k := by
  unfold lay
  split_ifs
  · rfl
  · exact hF

theorem lay_map₃ (F : EReal → EReal → EReal → EReal) (hF : F 0 0 0 = 0) (f g h : Fin 2816 → EReal) (k : Fin 3072) :
    F (lay f k) (lay g k) (lay h k) = lay (fun j => F (f j) (g j) (h j)) k := by
  unfold lay
  split_ifs
  · rfl
  · exact hF

/-- A row times a padded matrix is the padded product. -/
theorem lay_sum {n : ℕ} (a : Fin n → EReal) (f : Fin n → Fin 2816 → EReal) (k : Fin 3072) :
    ∑ l, a l * lay (f l) k = lay (fun j => ∑ l, a l * f l j) k := by
  unfold lay
  split_ifs
  · rfl
  · simp

/-- The host's layout of the rows of a matrix. -/
theorem rows (x : (⟨2, ![2816, 1024]⟩ : Shape).Idx → EReal) (h1 : (⟨2, ![2816, 1024]⟩ : Shape).ShapeCasts ⟨3, ![4, 704, 1024]⟩)
    (h2 : (⟨3, ![4, 704, 1024]⟩ : Shape).Pads ![0, 0, 0] ![0, 64, 0] ![0, 0, 0] ⟨3, ![4, 768, 1024]⟩)
    (h3 : (⟨3, ![4, 768, 1024]⟩ : Shape).ShapeCasts ⟨2, ![3072, 1024]⟩) (h0 : 0 < (⟨0, ![]⟩ : Shape).numel)
    (v : (⟨0, ![]⟩ : Shape).Idx → EReal) (hv : ∀ j, v j = 0)
    (k : Fin 3072) (l : Fin 1024) :
    shapeCast ⟨2, ![3072, 1024]⟩ (pad ⟨3, ![4, 768, 1024]⟩ ![0, 0, 0] ![0, 64, 0] ![0, 0, 0]
      (shapeCast ⟨3, ![4, 704, 1024]⟩ x h1) v h2 h0) h3 (ix2 k l) = lay (fun j => x (ix2 j l)) k := by
  unfold lay
  by_cases h : k.val % 768 < 704
  · rw [dif_pos h]
    pointwise
    rw [dif_pos ⟨by omega, h⟩]
  · rw [dif_neg h]
    pointwise
    rw [dif_neg fun q => h q.2, hv]

end Cert.Pad

end
-- ==== Proof.Loss.lean ====
module

public import proofs.«01_k».proof.Proof.Rms
public import proofs.«01_k».proof.Proof.Pad
public import proofs.«01_k».proof.Proof.Gen.Kernel10Ideal.Value
public import Idealize.ShloMosaic.Lib.Pipeline.ValueKit
public import Idealize.ShloMosaic.Lib.Tactic.CleanTypes

/-! The loss and its gradient through the last norm, behind the last product: what the kernel's arrays hold after the run. -/

@[expose] public section

set_option maxRecDepth 16384

noncomputable section

namespace Cert.Kernel10Ideal.Value

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The width of a row, one half, one and two, as written. -/
abbrev wide : EReal := Ideal.ofBits .f32 1149239296#32
abbrev half : EReal := Ideal.ofBits .f32 1056964608#32
abbrev two : EReal := Ideal.ofBits .f32 1073741824#32

section Spec

variable (z : Vec Ideal S8192x2816 .f32) (W : Vec Ideal S1x2816x1024 .f32) (x : Vec Ideal S8192x1024 .f32) (g : Vec Ideal S1024 .f32)
  (t : Vec Ideal S8192x1024 .f32)

/-- The rows the norm takes: the residual plus half the product. -/
def rows (r : Fin 8192) (l : Fin 1024) : EReal := x (ix2 r l) + half * ∑ k, z (ix2 r k) * W (ix3 0 k l)

/-- The normalised rows less the target. -/
def err (r : Fin 8192) (l : Fin 1024) : EReal :=
  rows z W x r l * Rms.inv wide (rows z W x r) * g (ix1 l) - t (ix2 r l)

/-- The cotangent of the normalised rows. -/
def ct (r : Fin 8192) (l : Fin 1024) : EReal := Ideal.div half wide * (two * err z W x g t r l)

/-- The cotangent times the norm's factor. -/
def scaled (r : Fin 8192) (l : Fin 1024) : EReal := ct z W x g t r l * g (ix1 l)

/-- The gradient at the rows. -/
def dx (r : Fin 8192) (l : Fin 1024) : EReal := Rms.gradK wide (rows z W x r) (scaled z W x g t r) l

/-- The four results, from the gradient `d` at the rows. -/
def res5 (d : Fin 8192 → Fin 1024 → EReal) : Vec Ideal S8192x1024 .f32 := fun j => d (j 0) (j 1)
def res6 (d : Fin 8192 → Fin 1024 → EReal) : Vec Ideal S1024x8192 .bf16 := fun j => d (j 1) (j 0)
def res7 : Vec Ideal S1x128 .f32 := fun _ =>
  half * ∑ r : Fin 8192, Ideal.div (∑ l, err z W x g t r l * err z W x g t r l) wide
def res8 : Vec Ideal S1x1024 .f32 := fun j =>
  ∑ r : Fin 8192, rows z W x r (j 1) * Rms.inv wide (rows z W x r) * ct z W x g t r (j 1)

end Spec

theorem half_real : half = ((1 / 2 : ℝ) : EReal) := Scalar.half_bits
theorem two_real : two = ((2 : ℝ) : EReal) := by
  simp [two, Ideal.ofBits, Ideal.ieee, -EReal.coe_mul]; norm_num
theorem wide_real : wide = ((1024 : ℝ) : EReal) := Rms.one_k_bits
theorem slope_real : Ideal.ofBits .f32 981467136#32 = ((1 / 1024 : ℝ) : EReal) := by
  simp [Ideal.ofBits, Ideal.ieee, -EReal.coe_mul]; norm_num
theorem share_real : Ideal.ofBits .f32 973078528#32 = ((1 / 2048 : ℝ) : EReal) := by
  simp [Ideal.ofBits, Ideal.ieee, -EReal.coe_mul]; norm_num

/-- The error's factor is one over the width. -/
theorem ct_eq (e : EReal) : e * Ideal.ofBits .f32 981467136#32 = Ideal.div half wide * (two * e) := by
  have h : ((1 / 2 * (1 / 1024) * 2 : ℝ) : EReal) = ((1 / 1024 : ℝ) : EReal) := by norm_num
  rw [slope_real, half_real, two_real, wide_real, Ideal.div_coe (by norm_num), ← mul_assoc, ← EReal.coe_mul, ← EReal.coe_mul, h,
    mul_comm]

/-- A row's share of the loss. -/
theorem share_eq (e : EReal) : e * Ideal.ofBits .f32 973078528#32 = half * Ideal.div e wide := by
  have h : ((1 / 2 * (1 / 1024) : ℝ) : EReal) = ((1 / 2048 : ℝ) : EReal) := by norm_num
  rw [share_real, half_real, wide_real, Ideal.div_coe (by norm_num), mul_left_comm, ← EReal.coe_mul, h]

/-- A factor comes out of a sum of squares' sums. -/
theorem sum_mul {ι : Type} (s : Finset ι) (f : ι → EReal) (hf : ∀ k, 0 ≤ f k) (a : EReal) : (∑ k ∈ s, f k) * a = ∑ k ∈ s, f k * a := by
  classical
  induction s using Finset.induction_on with
  | empty => simp
  | insert k s hk ih =>
    rw [Finset.sum_insert hk, Finset.sum_insert hk, EReal.right_distrib_of_nonneg (hf k) (Finset.sum_nonneg fun j _ => hf j), ih]

abbrev A0 (c : Dev nD) : Vec Ideal S8192x2816 .f32 := m ((c : Thread nD τ).loc main_arg0)
abbrev A1 (c : Dev nD) : Vec Ideal S1x2816x1024 .f32 := m ((c : Thread nD τ).loc main_arg1)
abbrev A2 (c : Dev nD) : Vec Ideal S8192x1024 .f32 := m ((c : Thread nD τ).loc main_arg2)
abbrev A3 (c : Dev nD) : Vec Ideal S1024 .f32 := m ((c : Thread nD τ).loc main_arg3)
abbrev A4 (c : Dev nD) : Vec Ideal S8192x1024 .f32 := m ((c : Thread nD τ).loc main_arg4)

/-- Row `r` of tile `t`. -/
abbrev row (t : Fin cfg0.N) (r : Fin 512) : Fin 8192 := ⟨t.val * 512 + r.val, by have : t.val < 16 := t.isLt; omega⟩

theorem idx_val : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, t.val]
    ∧ win0_7.index t = ![0, 0] ∧ win0_8.index t = ![0, 0] := (by decide +kernel : ∀ t : Fin grid0.N, _)

theorem emb0 (t : Fin cfg0.N) (r : Fin 512) (l : Fin 3072) :
    ((View.whole main_v3).slice (win0_0.rect t)).emb (ix2 r l) = ix2 (row t r) l := by blk_ext [idx_val t]

theorem emb1 (t : Fin cfg0.N) (r : Fin 3072) (l : Fin 1024) :
    ((View.whole main_v8).slice (win0_1.rect t)).emb (ix2 r l) = ix2 r l := by blk_ext [idx_val t]

theorem emb4 (t : Fin cfg0.N) (r : Fin 1) (l : Fin 1024) :
    ((View.whole main_v9).slice (win0_4.rect t)).emb (ix2 r l) = ix2 r l := by blk_ext [idx_val t]

theorem emb5 (t : Fin cfg0.N) (r : Fin 512) (l : Fin 1024) :
    ((View.whole main_v10_0).slice (win0_5.rect t)).emb (ix2 r l) = ix2 (row t r) l := by blk_ext [idx_val t]

theorem emb6 (t : Fin cfg0.N) (l : Fin 1024) (r : Fin 512) :
    ((View.whole main_v10_1).slice (win0_6.rect t)).emb (ix2 l r) = ix2 l (row t r) := by blk_ext [idx_val t]

theorem blk0 (c : Dev nD) (t : Fin cfg0.N) (r : Fin 512) (k : Fin 3072) :
    iblk m c 0 t (ix2 r k) = Pad.lay (fun j => A0 m c (ix2 (row t r) j)) k := by
  blk_simp [iblk, idx_val t]
  rw [emb0]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  change shapeCast S8192x3072 (pad S8192x4x768 ![0, 0, 0] ![0, 0, 64] ![0, 0, 0]
    (shapeCast S8192x4x704 (A0 m c) shapeCasts_S8192x2816_S8192x4x704) (sitofp (F := Ideal) .f32 (constantI S_ 32 0#32)) pads_S8192x4x704_S8192x4x768_000_000_0640 h_S_)
    shapeCasts_S8192x4x768_S8192x3072 (ix2 (row t r) k) = _
  exact Pad.cols (A0 m c) _ _ _ _ _ Pad.int_zero (row t r) k

theorem blk1 (c : Dev nD) (t : Fin cfg0.N) (k : Fin 3072) (l : Fin 1024) :
    iblk m c 1 t (ix2 k l) = Pad.lay (fun j => A1 m c (ix3 0 j l)) k := by
  blk_simp [iblk, idx_val t]
  rw [emb1]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  change shapeCast S3072x1024 (pad S4x768x1024 ![0, 0, 0] ![0, 64, 0] ![0, 0, 0]
    (shapeCast S4x704x1024 (shapeCast S2816x1024 (A1 m c) shapeCasts_S1x2816x1024_S2816x1024) shapeCasts_S2816x1024_S4x704x1024)
    (sitofp (F := Ideal) .f32 (constantI S_ 32 0#32)) pads_S4x704x1024_S4x768x1024_000_0640_000 h_S_)
    shapeCasts_S4x768x1024_S3072x1024 (ix2 k l) = _
  refine (Pad.rows _ _ _ _ _ _ Pad.int_zero k l).trans ?_
  exact congrArg (fun f => Pad.lay f k) (funext fun j => by pointwise)

theorem blk2 (c : Dev nD) (t : Fin cfg0.N) (r : Fin 512) (l : Fin 1024) : iblk m c 2 t (ix2 r l) = A2 m c (ix2 (row t r) l) := by
  blk_point [iblk, V, idx_val t]

theorem blk3 (c : Dev nD) (t : Fin cfg0.N) (r : Fin 512) (l : Fin 1024) : iblk m c 3 t (ix2 r l) = A4 m c (ix2 (row t r) l) := by
  blk_point [iblk, V, idx_val t]

theorem blk4 (c : Dev nD) (t : Fin cfg0.N) (r : Fin 1) (l : Fin 1024) : iblk m c 4 t (ix2 r l) = A3 m c (ix1 l) := by
  blk_simp [iblk, idx_val t]
  rw [emb4]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  pointwise

section Tile

variable (c : Dev nD) (t : Fin cfg0.N)

theorem pay3 (r : Fin 512) (l : Fin 1024) : (k0_pay3 (iblk m c 0 t) (iblk m c 1 t) (iblk m c 2 t)) (ix2 r l) = rows (A0 m c) (A1 m c) (A2 m c) (row t r) l := by
  pointwise [k0_pay3]
  simp only [blk0, blk1, blk2, Pad.sum_lay]
  rw [add_comm, mul_comm]
  rfl

theorem pay5 (r : Fin 512) (l : Fin 1) : (k0_pay5 (iblk m c 0 t) (iblk m c 1 t) (iblk m c 2 t)) (ix2 r l) = Rms.inv wide (rows (A0 m c) (A1 m c) (A2 m c) (row t r)) := by
  pointwise [k0_pay5]; simp only [pay3]; rfl

theorem pay6 (r : Fin 512) (l : Fin 1024) : (k0_pay6 (iblk m c 0 t) (iblk m c 1 t) (iblk m c 2 t)
      (iblk m c 3 t) (iblk m c 4 t)) (ix2 r l) = err (A0 m c) (A1 m c) (A2 m c) (A3 m c) (A4 m c) (row t r) l := by
  pointwise [k0_pay6, k0_pay4]
  rw [pay3, pay5, blk3, blk4]
  rfl

theorem pay8 (r : Fin 512) (l : Fin 1024) : k0_pay8 (k0_pay6 (iblk m c 0 t) (iblk m c 1 t) (iblk m c 2 t)
      (iblk m c 3 t) (iblk m c 4 t)) (ix2 r l) = ct (A0 m c) (A1 m c) (A2 m c) (A3 m c) (A4 m c) (row t r) l := by
  pointwise [k0_pay8]
  rw [pay6]
  exact ct_eq _

/-- The gradient at the rows. -/
abbrev D : Fin 8192 → Fin 1024 → EReal := dx (A0 m c) (A1 m c) (A2 m c) (A3 m c) (A4 m c)

theorem pay9 (r : Fin 512) (l : Fin 1024) : k0_pay9 (k0_pay3 (iblk m c 0 t) (iblk m c 1 t) (iblk m c 2 t)) (k0_pay4 (iblk m c 4 t)) (k0_pay5 (iblk m c 0 t) (iblk m c 1 t) (iblk m c 2 t)) (k0_pay6 (iblk m c 0 t) (iblk m c 1 t) (iblk m c 2 t)
      (iblk m c 3 t) (iblk m c 4 t)) (ix2 r l) = D m c (row t r) l := by
  pointwise [k0_pay9, k0_pay4]
  simp only [pay8, pay5, pay3, blk4]
  rfl

theorem pay10 (l : Fin 1024) (r : Fin 512) : k0_pay10 (k0_pay3 (iblk m c 0 t) (iblk m c 1 t) (iblk m c 2 t)) (k0_pay4 (iblk m c 4 t)) (k0_pay5 (iblk m c 0 t) (iblk m c 1 t) (iblk m c 2 t)) (k0_pay6 (iblk m c 0 t) (iblk m c 1 t) (iblk m c 2 t)
      (iblk m c 3 t) (iblk m c 4 t)) (ix2 l r) = D m c (row t r) l := by
  pointwise [k0_pay10]
  rw [pay9]

theorem zero7 (j : S1x128.Idx) : (k0_pay1 (F := Ideal)) j = 0 := by pointwise [k0_pay1]
theorem zero8 (j : S1x1024.Idx) : (k0_pay2 (F := Ideal)) j = 0 := by pointwise [k0_pay2]

/-- One tile's parts of the two sums. -/
abbrev part7 : EReal :=
  (∑ k : Fin 512, ∑ l, err (A0 m c) (A1 m c) (A2 m c) (A3 m c) (A4 m c) (row t k) l * err (A0 m c) (A1 m c) (A2 m c) (A3 m c) (A4 m c) (row t k) l) * Ideal.ofBits .f32 973078528#32
abbrev part8 (l : Fin 1024) : EReal :=
  ∑ k : Fin 512, ct (A0 m c) (A1 m c) (A2 m c) (A3 m c) (A4 m c) (row t k) l * rows (A0 m c) (A1 m c) (A2 m c) (row t k) l * Rms.inv wide (rows (A0 m c) (A1 m c) (A2 m c) (row t k))

theorem step7 (a : Vec Ideal S1x128 .f32) (r : Fin 1) (l : Fin 128) :
    k0_pay11 (k0_pay7 (iblk m c 0 t) (iblk m c 1 t) (iblk m c 2 t) (iblk m c 3 t) (iblk m c 4 t)) a (ix2 r l) = a (ix2 r l) + part7 m c t := by
  pointwise [k0_pay11, k0_pay7]
  simp only [pay6]

theorem step8 (a : Vec Ideal S1x1024 .f32) (r : Fin 1) (l : Fin 1024) :
    k0_pay12 (k0_pay3 (iblk m c 0 t) (iblk m c 1 t) (iblk m c 2 t)) (k0_pay5 (iblk m c 0 t) (iblk m c 1 t) (iblk m c 2 t)) (k0_pay6 (iblk m c 0 t) (iblk m c 1 t) (iblk m c 2 t)
      (iblk m c 3 t) (iblk m c 4 t)) a (ix2 r l) = a (ix2 r l) + part8 m c t l := by
  pointwise [k0_pay12]
  simp only [pay8, pay5, pay3]

end Tile

theorem final5 (c : Dev nD) : (dats m 0 c).arrAt 5 cfg0.N = res5 (D m c) := by
  refine (dats m 0 c).arrAt_eq_of_covers 5 _ (by decide +kernel) fun t hf y => ?_
  blk_simp
  rw [after0_5]
  by_cases h : t.val % 16 = 0
  · rw [outsAt0_A m c t h]; frame_out; idx_vars y; rw [emb5, pay9]; rfl
  · rw [outsAt0_B m c t h]; frame_out; idx_vars y; rw [emb5, pay9]; rfl

theorem final6 (c : Dev nD) : (dats m 0 c).arrAt 6 cfg0.N = res6 (D m c) := by
  refine (dats m 0 c).arrAt_eq_of_covers 6 _ (by decide +kernel) fun t hf y => ?_
  blk_simp
  rw [after0_6]
  by_cases h : t.val % 16 = 0
  · rw [outsAt0_A m c t h]; frame_out; idx_vars y; rw [emb6, pay10]; rfl
  · rw [outsAt0_B m c t h]; frame_out; idx_vars y; rw [emb6, pay10]; rfl

/-- The tiles' parts together are the loss. -/
theorem total (c : Dev nD) : ∑ t : Fin cfg0.N, part7 m c t = half * ∑ r, Ideal.div (∑ l, err (A0 m c) (A1 m c) (A2 m c) (A3 m c) (A4 m c) r l
    * err (A0 m c) (A1 m c) (A2 m c) (A3 m c) (A4 m c) r l) wide := by
  have hn : ∀ r, 0 ≤ ∑ l, err (A0 m c) (A1 m c) (A2 m c) (A3 m c) (A4 m c) r l * err (A0 m c) (A1 m c) (A2 m c) (A3 m c) (A4 m c) r l := fun r =>
    Finset.sum_nonneg fun l _ => Rms.sq_nonneg _
  have hw : ∀ r, 0 ≤ Ideal.div (∑ l, err (A0 m c) (A1 m c) (A2 m c) (A3 m c) (A4 m c) r l * err (A0 m c) (A1 m c) (A2 m c) (A3 m c) (A4 m c) r l) wide := fun r => by
    rw [wide_real, Ideal.div_coe (by norm_num)]
    exact mul_nonneg (hn r) (by norm_num)
  rw [mul_comm half, sum_mul _ _ hw]
  refine (Finset.sum_congr rfl fun t _ => sum_mul _ _ (fun k => hn (row t k)) _).trans ?_
  exact Fin.sum_mul_add_congr fun s k hl => (share_eq _).trans (mul_comm _ _)

theorem final7 (c : Dev nD) : (dats m 0 c).arrAt 7 cfg0.N = res7 (A0 m c) (A1 m c) (A2 m c) (A3 m c) (A4 m c) := by
  refine (dats m 0 c).arrAt_eq_of_after_last 7 t0_15 (by decide +kernel) _ fun j => ?_
  blk_simp
  rw [after0_7]
  idx_vars j
  rw [Pipeline.eq_sum_fin_of_reset_step_apply_last (fun n h => (outsAt0 m c n h).2.2.1) 16 (fun _ => 0) (fun t _ => part7 m c t)
      (fun t h j => by rw [outsAt0_A m c t h]; frame_out; idx_vars j; rw [step7, zero7])
      (fun t h j => by rw [outsAt0_B m c t h]; frame_out; idx_vars j; rw [step7]) (le_of_eq N_0) t0_15 rfl _, zero_add]
  exact total m c

theorem final8 (c : Dev nD) : (dats m 0 c).arrAt 8 cfg0.N = res8 (A0 m c) (A1 m c) (A2 m c) (A3 m c) (A4 m c) := by
  refine (dats m 0 c).arrAt_eq_of_after_last 8 t0_15 (by decide +kernel) _ fun j => ?_
  blk_simp
  rw [after0_8]
  idx_vars j
  rw [Pipeline.eq_sum_fin_of_reset_step_apply_last (fun n h => (outsAt0 m c n h).2.2.2) 16 (fun _ => 0) (fun t j => part8 m c t (j 1))
      (fun t h j => by rw [outsAt0_A m c t h]; frame_out; idx_vars j; rw [step8, zero8])
      (fun t h j => by rw [outsAt0_B m c t h]; frame_out; idx_vars j; rw [step8]) (le_of_eq N_0) t0_15 rfl _, zero_add]
  refine Fin.sum_mul_add_congr fun s k hl => ?_
  exact (mul_assoc (ct (A0 m c) (A1 m c) (A2 m c) (A3 m c) (A4 m c) (row s k) j1) _ _).trans (mul_comm _ _)

end Cert.Kernel10Ideal.Value

end
-- ==== Proof.LossRef.lean ====
module

public import proofs.«01_k».proof.Proof.Loss
public import proofs.«01_k».proof.Proof.Gen.Reference10Ideal.Run
public import Idealize.ShloMosaic.Lib.Pipeline.ValueKit
public import Idealize.ShloMosaic.Lib.Tactic.CleanTypes

/-! The loss and its gradient through the last norm, behind the last product: what the reference's arrays hold after the run. -/

@[expose] public section

set_option maxRecDepth 16384

noncomputable section

namespace Cert.Reference10Ideal.Value

open Cert.Reference10Ideal Cert.Reference10Ideal.Gen Idealize.ShloMosaic Idealize.ShloMosaic.TcCoe Idealize.SL.Sem
open Cert.Kernel10Ideal.Value (wide half two err ct rows scaled dx res5 res6 res7 res8)

variable (m : (ℓ : Loc nD τ sig) → Buf (Elt Ideal) ℓ)

abbrev A0 (c : Dev nD) : Vec Ideal S8192x2816 .f32 := m ((c : Thread nD τ).loc main_arg0)
abbrev A1 (c : Dev nD) : Vec Ideal S1x2816x1024 .f32 := m ((c : Thread nD τ).loc main_arg1)
abbrev A2 (c : Dev nD) : Vec Ideal S8192x1024 .f32 := m ((c : Thread nD τ).loc main_arg2)
abbrev A3 (c : Dev nD) : Vec Ideal S1024 .f32 := m ((c : Thread nD τ).loc main_arg3)
abbrev A4 (c : Dev nD) : Vec Ideal S8192x1024 .f32 := m ((c : Thread nD τ).loc main_arg4)

/-- The gradient at the rows is the one written by hand. -/
theorem chain (z : Vec Ideal S8192x2816 .f32) (W : Vec Ideal S1x2816x1024 .f32) (x : Vec Ideal S8192x1024 .f32) (g : Vec Ideal S1024 .f32)
    (t : Vec Ideal S8192x1024 .f32) (r : Fin 8192) (l : Fin 1024) :
    scaled z W x g t r l * Rms.inv wide (rows z W x r) + rows z W x r l * (∑ _k : Fin 1, Rms.dmsq wide (rows z W x r) (scaled z W x g t r))
      + (∑ _k : Fin 1, Rms.dmsq wide (rows z W x r) (scaled z W x g t r)) * rows z W x r l = dx z W x g t r l := by
  unfold dx wide
  rw [Rms.one_k_bits, Rms.gradK_eq _ (by norm_num)]
  rfl

theorem holds5 (c : Dev nD) : res_main_v55 m c = res5 (dx (A0 m c) (A1 m c) (A2 m c) (A3 m c) (A4 m c)) := by
  funext j
  idx_vars j
  unfold res_main_v55
  clean_types
  pointwise
  exact chain (A0 m c) (A1 m c) (A2 m c) (A3 m c) (A4 m c) j0 j1

theorem holds6 (c : Dev nD) : res_main_v57 m c = res6 (dx (A0 m c) (A1 m c) (A2 m c) (A3 m c) (A4 m c)) := by
  funext j
  idx_vars j
  unfold res_main_v57
  clean_types
  pointwise
  exact chain (A0 m c) (A1 m c) (A2 m c) (A3 m c) (A4 m c) j1 j0

/-- What the reference's run leaves in its four results. -/
theorem run_holds (ρ : Dev nD → PrngReg) : θ_run defs (onTc (τ := τ) (main (F := Ideal))) ⟨m, fun _ => 0, ρ⟩ fun r => ∀ c : Dev nD,
    r.2.mem ((c : Thread nD τ).loc main_v55) = res5 (dx (A0 m c) (A1 m c) (A2 m c) (A3 m c) (A4 m c))
    ∧ r.2.mem ((c : Thread nD τ).loc main_v57) = res6 (dx (A0 m c) (A1 m c) (A2 m c) (A3 m c) (A4 m c))
    ∧ r.2.mem ((c : Thread nD τ).loc main_v58) = res7 (A0 m c) (A1 m c) (A2 m c) (A3 m c) (A4 m c)
    ∧ r.2.mem ((c : Thread nD τ).loc main_v59) = res8 (A0 m c) (A1 m c) (A2 m c) (A3 m c) (A4 m c)
    ∧ A0 r.2.mem c = A0 m c ∧ A1 r.2.mem c = A1 m c ∧ A2 r.2.mem c = A2 m c ∧ A3 r.2.mem c = A3 m c ∧ A4 r.2.mem c = A4 m c :=
  (θ_run _ _ _).mono (fun r h c => by
    obtain ⟨h5, h6, h7, h8, hk⟩ := h c
    refine ⟨h5.trans (holds5 m c), h6.trans (holds6 m c), h7.trans ?_, h8.trans ?_, hk⟩
    · funext j
      idx_vars j
      clean_types
      pointwise
      exact congrArg (half * ·) (Finset.sum_congr rfl fun r _ => rfl)
    · funext j
      idx_vars j
      clean_types
      pointwise
      refine (Fin.sum_univ_one _).trans ?_
      exact Finset.sum_congr rfl fun r _ => rfl) (run m ρ)

end Cert.Reference10Ideal.Value

end
-- ==== Proof.LossClaim.lean ====
module

public import proofs.«01_k».proof.Defs
public import proofs.«01_k».proof.Proof.LossRef

/-! The two programs of the loss leave equal arrays. -/

@[expose] public section

noncomputable section

namespace Cert.Loss

open Idealize.ShloMosaic Idealize.ShloMosaic.TcCoe Idealize.SL.Sem

theorem frame : quiescent_Reference10Ideal := fun m g _ =>
  (θ_run _ _ _).mono (fun r h => ⟨fun c => (h c).2.2.2.2, sem_eq_zero_of_no_sems (by decide) r.2⟩) (Reference10Ideal.Value.run_holds m g)

theorem algebraic : algebraic_Kernel10Ideal_Reference10Ideal := by
  intro m g m' g' _ hm
  refine ⟨fun c => (Kernel10Ideal.Gen.dats m 0 c).arrAt 5 _, fun c => (Kernel10Ideal.Gen.dats m 0 c).arrAt 6 _,
    fun c => (Kernel10Ideal.Gen.dats m 0 c).arrAt 7 _,
    fun c => (Kernel10Ideal.Gen.dats m 0 c).arrAt 8 _,
    Kernel10Ideal.Value.run_blocks m g, ?_⟩
  refine (θ_run _ _ _).mono (fun r h c => ?_) (Reference10Ideal.Value.run_holds m' g')
  obtain ⟨h5, h6, h7, h8, hk⟩ := h c
  obtain ⟨a0, a1, a2, a3, a4⟩ := hm c
  replace a0 : Reference10Ideal.Value.A0 m' c = Kernel10Ideal.Value.A0 m c := a0
  replace a1 : Reference10Ideal.Value.A1 m' c = Kernel10Ideal.Value.A1 m c := a1
  replace a2 : Reference10Ideal.Value.A2 m' c = Kernel10Ideal.Value.A2 m c := a2
  replace a3 : Reference10Ideal.Value.A3 m' c = Kernel10Ideal.Value.A3 m c := a3
  replace a4 : Reference10Ideal.Value.A4 m' c = Kernel10Ideal.Value.A4 m c := a4
  simp only [a0, a1, a2, a3, a4] at h5 h6 h7 h8
  exact ⟨h5.trans (Kernel10Ideal.Value.final5 m c).symm, h6.trans (Kernel10Ideal.Value.final6 m c).symm,
    h7.trans (Kernel10Ideal.Value.final7 m c).symm, h8.trans (Kernel10Ideal.Value.final8 m c).symm, hk⟩

end Cert.Loss

end
-- ==== Proof.Ffndh.lean ====
module

public import proofs.«01_k».proof.Proof.Rms
public import proofs.«01_k».proof.Proof.Pad
public import proofs.«01_k».proof.Proof.Gen.Kernel8Ideal.Value
public import proofs.«01_k».proof.Proof.Gen.Reference8Ideal.Run
public import Idealize.ShloMosaic.Lib.Pipeline.ValueKit
public import Idealize.ShloMosaic.Lib.Tactic.CleanTypes

/-! The gradient of the feed-forward layer's norm, behind the products with its two input matrices: what the two programs' arrays hold after the run. -/

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1149239296#32

section Spec

variable (x : Vec Ideal S8192x1024 .f32) (g : Vec Ideal S1x1024 .f32) (W V : Vec Ideal S1x1024x2816 .f32) (da db : Vec Ideal S8192x2816 .f32)
  (dr : Vec Ideal S8192x1024 .f32)

/-- The cotangent of the norm's result: the two products' cotangents times the weights' transposes. -/
def ct (r : Fin 8192) (l : Fin 1024) : EReal := ∑ k, da (ix2 r k) * W (ix3 0 l k) + ∑ k, db (ix2 r k) * V (ix3 0 l k)

/-- The rows the norm takes. -/
def rows (r : Fin 8192) (l : Fin 1024) : EReal := x (ix2 r l)

/-- The cotangent times the norm's factor. -/
def scaled (r : Fin 8192) (l : Fin 1024) : EReal := ct W V da db r l * g (ix2 0 l)

/-- The gradient at the rows: what reaches them past the norm, and through it. -/
def dx (r : Fin 8192) (l : Fin 1024) : EReal := dr (ix2 r l) + Rms.gradK wide (rows x r) (scaled g W V da db r) l

/-- The two results. -/
def res7 : Vec Ideal S8192x1024 .f32 := fun j => dx x g W V da db dr (j 0) (j 1)
def res8 : Vec Ideal S1x1024 .f32 := fun j => ∑ r : Fin 8192, ct W V da db r (j 1) * rows x r (j 1) * Rms.inv wide (rows x r)

end Spec

abbrev A0 (c : Dev nD) : Vec Ideal S8192x1024 .f32 := m ((c : Thread nD τ).loc main_arg0)
abbrev A1 (c : Dev nD) : Vec Ideal S1x1024 .f32 := m ((c : Thread nD τ).loc main_arg1)
abbrev A2 (c : Dev nD) : Vec Ideal S1x1024x2816 .f32 := m ((c : Thread nD τ).loc main_arg2)
abbrev A3 (c : Dev nD) : Vec Ideal S1x1024x2816 .f32 := m ((c : Thread nD τ).loc main_arg3)
abbrev A4 (c : Dev nD) : Vec Ideal S8192x2816 .f32 := m ((c : Thread nD τ).loc main_arg4)
abbrev A5 (c : Dev nD) : Vec Ideal S8192x2816 .f32 := m ((c : Thread nD τ).loc main_arg5)
abbrev A6 (c : Dev nD) : Vec Ideal S8192x1024 .f32 := m ((c : Thread nD τ).loc main_arg6)

/-- Row `r` of tile `t`. -/
abbrev row (t : Fin cfg0.N) (r : Fin 512) : Fin 8192 := ⟨t.val * 512 + r.val, by have : t.val < 16 := t.isLt; omega⟩

theorem idx_val : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] := (by decide +kernel : ∀ t : Fin grid0.N, _)

theorem emb0 (t : Fin cfg0.N) (r : Fin 512) (l : Fin 3072) :
    ((View.whole main_v3).slice (win0_0.rect t)).emb (ix2 r l) = ix2 (row t r) l := by blk_ext [idx_val t]

theorem emb1 (t : Fin cfg0.N) (r : Fin 512) (l : Fin 3072) :
    ((View.whole main_v7).slice (win0_1.rect t)).emb (ix2 r l) = ix2 (row t r) l := by blk_ext [idx_val t]

theorem emb2 (t : Fin cfg0.N) (r : Fin 3072) (l : Fin 1024) :
    ((View.whole main_v13).slice (win0_2.rect t)).emb (ix2 r l) = ix2 r l := by blk_ext [idx_val t]

theorem emb3 (t : Fin cfg0.N) (r : Fin 3072) (l : Fin 1024) :
    ((View.whole main_v19).slice (win0_3.rect t)).emb (ix2 r l) = ix2 r l := by blk_ext [idx_val t]

theorem emb7 (t : Fin cfg0.N) (r : Fin 512) (l : Fin 1024) :
    ((View.whole main_v20_0).slice (win0_7.rect t)).emb (ix2 r l) = ix2 (row t r) l := by blk_ext [idx_val t]

/-- The host's layouts, at an entry. -/
theorem laid_cols (x : Vec Ideal S8192x2816 .f32) (r : Fin 8192) (k : Fin 3072) :
    shapeCast S8192x3072 (pad S8192x4x768 ![0, 0, 0] ![0, 0, 64] ![0, 0, 0] (shapeCast S8192x4x704 x shapeCasts_S8192x2816_S8192x4x704)
      (sitofp (F := Ideal) .f32 (constantI S_ 32 0#32)) pads_S8192x4x704_S8192x4x768_000_000_0640 h_S_) shapeCasts_S8192x4x768_S8192x3072 (ix2 r k)
      = Pad.lay (fun j => x (ix2 r j)) k := Pad.cols x _ _ _ _ _ Pad.int_zero r k

theorem laid_rows (x : Vec Ideal S1x1024x2816 .f32) (k : Fin 3072) (l : Fin 1024) :
    shapeCast S3072x1024 (pad S4x768x1024 ![0, 0, 0] ![0, 64, 0] ![0, 0, 0] (shapeCast S4x704x1024
      (transpose S2816x1024 [1, 0] (shapeCast S1024x2816 x shapeCasts_S1x1024x2816_S1024x2816) transposes_S1024x2816_S2816x1024_1_0)
      shapeCasts_S2816x1024_S4x704x1024) (sitofp (F := Ideal) .f32 (constantI S_ 32 0#32)) pads_S4x704x1024_S4x768x1024_000_0640_000 h_S_)
      shapeCasts_S4x768x1024_S3072x1024 (ix2 k l) = Pad.lay (fun j => x (ix3 0 l j)) k := by
  refine (Pad.rows _ _ _ _ _ _ Pad.int_zero k l).trans ?_
  exact congrArg (fun f => Pad.lay f k) (funext fun j => by pointwise)

theorem blk0 (c : Dev nD) (t : Fin cfg0.N) (r : Fin 512) (k : Fin 3072) :
    iblk m c 0 t (ix2 r k) = Pad.lay (fun j => A4 m c (ix2 (row t r) j)) k := by
  blk_simp [iblk, idx_val t]
  rw [emb0]
  change StableHlo.after (List.flatten [hostOps0, hostOps0_1, hostOps0_2, hostOps0_3, hostOps0_4, hostOps0_5, hostOps0_6, hostOps0_7, hostOps0_8]) _ _ _ = _
  simp only [hostOps0, hostOps0_1, hostOps0_2, hostOps0_3, hostOps0_4, hostOps0_5, hostOps0_6, hostOps0_7, hostOps0_8, List.flatten_cons, List.flatten_nil,
    List.cons_append, List.nil_append, List.append_nil]
  entry_read
  exact laid_cols (A4 m c) (row t r) k

theorem blk1 (c : Dev nD) (t : Fin cfg0.N) (r : Fin 512) (k : Fin 3072) :
    iblk m c 1 t (ix2 r k) = Pad.lay (fun j => A5 m c (ix2 (row t r) j)) k := by
  blk_simp [iblk, idx_val t]
  rw [emb1]
  change StableHlo.after (List.flatten [hostOps0, hostOps0_1, hostOps0_2, hostOps0_3, hostOps0_4, hostOps0_5, hostOps0_6, hostOps0_7, hostOps0_8]) _ _ _ = _
  simp only [hostOps0, hostOps0_1, hostOps0_2, hostOps0_3, hostOps0_4, hostOps0_5, hostOps0_6, hostOps0_7, hostOps0_8, List.flatten_cons, List.flatten_nil,
    List.cons_append, List.nil_append, List.append_nil]
  entry_read
  exact laid_cols (A5 m c) (row t r) k

theorem blk2 (c : Dev nD) (t : Fin cfg0.N) (k : Fin 3072) (l : Fin 1024) :
    iblk m c 2 t (ix2 k l) = Pad.lay (fun j => A2 m c (ix3 0 l j)) k := by
  blk_simp [iblk, idx_val t]
  rw [emb2]
  change StableHlo.after (List.flatten [hostOps0, hostOps0_1, hostOps0_2, hostOps0_3, hostOps0_4, hostOps0_5, hostOps0_6, hostOps0_7, hostOps0_8]) _ _ _ = _
  simp only [hostOps0, hostOps0_1, hostOps0_2, hostOps0_3, hostOps0_4, hostOps0_5, hostOps0_6, hostOps0_7, hostOps0_8, List.flatten_cons, List.flatten_nil,
    List.cons_append, List.nil_append, List.append_nil]
  entry_read
  exact laid_rows (A2 m c) k l

theorem blk3 (c : Dev nD) (t : Fin cfg0.N) (k : Fin 3072) (l : Fin 1024) :
    iblk m c 3 t (ix2 k l) = Pad.lay (fun j => A3 m c (ix3 0 l j)) k := by
  blk_simp [iblk, idx_val t]
  rw [emb3]
  change StableHlo.after (List.flatten [hostOps0, hostOps0_1, hostOps0_2, hostOps0_3, hostOps0_4, hostOps0_5, hostOps0_6, hostOps0_7, hostOps0_8]) _ _ _ = _
  simp only [hostOps0, hostOps0_1, hostOps0_2, hostOps0_3, hostOps0_4, hostOps0_5, hostOps0_6, hostOps0_7, hostOps0_8, List.flatten_cons, List.flatten_nil,
    List.cons_append, List.nil_append, List.append_nil]
  entry_read
  exact laid_rows (A3 m c) k l

theorem blk4 (c : Dev nD) (t : Fin cfg0.N) (r : Fin 512) (l : Fin 1024) : iblk m c 4 t (ix2 r l) = rows (A0 m c) (row t r) l := by
  unfold rows; blk_point [iblk, V, idx_val t]

theorem blk5 (c : Dev nD) (t : Fin cfg0.N) (r : Fin 1) (l : Fin 1024) : iblk m c 5 t (ix2 r l) = A1 m c (ix2 0 l) := by
  blk_point [iblk, V, idx_val t]

theorem blk6 (c : Dev nD) (t : Fin cfg0.N) (r : Fin 512) (l : Fin 1024) : iblk m c 6 t (ix2 r l) = A6 m c (ix2 (row t r) l) := by
  blk_point [iblk, V, idx_val t]

section Tile

variable (c : Dev nD) (t : Fin cfg0.N)

theorem pay4 (r : Fin 512) (l : Fin 1024) : k0_pay4 (iblk m c 0 t) (iblk m c 2 t) (iblk m c 1 t) (iblk m c 3 t) (ix2 r l) = ct (A2 m c) (A3 m c) (A4 m c) (A5 m c) (row t r) l := by
  pointwise [k0_pay4]; simp only [blk0, blk1, blk2, blk3, Pad.sum_lay]; rfl

theorem pay5 (r : Fin 512) (l : Fin 1) : k0_pay5 (iblk m c 4 t) (ix2 r l) = Rms.inv wide (rows (A0 m c) (row t r)) := by
  pointwise [k0_pay5]; simp only [blk4]; rfl

theorem pay6 (r : Fin 512) (l : Fin 1024) :
    k0_pay6 (iblk m c 0 t) (iblk m c 2 t) (iblk m c 1 t) (iblk m c 3 t) (iblk m c 5 t) (ix2 r l) = scaled (A1 m c) (A2 m c) (A3 m c) (A4 m c) (A5 m c) (row t r) l := by
  pointwise [k0_pay6]; rw [pay4, blk5]; rfl

theorem pay1 (r : Fin 512) (l : Fin 1024) :
    k0_pay1 (iblk m c 6 t) (k0_pay7 (iblk m c 0 t) (iblk m c 2 t) (iblk m c 1 t) (iblk m c 3 t) (iblk m c 4 t) (iblk m c 5 t))
      (k0_pay8 (iblk m c 4 t)) (k0_pay9 (iblk m c 0 t) (iblk m c 2 t) (iblk m c 1 t) (iblk m c 3 t) (iblk m c 4 t) (iblk m c 5 t)) (ix2 r l)
      = dx (A0 m c) (A1 m c) (A2 m c) (A3 m c) (A4 m c) (A5 m c) (A6 m c) (row t r) l := by
  pointwise [k0_pay1, k0_pay7, k0_pay8, k0_pay9]
  simp only [pay5, pay6, blk4, blk6]
  rfl

theorem zero8 (j : S1x1024.Idx) : (k0_pay3 (F := Ideal)) j = 0 := by pointwise [k0_pay3]

/-- One tile's part of the second result. -/
abbrev part8 (l : Fin 1024) : EReal :=
  ∑ k : Fin 512, ct (A2 m c) (A3 m c) (A4 m c) (A5 m c) (row t k) l * rows (A0 m c) (row t k) l * Rms.inv wide (rows (A0 m c) (row t k))

theorem step8 (a : Vec Ideal S1x1024 .f32) (r : Fin 1) (l : Fin 1024) :
    k0_pay2 (k0_pay4 (iblk m c 0 t) (iblk m c 2 t) (iblk m c 1 t) (iblk m c 3 t)) (iblk m c 4 t) (k0_pay5 (iblk m c 4 t)) a (ix2 r l)
      = a (ix2 r l) + part8 m c t l := by
  pointwise [k0_pay2]
  simp only [pay4, pay5, blk4]

end Tile

theorem final7 (c : Dev nD) : (dats m 0 c).arrAt 7 cfg0.N = res7 (A0 m c) (A1 m c) (A2 m c) (A3 m c) (A4 m c) (A5 m c) (A6 m c) := by
  refine (dats m 0 c).arrAt_eq_of_covers 7 _ (by decide +kernel) fun t hf y => ?_
  blk_simp
  rw [after0_7]
  by_cases h : t.val % 16 = 0
  · rw [outsAt0_A m c t h]; frame_out; idx_vars y; rw [emb7, pay1]; rfl
  · rw [outsAt0_B m c t h]; frame_out; idx_vars y; rw [emb7, pay1]; rfl

theorem final8 (c : Dev nD) : (dats m 0 c).arrAt 8 cfg0.N = res8 (A0 m c) (A2 m c) (A3 m c) (A4 m c) (A5 m c) := by
  refine (dats m 0 c).arrAt_eq_of_after_last 8 t0_15 (by decide +kernel) _ fun j => ?_
  blk_simp
  rw [after0_8]
  idx_vars j
  rw [Pipeline.eq_sum_fin_of_reset_step_apply_last (fun n h => (outsAt0 m c n h).2) 16 (fun _ => 0) (fun t j => part8 m c t (j 1))
      (fun t h j => by rw [outsAt0_A m c t h]; frame_out; idx_vars j; rw [step8, zero8])
      (fun t h j => by rw [outsAt0_B m c t h]; frame_out; idx_vars j; rw [step8]) (le_of_eq N_0) t0_15 rfl _, zero_add]
  refine Fin.sum_mul_add_congr fun s k hl => ?_
  rfl

end Cert.Kernel8Ideal.Value

namespace Cert.Reference8Ideal.Value

open Cert.Reference8Ideal Cert.Reference8Ideal.Gen Idealize.ShloMosaic Idealize.ShloMosaic.TcCoe Idealize.SL.Sem
open Cert.Kernel8Ideal.Value (wide ct rows scaled dx res7 res8)

variable (m : (ℓ : Loc nD τ sig) → Buf (Elt Ideal) ℓ)

abbrev A0 (c : Dev nD) : Vec Ideal S8192x1024 .f32 := m ((c : Thread nD τ).loc main_arg0)
abbrev A1 (c : Dev nD) : Vec Ideal S1x1024 .f32 := m ((c : Thread nD τ).loc main_arg1)
abbrev A2 (c : Dev nD) : Vec Ideal S1x1024x2816 .f32 := m ((c : Thread nD τ).loc main_arg2)
abbrev A3 (c : Dev nD) : Vec Ideal S1x1024x2816 .f32 := m ((c : Thread nD τ).loc main_arg3)
abbrev A4 (c : Dev nD) : Vec Ideal S8192x2816 .f32 := m ((c : Thread nD τ).loc main_arg4)
abbrev A5 (c : Dev nD) : Vec Ideal S8192x2816 .f32 := m ((c : Thread nD τ).loc main_arg5)
abbrev A6 (c : Dev nD) : Vec Ideal S8192x1024 .f32 := m ((c : Thread nD τ).loc main_arg6)

/-- The gradient at the rows is the one written by hand. -/
theorem chain (d : EReal) (x w : Fin 1024 → EReal) (l : Fin 1024) :
    d + w l * Rms.inv wide x + x l * (∑ _k : Fin 1, Rms.dmsq wide x w) + (∑ _k : Fin 1, Rms.dmsq wide x w) * x l
      = d + Rms.gradK wide x w l := by
  unfold wide
  rw [Rms.one_k_bits, Rms.gradK_eq _ (by norm_num), add_assoc, add_assoc]
  unfold Rms.gradR
  rw [add_assoc (w l * _)]

theorem ct_comm (W V : Vec Ideal S1x1024x2816 .f32) (da db : Vec Ideal S8192x2816 .f32) (r : Fin 8192) (l : Fin 1024) :
    ∑ k, db (ix2 r k) * V (ix3 0 l k) + ∑ k, da (ix2 r k) * W (ix3 0 l k) = ct W V da db r l := add_comm _ _

theorem holds7 (c : Dev nD) : res_main_v41 m c = res7 (A0 m c) (A1 m c) (A2 m c) (A3 m c) (A4 m c) (A5 m c) (A6 m c) := by
  funext j
  idx_vars j
  unfold res_main_v41
  clean_types
  pointwise
  simp only [ct_comm (A2 m c) (A3 m c) (A4 m c) (A5 m c)]
  exact chain (A6 m c (ix2 j0 j1)) (rows (A0 m c) j0) (scaled (A1 m c) (A2 m c) (A3 m c) (A4 m c) (A5 m c) j0) j1

/-- What the reference's run leaves in its two results. -/
theorem run_holds (ρ : Dev nD → PrngReg) : θ_run defs (onTc (τ := τ) (main (F := Ideal))) ⟨m, fun _ => 0, ρ⟩ fun r => ∀ c : Dev nD,
    r.2.mem ((c : Thread nD τ).loc main_v41) = res7 (A0 m c) (A1 m c) (A2 m c) (A3 m c) (A4 m c) (A5 m c) (A6 m c)
    ∧ r.2.mem ((c : Thread nD τ).loc main_v24) = res8 (A0 m c) (A2 m c) (A3 m c) (A4 m c) (A5 m c)
    ∧ A0 r.2.mem c = A0 m c ∧ A1 r.2.mem c = A1 m c ∧ A2 r.2.mem c = A2 m c ∧ A3 r.2.mem c = A3 m c ∧ A4 r.2.mem c = A4 m c
    ∧ A5 r.2.mem c = A5 m c ∧ A6 r.2.mem c = A6 m c :=
  (θ_run _ _ _).mono (fun r h c => by
    obtain ⟨h7, h8, hk⟩ := h c
    refine ⟨h7.trans (holds7 m c), h8.trans ?_, hk⟩
    funext j
    idx_vars j
    clean_types
    pointwise
    simp only [ct_comm (A2 m c) (A3 m c) (A4 m c) (A5 m c)]
    exact Finset.sum_congr rfl fun r _ => (mul_comm _ _).trans (mul_assoc _ _ _).symm) (run m ρ)

end Cert.Reference8Ideal.Value

end
-- ==== Proof.FfndhClaim.lean ====
module

public import proofs.«01_k».proof.Defs
public import proofs.«01_k».proof.Proof.Ffndh

/-! The two programs of the feed-forward layer's norm's gradient leave equal arrays. -/

@[expose] public section

noncomputable section

namespace Cert.Ffndh

open Idealize.ShloMosaic Idealize.ShloMosaic.TcCoe Idealize.SL.Sem

theorem frame : quiescent_Reference8Ideal := fun m g _ =>
  (θ_run _ _ _).mono (fun r h => ⟨fun c => (h c).2.2, sem_eq_zero_of_no_sems (by decide) r.2⟩) (Reference8Ideal.Value.run_holds m g)

theorem algebraic : algebraic_Kernel8Ideal_Reference8Ideal := by
  intro m g m' g' _ hm
  refine ⟨fun c => (Kernel8Ideal.Gen.dats m 0 c).arrAt 7 _, fun c => (Kernel8Ideal.Gen.dats m 0 c).arrAt 8 _,
    Kernel8Ideal.Value.run_blocks m g, ?_⟩
  refine (θ_run _ _ _).mono (fun r h c => ?_) (Reference8Ideal.Value.run_holds m' g')
  obtain ⟨h7, h8, hk⟩ := h c
  obtain ⟨a0, a1, a2, a3, a4, a5, a6⟩ := hm c
  replace a0 : Reference8Ideal.Value.A0 m' c = Kernel8Ideal.Value.A0 m c := a0
  replace a1 : Reference8Ideal.Value.A1 m' c = Kernel8Ideal.Value.A1 m c := a1
  replace a2 : Reference8Ideal.Value.A2 m' c = Kernel8Ideal.Value.A2 m c := a2
  replace a3 : Reference8Ideal.Value.A3 m' c = Kernel8Ideal.Value.A3 m c := a3
  replace a4 : Reference8Ideal.Value.A4 m' c = Kernel8Ideal.Value.A4 m c := a4
  replace a5 : Reference8Ideal.Value.A5 m' c = Kernel8Ideal.Value.A5 m c := a5
  replace a6 : Reference8Ideal.Value.A6 m' c = Kernel8Ideal.Value.A6 m c := a6
  simp only [a0, a1, a2, a3, a4, a5, a6] at h7 h8
  exact ⟨h7.trans (Kernel8Ideal.Value.final7 m c).symm, h8.trans (Kernel8Ideal.Value.final8 m c).symm, hk⟩

end Cert.Ffndh

end
-- ==== Proof.Dglu.lean ====
module

public import proofs.«01_k».proof.Proof.Ln
public import proofs.«01_k».proof.Proof.Pad
public import proofs.«01_k».proof.Proof.Gen.Kernel7Ideal.Value
public import proofs.«01_k».proof.Proof.Gen.Reference7Ideal.Run
public import Idealize.ShloMosaic.Lib.Pipeline.ValueKit
public import Idealize.ShloMosaic.Lib.Tactic.CleanTypes

/-! The gradient of the feed-forward layer's gate, behind the product with its output matrix: what the two programs' arrays hold after the run. -/

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- One half, as written. -/
abbrev half : EReal := Ideal.ofBits .f32 1056964608#32

section Spec

variable (h : Vec Ideal S8192x1024 .f32) (U V : Vec Ideal S1x1024x2816 .f32) (W : Vec Ideal S1x2816x1024 .f32) (dx : Vec Ideal S8192x1024 .f32)

/-- A product of the layer's input with one of its two input matrices. -/
def gate (r : Fin 8192) (k : Fin 2816) : EReal := ∑ l, h (ix2 r l) * U (ix3 0 l k)

/-- The cotangent of the gated rows. -/
def ct (r : Fin 8192) (k : Fin 2816) : EReal := (∑ l, dx (ix2 r l) * W (ix3 0 k l)) * half

/-- The gradients at the two products. -/
def da (r : Fin 8192) (k : Fin 2816) : EReal :=
  ct W dx r k * gate h V r k
    * (Ideal.logistic (gate h U r k) * (1 + gate h U r k * (1 - Ideal.logistic (gate h U r k))))
def db (r : Fin 8192) (k : Fin 2816) : EReal := ct W dx r k * gate h U r k * Ideal.logistic (gate h U r k)

/-- A result: the gradient's rows, padded. -/
def res (d : Fin 8192 → Fin 2816 → EReal) : Vec Ideal S8192x3072 .bf16 := fun j => Pad.lay (d (j 0)) (j 1)

end Spec

abbrev A0 (c : Dev nD) : Vec Ideal S8192x1024 .f32 := m ((c : Thread nD τ).loc main_arg0)
abbrev A1 (c : Dev nD) : Vec Ideal S1x1024x2816 .f32 := m ((c : Thread nD τ).loc main_arg1)
abbrev A2 (c : Dev nD) : Vec Ideal S1x1024x2816 .f32 := m ((c : Thread nD τ).loc main_arg2)
abbrev A3 (c : Dev nD) : Vec Ideal S1x2816x1024 .f32 := m ((c : Thread nD τ).loc main_arg3)
abbrev A4 (c : Dev nD) : Vec Ideal S8192x1024 .f32 := m ((c : Thread nD τ).loc main_arg4)

/-- Row `r` of tile `t`. -/
abbrev row (t : Fin cfg0.N) (r : Fin 512) : Fin 8192 := ⟨t.val * 512 + r.val, by have : t.val < 16 := t.isLt; omega⟩

theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] := (by decide +kernel : ∀ t : Fin grid0.N, _)

theorem emb1 (t : Fin cfg0.N) (r : Fin 3072) (l : Fin 1024) :
    ((View.whole main_v21).slice (win0_1.rect t)).emb (ix2 r l) = ix2 r l := by blk_ext [idx_val t]

theorem emb2 (t : Fin cfg0.N) (r : Fin 512) (l : Fin 3072) :
    ((View.whole main_v8).slice (win0_2.rect t)).emb (ix2 r l) = ix2 (row t r) l := by blk_ext [idx_val t]

theorem emb3 (t : Fin cfg0.N) (r : Fin 512) (l : Fin 3072) :
    ((View.whole main_v16).slice (win0_3.rect t)).emb (ix2 r l) = ix2 (row t r) l := by blk_ext [idx_val t]

theorem emb4 (t : Fin cfg0.N) (r : Fin 512) (l : Fin 3072) :
    ((View.whole main_v22_0).slice (win0_4.rect t)).emb (ix2 r l) = ix2 (row t r) l := by blk_ext [idx_val t]

theorem emb5 (t : Fin cfg0.N) (r : Fin 512) (l : Fin 3072) :
    ((View.whole main_v22_1).slice (win0_5.rect t)).emb (ix2 r l) = ix2 (row t r) l := by blk_ext [idx_val t]

/-- The host's layouts, at an entry. -/
theorem laid_rows (x : Vec Ideal S2816x1024 .f32) (k : Fin 3072) (l : Fin 1024) :
    shapeCast S3072x1024 (pad S4x768x1024 ![0, 0, 0] ![0, 64, 0] ![0, 0, 0] (shapeCast S4x704x1024 x
      shapeCasts_S2816x1024_S4x704x1024) (sitofp (F := Ideal) .f32 (constantI S_ 32 0#32)) pads_S4x704x1024_S4x768x1024_000_0640_000 h_S_)
      shapeCasts_S4x768x1024_S3072x1024 (ix2 k l) = Pad.lay (fun j => x (ix2 j l)) k := Pad.rows x _ _ _ _ _ Pad.int_zero k l

/-- The two products, at an entry. -/
theorem laid_prod (h : Vec Ideal S8192x1024 .f32) (U : Vec Ideal S1x1024x2816 .f32) (r : Fin 8192) (k : Fin 3072) :
    Host.dotGeneral (F := Ideal) (φ₁ := .bf16) (φ₂ := .bf16) dot_S8192x1024_S3072x1024_S8192x3072_1_1_0_0_n_n none h (shapeCast S3072x1024 (pad S4x768x1024 ![0, 0, 0] ![0, 64, 0] ![0, 0, 0]
      (shapeCast S4x704x1024 (transpose S2816x1024 [1, 0] (shapeCast S1024x2816 U shapeCasts_S1x1024x2816_S1024x2816)
      transposes_S1024x2816_S2816x1024_1_0) shapeCasts_S2816x1024_S4x704x1024) (sitofp (F := Ideal) .f32 (constantI S_ 32 0#32))
      pads_S4x704x1024_S4x768x1024_000_0640_000 h_S_) shapeCasts_S4x768x1024_S3072x1024) (ix2 r k) = Pad.lay (gate h U r) k := by
  pointwise
  unfold gate
  rw [← Pad.lay_sum]
  refine Finset.sum_congr rfl fun l _ => congrArg (h (ix2 r l) * ·) ?_
  unfold Pad.lay
  by_cases hk : k.val % 768 < 704
  · rw [dif_pos ⟨by omega, hk⟩, dif_pos hk]
  · rw [dif_neg fun q => hk q.2, dif_neg hk]
    exact Pad.int_zero (fun a => a.elim0)

theorem blk0 (c : Dev nD) (t : Fin cfg0.N) (r : Fin 512) (l : Fin 1024) : iblk m c 0 t (ix2 r l) = A4 m c (ix2 (row t r) l) := by
  blk_point [iblk, V, idx_val t]

theorem blk1 (c : Dev nD) (t : Fin cfg0.N) (k : Fin 3072) (l : Fin 1024) :
    iblk m c 1 t (ix2 k l) = Pad.lay (fun j => A3 m c (ix3 0 j l)) k := by
  blk_simp [iblk, idx_val t]
  rw [emb1]
  change StableHlo.after (List.flatten [hostOps0, hostOps0_1, hostOps0_2, hostOps0_3, hostOps0_4, hostOps0_5, hostOps0_6]) _ _ _ = _
  simp only [hostOps0, hostOps0_1, hostOps0_2, hostOps0_3, hostOps0_4, hostOps0_5, hostOps0_6, List.flatten_cons, List.flatten_nil,
    List.cons_append, List.nil_append, List.append_nil]
  entry_read
  refine (laid_rows (shapeCast S2816x1024 (A3 m c) shapeCasts_S1x2816x1024_S2816x1024) k l).trans ?_
  exact congrArg (fun f => Pad.lay f k) (funext fun j => by pointwise)

theorem blk2 (c : Dev nD) (t : Fin cfg0.N) (r : Fin 512) (k : Fin 3072) :
    iblk m c 2 t (ix2 r k) = Pad.lay (gate (A0 m c) (A1 m c) (row t r)) k := by
  blk_simp [iblk, idx_val t]
  rw [emb2]
  change StableHlo.after (List.flatten [hostOps0, hostOps0_1, hostOps0_2, hostOps0_3, hostOps0_4, hostOps0_5, hostOps0_6]) _ _ _ = _
  simp only [hostOps0, hostOps0_1, hostOps0_2, hostOps0_3, hostOps0_4, hostOps0_5, hostOps0_6, List.flatten_cons, List.flatten_nil,
    List.cons_append, List.nil_append, List.append_nil]
  entry_read
  exact laid_prod (A0 m c) (A1 m c) (row t r) k

theorem blk3 (c : Dev nD) (t : Fin cfg0.N) (r : Fin 512) (k : Fin 3072) :
    iblk m c 3 t (ix2 r k) = Pad.lay (gate (A0 m c) (A2 m c) (row t r)) k := by
  blk_simp [iblk, idx_val t]
  rw [emb3]
  change StableHlo.after (List.flatten [hostOps0, hostOps0_1, hostOps0_2, hostOps0_3, hostOps0_4, hostOps0_5, hostOps0_6]) _ _ _ = _
  simp only [hostOps0, hostOps0_1, hostOps0_2, hostOps0_3, hostOps0_4, hostOps0_5, hostOps0_6, List.flatten_cons, List.flatten_nil,
    List.cons_append, List.nil_append, List.append_nil]
  entry_read
  exact laid_prod (A0 m c) (A2 m c) (row t r) k

section Tile

variable (c : Dev nD) (t : Fin cfg0.N)

/-- The cotangent's padded row is the padded row of the cotangent. -/
theorem pay1 (r : Fin 512) (k : Fin 3072) : k0_pay1 (iblk m c 0 t) (iblk m c 1 t) (ix2 r k) = Pad.lay (ct (A3 m c) (A4 m c) (row t r)) k := by
  pointwise [k0_pay1]
  simp only [blk0, blk1]
  rw [Pad.lay_sum]
  exact Pad.lay_map (· * half) (by simp) _ k

theorem pay4 (r : Fin 512) (k : Fin 3072) :
    k0_pay4 (iblk m c 0 t) (iblk m c 1 t) (iblk m c 2 t) (iblk m c 3 t) (ix2 r k) = Pad.lay (da (A0 m c) (A1 m c) (A2 m c) (A3 m c) (A4 m c) (row t r)) k := by
  pointwise [k0_pay4, k0_pay3, k0_pay2]
  simp only [pay1, blk2, blk3]
  exact Pad.lay_map₃ (fun d a b => d * b * (Ideal.logistic a * (1 + a * (1 - Ideal.logistic a)))) (by simp) _ _ _ k

theorem pay5 (r : Fin 512) (k : Fin 3072) :
    k0_pay5 (iblk m c 0 t) (iblk m c 1 t) (iblk m c 2 t) (ix2 r k) = Pad.lay (db (A0 m c) (A1 m c) (A3 m c) (A4 m c) (row t r)) k := by
  pointwise [k0_pay5, k0_pay3, k0_pay2]
  simp only [pay1, blk2]
  exact Pad.lay_map₃ (fun d a _ => d * a * Ideal.logistic a) (by simp) _ _ (fun _ => 0) k

end Tile

theorem final4 (c : Dev nD) : (dats m 0 c).arrAt 4 cfg0.N = res (da (A0 m c) (A1 m c) (A2 m c) (A3 m c) (A4 m c)) := by
  refine (dats m 0 c).arrAt_eq_of_covers 4 _ (by decide +kernel) fun t hf y => ?_
  blk_simp
  rw [after0_4]
  frame_out; idx_vars y; rw [emb4, pay4]; rfl

theorem final5 (c : Dev nD) : (dats m 0 c).arrAt 5 cfg0.N = res (db (A0 m c) (A1 m c) (A3 m c) (A4 m c)) := by
  refine (dats m 0 c).arrAt_eq_of_covers 5 _ (by decide +kernel) fun t hf y => ?_
  blk_simp
  rw [after0_5]
  frame_out; idx_vars y; rw [emb5, pay5]; rfl

end Cert.Kernel7Ideal.Value

namespace Cert.Reference7Ideal.Value

open Cert.Reference7Ideal Cert.Reference7Ideal.Gen Idealize.ShloMosaic Idealize.ShloMosaic.TcCoe Idealize.SL.Sem
open Cert.Kernel7Ideal.Value (half gate res)

variable (m : (ℓ : Loc nD τ sig) → Buf (Elt Ideal) ℓ)

/-- The reference's cotangent and gradients. -/
def ct (W : Vec Ideal S1x2816x1024 .f32) (dx : Vec Ideal S8192x1024 .f32) (r : Fin 8192) (k : Fin 2816) : EReal :=
  ∑ l, half * dx (ix2 r l) * W (ix3 0 k l)

section Spec

variable (h : Vec Ideal S8192x1024 .f32) (U V : Vec Ideal S1x1024x2816 .f32) (W : Vec Ideal S1x2816x1024 .f32) (dx : Vec Ideal S8192x1024 .f32)

def da (r : Fin 8192) (k : Fin 2816) : EReal :=
  ct W dx r k * gate h V r k * Ideal.logistic (gate h U r k)
    + gate h U r k * (ct W dx r k * gate h V r k) * (Ideal.logistic (gate h U r k) * (1 - Ideal.logistic (gate h U r k)))
def db (r : Fin 8192) (k : Fin 2816) : EReal := gate h U r k * Ideal.logistic (gate h U r k) * ct W dx r k

end Spec

abbrev A0 (c : Dev nD) : Vec Ideal S8192x1024 .f32 := m ((c : Thread nD τ).loc main_arg0)
abbrev A1 (c : Dev nD) : Vec Ideal S1x1024x2816 .f32 := m ((c : Thread nD τ).loc main_arg1)
abbrev A2 (c : Dev nD) : Vec Ideal S1x1024x2816 .f32 := m ((c : Thread nD τ).loc main_arg2)
abbrev A3 (c : Dev nD) : Vec Ideal S1x2816x1024 .f32 := m ((c : Thread nD τ).loc main_arg3)
abbrev A4 (c : Dev nD) : Vec Ideal S8192x1024 .f32 := m ((c : Thread nD τ).loc main_arg4)

/-- What the reference's run leaves in its two results. -/
theorem run_holds (ρ : Dev nD → PrngReg) : θ_run defs (onTc (τ := τ) (main (F := Ideal))) ⟨m, fun _ => 0, ρ⟩ fun r => ∀ c : Dev nD,
    r.2.mem ((c : Thread nD τ).loc main_v19) = res (da (A0 m c) (A1 m c) (A2 m c) (A3 m c) (A4 m c))
    ∧ r.2.mem ((c : Thread nD τ).loc main_v23) = res (db (A0 m c) (A1 m c) (A3 m c) (A4 m c))
    ∧ A0 r.2.mem c = A0 m c ∧ A1 r.2.mem c = A1 m c ∧ A2 r.2.mem c = A2 m c ∧ A3 r.2.mem c = A3 m c ∧ A4 r.2.mem c = A4 m c :=
  (θ_run _ _ _).mono (fun r h c => by
    obtain ⟨h4, h5, hk⟩ := h c
    refine ⟨h4.trans ?_, h5.trans ?_, hk⟩
    · funext j
      idx_vars j
      clean_types
      refine (Pad.cols _ shapeCasts_S8192x2816_S8192x4x704 pads_S8192x4x704_S8192x4x768_000_000_0640 shapeCasts_S8192x4x768_S8192x3072 h_S_ _ Pad.int_zero j0 j1).trans ?_
      refine congrArg (fun f => Pad.lay f j1) (funext fun k => ?_)
      pointwise
      rfl
    · funext j
      idx_vars j
      clean_types
      refine (Pad.cols _ shapeCasts_S8192x2816_S8192x4x704 pads_S8192x4x704_S8192x4x768_000_000_0640 shapeCasts_S8192x4x768_S8192x3072 h_S_ _ Pad.int_zero j0 j1).trans ?_
      refine congrArg (fun f => Pad.lay f j1) (funext fun k => ?_)
      pointwise
      rfl) (run m ρ)

end Cert.Reference7Ideal.Value

end
-- ==== Proof.DgluClaim.lean ====
module

public import proofs.«01_k».proof.Defs
public import proofs.«01_k».proof.Proof.Dglu
public import proofs.«01_k».proof.Proof.Gen.Pre_finite_gate

/-! The two programs of the feed-forward layer's gate's gradient leave equal arrays. -/

@[expose] public section

noncomputable section

namespace Cert.Dglu

open Idealize.ShloMosaic Idealize.ShloMosaic.TcCoe Idealize.SL.Sem Cert.Scalar
open Cert.Kernel7Ideal.Value (gate ct da db half)

/-- The reference's run, as the claim reads it. -/
theorem frame : quiescent_Reference7Ideal := fun m g _ =>
  (θ_run _ _ _).mono (fun r h => ⟨fun c => (h c).2.2, sem_eq_zero_of_no_sems (by decide) r.2⟩) (Reference7Ideal.Value.run_holds m g)

section Rows

variable (h : Vec Ideal Kernel7Ideal.S8192x1024 .f32) (U V : Vec Ideal Kernel7Ideal.S1x1024x2816 .f32)
  (W : Vec Ideal Kernel7Ideal.S1x2816x1024 .f32) (dx : Vec Ideal Kernel7Ideal.S8192x1024 .f32)

/-- A product of finite arrays is finite. -/
theorem prod_real {n : ℕ} (f g : Fin n → EReal) (hf : ∀ k, ∃ a : ℝ, f k = a) (hg : ∀ k, ∃ a : ℝ, g k = a) : ∃ a : ℝ, ∑ k, f k * g k = a := by
  choose a ha using hf
  choose b hb using hg
  refine ⟨∑ k, a k * b k, ?_⟩
  rw [Rms.coe_sum]
  exact Finset.sum_congr rfl fun k _ => by rw [ha, hb, EReal.coe_mul]

/-- The half is taken of the cotangent, or of its product. -/
theorem ct_eq (hW : ∀ i, ∃ a : ℝ, W i = a) (hd : ∀ i, ∃ a : ℝ, dx i = a) (r : Fin 8192) (k : Fin 2816) :
    Reference7Ideal.Value.ct W dx r k = ct W dx r k ∧ ∃ a : ℝ, ct W dx r k = a := by
  have hh : half = ((1 / 2 : ℝ) : EReal) := Scalar.half_bits
  choose w hw using hW
  choose d hd using hd
  unfold Reference7Ideal.Value.ct ct
  have e1 : ∑ l, half * dx (ix2 r l) * W (ix3 0 k l) = ((∑ l, 1 / 2 * d (ix2 r l) * w (ix3 0 k l) : ℝ) : EReal) := by
    rw [Rms.coe_sum]
    exact Finset.sum_congr rfl fun l _ => by rw [hw, hd, hh, EReal.coe_mul, EReal.coe_mul]
  have e2 : ∑ l, dx (ix2 r l) * W (ix3 0 k l) = ((∑ l, d (ix2 r l) * w (ix3 0 k l) : ℝ) : EReal) := by
    rw [Rms.coe_sum]
    exact Finset.sum_congr rfl fun l _ => by rw [hw, hd, EReal.coe_mul]
  rw [e1, e2, hh, ← EReal.coe_mul]
  refine ⟨congrArg _ ?_, _, rfl⟩
  rw [Finset.sum_mul]
  exact Finset.sum_congr rfl fun l _ => by ring

theorem da_eq (hh : ∀ i, ∃ a : ℝ, h i = a) (hV : ∀ i, ∃ a : ℝ, V i = a) (hW : ∀ i, ∃ a : ℝ, W i = a) (hd : ∀ i, ∃ a : ℝ, dx i = a) :
    Reference7Ideal.Value.da h U V W dx = da h U V W dx := by
  funext r k
  obtain ⟨e, c, hc⟩ := ct_eq W dx hW hd r k
  obtain ⟨b, hb⟩ : ∃ b : ℝ, gate h V r k = b := prod_real _ _ (fun _ => hh _) (fun _ => hV _)
  unfold Reference7Ideal.Value.da da
  rw [e, hc, hb, ← EReal.coe_mul]
  exact (Ln.silu_eq _ _).symm

theorem db_eq (hW : ∀ i, ∃ a : ℝ, W i = a) (hd : ∀ i, ∃ a : ℝ, dx i = a) :
    Reference7Ideal.Value.db h U W dx = db h U W dx := by
  funext r k
  unfold Reference7Ideal.Value.db db
  rw [(ct_eq W dx hW hd r k).1, mul_comm, mul_assoc]

end Rows

theorem algebraic : algebraic_Kernel7Ideal_Reference7Ideal_pre_finite_gate := by
  intro m g m' g' hp hm
  refine ⟨fun c => (Kernel7Ideal.Gen.dats m 0 c).arrAt 4 _, fun c => (Kernel7Ideal.Gen.dats m 0 c).arrAt 5 _,
    Kernel7Ideal.Value.run_blocks m g, ?_⟩
  refine (θ_run _ _ _).mono (fun r h c => ?_) (Reference7Ideal.Value.run_holds m' g')
  obtain ⟨h4, h5, hk⟩ := h c
  obtain ⟨a0, a1, a2, a3, a4⟩ := hm c
  replace a0 : Reference7Ideal.Value.A0 m' c = Kernel7Ideal.Value.A0 m c := a0
  replace a1 : Reference7Ideal.Value.A1 m' c = Kernel7Ideal.Value.A1 m c := a1
  replace a2 : Reference7Ideal.Value.A2 m' c = Kernel7Ideal.Value.A2 m c := a2
  replace a3 : Reference7Ideal.Value.A3 m' c = Kernel7Ideal.Value.A3 m c := a3
  replace a4 : Reference7Ideal.Value.A4 m' c = Kernel7Ideal.Value.A4 m c := a4
  simp only [a0, a1, a2, a3, a4] at h4 h5
  have e := and_one (congrFun (hp c) (fun a => a.elim0))
  have e1 := and_one e.1
  have e2 := and_one e1.1
  have f0 : ∀ i, ∃ a : ℝ, Kernel7Ideal.Value.A0 m c i = a := fun i => finite_cases (finite_of_all _ _ _ _ _ e2.1 i)
  have f2 : ∀ i, ∃ a : ℝ, Kernel7Ideal.Value.A2 m c i = a := fun i => finite_cases (finite_of_all _ _ _ _ _ e2.2 i)
  have f3 : ∀ i, ∃ a : ℝ, Kernel7Ideal.Value.A3 m c i = a := fun i => finite_cases (finite_of_all _ _ _ _ _ e1.2 i)
  have f4 : ∀ i, ∃ a : ℝ, Kernel7Ideal.Value.A4 m c i = a := fun i => finite_cases (finite_of_all _ _ _ _ _ e.2 i)
  rw [da_eq _ _ _ _ _ f0 f2 f3 f4] at h4
  rw [db_eq _ _ _ _ f3 f4] at h5
  exact ⟨h4.trans (Kernel7Ideal.Value.final4 m c).symm, h5.trans (Kernel7Ideal.Value.final5 m c).symm, hk⟩

end Cert.Dglu

end
-- ==== Proof.FfnUp.lean ====
module

public import proofs.«01_k».proof.Proof.Pad
public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Tactic.CleanTypes

/-! The two products that enter a feed-forward layer and the gated rows. -/

@[expose] public section

set_option maxRecDepth 16384

noncomputable section

namespace Cert.Kernel11Ideal.Value

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

section Spec

variable (h : Vec Ideal S8192x1024 .f32) (U V : Vec Ideal S1x1024x2816 .f32)

/-- A product of the layer's input with one of its two input matrices. -/
def prod (r : Fin 8192) (k : Fin 2816) : EReal := ∑ l, h (ix2 r l) * U (ix3 0 l k)

/-- The gated rows. -/
def gated (r : Fin 8192) (k : Fin 2816) : EReal := prod h U r k * Ideal.logistic (prod h U r k) * prod h V r k

/-- A result: rows, padded. -/
def res (d : Fin 8192 → Fin 2816 → EReal) : Vec Ideal S8192x3072 .bf16 := fun j => Pad.lay (d (j 0)) (j 1)

end Spec

abbrev A0 (c : Dev nD) : Vec Ideal S8192x1024 .f32 := m ((c : Thread nD τ).loc main_arg0)
abbrev A1 (c : Dev nD) : Vec Ideal S1x1024x2816 .f32 := m ((c : Thread nD τ).loc main_arg1)
abbrev A2 (c : Dev nD) : Vec Ideal S1x1024x2816 .f32 := m ((c : Thread nD τ).loc main_arg2)

/-- The row and the column of tile `t`, at an offset. -/
abbrev row (t : Fin cfg0.N) (r : Fin 1024) : Fin 8192 := ⟨t.val / 3 * 1024 + r.val, by have : t.val < 24 := t.isLt; omega⟩
abbrev col (t : Fin cfg0.N) (k : Fin 1024) : Fin 3072 := ⟨t.val % 3 * 1024 + k.val, by omega⟩

theorem idx_val : ∀ t : Fin cfg0.N, win0_0.index t = ![t.val / 3, 0] ∧ win0_1.index t = ![t.val % 3, 0] ∧ win0_2.index t = ![t.val % 3, 0]
    ∧ win0_3.index t = ![t.val / 3, t.val % 3] ∧ win0_4.index t = ![t.val / 3, t.val % 3] ∧ win0_5.index t = ![t.val / 3, t.val % 3] :=
  (by decide +kernel : ∀ t : Fin grid0.N, _)

theorem emb0 (t : Fin cfg0.N) (r l : Fin 1024) :
    ((View.whole main_v0).slice (win0_0.rect t)).emb (ix2 r l) = ix2 (row t r) l := by blk_ext [idx_val t]

theorem emb1 (t : Fin cfg0.N) (k l : Fin 1024) :
    ((View.whole main_v6).slice (win0_1.rect t)).emb (ix2 k l) = ix2 (col t k) l := by blk_ext [idx_val t]

theorem emb2 (t : Fin cfg0.N) (k l : Fin 1024) :
    ((View.whole main_v12).slice (win0_2.rect t)).emb (ix2 k l) = ix2 (col t k) l := by blk_ext [idx_val t]

theorem emb3 (t : Fin cfg0.N) (r k : Fin 1024) :
    ((View.whole main_v13_0).slice (win0_3.rect t)).emb (ix2 r k) = ix2 (row t r) (col t k) := by blk_ext [idx_val t]

theorem emb4 (t : Fin cfg0.N) (r k : Fin 1024) :
    ((View.whole main_v13_1).slice (win0_4.rect t)).emb (ix2 r k) = ix2 (row t r) (col t k) := by blk_ext [idx_val t]

theorem emb5 (t : Fin cfg0.N) (r k : Fin 1024) :
    ((View.whole main_v13_2).slice (win0_5.rect t)).emb (ix2 r k) = ix2 (row t r) (col t k) := by blk_ext [idx_val t]

/-- The host's layout of the columns of a matrix, at an entry. -/
theorem laid (U : Vec Ideal S1x1024x2816 .f32) (k : Fin 3072) (l : Fin 1024) :
    shapeCast S3072x1024 (pad S4x768x1024 ![0, 0, 0] ![0, 64, 0] ![0, 0, 0]
      (shapeCast S4x704x1024 (transpose S2816x1024 [1, 0] (shapeCast S1024x2816 U shapeCasts_S1x1024x2816_S1024x2816)
      transposes_S1024x2816_S2816x1024_1_0) shapeCasts_S2816x1024_S4x704x1024) (sitofp (F := Ideal) .f32 (constantI S_ 32 0#32))
      pads_S4x704x1024_S4x768x1024_000_0640_000 h_S_) shapeCasts_S4x768x1024_S3072x1024 (ix2 k l) = Pad.lay (fun j => U (ix3 0 l j)) k := by
  refine (Pad.rows _ _ _ _ _ _ Pad.int_zero k l).trans ?_
  exact congrArg (fun f => Pad.lay f k) (funext fun j => by pointwise)

theorem blk0 (c : Dev nD) (t : Fin cfg0.N) (r l : Fin 1024) : iblk m c 0 t (ix2 r l) = A0 m c (ix2 (row t r) l) := by
  blk_simp [iblk, idx_val t]
  rw [emb0]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  rfl

theorem blk1 (c : Dev nD) (t : Fin cfg0.N) (k l : Fin 1024) :
    iblk m c 1 t (ix2 k l) = Pad.lay (fun j => A1 m c (ix3 0 l j)) (col t k) := by
  blk_simp [iblk, idx_val t]
  rw [emb1]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  exact laid (A1 m c) (col t k) l

theorem blk2 (c : Dev nD) (t : Fin cfg0.N) (k l : Fin 1024) :
    iblk m c 2 t (ix2 k l) = Pad.lay (fun j => A2 m c (ix3 0 l j)) (col t k) := by
  blk_simp [iblk, idx_val t]
  rw [emb2]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  exact laid (A2 m c) (col t k) l

section Tile

variable (c : Dev nD) (t : Fin cfg0.N) (r k : Fin 1024)

theorem pay2 : k0_pay2 (iblk m c 0 t) (iblk m c 1 t) (ix2 r k) = Pad.lay (prod (A0 m c) (A1 m c) (row t r)) (col t k) := by
  pointwise [k0_pay2, k0_pay1]
  simp only [blk0, blk1]
  exact Pad.lay_sum _ _ _

theorem pay3 : k0_pay3 (iblk m c 0 t) (iblk m c 2 t) (ix2 r k) = Pad.lay (prod (A0 m c) (A2 m c) (row t r)) (col t k) := by
  pointwise [k0_pay3, k0_pay1]
  simp only [blk0, blk2]
  exact Pad.lay_sum _ _ _

theorem pay6 : k0_pay6 (iblk m c 0 t) (iblk m c 1 t) (iblk m c 2 t) (ix2 r k)
    = Pad.lay (gated (A0 m c) (A1 m c) (A2 m c) (row t r)) (col t k) := by
  pointwise [k0_pay6]
  simp only [pay2, pay3]
  exact Pad.lay_map₃ (fun a b _ => a * Ideal.logistic a * b) (by simp) _ _ (fun _ => 0) _

end Tile

theorem final3 (c : Dev nD) : (dats m 0 c).arrAt 3 cfg0.N = res (prod (A0 m c) (A1 m c)) := by
  refine (dats m 0 c).arrAt_eq_of_covers 3 _ (by decide +kernel) fun t hf y => ?_
  blk_simp
  rw [after0_3]
  frame_out; idx_vars y; rw [emb3]; pointwise [k0_pay4]; rw [pay2]; rfl

theorem final4 (c : Dev nD) : (dats m 0 c).arrAt 4 cfg0.N = res (prod (A0 m c) (A2 m c)) := by
  refine (dats m 0 c).arrAt_eq_of_covers 4 _ (by decide +kernel) fun t hf y => ?_
  blk_simp
  rw [after0_4]
  frame_out; idx_vars y; rw [emb4]; pointwise [k0_pay5]; rw [pay3]; rfl

theorem final5 (c : Dev nD) : (dats m 0 c).arrAt 5 cfg0.N = res (gated (A0 m c) (A1 m c) (A2 m c)) := by
  refine (dats m 0 c).arrAt_eq_of_covers 5 _ (by decide +kernel) fun t hf y => ?_
  blk_simp
  rw [after0_5]
  frame_out; idx_vars y; rw [emb5]; rw [pay6]; rfl

end Cert.Kernel11Ideal.Value

namespace Cert.Reference11Ideal.Value

open Cert.Reference11Ideal Cert.Reference11Ideal.Gen Idealize.ShloMosaic Idealize.ShloMosaic.TcCoe Idealize.SL.Sem
open Cert.Kernel11Ideal.Value (prod gated res)

variable (m : (ℓ : Loc nD τ sig) → Buf (Elt Ideal) ℓ)

abbrev A0 (c : Dev nD) : Vec Ideal S8192x1024 .f32 := m ((c : Thread nD τ).loc main_arg0)
abbrev A1 (c : Dev nD) : Vec Ideal S1x1024x2816 .f32 := m ((c : Thread nD τ).loc main_arg1)
abbrev A2 (c : Dev nD) : Vec Ideal S1x1024x2816 .f32 := m ((c : Thread nD τ).loc main_arg2)

/-- What the reference's run leaves in its results. -/
theorem run_holds (ρ : Dev nD → PrngReg) : θ_run defs (onTc (τ := τ) (main (F := Ideal))) ⟨m, fun _ => 0, ρ⟩ fun r => ∀ c : Dev nD,
    r.2.mem ((c : Thread nD τ).loc main_v7) = res (prod (A0 m c) (A1 m c))
    ∧ r.2.mem ((c : Thread nD τ).loc main_v11) = res (prod (A0 m c) (A2 m c))
    ∧ r.2.mem ((c : Thread nD τ).loc main_v17) = res (gated (A0 m c) (A1 m c) (A2 m c))
    ∧ A0 r.2.mem c = A0 m c ∧ A1 r.2.mem c = A1 m c ∧ A2 r.2.mem c = A2 m c :=
  (θ_run _ _ _).mono (fun r h c => by
    obtain ⟨h3, h4, h5, hk⟩ := h c
    refine ⟨h3.trans ?_, h4.trans ?_, h5.trans ?_, hk⟩
    · funext j
      idx_vars j
      clean_types
      refine (Pad.cols _ shapeCasts_S8192x2816_S8192x4x704 pads_S8192x4x704_S8192x4x768_000_000_0640 shapeCasts_S8192x4x768_S8192x3072 h_S_ _ Pad.int_zero j0 j1).trans ?_
      refine congrArg (fun f => Pad.lay f j1) (funext fun k => ?_)
      pointwise
      rfl
    · funext j
      idx_vars j
      clean_types
      refine (Pad.cols _ shapeCasts_S8192x2816_S8192x4x704 pads_S8192x4x704_S8192x4x768_000_000_0640 shapeCasts_S8192x4x768_S8192x3072 h_S_ _ Pad.int_zero j0 j1).trans ?_
      refine congrArg (fun f => Pad.lay f j1) (funext fun k => ?_)
      pointwise
      rfl
    · funext j
      idx_vars j
      clean_types
      refine (Pad.cols _ shapeCasts_S8192x2816_S8192x4x704 pads_S8192x4x704_S8192x4x768_000_000_0640 shapeCasts_S8192x4x768_S8192x3072 h_S_ _ Pad.int_zero j0 j1).trans ?_
      refine congrArg (fun f => Pad.lay f j1) (funext fun k => ?_)
      pointwise
      rfl) (run m ρ)

end Cert.Reference11Ideal.Value

namespace Cert.FfnUp

open Idealize.ShloMosaic Idealize.ShloMosaic.TcCoe Idealize.SL.Sem

theorem frame : quiescent_Reference11Ideal := fun m g _ =>
  (θ_run _ _ _).mono (fun r h => ⟨fun c => (h c).2.2.2, sem_eq_zero_of_no_sems (by decide) r.2⟩) (Reference11Ideal.Value.run_holds m g)

/-- The two programs leave equal arrays. -/
theorem algebraic : algebraic_Kernel11Ideal_Reference11Ideal := by
  intro m g m' g' _ hm
  refine ⟨fun c => (Kernel11Ideal.Gen.dats m 0 c).arrAt 3 _, fun c => (Kernel11Ideal.Gen.dats m 0 c).arrAt 4 _, fun c => (Kernel11Ideal.Gen.dats m 0 c).arrAt 5 _,
    Kernel11Ideal.Value.run_blocks m g, ?_⟩
  refine (θ_run _ _ _).mono (fun r h c => ?_) (Reference11Ideal.Value.run_holds m' g')
  obtain ⟨h3, h4, h5, hk⟩ := h c
  obtain ⟨a0, a1, a2⟩ := hm c
  replace a0 : Reference11Ideal.Value.A0 m' c = Kernel11Ideal.Value.A0 m c := a0
  replace a1 : Reference11Ideal.Value.A1 m' c = Kernel11Ideal.Value.A1 m c := a1
  replace a2 : Reference11Ideal.Value.A2 m' c = Kernel11Ideal.Value.A2 m c := a2
  simp only [a0, a1, a2] at h3 h4 h5
  exact ⟨h3.trans (Kernel11Ideal.Value.final3 m c).symm, h4.trans (Kernel11Ideal.Value.final4 m c).symm, h5.trans (Kernel11Ideal.Value.final5 m c).symm, hk⟩

end Cert.FfnUp

end
-- ==== Proof.Norm.lean ====
module

public import proofs.«01_k».proof.Proof.Rms
public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Tactic.CleanTypes

/-! The RMS norm of the rows before the first feed-forward layer. -/

@[expose] public section

set_option maxRecDepth 16384

noncomputable section

namespace Cert.Kernel12Ideal.Value

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1149239296#32

section Spec

variable (x : Vec Ideal S8192x1024 .f32) (g : Vec Ideal S1x1024 .f32)

/-- The normalised rows. -/
def norm (r : Fin 8192) (l : Fin 1024) : EReal := x (ix2 r l) * Rms.inv wide (fun k => x (ix2 r k)) * g (ix2 0 l)

/-- The two results: the rows and their transpose. -/
def res2 : Vec Ideal S8192x1024 .bf16 := fun j => norm x g (j 0) (j 1)
def res3 : Vec Ideal S1024x8192 .bf16 := fun j => norm x g (j 1) (j 0)

end Spec

abbrev A0 (c : Dev nD) : Vec Ideal S8192x1024 .f32 := m ((c : Thread nD τ).loc main_arg0)
abbrev A1 (c : Dev nD) : Vec Ideal S1x1024 .f32 := m ((c : Thread nD τ).loc main_arg1)

/-- Row `r` of tile `t`. -/
abbrev row (t : Fin cfg0.N) (r : Fin 256) : Fin 8192 := ⟨t.val * 256 + r.val, by have : t.val < 32 := t.isLt; omega⟩

theorem idx_val : ∀ t : Fin cfg0.N, win0_0.index t = ![t.val, 0] ∧ win0_1.index t = ![0, 0] ∧ win0_2.index t = ![t.val, 0]
    ∧ win0_3.index t = ![0, t.val] := (by decide +kernel : ∀ t : Fin grid0.N, _)

theorem emb2 (t : Fin cfg0.N) (r : Fin 256) (l : Fin 1024) :
    ((View.whole main_v0_0).slice (win0_2.rect t)).emb (ix2 r l) = ix2 (row t r) l := by blk_ext [idx_val t]

theorem emb3 (t : Fin cfg0.N) (l : Fin 1024) (r : Fin 256) :
    ((View.whole main_v0_1).slice (win0_3.rect t)).emb (ix2 l r) = ix2 l (row t r) := by blk_ext [idx_val t]

theorem blk0 (c : Dev nD) (t : Fin cfg0.N) (r : Fin 256) (l : Fin 1024) : iblk m c 0 t (ix2 r l) = A0 m c (ix2 (row t r) l) := by
  blk_point [iblk, V, idx_val t]

theorem blk1 (c : Dev nD) (t : Fin cfg0.N) (r : Fin 1) (l : Fin 1024) : iblk m c 1 t (ix2 r l) = A1 m c (ix2 0 l) := by
  blk_point [iblk, V, idx_val t]

theorem pay1 (c : Dev nD) (t : Fin cfg0.N) (r : Fin 256) (l : Fin 1024) :
    k0_pay1 (iblk m c 0 t) (iblk m c 1 t) (ix2 r l) = norm (A0 m c) (A1 m c) (row t r) l := by
  pointwise [k0_pay1]; simp only [blk0, blk1]; rfl

theorem final2 (c : Dev nD) : (dats m 0 c).arrAt 2 cfg0.N = res2 (A0 m c) (A1 m c) := by
  refine (dats m 0 c).arrAt_eq_of_covers 2 _ (by decide +kernel) fun t hf y => ?_
  blk_simp
  rw [after0_2]
  frame_out; idx_vars y; rw [emb2]; pointwise [k0_pay2]; rw [pay1]; rfl

theorem final3 (c : Dev nD) : (dats m 0 c).arrAt 3 cfg0.N = res3 (A0 m c) (A1 m c) := by
  refine (dats m 0 c).arrAt_eq_of_covers 3 _ (by decide +kernel) fun t hf y => ?_
  blk_simp
  rw [after0_3]
  frame_out; idx_vars y; rw [emb3]; pointwise [k0_pay3]; rw [pay1]; rfl

end Cert.Kernel12Ideal.Value

namespace Cert.Reference12Ideal.Value

open Cert.Reference12Ideal Cert.Reference12Ideal.Gen Idealize.ShloMosaic Idealize.ShloMosaic.TcCoe Idealize.SL.Sem

variable (m : (ℓ : Loc nD τ sig) → Buf (Elt Ideal) ℓ)

abbrev A0 (c : Dev nD) : Vec Ideal S8192x1024 .f32 := m ((c : Thread nD τ).loc main_arg0)
abbrev A1 (c : Dev nD) : Vec Ideal S1x1024 .f32 := m ((c : Thread nD τ).loc main_arg1)

/-- What the reference's run leaves in its results. -/
theorem run_holds (ρ : Dev nD → PrngReg) : θ_run defs (onTc (τ := τ) (main (F := Ideal))) ⟨m, fun _ => 0, ρ⟩ fun r => ∀ c : Dev nD,
    r.2.mem ((c : Thread nD τ).loc main_v12) = Kernel12Ideal.Value.res2 (A0 m c) (A1 m c)
    ∧ r.2.mem ((c : Thread nD τ).loc main_v13) = Kernel12Ideal.Value.res3 (A0 m c) (A1 m c)
    ∧ A0 r.2.mem c = A0 m c
    ∧ A1 r.2.mem c = A1 m c :=
  (θ_run _ _ _).mono (fun r h c => by
    obtain ⟨h2, h3, hk⟩ := h c
    refine ⟨h2.trans ?_, h3.trans ?_, hk⟩
    · funext j
      idx_vars j
      clean_types
      pointwise
      rfl
    · funext j
      idx_vars j
      clean_types
      pointwise
      rfl) (run m ρ)

end Cert.Reference12Ideal.Value

namespace Cert.Norm

open Idealize.ShloMosaic Idealize.ShloMosaic.TcCoe Idealize.SL.Sem

theorem frame : quiescent_Reference12Ideal := fun m g _ =>
  (θ_run _ _ _).mono (fun r h => ⟨fun c => (h c).2.2, sem_eq_zero_of_no_sems (by decide) r.2⟩) (Reference12Ideal.Value.run_holds m g)

/-- The two programs leave equal arrays. -/
theorem algebraic : algebraic_Kernel12Ideal_Reference12Ideal := by
  intro m g m' g' _ hm
  refine ⟨fun c => (Kernel12Ideal.Gen.dats m 0 c).arrAt 2 _, fun c => (Kernel12Ideal.Gen.dats m 0 c).arrAt 3 _,
    Kernel12Ideal.Value.run_blocks m g, ?_⟩
  refine (θ_run _ _ _).mono (fun r h c => ?_) (Reference12Ideal.Value.run_holds m' g')
  obtain ⟨h2, h3, hk⟩ := h c
  obtain ⟨a0, a1⟩ := hm c
  replace a0 : Reference12Ideal.Value.A0 m' c = Kernel12Ideal.Value.A0 m c := a0
  replace a1 : Reference12Ideal.Value.A1 m' c = Kernel12Ideal.Value.A1 m c := a1
  simp only [a0, a1] at h2 h3
  exact ⟨h2.trans (Kernel12Ideal.Value.final2 m c).symm, h3.trans (Kernel12Ideal.Value.final3 m c).symm, hk⟩

end Cert.Norm

end
-- ==== Proof.GateNorm.lean ====
module

public import proofs.«01_k».proof.Proof.Rms
public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Tactic.CleanTypes

/-! The gate of the S5 branch and the norm of its rows. -/

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1140850688#32

section Spec

variable (y : Vec Ideal S8192x512 .f32) (W : Vec Ideal S512x512 .f32) (b g : Vec Ideal S1x512 .f32)

/-- The gated rows, which the norm takes. -/
def gated (r : Fin 8192) (l : Fin 512) : EReal := y (ix2 r l) * Ideal.logistic (∑ k, y (ix2 r k) * W (ix2 k l) + b (ix2 0 l))

/-- The result: the normalised rows. -/
def res4 : Vec Ideal S8192x512 .bf16 := fun j => gated y W b (j 0) (j 1) * Rms.inv wide (gated y W b (j 0)) * g (ix2 0 (j 1))

end Spec

abbrev A0 (c : Dev nD) : Vec Ideal S8192x512 .f32 := m ((c : Thread nD τ).loc main_arg0)
abbrev A1 (c : Dev nD) : Vec Ideal S512x512 .f32 := m ((c : Thread nD τ).loc main_arg1)
abbrev A2 (c : Dev nD) : Vec Ideal S1x512 .f32 := m ((c : Thread nD τ).loc main_arg2)
abbrev A3 (c : Dev nD) : Vec Ideal S1x512 .f32 := m ((c : Thread nD τ).loc main_arg3)

/-- Row `r` of tile `t`. -/
abbrev row (t : Fin cfg0.N) (r : Fin 1024) : Fin 8192 := ⟨t.val * 1024 + r.val, by have : t.val < 8 := t.isLt; omega⟩

theorem idx_val : ∀ t : Fin cfg0.N, win0_0.index t = ![t.val, 0] ∧ win0_1.index t = ![t.val, 0] ∧ win0_2.index t = ![0, 0]
    ∧ win0_3.index t = ![0, 0] ∧ win0_4.index t = ![t.val, 0] := (by decide +kernel : ∀ t : Fin grid0.N, _)

theorem emb0 (t : Fin cfg0.N) (r : Fin 1024) (l : Fin 512) :
    ((View.whole main_v0).slice (win0_0.rect t)).emb (ix2 r l) = ix2 (row t r) l := by blk_ext [idx_val t]

theorem emb1 (t : Fin cfg0.N) (r : Fin 1024) (l : Fin 512) :
    ((View.whole main_v2).slice (win0_1.rect t)).emb (ix2 r l) = ix2 (row t r) l := by blk_ext [idx_val t]

theorem emb4 (t : Fin cfg0.N) (r : Fin 1024) (l : Fin 512) :
    ((View.whole main_v3).slice (win0_4.rect t)).emb (ix2 r l) = ix2 (row t r) l := by blk_ext [idx_val t]

theorem blk0 (c : Dev nD) (t : Fin cfg0.N) (r : Fin 1024) (l : Fin 512) : iblk m c 0 t (ix2 r l) = A0 m c (ix2 (row t r) l) := by
  blk_simp [iblk, idx_val t]
  entry_read
  rw [emb0]
  pointwise

theorem blk1 (c : Dev nD) (t : Fin cfg0.N) (r : Fin 1024) (l : Fin 512) :
    iblk m c 1 t (ix2 r l) = ∑ k, A0 m c (ix2 (row t r) k) * A1 m c (ix2 k l) := by
  blk_simp [iblk, idx_val t]
  entry_read
  rw [emb1]
  pointwise

theorem blk2 (c : Dev nD) (t : Fin cfg0.N) (r : Fin 1) (l : Fin 512) : iblk m c 2 t (ix2 r l) = A2 m c (ix2 0 l) := by
  blk_point [iblk, V, idx_val t]

theorem blk3 (c : Dev nD) (t : Fin cfg0.N) (r : Fin 1) (l : Fin 512) : iblk m c 3 t (ix2 r l) = A3 m c (ix2 0 l) := by
  blk_point [iblk, V, idx_val t]

theorem final4 (c : Dev nD) : (dats m 0 c).arrAt 4 cfg0.N = res4 (A0 m c) (A1 m c) (A2 m c) (A3 m c) := by
  refine (dats m 0 c).arrAt_eq_of_covers 4 _ (by decide +kernel) fun t hf y => ?_
  blk_simp
  rw [after0_4]
  frame_out; idx_vars y; rw [emb4]; pointwise [k0_pay1]; simp only [blk0, blk1, blk2, blk3]; rfl

end Cert.Kernel13Ideal.Value

namespace Cert.Reference13Ideal.Value

open Cert.Reference13Ideal Cert.Reference13Ideal.Gen Idealize.ShloMosaic Idealize.ShloMosaic.TcCoe Idealize.SL.Sem

variable (m : (ℓ : Loc nD τ sig) → Buf (Elt Ideal) ℓ)

abbrev A0 (c : Dev nD) : Vec Ideal S8192x512 .f32 := m ((c : Thread nD τ).loc main_arg0)
abbrev A1 (c : Dev nD) : Vec Ideal S512x512 .f32 := m ((c : Thread nD τ).loc main_arg1)
abbrev A2 (c : Dev nD) : Vec Ideal S1x512 .f32 := m ((c : Thread nD τ).loc main_arg2)
abbrev A3 (c : Dev nD) : Vec Ideal S1x512 .f32 := m ((c : Thread nD τ).loc main_arg3)

/-- What the reference's run leaves in its results. -/
theorem run_holds (ρ : Dev nD → PrngReg) : θ_run defs (onTc (τ := τ) (main (F := Ideal))) ⟨m, fun _ => 0, ρ⟩ fun r => ∀ c : Dev nD,
    r.2.mem ((c : Thread nD τ).loc main_v22) = Kernel13Ideal.Value.res4 (A0 m c) (A1 m c) (A2 m c) (A3 m c)
    ∧ A0 r.2.mem c = A0 m c
    ∧ A1 r.2.mem c = A1 m c
    ∧ A2 r.2.mem c = A2 m c
    ∧ A3 r.2.mem c = A3 m c :=
  (θ_run _ _ _).mono (fun r h c => by
    obtain ⟨h4, hk⟩ := h c
    refine ⟨h4.trans ?_, hk⟩
    · funext j
      idx_vars j
      clean_types
      pointwise
      rfl) (run m ρ)

end Cert.Reference13Ideal.Value

namespace Cert.GateNorm

open Idealize.ShloMosaic Idealize.ShloMosaic.TcCoe Idealize.SL.Sem

theorem frame : quiescent_Reference13Ideal := fun m g _ =>
  (θ_run _ _ _).mono (fun r h => ⟨fun c => (h c).2, sem_eq_zero_of_no_sems (by decide) r.2⟩) (Reference13Ideal.Value.run_holds m g)

/-- The two programs leave equal arrays. -/
theorem algebraic : algebraic_Kernel13Ideal_Reference13Ideal := by
  intro m g m' g' _ hm
  refine ⟨fun c => (Kernel13Ideal.Gen.dats m 0 c).arrAt 4 _,
    Kernel13Ideal.Value.run_blocks m g, ?_⟩
  refine (θ_run _ _ _).mono (fun r h c => ?_) (Reference13Ideal.Value.run_holds m' g')
  obtain ⟨h4, hk⟩ := h c
  obtain ⟨a0, a1, a2, a3⟩ := hm c
  replace a0 : Reference13Ideal.Value.A0 m' c = Kernel13Ideal.Value.A0 m c := a0
  replace a1 : Reference13Ideal.Value.A1 m' c = Kernel13Ideal.Value.A1 m c := a1
  replace a2 : Reference13Ideal.Value.A2 m' c = Kernel13Ideal.Value.A2 m c := a2
  replace a3 : Reference13Ideal.Value.A3 m' c = Kernel13Ideal.Value.A3 m c := a3
  simp only [a0, a1, a2, a3] at h4
  exact ⟨h4.trans (Kernel13Ideal.Value.final4 m c).symm, hk⟩

end Cert.GateNorm

end
-- ==== Proof.MixNorm.lean ====
module

public import proofs.«01_k».proof.Proof.Rms
public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Tactic.CleanTypes

/-! The product that leaves the mixer, the residual and the norm of the sum. -/

@[expose] public section

set_option maxRecDepth 16384

noncomputable section

namespace Cert.Kernel14Ideal.Value

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1149239296#32

section Spec

variable (z : Vec Ideal S8192x1024 .f32) (W : Vec Ideal S1x1024x1024 .f32) (x : Vec Ideal S8192x1024 .f32) (g : Vec Ideal S1x1024 .f32)

/-- The rows the norm takes: the residual plus the product. -/
def rows (r : Fin 8192) (l : Fin 1024) : EReal := x (ix2 r l) + ∑ k, z (ix2 r k) * W (ix3 0 k l)

/-- The normalised rows. -/
def norm (r : Fin 8192) (l : Fin 1024) : EReal := rows z W x r l * Rms.inv wide (rows z W x r) * g (ix2 0 l)

/-- The three results: the rows, the normalised rows and their transpose. -/
def res4 : Vec Ideal S8192x1024 .f32 := fun j => rows z W x (j 0) (j 1)
def res5 : Vec Ideal S8192x1024 .bf16 := fun j => norm z W x g (j 0) (j 1)
def res6 : Vec Ideal S1024x8192 .bf16 := fun j => norm z W x g (j 1) (j 0)

end Spec

abbrev A0 (c : Dev nD) : Vec Ideal S8192x1024 .f32 := m ((c : Thread nD τ).loc main_arg0)
abbrev A1 (c : Dev nD) : Vec Ideal S1x1024x1024 .f32 := m ((c : Thread nD τ).loc main_arg1)
abbrev A2 (c : Dev nD) : Vec Ideal S8192x1024 .f32 := m ((c : Thread nD τ).loc main_arg2)
abbrev A3 (c : Dev nD) : Vec Ideal S1x1024 .f32 := m ((c : Thread nD τ).loc main_arg3)

/-- Row `r` of tile `t`. -/
abbrev row (t : Fin cfg0.N) (r : Fin 512) : Fin 8192 := ⟨t.val * 512 + r.val, by have : t.val < 16 := t.isLt; omega⟩

theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val] :=
  (by decide +kernel : ∀ t : Fin grid0.N, _)

theorem emb0 (t : Fin cfg0.N) (r : Fin 512) (l : Fin 1024) :
    ((View.whole main_v0).slice (win0_0.rect t)).emb (ix2 r l) = ix2 (row t r) l := by blk_ext [idx_val t]

theorem emb1 (t : Fin cfg0.N) (r l : Fin 1024) :
    ((View.whole main_v2).slice (win0_1.rect t)).emb (ix2 r l) = ix2 r l := by blk_ext [idx_val t]

theorem blk0 (c : Dev nD) (t : Fin cfg0.N) (r : Fin 512) (l : Fin 1024) : iblk m c 0 t (ix2 r l) = A0 m c (ix2 (row t r) l) := by
  blk_simp [iblk, idx_val t]
  entry_read
  rw [emb0]
  pointwise

theorem blk1 (c : Dev nD) (t : Fin cfg0.N) (r l : Fin 1024) : iblk m c 1 t (ix2 r l) = A1 m c (ix3 0 r l) := by
  blk_simp [iblk, idx_val t]
  entry_read
  rw [emb1]
  pointwise

theorem emb4 (t : Fin cfg0.N) (r : Fin 512) (l : Fin 1024) :
    ((View.whole main_v3_0).slice (win0_4.rect t)).emb (ix2 r l) = ix2 (row t r) l := by blk_ext [idx_val t]

theorem emb5 (t : Fin cfg0.N) (r : Fin 512) (l : Fin 1024) :
    ((View.whole main_v3_1).slice (win0_5.rect t)).emb (ix2 r l) = ix2 (row t r) l := by blk_ext [idx_val t]

theorem emb6 (t : Fin cfg0.N) (l : Fin 1024) (r : Fin 512) :
    ((View.whole main_v3_2).slice (win0_6.rect t)).emb (ix2 l r) = ix2 l (row t r) := by blk_ext [idx_val t]

theorem blk2 (c : Dev nD) (t : Fin cfg0.N) (r : Fin 512) (l : Fin 1024) : iblk m c 2 t (ix2 r l) = A2 m c (ix2 (row t r) l) := by
  blk_point [iblk, V, idx_val t]

theorem blk3 (c : Dev nD) (t : Fin cfg0.N) (r : Fin 1) (l : Fin 1024) : iblk m c 3 t (ix2 r l) = A3 m c (ix2 0 l) := by
  blk_point [iblk, V, idx_val t]

theorem pay1 (c : Dev nD) (t : Fin cfg0.N) (r : Fin 512) (l : Fin 1024) :
    k0_pay1 (iblk m c 0 t) (iblk m c 1 t) (iblk m c 2 t) (ix2 r l) = rows (A0 m c) (A1 m c) (A2 m c) (row t r) l := by
  pointwise [k0_pay1]
  simp only [blk0, blk1, blk2]
  rw [add_comm]
  rfl

theorem pay2 (c : Dev nD) (t : Fin cfg0.N) (r : Fin 512) (l : Fin 1024) :
    k0_pay2 (iblk m c 0 t) (iblk m c 1 t) (iblk m c 2 t) (iblk m c 3 t) (ix2 r l)
      = norm (A0 m c) (A1 m c) (A2 m c) (A3 m c) (row t r) l := by
  pointwise [k0_pay2]; simp only [pay1, blk3]; rfl

theorem final4 (c : Dev nD) : (dats m 0 c).arrAt 4 cfg0.N = res4 (A0 m c) (A1 m c) (A2 m c) := by
  refine (dats m 0 c).arrAt_eq_of_covers 4 _ (by decide +kernel) fun t hf y => ?_
  blk_simp
  rw [after0_4]
  frame_out; idx_vars y; rw [emb4, pay1]; rfl

theorem final5 (c : Dev nD) : (dats m 0 c).arrAt 5 cfg0.N = res5 (A0 m c) (A1 m c) (A2 m c) (A3 m c) := by
  refine (dats m 0 c).arrAt_eq_of_covers 5 _ (by decide +kernel) fun t hf y => ?_
  blk_simp
  rw [after0_5]
  frame_out; idx_vars y; rw [emb5]; pointwise [k0_pay3]; rw [pay2]; rfl

theorem final6 (c : Dev nD) : (dats m 0 c).arrAt 6 cfg0.N = res6 (A0 m c) (A1 m c) (A2 m c) (A3 m c) := by
  refine (dats m 0 c).arrAt_eq_of_covers 6 _ (by decide +kernel) fun t hf y => ?_
  blk_simp
  rw [after0_6]
  frame_out; idx_vars y; rw [emb6]; pointwise [k0_pay4]; rw [pay2]; rfl

end Cert.Kernel14Ideal.Value

namespace Cert.Reference14Ideal.Value

open Cert.Reference14Ideal Cert.Reference14Ideal.Gen Idealize.ShloMosaic Idealize.ShloMosaic.TcCoe Idealize.SL.Sem

variable (m : (ℓ : Loc nD τ sig) → Buf (Elt Ideal) ℓ)

abbrev A0 (c : Dev nD) : Vec Ideal S8192x1024 .f32 := m ((c : Thread nD τ).loc main_arg0)
abbrev A1 (c : Dev nD) : Vec Ideal S1x1024x1024 .f32 := m ((c : Thread nD τ).loc main_arg1)
abbrev A2 (c : Dev nD) : Vec Ideal S8192x1024 .f32 := m ((c : Thread nD τ).loc main_arg2)
abbrev A3 (c : Dev nD) : Vec Ideal S1x1024 .f32 := m ((c : Thread nD τ).loc main_arg3)

/-- What the reference's run leaves in its results. -/
theorem run_holds (ρ : Dev nD → PrngReg) : θ_run defs (onTc (τ := τ) (main (F := Ideal))) ⟨m, fun _ => 0, ρ⟩ fun r => ∀ c : Dev nD,
    r.2.mem ((c : Thread nD τ).loc main_v2) = Kernel14Ideal.Value.res4 (A0 m c) (A1 m c) (A2 m c)
    ∧ r.2.mem ((c : Thread nD τ).loc main_v15) = Kernel14Ideal.Value.res5 (A0 m c) (A1 m c) (A2 m c) (A3 m c)
    ∧ r.2.mem ((c : Thread nD τ).loc main_v16) = Kernel14Ideal.Value.res6 (A0 m c) (A1 m c) (A2 m c) (A3 m c)
    ∧ A0 r.2.mem c = A0 m c
    ∧ A1 r.2.mem c = A1 m c
    ∧ A2 r.2.mem c = A2 m c
    ∧ A3 r.2.mem c = A3 m c :=
  (θ_run _ _ _).mono (fun r h c => by
    obtain ⟨h4, h5, h6, hk⟩ := h c
    refine ⟨h4.trans ?_, h5.trans ?_, h6.trans ?_, hk⟩
    · funext j
      idx_vars j
      clean_types
      pointwise
      rfl
    · funext j
      idx_vars j
      clean_types
      pointwise
      rfl
    · funext j
      idx_vars j
      clean_types
      pointwise
      rfl) (run m ρ)

end Cert.Reference14Ideal.Value

namespace Cert.MixNorm

open Idealize.ShloMosaic Idealize.ShloMosaic.TcCoe Idealize.SL.Sem

theorem frame : quiescent_Reference14Ideal := fun m g _ =>
  (θ_run _ _ _).mono (fun r h => ⟨fun c => (h c).2.2.2, sem_eq_zero_of_no_sems (by decide) r.2⟩) (Reference14Ideal.Value.run_holds m g)

/-- The two programs leave equal arrays. -/
theorem algebraic : algebraic_Kernel14Ideal_Reference14Ideal := by
  intro m g m' g' _ hm
  refine ⟨fun c => (Kernel14Ideal.Gen.dats m 0 c).arrAt 4 _, fun c => (Kernel14Ideal.Gen.dats m 0 c).arrAt 5 _, fun c => (Kernel14Ideal.Gen.dats m 0 c).arrAt 6 _,
    Kernel14Ideal.Value.run_blocks m g, ?_⟩
  refine (θ_run _ _ _).mono (fun r h c => ?_) (Reference14Ideal.Value.run_holds m' g')
  obtain ⟨h4, h5, h6, hk⟩ := h c
  obtain ⟨a0, a1, a2, a3⟩ := hm c
  replace a0 : Reference14Ideal.Value.A0 m' c = Kernel14Ideal.Value.A0 m c := a0
  replace a1 : Reference14Ideal.Value.A1 m' c = Kernel14Ideal.Value.A1 m c := a1
  replace a2 : Reference14Ideal.Value.A2 m' c = Kernel14Ideal.Value.A2 m c := a2
  replace a3 : Reference14Ideal.Value.A3 m' c = Kernel14Ideal.Value.A3 m c := a3
  simp only [a0, a1, a2, a3] at h4 h5 h6
  exact ⟨h4.trans (Kernel14Ideal.Value.final4 m c).symm, h5.trans (Kernel14Ideal.Value.final5 m c).symm, h6.trans (Kernel14Ideal.Value.final6 m c).symm, hk⟩

end Cert.MixNorm

end
-- ==== Proof.DownNorm.lean ====
module

public import proofs.«01_k».proof.Proof.Rms
public import proofs.«01_k».proof.Proof.Pad
public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Tactic.CleanTypes

/-! The product that leaves the first feed-forward layer, the residual and the norm of the sum. -/

@[expose] public section

set_option maxRecDepth 16384

noncomputable section

namespace Cert.Kernel15Ideal.Value

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

/-- The width of a row, as written. -/
abbrev wide : EReal := Ideal.ofBits .f32 1149239296#32
abbrev half : EReal := Ideal.ofBits .f32 1056964608#32

section Spec

variable (z : Vec Ideal S8192x2816 .f32) (W : Vec Ideal S1x2816x1024 .f32) (x : Vec Ideal S8192x1024 .f32) (g : Vec Ideal S1x1024 .f32)

/-- The rows the norm takes: the residual plus half the product. -/
def rows (r : Fin 8192) (l : Fin 1024) : EReal := x (ix2 r l) + half * ∑ k, z (ix2 r k) * W (ix3 0 k l)

/-- The normalised rows. -/
def norm (r : Fin 8192) (l : Fin 1024) : EReal := rows z W x r l * Rms.inv wide (rows z W x r) * g (ix2 0 l)

/-- The three results: the rows, the normalised rows and their transpose. -/
def res4 : Vec Ideal S8192x1024 .f32 := fun j => rows z W x (j 0) (j 1)
def res5 : Vec Ideal S8192x1024 .bf16 := fun j => norm z W x g (j 0) (j 1)
def res6 : Vec Ideal S1024x8192 .bf16 := fun j => norm z W x g (j 1) (j 0)

end Spec

abbrev A0 (c : Dev nD) : Vec Ideal S8192x2816 .f32 := m ((c : Thread nD τ).loc main_arg0)
abbrev A1 (c : Dev nD) : Vec Ideal S1x2816x1024 .f32 := m ((c : Thread nD τ).loc main_arg1)
abbrev A2 (c : Dev nD) : Vec Ideal S8192x1024 .f32 := m ((c : Thread nD τ).loc main_arg2)
abbrev A3 (c : Dev nD) : Vec Ideal S1x1024 .f32 := m ((c : Thread nD τ).loc main_arg3)

/-- Row `r` of tile `t`. -/
abbrev row (t : Fin cfg0.N) (r : Fin 512) : Fin 8192 := ⟨t.val * 512 + r.val, by have : t.val < 16 := t.isLt; omega⟩

theorem idx_val : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, t.val] :=
  (by decide +kernel : ∀ t : Fin grid0.N, _)

theorem emb0 (t : Fin cfg0.N) (r : Fin 512) (l : Fin 3072) :
    ((View.whole main_v3).slice (win0_0.rect t)).emb (ix2 r l) = ix2 (row t r) l := by blk_ext [idx_val t]

theorem emb1 (t : Fin cfg0.N) (r : Fin 3072) (l : Fin 1024) :
    ((View.whole main_v8).slice (win0_1.rect t)).emb (ix2 r l) = ix2 r l := by blk_ext [idx_val t]

theorem blk0 (c : Dev nD) (t : Fin cfg0.N) (r : Fin 512) (k : Fin 3072) :
    iblk m c 0 t (ix2 r k) = Pad.lay (fun j => A0 m c (ix2 (row t r) j)) k := by
  blk_simp [iblk, idx_val t]
  rw [emb0]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  change shapeCast S8192x3072 (pad S8192x4x768 ![0, 0, 0] ![0, 0, 64] ![0, 0, 0]
    (shapeCast S8192x4x704 (A0 m c) shapeCasts_S8192x2816_S8192x4x704) (sitofp (F := Ideal) .f32 (constantI S_ 32 0#32)) pads_S8192x4x704_S8192x4x768_000_000_0640 h_S_)
    shapeCasts_S8192x4x768_S8192x3072 (ix2 (row t r) k) = _
  exact Pad.cols (A0 m c) _ _ _ _ _ Pad.int_zero (row t r) k

theorem blk1 (c : Dev nD) (t : Fin cfg0.N) (k : Fin 3072) (l : Fin 1024) :
    iblk m c 1 t (ix2 k l) = Pad.lay (fun j => A1 m c (ix3 0 j l)) k := by
  blk_simp [iblk, idx_val t]
  rw [emb1]
  change StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.cons_append, List.nil_append,
    List.append_nil]
  entry_read
  change shapeCast S3072x1024 (pad S4x768x1024 ![0, 0, 0] ![0, 64, 0] ![0, 0, 0]
    (shapeCast S4x704x1024 (shapeCast S2816x1024 (A1 m c) shapeCasts_S1x2816x1024_S2816x1024) shapeCasts_S2816x1024_S4x704x1024)
    (sitofp (F := Ideal) .f32 (constantI S_ 32 0#32)) pads_S4x704x1024_S4x768x1024_000_0640_000 h_S_)
    shapeCasts_S4x768x1024_S3072x1024 (ix2 k l) = _
  refine (Pad.rows _ _ _ _ _ _ Pad.int_zero k l).trans ?_
  exact congrArg (fun f => Pad.lay f k) (funext fun j => by pointwise)

theorem emb4 (t : Fin cfg0.N) (r : Fin 512) (l : Fin 1024) :
    ((View.whole main_v9_0).slice (win0_4.rect t)).emb (ix2 r l) = ix2 (row t r) l := by blk_ext [idx_val t]

theorem emb5 (t : Fin cfg0.N) (r : Fin 512) (l : Fin 1024) :
    ((View.whole main_v9_1).slice (win0_5.rect t)).emb (ix2 r l) = ix2 (row t r) l := by blk_ext [idx_val t]

theorem emb6 (t : Fin cfg0.N) (l : Fin 1024) (r : Fin 512) :
    ((View.whole main_v9_2).slice (win0_6.rect t)).emb (ix2 l r) = ix2 l (row t r) := by blk_ext [idx_val t]

theorem blk2 (c : Dev nD) (t : Fin cfg0.N) (r : Fin 512) (l : Fin 1024) : iblk m c 2 t (ix2 r l) = A2 m c (ix2 (row t r) l) := by
  blk_point [iblk, V, idx_val t]

theorem blk3 (c : Dev nD) (t : Fin cfg0.N) (r : Fin 1) (l : Fin 1024) : iblk m c 3 t (ix2 r l) = A3 m c (ix2 0 l) := by
  blk_point [iblk, V, idx_val t]

theorem pay1 (c : Dev nD) (t : Fin cfg0.N) (r : Fin 512) (l : Fin 1024) :
    k0_pay1 (iblk m c 0 t) (iblk m c 1 t) (iblk m c 2 t) (ix2 r l) = rows (A0 m c) (A1 m c) (A2 m c) (row t r) l := by
  pointwise [k0_pay1]
  simp only [blk0, blk1, blk2, Pad.sum_lay]
  rw [add_comm, mul_comm]
  rfl

theorem pay2 (c : Dev nD) (t : Fin cfg0.N) (r : Fin 512) (l : Fin 1024) :
    k0_pay2 (iblk m c 0 t) (iblk m c 1 t) (iblk m c 2 t) (iblk m c 3 t) (ix2 r l)
      = norm (A0 m c) (A1 m c) (A2 m c) (A3 m c) (row t r) l := by
  pointwise [k0_pay2]; simp only [pay1, blk3]; rfl

theorem final4 (c : Dev nD) : (dats m 0 c).arrAt 4 cfg0.N = res4 (A0 m c) (A1 m c) (A2 m c) := by
  refine (dats m 0 c).arrAt_eq_of_covers 4 _ (by decide +kernel) fun t hf y => ?_
  blk_simp
  rw [after0_4]
  frame_out; idx_vars y; rw [emb4, pay1]; rfl

theorem final5 (c : Dev nD) : (dats m 0 c).arrAt 5 cfg0.N = res5 (A0 m c) (A1 m c) (A2 m c) (A3 m c) := by
  refine (dats m 0 c).arrAt_eq_of_covers 5 _ (by decide +kernel) fun t hf y => ?_
  blk_simp
  rw [after0_5]
  frame_out; idx_vars y; rw [emb5]; pointwise [k0_pay3]; rw [pay2]; rfl

theorem final6 (c : Dev nD) : (dats m 0 c).arrAt 6 cfg0.N = res6 (A0 m c) (A1 m c) (A2 m c) (A3 m c) := by
  refine (dats m 0 c).arrAt_eq_of_covers 6 _ (by decide +kernel) fun t hf y => ?_
  blk_simp
  rw [after0_6]
  frame_out; idx_vars y; rw [emb6]; pointwise [k0_pay4]; rw [pay2]; rfl

end Cert.Kernel15Ideal.Value

namespace Cert.Reference15Ideal.Value

open Cert.Reference15Ideal Cert.Reference15Ideal.Gen Idealize.ShloMosaic Idealize.ShloMosaic.TcCoe Idealize.SL.Sem

variable (m : (ℓ : Loc nD τ sig) → Buf (Elt Ideal) ℓ)

abbrev A0 (c : Dev nD) : Vec Ideal S8192x2816 .f32 := m ((c : Thread nD τ).loc main_arg0)
abbrev A1 (c : Dev nD) : Vec Ideal S1x2816x1024 .f32 := m ((c : Thread nD τ).loc main_arg1)
abbrev A2 (c : Dev nD) : Vec Ideal S8192x1024 .f32 := m ((c : Thread nD τ).loc main_arg2)
abbrev A3 (c : Dev nD) : Vec Ideal S1x1024 .f32 := m ((c : Thread nD τ).loc main_arg3)

/-- What the reference's run leaves in its results. -/
theorem run_holds (ρ : Dev nD → PrngReg) : θ_run defs (onTc (τ := τ) (main (F := Ideal))) ⟨m, fun _ => 0, ρ⟩ fun r => ∀ c : Dev nD,
    r.2.mem ((c : Thread nD τ).loc main_v4) = Kernel15Ideal.Value.res4 (A0 m c) (A1 m c) (A2 m c)
    ∧ r.2.mem ((c : Thread nD τ).loc main_v17) = Kernel15Ideal.Value.res5 (A0 m c) (A1 m c) (A2 m c) (A3 m c)
    ∧ r.2.mem ((c : Thread nD τ).loc main_v18) = Kernel15Ideal.Value.res6 (A0 m c) (A1 m c) (A2 m c) (A3 m c)
    ∧ A0 r.2.mem c = A0 m c
    ∧ A1 r.2.mem c = A1 m c
    ∧ A2 r.2.mem c = A2 m c
    ∧ A3 r.2.mem c = A3 m c :=
  (θ_run _ _ _).mono (fun r h c => by
    obtain ⟨h4, h5, h6, hk⟩ := h c
    refine ⟨h4.trans ?_, h5.trans ?_, h6.trans ?_, hk⟩
    · funext j
      idx_vars j
      clean_types
      pointwise
      rfl
    · funext j
      idx_vars j
      clean_types
      pointwise
      rfl
    · funext j
      idx_vars j
      clean_types
      pointwise
      rfl) (run m ρ)

end Cert.Reference15Ideal.Value

namespace Cert.DownNorm

open Idealize.ShloMosaic Idealize.ShloMosaic.TcCoe Idealize.SL.Sem

theorem frame : quiescent_Reference15Ideal := fun m g _ =>
  (θ_run _ _ _).mono (fun r h => ⟨fun c => (h c).2.2.2, sem_eq_zero_of_no_sems (by decide) r.2⟩) (Reference15Ideal.Value.run_holds m g)

/-- The two programs leave equal arrays. -/
theorem algebraic : algebraic_Kernel15Ideal_Reference15Ideal := by
  intro m g m' g' _ hm
  refine ⟨fun c => (Kernel15Ideal.Gen.dats m 0 c).arrAt 4 _, fun c => (Kernel15Ideal.Gen.dats m 0 c).arrAt 5 _, fun c => (Kernel15Ideal.Gen.dats m 0 c).arrAt 6 _,
    Kernel15Ideal.Value.run_blocks m g, ?_⟩
  refine (θ_run _ _ _).mono (fun r h c => ?_) (Reference15Ideal.Value.run_holds m' g')
  obtain ⟨h4, h5, h6, hk⟩ := h c
  obtain ⟨a0, a1, a2, a3⟩ := hm c
  replace a0 : Reference15Ideal.Value.A0 m' c = Kernel15Ideal.Value.A0 m c := a0
  replace a1 : Reference15Ideal.Value.A1 m' c = Kernel15Ideal.Value.A1 m c := a1
  replace a2 : Reference15Ideal.Value.A2 m' c = Kernel15Ideal.Value.A2 m c := a2
  replace a3 : Reference15Ideal.Value.A3 m' c = Kernel15Ideal.Value.A3 m c := a3
  simp only [a0, a1, a2, a3] at h4 h5 h6
  exact ⟨h4.trans (Kernel15Ideal.Value.final4 m c).symm, h5.trans (Kernel15Ideal.Value.final5 m c).symm, h6.trans (Kernel15Ideal.Value.final6 m c).symm, hk⟩

end Cert.DownNorm

end
-- ==== Proof.Shift.lean ====
module

public import Idealize.ShloMosaic.Lib.WritesUnit
public import Idealize.ShloMosaic.Lib.Pipeline.ValueKit
public import Idealize.ShloMosaic.Lib.Pipeline.ReadBack
public import Idealize.ShloMosaic.Lib.Tactic.CleanTypes

/-! Rows read at shifts, as the causal convolution's launches keep them: a tile's rows with the 32 rows next to it, their seven shifted
copies, and the eight bands the results are written in. -/

@[expose] public section

set_option maxRecDepth 16384

noncomputable section

namespace Cert.Shift

open Idealize.ShloMosaic Idealize.ShloMosaic.TcCoe Idealize.SL.Sem

abbrev Ext : Shape := ⟨2, ![288, 512]⟩
abbrev Planes : Shape := ⟨3, ![8, 288, 512]⟩
abbrev Plane : Shape := ⟨2, ![280, 512]⟩
abbrev Plane1 : Shape := ⟨3, ![1, 280, 512]⟩
abbrev Tile : Shape := ⟨2, ![256, 512]⟩
abbrev Band : Shape := ⟨2, ![32, 512]⟩

section Spec

variable (p : Vec Ideal ⟨2, ![8192, 1536]⟩ .f32)

/-- The gate of row `r`. -/
def sg (r : Fin 8192) (l : Fin 512) : EReal := Ideal.logistic (p (ix2 r ⟨512 + l.val, by omega⟩))

/-- The value of row `r` that the gate multiplies. -/
def val (r : Fin 8192) (l : Fin 512) : EReal := p (ix2 r ⟨l.val, by omega⟩)

/-- The convolution's argument at place `n - 32` of sequence `s`, zero before the start. -/
def aAt (s n : ℕ) (l : Fin 512) : EReal :=
  if h : s < 2 ∧ 32 ≤ n ∧ n < 4128 then val p ⟨s * 4096 + (n - 32), by omega⟩ l * sg p ⟨s * 4096 + (n - 32), by omega⟩ l else 0

end Spec

/-- Whether the rows from `a` on start a sequence, in the launches' words. -/
abbrev startBit (a : BitVec 32) : BitVec 1 :=
  Scalar.cmpi CmpIPredicate.eq
    (Scalar.select
      (Scalar.andi (Scalar.xori (Scalar.cmpi CmpIPredicate.slt (Scalar.remsi (Scalar.muli a 256#32) 4096#32) 0#32) 0#1)
        (Scalar.cmpi CmpIPredicate.ne (Scalar.remsi (Scalar.muli a 256#32) 4096#32) 0#32))
      (Scalar.addi (Scalar.remsi (Scalar.muli a 256#32) 4096#32) 4096#32) (Scalar.remsi (Scalar.muli a 256#32) 4096#32))
    0#32

theorem keep (a b : EReal) : Scalar.select (0#1) a b = b := rfl

theorem drop (a b : EReal) : Scalar.select (1#1) a b = a := rfl

/-- `R` rows from `off` on. -/
def tall (R : ℕ) (E : ℕ → Fin 512 → EReal) (off : ℕ) : Vec Ideal ⟨2, ![R, 512]⟩ .f32 := fun j => E (off + (j 0).val) (j 1)

/-- The same under a leading axis of one. -/
def slab (R : ℕ) (E : ℕ → Fin 512 → EReal) (off : ℕ) : Vec Ideal ⟨3, ![1, R, 512]⟩ .f32 := fun j => E (off + (j 1).val) (j 2)

theorem tall_apply (R : ℕ) (E : ℕ → Fin 512 → EReal) (off : ℕ) (i : Fin R) (l : Fin 512) : tall R E off (ix2 i l) = E (off + i.val) l := rfl

theorem slab_apply (R : ℕ) (E : ℕ → Fin 512 → EReal) (off : ℕ) (z : Fin 1) (i : Fin R) (l : Fin 512) :
    slab R E off (ix3 z i l) = E (off + i.val) l := rfl

theorem cover (lo hi : ℕ) (hi0 : lo + hi = 288) (y : Ext.Idx) (i1 i2) {f g} :
    ∃ q ∈ ([⟨Rect.unit (s := Ext) ![lo, 0] ![hi, 512] i1, f⟩, ⟨Rect.unit (s := Ext) ![0, 0] ![lo, 512] i2, g⟩] :
      List (View.Piece (Elt Ideal) Ext .f32)), y ∈ q.1.set := by
  idx_vars y
  by_cases h : y0.val < lo
  · refine ⟨_, .tail _ (.head _), (Rect.mem_set_unit (inb := i2)).2 fun a => ?_⟩
    fin_cases a <;> simp <;> omega
  · refine ⟨_, .head _, (Rect.mem_set_unit (inb := i1)).2 fun a => ?_⟩
    fin_cases a <;> simp <;> omega

theorem inPlane (y : Planes.Idx) (h1 : (y 1).val < 280) (q : ℕ) (h0 : q = (y 0).val) (a : Fin 3) :
    ![q, 0, 0] a ≤ (y a).val ∧ (y a).val < ![q, 0, 0] a + ![1, 280, 512] a := by
  have h2 : (y 2).val < 512 := (y 2).isLt
  fin_cases a <;> simp <;> omega

theorem inBand (y : Tile.Idx) (q : ℕ) (h0 : q ≤ (y 0).val ∧ (y 0).val < q + 32) (a : Fin 2) :
    ![q, 0] a ≤ (y a).val ∧ (y a).val < ![q, 0] a + ![32, 512] a := by
  have h2 : (y 1).val < 512 := (y 1).isLt
  fin_cases a <;> simp <;> omega

variable {sig : RefSig} (E : ℕ → Fin 512 → EReal)

/-- Rows of the scratch that holds the 32 rows before a tile, written last, and the tile's. -/
theorem before (v : View sig .tc .vmem Ext .f32) (f : Vec Ideal Band .f32) (g : Vec Ideal Tile .f32) (hf : ∀ r l, f (ix2 r l) = E r.val l)
    (hg : ∀ r l, g (ix2 r l) = E (32 + r.val) l) (R off : ℕ) (i1 i2 inb) :
    v.readCov (Val := Elt Ideal)
      [⟨Rect.unit (s := Ext) ![0, 0] ![32, 512] i1, f⟩, ⟨Rect.unit (s := Ext) ![32, 0] ![256, 512] i2, g⟩]
      (Rect.unit (s := Ext) ![off, 0] ![R, 512] inb).toLoadRect = tall R E off := by
  rw [View.readCov_eq_canon']
  funext j
  refine (View.canon_apply_of_pieces (Val := Elt Ideal) (S := Ext) (e := .f32) (fun y => E (y 0).val (y 1)) _ ?_ _ ?_).trans ?_
  · refine List.forall_mem_cons.2 ⟨fun x => ?_, List.forall_mem_cons.2 ⟨fun x => ?_, fun _ h => absurd h List.not_mem_nil⟩⟩
    · idx_vars x; refine (hf _ _).trans (congrArg₂ _ ?_ (Fin.ext ?_)) <;> simp [ValueKit.rect_emb_unit_val]
    · idx_vars x; refine (hg _ _).trans (congrArg₂ _ ?_ (Fin.ext ?_)) <;> simp [ValueKit.rect_emb_unit_val]
  · obtain ⟨q, hq, hm⟩ := cover 32 256 rfl ((Rect.unit (s := Ext) ![off, 0] ![R, 512] inb).toLoadRect.idx j) i2 i1 (f := g) (g := f)
    exact ⟨q, (List.Perm.swap _ _ _).mem_iff.1 hq, hm⟩
  · refine congrArg₂ E ?_ (Fin.ext ?_) <;> simp

theorem planes (v : View sig .tc .vmem Planes .f32) (p o R : ℕ) (hp : 1 ≤ p ∧ p ≤ 7) (ho : o + R ≤ 280) (h1 h2 h3 h4 h5 h6 h7 b inb) :
    v.readCov (Val := Elt Ideal)
      [⟨Rect.unit (s := Planes) ![7, 0, 0] ![1, 280, 512] h7, shapeCast (s := Plane) Plane1 (tall 280 E 7) b⟩,
        ⟨Rect.unit (s := Planes) ![6, 0, 0] ![1, 280, 512] h6, shapeCast (s := Plane) Plane1 (tall 280 E 6) b⟩,
        ⟨Rect.unit (s := Planes) ![5, 0, 0] ![1, 280, 512] h5, shapeCast (s := Plane) Plane1 (tall 280 E 5) b⟩,
        ⟨Rect.unit (s := Planes) ![4, 0, 0] ![1, 280, 512] h4, shapeCast (s := Plane) Plane1 (tall 280 E 4) b⟩,
        ⟨Rect.unit (s := Planes) ![3, 0, 0] ![1, 280, 512] h3, shapeCast (s := Plane) Plane1 (tall 280 E 3) b⟩,
        ⟨Rect.unit (s := Planes) ![2, 0, 0] ![1, 280, 512] h2, shapeCast (s := Plane) Plane1 (tall 280 E 2) b⟩,
        ⟨Rect.unit (s := Planes) ![1, 0, 0] ![1, 280, 512] h1, shapeCast (s := Plane) Plane1 (tall 280 E 1) b⟩]
      (Rect.unit (s := Planes) ![p, o, 0] ![1, R, 512] inb).toLoadRect = slab R E (p + o) := by
  rw [View.readCov_eq_canon']
  funext j
  have hj : (j 1).val < R := (j 1).isLt
  have hl : (j 2).val < 512 := (j 2).isLt
  have hz : (j 0).val < 1 := (j 0).isLt
  refine (View.canon_apply_of_pieces (Val := Elt Ideal) (S := Planes) (e := .f32) (fun y => E ((y 0).val + (y 1).val) (y 2)) _ ?_ _ ?_).trans ?_
  · simp only [List.forall_mem_cons]
    and_intros
    any_goals
      intro x; idx_vars x
      pointwise
      refine congrArg₂ E ?_ (Fin.ext ?_) <;> simp [ValueKit.rect_emb_unit_val]
    exact fun _ h => absurd h List.not_mem_nil
  · simp only [List.mem_cons, exists_eq_or_imp, Rect.mem_set_unit]
    have e0 : ((Rect.unit (s := Planes) ![p, o, 0] ![1, R, 512] inb).toLoadRect.idx j 0).val = p := by simp
    have e1 : ((Rect.unit (s := Planes) ![p, o, 0] ![1, R, 512] inb).toLoadRect.idx j 1).val < 280 := by simp; omega
    have hd := inPlane _ e1
    rw [e0] at hd
    rcases (by omega : 7 = p ∨ 6 = p ∨ 5 = p ∨ 4 = p ∨ 3 = p ∨ 2 = p ∨ 1 = p) with h | h | h | h | h | h | h <;> repeat (first | exact Or.inl (hd _ h) | apply Or.inr)
  · refine congrArg₂ E ?_ (Fin.ext ?_) <;> simp
    omega

section Bands

variable (G : ℕ → Fin 512 → EReal) (f0 f1 f2 f3 f4 f5 f6 f7 : Vec Ideal Band .f32) (h0 h1 h2 h3 h4 h5 h6 h7)

/-- The eight bands of a tile, the last one written first. -/
abbrev eight : List (View.Piece (Elt Ideal) Tile .f32) :=
  [⟨Rect.unit (s := Tile) ![224, 0] ![32, 512] h7, f7⟩, ⟨Rect.unit (s := Tile) ![192, 0] ![32, 512] h6, f6⟩,
    ⟨Rect.unit (s := Tile) ![160, 0] ![32, 512] h5, f5⟩, ⟨Rect.unit (s := Tile) ![128, 0] ![32, 512] h4, f4⟩,
    ⟨Rect.unit (s := Tile) ![96, 0] ![32, 512] h3, f3⟩, ⟨Rect.unit (s := Tile) ![64, 0] ![32, 512] h2, f2⟩,
    ⟨Rect.unit (s := Tile) ![32, 0] ![32, 512] h1, f1⟩, ⟨Rect.unit (s := Tile) ![0, 0] ![32, 512] h0, f0⟩]

variable (g0 : ∀ i l, f0 (ix2 i l) = G (0 + i.val) l) (g1 : ∀ i l, f1 (ix2 i l) = G (32 + i.val) l) (g2 : ∀ i l, f2 (ix2 i l) = G (64 + i.val) l)
  (g3 : ∀ i l, f3 (ix2 i l) = G (96 + i.val) l) (g4 : ∀ i l, f4 (ix2 i l) = G (128 + i.val) l) (g5 : ∀ i l, f5 (ix2 i l) = G (160 + i.val) l)
  (g6 : ∀ i l, f6 (ix2 i l) = G (192 + i.val) l) (g7 : ∀ i l, f7 (ix2 i l) = G (224 + i.val) l)

include g0 g1 g2 g3 g4 g5 g6 g7

theorem bands_canon (y : Tile.Idx) : View.canon (eight f0 f1 f2 f3 f4 f5 f6 f7 h0 h1 h2 h3 h4 h5 h6 h7) y = G (y 0).val (y 1) := by
  unfold eight
  refine View.canon_apply_of_pieces (Val := Elt Ideal) (S := Tile) (e := .f32) (fun y => G (y 0).val (y 1)) _ ?_ _ ?_
  · simp only [List.forall_mem_cons]
    and_intros
    any_goals
      intro x; idx_vars x
      refine Eq.trans (by first | exact g0 _ _ | exact g1 _ _ | exact g2 _ _ | exact g3 _ _ | exact g4 _ _ | exact g5 _ _ | exact g6 _ _ | exact g7 _ _) (congrArg₂ G ?_ (Fin.ext ?_)) <;> simp [ValueKit.rect_emb_unit_val]
    exact fun _ h => absurd h List.not_mem_nil
  · simp only [List.mem_cons, exists_eq_or_imp, Rect.mem_set_unit]
    have hd := inBand y
    have hy : (y 0).val < 256 := (y 0).isLt
    rcases (by omega : (224 ≤ (y 0).val ∧ (y 0).val < 224 + 32) ∨ (192 ≤ (y 0).val ∧ (y 0).val < 192 + 32)
      ∨ (160 ≤ (y 0).val ∧ (y 0).val < 160 + 32) ∨ (128 ≤ (y 0).val ∧ (y 0).val < 128 + 32) ∨ (96 ≤ (y 0).val ∧ (y 0).val < 96 + 32)
      ∨ (64 ≤ (y 0).val ∧ (y 0).val < 64 + 32) ∨ (32 ≤ (y 0).val ∧ (y 0).val < 32 + 32) ∨ (0 ≤ (y 0).val ∧ (y 0).val < 0 + 32))
      with h | h | h | h | h | h | h | h <;> repeat (first | exact Or.inl (hd _ h) | apply Or.inr)

theorem bands (v : View sig .tc .vmem Tile .f32) (inb) :
    v.readCov (Val := Elt Ideal) (eight f0 f1 f2 f3 f4 f5 f6 f7 h0 h1 h2 h3 h4 h5 h6 h7)
      (Rect.unit (s := Tile) ![0, 0] ![256, 512] inb).toLoadRect = tall 256 G 0 := by
  rw [View.readCov_eq_canon']
  funext j
  refine (bands_canon G f0 f1 f2 f3 f4 f5 f6 f7 h0 h1 h2 h3 h4 h5 h6 h7 g0 g1 g2 g3 g4 g5 g6 g7 _).trans (congrArg₂ G ?_ (Fin.ext ?_)) <;> simp

end Bands

end Cert.Shift

end
-- ==== Proof.Conv.lean ====
module

public import proofs.«01_k».proof.Proof.Ln
public import proofs.«01_k».proof.Proof.Shift
public import proofs.«01_k».proof.Proof.Gen.Kernel16Ideal.Value

/-! The causal convolution and its norms: what the launch's tiles hold and what its results hold at the end. -/

@[expose] public section

set_option maxRecDepth 16384

noncomputable section

namespace Cert.Kernel16Ideal.Value

open Cert.Kernel16Ideal Cert.Kernel16Ideal.Gen Idealize.ShloMosaic Idealize.ShloMosaic.TcCoe Idealize.SL.Sem
open Idealize.ShloMosaic.Pipeline (Dat)
open Cert.Shift

variable (m : (ℓ : Loc nD τ sig) → Buf (Elt Ideal) ℓ)

/-- The rows' width. -/
abbrev wide : EReal := Ideal.ofBits .f32 1140850688#32

section Spec

variable (p : Vec Ideal S8192x1536 .f32) (w : Vec Ideal S1x31x512 .f32) (cb lg lb og : Vec Ideal S1x512 .f32)

/-- The convolution of row `r`. -/
def conv (r : Fin 8192) (l : Fin 512) : EReal :=
  (∑ k : Fin 31, w (ix3 0 k l) * aAt p (r.val / 4096) (r.val % 4096 + 2 + k.val) l) + cb (ix2 0 l)

/-- The layer norm of a row. -/
def normed (x : Fin 512 → EReal) (l : Fin 512) : EReal := Ln.unit wide x l * lg (ix2 0 l) + lb (ix2 0 l)

/-- The silu of the layer norm. -/
def act (x : Fin 512 → EReal) (l : Fin 512) : EReal := normed lg lb x l * Ideal.logistic (normed lg lb x l)

/-- The first result: the convolution. -/
def res9 : Vec Ideal S8192x512 .f32 := fun j => conv p w cb (j 0) (j 1)

/-- The second result: the norm of the silu of the layer norm of the convolution. -/
def res10 : Vec Ideal S8192x512 .bf16 := fun j =>
  act lg lb (conv p w cb (j 0)) (j 1) * Rms.inv wide (act lg lb (conv p w cb (j 0))) * og (ix2 0 (j 1))

end Spec

abbrev A0 (c : Dev nD) : Vec Ideal S8192x1536 .f32 := m ((c : Thread nD τ).loc main_arg0)
abbrev A1 (c : Dev nD) : Vec Ideal S1x31x512 .f32 := m ((c : Thread nD τ).loc main_arg1)
abbrev A2 (c : Dev nD) : Vec Ideal S1x512 .f32 := m ((c : Thread nD τ).loc main_arg2)
abbrev A3 (c : Dev nD) : Vec Ideal S1x512 .f32 := m ((c : Thread nD τ).loc main_arg3)
abbrev A4 (c : Dev nD) : Vec Ideal S1x512 .f32 := m ((c : Thread nD τ).loc main_arg4)
abbrev A5 (c : Dev nD) : Vec Ideal S1x512 .f32 := m ((c : Thread nD τ).loc main_arg5)

/-- Row `r` of tile `t`. -/
abbrev row (t : Fin cfg0.N) (r : Fin 256) : Fin 8192 := ⟨t.val * 256 + r.val, by have : t.val < 32 := t.isLt; omega⟩

theorem idx_val : ∀ t : Fin cfg0.N, win0_0.index t = ![t.val, 0] ∧ win0_1.index t = ![t.val, 1] ∧ win0_2.index t = ![8 * t.val - 1, 0]
    ∧ win0_3.index t = ![8 * t.val - 1, 1] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

theorem first_val : ∀ t : Fin cfg0.N, startBit (BitVec.ofNat 32 (grid0.coords t 0)) = if t.val % 16 = 0 then 1#1 else 0#1 :=
  (by decide +kernel : ∀ t : Fin grid0.N, _)

theorem emb4 (t : Fin cfg0.N) (r : Fin 32) (l : Fin 512) :
    ((View.whole main_v1).slice (win0_4.rect t)).emb (ix2 r l) = ix2 r l := by blk_ext [idx_val t]

theorem emb9 (t : Fin cfg0.N) (r : Fin 256) (l : Fin 512) :
    ((View.whole main_v2_0).slice (win0_9.rect t)).emb (ix2 r l) = ix2 (row t r) l := by blk_ext [idx_val t]

theorem emb10 (t : Fin cfg0.N) (r : Fin 256) (l : Fin 512) :
    ((View.whole main_v2_1).slice (win0_10.rect t)).emb (ix2 r l) = ix2 (row t r) l := by blk_ext [idx_val t]

section Tile

variable (c : Dev nD) (t : Fin cfg0.N)

theorem blk0 (r : Fin 256) (l : Fin 512) : iblk m c 0 t (ix2 r l) = val (A0 m c) (row t r) l := by
  unfold val; blk_point [iblk, V, idx_val t]

theorem blk1 (r : Fin 256) (l : Fin 512) : Ideal.logistic (iblk m c 1 t (ix2 r l)) = sg (A0 m c) (row t r) l := by
  unfold sg; blk_point [iblk, V, idx_val t]

theorem blk2 (r : Fin 32) (l : Fin 512) :
    iblk m c 2 t (ix2 r l) = val (A0 m c) ⟨(8 * t.val - 1) * 32 + r.val, by have : t.val < 32 := t.isLt; omega⟩ l := by
  unfold val; blk_point [iblk, V, idx_val t]

theorem blk3 (r : Fin 32) (l : Fin 512) :
    Ideal.logistic (iblk m c 3 t (ix2 r l)) = sg (A0 m c) ⟨(8 * t.val - 1) * 32 + r.val, by have : t.val < 32 := t.isLt; omega⟩ l := by
  unfold sg; blk_point [iblk, V, idx_val t]

theorem blk4 (r : Fin 31) (l : Fin 512) : iblk m c 4 t (ix2 ⟨r.val, by omega⟩ l) = A1 m c (ix3 0 r l) := by
  blk_simp [iblk, idx_val t]
  rw [emb4]
  change StableHlo.after (hostOps0 ++ hostOps0_1) _ _ _ = _
  simp only [hostOps0, hostOps0_1, List.cons_append, List.nil_append]
  entry_read
  change pad S32x512 ![0, 0] ![1, 0] ![0, 0] (shapeCast S31x512 (A1 m c) shapeCasts_S1x31x512_S31x512) _ pads_S31x512_S32x512_010_000 _ _ = _
  pointwise

theorem blk5 (z : Fin 1) (l : Fin 512) : iblk m c 5 t (ix2 z l) = A2 m c (ix2 0 l) := by blk_point [iblk, V, idx_val t]

theorem blk6 (z : Fin 1) (l : Fin 512) : iblk m c 6 t (ix2 z l) = A3 m c (ix2 0 l) := by blk_point [iblk, V, idx_val t]

theorem blk7 (z : Fin 1) (l : Fin 512) : iblk m c 7 t (ix2 z l) = A4 m c (ix2 0 l) := by blk_point [iblk, V, idx_val t]

theorem blk8 (z : Fin 1) (l : Fin 512) : iblk m c 8 t (ix2 z l) = A5 m c (ix2 0 l) := by blk_point [iblk, V, idx_val t]

/-- The 32 rows of the convolution's argument before tile `t`, and the tile's. -/
def ext (n : ℕ) (l : Fin 512) : EReal := aAt (A0 m c) (t.val / 16) (t.val % 16 * 256 + n) l

theorem ext_hi (r : Fin 256) (l : Fin 512) : k0_pay1 (iblk m c 0 t) (iblk m c 1 t) (ix2 r l) = ext m c t (32 + r.val) l := by
  have h : t.val < 32 := t.isLt
  pointwise [k0_pay1]
  rw [blk0, blk1]
  unfold ext aAt
  rw [dif_pos ⟨by omega, by omega, by omega⟩]
  congr 2 <;> (apply Fin.ext; simp only [row]; omega)

theorem ext_lo (r : Fin 32) (l : Fin 512) :
    k0_pay2 (F := Ideal) (grid0.coords t) (iblk m c 2 t) (iblk m c 3 t) (ix2 r l) = ext m c t r.val l := by
  have h : t.val < 32 := t.isLt
  have hb := first_val t
  unfold startBit at hb
  pointwise [k0_pay2]
  rw [blk2, blk3]
  rw [show Scalar.select (Scalar.cmpi CmpIPredicate.eq 4096#32 0#32) 1#32 4096#32 = 4096#32 by decide,
    show Scalar.cmpi CmpIPredicate.slt 4096#32 0#32 = 0#1 by decide, hb]
  unfold ext aAt
  by_cases h1 : t.val % 16 = 0
  · rw [if_pos h1, dif_neg (by omega), drop]
  · rw [if_neg h1, dif_pos ⟨by omega, by omega, by omega⟩, keep]
    congr 2 <;> (apply Fin.ext; simp only; omega)

/-- The taps' rows, as a function of the row's number. -/
def tap (k : ℕ) (l : Fin 512) : EReal := if h : k < 31 then A1 m c (ix3 0 ⟨k, h⟩ l) else 0

theorem ldW (k : ℕ) (hk : k < 31) (inb) :
    View.ld (iblk m c 4 t) (Rect.unit (s := S32x512) ![k, 0] ![1, 512] inb) = tall 1 (tap m c) k := by
  funext j
  idx_vars j
  have h0 : j0.val = 0 := by omega
  unfold tall tap
  refine Eq.trans ?_ ((blk4 m c t ⟨k, hk⟩ j1).trans ?_)
  · refine congrArg (iblk m c 4 t) (funext fun a => Fin.ext ?_)
    fin_cases a <;> simp [h0]
  · simp [h0, hk]

/-- The convolution of tile `t`, as a function of the row's number. -/
def tile (n : ℕ) (l : Fin 512) : EReal := (∑ k ∈ Finset.range 31, tap m c k l * ext m c t (n + (2 + k)) l) + A2 m c (ix2 0 l)

/-- The same in the order the taps are added from the band at `b` on. -/
theorem tile_eq (b : ℕ) (i : Fin 32) (l : Fin 512) :
    tile m c t (b + i.val) l = (∑ k ∈ Finset.range 31, tap m c k l * ext m c t (b + 2 + k + i.val) l) + A2 m c (ix2 0 l) := by
  unfold tile
  refine congrArg (· + _) (Finset.sum_congr rfl fun k _ => congrArg (_ * ext m c t · l) ?_)
  omega

theorem tile_row (r : Fin 256) (l : Fin 512) : tile m c t r.val l = conv (A0 m c) (A1 m c) (A2 m c) (row t r) l := by
  unfold tile conv
  rw [Finset.sum_range]
  have h : t.val < 32 := t.isLt
  refine congrArg (· + _) (Finset.sum_congr rfl fun k _ => ?_)
  refine congrArg₂ (· * ·) (dif_pos k.isLt) (congrArg₂ (aAt (A0 m c) · · l) ?_ ?_) <;> simp only [row] <;> omega

attribute [local pointwise] k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 k0_pay102 k0_pay103 k0_pay104 k0_pay105

theorem w9 (y : S256x512.Idx) : (outsAt0 m c t).1 y = tile m c t (y 0).val (y 1) := by
  dsimp only [outsAt0]
  frame_out
  simp only [before (ext m c t) _ _ _ (ext_lo m c t) (ext_hi m c t)]
  simp (discharger := decide) only [k0_pay3, k0_pay4, k0_pay5, k0_pay6, k0_pay7, k0_pay8, k0_pay9, planes (ext m c t), Nat.reduceAdd, ldW]
  rw [bands_canon (tile m c t)]
  all_goals
    intro i l
    refine Eq.trans ?_ (tile_eq m c t _ i l).symm
    pointwise
    simp only [tall_apply, slab_apply, blk5, Finset.sum_range_succ, Finset.sum_range_zero, Nat.reduceAdd, zero_add, Fin.val_zero, add_zero]

theorem w10 (r : Fin 256) (l : Fin 512) : (outsAt0 m c t).2 (ix2 r l)
    = act (A3 m c) (A4 m c) (tile m c t r.val) l * Rms.inv wide (act (A3 m c) (A4 m c) (tile m c t r.val)) * A5 m c (ix2 0 l) := by
  dsimp only [outsAt0]
  frame_out
  simp only [before (ext m c t) _ _ _ (ext_lo m c t) (ext_hi m c t)]
  simp (discharger := decide) only [k0_pay3, k0_pay4, k0_pay5, k0_pay6, k0_pay7, k0_pay8, k0_pay9, planes (ext m c t), Nat.reduceAdd, ldW]
  rw [bands (tile m c t)]
  · pointwise [k0_pay106]
    simp only [tall_apply, zero_add, blk6, blk7, blk8]
    rfl
  all_goals
    intro i l
    refine Eq.trans ?_ (tile_eq m c t _ i l).symm
    pointwise
    simp only [tall_apply, slab_apply, blk5, Finset.sum_range_succ, Finset.sum_range_zero, Nat.reduceAdd, zero_add, Fin.val_zero, add_zero]

end Tile

theorem final9 (c : Dev nD) : (dats m 0 c).arrAt 9 cfg0.N = res9 (A0 m c) (A1 m c) (A2 m c) := by
  refine (dats m 0 c).arrAt_eq_of_covers 9 _ (by decide +kernel) fun t hf y => ?_
  blk_simp
  rw [after0_9]
  idx_vars y
  rw [emb9]
  exact (w9 m c t (ix2 y0 y1)).trans (tile_row m c t y0 y1)

theorem final10 (c : Dev nD) : (dats m 0 c).arrAt 10 cfg0.N = res10 (A0 m c) (A1 m c) (A2 m c) (A3 m c) (A4 m c) (A5 m c) := by
  refine (dats m 0 c).arrAt_eq_of_covers 10 _ (by decide +kernel) fun t hf y => ?_
  blk_simp
  rw [after0_10]
  idx_vars y
  rw [emb10]
  refine (w10 m c t y0 y1).trans ?_
  rw [show tile m c t y0.val = conv (A0 m c) (A1 m c) (A2 m c) (row t y0) from funext (tile_row m c t y0)]
  rfl

end Cert.Kernel16Ideal.Value

end
-- ==== Proof.ConvRef.lean ====
module

public import proofs.«01_k».proof.Proof.Conv
public import proofs.«01_k».proof.Proof.Gen.Reference16Ideal.Run

/-! The causal convolution and its norms, as the reference's arrays hold them, element by element. -/

@[expose] public section

set_option maxRecDepth 16384

noncomputable section

namespace Cert.Reference16Ideal.Value

open Cert.Reference16Ideal Cert.Reference16Ideal.Gen Idealize.ShloMosaic Idealize.ShloMosaic.TcCoe Idealize.SL.Sem
open Cert.Kernel16Ideal.Value (wide conv normed act res9 res10)
open Cert.Shift (sg val aAt)

section Host

variable (W : Valuation τ sig (Elt Ideal))

abbrev A0 : Vec Ideal S8192x1536 .f32 := W (Proc.devRef .tc main_arg0)
abbrev A1 : Vec Ideal S1x31x512 .f32 := W (Proc.devRef .tc main_arg1)
abbrev A2 : Vec Ideal S1x512 .f32 := W (Proc.devRef .tc main_arg2)
abbrev A3 : Vec Ideal S1x512 .f32 := W (Proc.devRef .tc main_arg3)
abbrev A4 : Vec Ideal S1x512 .f32 := W (Proc.devRef .tc main_arg4)
abbrev A5 : Vec Ideal S1x512 .f32 := W (Proc.devRef .tc main_arg5)

theorem v11 (s : Fin 2) (n : Fin 4126) (l : Fin 512) : res_main_v11 W (ix3 s n l) = aAt (A0 W) s.val (n.val + 2) l := by
  unfold res_main_v11
  pointwise
  have hn := n.isLt
  have hs := s.isLt
  unfold aAt
  split
  · rw [dif_neg (by omega)]
  · rw [dif_pos ⟨by omega, by omega, by omega⟩]
    rfl

/-- One tap's term of the sum. -/
theorem term (k : ℕ) (hk : k < 31) (sl b b' sl' sc) (s : Fin 2) (n : Fin 4096) (l : Fin 512) :
    mulf (extractStridedSlice S2x4096x512 ![0, k, 0] (res_main_v11 W) sl) (broadcastInDim S2x4096x512 ![0, 1, 2] b
      (broadcastInDim S1x1x512 ![2] b' (shapeCast (s := S1x1x512) S512 (extractStridedSlice S1x1x512 ![0, k, 0] (A1 W) sl') sc))) (ix3 s n l)
      = (if h : k < 31 then A1 W (ix3 0 ⟨k, h⟩ l) else 0) * aAt (A0 W) s.val (n.val + 2 + k) l := by
  pointwise
  rw [v11, dif_pos hk, mul_comm]
  refine congrArg₂ (· * ·) rfl (congrArg (aAt (A0 W) s.val · l) ?_)
  show k + n.val + 2 = n.val + 2 + k
  omega

theorem plus (x y : FVec Ideal S2x4096x512 .f32) (j : S2x4096x512.Idx) {a b : EReal} (hx : x j = a) (hy : y j = b) : addf x y j = a + b := by
  rw [← hx, ← hy]; rfl

theorem flat (X : FVec Ideal S2x4096x512 .f32) (h) (r : Fin 8192) (l : Fin 512) :
    shapeCast (s := S2x4096x512) S8192x512 X h (ix2 r l) = X (ix3 ⟨r.val / 4096, by omega⟩ ⟨r.val % 4096, by omega⟩ l) := by
  pointwise

theorem v232 (r : Fin 8192) (l : Fin 512) : res_main_v232 W (ix2 r l) = conv (A0 W) (A1 W) (A2 W) r l := by
  unfold res_main_v232 conv
  have e : ∑ k : Fin 31, A1 W (ix3 0 k l) * aAt (A0 W) (r.val / 4096) (r.val % 4096 + 2 + k.val) l
      = ∑ k ∈ Finset.range 31, (if h : k < 31 then A1 W (ix3 0 ⟨k, h⟩ l) else 0) * aAt (A0 W) (r.val / 4096) (r.val % 4096 + 2 + k) l := by
    rw [Finset.sum_range]
    exact Finset.sum_congr rfl fun k _ => by rw [dif_pos k.isLt]
  rw [e]
  refine congrArg₂ (· + ·) ((flat _ _ r l).trans ?_) (by pointwise)
  unfold res_main_v166 res_main_v89
  simp only [Finset.sum_range_succ, Finset.sum_range_zero]
  repeat refine plus _ _ _ ?_ (term W _ (by decide) _ _ _ _ _ _ _ l)
  pointwise

variable (r : Fin 8192) (l : Fin 512)

/-- The convolution's row. -/
abbrev x : Fin 512 → EReal := conv (A0 W) (A1 W) (A2 W) r

theorem v238 : res_main_v238 W (ix2 r l) = Ln.cen wide (x W r) l := by
  unfold res_main_v238; pointwise; simp only [v232]; rfl

theorem v252 : res_main_v252 W (ix2 r l) = normed (A3 W) (A4 W) (x W r) l := by
  unfold res_main_v252; pointwise; simp only [v238]; rfl

theorem v253 : res_main_v253 W (ix2 r l) = act (A3 W) (A4 W) (x W r) l := by
  unfold res_main_v253; pointwise; rw [v252]; rfl

end Host

variable (m : (ℓ : Loc nD τ sig) → Buf (Elt Ideal) ℓ)

/-- What the reference's run leaves in its two results. -/
theorem run_holds (ρ : Dev nD → PrngReg) : θ_run defs (onTc (τ := τ) (main (F := Ideal))) ⟨m, fun _ => 0, ρ⟩ fun r => ∀ c : Dev nD,
    r.2.mem ((c : Thread nD τ).loc main_v232) = res9 (m ((c : Thread nD τ).loc main_arg0)) (m ((c : Thread nD τ).loc main_arg1))
        (m ((c : Thread nD τ).loc main_arg2))
    ∧ r.2.mem ((c : Thread nD τ).loc main_v266) = res10 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run _ _ _).mono (fun r h c => by
    obtain ⟨h9, h10, hk⟩ := h c
    refine ⟨h9.trans ?_, h10.trans ?_, hk⟩
    · funext j; idx_vars j; exact v232 _ j0 j1
    · funext j; idx_vars j; clean_types; pointwise; simp only [v253]; rfl) (run m ρ)

end Cert.Reference16Ideal.Value

end
-- ==== Proof.ConvClaim.lean ====
module

public import proofs.«01_k».proof.Defs
public import proofs.«01_k».proof.Proof.ConvRef

/-! The two programs of the causal convolution and its norms leave equal arrays. -/

@[expose] public section

noncomputable section

namespace Cert.Conv

open Idealize.ShloMosaic Idealize.ShloMosaic.TcCoe Idealize.SL.Sem

theorem frame : quiescent_Reference16Ideal := fun m g _ =>
  (θ_run _ _ _).mono (fun r h => ⟨fun c => (h c).2.2, sem_eq_zero_of_no_sems (by decide) r.2⟩) (Reference16Ideal.Value.run_holds m g)

theorem algebraic : algebraic_Kernel16Ideal_Reference16Ideal := by
  intro m g m' g' _ hm
  refine ⟨fun c => (Kernel16Ideal.Gen.dats m 0 c).arrAt 9 _, fun c => (Kernel16Ideal.Gen.dats m 0 c).arrAt 10 _,
    Kernel16Ideal.Value.run_blocks m g, ?_⟩
  refine (θ_run _ _ _).mono (fun r h c => ?_) (Reference16Ideal.Value.run_holds m' g')
  obtain ⟨h9, h10, hk⟩ := h c
  obtain ⟨a0, a1, a2, a3, a4, a5⟩ := hm c
  rw [a0, a1, a2] at h9
  rw [a0, a1, a2, a3, a4, a5] at h10
  exact ⟨h9.trans (Kernel16Ideal.Value.final9 m c).symm, h10.trans (Kernel16Ideal.Value.final10 m c).symm, hk⟩

end Cert.Conv

end
-- ==== Proof.ScanRun.lean ====
module

public import proofs.«01_k».proof.Proof.Gen.Kernel6Ideal.Loops
public import proofs.«01_k».proof.Proof.Gen.Kernel6Ideal.Frame

@[expose] public section

set_option maxRecDepth 16384

noncomputable section

namespace Cert.ScanFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel6Ideal Cert.Kernel6Ideal.Gen

variable {F : FTy → Type} [FloatOps F]

/-- The world the body runs in. -/
abbrev World (F : FTy → Type) := MT nD τ sig Unit (Elt F) ℕ (UR sig nD τ) ℕ

/-- The tile starts a sequence from its end: the carry is cleared. -/
abbrev restarts (i : grid0.Coords) : Prop := (Scalar.cmpi .ne (Scalar.extui (Scalar.cmpi .eq (Scalar.select (Scalar.andi (Scalar.xori (Scalar.cmpi .slt (Scalar.remsi (Scalar.muli (Scalar.subi 32#32 (BitVec.ofNat 32 (i 0).val)) 256#32) (Scalar.select (Scalar.cmpi .eq 4096#32 0#32) 1#32 4096#32)) 0#32) (Scalar.cmpi .slt (Scalar.select (Scalar.cmpi .eq 4096#32 0#32) 1#32 4096#32) 0#32)) (Scalar.cmpi .ne (Scalar.remsi (Scalar.muli (Scalar.subi 32#32 (BitVec.ofNat 32 (i 0).val)) 256#32) (Scalar.select (Scalar.cmpi .eq 4096#32 0#32) 1#32 4096#32)) 0#32)) (Scalar.addi (Scalar.remsi (Scalar.muli (Scalar.subi 32#32 (BitVec.ofNat 32 (i 0).val)) 256#32) (Scalar.select (Scalar.cmpi .eq 4096#32 0#32) 1#32 4096#32)) (Scalar.select (Scalar.cmpi .eq 4096#32 0#32) 1#32 4096#32)) (Scalar.remsi (Scalar.muli (Scalar.subi 32#32 (BitVec.ofNat 32 (i 0).val)) 256#32) (Scalar.select (Scalar.cmpi .eq 4096#32 0#32) 1#32 4096#32))) 0#32)) 0#32) = 1#1
/-- The first grid point: the sums are cleared. -/
abbrev first (i : grid0.Coords) : Prop := (Scalar.cmpi .ne (Scalar.extui (Scalar.cmpi .eq (BitVec.ofNat 32 (i 0).val) 0#32)) 0#32) = 1#1
/-- The last grid point: the sum over the sublanes is written. -/
abbrev last (i : grid0.Coords) : Prop := k0_cond3 i = 1#1

/-- Four kinds of grid points: the first, the other start, the last, the rest. -/
def Kind (i : grid0.Coords) : Prop :=
  (restarts i ∧ first i ∧ ¬last i) ∨ (restarts i ∧ ¬first i ∧ ¬last i) ∨ (¬restarts i ∧ ¬first i ∧ last i) ∨ (¬restarts i ∧ ¬first i ∧ ¬last i)

set_option maxHeartbeats 20000000 in
theorem run (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x4096 .f32) (harg3 : arg3.IsWhole) (arg4 : Memref sig .tc .vmem S256x512 .f32) (harg4 : arg4.IsWhole) (arg5 : Memref sig .tc .vmem S4x128x1024 .bf16) (harg5 : arg5.IsWhole) (arg6 : Memref sig .tc .vmem S4x1024x128 .bf16) (harg6 : arg6.IsWhole) (arg7 : Memref sig .tc .vmem S256x4096 .f32) (harg7 : arg7.IsWhole) (arg8 : Memref sig .tc .vmem S8x4096 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S8x4096 .f32) (harg11 : arg11.IsWhole) (arg12 : Memref sig .tc .vmem S256x512 .f32) (harg12 : arg12.IsWhole) (arg13 : Memref sig .tc .vmem S1x4096 .f32) (harg13 : arg13.IsWhole) (arg14 : Memref sig .tc .vmem S4x128x1024 .f32) (harg14 : arg14.IsWhole) (arg15 : Memref sig .tc .vmem S4x1024x128 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x4096 .f32) (harg19 : arg19.IsWhole) (arg20 : Memref sig .tc .vmem S256x4096 .f32) (harg20 : arg20.IsWhole) (arg21 : Memref sig .tc .vmem S8x4096 .f32) (harg21 : arg21.IsWhole) (arg22 : Memref sig .tc .vmem S8x4096 .f32) (harg22 : arg22.IsWhole)
    (x1 : Vec F S256x512 .f32) (x2 : Vec F S256x512 .f32) (x3 : Vec F S256x4096 .f32) (x4 : Vec F S256x512 .f32) (x5 : Vec F S4x128x1024 .bf16) (x6 : Vec F S4x1024x128 .bf16) (x7 : Vec F S256x4096 .f32) (x8 : Vec F S8x4096 .f32) (x9 : Vec F S8x4096 .f32) (x10 : Vec F S8x4096 .f32) (x11 : Vec F S8x4096 .f32)
    (h : Kind i)
    (E : Set ℕ) (K : PUnit → sProp (World F)) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)) -∗ K ⟨⟩))
    ⊢ wp frame (wpE (defs₀ (F := F)) Variants.none c none) E (cc0_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_s5_bwd_eq_skeleton]; unfold cc0_s5_bwd_skel
  simp only [k0_part134_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, k0_part23_eq_skeleton,
    k0_part24_eq_skeleton, k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton, k0_part52_eq_skeleton, k0_part53_eq_skeleton,
    k0_part54_eq_skeleton, k0_part55_eq_skeleton, k0_part56_eq_skeleton, k0_part57_eq_skeleton, k0_part58_eq_skeleton, k0_part59_eq_skeleton,
    k0_part60_eq_skeleton, k0_part135_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton, k0_part76_eq_skeleton,
    k0_part77_eq_skeleton, k0_part78_eq_skeleton, k0_part79_eq_skeleton, k0_part80_eq_skeleton, k0_part81_eq_skeleton, k0_part82_eq_skeleton,
    k0_part83_eq_skeleton, k0_part84_eq_skeleton, k0_part85_eq_skeleton, k0_part86_eq_skeleton, k0_part87_eq_skeleton, k0_part88_eq_skeleton,
    k0_part89_eq_skeleton, k0_part90_eq_skeleton, k0_part91_eq_skeleton, k0_part92_eq_skeleton, k0_part93_eq_skeleton, k0_part94_eq_skeleton,
    k0_part95_eq_skeleton, k0_part96_eq_skeleton, k0_part97_eq_skeleton, k0_part98_eq_skeleton, k0_part99_eq_skeleton, k0_part100_eq_skeleton,
    k0_part101_eq_skeleton, k0_part102_eq_skeleton, k0_part103_eq_skeleton, k0_part104_eq_skeleton, k0_part105_eq_skeleton, k0_part106_eq_skeleton,
    k0_part107_eq_skeleton, k0_part108_eq_skeleton, k0_part109_eq_skeleton, k0_part110_eq_skeleton, k0_part111_eq_skeleton, k0_part112_eq_skeleton,
    k0_part113_eq_skeleton, k0_part114_eq_skeleton, k0_part115_eq_skeleton, k0_part116_eq_skeleton, k0_part117_eq_skeleton, k0_part118_eq_skeleton,
    k0_part119_eq_skeleton, k0_part120_eq_skeleton, k0_part121_eq_skeleton, k0_part122_eq_skeleton, k0_part123_eq_skeleton, k0_part124_eq_skeleton,
    k0_part125_eq_skeleton, k0_part126_eq_skeleton, k0_part127_eq_skeleton, k0_part128_eq_skeleton, k0_part129_eq_skeleton, k0_part130_eq_skeleton,
    k0_part131_eq_skeleton, k0_part132_eq_skeleton, k0_part133_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  rcases h with h | h | h | h
  all_goals
   obtain ⟨h1, h2, h3⟩ := h
   sl_exec (disch := first | sl_exact h1 | sl_exact h2 | sl_exact h3)
   sl_step
   iapply Hk
   isplitl [H1]
   · iexists _; isplitr; · ipureintro; exact harg1.read_unread _
     iexact H1
   isplitl [H2]
   · iexists _; isplitr; · ipureintro; exact harg2.read_unread _
     iexact H2
   isplitl [H3]
   · iexists _; isplitr; · ipureintro; exact harg3.read_unread _
     iexact H3
   isplitl [H4]
   · iexists _; isplitr; · ipureintro; exact harg4.read_unread _
     iexact H4
   isplitl [H5]
   · iexists _; isplitr; · ipureintro; exact harg5.read_unread _
     iexact H5
   isplitl [H6]
   · iexists _; isplitr; · ipureintro; exact harg6.read_unread _
     iexact H6
   isplitl [H7]
   · iexists _; isplitr; · ipureintro; exact harg7.read_unread _
     iexact H7
   isplitl [H8]
   · iexists _; isplitr; · ipureintro; exact harg8.read_unread _
     iexact H8
   isplitl [H9]
   · iexists _; isplitr; · ipureintro; exact harg9.read_unread _
     iexact H9
   isplitl [H10]
   · iexists _; isplitr; · ipureintro; exact harg10.read_unread _
     iexact H10
   isplitl [H11]
   · iexists _; isplitr; · ipureintro; exact harg11.read_unread _
     iexact H11
   isplitl [H12]
   · iexists _, _; isplitr; swap; · iexact H12
     ipureintro; rfl
   isplitl [H13]
   · iexists _, _; isplitr; swap; · iexact H13
     ipureintro; rfl
   isplitl [H14]
   · iexists _, _; isplitr; swap; · iexact H14
     ipureintro; rfl
   isplitl [H15]
   · iexists _, _; isplitr; swap; · iexact H15
     ipureintro; rfl
   isplitl [H16]
   · iexists _, _; isplitr; swap; · iexact H16
     ipureintro; rfl
   isplitl [H17]
   · iexists _, _; isplitr; swap; · iexact H17
     ipureintro; rfl
   isplitl [H18]
   · iexists _, _; isplitr; swap; · iexact H18
     ipureintro; rfl
   isplitl [H19]
   · iexists _, _; isplitr; swap; · iexact H19
     ipureintro; rfl
   isplitl [H20]
   · iexists _, _; isplitr; swap; · iexact H20
     ipureintro; rfl
   isplitl [H21]
   · iexists _, _; isplitr; swap; · iexact H21
     ipureintro; rfl
   iexists _, _; isplitr; swap; · iexact H22
   ipureintro; rfl

end Cert.ScanFrame

end
-- ==== Proof.ScanFrame.lean ====
module

public import proofs.«01_k».proof.Proof.ScanRun
public import Idealize.ShloMosaic.Lib.Claim

@[expose] public section

/-! The frame of the backward scan (`_s5_bwd`): at every grid point the body leaves its inputs in place and everything
    else at some contents; so the run ends with every argument as launched. -/

set_option maxRecDepth 16384

noncomputable section

namespace Cert.ScanFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel6Ideal Cert.Kernel6Ideal.Gen

variable {F : FTy → Type} [FloatOps F]

variable (m : (ℓ : Loc nD τ sig) → Buf (Elt F) ℓ) (ρ : Dev nD → PrngReg)

theorem restarts_iff : ∀ t : Fin grid0.N, restarts (grid0.coords t) ↔ t.val % 16 = 0 := by decide +kernel
theorem first_iff : ∀ t : Fin grid0.N, first (grid0.coords t) ↔ t.val = 0 := by decide +kernel
theorem last_iff : ∀ t : Fin grid0.N, last (grid0.coords t) ↔ t.val = 31 := by decide +kernel

/-- Four kinds of grid points. -/
theorem kinds (t : Fin grid0.N) : Kind (grid0.coords t) := by
  unfold Kind
  rw [restarts_iff, first_iff, last_iff]
  omega

/-- The windows of which nothing is said: the outputs. -/
def silent : Fin 15 → Bool := fun w => decide (11 ≤ w.val)

/-- The arrays as the region finds them; each input's buffer at its block after every point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

theorem arrays (c : Dev nD) (w : Fin cfg0.W) : (data m 0 c).A w = V m c (Pipeline.arrRef spec0 w) := by dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]
theorem after_9 (c : Dev nD) (t : Fin cfg0.N) : (data m 0 c).after 9 t = iblk m c 9 t := by dsimp only [data]
theorem after_10 (c : Dev nD) (t : Fin cfg0.N) : (data m 0 c).after 10 t = iblk m c 10 t := by dsimp only [data]

theorem before_0 (c : Dev nD) (t : Fin cfg0.N) (d) : (data m 0 c).before 0 t d = iblk m c 0 t :=
  before0_0_of m (data m 0 c) (arrays m c 0) (after_0 m c) t d
theorem before_1 (c : Dev nD) (t : Fin cfg0.N) (d) : (data m 0 c).before 1 t d = iblk m c 1 t :=
  before0_1_of m (data m 0 c) (arrays m c 1) (after_1 m c) t d
theorem before_2 (c : Dev nD) (t : Fin cfg0.N) (d) : (data m 0 c).before 2 t d = iblk m c 2 t :=
  before0_2_of m (data m 0 c) (arrays m c 2) (after_2 m c) t d
theorem before_3 (c : Dev nD) (t : Fin cfg0.N) (d) : (data m 0 c).before 3 t d = iblk m c 3 t :=
  before0_3_of m (data m 0 c) (arrays m c 3) (after_3 m c) t d
theorem before_4 (c : Dev nD) (t : Fin cfg0.N) (d) : (data m 0 c).before 4 t d = iblk m c 4 t :=
  before0_4_of m (data m 0 c) (arrays m c 4) (after_4 m c) t d
theorem before_5 (c : Dev nD) (t : Fin cfg0.N) (d) : (data m 0 c).before 5 t d = iblk m c 5 t :=
  before0_5_of m (data m 0 c) (arrays m c 5) (after_5 m c) t d
theorem before_6 (c : Dev nD) (t : Fin cfg0.N) (d) : (data m 0 c).before 6 t d = iblk m c 6 t :=
  before0_6_of m (data m 0 c) (arrays m c 6) (after_6 m c) t d
theorem before_7 (c : Dev nD) (t : Fin cfg0.N) (d) : (data m 0 c).before 7 t d = iblk m c 7 t :=
  before0_7_of m (data m 0 c) (arrays m c 7) (after_7 m c) t d
theorem before_8 (c : Dev nD) (t : Fin cfg0.N) (d) : (data m 0 c).before 8 t d = iblk m c 8 t :=
  before0_8_of m (data m 0 c) (arrays m c 8) (after_8 m c) t d
theorem before_9 (c : Dev nD) (t : Fin cfg0.N) (d) : (data m 0 c).before 9 t d = iblk m c 9 t :=
  before0_9_of m (data m 0 c) (arrays m c 9) (after_9 m c) t d
theorem before_10 (c : Dev nD) (t : Fin cfg0.N) (d) : (data m 0 c).before 10 t d = iblk m c 10 t :=
  before0_10_of m (data m 0 c) (arrays m c 10) (after_10 m c) t d

/-- What the launch keeps beside the windows: the scratch and the generator, at some contents. -/
theorem kept_eq (c : Dev nD) : (Pipeline.ΦA spec0 c : sProp (World F)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body finds at point `t`, -/
def found (c : Dev nD) (t : Fin cfg0.N) : sProp (World F) :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare ((data m 0 c).before 5 t d))
    ∗ (∃ d, owns (c : Thread nD τ) (win0_6.stage (cfg0.slots t 6)) fullShare ((data m 0 c).before 6 t d))
    ∗ (∃ d, owns (c : Thread nD τ) (win0_7.stage (cfg0.slots t 7)) fullShare ((data m 0 c).before 7 t d))
    ∗ (∃ d, owns (c : Thread nD τ) (win0_8.stage (cfg0.slots t 8)) fullShare ((data m 0 c).before 8 t d))
    ∗ (∃ d, owns (c : Thread nD τ) (win0_9.stage (cfg0.slots t 9)) fullShare ((data m 0 c).before 9 t d))
    ∗ (∃ d, owns (c : Thread nD τ) (win0_10.stage (cfg0.slots t 10)) fullShare ((data m 0 c).before 10 t d))
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d))

/-- and what it leaves. -/
def left (c : Dev nD) (t : Fin cfg0.N) : sProp (World F) :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ owns (c : Thread nD τ) (win0_4.stage (cfg0.slots t 4)) fullShare ((data m 0 c).after 4 t)
    ∗ owns (c : Thread nD τ) (win0_5.stage (cfg0.slots t 5)) fullShare ((data m 0 c).after 5 t)
    ∗ owns (c : Thread nD τ) (win0_6.stage (cfg0.slots t 6)) fullShare ((data m 0 c).after 6 t)
    ∗ owns (c : Thread nD τ) (win0_7.stage (cfg0.slots t 7)) fullShare ((data m 0 c).after 7 t)
    ∗ owns (c : Thread nD τ) (win0_8.stage (cfg0.slots t 8)) fullShare ((data m 0 c).after 8 t)
    ∗ owns (c : Thread nD τ) (win0_9.stage (cfg0.slots t 9)) fullShare ((data m 0 c).after 9 t)
    ∗ owns (c : Thread nD τ) (win0_10.stage (cfg0.slots t 10)) fullShare ((data m 0 c).after 10 t)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d))

set_option maxHeartbeats 4000000 in
theorem body (c : Dev nD) (t : Fin cfg0.N) :
    found m c t ⊢ wp frame (wpE (defs₀ (F := F)) Variants.none c none) Set.univ (bodyAt0 t) (fun _ => left m c t) := by
  unfold found left bodyAt0
  simp only [before_0, before_1, before_2, before_3, before_4, before_5, before_6, before_7, before_8, before_9, before_10]
  rw [show (data m 0 c).owesAt () t.succ = (data m 0 c).owesAt () t.castSucc from rfl,
    after_0, after_1, after_2, after_3, after_4, after_5, after_6, after_7, after_8, after_9, after_10,
    show (data m 0 c).Φ t.succ = Pipeline.ΦA spec0 c from rfl, show (data m 0 c).Φ t.castSucc = Pipeline.ΦA spec0 c from rfl, kept_eq]
  iintro ⟨⟨⟨H15, H16, H17, H18, H19, H20, H21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14⟩
  iapply (run c (grid0.coords t) _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (kinds t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H0, H1, H2, H3, H4, H5, H6, H7, H8, H9, H10, H11, H12, H13, H14, H15, H16, H17, H18, H19, H20, H21⟩
  isplitl [H15 H16 H17 H18 H19 H20 H21 Hg]
  · isplitl [H15 H16 H17 H18 H19 H20 H21]
    · skip
      isplitl [H15]; · iexact H15
      isplitl [H16]; · iexact H16
      isplitl [H17]; · iexact H17
      isplitl [H18]; · iexact H18
      isplitl [H19]; · iexact H19
      isplitl [H20]; · iexact H20
      iexact H21
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row (t : Fin cfg0.N) : defs₀ (F := F) .tc cfg0.body (cfg0.bodyArgs t (cfg0.slots t)) = bodyAt0 t := by
  unfold defs₀; rw [Defs.onTc_tc]

theorem obligation (c : Dev nD) :
    BodyObligation (data (F := F) m 0 c) (defs₀ (F := F)) Variants.none () Set.univ silent := fun t => by
  rw [bigSep_W0, bigSep_W0, row]
  exact triple_restated (body m c t) rfl .rfl fun _ => .rfl

/-- The arguments no window stages. -/
def apart : List (Ref sig .tc) := [main_arg1, main_arg2, main_arg3, main_arg4, main_arg5, main_arg6, main_arg7]

/-- What the lines after the region may write. -/
def written : Finset (Ref sig .tc) := Finset.univ.filter (· ∉ apart)

set_option maxHeartbeats 4000000 in
theorem tail_apart (b : Ref sig .tc) (hb : b ∈ apart) :
    (hostOps1 : List (HloOp τ sig (Elt F))).Forall fun op => Proc.devRef .tc b ∉ op.writes := by
  simp only [apart, List.mem_cons, List.mem_nil_iff, or_false] at hb
  simp only [hostOps1, List.Forall, StableHlo.nullary_writes, StableHlo.unary_writes, StableHlo.binary_writes, StableHlo.ternary_writes,
    StableHlo.quaternary_writes, StableHlo.reshape_writes, StableHlo.binaryIndexed_writes, Finset.mem_singleton]
  rcases hb with rfl | rfl | rfl | rfl | rfl | rfl | rfl
  all_goals
    repeat' apply And.intro
    all_goals exact StableHlo.devRef_ne_of_ne (by decide)

theorem tail_writes : ∀ ops ∈ ([hostOps1] : List (List (HloOp τ sig (Elt F)))), ∀ op ∈ ops,
    ∀ b : Ref sig .tc, Proc.devRef .tc b ∈ op.writes → b ∈ written := by
  intro ops hops op hop b hw
  simp only [List.mem_cons, List.mem_nil_iff, or_false] at hops
  subst hops
  refine Finset.mem_filter.mpr ⟨Finset.mem_univ _, fun hb => ?_⟩
  exact (List.forall_iff_forall_mem.mp (tail_apart b hb)) op hop hw

/-- What the run ends in: the inputs' arrays and the arguments apart as the region found them. -/
abbrev Ends (r : PUnit × MemSt nD τ sig (Elt F)) : Prop :=
  Pipeline.RDat.FramePostR (cfgs 0) (fun c => (data m 0 c).toRForget silent) written (V m) r

-- the implicit arguments of the launch are found by unifying its conclusion with this one
set_option backward.isDefEq.respectTransparency.types false in
theorem launched : θ_run defs (onTc (τ := τ) (main (F := F))) (s₀ m ρ) (fun r => Ends m r ∧ r.2.sem = fun _ => 0) :=
  Pipeline.θ_run_frame_around_T_forget (Q' := _) cfgs (data m) (0 : Fin 1) launch0 defs₀ Variants.none silent written m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := arrays m) (hΦ := fun _ _ => rfl)

theorem rest {r : PUnit × MemSt nD τ sig (Elt F)} (h : Ends m r) (c : Dev nD) (b : Ref sig .tc) (hs : b.isScoped = false)
    (ha : ∀ w, (spec0 w).arr.view.ref ≠ b) (hb : b ∈ apart) {y : Buf (Elt F) ((c.tc : Thread nD τ).loc b)} (hV : V m c b = y) :
    r.2.mem ((c.tc : Thread nD τ).loc b) = y :=
  ((h c).2 b (Finset.mem_sdiff.mpr ⟨Pipeline.mem_restRefs_of b hs ha, fun hw => (Finset.mem_filter.mp hw).2 hb⟩)).trans hV

theorem staged {r : PUnit × MemSt nD τ sig (Elt F)} (h : Ends m r) (c : Dev nD) (w : Fin cfg0.W) (hin : (cfg0.win w).isOut = false)
    (b : Ref sig .tc) (hb : Pipeline.arrRef spec0 w = b) {y : Buf (Elt F) ((c.tc : Thread nD τ).loc b)} (hV : V m c b = y) :
    r.2.mem ((c.tc : Thread nD τ).loc b) = y := by
  subst hb
  exact (Pipeline.RDat.FramePostR.arr_in h c w hin).trans ((arrays m c w).trans hV)

/-- Every argument as launched, every counter zero. -/
abbrev Unchanged (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
  ∧ r.2.sem = fun _ => 0

/-- From any memory with zero counters the run ends with every argument as launched and every counter zero. -/
theorem frame : θ_run defs (onTc (τ := τ) (main (F := F))) ⟨m, fun _ => 0, ρ⟩ (Unchanged m) :=
  (θ_run defs _ _).mono (fun r h => ⟨fun c => ⟨staged m h.1 c 3 rfl main_arg0 rfl (V_main_arg0 m c),
      rest m h.1 c main_arg1 (by decide) (by decide) (by decide) (V_main_arg1 m c),
      rest m h.1 c main_arg2 (by decide) (by decide) (by decide) (V_main_arg2 m c),
      rest m h.1 c main_arg3 (by decide) (by decide) (by decide) (V_main_arg3 m c),
      rest m h.1 c main_arg4 (by decide) (by decide) (by decide) (V_main_arg4 m c),
      rest m h.1 c main_arg5 (by decide) (by decide) (by decide) (V_main_arg5 m c),
      rest m h.1 c main_arg6 (by decide) (by decide) (by decide) (V_main_arg6 m c),
      rest m h.1 c main_arg7 (by decide) (by decide) (by decide) (V_main_arg7 m c),
      staged m h.1 c 0 rfl main_arg8 rfl (V_main_arg8 m c),
      staged m h.1 c 1 rfl main_arg9 rfl (V_main_arg9 m c)⟩, h.2⟩) (launched m ρ)

end Cert.ScanFrame

end
-- ==== Proof.ScanBits.lean ====
module

public import proofs.«01_k».proof.Defs
public import proofs.«01_k».proof.Proof.Gen.Kernel6
public import proofs.«01_k».proof.Proof.ScanFrame

@[expose] public section

noncomputable section

namespace Cert.ScanFrame

open Idealize.ShloMosaic Idealize.SL.Sem Cert.Kernel6Ideal

/-- The printed kernel has the same text, so its frame is the run's at machine numbers. -/
theorem same_text : Cert.quiescent_Kernel6 = ∀ (m : (ℓ : Loc nD τ sig) → Buf (Elt Bits) ℓ) (ρ : Dev nD → PrngReg),
    True → θ_run (defs (F := Bits)) (onTc (τ := τ) (main (F := Bits))) ⟨m, fun _ => 0, ρ⟩ (Unchanged m) := by sl_kernel_rfl

theorem frame_bits : Cert.quiescent_Kernel6 := same_text.mpr fun m ρ _ => frame m ρ

end Cert.ScanFrame

end
-- ==== Proof.ForwardRun.lean ====
module

public import proofs.«01_k».proof.Proof.Gen.Kernel17Ideal.Loops
public import proofs.«01_k».proof.Proof.Gen.Kernel17Ideal.Frame

@[expose] public section

set_option maxRecDepth 16384

noncomputable section

namespace Cert.ForwardFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel17Ideal Cert.Kernel17Ideal.Gen

variable {F : FTy → Type} [FloatOps F]

/-- The world the body runs in. -/
abbrev World (F : FTy → Type) := MT nD τ sig Unit (Elt F) ℕ (UR sig nD τ) ℕ

/-- The tile starts a sequence: the carry is cleared. -/
abbrev starts (i : grid0.Coords) : Prop := (Scalar.cmpi .ne (Scalar.extui (Scalar.cmpi .eq (Scalar.select (Scalar.andi (Scalar.xori (Scalar.cmpi .slt (Scalar.remsi (Scalar.muli (BitVec.ofNat 32 (i 0).val) 256#32) (Scalar.select (Scalar.cmpi .eq 4096#32 0#32) 1#32 4096#32)) 0#32) (Scalar.cmpi .slt (Scalar.select (Scalar.cmpi .eq 4096#32 0#32) 1#32 4096#32) 0#32)) (Scalar.cmpi .ne (Scalar.remsi (Scalar.muli (BitVec.ofNat 32 (i 0).val) 256#32) (Scalar.select (Scalar.cmpi .eq 4096#32 0#32) 1#32 4096#32)) 0#32)) (Scalar.addi (Scalar.remsi (Scalar.muli (BitVec.ofNat 32 (i 0).val) 256#32) (Scalar.select (Scalar.cmpi .eq 4096#32 0#32) 1#32 4096#32)) (Scalar.select (Scalar.cmpi .eq 4096#32 0#32) 1#32 4096#32)) (Scalar.remsi (Scalar.muli (BitVec.ofNat 32 (i 0).val) 256#32) (Scalar.select (Scalar.cmpi .eq 4096#32 0#32) 1#32 4096#32))) 0#32)) 0#32) = 1#1

set_option maxHeartbeats 20000000 in
theorem run (c : Dev nD) (i : grid0.Coords) (arg1 : Memref sig .tc .vmem S256x512 .f32) (harg1 : arg1.IsWhole) (arg2 : Memref sig .tc .vmem S4x128x1024 .bf16) (harg2 : arg2.IsWhole) (arg3 : Memref sig .tc .vmem S4x1024x128 .bf16) (harg3 : arg3.IsWhole) (arg4 : Memref sig .tc .vmem S256x4096 .f32) (harg4 : arg4.IsWhole) (arg5 : Memref sig .tc .vmem S8x4096 .f32) (harg5 : arg5.IsWhole) (arg6 : Memref sig .tc .vmem S8x4096 .f32) (harg6 : arg6.IsWhole) (arg7 : Memref sig .tc .vmem S8x4096 .f32) (harg7 : arg7.IsWhole) (arg8 : Memref sig .tc .vmem S8x4096 .f32) (harg8 : arg8.IsWhole) (arg9 : Memref sig .tc .vmem S1x512 .f32) (harg9 : arg9.IsWhole) (arg10 : Memref sig .tc .vmem S256x4096 .f32) (harg10 : arg10.IsWhole) (arg11 : Memref sig .tc .vmem S256x512 .f32) (harg11 : arg11.IsWhole) (arg12 : Memref sig .tc .vmem S256x512 .bf16) (harg12 : arg12.IsWhole) (arg13 : Memref sig .tc .vmem S256x512 .f32) (harg13 : arg13.IsWhole) (arg14 : Memref sig .tc .vmem S256x4096 .f32) (harg14 : arg14.IsWhole) (arg15 : Memref sig .tc .vmem S8x4096 .f32) (harg15 : arg15.IsWhole)
    (x1 : Vec F S256x512 .f32) (x2 : Vec F S4x128x1024 .bf16) (x3 : Vec F S4x1024x128 .bf16) (x4 : Vec F S256x4096 .f32) (x5 : Vec F S8x4096 .f32) (x6 : Vec F S8x4096 .f32) (x7 : Vec F S8x4096 .f32) (x8 : Vec F S8x4096 .f32) (x9 : Vec F S1x512 .f32)
    (E : Set ℕ) (K : PUnit → sProp (World F)) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ (∃ d, owns (c : Thread nD τ) arg10 fullShare d)
      ∗ (∃ d, owns (c : Thread nD τ) arg11 fullShare d)
      ∗ (∃ d, owns (c : Thread nD τ) arg12 fullShare d)
      ∗ (∃ d, owns (c : Thread nD τ) arg13 fullShare d)
      ∗ (∃ d, owns (c : Thread nD τ) arg14 fullShare d)
      ∗ (∃ d, owns (c : Thread nD τ) arg15 fullShare d)) -∗ K ⟨⟩))
    ⊢ wp frame (wpE (defs₀ (F := F)) Variants.none c none) E (cc0_s5_fwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_s5_fwd_eq_skeleton]; unfold cc0_s5_fwd_skel
  simp only [k0_part91_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton, k0_part17_eq_skeleton,
    k0_part18_eq_skeleton, k0_part19_eq_skeleton, k0_part20_eq_skeleton, k0_part21_eq_skeleton, k0_part22_eq_skeleton, k0_part23_eq_skeleton,
    k0_part24_eq_skeleton, k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton, k0_part41_eq_skeleton,
    k0_part42_eq_skeleton, k0_part43_eq_skeleton, k0_part44_eq_skeleton, k0_part45_eq_skeleton, k0_part46_eq_skeleton, k0_part47_eq_skeleton,
    k0_part48_eq_skeleton, k0_part49_eq_skeleton, k0_part50_eq_skeleton, k0_part51_eq_skeleton, k0_part52_eq_skeleton, k0_part53_eq_skeleton,
    k0_part54_eq_skeleton, k0_part55_eq_skeleton, k0_part56_eq_skeleton, k0_part57_eq_skeleton, k0_part58_eq_skeleton, k0_part59_eq_skeleton,
    k0_part60_eq_skeleton, k0_part92_eq_skeleton, k0_part61_eq_skeleton, k0_part62_eq_skeleton, k0_part63_eq_skeleton, k0_part64_eq_skeleton,
    k0_part65_eq_skeleton, k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton, k0_part76_eq_skeleton,
    k0_part77_eq_skeleton, k0_part78_eq_skeleton, k0_part79_eq_skeleton, k0_part80_eq_skeleton, k0_part81_eq_skeleton, k0_part82_eq_skeleton,
    k0_part83_eq_skeleton, k0_part84_eq_skeleton, k0_part85_eq_skeleton, k0_part86_eq_skeleton, k0_part87_eq_skeleton, k0_part88_eq_skeleton,
    k0_part89_eq_skeleton, k0_part90_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  by_cases h : starts i
  all_goals
   sl_exec (disch := sl_exact h)
   sl_step
   iapply Hk
   isplitl [H1]
   · iexists _; isplitr; · ipureintro; exact harg1.read_unread _
     iexact H1
   isplitl [H2]
   · iexists _; isplitr; · ipureintro; exact harg2.read_unread _
     iexact H2
   isplitl [H3]
   · iexists _; isplitr; · ipureintro; exact harg3.read_unread _
     iexact H3
   isplitl [H4]
   · iexists _; isplitr; · ipureintro; exact harg4.read_unread _
     iexact H4
   isplitl [H5]
   · iexists _; isplitr; · ipureintro; exact harg5.read_unread _
     iexact H5
   isplitl [H6]
   · iexists _; isplitr; · ipureintro; exact harg6.read_unread _
     iexact H6
   isplitl [H7]
   · iexists _; isplitr; · ipureintro; exact harg7.read_unread _
     iexact H7
   isplitl [H8]
   · iexists _; isplitr; · ipureintro; exact harg8.read_unread _
     iexact H8
   isplitl [H9]
   · iexists _; isplitr; · ipureintro; exact harg9.read_unread _
     iexact H9
   isplitl [H10]
   · iexists _, _; isplitr; swap; · iexact H10
     ipureintro; rfl
   isplitl [H11]
   · iexists _, _; isplitr; swap; · iexact H11
     ipureintro; rfl
   isplitl [H12]
   · iexists _, _; isplitr; swap; · iexact H12
     ipureintro; rfl
   isplitl [H13]
   · iexists _, _; isplitr; swap; · iexact H13
     ipureintro; rfl
   isplitl [H14]
   · iexists _, _; isplitr; swap; · iexact H14
     ipureintro; rfl
   iexists _, _; isplitr; swap; · iexact H15
   ipureintro; rfl

end Cert.ForwardFrame

end
-- ==== Proof.ForwardFrame.lean ====
module

public import proofs.«01_k».proof.Proof.ForwardRun
public import Idealize.ShloMosaic.Lib.Claim

@[expose] public section

/-! The frame of the forward scan (`_s5_fwd`): at every grid point the body leaves its inputs in place and everything
    else at some contents; so the run ends with every argument as launched. -/

set_option maxRecDepth 16384

noncomputable section

namespace Cert.ForwardFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel17Ideal Cert.Kernel17Ideal.Gen

variable {F : FTy → Type} [FloatOps F]

variable (m : (ℓ : Loc nD τ sig) → Buf (Elt F) ℓ) (ρ : Dev nD → PrngReg)

/-- The windows of which nothing is said: the outputs. -/
def silent : Fin 12 → Bool := fun w => decide (9 ≤ w.val)

/-- The arrays as the region finds them; each input's buffer at its block after every point. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem arrays (c : Dev nD) (w : Fin cfg0.W) : (data m 0 c).A w = V m c (Pipeline.arrRef spec0 w) := by dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = iblk m c 8 t := by dsimp only [data]

theorem before_0 (c : Dev nD) (t : Fin cfg0.N) (d) : (data m 0 c).before 0 t d = iblk m c 0 t :=
  before0_0_of m (data m 0 c) (arrays m c 0) (after_0 m c) t d
theorem before_1 (c : Dev nD) (t : Fin cfg0.N) (d) : (data m 0 c).before 1 t d = iblk m c 1 t :=
  before0_1_of m (data m 0 c) (arrays m c 1) (after_1 m c) t d
theorem before_2 (c : Dev nD) (t : Fin cfg0.N) (d) : (data m 0 c).before 2 t d = iblk m c 2 t :=
  before0_2_of m (data m 0 c) (arrays m c 2) (after_2 m c) t d
theorem before_3 (c : Dev nD) (t : Fin cfg0.N) (d) : (data m 0 c).before 3 t d = iblk m c 3 t :=
  before0_3_of m (data m 0 c) (arrays m c 3) (after_3 m c) t d
theorem before_4 (c : Dev nD) (t : Fin cfg0.N) (d) : (data m 0 c).before 4 t d = iblk m c 4 t :=
  before0_4_of m (data m 0 c) (arrays m c 4) (after_4 m c) t d
theorem before_5 (c : Dev nD) (t : Fin cfg0.N) (d) : (data m 0 c).before 5 t d = iblk m c 5 t :=
  before0_5_of m (data m 0 c) (arrays m c 5) (after_5 m c) t d
theorem before_6 (c : Dev nD) (t : Fin cfg0.N) (d) : (data m 0 c).before 6 t d = iblk m c 6 t :=
  before0_6_of m (data m 0 c) (arrays m c 6) (after_6 m c) t d
theorem before_7 (c : Dev nD) (t : Fin cfg0.N) (d) : (data m 0 c).before 7 t d = iblk m c 7 t :=
  before0_7_of m (data m 0 c) (arrays m c 7) (after_7 m c) t d
theorem before_8 (c : Dev nD) (t : Fin cfg0.N) (d) : (data m 0 c).before 8 t d = iblk m c 8 t :=
  before0_8_of m (data m 0 c) (arrays m c 8) (after_8 m c) t d

/-- What the launch keeps beside the windows: the scratch and the generator, at some contents. -/
theorem kept_eq (c : Dev nD) : (Pipeline.ΦA spec0 c : sProp (World F)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

/-- What the body finds at point `t`, -/
def found (c : Dev nD) (t : Fin cfg0.N) : sProp (World F) :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare ((data m 0 c).before 5 t d))
    ∗ (∃ d, owns (c : Thread nD τ) (win0_6.stage (cfg0.slots t 6)) fullShare ((data m 0 c).before 6 t d))
    ∗ (∃ d, owns (c : Thread nD τ) (win0_7.stage (cfg0.slots t 7)) fullShare ((data m 0 c).before 7 t d))
    ∗ (∃ d, owns (c : Thread nD τ) (win0_8.stage (cfg0.slots t 8)) fullShare ((data m 0 c).before 8 t d))
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

/-- and what it leaves. -/
def left (c : Dev nD) (t : Fin cfg0.N) : sProp (World F) :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ owns (c : Thread nD τ) (win0_4.stage (cfg0.slots t 4)) fullShare ((data m 0 c).after 4 t)
    ∗ owns (c : Thread nD τ) (win0_5.stage (cfg0.slots t 5)) fullShare ((data m 0 c).after 5 t)
    ∗ owns (c : Thread nD τ) (win0_6.stage (cfg0.slots t 6)) fullShare ((data m 0 c).after 6 t)
    ∗ owns (c : Thread nD τ) (win0_7.stage (cfg0.slots t 7)) fullShare ((data m 0 c).after 7 t)
    ∗ owns (c : Thread nD τ) (win0_8.stage (cfg0.slots t 8)) fullShare ((data m 0 c).after 8 t)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

set_option maxHeartbeats 4000000 in
theorem body (c : Dev nD) (t : Fin cfg0.N) :
    found m c t ⊢ wp frame (wpE (defs₀ (F := F)) Variants.none c none) Set.univ (bodyAt0 t) (fun _ => left m c t) := by
  unfold found left bodyAt0
  simp only [before_0, before_1, before_2, before_3, before_4, before_5, before_6, before_7, before_8]
  rw [show (data m 0 c).owesAt () t.succ = (data m 0 c).owesAt () t.castSucc from rfl,
    after_0, after_1, after_2, after_3, after_4, after_5, after_6, after_7, after_8,
    show (data m 0 c).Φ t.succ = Pipeline.ΦA spec0 c from rfl, show (data m 0 c).Φ t.castSucc = Pipeline.ΦA spec0 c from rfl, kept_eq]
  iintro ⟨⟨⟨H12, H13, H14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (run c (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [H12 H13 H14 Hg]
  · isplitl [H12 H13 H14]
    · skip
      isplitl [H12]; · iexact H12
      isplitl [H13]; · iexact H13
      iexact H14
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row (t : Fin cfg0.N) : defs₀ (F := F) .tc cfg0.body (cfg0.bodyArgs t (cfg0.slots t)) = bodyAt0 t := by
  unfold defs₀; rw [Defs.onTc_tc]

theorem obligation (c : Dev nD) :
    BodyObligation (data (F := F) m 0 c) (defs₀ (F := F)) Variants.none () Set.univ silent := fun t => by
  rw [bigSep_W0, bigSep_W0, row]
  exact triple_restated (body m c t) rfl .rfl fun _ => .rfl

/-- What the run ends in: the inputs' arrays and every buffer no window stages as the region found them. -/
abbrev Ends (r : PUnit × MemSt nD τ sig (Elt F)) : Prop :=
  Pipeline.RDat.FramePost (cfgs 0) (fun c => (data m 0 c).toRForget silent) (V m) r

-- the implicit arguments of the launch are found by unifying its conclusion with this one
set_option backward.isDefEq.respectTransparency.types false in
theorem launched : θ_run defs (onTc (τ := τ) (main (F := F))) (s₀ m ρ) (fun r => Ends m r ∧ r.2.sem = fun _ => 0) :=
  Pipeline.θ_run_frame_forget (Q' := _) cfgs (data m) (0 : Fin 1) launch0 defs₀ Variants.none silent m ρ main
    (hbody := fun c => (obligation m c).loose) (hshare := fun c => (data m 0 c).share_full fun _ => rfl)
    (howed := fun _ _ => rfl) (V := V m) (hmain := hmain m Variants.none) (hA := arrays m) (hΦ := fun _ _ => rfl)

theorem rest {r : PUnit × MemSt nD τ sig (Elt F)} (h : Ends m r) (c : Dev nD) (b : Ref sig .tc) (hs : b.isScoped = false)
    (ha : ∀ w, (spec0 w).arr.view.ref ≠ b) {y : Buf (Elt F) ((c.tc : Thread nD τ).loc b)} (hV : V m c b = y) :
    r.2.mem ((c.tc : Thread nD τ).loc b) = y :=
  ((h c).2 b (Pipeline.mem_restRefs_of b hs ha)).trans hV

theorem staged {r : PUnit × MemSt nD τ sig (Elt F)} (h : Ends m r) (c : Dev nD) (w : Fin cfg0.W) (hin : (cfg0.win w).isOut = false)
    (b : Ref sig .tc) (hb : Pipeline.arrRef spec0 w = b) {y : Buf (Elt F) ((c.tc : Thread nD τ).loc b)} (hV : V m c b = y) :
    r.2.mem ((c.tc : Thread nD τ).loc b) = y := by
  subst hb
  exact (Pipeline.RDat.FramePost.arr_in h c w hin).trans ((arrays m c w).trans hV)

/-- Every argument as launched, every counter zero. -/
abbrev Unchanged (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
  ∧ r.2.sem = fun _ => 0

/-- From any memory with zero counters the run ends with every argument as launched and every counter zero. -/
theorem frame : θ_run defs (onTc (τ := τ) (main (F := F))) ⟨m, fun _ => 0, ρ⟩ (Unchanged m) :=
  (θ_run defs _ _).mono (fun r h => ⟨fun c => ⟨staged m h.1 c 0 rfl main_arg0 rfl (V_main_arg0 m c),
      rest m h.1 c main_arg1 (by decide) (by decide) (V_main_arg1 m c),
      rest m h.1 c main_arg2 (by decide) (by decide) (V_main_arg2 m c),
      rest m h.1 c main_arg3 (by decide) (by decide) (V_main_arg3 m c),
      rest m h.1 c main_arg4 (by decide) (by decide) (V_main_arg4 m c),
      rest m h.1 c main_arg5 (by decide) (by decide) (V_main_arg5 m c),
      rest m h.1 c main_arg6 (by decide) (by decide) (V_main_arg6 m c),
      rest m h.1 c main_arg7 (by decide) (by decide) (V_main_arg7 m c),
      staged m h.1 c 8 rfl main_arg8 rfl (V_main_arg8 m c)⟩, h.2⟩) (launched m ρ)

end Cert.ForwardFrame

end
-- ==== Proof.ForwardBits.lean ====
module

public import proofs.«01_k».proof.Defs
public import proofs.«01_k».proof.Proof.Gen.Kernel17
public import proofs.«01_k».proof.Proof.ForwardFrame

@[expose] public section

noncomputable section

namespace Cert.ForwardFrame

open Idealize.ShloMosaic Idealize.SL.Sem Cert.Kernel17Ideal

/-- The printed kernel has the same text, so its frame is the run's at machine numbers. -/
theorem same_text : Cert.quiescent_Kernel17 = ∀ (m : (ℓ : Loc nD τ sig) → Buf (Elt Bits) ℓ) (ρ : Dev nD → PrngReg),
    True → θ_run (defs (F := Bits)) (onTc (τ := τ) (main (F := Bits))) ⟨m, fun _ => 0, ρ⟩ (Unchanged m) := by sl_kernel_rfl

theorem frame_bits : Cert.quiescent_Kernel17 := same_text.mpr fun m ρ _ => frame m ρ

end Cert.ForwardFrame

end
-- ==== Proof.Powers.lean ====
module

public import proofs.«01_k».proof.Proof.Gen.Kernel18Ideal.Frame
public import Idealize.ShloMosaic.Lib.Pipeline.Value
public import Idealize.ShloMosaic.Lib.Pipeline.ValueKit
public import Idealize.ShloMosaic.Lib.Tactic.CleanTypes
public import proofs.«01_k».proof.Proof.Scalar

/-! The discretised parameters of the state-space layer and their powers, as the kernel computes them: every state by itself. A power is
the product of the power before it and the state's factor. -/

@[expose] public section

noncomputable section

namespace Cert.Powers

open Idealize.ShloMosaic

/-- The state's factor, from the rate's two parts `a`, `b` and the logarithm `l` of the step. -/
def ar (a b l : EReal) : EReal := Ideal.exp (a * Ideal.exp l) * Ideal.cos (b * Ideal.exp l)
def ai (a b l : EReal) : EReal := Ideal.exp (a * Ideal.exp l) * Ideal.sin (b * Ideal.exp l)

/-- The input's factor: the state's factor less one, over the rate. -/
def cr (a b l : EReal) : EReal := Ideal.div ((ar a b l - 1) * a + ai a b l * b) (a * a + b * b)
def ci (a b l : EReal) : EReal := Ideal.div (ai a b l * a - (ar a b l - 1) * b) (a * a + b * b)

/-- A state's group, and its place there. -/
abbrev grp (s : Fin 2048) : Fin 32 := ⟨s.val / 64, by omega⟩
abbrev plc (s : Fin 2048) : Fin 64 := ⟨s.val % 64, by omega⟩

/-- The state of a table's column: real parts first, then imaginary parts. -/
abbrev col (j : Fin 4096) : Fin 2048 := ⟨j.val % 2048, by omega⟩

section Real

variable (a b l : Fin 2048 → ℝ)

/-- The real and the imaginary part of a state's factor to the `n`. -/
def re (n : ℕ) (s : Fin 2048) : ℝ := Real.exp (n * (a s * Real.exp (l s))) * Real.cos (n * (b s * Real.exp (l s)))
def im (n : ℕ) (s : Fin 2048) : ℝ := Real.exp (n * (a s * Real.exp (l s))) * Real.sin (n * (b s * Real.exp (l s)))

/-- The entry of a table at a power and a column. -/
def entry (n : ℕ) (j : Fin 4096) : EReal := if j.val < 2048 then (re a b l n (col j) : EReal) else (im a b l n (col j) : EReal)

/-- Two rows hold the two parts of every state's factor to the `n`. -/
def IsPow (n : ℕ) (v w : FVec Ideal ⟨2, ![1, 2048]⟩ .f32) : Prop := ∀ s, v (ix2 0 s) = (re a b l n s : EReal) ∧ w (ix2 0 s) = (im a b l n s : EReal)

variable {a b l}

/-- A product of complex numbers adds the powers. -/
theorem IsPow.step {n d : ℕ} {v w p q : FVec Ideal ⟨2, ![1, 2048]⟩ .f32} (hd : IsPow a b l d p q) (hn : IsPow a b l n v w) :
    IsPow a b l (n + d) (subf (mulf v p) (mulf w q)) (addf (mulf v q) (mulf w p)) := by
  intro s
  have hr : re a b l (n + d) s = re a b l n s * re a b l d s - im a b l n s * im a b l d s := by
    unfold re im; push_cast; rw [add_mul, add_mul, Real.exp_add, Real.cos_add]; ring
  have hi : im a b l (n + d) s = re a b l n s * im a b l d s + im a b l n s * re a b l d s := by
    unfold re im; push_cast; rw [add_mul, add_mul, Real.exp_add, Real.sin_add]; ring
  constructor
  · pointwise
    rw [(hn s).1, (hn s).2, (hd s).1, (hd s).2, hr, EReal.coe_sub, EReal.coe_mul, EReal.coe_mul]
  · pointwise
    rw [(hn s).1, (hn s).2, (hd s).1, (hd s).2, hi, EReal.coe_add, EReal.coe_mul, EReal.coe_mul]

/-- A row read at a column of the left half, and of the right half. -/
theorem IsPow.left {n m : ℕ} {v w : FVec Ideal ⟨2, ![1, 2048]⟩ .f32} (h : IsPow a b l n v w) {x : (⟨2, ![1, 2048]⟩ : Shape).Idx} {j : Fin 4096}
    (hj : j.val = (x 1).val) (hm : n = m) : v x = entry a b l m j := by
  idx_vars x
  obtain rfl : x0 = 0 := Subsingleton.elim _ _
  have hj : j.val = x1.val := hj
  have hx : x1.val < 2048 := x1.isLt
  have hc : col j = x1 := Fin.ext (by show j.val % 2048 = _; omega)
  rw [entry, if_pos (by omega), hc, ← hm]
  exact (h x1).1

theorem IsPow.right {n m : ℕ} {v w : FVec Ideal ⟨2, ![1, 2048]⟩ .f32} (h : IsPow a b l n v w) {x : (⟨2, ![1, 2048]⟩ : Shape).Idx} {j : Fin 4096}
    (hj : j.val = 2048 + (x 1).val) (hm : n = m) : w x = entry a b l m j := by
  idx_vars x
  obtain rfl : x0 = 0 := Subsingleton.elim _ _
  have hj : j.val = 2048 + x1.val := hj
  have hx : x1.val < 2048 := x1.isLt
  have hc : col j = x1 := Fin.ext (by show j.val % 2048 = _; omega)
  rw [entry, if_neg (by omega), hc, ← hm]
  exact (h x1).2

end Real

section Spec

variable (a b : Vec Ideal ⟨3, ![1, 32, 64]⟩ .f32) (l : Vec Ideal ⟨2, ![1, 32]⟩ .f32) (x y : Vec Ideal ⟨4, ![1, 32, 64, 16]⟩ .f32)

/-- A function of a state's numbers, at every state. -/
def each (f : EReal → EReal → EReal → EReal) : Vec Ideal ⟨2, ![1, 2048]⟩ .f32 := fun j =>
  f (a (ix3 0 (grp (j 1)) (plc (j 1)))) (b (ix3 0 (grp (j 1)) (plc (j 1)))) (l (ix2 0 (grp (j 1))))

/-- A function of a state's numbers and of one input's, at every input of every state. -/
def every (f : EReal → EReal → EReal → EReal → EReal → EReal) : Vec Ideal ⟨2, ![16, 2048]⟩ .f32 := fun j =>
  f (a (ix3 0 (grp (j 1)) (plc (j 1)))) (b (ix3 0 (grp (j 1)) (plc (j 1)))) (l (ix2 0 (grp (j 1)))) (x (ix4 0 (grp (j 1)) (plc (j 1)) (j 0)))
    (y (ix4 0 (grp (j 1)) (plc (j 1)) (j 0)))

end Spec

end Cert.Powers

namespace Cert.Kernel18Ideal.Value

open Cert.Kernel18Ideal Cert.Kernel18Ideal.Gen Idealize.ShloMosaic Idealize.ShloMosaic.TcCoe Idealize.SL.Sem
open Idealize.ShloMosaic.Pipeline (Dat)
open Cert.Powers

section Tables

variable (x0 x1 x2 : Vec Ideal S1x2048 .f32) (x3 x4 : Vec Ideal S16x2048 .f32) (a b l : Fin 2048 → ℝ)
  (h0 : ∀ s, x0 (ix2 0 s) = (a s : EReal)) (h1 : ∀ s, x1 (ix2 0 s) = (b s : EReal)) (h2 : ∀ s, x2 (ix2 0 s) = (l s : EReal))

theorem factor_re (s : Fin 2048) : k0_pay10 (F := Ideal) x0 x1 x2 (ix2 0 s) = Powers.ar (x0 (ix2 0 s)) (x1 (ix2 0 s)) (x2 (ix2 0 s)) := by
  pointwise [k0_pay10, k0_pay9, k0_pay8, k0_pay7, k0_pay6, k0_pay5]; rfl

theorem factor_im (s : Fin 2048) : k0_pay11 (F := Ideal) x0 x1 x2 (ix2 0 s) = Powers.ai (x0 (ix2 0 s)) (x1 (ix2 0 s)) (x2 (ix2 0 s)) := by
  pointwise [k0_pay11, k0_pay9, k0_pay8, k0_pay7, k0_pay6, k0_pay5]; rfl

include h0 h1 h2

theorem one : IsPow a b l 1 (k0_pay93 x0 x1 x2 x3 x4) (k0_pay94 x0 x1 x2 x3 x4) := by
  intro s
  unfold k0_pay93 k0_pay94
  simp (disch := decide) only [View.ld_unit_lit']
  rw [factor_re, factor_im, h0, h1, h2]
  simp only [Powers.ar, Powers.ai, Powers.re, Powers.im, Ideal.exp_coe, Ideal.cos_coe, Ideal.sin_coe, ← EReal.coe_mul, Nat.cast_one, one_mul, and_self]

set_option maxHeartbeats 4000000 in
/-- Powers the body names: each is some steps from the one before it. -/
theorem low : IsPow a b l 1 (k0_pay93 x0 x1 x2 x3 x4) (k0_pay94 x0 x1 x2 x3 x4)
    ∧ IsPow a b l 3 (k0_pay95 x0 x1 x2 x3 x4) (k0_pay96 x0 x1 x2 x3 x4)
    ∧ IsPow a b l 5 (k0_pay97 x0 x1 x2 x3 x4) (k0_pay98 x0 x1 x2 x3 x4)
    ∧ IsPow a b l 8 (k0_pay99 x0 x1 x2 x3 x4) (k0_pay100 x0 x1 x2 x3 x4)
    ∧ IsPow a b l 11 (k0_pay101 x0 x1 x2 x3 x4) (k0_pay102 x0 x1 x2 x3 x4)
    ∧ IsPow a b l 13 (k0_pay40 (k0_pay93 x0 x1 x2 x3 x4) (k0_pay94 x0 x1 x2 x3 x4) (k0_pay101 x0 x1 x2 x3 x4) (k0_pay102 x0 x1 x2 x3 x4)) (k0_pay103 x0 x1 x2 x3 x4)
    ∧ IsPow a b l 14 (k0_pay104 x0 x1 x2 x3 x4) (k0_pay44 (k0_pay93 x0 x1 x2 x3 x4) (k0_pay103 x0 x1 x2 x3 x4) (k0_pay105 x0 x1 x2 x3 x4))
    ∧ IsPow a b l 16 (k0_pay106 x0 x1 x2 x3 x4) (k0_pay107 x0 x1 x2 x3 x4) := by
  have h1 := one x0 x1 x2 x3 x4 a b l h0 h1 h2
  have h3 : IsPow a b l 3 (k0_pay95 x0 x1 x2 x3 x4) (k0_pay96 x0 x1 x2 x3 x4) := by
    iterate 2 refine IsPow.step h1 ?_
    exact h1
  have h5 : IsPow a b l 5 (k0_pay97 x0 x1 x2 x3 x4) (k0_pay98 x0 x1 x2 x3 x4) := by
    iterate 2 refine IsPow.step h1 ?_
    exact h3
  have h8 : IsPow a b l 8 (k0_pay99 x0 x1 x2 x3 x4) (k0_pay100 x0 x1 x2 x3 x4) := by
    iterate 3 refine IsPow.step h1 ?_
    exact h5
  have h11 : IsPow a b l 11 (k0_pay101 x0 x1 x2 x3 x4) (k0_pay102 x0 x1 x2 x3 x4) := by
    iterate 3 refine IsPow.step h1 ?_
    exact h8
  have h13 : IsPow a b l 13 (k0_pay40 (k0_pay93 x0 x1 x2 x3 x4) (k0_pay94 x0 x1 x2 x3 x4) (k0_pay101 x0 x1 x2 x3 x4) (k0_pay102 x0 x1 x2 x3 x4)) (k0_pay103 x0 x1 x2 x3 x4) := by
    iterate 2 refine IsPow.step h1 ?_
    exact h11
  have h14 : IsPow a b l 14 (k0_pay104 x0 x1 x2 x3 x4) (k0_pay44 (k0_pay93 x0 x1 x2 x3 x4) (k0_pay103 x0 x1 x2 x3 x4) (k0_pay105 x0 x1 x2 x3 x4)) := by
    refine IsPow.step h1 ?_
    exact h13
  have h16 : IsPow a b l 16 (k0_pay106 x0 x1 x2 x3 x4) (k0_pay107 x0 x1 x2 x3 x4) := by
    iterate 2 refine IsPow.step h1 ?_
    exact h14
  exact ⟨h1, h3, h5, h8, h11, h13, h14, h16⟩

set_option maxHeartbeats 4000000 in
theorem high : IsPow a b l 19 (k0_pay108 x0 x1 x2 x3 x4) (k0_pay109 x0 x1 x2 x3 x4)
    ∧ IsPow a b l 22 (k0_pay110 x0 x1 x2 x3 x4) (k0_pay111 x0 x1 x2 x3 x4)
    ∧ IsPow a b l 24 (k0_pay112 x0 x1 x2 x3 x4) (k0_pay113 x0 x1 x2 x3 x4)
    ∧ IsPow a b l 25 (k0_pay67 (k0_pay114 x0 x1 x2 x3 x4) (k0_pay115 x0 x1 x2 x3 x4)) (k0_pay68 (k0_pay93 x0 x1 x2 x3 x4) (k0_pay94 x0 x1 x2 x3 x4) (k0_pay112 x0 x1 x2 x3 x4) (k0_pay113 x0 x1 x2 x3 x4))
    ∧ IsPow a b l 27 (k0_pay116 x0 x1 x2 x3 x4) (k0_pay117 x0 x1 x2 x3 x4)
    ∧ IsPow a b l 30 (k0_pay118 x0 x1 x2 x3 x4) (k0_pay119 x0 x1 x2 x3 x4)
    ∧ IsPow a b l 32 (k0_pay81 (k0_pay93 x0 x1 x2 x3 x4) (k0_pay94 x0 x1 x2 x3 x4) (k0_pay118 x0 x1 x2 x3 x4) (k0_pay119 x0 x1 x2 x3 x4)) (k0_pay82 (k0_pay93 x0 x1 x2 x3 x4) (k0_pay94 x0 x1 x2 x3 x4) (k0_pay118 x0 x1 x2 x3 x4) (k0_pay119 x0 x1 x2 x3 x4)) := by
  obtain ⟨h1, -, -, -, -, -, -, h16⟩ := low x0 x1 x2 x3 x4 a b l h0 h1 h2
  have h19 : IsPow a b l 19 (k0_pay108 x0 x1 x2 x3 x4) (k0_pay109 x0 x1 x2 x3 x4) := by
    iterate 3 refine IsPow.step h1 ?_
    exact h16
  have h22 : IsPow a b l 22 (k0_pay110 x0 x1 x2 x3 x4) (k0_pay111 x0 x1 x2 x3 x4) := by
    iterate 3 refine IsPow.step h1 ?_
    exact h19
  have h24 : IsPow a b l 24 (k0_pay112 x0 x1 x2 x3 x4) (k0_pay113 x0 x1 x2 x3 x4) := by
    iterate 2 refine IsPow.step h1 ?_
    exact h22
  have h25 : IsPow a b l 25 (k0_pay67 (k0_pay114 x0 x1 x2 x3 x4) (k0_pay115 x0 x1 x2 x3 x4)) (k0_pay68 (k0_pay93 x0 x1 x2 x3 x4) (k0_pay94 x0 x1 x2 x3 x4) (k0_pay112 x0 x1 x2 x3 x4) (k0_pay113 x0 x1 x2 x3 x4)) := by
    refine IsPow.step h1 ?_
    exact h24
  have h27 : IsPow a b l 27 (k0_pay116 x0 x1 x2 x3 x4) (k0_pay117 x0 x1 x2 x3 x4) := by
    iterate 2 refine IsPow.step h1 ?_
    exact h25
  have h30 : IsPow a b l 30 (k0_pay118 x0 x1 x2 x3 x4) (k0_pay119 x0 x1 x2 x3 x4) := by
    iterate 3 refine IsPow.step h1 ?_
    exact h27
  have h32 : IsPow a b l 32 (k0_pay81 (k0_pay93 x0 x1 x2 x3 x4) (k0_pay94 x0 x1 x2 x3 x4) (k0_pay118 x0 x1 x2 x3 x4) (k0_pay119 x0 x1 x2 x3 x4)) (k0_pay82 (k0_pay93 x0 x1 x2 x3 x4) (k0_pay94 x0 x1 x2 x3 x4) (k0_pay118 x0 x1 x2 x3 x4) (k0_pay119 x0 x1 x2 x3 x4)) := by
    iterate 2 refine IsPow.step h1 ?_
    exact h30
  exact ⟨h19, h22, h24, h25, h27, h30, h32⟩

theorem block : IsPow a b l 32 (k0_pay120 x0 x1 x2 x3 x4) (k0_pay121 x0 x1 x2 x3 x4)
    ∧ IsPow a b l 128 (k0_pay122 x0 x1 x2 x3 x4) (k0_pay123 x0 x1 x2 x3 x4)
    ∧ IsPow a b l 192 (k0_pay124 x0 x1 x2 x3 x4) (k0_pay125 x0 x1 x2 x3 x4) := by
  obtain ⟨-, -, -, -, -, -, h32⟩ := high x0 x1 x2 x3 x4 a b l h0 h1 h2
  replace h32 : IsPow a b l 32 (k0_pay120 x0 x1 x2 x3 x4) (k0_pay121 x0 x1 x2 x3 x4) := h32
  have h128 : IsPow a b l 128 (k0_pay122 x0 x1 x2 x3 x4) (k0_pay123 x0 x1 x2 x3 x4) := by
    iterate 3 refine IsPow.step h32 ?_
    exact h32
  have h192 : IsPow a b l 192 (k0_pay124 x0 x1 x2 x3 x4) (k0_pay125 x0 x1 x2 x3 x4) := by
    iterate 2 refine IsPow.step h32 ?_
    exact h128
  exact ⟨h32, h128, h192⟩

/-- The first 32 powers, rising and falling. -/
theorem rising (y : S32x4096.Idx) : out0_9 x0 x1 x2 x3 x4 y = entry a b l ((y 0).val + 1) (y 1) := by
  obtain ⟨h19, h22, h24, h25, h27, h30, h32⟩ := high x0 x1 x2 x3 x4 a b l h0 h1 h2
  obtain ⟨h1, h3, h5, h8, h11, h13, h14, h16⟩ := low x0 x1 x2 x3 x4 a b l h0 h1 h2
  canon_tiles x hx using cover0_9 ..
  all_goals
    first | (apply IsPow.left; case hj => omega) | (apply IsPow.right; case hj => omega)
    case h =>
      repeat first
        | with_reducible first | exact h1 | exact h3 | exact h5 | exact h8 | exact h11 | exact h13 | exact h14 | exact h16 | exact h19 | exact h22 | exact h24 | exact h25 | exact h27 | exact h30 | exact h32
        | apply IsPow.step h1
    case hm => omega

theorem falling (y : S32x4096.Idx) : out0_10 x0 x1 x2 x3 x4 y = entry a b l (32 - (y 0).val) (y 1) := by
  obtain ⟨h19, h22, h24, h25, h27, h30, h32⟩ := high x0 x1 x2 x3 x4 a b l h0 h1 h2
  obtain ⟨h1, h3, h5, h8, h11, h13, h14, h16⟩ := low x0 x1 x2 x3 x4 a b l h0 h1 h2
  canon_tiles x hx using cover0_10 ..
  all_goals
    first | (apply IsPow.left; case hj => omega) | (apply IsPow.right; case hj => omega)
    case h =>
      repeat first
        | with_reducible first | exact h1 | exact h3 | exact h5 | exact h8 | exact h11 | exact h13 | exact h14 | exact h16 | exact h19 | exact h22 | exact h24 | exact h25 | exact h27 | exact h30 | exact h32
        | apply IsPow.step h1
    case hm => omega

/-- Every 32nd of the first 256 powers, rising and falling. -/
theorem rising32 (y : S8x4096.Idx) : out0_11 x0 x1 x2 x3 x4 y = entry a b l (32 * ((y 0).val + 1)) (y 1) := by
  obtain ⟨-, -, -, -, -, -, h⟩ := high x0 x1 x2 x3 x4 a b l h0 h1 h2
  obtain ⟨h32, h128, h192⟩ := block x0 x1 x2 x3 x4 a b l h0 h1 h2
  canon_tiles x hx using cover0_11 ..
  all_goals
    first | (apply IsPow.left; case hj => omega) | (apply IsPow.right; case hj => omega)
    case h =>
      repeat first
        | with_reducible first | exact h32 | exact h128 | exact h192 | exact h
        | apply IsPow.step h32
    case hm => omega

theorem falling32 (y : S8x4096.Idx) : out0_12 x0 x1 x2 x3 x4 y = entry a b l (32 * (8 - (y 0).val)) (y 1) := by
  obtain ⟨-, -, -, -, -, -, h⟩ := high x0 x1 x2 x3 x4 a b l h0 h1 h2
  obtain ⟨h32, h128, h192⟩ := block x0 x1 x2 x3 x4 a b l h0 h1 h2
  canon_tiles x hx using cover0_12 ..
  all_goals
    first | (apply IsPow.left; case hj => omega) | (apply IsPow.right; case hj => omega)
    case h =>
      repeat first
        | with_reducible first | exact h32 | exact h128 | exact h192 | exact h
        | apply IsPow.step h32
    case hm => omega

end Tables

variable (m : (ℓ : Loc nD τ sig) → Buf (Elt Ideal) ℓ)

abbrev A0 (c : Dev nD) : Vec Ideal S1x32x64 .f32 := m ((c : Thread nD τ).loc main_arg0)
abbrev A1 (c : Dev nD) : Vec Ideal S1x32x64 .f32 := m ((c : Thread nD τ).loc main_arg1)
abbrev A2 (c : Dev nD) : Vec Ideal S1x32 .f32 := m ((c : Thread nD τ).loc main_arg2)
abbrev A3 (c : Dev nD) : Vec Ideal S1x32x64x16 .f32 := m ((c : Thread nD τ).loc main_arg3)
abbrev A4 (c : Dev nD) : Vec Ideal S1x32x64x16 .f32 := m ((c : Thread nD τ).loc main_arg4)

theorem idx_val : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] := (by decide +kernel : ∀ t : Fin grid0.N, _)

theorem emb0 (t : Fin cfg0.N) (s : Fin 2048) : ((View.whole main_v0).slice (win0_0.rect t)).emb (ix2 0 s) = ix2 0 s := by blk_ext [idx_val t]
theorem emb1 (t : Fin cfg0.N) (s : Fin 2048) : ((View.whole main_v1).slice (win0_1.rect t)).emb (ix2 0 s) = ix2 0 s := by blk_ext [idx_val t]
theorem emb2 (t : Fin cfg0.N) (s : Fin 2048) : ((View.whole main_v5).slice (win0_2.rect t)).emb (ix2 0 s) = ix2 0 s := by blk_ext [idx_val t]
theorem emb3 (t : Fin cfg0.N) (j : Fin 16) (s : Fin 2048) : ((View.whole main_v8).slice (win0_3.rect t)).emb (ix2 j s) = ix2 j s := by blk_ext [idx_val t]
theorem emb4 (t : Fin cfg0.N) (j : Fin 16) (s : Fin 2048) : ((View.whole main_v11).slice (win0_4.rect t)).emb (ix2 j s) = ix2 j s := by blk_ext [idx_val t]
theorem emb5 (t : Fin cfg0.N) (s : Fin 2048) : ((View.whole main_v12_0).slice (win0_5.rect t)).emb (ix2 0 s) = ix2 0 s := by blk_ext [idx_val t]
theorem emb6 (t : Fin cfg0.N) (s : Fin 2048) : ((View.whole main_v12_1).slice (win0_6.rect t)).emb (ix2 0 s) = ix2 0 s := by blk_ext [idx_val t]
theorem emb7 (t : Fin cfg0.N) (j : Fin 16) (s : Fin 2048) : ((View.whole main_v12_2).slice (win0_7.rect t)).emb (ix2 j s) = ix2 j s := by blk_ext [idx_val t]
theorem emb8 (t : Fin cfg0.N) (j : Fin 16) (s : Fin 2048) : ((View.whole main_v12_3).slice (win0_8.rect t)).emb (ix2 j s) = ix2 j s := by blk_ext [idx_val t]
theorem emb9 (t : Fin cfg0.N) (j : Fin 32) (s : Fin 4096) : ((View.whole main_v12_4).slice (win0_9.rect t)).emb (ix2 j s) = ix2 j s := by blk_ext [idx_val t]
theorem emb10 (t : Fin cfg0.N) (j : Fin 32) (s : Fin 4096) : ((View.whole main_v12_5).slice (win0_10.rect t)).emb (ix2 j s) = ix2 j s := by blk_ext [idx_val t]
theorem emb11 (t : Fin cfg0.N) (j : Fin 8) (s : Fin 4096) : ((View.whole main_v12_6).slice (win0_11.rect t)).emb (ix2 j s) = ix2 j s := by blk_ext [idx_val t]
theorem emb12 (t : Fin cfg0.N) (j : Fin 8) (s : Fin 4096) : ((View.whole main_v12_7).slice (win0_12.rect t)).emb (ix2 j s) = ix2 j s := by blk_ext [idx_val t]

/-- The input blocks, at an entry. -/
theorem blk0 (c : Dev nD) (t : Fin cfg0.N) (s : Fin 2048) : iblk m c 0 t (ix2 0 s) = A0 m c (ix3 0 (grp s) (plc s)) := by
  blk_simp [iblk, idx_val t]
  rw [emb0]
  change StableHlo.after (List.flatten [hostOps0]) _ _ _ = _
  simp only [hostOps0, List.flatten_cons, List.flatten_nil, List.cons_append, List.nil_append, List.append_nil]
  entry_read
  clean_types
  pointwise

theorem blk1 (c : Dev nD) (t : Fin cfg0.N) (s : Fin 2048) : iblk m c 1 t (ix2 0 s) = A1 m c (ix3 0 (grp s) (plc s)) := by
  blk_simp [iblk, idx_val t]
  rw [emb1]
  change StableHlo.after (List.flatten [hostOps0]) _ _ _ = _
  simp only [hostOps0, List.flatten_cons, List.flatten_nil, List.cons_append, List.nil_append, List.append_nil]
  entry_read
  clean_types
  pointwise

theorem blk2 (c : Dev nD) (t : Fin cfg0.N) (s : Fin 2048) : iblk m c 2 t (ix2 0 s) = A2 m c (ix2 0 (grp s)) := by
  blk_simp [iblk, idx_val t]
  rw [emb2]
  change StableHlo.after (List.flatten [hostOps0]) _ _ _ = _
  simp only [hostOps0, List.flatten_cons, List.flatten_nil, List.cons_append, List.nil_append, List.append_nil]
  entry_read
  clean_types
  pointwise

theorem blk3 (c : Dev nD) (t : Fin cfg0.N) (j : Fin 16) (s : Fin 2048) : iblk m c 3 t (ix2 j s) = A3 m c (ix4 0 (grp s) (plc s) j) := by
  blk_simp [iblk, idx_val t]
  rw [emb3]
  change StableHlo.after (List.flatten [hostOps0]) _ _ _ = _
  simp only [hostOps0, List.flatten_cons, List.flatten_nil, List.cons_append, List.nil_append, List.append_nil]
  entry_read
  clean_types
  pointwise

theorem blk4 (c : Dev nD) (t : Fin cfg0.N) (j : Fin 16) (s : Fin 2048) : iblk m c 4 t (ix2 j s) = A4 m c (ix4 0 (grp s) (plc s) j) := by
  blk_simp [iblk, idx_val t]
  rw [emb4]
  change StableHlo.after (List.flatten [hostOps0]) _ _ _ = _
  simp only [hostOps0, List.flatten_cons, List.flatten_nil, List.cons_append, List.nil_append, List.append_nil]
  entry_read
  clean_types
  pointwise

/-! The results of a block, at an entry. -/

section Pay

variable (x0 x1 x2 : FVec Ideal S1x2048 .f32) (x3 x4 : FVec Ideal S16x2048 .f32) (s : Fin 2048) (j : Fin 16)

theorem pay14 : k0_pay14 (F := Ideal) x0 x1 x2 (ix2 0 s) = Powers.cr (x0 (ix2 0 s)) (x1 (ix2 0 s)) (x2 (ix2 0 s)) := by
  pointwise [k0_pay14, k0_pay13, k0_pay12, k0_pay6, k0_pay5]; simp only [factor_re, factor_im]; rfl

theorem pay15 : k0_pay15 (F := Ideal) x0 x1 x2 (ix2 0 s) = Powers.ci (x0 (ix2 0 s)) (x1 (ix2 0 s)) (x2 (ix2 0 s)) := by
  pointwise [k0_pay15, k0_pay13, k0_pay12, k0_pay6, k0_pay5]; simp only [factor_re, factor_im]; rfl

theorem pay16 : k0_pay16 (F := Ideal) x0 x1 x2 x3 x4 (ix2 j s) = Powers.cr (x0 (ix2 0 s)) (x1 (ix2 0 s)) (x2 (ix2 0 s)) * x3 (ix2 j s)
    - Powers.ci (x0 (ix2 0 s)) (x1 (ix2 0 s)) (x2 (ix2 0 s)) * x4 (ix2 j s) := by
  pointwise [k0_pay16]
  simp only [pay14, pay15]

theorem pay17 : k0_pay17 (F := Ideal) (k0_pay14 x0 x1 x2) (k0_pay15 x0 x1 x2) x4 x3 (ix2 j s) = Powers.cr (x0 (ix2 0 s)) (x1 (ix2 0 s)) (x2 (ix2 0 s)) * x4 (ix2 j s)
    + Powers.ci (x0 (ix2 0 s)) (x1 (ix2 0 s)) (x2 (ix2 0 s)) * x3 (ix2 j s) := by
  pointwise [k0_pay17]
  simp only [pay14, pay15]

end Pay

theorem final5 (c : Dev nD) : (dats m 0 c).arrAt 5 cfg0.N = each (A0 m c) (A1 m c) (A2 m c) Powers.ar := by
  refine (dats m 0 c).arrAt_eq_of_covers 5 _ (by decide +kernel) fun t hf y => ?_
  blk_simp
  rw [after0_5]
  unfold_out out0_5
  frame_out; idx_vars y
  obtain rfl : y0 = 0 := Subsingleton.elim _ _
  rw [emb5]
  simp only [factor_re, blk0, blk1, blk2]
  rfl

theorem final6 (c : Dev nD) : (dats m 0 c).arrAt 6 cfg0.N = each (A0 m c) (A1 m c) (A2 m c) Powers.ai := by
  refine (dats m 0 c).arrAt_eq_of_covers 6 _ (by decide +kernel) fun t hf y => ?_
  blk_simp
  rw [after0_6]
  unfold_out out0_6
  frame_out; idx_vars y
  obtain rfl : y0 = 0 := Subsingleton.elim _ _
  rw [emb6]
  simp only [factor_im, blk0, blk1, blk2]
  rfl

theorem final7 (c : Dev nD) : (dats m 0 c).arrAt 7 cfg0.N = every (A0 m c) (A1 m c) (A2 m c) (A3 m c) (A4 m c) fun a b l x y => Powers.cr a b l * x - Powers.ci a b l * y := by
  refine (dats m 0 c).arrAt_eq_of_covers 7 _ (by decide +kernel) fun t hf y => ?_
  blk_simp
  rw [after0_7]
  unfold_out out0_7
  frame_out; idx_vars y
  rw [emb7]
  simp only [pay16, blk0, blk1, blk2, blk3, blk4]
  rfl

theorem final8 (c : Dev nD) : (dats m 0 c).arrAt 8 cfg0.N = every (A0 m c) (A1 m c) (A2 m c) (A3 m c) (A4 m c) fun a b l x y => Powers.cr a b l * y + Powers.ci a b l * x := by
  refine (dats m 0 c).arrAt_eq_of_covers 8 _ (by decide +kernel) fun t hf y => ?_
  blk_simp
  rw [after0_8]
  unfold_out out0_8
  frame_out; idx_vars y
  rw [emb8]
  simp only [pay17, blk0, blk1, blk2, blk3, blk4]
  rfl

section Finals

variable (c : Dev nD) (a b l : Fin 2048 → ℝ) (h0 : ∀ s, A0 m c (ix3 0 (grp s) (plc s)) = (a s : EReal))
  (h1 : ∀ s, A1 m c (ix3 0 (grp s) (plc s)) = (b s : EReal)) (h2 : ∀ s, A2 m c (ix2 0 (grp s)) = (l s : EReal))

include h0 h1 h2

theorem final9 : (dats m 0 c).arrAt 9 cfg0.N = fun j => entry a b l ((j 0).val + 1) (j 1) := by
  refine (dats m 0 c).arrAt_eq_of_covers 9 _ (by decide +kernel) fun t hf y => ?_
  blk_simp
  rw [after0_9, rising _ _ _ _ _ a b l (fun s => (blk0 m c t s).trans (h0 s)) (fun s => (blk1 m c t s).trans (h1 s)) (fun s => (blk2 m c t s).trans (h2 s))]
  idx_vars y
  rw [emb9]
  simp only [idx_val t, Matrix.cons_val_zero, Nat.zero_mul, Nat.zero_add]
  rfl

theorem final10 : (dats m 0 c).arrAt 10 cfg0.N = fun j => entry a b l (32 - (j 0).val) (j 1) := by
  refine (dats m 0 c).arrAt_eq_of_covers 10 _ (by decide +kernel) fun t hf y => ?_
  blk_simp
  rw [after0_10, falling _ _ _ _ _ a b l (fun s => (blk0 m c t s).trans (h0 s)) (fun s => (blk1 m c t s).trans (h1 s)) (fun s => (blk2 m c t s).trans (h2 s))]
  idx_vars y
  rw [emb10]
  simp only [idx_val t, Matrix.cons_val_zero, Nat.zero_mul, Nat.zero_add]
  rfl

theorem final11 : (dats m 0 c).arrAt 11 cfg0.N = fun j => entry a b l (32 * ((j 0).val + 1)) (j 1) := by
  refine (dats m 0 c).arrAt_eq_of_covers 11 _ (by decide +kernel) fun t hf y => ?_
  blk_simp
  rw [after0_11, rising32 _ _ _ _ _ a b l (fun s => (blk0 m c t s).trans (h0 s)) (fun s => (blk1 m c t s).trans (h1 s)) (fun s => (blk2 m c t s).trans (h2 s))]
  idx_vars y
  rw [emb11]
  simp only [idx_val t, Matrix.cons_val_zero, Nat.zero_mul, Nat.zero_add]
  rfl

theorem final12 : (dats m 0 c).arrAt 12 cfg0.N = fun j => entry a b l (32 * (8 - (j 0).val)) (j 1) := by
  refine (dats m 0 c).arrAt_eq_of_covers 12 _ (by decide +kernel) fun t hf y => ?_
  blk_simp
  rw [after0_12, falling32 _ _ _ _ _ a b l (fun s => (blk0 m c t s).trans (h0 s)) (fun s => (blk1 m c t s).trans (h1 s)) (fun s => (blk2 m c t s).trans (h2 s))]
  idx_vars y
  rw [emb12]
  simp only [idx_val t, Matrix.cons_val_zero, Nat.zero_mul, Nat.zero_add]
  rfl

end Finals

/-- The kernel's run: the results by name, the arguments as they were. -/
theorem run_blocks (ρ : Dev nD → PrngReg) : θ_run defs (onTc (τ := τ) (main (F := Ideal))) ⟨m, fun _ => 0, ρ⟩ fun r => ∀ c : Dev nD,
    r.2.mem ((c : Thread nD τ).loc main_v12_0) = (dats m 0 c).arrAt 5 cfg0.N
    ∧ r.2.mem ((c : Thread nD τ).loc main_v12_1) = (dats m 0 c).arrAt 6 cfg0.N
    ∧ r.2.mem ((c : Thread nD τ).loc main_v12_2) = (dats m 0 c).arrAt 7 cfg0.N
    ∧ r.2.mem ((c : Thread nD τ).loc main_v12_3) = (dats m 0 c).arrAt 8 cfg0.N
    ∧ r.2.mem ((c : Thread nD τ).loc main_v12_4) = (dats m 0 c).arrAt 9 cfg0.N
    ∧ r.2.mem ((c : Thread nD τ).loc main_v12_5) = (dats m 0 c).arrAt 10 cfg0.N
    ∧ r.2.mem ((c : Thread nD τ).loc main_v12_6) = (dats m 0 c).arrAt 11 cfg0.N
    ∧ r.2.mem ((c : Thread nD τ).loc main_v12_7) = (dats m 0 c).arrAt 12 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ?_) (θ_run_and (run_main m ρ) (unchanged m ρ))
  exact ⟨(h.1 c).1 5, (h.1 c).1 6, (h.1 c).1 7, (h.1 c).1 8, (h.1 c).1 9, (h.1 c).1 10, (h.1 c).1 11, (h.1 c).1 12, h.2 c⟩

end Cert.Kernel18Ideal.Value

end
-- ==== Proof.PowersRef.lean ====
module

public import proofs.«01_k».proof.Proof.Powers
public import proofs.«01_k».proof.Proof.Gen.Reference18Ideal.Run
public import Idealize.ShloMosaic.Lib.Tactic.CleanTypes

/-! What the reference's parameters of the state-space layer and their powers are, entry by entry. -/

@[expose] public section

set_option maxRecDepth 16384

noncomputable section

namespace Cert.Reference18Ideal.Value

open Cert.Reference18Ideal Cert.Reference18Ideal.Gen Idealize.ShloMosaic Idealize.ShloMosaic.TcCoe Idealize.SL.Sem
open Cert.Powers

variable (m : (ℓ : Loc nD τ sig) → Buf (Elt Ideal) ℓ)

abbrev A0 (c : Dev nD) : Vec Ideal S1x32x64 .f32 := m ((c : Thread nD τ).loc main_arg0)
abbrev A1 (c : Dev nD) : Vec Ideal S1x32x64 .f32 := m ((c : Thread nD τ).loc main_arg1)
abbrev A2 (c : Dev nD) : Vec Ideal S1x32 .f32 := m ((c : Thread nD τ).loc main_arg2)
abbrev A3 (c : Dev nD) : Vec Ideal S1x32x64x16 .f32 := m ((c : Thread nD τ).loc main_arg3)
abbrev A4 (c : Dev nD) : Vec Ideal S1x32x64x16 .f32 := m ((c : Thread nD τ).loc main_arg4)

theorem out2 (c : Dev nD) : res_main_v48 m c = every (A0 m c) (A1 m c) (A2 m c) (A3 m c) (A4 m c) fun a b l x y => Powers.cr a b l * x - Powers.ci a b l * y := by
  unfold res_main_v48
  funext j
  idx_vars j
  clean_types
  pointwise
  rfl

theorem out3 (c : Dev nD) : res_main_v50 m c = every (A0 m c) (A1 m c) (A2 m c) (A3 m c) (A4 m c) fun a b l x y => Powers.cr a b l * y + Powers.ci a b l * x := by
  unfold res_main_v50
  funext j
  idx_vars j
  clean_types
  pointwise
  rfl

/-- The number of a row, as an extended real. -/
theorem num (k : ℕ) (h : k < 2 ^ 31) : (((BitVec.ofNat 32 k).toInt : ℝ) : EReal) = ((k : ℝ) : EReal) := by
  have e : (BitVec.ofNat 32 k).toInt = (k : ℤ) := by rw [BitVec.toInt_eq_toNat_of_lt] <;> simp only [BitVec.toNat_ofNat] <;> omega
  rw [e, Int.cast_natCast]

theorem parts {a b l : Fin 2048 → ℝ} {s : Fin 2048} {n : ℕ} {x x0 x1 x2 : EReal} (hx : x = ((n : ℝ) : EReal)) (h0 : x0 = (a s : EReal)) (h1 : x1 = (b s : EReal))
    (h2 : x2 = (l s : EReal)) : Ideal.exp (x * (x0 * Ideal.exp x2)) * Ideal.cos (x * (x1 * Ideal.exp x2)) = (re a b l n s : EReal)
      ∧ Ideal.exp (x * (x0 * Ideal.exp x2)) * Ideal.sin (x * (x1 * Ideal.exp x2)) = (im a b l n s : EReal) := by
  subst hx h0 h1 h2
  simp only [re, im, Ideal.exp_coe, Ideal.cos_coe, Ideal.sin_coe, ← EReal.coe_mul, and_self]

/-- An entry of a table of powers, as the reference computes it. -/
theorem table {c : Dev nD} {a b l : Fin 2048 → ℝ} (g0 : ∀ s, A0 m c (ix3 0 (grp s) (plc s)) = (a s : EReal))
    (g1 : ∀ s, A1 m c (ix3 0 (grp s) (plc s)) = (b s : EReal)) (g2 : ∀ s, A2 m c (ix2 0 (grp s)) = (l s : EReal)) {n : ℕ} {x : EReal}
    (hx : x = ((n : ℝ) : EReal)) (j : Fin 4096) :
    (if h : j.val < 2048 then
      Ideal.exp (x * (A0 m c (ix3 0 (grp ⟨j.val, h⟩) (plc ⟨j.val, h⟩)) * Ideal.exp (A2 m c (ix2 0 (grp ⟨j.val, h⟩)))))
        * Ideal.cos (x * (A1 m c (ix3 0 (grp ⟨j.val, h⟩) (plc ⟨j.val, h⟩)) * Ideal.exp (A2 m c (ix2 0 (grp ⟨j.val, h⟩)))))
    else
      Ideal.exp (x * (A0 m c (ix3 0 (grp ⟨j.val - 2048, by omega⟩) (plc ⟨j.val - 2048, by omega⟩)) * Ideal.exp (A2 m c (ix2 0 (grp ⟨j.val - 2048, by omega⟩)))))
        * Ideal.sin (x * (A1 m c (ix3 0 (grp ⟨j.val - 2048, by omega⟩) (plc ⟨j.val - 2048, by omega⟩)) * Ideal.exp (A2 m c (ix2 0 (grp ⟨j.val - 2048, by omega⟩))))))
    = entry a b l n j := by
  rw [entry]
  by_cases h : j.val < 2048
  · rw [dif_pos h, if_pos h, show col j = ⟨j.val, h⟩ from Fin.ext (Nat.mod_eq_of_lt h)]
    exact (parts hx (g0 _) (g1 _) (g2 _)).1
  · have e : col j = ⟨j.val - 2048, by omega⟩ := Fin.ext (by show j.val % 2048 = j.val - 2048; omega)
    rw [dif_neg h, if_neg h, e]
    exact (parts hx (g0 _) (g1 _) (g2 _)).2

/-- The exponents' constants, as written. -/
theorem bits32 : Ideal.ofBits .f32 1107296256#32 = ((32 : ℝ) : EReal) := by
  simp [Ideal.ofBits, Ideal.ieee, -EReal.coe_mul]; norm_num

theorem bits256 : Ideal.ofBits .f32 1132462080#32 = ((256 : ℝ) : EReal) := by
  simp [Ideal.ofBits, Ideal.ieee, -EReal.coe_mul]; norm_num

/-- The reference's run: the results entry by entry, the tables where the parameters are real numbers, the arguments as they were. -/
theorem values (ρ : Dev nD → PrngReg) : θ_run defs (onTc (τ := τ) (main (F := Ideal))) ⟨m, fun _ => 0, ρ⟩ fun r => ∀ c : Dev nD,
    r.2.mem ((c : Thread nD τ).loc main_v45) = each (A0 m c) (A1 m c) (A2 m c) Powers.ar
    ∧ r.2.mem ((c : Thread nD τ).loc main_v46) = each (A0 m c) (A1 m c) (A2 m c) Powers.ai
    ∧ r.2.mem ((c : Thread nD τ).loc main_v48) = (every (A0 m c) (A1 m c) (A2 m c) (A3 m c) (A4 m c) fun a b l x y => Powers.cr a b l * x - Powers.ci a b l * y)
    ∧ r.2.mem ((c : Thread nD τ).loc main_v50) = (every (A0 m c) (A1 m c) (A2 m c) (A3 m c) (A4 m c) fun a b l x y => Powers.cr a b l * y + Powers.ci a b l * x)
    ∧ (∀ a b l : Fin 2048 → ℝ, (∀ s, A0 m c (ix3 0 (grp s) (plc s)) = (a s : EReal)) → (∀ s, A1 m c (ix3 0 (grp s) (plc s)) = (b s : EReal)) →
        (∀ s, A2 m c (ix2 0 (grp s)) = (l s : EReal)) →
      r.2.mem ((c : Thread nD τ).loc main_v68) = (fun j => entry a b l ((j 0).val + 1) (j 1))
      ∧ r.2.mem ((c : Thread nD τ).loc main_v86) = (fun j => entry a b l (32 - (j 0).val) (j 1))
      ∧ r.2.mem ((c : Thread nD τ).loc main_v106) = (fun j => entry a b l (32 * ((j 0).val + 1)) (j 1))
      ∧ r.2.mem ((c : Thread nD τ).loc main_v126) = (fun j => entry a b l (32 * (8 - (j 0).val)) (j 1)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run _ _ _).mono (fun r h c => ?_) (run m ρ)
  obtain ⟨h0, h1, h2, h3, h4, h5, h6, h7, hk⟩ := h c
  refine ⟨?_, ?_, h2.trans (out2 m c), h3.trans (out3 m c), fun a b l g0 g1 g2 => ⟨?_, ?_, ?_, ?_⟩, hk⟩
  · rw [h0]; clear h h0 h1 h2 h3 h4 h5 h6 h7
    funext j; idx_vars j
    obtain rfl : j0 = 0 := Subsingleton.elim _ _
    clean_types; pointwise
    rfl
  · rw [h1]; clear h h0 h1 h2 h3 h4 h5 h6 h7
    funext j; idx_vars j
    obtain rfl : j0 = 0 := Subsingleton.elim _ _
    clean_types; pointwise
    rfl
  · rw [h4]; clear h h0 h1 h2 h3 h4 h5 h6 h7
    funext j; idx_vars j
    clean_types; pointwise
    refine table m g0 g1 g2 ?_ j1
    change (((BitVec.ofNat 32 j0.val).toInt : ℝ) : EReal) + 1 = _
    rw [num _ (by omega)]
    norm_cast
  · rw [h5]; clear h h0 h1 h2 h3 h4 h5 h6 h7
    funext j; idx_vars j
    clean_types; pointwise
    refine table m g0 g1 g2 ?_ j1
    change Ideal.ofBits .f32 1107296256#32 - (((BitVec.ofNat 32 j0.val).toInt : ℝ) : EReal) = _
    rw [num _ (by omega), bits32, ← EReal.coe_sub, Nat.cast_sub (by omega)]
    rfl
  · rw [h6]; clear h h0 h1 h2 h3 h4 h5 h6 h7
    funext j; idx_vars j
    clean_types; pointwise
    refine table m g0 g1 g2 ?_ j1
    change Ideal.ofBits .f32 1107296256#32 * (((BitVec.ofNat 32 j0.val).toInt : ℝ) : EReal) + Ideal.ofBits .f32 1107296256#32 = _
    rw [num _ (by omega), bits32, ← EReal.coe_mul, ← EReal.coe_add]
    exact congrArg Real.toEReal (by push_cast; ring)
  · rw [h7]; clear h h0 h1 h2 h3 h4 h5 h6 h7
    funext j; idx_vars j
    clean_types; pointwise
    refine table m g0 g1 g2 ?_ j1
    change Ideal.ofBits .f32 1132462080#32 - Ideal.ofBits .f32 1107296256#32 * (((BitVec.ofNat 32 j0.val).toInt : ℝ) : EReal) = _
    rw [num _ (by omega), bits32, bits256, ← EReal.coe_mul, ← EReal.coe_sub]
    exact congrArg Real.toEReal (by rw [Nat.cast_mul, Nat.cast_sub (by omega)]; push_cast; ring)

end Cert.Reference18Ideal.Value

end
-- ==== Proof.PowersClaim.lean ====
module

public import proofs.«01_k».proof.Defs
public import proofs.«01_k».proof.Proof.PowersRef
public import proofs.«01_k».proof.Proof.Gen.Pre_finite_params

/-! The two programs of the state-space layer's parameters and their powers leave equal arrays. -/

@[expose] public section

noncomputable section

namespace Cert.Powers

open Idealize.ShloMosaic Idealize.ShloMosaic.TcCoe Idealize.SL.Sem Cert.Scalar

/-- The reference's run, as the claim reads it. -/
theorem frame : quiescent_Reference18Ideal := fun m g _ =>
  (θ_run _ _ _).mono (fun r h => ⟨fun c => (h c).2.2.2.2.2, sem_eq_zero_of_no_sems (by decide) r.2⟩) (Reference18Ideal.Value.values m g)

theorem algebraic : algebraic_Kernel18Ideal_Reference18Ideal_pre_finite_params := by
  intro m g m' g' hp hm
  refine ⟨fun c => (Kernel18Ideal.Gen.dats m 0 c).arrAt 5 _, fun c => (Kernel18Ideal.Gen.dats m 0 c).arrAt 6 _,
    fun c => (Kernel18Ideal.Gen.dats m 0 c).arrAt 7 _, fun c => (Kernel18Ideal.Gen.dats m 0 c).arrAt 8 _,
    fun c => (Kernel18Ideal.Gen.dats m 0 c).arrAt 9 _, fun c => (Kernel18Ideal.Gen.dats m 0 c).arrAt 10 _,
    fun c => (Kernel18Ideal.Gen.dats m 0 c).arrAt 11 _, fun c => (Kernel18Ideal.Gen.dats m 0 c).arrAt 12 _,
    Kernel18Ideal.Value.run_blocks m g, ?_⟩
  refine (θ_run _ _ _).mono (fun r h c => ?_) (Reference18Ideal.Value.values m' g')
  obtain ⟨h0, h1, h2, h3, ht, hk⟩ := h c
  obtain ⟨a0, a1, a2, a3, a4⟩ := hm c
  replace a0 : Reference18Ideal.Value.A0 m' c = Kernel18Ideal.Value.A0 m c := a0
  replace a1 : Reference18Ideal.Value.A1 m' c = Kernel18Ideal.Value.A1 m c := a1
  replace a2 : Reference18Ideal.Value.A2 m' c = Kernel18Ideal.Value.A2 m c := a2
  replace a3 : Reference18Ideal.Value.A3 m' c = Kernel18Ideal.Value.A3 m c := a3
  replace a4 : Reference18Ideal.Value.A4 m' c = Kernel18Ideal.Value.A4 m c := a4
  have e := and_one (congrFun (hp c) (fun a => a.elim0))
  have e1 := and_one e.1
  choose x hx using fun i => finite_cases (finite_of_all (Kernel18Ideal.Value.A0 m c) _ _ _ _ e1.1 i)
  choose y hy using fun i => finite_cases (finite_of_all (Kernel18Ideal.Value.A1 m c) _ _ _ _ e1.2 i)
  choose z hz using fun i => finite_cases (finite_of_all (Kernel18Ideal.Value.A2 m c) _ _ _ _ e.2 i)
  have f0 := fun s : Fin 2048 => hx (ix3 0 (grp s) (plc s))
  have f1 := fun s : Fin 2048 => hy (ix3 0 (grp s) (plc s))
  have f2 := fun s : Fin 2048 => hz (ix2 0 (grp s))
  have k0 := fun s => (congrFun a0 _).trans (f0 s)
  have k1 := fun s => (congrFun a1 _).trans (f1 s)
  have k2 := fun s => (congrFun a2 _).trans (f2 s)
  obtain ⟨h4, h5, h6, h7⟩ := ht _ _ _ k0 k1 k2
  rw [a0, a1, a2] at h0 h1
  rw [a0, a1, a2, a3, a4] at h2 h3
  exact ⟨h0.trans (Kernel18Ideal.Value.final5 m c).symm, h1.trans (Kernel18Ideal.Value.final6 m c).symm,
    h2.trans (Kernel18Ideal.Value.final7 m c).symm, h3.trans (Kernel18Ideal.Value.final8 m c).symm,
    h4.trans (Kernel18Ideal.Value.final9 m c _ _ _ f0 f1 f2).symm, h5.trans (Kernel18Ideal.Value.final10 m c _ _ _ f0 f1 f2).symm,
    h6.trans (Kernel18Ideal.Value.final11 m c _ _ _ f0 f1 f2).symm, h7.trans (Kernel18Ideal.Value.final12 m c _ _ _ f0 f1 f2).symm, hk⟩

end Cert.Powers

end
-- ==== Proof.Weight.lean ====
module

public import proofs.«01_k».proof.Proof.Pad
public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Tactic.CleanTypes

/-! The gradient at an input weight of the second feed-forward layer: the plain product of the rows' transpose with the cotangent. -/

@[expose] public section

set_option maxRecDepth 16384

noncomputable section

namespace Cert.Kernel19Ideal.Value

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

/-- The product of the two arrays over the rows. -/
def prod (h : Vec Ideal S8192x1024 .f32) (z : Vec Ideal S8192x2816 .f32) (l : Fin 1024) (j : Fin 2816) : EReal :=
  ∑ k, h (ix2 k l) * z (ix2 k j)

/-- The result: its columns in padded order, as rows. -/
def res2 (h : Vec Ideal S8192x1024 .f32) (z : Vec Ideal S8192x2816 .f32) : Vec Ideal S3072x1024 .bf16 := fun j =>
  Pad.lay (prod h z (j 1)) (j 0)

abbrev A0 (c : Dev nD) : Vec Ideal S8192x1024 .f32 := m ((c : Thread nD τ).loc main_arg0)
abbrev A1 (c : Dev nD) : Vec Ideal S8192x2816 .f32 := m ((c : Thread nD τ).loc main_arg1)

/-- Row `k` of the half that point `t` sums, and column `r` of its tile. -/
abbrev step (t : Fin cfg0.N) (k : Fin 4096) : Fin 8192 := ⟨t.val % 2 * 4096 + k.val, by omega⟩
abbrev col (t : Fin cfg0.N) (r : Fin 1024) : Fin 3072 := ⟨t.val / 2 * 1024 + r.val, by have : t.val < 6 := t.isLt; omega⟩

theorem idx_val : ∀ t : Fin cfg0.N, win0_0.index t = ![0, t.val % 2] ∧ win0_1.index t = ![t.val % 2, t.val / 2]
    ∧ win0_2.index t = ![t.val / 2, 0] := (by decide +kernel : ∀ t : Fin grid0.N, _)

theorem emb0 (t : Fin cfg0.N) (l : Fin 1024) (k : Fin 4096) :
    ((View.whole main_v1).slice (win0_0.rect t)).emb (ix2 l k) = ix2 l (step t k) := by blk_ext [idx_val t]

theorem emb1 (t : Fin cfg0.N) (k : Fin 4096) (r : Fin 1024) :
    ((View.whole main_v5).slice (win0_1.rect t)).emb (ix2 k r) = ix2 (step t k) (col t r) := by blk_ext [idx_val t]

theorem emb2 (t : Fin cfg0.N) (r : Fin 1024) (l : Fin 1024) :
    ((View.whole main_v6).slice (win0_2.rect t)).emb (ix2 r l) = ix2 (col t r) l := by blk_ext [idx_val t]

theorem blk0 (c : Dev nD) (t : Fin cfg0.N) (l : Fin 1024) (k : Fin 4096) : iblk m c 0 t (ix2 l k) = A0 m c (ix2 (step t k) l) := by
  blk_simp [iblk, idx_val t]
  rw [emb0]
  change StableHlo.after (List.flatten [hostOps0, hostOps0_1, hostOps0_2]) _ _ _ = _
  simp only [hostOps0, hostOps0_1, hostOps0_2, List.flatten_cons, List.flatten_nil, List.cons_append, List.nil_append, List.append_nil]
  entry_read
  pointwise

theorem blk1 (c : Dev nD) (t : Fin cfg0.N) (k : Fin 4096) (r : Fin 1024) :
    iblk m c 1 t (ix2 k r) = Pad.lay (fun j => A1 m c (ix2 (step t k) j)) (col t r) := by
  blk_simp [iblk, idx_val t]
  rw [emb1]
  change StableHlo.after (List.flatten [hostOps0, hostOps0_1, hostOps0_2]) _ _ _ = _
  simp only [hostOps0, hostOps0_1, hostOps0_2, List.flatten_cons, List.flatten_nil, List.cons_append, List.nil_append, List.append_nil]
  entry_read
  exact Pad.cols (A1 m c) shapeCasts_S8192x2816_S8192x4x704 pads_S8192x4x704_S8192x4x768_000_000_0640 shapeCasts_S8192x4x768_S8192x3072 h_S_ _
    Pad.int_zero (step t k) (col t r)

/-- What one point adds at one place: its half of the sum. -/
abbrev half (c : Dev nD) (t : Fin cfg0.N) (l r : Fin 1024) : EReal :=
  ∑ k, A0 m c (ix2 (step t k) l) * Pad.lay (fun j => A1 m c (ix2 (step t k) j)) (col t r)

theorem pay2 (c : Dev nD) (t : Fin cfg0.N) (a : Vec Ideal S1024x1024 .f32) (l r : Fin 1024) :
    k0_pay2 a (iblk m c 0 t) (iblk m c 1 t) (ix2 l r) = a (ix2 l r) + half m c t l r := by
  pointwise [k0_pay2]; simp only [blk0, blk1]

theorem zero (j : S1024x1024.Idx) : (k0_pay1 (F := Ideal)) j = 0 := by pointwise [k0_pay1]

/-- After the first point of a tile the scratch holds the first half. -/
theorem first (c : Dev nD) (t : Fin cfg0.N) (h0 : t.val % 2 = 0) (l r : Fin 1024) :
    (outsAt0 m c t.val t.isLt).2 (ix2 l r) = half m c t l r := by
  rw [outsAt0_A m c t h0 (by omega)]; frame_out; rw [pay2, zero, zero_add]

/-- Both halves are the whole sum. -/
theorem halves (c : Dev nD) (s t : Fin cfg0.N) (hs : s.val + 1 = t.val) (ht : t.val % 2 = 1) (l r : Fin 1024) :
    half m c s l r + half m c t l r = res2 (A0 m c) (A1 m c) (ix2 (col t r) l) := by
  have ec : col s r = col t r := Fin.ext (by show s.val / 2 * 1024 + _ = t.val / 2 * 1024 + _; omega)
  have e := Fin.sum_univ_add (a := 4096) (b := 4096)
    fun k : Fin (4096 + 4096) => A0 m c (ix2 k l) * Pad.lay (fun j => A1 m c (ix2 k j)) (col t r)
  refine Eq.trans ?_ (e.symm.trans (Pad.lay_sum _ _ _))
  refine congrArg₂ (· + ·) (Finset.sum_congr rfl fun k _ => ?_) (Finset.sum_congr rfl fun k _ => ?_)
  · have : step s k = Fin.castAdd 4096 k := Fin.ext (by show s.val % 2 * 4096 + k.val = k.val; omega)
    rw [ec, this]
  · have : step t k = Fin.natAdd 4096 k := Fin.ext (by show t.val % 2 * 4096 + k.val = 4096 + k.val; omega)
    rw [this]

theorem final (c : Dev nD) : (dats m 0 c).arrAt 2 cfg0.N = res2 (A0 m c) (A1 m c) := by
  refine (dats m 0 c).arrAt_eq_of_covers 2 _ (by decide +kernel) fun t hf y => ?_
  have ht : t.val % 2 = 1 := (flush0_2 t).mp hf
  blk_simp
  rw [after0_2, outsAt0_B m c t (by omega) ht]
  frame_out; idx_vars y; rw [emb2]; pointwise [k0_pay3]
  rw [pay2]
  have hb : t.val - 1 < cfg0.N := Nat.lt_of_le_of_lt (Nat.sub_le _ _) t.isLt
  have e := (congrFun ((Memref.isWhole_whole cc0_scratch0).read_unread (outsAt0 m c (t.val - 1) hb).2) (ix2 y1 y0)).trans
    (first m c ⟨t.val - 1, hb⟩ (by show (t.val - 1) % 2 = 0; omega) y1 y0)
  exact (congrArg (fun z : EReal => z + half m c t y1 y0) e).trans
    (halves m c ⟨t.val - 1, hb⟩ t (by show t.val - 1 + 1 = t.val; omega) ht y1 y0)

end Cert.Kernel19Ideal.Value

namespace Cert.Reference19Ideal.Value

open Cert.Reference19Ideal Cert.Reference19Ideal.Gen Idealize.ShloMosaic Idealize.ShloMosaic.TcCoe Idealize.SL.Sem

variable (m : (ℓ : Loc nD τ sig) → Buf (Elt Ideal) ℓ)

abbrev A0 (c : Dev nD) : Vec Ideal S8192x1024 .f32 := m ((c : Thread nD τ).loc main_arg0)
abbrev A1 (c : Dev nD) : Vec Ideal S8192x2816 .f32 := m ((c : Thread nD τ).loc main_arg1)

/-- What the reference's run leaves in its result. -/
theorem run_holds (ρ : Dev nD → PrngReg) : θ_run defs (onTc (τ := τ) (main (F := Ideal))) ⟨m, fun _ => 0, ρ⟩ fun r => ∀ c : Dev nD,
    r.2.mem ((c : Thread nD τ).loc main_v8) = Kernel19Ideal.Value.res2 (A0 m c) (A1 m c)
    ∧ A0 r.2.mem c = A0 m c ∧ A1 r.2.mem c = A1 m c :=
  (θ_run _ _ _).mono (fun r h c => by
    obtain ⟨h2, hk⟩ := h c
    refine ⟨h2.trans ?_, hk⟩
    funext j
    idx_vars j
    refine (Pad.rows _ shapeCasts_S2816x1024_S4x704x1024 pads_S4x704x1024_S4x768x1024_000_0640_000 shapeCasts_S4x768x1024_S3072x1024 h_S_ _
      Pad.int_zero j0 j1).trans (congrArg (fun f => Pad.lay f j0) (funext fun k => ?_))
    clean_types
    pointwise
    exact Finset.sum_congr rfl fun _ _ => mul_comm _ _) (run m ρ)

end Cert.Reference19Ideal.Value

namespace Cert.Weight

open Idealize.ShloMosaic Idealize.ShloMosaic.TcCoe Idealize.SL.Sem

theorem frame : quiescent_Reference19Ideal := fun m g _ =>
  (θ_run _ _ _).mono (fun r h => ⟨fun c => (h c).2, sem_eq_zero_of_no_sems (by decide) r.2⟩) (Reference19Ideal.Value.run_holds m g)

/-- The two programs leave equal arrays. -/
theorem algebraic : algebraic_Kernel19Ideal_Reference19Ideal := by
  intro m g m' g' _ hm
  refine ⟨fun c => (Kernel19Ideal.Gen.dats m 0 c).arrAt 2 _, Kernel19Ideal.Value.run_blocks m g, ?_⟩
  refine (θ_run _ _ _).mono (fun r h c => ?_) (Reference19Ideal.Value.run_holds m' g')
  obtain ⟨h2, hk⟩ := h c
  obtain ⟨a0, a1⟩ := hm c
  replace a0 : Reference19Ideal.Value.A0 m' c = Kernel19Ideal.Value.A0 m c := a0
  replace a1 : Reference19Ideal.Value.A1 m' c = Kernel19Ideal.Value.A1 m c := a1
  rw [a0, a1] at h2
  exact ⟨h2.trans (Kernel19Ideal.Value.final m c).symm, hk⟩

end Cert.Weight

end
-- ==== Proof.Slots.lean ====
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Tactic.CleanTypes

/-! The sum of four devices' parts of a gradient. -/

@[expose] public section

set_option maxRecDepth 16384

noncomputable section

namespace Cert.Kernel20Ideal.Value

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

/-- The sum over the four parts. -/
def total (p : Vec Ideal S4x768x1024 .f32) : Vec Ideal S768x1024 .f32 := fun j => ∑ q : Fin 4, p (ix3 q (j 0) (j 1))

abbrev A0 (c : Dev nD) : Vec Ideal S4x768x1024 .f32 := m ((c : Thread nD τ).loc main_arg0)

/-- Row `r` of tile `t`. -/
abbrev row (t : Fin cfg0.N) (r : Fin 256) : Fin 768 := ⟨t.val * 256 + r.val, by have : t.val < 3 := t.isLt; omega⟩

theorem idx_val : ∀ t : Fin cfg0.N, win0_0.index t = ![0, t.val, 0] ∧ win0_1.index t = ![t.val, 0] :=
  (by decide +kernel : ∀ t : Fin grid0.N, _)

theorem emb0 (t : Fin cfg0.N) (q : Fin 4) (r : Fin 256) (l : Fin 1024) :
    ((View.whole main_v0).slice (win0_0.rect t)).emb (ix3 q r l) = ix3 q (row t r) l := by blk_ext [idx_val t]

theorem emb1 (t : Fin cfg0.N) (r : Fin 256) (l : Fin 1024) :
    ((View.whole main_v1).slice (win0_1.rect t)).emb (ix2 r l) = ix2 (row t r) l := by blk_ext [idx_val t]

theorem blk0 (c : Dev nD) (t : Fin cfg0.N) (q : Fin 4) (r : Fin 256) (l : Fin 1024) :
    iblk m c 0 t (ix3 q r l) = A0 m c (ix3 q (row t r) l) := by
  blk_simp [iblk, idx_val t]
  entry_read
  rw [emb0]
  pointwise

theorem final1 (c : Dev nD) : (dats m 0 c).arrAt 1 cfg0.N = total (A0 m c) := by
  refine (dats m 0 c).arrAt_eq_of_covers 1 _ (by decide +kernel) fun t hf y => ?_
  blk_simp
  rw [after0_1]
  frame_out; idx_vars y; rw [emb1]; pointwise [k0_pay1]
  simp only [blk0, total, Fin.sum_univ_four]
  rw [add_assoc, add_assoc, add_comm, ← add_assoc]
  rfl

end Cert.Kernel20Ideal.Value

namespace Cert.Reference20Ideal.Value

open Cert.Reference20Ideal Cert.Reference20Ideal.Gen Idealize.ShloMosaic Idealize.ShloMosaic.TcCoe Idealize.SL.Sem

variable (m : (ℓ : Loc nD τ sig) → Buf (Elt Ideal) ℓ)

abbrev A0 (c : Dev nD) : Vec Ideal S4x768x1024 .f32 := m ((c : Thread nD τ).loc main_arg0)

/-- What the reference's run leaves in its result. -/
theorem run_holds (ρ : Dev nD → PrngReg) : θ_run defs (onTc (τ := τ) (main (F := Ideal))) ⟨m, fun _ => 0, ρ⟩ fun r => ∀ c : Dev nD,
    r.2.mem ((c : Thread nD τ).loc main_v0) = Kernel20Ideal.Value.total (A0 m c) ∧ A0 r.2.mem c = A0 m c :=
  (θ_run _ _ _).mono (fun r h c => by
    obtain ⟨h2, hk⟩ := h c
    refine ⟨h2.trans ?_, hk⟩
    funext j
    idx_vars j
    clean_types
    pointwise
    rfl) (run m ρ)

end Cert.Reference20Ideal.Value

namespace Cert.Slots

open Idealize.ShloMosaic Idealize.ShloMosaic.TcCoe Idealize.SL.Sem

theorem frame : quiescent_Reference20Ideal := fun m g _ =>
  (θ_run _ _ _).mono (fun r h => ⟨fun c => (h c).2, sem_eq_zero_of_no_sems (by decide) r.2⟩) (Reference20Ideal.Value.run_holds m g)

/-- The two programs leave equal arrays. -/
theorem algebraic : algebraic_Kernel20Ideal_Reference20Ideal := by
  intro m g m' g' _ hm
  refine ⟨fun c => (Kernel20Ideal.Gen.dats m 0 c).arrAt 1 _, Kernel20Ideal.Value.run_blocks m g, ?_⟩
  refine (θ_run _ _ _).mono (fun r h c => ?_) (Reference20Ideal.Value.run_holds m' g')
  obtain ⟨h1, hk⟩ := h c
  have a0 : Reference20Ideal.Value.A0 m' c = Kernel20Ideal.Value.A0 m c := hm c
  rw [a0] at h1
  exact ⟨h1.trans (Kernel20Ideal.Value.final1 m c).symm, hk⟩

end Cert.Slots

end
-- ==== Proof.Step.lean ====
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Tactic.CleanTypes

/-! The optimiser's step on one weight, with the sum of two parts of its gradient. -/

@[expose] public section

set_option maxRecDepth 16384

noncomputable section

namespace Cert.Kernel21Ideal.Value

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

/-- A number of the step, as written. -/
abbrev word (b : BitVec 32) : EReal := Ideal.ofBits .f32 b

/-- The same row of a padded array. -/
abbrev long (r : Fin 704) : Fin 768 := ⟨r.val, by omega⟩

section Spec

variable (x y : Vec Ideal S768x1024 .f32) (w a b : Vec Ideal S1x1024x704 .f32)

/-- The gradient: the sum of its parts. -/
def grad (r : Fin 704) (l : Fin 1024) : EReal := x (ix2 (long r) l) + y (ix2 (long r) l)

/-- The two means after the step. -/
def mean (r : Fin 704) (l : Fin 1024) : EReal := word 0x3F666666#32 * a (ix3 0 l r) + word 0x3DCCCCCD#32 * grad x y r l
def mean2 (r : Fin 704) (l : Fin 1024) : EReal := word 0x3F7FBE77#32 * b (ix3 0 l r) + word 0x3A83126F#32 * (grad x y r l * grad x y r l)

/-- What the step adds to the weight. -/
def delta (r : Fin 704) (l : Fin 1024) : EReal :=
  word 3129152111#32 * (Ideal.div (Ideal.div (mean x y a r l) (word 1059503362#32))
    (Ideal.sqrt (Ideal.div (mean2 x y b r l) (word 1008933580#32)) + word 841731191#32) + word 1008981770#32 * w (ix3 0 l r))

/-- An array from its entries. -/
def array (f : Fin 704 → Fin 1024 → EReal) : Vec Ideal S704x1024 .f32 := fun j => f (j 0) (j 1)

end Spec

abbrev A0 (c : Dev nD) : Vec Ideal S768x1024 .f32 := m ((c : Thread nD τ).loc main_arg0)
abbrev A1 (c : Dev nD) : Vec Ideal S768x1024 .f32 := m ((c : Thread nD τ).loc main_arg1)
abbrev A2 (c : Dev nD) : Vec Ideal S1x1024x704 .f32 := m ((c : Thread nD τ).loc main_arg2)
abbrev A3 (c : Dev nD) : Vec Ideal S1x1024x704 .f32 := m ((c : Thread nD τ).loc main_arg3)
abbrev A4 (c : Dev nD) : Vec Ideal S1x1024x704 .f32 := m ((c : Thread nD τ).loc main_arg4)

/-- Row `r` of tile `t`. -/
abbrev row (t : Fin cfg0.N) (r : Fin 352) : Fin 704 := ⟨t.val * 352 + r.val, by have : t.val < 2 := t.isLt; omega⟩

theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

theorem emb2 (t : Fin cfg0.N) (r : Fin 352) (l : Fin 1024) :
    ((View.whole main_v1).slice (win0_2.rect t)).emb (ix2 r l) = ix2 (row t r) l := by blk_ext [idx_val t]
theorem emb3 (t : Fin cfg0.N) (r : Fin 352) (l : Fin 1024) :
    ((View.whole main_v3).slice (win0_3.rect t)).emb (ix2 r l) = ix2 (row t r) l := by blk_ext [idx_val t]
theorem emb4 (t : Fin cfg0.N) (r : Fin 352) (l : Fin 1024) :
    ((View.whole main_v5).slice (win0_4.rect t)).emb (ix2 r l) = ix2 (row t r) l := by blk_ext [idx_val t]
theorem emb5 (t : Fin cfg0.N) (r : Fin 352) (l : Fin 1024) :
    ((View.whole main_v6_0).slice (win0_5.rect t)).emb (ix2 r l) = ix2 (row t r) l := by blk_ext [idx_val t]
theorem emb6 (t : Fin cfg0.N) (r : Fin 352) (l : Fin 1024) :
    ((View.whole main_v6_1).slice (win0_6.rect t)).emb (ix2 r l) = ix2 (row t r) l := by blk_ext [idx_val t]
theorem emb7 (t : Fin cfg0.N) (r : Fin 352) (l : Fin 1024) :
    ((View.whole main_v6_2).slice (win0_7.rect t)).emb (ix2 r l) = ix2 (row t r) l := by blk_ext [idx_val t]
theorem emb8 (t : Fin cfg0.N) (r : Fin 352) (l : Fin 1024) :
    ((View.whole main_v6_3).slice (win0_8.rect t)).emb (ix2 r l) = ix2 (row t r) l := by blk_ext [idx_val t]

theorem blk0 (c : Dev nD) (t : Fin cfg0.N) (r : Fin 352) (l : Fin 1024) : X0_0 m c t (ix2 r l) = A0 m c (ix2 (long (row t r)) l) := by
  unfold X0_0 Pipeline.Window.fill
  rw [dif_pos (moved0_0 t _)]
  blk_simp [iblk, V, idx_val t]
  entry_read
  refine congrArg (A0 m c) ?_
  blk_ext [idx_val t]

theorem blk1 (c : Dev nD) (t : Fin cfg0.N) (r : Fin 352) (l : Fin 1024) : X0_1 m c t (ix2 r l) = A1 m c (ix2 (long (row t r)) l) := by
  unfold X0_1 Pipeline.Window.fill
  rw [dif_pos (moved0_1 t _)]
  blk_simp [iblk, V, idx_val t]
  entry_read
  refine congrArg (A1 m c) ?_
  blk_ext [idx_val t]

theorem blk2 (c : Dev nD) (t : Fin cfg0.N) (r : Fin 352) (l : Fin 1024) : iblk m c 2 t (ix2 r l) = A2 m c (ix3 0 l (row t r)) := by
  blk_simp [iblk, idx_val t]; rw [emb2]; entry_read; pointwise

theorem blk3 (c : Dev nD) (t : Fin cfg0.N) (r : Fin 352) (l : Fin 1024) : iblk m c 3 t (ix2 r l) = A3 m c (ix3 0 l (row t r)) := by
  blk_simp [iblk, idx_val t]; rw [emb3]; entry_read; pointwise

theorem blk4 (c : Dev nD) (t : Fin cfg0.N) (r : Fin 352) (l : Fin 1024) : iblk m c 4 t (ix2 r l) = A4 m c (ix3 0 l (row t r)) := by
  blk_simp [iblk, idx_val t]; rw [emb4]; entry_read; pointwise

section Tile

variable (c : Dev nD) (t : Fin cfg0.N) (r : Fin 352) (l : Fin 1024)

theorem pay1 : k0_pay1 (X0_0 m c t) (X0_1 m c t) (ix2 r l) = grad (A0 m c) (A1 m c) (row t r) l := by
  pointwise [k0_pay1]; rw [blk0, blk1]; rfl

theorem pay2 : k0_pay2 (X0_0 m c t) (X0_1 m c t) (iblk m c 3 t) (ix2 r l) = mean (A0 m c) (A1 m c) (A3 m c) (row t r) l := by
  pointwise [k0_pay2]; rw [pay1, blk3]; rfl

theorem pay3 : k0_pay3 (X0_0 m c t) (X0_1 m c t) (iblk m c 4 t) (ix2 r l) = mean2 (A0 m c) (A1 m c) (A4 m c) (row t r) l := by
  pointwise [k0_pay3]; rw [pay1, blk4]; rfl

end Tile

theorem final5 (c : Dev nD) : (dats m 0 c).arrAt 5 cfg0.N = array (grad (A0 m c) (A1 m c)) := by
  refine (dats m 0 c).arrAt_eq_of_covers 5 _ (by decide +kernel) fun t hf y => ?_
  blk_simp
  rw [after0_5]
  unfold outsAt0
  frame_out; idx_vars y; rw [emb5, pay1]; rfl

theorem final6 (c : Dev nD) : (dats m 0 c).arrAt 6 cfg0.N = array (delta (A0 m c) (A1 m c) (A2 m c) (A3 m c) (A4 m c)) := by
  refine (dats m 0 c).arrAt_eq_of_covers 6 _ (by decide +kernel) fun t hf y => ?_
  blk_simp
  rw [after0_6]
  unfold outsAt0
  frame_out; idx_vars y; rw [emb6]; pointwise [k0_pay4]; rw [pay2, pay3, blk2]; rfl

theorem final7 (c : Dev nD) : (dats m 0 c).arrAt 7 cfg0.N = array (mean (A0 m c) (A1 m c) (A3 m c)) := by
  refine (dats m 0 c).arrAt_eq_of_covers 7 _ (by decide +kernel) fun t hf y => ?_
  blk_simp
  rw [after0_7]
  unfold outsAt0
  frame_out; idx_vars y; rw [emb7, pay2]; rfl

theorem final8 (c : Dev nD) : (dats m 0 c).arrAt 8 cfg0.N = array (mean2 (A0 m c) (A1 m c) (A4 m c)) := by
  refine (dats m 0 c).arrAt_eq_of_covers 8 _ (by decide +kernel) fun t hf y => ?_
  blk_simp
  rw [after0_8]
  unfold outsAt0
  frame_out; idx_vars y; rw [emb8, pay3]; rfl

end Cert.Kernel21Ideal.Value

namespace Cert.Reference21Ideal.Value

open Cert.Reference21Ideal Cert.Reference21Ideal.Gen Idealize.ShloMosaic Idealize.ShloMosaic.TcCoe Idealize.SL.Sem
open Cert.Kernel21Ideal.Value (grad mean mean2 delta array)

variable (m : (ℓ : Loc nD τ sig) → Buf (Elt Ideal) ℓ)

abbrev A0 (c : Dev nD) : Vec Ideal S768x1024 .f32 := m ((c : Thread nD τ).loc main_arg0)
abbrev A1 (c : Dev nD) : Vec Ideal S768x1024 .f32 := m ((c : Thread nD τ).loc main_arg1)
abbrev A2 (c : Dev nD) : Vec Ideal S1x1024x704 .f32 := m ((c : Thread nD τ).loc main_arg2)
abbrev A3 (c : Dev nD) : Vec Ideal S1x1024x704 .f32 := m ((c : Thread nD τ).loc main_arg3)
abbrev A4 (c : Dev nD) : Vec Ideal S1x1024x704 .f32 := m ((c : Thread nD τ).loc main_arg4)

/-- What the reference's run leaves in its results. -/
theorem run_holds (ρ : Dev nD → PrngReg) : θ_run defs (onTc (τ := τ) (main (F := Ideal))) ⟨m, fun _ => 0, ρ⟩ fun r => ∀ c : Dev nD,
    r.2.mem ((c : Thread nD τ).loc main_v2) = array (grad (A0 m c) (A1 m c))
    ∧ r.2.mem ((c : Thread nD τ).loc main_v32) = array (delta (A0 m c) (A1 m c) (A2 m c) (A3 m c) (A4 m c))
    ∧ r.2.mem ((c : Thread nD τ).loc main_v13) = array (mean (A0 m c) (A1 m c) (A3 m c))
    ∧ r.2.mem ((c : Thread nD τ).loc main_v19) = array (mean2 (A0 m c) (A1 m c) (A4 m c))
    ∧ A0 r.2.mem c = A0 m c ∧ A1 r.2.mem c = A1 m c ∧ A2 r.2.mem c = A2 m c ∧ A3 r.2.mem c = A3 m c ∧ A4 r.2.mem c = A4 m c :=
  (θ_run _ _ _).mono (fun r h c => by
    obtain ⟨h5, h6, h7, h8, hk⟩ := h c
    refine ⟨h5.trans ?_, h6.trans ?_, h7.trans ?_, h8.trans ?_, hk⟩
    all_goals
      funext j
      idx_vars j
      clean_types
      pointwise
      rfl) (run m ρ)

end Cert.Reference21Ideal.Value

namespace Cert.Step

open Idealize.ShloMosaic Idealize.ShloMosaic.TcCoe Idealize.SL.Sem

theorem frame : quiescent_Reference21Ideal := fun m g _ =>
  (θ_run _ _ _).mono (fun r h => ⟨fun c => (h c).2.2.2.2, sem_eq_zero_of_no_sems (by decide) r.2⟩) (Reference21Ideal.Value.run_holds m g)

/-- The two programs leave equal arrays. -/
theorem algebraic : algebraic_Kernel21Ideal_Reference21Ideal := by
  intro m g m' g' _ hm
  refine ⟨fun c => (Kernel21Ideal.Gen.dats m 0 c).arrAt 5 _, fun c => (Kernel21Ideal.Gen.dats m 0 c).arrAt 6 _,
    fun c => (Kernel21Ideal.Gen.dats m 0 c).arrAt 7 _, fun c => (Kernel21Ideal.Gen.dats m 0 c).arrAt 8 _,
    Kernel21Ideal.Value.run_blocks m g, ?_⟩
  refine (θ_run _ _ _).mono (fun r h c => ?_) (Reference21Ideal.Value.run_holds m' g')
  obtain ⟨h5, h6, h7, h8, hk⟩ := h c
  obtain ⟨a0, a1, a2, a3, a4⟩ := hm c
  replace a0 : Reference21Ideal.Value.A0 m' c = Kernel21Ideal.Value.A0 m c := a0
  replace a1 : Reference21Ideal.Value.A1 m' c = Kernel21Ideal.Value.A1 m c := a1
  replace a2 : Reference21Ideal.Value.A2 m' c = Kernel21Ideal.Value.A2 m c := a2
  replace a3 : Reference21Ideal.Value.A3 m' c = Kernel21Ideal.Value.A3 m c := a3
  replace a4 : Reference21Ideal.Value.A4 m' c = Kernel21Ideal.Value.A4 m c := a4
  simp only [a0, a1, a2, a3, a4] at h5 h6 h7 h8
  exact ⟨h5.trans (Kernel21Ideal.Value.final5 m c).symm, h6.trans (Kernel21Ideal.Value.final6 m c).symm,
    h7.trans (Kernel21Ideal.Value.final7 m c).symm, h8.trans (Kernel21Ideal.Value.final8 m c).symm, hk⟩

end Cert.Step

end
-- ==== Proof.Devices.lean ====
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Tactic.CleanTypes

/-! The sum of the eight devices' packed small gradients. -/

@[expose] public section

set_option maxRecDepth 16384

noncomputable section

namespace Cert.Devices

open Idealize.ShloMosaic Idealize.ShloMosaic.TcCoe Idealize.SL.Sem

/-- The kernel's array is the sum over the devices. -/
theorem kernel_total (p : Vec Ideal Kernel22Ideal.S8x1288x128 .f32) :
    Kernel22Ideal.Value.G1 p = fun j => ∑ q : Fin 8, p (ix3 q (j 0) (j 1)) := by
  funext j
  idx_vars j
  unfold Kernel22Ideal.Value.G1
  pointwise [Kernel22Ideal.Gen.k0_pay1]
  simp only [Fin.sum_univ_eight]

end Cert.Devices

namespace Cert.Reference22Ideal.Value

open Cert.Reference22Ideal Cert.Reference22Ideal.Gen Idealize.ShloMosaic Idealize.ShloMosaic.TcCoe Idealize.SL.Sem

variable (m : (ℓ : Loc nD τ sig) → Buf (Elt Ideal) ℓ)

abbrev A0 (c : Dev nD) : Vec Ideal S8x1288x128 .f32 := m ((c : Thread nD τ).loc main_arg0)

/-- What the reference's run leaves in its result. -/
theorem run_holds (ρ : Dev nD → PrngReg) : θ_run defs (onTc (τ := τ) (main (F := Ideal))) ⟨m, fun _ => 0, ρ⟩ fun r => ∀ c : Dev nD,
    r.2.mem ((c : Thread nD τ).loc main_v0) = Kernel22Ideal.Value.G1 (A0 m c) ∧ A0 r.2.mem c = A0 m c :=
  (θ_run _ _ _).mono (fun r h c => by
    obtain ⟨h2, hk⟩ := h c
    refine ⟨h2.trans ?_, hk⟩
    rw [Devices.kernel_total]
    funext j
    idx_vars j
    clean_types
    pointwise) (run m ρ)

end Cert.Reference22Ideal.Value

namespace Cert.Devices

open Idealize.ShloMosaic Idealize.ShloMosaic.TcCoe Idealize.SL.Sem

theorem frame : quiescent_Reference22Ideal := fun m g _ =>
  (θ_run _ _ _).mono (fun r h => ⟨fun c => (h c).2, sem_eq_zero_of_no_sems (by decide) r.2⟩) (Reference22Ideal.Value.run_holds m g)

/-- The two programs leave equal arrays. -/
theorem algebraic : algebraic_Kernel22Ideal_Reference22Ideal := by
  intro m g m' g' _ hm
  refine ⟨_, Kernel22Ideal.Value.run m g, ?_⟩
  refine (θ_run _ _ _).mono (fun r h c => ?_) (Reference22Ideal.Value.run_holds m' g')
  obtain ⟨h1, hk⟩ := h c
  exact ⟨h1.trans (congrArg _ (hm c)), hk⟩

end Cert.Devices

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Pre_regular_params
public import proofs.«01_k».proof.Proof.ParamsClaim
public import proofs.«01_k».proof.Proof.Gen.Pre_finite_cotangents
public import proofs.«01_k».proof.Proof.Gen.Pre_finite_rows
public import proofs.«01_k».proof.Proof.Gen.Pre_finite_gate
public import proofs.«01_k».proof.Proof.Gen.KernelIdeal.Value
public import proofs.«01_k».proof.Proof.Gen.ReferenceIdeal.Value
public import proofs.«01_k».proof.Proof.Gen.Kernel2Ideal.Value
public import proofs.«01_k».proof.Proof.Gen.Reference2Ideal.Run
public import proofs.«01_k».proof.Proof.Gen.Kernel4Ideal.Value
public import proofs.«01_k».proof.Proof.Gen.Reference4Ideal.Run
public import proofs.«01_k».proof.Proof.Gen.Kernel3Ideal.Value
public import proofs.«01_k».proof.Proof.Gen.Reference3Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel8Ideal.Value
public import proofs.«01_k».proof.Proof.Gen.Reference8Ideal.Run
public import proofs.«01_k».proof.Proof.Gen.Kernel7Ideal.Value
public import proofs.«01_k».proof.Proof.Gen.Reference7Ideal.Run
public import proofs.«01_k».proof.Proof.Scalar
public import proofs.«01_k».proof.Proof.GeluScalar
public import proofs.«01_k».proof.Proof.Gelu
public import proofs.«01_k».proof.Proof.GeluClaim
public import proofs.«01_k».proof.Proof.Rms
public import proofs.«01_k».proof.Proof.Gate
public import proofs.«01_k».proof.Proof.GateClaim
public import proofs.«01_k».proof.Proof.Taps
public import proofs.«01_k».proof.Proof.TapsStep
public import proofs.«01_k».proof.Proof.TapsFinal
public import proofs.«01_k».proof.Proof.TapsRef
public import proofs.«01_k».proof.Proof.TapsClaim
public import proofs.«01_k».proof.Proof.Ln
public import proofs.«01_k».proof.Proof.Rows
public import proofs.«01_k».proof.Proof.RowsRef
public import proofs.«01_k».proof.Proof.RowsClaim
public import proofs.«01_k».proof.Proof.Mixdh
public import proofs.«01_k».proof.Proof.MixdhClaim
public import proofs.«01_k».proof.Proof.Pad
public import proofs.«01_k».proof.Proof.Loss
public import proofs.«01_k».proof.Proof.LossRef
public import proofs.«01_k».proof.Proof.LossClaim
public import proofs.«01_k».proof.Proof.Ffndh
public import proofs.«01_k».proof.Proof.FfndhClaim
public import proofs.«01_k».proof.Proof.Dglu
public import proofs.«01_k».proof.Proof.DgluClaim
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.FfnUp
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Norm
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.GateNorm
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.MixNorm
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.DownNorm
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Shift
public import proofs.«01_k».proof.Proof.Conv
public import proofs.«01_k».proof.Proof.ConvRef
public import proofs.«01_k».proof.Proof.ConvClaim
public import proofs.«01_k».proof.Proof.Gen.Kernel6
public import proofs.«01_k».proof.Proof.Gen.Kernel6Ideal
public import proofs.«01_k».proof.Proof.Gen.Kernel6Ideal.Loops
public import proofs.«01_k».proof.Proof.Gen.Kernel6Ideal.Frame
public import proofs.«01_k».proof.Proof.ScanRun
public import proofs.«01_k».proof.Proof.ScanFrame
public import proofs.«01_k».proof.Proof.ScanBits
public import proofs.«01_k».proof.Proof.Gen.Kernel17
public import proofs.«01_k».proof.Proof.Gen.Kernel17Ideal
public import proofs.«01_k».proof.Proof.Gen.Kernel17Ideal.Loops
public import proofs.«01_k».proof.Proof.Gen.Kernel17Ideal.Frame
public import proofs.«01_k».proof.Proof.ForwardRun
public import proofs.«01_k».proof.Proof.ForwardFrame
public import proofs.«01_k».proof.Proof.ForwardBits
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Pre_finite_params
public import proofs.«01_k».proof.Proof.Gen.Reference18Ideal.Run
public import proofs.«01_k».proof.Proof.PowersClaim
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel21Ideal.Value
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel22Ideal.Value
public import proofs.«01_k».proof.Proof.Gen.Reference22Ideal.Run
public import proofs.«01_k».proof.Proof.Weight
public import proofs.«01_k».proof.Proof.Slots
public import proofs.«01_k».proof.Proof.Step
public import proofs.«01_k».proof.Proof.Devices
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel3.Gen.facts, Cert.Kernel3Ideal.Gen.facts, Cert.Reference3Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel8.Gen.facts, Cert.Kernel8Ideal.Gen.facts, Cert.Reference8Ideal.Gen.facts, Cert.Kernel7.Gen.facts, Cert.Kernel7Ideal.Gen.facts, Cert.Reference7Ideal.Gen.facts, Cert.Kernel5.Gen.facts, Cert.Kernel5Ideal.Gen.facts, Cert.Reference5Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel6.Gen.facts, Cert.Kernel6Ideal.Gen.facts, Cert.Kernel17.Gen.facts, Cert.Kernel17Ideal.Gen.facts, Cert.Pre_finite_cotangents.Gen.facts, Cert.Pre_finite_rows.Gen.facts, Cert.Pre_finite_gate.Gen.facts, Cert.Pre_regular_params.Gen.facts, Cert.Pre_finite_params.Gen.facts,
  fun m ρ _ => Cert.Kernel.Gen.frame m ρ, fun m ρ _ => Cert.KernelIdeal.Gen.frame m ρ, fun m ρ _ => Cert.KernelIdeal.Gen.frame m ρ, fun m ρ _ => Cert.ReferenceIdeal.Gen.frame m ρ, fun m ρ _ => Cert.ReferenceIdeal.Gen.frame m ρ,
  fun m ρ _ => Cert.Kernel2.Gen.frame m ρ, fun m ρ _ => Cert.Kernel2Ideal.Gen.frame m ρ, Cert.Gate.frame,
  fun m ρ _ => Cert.Kernel4.Gen.frame m ρ, fun m ρ _ => Cert.Kernel4Ideal.Gen.frame m ρ, Cert.Taps.frame,
  fun m ρ _ => Cert.Kernel3.Gen.frame m ρ, fun m ρ _ => Cert.Kernel3Ideal.Gen.frame m ρ, fun m ρ _ => Cert.Kernel3Ideal.Gen.frame m ρ, Cert.Rows.frame, fun m ρ _ => Cert.Rows.frame m ρ trivial,
  fun m ρ _ => Cert.Kernel9.Gen.frame m ρ, fun m ρ _ => Cert.Kernel9Ideal.Gen.frame m ρ, Cert.Mixdh.frame,
  fun m ρ _ => Cert.Kernel10.Gen.frame m ρ, fun m ρ _ => Cert.Kernel10Ideal.Gen.frame m ρ, Cert.Loss.frame,
  fun m ρ _ => Cert.Kernel8.Gen.frame m ρ, fun m ρ _ => Cert.Kernel8Ideal.Gen.frame m ρ, Cert.Ffndh.frame,
  fun m ρ _ => Cert.Kernel7.Gen.frame m ρ, fun m ρ _ => Cert.Kernel7Ideal.Gen.frame m ρ, fun m ρ _ => Cert.Kernel7Ideal.Gen.frame m ρ, Cert.Dglu.frame, fun m ρ _ => Cert.Dglu.frame m ρ trivial,
  fun m ρ _ => Cert.Kernel5.Gen.frame m ρ, fun m ρ _ => Cert.Kernel5Ideal.Gen.frame m ρ, fun m ρ _ => Cert.Kernel5Ideal.Gen.frame m ρ, Cert.Params.frame, fun m ρ _ => Cert.Params.frame m ρ trivial,
  fun m ρ _ => Cert.Kernel11.Gen.frame m ρ, fun m ρ _ => Cert.Kernel11Ideal.Gen.frame m ρ, Cert.FfnUp.frame,
  fun m ρ _ => Cert.Kernel12.Gen.frame m ρ, fun m ρ _ => Cert.Kernel12Ideal.Gen.frame m ρ, Cert.Norm.frame,
  fun m ρ _ => Cert.Kernel13.Gen.frame m ρ, fun m ρ _ => Cert.Kernel13Ideal.Gen.frame m ρ, Cert.GateNorm.frame,
  fun m ρ _ => Cert.Kernel14.Gen.frame m ρ, fun m ρ _ => Cert.Kernel14Ideal.Gen.frame m ρ, Cert.MixNorm.frame,
  fun m ρ _ => Cert.Kernel15.Gen.frame m ρ, fun m ρ _ => Cert.Kernel15Ideal.Gen.frame m ρ, Cert.DownNorm.frame,
  fun m ρ _ => Cert.Kernel16.Gen.frame m ρ, fun m ρ _ => Cert.Kernel16Ideal.Gen.frame m ρ, Cert.Conv.frame,
  fun m ρ _ => Cert.Kernel18.Gen.frame m ρ, fun m ρ _ => Cert.Kernel18Ideal.Gen.frame m ρ, fun m ρ _ => Cert.Kernel18Ideal.Gen.frame m ρ, Cert.Powers.frame, fun m ρ _ => Cert.Powers.frame m ρ trivial,
  fun m ρ _ => Cert.Kernel19.Gen.frame m ρ, fun m ρ _ => Cert.Kernel19Ideal.Gen.frame m ρ, Cert.Weight.frame,
  fun m ρ _ => Cert.Kernel20.Gen.frame m ρ, fun m ρ _ => Cert.Kernel20Ideal.Gen.frame m ρ, Cert.Slots.frame,
  fun m ρ _ => Cert.Kernel21.Gen.frame m ρ, fun m ρ _ => Cert.Kernel21Ideal.Gen.frame m ρ, Cert.Step.frame,
  fun m ρ _ => Cert.Kernel22.Gen.frame m ρ, fun m ρ _ => Cert.Kernel22Ideal.Gen.frame m ρ, Cert.Devices.frame,
  Cert.ScanFrame.frame_bits, fun m ρ _ => Cert.ScanFrame.frame m ρ,
  Cert.ForwardFrame.frame_bits, fun m ρ _ => Cert.ForwardFrame.frame m ρ,
  ⟨IdealRules.named_const.statement Cert.KernelIdeal.κ "gelu_c" .f32 0x3D372713#32 _ rfl,
    IdealRules.named_const.statement Cert.KernelIdeal.κ "gelu_3c" .f32 0x3E095D4F#32 _ rfl⟩,
  Cert.Gelu.algebraic,
  trivial,
  Cert.Gate.algebraic,
  trivial,
  Cert.Taps.algebraic,
  trivial,
  Cert.Rows.algebraic,
  trivial,
  Cert.Mixdh.algebraic,
  trivial,
  Cert.Loss.algebraic,
  trivial,
  Cert.Ffndh.algebraic,
  trivial,
  Cert.Dglu.algebraic,
  trivial,
  Cert.Params.algebraic,
  trivial,
  Cert.FfnUp.algebraic,
  trivial,
  Cert.Norm.algebraic,
  trivial,
  Cert.GateNorm.algebraic,
  trivial,
  Cert.MixNorm.algebraic,
  trivial,
  Cert.DownNorm.algebraic,
  trivial,
  Cert.Conv.algebraic,
  trivial,
  Cert.Powers.algebraic,
  trivial,
  Cert.Weight.algebraic,
  trivial,
  Cert.Slots.algebraic,
  trivial,
  Cert.Step.algebraic,
  trivial,
  Cert.Devices.algebraic,
  trivial,
  trivial⟩

end Cert.Proof

end
